-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).1 = (fun _ => 1#1)
    ∧ (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))).2 = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S512x64x1024 : Shape := ⟨3, ![512, 64, 1024]⟩
abbrev S512x125 : Shape := ⟨2, ![512, 125]⟩
abbrev S64x2560 : Shape := ⟨2, ![64, 2560]⟩
abbrev S512x2560 : Shape := ⟨2, ![512, 2560]⟩
abbrev S2560 : Shape := ⟨1, ![2560]⟩
abbrev S1536x256 : Shape := ⟨2, ![1536, 256]⟩
abbrev S64x256 : Shape := ⟨2, ![64, 256]⟩
abbrev S256 : Shape := ⟨1, ![256]⟩
abbrev S512x64 : Shape := ⟨2, ![512, 64]⟩
abbrev S_ : Shape := ⟨0, ![]⟩
abbrev S512x124 : Shape := ⟨2, ![512, 124]⟩

class Facts : Prop where
  bcast_S_S512x125 : S_.BroadcastsInDim S512x125 (![] : Fin 0 → Fin S512x125.rank)
  natLt_1_32 : 1 < 32
  bcast_S_S_ : S_.BroadcastsInDim S_ (![] : Fin 0 → Fin S_.rank)
  reduceWindows_S512x125_S512x125_w1s1p0_0_w125s1p124_0 : S512x125.ReduceWindows (![1, 125] : Fin 2 → Nat) ![1, 1] ![0, 124] ![0, 0] S512x125
  h_S_ : 0 < S_.numel
  slices_S512x125_S512x124_0_0 : S512x125.Slices ![0, 0] S512x124
  bcast_S_S512x124 : S_.BroadcastsInDim S512x124 (![] : Fin 0 → Fin S512x124.rank)

variable [Facts]

def fn_cumsum_0 {F : FTy → Type} [FloatOps F] (arg0 : IVec S512x125 32) : IVec S512x125 32 :=
  let c : IVec S_ 32 := constantI S_ 32 0#32
  let v0 : IVec S_ 32 := broadcastInDim S_ ![] bcast_S_S_ c
  let v1 : IVec S512x125 32 := (fun x v => Host.reduceWindow IntOp.addi ![1, 125] ![1, 1] ![0, 124] ![0, 0] x v reduceWindows_S512x125_S512x125_w1s1p0_0_w125s1p124_0 h_S_) arg0 v0
  v1

def fn_cumsum {F : FTy → Type} [FloatOps F] (arg0 : IVec S512x125 32) : IVec S512x125 32 :=
  let v0 : IVec S512x125 32 := fn_cumsum_0 (F := F) arg0
  v0

def fn_part1 {F : FTy → Type} [FloatOps F] (main_v10 : IVec S512x124 32) (main_v15 : IVec S512x125 1) (main_v16 : IVec S512x124 32) : IVec S512x125 1 × IVec S512x124 1 :=
  let main_v17 : IVec S512x124 1 := cmpi .sge main_v10 main_v16
  let main_c_6 : IVec S_ 32 := constantI S_ 32 65#32
  let main_v18 : IVec S512x124 32 := broadcastInDim S512x124 ![] bcast_S_S512x124 main_c_6
  let main_v19 : IVec S512x124 1 := cmpi .sle main_v10 main_v18
  let main_v20 : IVec S512x124 1 := andi main_v17 main_v19
  (main_v15, main_v20)

def fn {F : FTy → Type} [FloatOps F] (main_arg0 : FVec F S512x64x1024 .f32) (main_arg1 : IVec S512x125 32) (main_arg2 : FVec F S64x2560 .f32) (main_arg3 : FVec F S512x2560 .f32) (main_arg4 : FVec F S2560 .f32) (main_arg5 : FVec F S512x2560 .f32) (main_arg6 : FVec F S512x2560 .f32) (main_arg7 : FVec F S1536x256 .f32) (main_arg8 : FVec F S64x256 .f32) (main_arg9 : FVec F S256 .f32) (main_arg10 : FVec F S256 .f32) (main_arg11 : FVec F S512x64 .f32) (main_arg12 : FVec F S512x64 .f32) : IVec S512x125 1 × IVec S512x124 1 :=
  let main_c : IVec S_ 32 := constantI S_ 32 1#32
  let main_v0 : IVec S512x125 32 := broadcastInDim S512x125 ![] bcast_S_S512x125 main_c
  let main_v1 : IVec S512x125 1 := cmpi .eq main_arg1 main_v0
  let main_v2 : IVec S512x125 32 := (extui 32 · natLt_1_32) main_v1
  let main_c_0 : IVec S_ 32 := constantI S_ 32 2#32
  let main_v3 : IVec S512x125 32 := broadcastInDim S512x125 ![] bcast_S_S512x125 main_c_0
  let main_v4 : IVec S512x125 32 := muli main_v3 main_v2
  let main_c_1 : IVec S_ 32 := constantI S_ 32 1#32
  let main_v5 : IVec S512x125 32 := broadcastInDim S512x125 ![] bcast_S_S512x125 main_c_1
  let main_v6 : IVec S512x125 32 := subi main_v4 main_v5
  let main_v7 : IVec S512x125 32 := fn_cumsum (F := F) main_v6
  let main_c_2 : IVec S_ 32 := constantI S_ 32 2#32
  let main_v8 : IVec S512x125 32 := broadcastInDim S512x125 ![] bcast_S_S512x125 main_c_2
  let main_v9 : IVec S512x125 32 := addi main_v8 main_v7
  let main_v10 : IVec S512x124 32 := (extractStridedSlice S512x124 ![0, 0] · slices_S512x125_S512x124_0_0) main_v9
  let main_c_3 : IVec S_ 32 := constantI S_ 32 1#32
  let main_v11 : IVec S512x125 32 := broadcastInDim S512x125 ![] bcast_S_S512x125 main_c_3
  let main_v12 : IVec S512x125 1 := cmpi .sge main_arg1 main_v11
  let main_c_4 : IVec S_ 32 := constantI S_ 32 3#32
  let main_v13 : IVec S512x125 32 := broadcastInDim S512x125 ![] bcast_S_S512x125 main_c_4
  let main_v14 : IVec S512x125 1 := cmpi .sle main_arg1 main_v13
  let main_v15 : IVec S512x125 1 := andi main_v12 main_v14
  let main_c_5 : IVec S_ 32 := constantI S_ 32 2#32
  let main_v16 : IVec S512x124 32 := broadcastInDim S512x124 ![] bcast_S_S512x124 main_c_5
  fn_part1 (F := F) main_v10 main_v15 main_v16
-- ==== Kernel.lean ====
abbrev S512x64x1024 : Shape := ⟨3, ![512, 64, 1024]⟩
abbrev S512x125 : Shape := ⟨2, ![512, 125]⟩
abbrev S64x2560 : Shape := ⟨2, ![64, 2560]⟩
abbrev S512x2560 : Shape := ⟨2, ![512, 2560]⟩
abbrev S2560 : Shape := ⟨1, ![2560]⟩
abbrev S1536x256 : Shape := ⟨2, ![1536, 256]⟩
abbrev S64x256 : Shape := ⟨2, ![64, 256]⟩
abbrev S256 : Shape := ⟨1, ![256]⟩
abbrev S512x64 : Shape := ⟨2, ![512, 64]⟩
abbrev S_ : Shape := ⟨0, ![]⟩
abbrev S512x1 : Shape := ⟨2, ![512, 1]⟩
abbrev S512x124 : Shape := ⟨2, ![512, 124]⟩
abbrev S32768x1024 : Shape := ⟨2, ![32768, 1024]⟩
abbrev S1600x256 : Shape := ⟨2, ![1600, 256]⟩
abbrev S1600x2560 : Shape := ⟨2, ![1600, 2560]⟩
abbrev S1x256 : Shape := ⟨2, ![1, 256]⟩
abbrev S1x2560 : Shape := ⟨2, ![1, 2560]⟩
abbrev S512x512 : Shape := ⟨2, ![512, 512]⟩
abbrev S64x125 : Shape := ⟨2, ![64, 125]⟩
abbrev S64x64 : Shape := ⟨2, ![64, 64]⟩
abbrev S64x512 : Shape := ⟨2, ![64, 512]⟩
abbrev S4096x1024 : Shape := ⟨2, ![4096, 1024]⟩
abbrev S64x1024 : Shape := ⟨2, ![64, 1024]⟩
abbrev S64x128 : Shape := ⟨2, ![64, 128]⟩
abbrev S4608x1024 : Shape := ⟨2, ![4608, 1024]⟩
abbrev S1x1024 : Shape := ⟨2, ![1, 1024]⟩
abbrev S1x1 : Shape := ⟨2, ![1, 1]⟩
abbrev S16x1024 : Shape := ⟨2, ![16, 1024]⟩
abbrev S8x1024 : Shape := ⟨2, ![8, 1024]⟩
abbrev S1x128 : Shape := ⟨2, ![1, 128]⟩
abbrev S64x1 : Shape := ⟨2, ![64, 1]⟩
abbrev S512x256 : Shape := ⟨2, ![512, 256]⟩
abbrev S8x1 : Shape := ⟨2, ![8, 1]⟩
abbrev S1x512 : Shape := ⟨2, ![1, 512]⟩

abbrev nBuf : Space → Nat
  | .hbm => 65
  | .vmem => 16
  | .smem => 2
  | _ => 0

abbrev bufTy : (tb : Table) → Fin (tcTables nBuf tb) → BufTy
  | .hbm, ⟨0, _⟩ => ⟨S512x64x1024, .f32⟩
  | .hbm, ⟨1, _⟩ => ⟨S512x125, .i32⟩
  | .hbm, ⟨2, _⟩ => ⟨S64x2560, .f32⟩
  | .hbm, ⟨3, _⟩ => ⟨S512x2560, .f32⟩
  | .hbm, ⟨4, _⟩ => ⟨S2560, .f32⟩
  | .hbm, ⟨5, _⟩ => ⟨S512x2560, .f32⟩
  | .hbm, ⟨6, _⟩ => ⟨S512x2560, .f32⟩
  | .hbm, ⟨7, _⟩ => ⟨S1536x256, .f32⟩
  | .hbm, ⟨8, _⟩ => ⟨S64x256, .f32⟩
  | .hbm, ⟨9, _⟩ => ⟨S256, .f32⟩
  | .hbm, ⟨10, _⟩ => ⟨S256, .f32⟩
  | .hbm, ⟨11, _⟩ => ⟨S512x64, .f32⟩
  | .hbm, ⟨12, _⟩ => ⟨S512x64, .f32⟩
  | .hbm, ⟨13, _⟩ => ⟨S_, .i32⟩
  | .hbm, ⟨14, _⟩ => ⟨S512x125, .i32⟩
  | .hbm, ⟨15, _⟩ => ⟨S512x125, .i1⟩
  | .hbm, ⟨16, _⟩ => ⟨S512x125, .i32⟩
  | .hbm, ⟨17, _⟩ => ⟨S_, .i32⟩
  | .hbm, ⟨18, _⟩ => ⟨S512x125, .i32⟩
  | .hbm, ⟨19, _⟩ => ⟨S512x125, .i32⟩
  | .hbm, ⟨20, _⟩ => ⟨S_, .i32⟩
  | .hbm, ⟨21, _⟩ => ⟨S512x125, .i32⟩
  | .hbm, ⟨22, _⟩ => ⟨S512x125, .i32⟩
  | .hbm, ⟨23, _⟩ => ⟨S_, .i32⟩
  | .hbm, ⟨24, _⟩ => ⟨S_, .i32⟩
  | .hbm, ⟨25, _⟩ => ⟨S512x125, .i32⟩
  | .hbm, ⟨26, _⟩ => ⟨S_, .i32⟩
  | .hbm, ⟨27, _⟩ => ⟨S512x125, .i32⟩
  | .hbm, ⟨28, _⟩ => ⟨S512x125, .i32⟩
  | .hbm, ⟨29, _⟩ => ⟨S_, .i32⟩
  | .hbm, ⟨30, _⟩ => ⟨S512x1, .i32⟩
  | .hbm, ⟨31, _⟩ => ⟨S512x124, .i32⟩
  | .hbm, ⟨32, _⟩ => ⟨S512x125, .i32⟩
  | .hbm, ⟨33, _⟩ => ⟨S_, .i32⟩
  | .hbm, ⟨34, _⟩ => ⟨S512x1, .i32⟩
  | .hbm, ⟨35, _⟩ => ⟨S_, .i32⟩
  | .hbm, ⟨36, _⟩ => ⟨S_, .i32⟩
  | .hbm, ⟨37, _⟩ => ⟨S512x125, .i32⟩
  | .hbm, ⟨38, _⟩ => ⟨S512x124, .i32⟩
  | .hbm, ⟨39, _⟩ => ⟨S512x125, .i32⟩
  | .hbm, ⟨40, _⟩ => ⟨S_, .i32⟩
  | .hbm, ⟨41, _⟩ => ⟨S512x125, .i32⟩
  | .hbm, ⟨42, _⟩ => ⟨S512x125, .i32⟩
  | .hbm, ⟨43, _⟩ => ⟨S_, .i32⟩
  | .hbm, ⟨44, _⟩ => ⟨S512x125, .i32⟩
  | .hbm, ⟨45, _⟩ => ⟨S512x125, .i32⟩
  | .hbm, ⟨46, _⟩ => ⟨S_, .i32⟩
  | .hbm, ⟨47, _⟩ => ⟨S512x125, .i32⟩
  | .hbm, ⟨48, _⟩ => ⟨S512x125, .i32⟩
  | .hbm, ⟨49, _⟩ => ⟨S512x125, .i32⟩
  | .hbm, ⟨50, _⟩ => ⟨S_, .i32⟩
  | .hbm, ⟨51, _⟩ => ⟨S512x125, .i32⟩
  | .hbm, ⟨52, _⟩ => ⟨S512x125, .i32⟩
  | .hbm, ⟨53, _⟩ => ⟨S512x125, .i32⟩
  | .hbm, ⟨54, _⟩ => ⟨S_, .i32⟩
  | .hbm, ⟨55, _⟩ => ⟨S512x125, .i32⟩
  | .hbm, ⟨56, _⟩ => ⟨S512x125, .i32⟩
  | .hbm, ⟨57, _⟩ => ⟨S512x125, .i32⟩
  | .hbm, ⟨58, _⟩ => ⟨S32768x1024, .f32⟩
  | .hbm, ⟨59, _⟩ => ⟨S1600x256, .f32⟩
  | .hbm, ⟨60, _⟩ => ⟨S1600x2560, .f32⟩
  | .hbm, ⟨61, _⟩ => ⟨S256, .f32⟩
  | .hbm, ⟨62, _⟩ => ⟨S1x256, .f32⟩
  | .hbm, ⟨63, _⟩ => ⟨S1x2560, .f32⟩
  | .hbm, ⟨64, _⟩ => ⟨S512x512, .f32⟩
  | .local _ .vmem, ⟨0, _⟩ => ⟨S1x256, .f32⟩
  | .local _ .vmem, ⟨1, _⟩ => ⟨S1x2560, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x512, .f32⟩
  | .local _ .vmem, ⟨7, _⟩ => ⟨S64x512, .f32⟩
  | .local _ .vmem, ⟨8, _⟩ => ⟨S4096x1024, .f32⟩
  | .local _ .vmem, ⟨9, _⟩ => ⟨S1600x256, .f32⟩
  | .local _ .vmem, ⟨10, _⟩ => ⟨S1600x2560, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x128, .f32⟩
  | .local _ .vmem, ⟨15, _⟩ => ⟨S4608x1024, .f32⟩
  | .local _ .smem, ⟨0, _⟩ => ⟨S64x125, .i32⟩
  | .local _ .smem, ⟨1, _⟩ => ⟨S64x125, .i32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c_0 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_call0_call0_c : Ref sig .tc := ⟨.hbm, 23, rfl⟩
abbrev main_call0_call0_call0_v0 : Ref sig .tc := ⟨.hbm, 24, rfl⟩
abbrev main_call0_v7 : Ref sig .tc := ⟨.hbm, 25, rfl⟩
abbrev main_call0_c_2 : Ref sig .tc := ⟨.hbm, 26, rfl⟩
abbrev main_call0_v8 : Ref sig .tc := ⟨.hbm, 27, rfl⟩
abbrev main_call0_v9 : Ref sig .tc := ⟨.hbm, 28, rfl⟩
abbrev main_call0_c_3 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_c_4 : Ref sig .tc := ⟨.hbm, 33, rfl⟩
abbrev main_call0_v13 : Ref sig .tc := ⟨.hbm, 34, rfl⟩
abbrev main_call0_call1_call0_c : Ref sig .tc := ⟨.hbm, 35, rfl⟩
abbrev main_call0_call1_call0_v0 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_c_5 : Ref sig .tc := ⟨.hbm, 40, rfl⟩
abbrev main_call0_v17 : Ref sig .tc := ⟨.hbm, 41, rfl⟩
abbrev main_call0_v18 : Ref sig .tc := ⟨.hbm, 42, rfl⟩
abbrev main_call0_c_6 : Ref sig .tc := ⟨.hbm, 43, rfl⟩
abbrev main_call0_v19 : Ref sig .tc := ⟨.hbm, 44, rfl⟩
abbrev main_call0_v20 : Ref sig .tc := ⟨.hbm, 45, rfl⟩
abbrev main_call0_c_7 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_c_8 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_call0_c_9 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_v35 : Ref sig .tc := ⟨.hbm, 63, rfl⟩
abbrev main_v0 : Ref sig .tc := ⟨.hbm, 64, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c4096_i32 : BitVec 32 := 4096#32
  let v0 : BitVec 32 := Scalar.muli arg0 c4096_i32
  let c0_i32 : BitVec 32 := 0#32
  ![v0.toNat, 0]
@[reducible] def k0_t1_loop : Scf.Loop 32 :=
  let c0_i32_205 : BitVec 32 := 0#32
  let c125_i32 : BitVec 32 := 125#32
  let v453 : BitVec 32 := Scalar.addi c0_i32_205 c125_i32
  let c1_i32 : BitVec 32 := 1#32
  ⟨c0_i32_205, v453, c1_i32⟩
def k0_off2 (k0_t1 : Fin k0_t1_loop.trips) : Fin 2 → Nat :=
  let c0_845 : Index := 0#32
  let c0_i32_205 : BitVec 32 := 0#32
  let c1_i32 : BitVec 32 := 1#32
  let arg21 : BitVec 32 := Scf.iv c0_i32_205 c1_i32 k0_t1
  let v1351 : Index := Scalar.indexCast arg21
  ![0, v1351.toNat]
def k0_mult1 (v1352 : BitVec 32) : BitVec 32 :=
  let c0_i32_852 : BitVec 32 := 0#32
  let c127_i32_846 : BitVec 32 := 127#32
  let v1353 : BitVec 32 := Scalar.andi v1352 c127_i32_846
  let c2_i32 : BitVec 32 := 2#32
  let v1358 : BitVec 32 := Scalar.subi v1353 c2_i32
  let c3_i32_850 : BitVec 32 := 3#32
  let v1359 : BitVec 32 := Scalar.shrsi v1358 c3_i32_850
  let c3_i32_851 : BitVec 32 := 3#32
  let v1360 : BitVec 32 := Scalar.shli v1359 c3_i32_851
  let v1361 : BitVec 32 := Scalar.addi c0_i32_852 v1360
  v1361

def k0_off3 (v1352 : BitVec 32) : Fin 2 → Nat :=
  let c0_i32_852 : BitVec 32 := 0#32
  let c127_i32_846 : BitVec 32 := 127#32
  let v1353 : BitVec 32 := Scalar.andi v1352 c127_i32_846
  let c2_i32 : BitVec 32 := 2#32
  let v1358 : BitVec 32 := Scalar.subi v1353 c2_i32
  let c3_i32_850 : BitVec 32 := 3#32
  let v1359 : BitVec 32 := Scalar.shrsi v1358 c3_i32_850
  let c3_i32_851 : BitVec 32 := 3#32
  let v1360 : BitVec 32 := Scalar.shli v1359 c3_i32_851
  let v1361 : BitVec 32 := Scalar.addi c0_i32_852 v1360
  let v1362 : BitVec 32 := v1361
  let v1363 : Index := Scalar.indexCast v1362
  let c0_853 : Index := 0#32
  ![v1363.toNat, 0]
def k0_mult2 (v1352 : BitVec 32) : BitVec 32 :=
  let c0_i32_863 : BitVec 32 := 0#32
  let c7_i32_847 : BitVec 32 := 7#32
  let v1354 : BitVec 32 := Scalar.shrsi v1352 c7_i32_847
  let c127_i32_848 : BitVec 32 := 127#32
  let v1355 : BitVec 32 := Scalar.andi v1354 c127_i32_848
  let c3_i32_861 : BitVec 32 := 3#32
  let v1377 : BitVec 32 := Scalar.shrsi v1355 c3_i32_861
  let c3_i32_862 : BitVec 32 := 3#32
  let v1378 : BitVec 32 := Scalar.shli v1377 c3_i32_862
  let v1379 : BitVec 32 := Scalar.addi c0_i32_863 v1378
  v1379
def k0_off4 (v1352 : BitVec 32) : Fin 2 → Nat :=
  let c0_i32_863 : BitVec 32 := 0#32
  let c7_i32_847 : BitVec 32 := 7#32
  let v1354 : BitVec 32 := Scalar.shrsi v1352 c7_i32_847
  let c127_i32_848 : BitVec 32 := 127#32
  let v1355 : BitVec 32 := Scalar.andi v1354 c127_i32_848
  let c3_i32_861 : BitVec 32 := 3#32
  let v1377 : BitVec 32 := Scalar.shrsi v1355 c3_i32_861
  let c3_i32_862 : BitVec 32 := 3#32
  let v1378 : BitVec 32 := Scalar.shli v1377 c3_i32_862
  let v1379 : BitVec 32 := Scalar.addi c0_i32_863 v1378
  let v1380 : BitVec 32 := v1379
  let v1381 : Index := Scalar.indexCast v1380
  let c0_864 : Index := 0#32
  ![v1381.toNat, 0]

def k0_chk1 (v1352 : BitVec 32) : Prop :=
  (8 ∣ (k0_mult1 v1352).toNat) ∧
  (∀ a, (k0_off3 v1352) a + S16x1024.size a ≤ S4608x1024.size a) ∧
  (8 ∣ (k0_mult2 v1352).toNat) ∧
  (∀ a, (k0_off4 v1352) a + S8x1024.size a ≤ S4096x1024.size a)
theorem k0_mult1_dvd : ∀ (v1352 : BitVec 32) (k0_hw1 : k0_chk1 v1352), 8 ∣ (k0_mult1 v1352).toNat := fun v1352 k0_hw1 => k0_hw1.1
theorem k0_off3_inb : ∀ (v1352 : BitVec 32) (k0_hw1 : k0_chk1 v1352), ∀ a, (k0_off3 v1352) a + S16x1024.size a ≤ S4608x1024.size a := fun v1352 k0_hw1 => k0_hw1.2.1
theorem k0_mult2_dvd : ∀ (v1352 : BitVec 32) (k0_hw1 : k0_chk1 v1352), 8 ∣ (k0_mult2 v1352).toNat := fun v1352 k0_hw1 => k0_hw1.2.2.1
theorem k0_off4_inb : ∀ (v1352 : BitVec 32) (k0_hw1 : k0_chk1 v1352), ∀ a, (k0_off4 v1352) a + S8x1024.size a ≤ S4096x1024.size a := fun v1352 k0_hw1 => k0_hw1.2.2.2

def k0_off5 (k0_t1 : Fin k0_t1_loop.trips) : Fin 2 → Nat :=
  let c1_871 : Index := 1#32
  let c0_i32_205 : BitVec 32 := 0#32
  let c1_i32 : BitVec 32 := 1#32
  let arg21 : BitVec 32 := Scf.iv c0_i32_205 c1_i32 k0_t1
  let v1395 : Index := Scalar.indexCast arg21
  ![1, v1395.toNat]
def k0_mult3 (v1396 : BitVec 32) : BitVec 32 :=
  let c72_i32_880 : BitVec 32 := 72#32
  let c127_i32_872 : BitVec 32 := 127#32
  let v1397 : BitVec 32 := Scalar.andi v1396 c127_i32_872
  let c2_i32_877 : BitVec 32 := 2#32
  let v1402 : BitVec 32 := Scalar.subi v1397 c2_i32_877
  let c3_i32_878 : BitVec 32 := 3#32
  let v1403 : BitVec 32 := Scalar.shrsi v1402 c3_i32_878
  let c3_i32_879 : BitVec 32 := 3#32
  let v1404 : BitVec 32 := Scalar.shli v1403 c3_i32_879
  let v1405 : BitVec 32 := Scalar.addi c72_i32_880 v1404
  v1405

def k0_off6 (v1396 : BitVec 32) : Fin 2 → Nat :=
  let c72_i32_880 : BitVec 32 := 72#32
  let c127_i32_872 : BitVec 32 := 127#32
  let v1397 : BitVec 32 := Scalar.andi v1396 c127_i32_872
  let c2_i32_877 : BitVec 32 := 2#32
  let v1402 : BitVec 32 := Scalar.subi v1397 c2_i32_877
  let c3_i32_878 : BitVec 32 := 3#32
  let v1403 : BitVec 32 := Scalar.shrsi v1402 c3_i32_878
  let c3_i32_879 : BitVec 32 := 3#32
  let v1404 : BitVec 32 := Scalar.shli v1403 c3_i32_879
  let v1405 : BitVec 32 := Scalar.addi c72_i32_880 v1404
  let v1406 : BitVec 32 := v1405
  let v1407 : Index := Scalar.indexCast v1406
  let c0_881 : Index := 0#32
  ![v1407.toNat, 0]
def k0_mult4 (v1396 : BitVec 32) : BitVec 32 :=
  let c64_i32 : BitVec 32 := 64#32
  let c7_i32_873 : BitVec 32 := 7#32
  let v1398 : BitVec 32 := Scalar.shrsi v1396 c7_i32_873
  let c127_i32_874 : BitVec 32 := 127#32
  let v1399 : BitVec 32 := Scalar.andi v1398 c127_i32_874
  let c3_i32_889 : BitVec 32 := 3#32
  let v1421 : BitVec 32 := Scalar.shrsi v1399 c3_i32_889
  let c3_i32_890 : BitVec 32 := 3#32
  let v1422 : BitVec 32 := Scalar.shli v1421 c3_i32_890
  let v1423 : BitVec 32 := Scalar.addi c64_i32 v1422
  v1423
def k0_off7 (v1396 : BitVec 32) : Fin 2 → Nat :=
  let c64_i32 : BitVec 32 := 64#32
  let c7_i32_873 : BitVec 32 := 7#32
  let v1398 : BitVec 32 := Scalar.shrsi v1396 c7_i32_873
  let c127_i32_874 : BitVec 32 := 127#32
  let v1399 : BitVec 32 := Scalar.andi v1398 c127_i32_874
  let c3_i32_889 : BitVec 32 := 3#32
  let v1421 : BitVec 32 := Scalar.shrsi v1399 c3_i32_889
  let c3_i32_890 : BitVec 32 := 3#32
  let v1422 : BitVec 32 := Scalar.shli v1421 c3_i32_890
  let v1423 : BitVec 32 := Scalar.addi c64_i32 v1422
  let v1424 : BitVec 32 := v1423
  let v1425 : Index := Scalar.indexCast v1424
  let c0_891 : Index := 0#32
  ![v1425.toNat, 0]

def k0_chk2 (v1396 : BitVec 32) : Prop :=
  (8 ∣ (k0_mult3 v1396).toNat) ∧
  (∀ a, (k0_off6 v1396) a + S16x1024.size a ≤ S4608x1024.size a) ∧
  (8 ∣ (k0_mult4 v1396).toNat) ∧
  (∀ a, (k0_off7 v1396) a + S8x1024.size a ≤ S4096x1024.size a)
theorem k0_mult3_dvd : ∀ (v1396 : BitVec 32) (k0_hw2 : k0_chk2 v1396), 8 ∣ (k0_mult3 v1396).toNat := fun v1396 k0_hw2 => k0_hw2.1
theorem k0_off6_inb : ∀ (v1396 : BitVec 32) (k0_hw2 : k0_chk2 v1396), ∀ a, (k0_off6 v1396) a + S16x1024.size a ≤ S4608x1024.size a := fun v1396 k0_hw2 => k0_hw2.2.1
theorem k0_mult4_dvd : ∀ (v1396 : BitVec 32) (k0_hw2 : k0_chk2 v1396), 8 ∣ (k0_mult4 v1396).toNat := fun v1396 k0_hw2 => k0_hw2.2.2.1
theorem k0_off7_inb : ∀ (v1396 : BitVec 32) (k0_hw2 : k0_chk2 v1396), ∀ a, (k0_off7 v1396) a + S8x1024.size a ≤ S4096x1024.size a := fun v1396 k0_hw2 => k0_hw2.2.2.2

def k0_off8 (k0_t1 : Fin k0_t1_loop.trips) : Fin 2 → Nat :=
  let c2_898 : Index := 2#32
  let c0_i32_205 : BitVec 32 := 0#32
  let c1_i32 : BitVec 32 := 1#32
  let arg21 : BitVec 32 := Scf.iv c0_i32_205 c1_i32 k0_t1
  let v1439 : Index := Scalar.indexCast arg21
  ![2, v1439.toNat]
def k0_mult5 (v1440 : BitVec 32) : BitVec 32 :=
  let c144_i32_907 : BitVec 32 := 144#32
  let c127_i32_899 : BitVec 32 := 127#32
  let v1441 : BitVec 32 := Scalar.andi v1440 c127_i32_899
  let c2_i32_904 : BitVec 32 := 2#32
  let v1446 : BitVec 32 := Scalar.subi v1441 c2_i32_904
  let c3_i32_905 : BitVec 32 := 3#32
  let v1447 : BitVec 32 := Scalar.shrsi v1446 c3_i32_905
  let c3_i32_906 : BitVec 32 := 3#32
  let v1448 : BitVec 32 := Scalar.shli v1447 c3_i32_906
  let v1449 : BitVec 32 := Scalar.addi c144_i32_907 v1448
  v1449

def k0_off9 (v1440 : BitVec 32) : Fin 2 → Nat :=
  let c144_i32_907 : BitVec 32 := 144#32
  let c127_i32_899 : BitVec 32 := 127#32
  let v1441 : BitVec 32 := Scalar.andi v1440 c127_i32_899
  let c2_i32_904 : BitVec 32 := 2#32
  let v1446 : BitVec 32 := Scalar.subi v1441 c2_i32_904
  let c3_i32_905 : BitVec 32 := 3#32
  let v1447 : BitVec 32 := Scalar.shrsi v1446 c3_i32_905
  let c3_i32_906 : BitVec 32 := 3#32
  let v1448 : BitVec 32 := Scalar.shli v1447 c3_i32_906
  let v1449 : BitVec 32 := Scalar.addi c144_i32_907 v1448
  let v1450 : BitVec 32 := v1449
  let v1451 : Index := Scalar.indexCast v1450
  let c0_908 : Index := 0#32
  ![v1451.toNat, 0]
def k0_mult6 (v1440 : BitVec 32) : BitVec 32 :=
  let c128_i32 : BitVec 32 := 128#32
  let c7_i32_900 : BitVec 32 := 7#32
  let v1442 : BitVec 32 := Scalar.shrsi v1440 c7_i32_900
  let c127_i32_901 : BitVec 32 := 127#32
  let v1443 : BitVec 32 := Scalar.andi v1442 c127_i32_901
  let c3_i32_916 : BitVec 32 := 3#32
  let v1465 : BitVec 32 := Scalar.shrsi v1443 c3_i32_916
  let c3_i32_917 : BitVec 32 := 3#32
  let v1466 : BitVec 32 := Scalar.shli v1465 c3_i32_917
  let v1467 : BitVec 32 := Scalar.addi c128_i32 v1466
  v1467
def k0_off10 (v1440 : BitVec 32) : Fin 2 → Nat :=
  let c128_i32 : BitVec 32 := 128#32
  let c7_i32_900 : BitVec 32 := 7#32
  let v1442 : BitVec 32 := Scalar.shrsi v1440 c7_i32_900
  let c127_i32_901 : BitVec 32 := 127#32
  let v1443 : BitVec 32 := Scalar.andi v1442 c127_i32_901
  let c3_i32_916 : BitVec 32 := 3#32
  let v1465 : BitVec 32 := Scalar.shrsi v1443 c3_i32_916
  let c3_i32_917 : BitVec 32 := 3#32
  let v1466 : BitVec 32 := Scalar.shli v1465 c3_i32_917
  let v1467 : BitVec 32 := Scalar.addi c128_i32 v1466
  let v1468 : BitVec 32 := v1467
  let v1469 : Index := Scalar.indexCast v1468
  let c0_918 : Index := 0#32
  ![v1469.toNat, 0]

def k0_chk3 (v1440 : BitVec 32) : Prop :=
  (8 ∣ (k0_mult5 v1440).toNat) ∧
  (∀ a, (k0_off9 v1440) a + S16x1024.size a ≤ S4608x1024.size a) ∧
  (8 ∣ (k0_mult6 v1440).toNat) ∧
  (∀ a, (k0_off10 v1440) a + S8x1024.size a ≤ S4096x1024.size a)
theorem k0_mult5_dvd : ∀ (v1440 : BitVec 32) (k0_hw3 : k0_chk3 v1440), 8 ∣ (k0_mult5 v1440).toNat := fun v1440 k0_hw3 => k0_hw3.1
theorem k0_off9_inb : ∀ (v1440 : BitVec 32) (k0_hw3 : k0_chk3 v1440), ∀ a, (k0_off9 v1440) a + S16x1024.size a ≤ S4608x1024.size a := fun v1440 k0_hw3 => k0_hw3.2.1
theorem k0_mult6_dvd : ∀ (v1440 : BitVec 32) (k0_hw3 : k0_chk3 v1440), 8 ∣ (k0_mult6 v1440).toNat := fun v1440 k0_hw3 => k0_hw3.2.2.1
theorem k0_off10_inb : ∀ (v1440 : BitVec 32) (k0_hw3 : k0_chk3 v1440), ∀ a, (k0_off10 v1440) a + S8x1024.size a ≤ S4096x1024.size a := fun v1440 k0_hw3 => k0_hw3.2.2.2

def k0_off11 (k0_t1 : Fin k0_t1_loop.trips) : Fin 2 → Nat :=
  let c3_925 : Index := 3#32
  let c0_i32_205 : BitVec 32 := 0#32
  let c1_i32 : BitVec 32 := 1#32
  let arg21 : BitVec 32 := Scf.iv c0_i32_205 c1_i32 k0_t1
  let v1483 : Index := Scalar.indexCast arg21
  ![3, v1483.toNat]
def k0_mult7 (v1484 : BitVec 32) : BitVec 32 :=
  let c216_i32_934 : BitVec 32 := 216#32
  let c127_i32_926 : BitVec 32 := 127#32
  let v1485 : BitVec 32 := Scalar.andi v1484 c127_i32_926
  let c2_i32_931 : BitVec 32 := 2#32
  let v1490 : BitVec 32 := Scalar.subi v1485 c2_i32_931
  let c3_i32_932 : BitVec 32 := 3#32
  let v1491 : BitVec 32 := Scalar.shrsi v1490 c3_i32_932
  let c3_i32_933 : BitVec 32 := 3#32
  let v1492 : BitVec 32 := Scalar.shli v1491 c3_i32_933
  let v1493 : BitVec 32 := Scalar.addi c216_i32_934 v1492
  v1493

def k0_off12 (v1484 : BitVec 32) : Fin 2 → Nat :=
  let c216_i32_934 : BitVec 32 := 216#32
  let c127_i32_926 : BitVec 32 := 127#32
  let v1485 : BitVec 32 := Scalar.andi v1484 c127_i32_926
  let c2_i32_931 : BitVec 32 := 2#32
  let v1490 : BitVec 32 := Scalar.subi v1485 c2_i32_931
  let c3_i32_932 : BitVec 32 := 3#32
  let v1491 : BitVec 32 := Scalar.shrsi v1490 c3_i32_932
  let c3_i32_933 : BitVec 32 := 3#32
  let v1492 : BitVec 32 := Scalar.shli v1491 c3_i32_933
  let v1493 : BitVec 32 := Scalar.addi c216_i32_934 v1492
  let v1494 : BitVec 32 := v1493
  let v1495 : Index := Scalar.indexCast v1494
  let c0_935 : Index := 0#32
  ![v1495.toNat, 0]
def k0_mult8 (v1484 : BitVec 32) : BitVec 32 :=
  let c192_i32 : BitVec 32 := 192#32
  let c7_i32_927 : BitVec 32 := 7#32
  let v1486 : BitVec 32 := Scalar.shrsi v1484 c7_i32_927
  let c127_i32_928 : BitVec 32 := 127#32
  let v1487 : BitVec 32 := Scalar.andi v1486 c127_i32_928
  let c3_i32_943 : BitVec 32 := 3#32
  let v1509 : BitVec 32 := Scalar.shrsi v1487 c3_i32_943
  let c3_i32_944 : BitVec 32 := 3#32
  let v1510 : BitVec 32 := Scalar.shli v1509 c3_i32_944
  let v1511 : BitVec 32 := Scalar.addi c192_i32 v1510
  v1511
def k0_off13 (v1484 : BitVec 32) : Fin 2 → Nat :=
  let c192_i32 : BitVec 32 := 192#32
  let c7_i32_927 : BitVec 32 := 7#32
  let v1486 : BitVec 32 := Scalar.shrsi v1484 c7_i32_927
  let c127_i32_928 : BitVec 32 := 127#32
  let v1487 : BitVec 32 := Scalar.andi v1486 c127_i32_928
  let c3_i32_943 : BitVec 32 := 3#32
  let v1509 : BitVec 32 := Scalar.shrsi v1487 c3_i32_943
  let c3_i32_944 : BitVec 32 := 3#32
  let v1510 : BitVec 32 := Scalar.shli v1509 c3_i32_944
  let v1511 : BitVec 32 := Scalar.addi c192_i32 v1510
  let v1512 : BitVec 32 := v1511
  let v1513 : Index := Scalar.indexCast v1512
  let c0_945 : Index := 0#32
  ![v1513.toNat, 0]

def k0_chk4 (v1484 : BitVec 32) : Prop :=
  (8 ∣ (k0_mult7 v1484).toNat) ∧
  (∀ a, (k0_off12 v1484) a + S16x1024.size a ≤ S4608x1024.size a) ∧
  (8 ∣ (k0_mult8 v1484).toNat) ∧
  (∀ a, (k0_off13 v1484) a + S8x1024.size a ≤ S4096x1024.size a)
theorem k0_mult7_dvd : ∀ (v1484 : BitVec 32) (k0_hw4 : k0_chk4 v1484), 8 ∣ (k0_mult7 v1484).toNat := fun v1484 k0_hw4 => k0_hw4.1
theorem k0_off12_inb : ∀ (v1484 : BitVec 32) (k0_hw4 : k0_chk4 v1484), ∀ a, (k0_off12 v1484) a + S16x1024.size a ≤ S4608x1024.size a := fun v1484 k0_hw4 => k0_hw4.2.1
theorem k0_mult8_dvd : ∀ (v1484 : BitVec 32) (k0_hw4 : k0_chk4 v1484), 8 ∣ (k0_mult8 v1484).toNat := fun v1484 k0_hw4 => k0_hw4.2.2.1
theorem k0_off13_inb : ∀ (v1484 : BitVec 32) (k0_hw4 : k0_chk4 v1484), ∀ a, (k0_off13 v1484) a + S8x1024.size a ≤ S4096x1024.size a := fun v1484 k0_hw4 => k0_hw4.2.2.2

def k0_off14 (k0_t1 : Fin k0_t1_loop.trips) : Fin 2 → Nat :=
  let c4_952 : Index := 4#32
  let c0_i32_205 : BitVec 32 := 0#32
  let c1_i32 : BitVec 32 := 1#32
  let arg21 : BitVec 32 := Scf.iv c0_i32_205 c1_i32 k0_t1
  let v1527 : Index := Scalar.indexCast arg21
  ![4, v1527.toNat]
def k0_mult9 (v1528 : BitVec 32) : BitVec 32 :=
  let c288_i32_961 : BitVec 32 := 288#32
  let c127_i32_953 : BitVec 32 := 127#32
  let v1529 : BitVec 32 := Scalar.andi v1528 c127_i32_953
  let c2_i32_958 : BitVec 32 := 2#32
  let v1534 : BitVec 32 := Scalar.subi v1529 c2_i32_958
  let c3_i32_959 : BitVec 32 := 3#32
  let v1535 : BitVec 32 := Scalar.shrsi v1534 c3_i32_959
  let c3_i32_960 : BitVec 32 := 3#32
  let v1536 : BitVec 32 := Scalar.shli v1535 c3_i32_960
  let v1537 : BitVec 32 := Scalar.addi c288_i32_961 v1536
  v1537

def k0_off15 (v1528 : BitVec 32) : Fin 2 → Nat :=
  let c288_i32_961 : BitVec 32 := 288#32
  let c127_i32_953 : BitVec 32 := 127#32
  let v1529 : BitVec 32 := Scalar.andi v1528 c127_i32_953
  let c2_i32_958 : BitVec 32 := 2#32
  let v1534 : BitVec 32 := Scalar.subi v1529 c2_i32_958
  let c3_i32_959 : BitVec 32 := 3#32
  let v1535 : BitVec 32 := Scalar.shrsi v1534 c3_i32_959
  let c3_i32_960 : BitVec 32 := 3#32
  let v1536 : BitVec 32 := Scalar.shli v1535 c3_i32_960
  let v1537 : BitVec 32 := Scalar.addi c288_i32_961 v1536
  let v1538 : BitVec 32 := v1537
  let v1539 : Index := Scalar.indexCast v1538
  let c0_962 : Index := 0#32
  ![v1539.toNat, 0]
def k0_mult10 (v1528 : BitVec 32) : BitVec 32 :=
  let c256_i32 : BitVec 32 := 256#32
  let c7_i32_954 : BitVec 32 := 7#32
  let v1530 : BitVec 32 := Scalar.shrsi v1528 c7_i32_954
  let c127_i32_955 : BitVec 32 := 127#32
  let v1531 : BitVec 32 := Scalar.andi v1530 c127_i32_955
  let c3_i32_970 : BitVec 32 := 3#32
  let v1553 : BitVec 32 := Scalar.shrsi v1531 c3_i32_970
  let c3_i32_971 : BitVec 32 := 3#32
  let v1554 : BitVec 32 := Scalar.shli v1553 c3_i32_971
  let v1555 : BitVec 32 := Scalar.addi c256_i32 v1554
  v1555
def k0_off16 (v1528 : BitVec 32) : Fin 2 → Nat :=
  let c256_i32 : BitVec 32 := 256#32
  let c7_i32_954 : BitVec 32 := 7#32
  let v1530 : BitVec 32 := Scalar.shrsi v1528 c7_i32_954
  let c127_i32_955 : BitVec 32 := 127#32
  let v1531 : BitVec 32 := Scalar.andi v1530 c127_i32_955
  let c3_i32_970 : BitVec 32 := 3#32
  let v1553 : BitVec 32 := Scalar.shrsi v1531 c3_i32_970
  let c3_i32_971 : BitVec 32 := 3#32
  let v1554 : BitVec 32 := Scalar.shli v1553 c3_i32_971
  let v1555 : BitVec 32 := Scalar.addi c256_i32 v1554
  let v1556 : BitVec 32 := v1555
  let v1557 : Index := Scalar.indexCast v1556
  let c0_972 : Index := 0#32
  ![v1557.toNat, 0]

def k0_chk5 (v1528 : BitVec 32) : Prop :=
  (8 ∣ (k0_mult9 v1528).toNat) ∧
  (∀ a, (k0_off15 v1528) a + S16x1024.size a ≤ S4608x1024.size a) ∧
  (8 ∣ (k0_mult10 v1528).toNat) ∧
  (∀ a, (k0_off16 v1528) a + S8x1024.size a ≤ S4096x1024.size a)
theorem k0_mult9_dvd : ∀ (v1528 : BitVec 32) (k0_hw5 : k0_chk5 v1528), 8 ∣ (k0_mult9 v1528).toNat := fun v1528 k0_hw5 => k0_hw5.1
theorem k0_off15_inb : ∀ (v1528 : BitVec 32) (k0_hw5 : k0_chk5 v1528), ∀ a, (k0_off15 v1528) a + S16x1024.size a ≤ S4608x1024.size a := fun v1528 k0_hw5 => k0_hw5.2.1
theorem k0_mult10_dvd : ∀ (v1528 : BitVec 32) (k0_hw5 : k0_chk5 v1528), 8 ∣ (k0_mult10 v1528).toNat := fun v1528 k0_hw5 => k0_hw5.2.2.1
theorem k0_off16_inb : ∀ (v1528 : BitVec 32) (k0_hw5 : k0_chk5 v1528), ∀ a, (k0_off16 v1528) a + S8x1024.size a ≤ S4096x1024.size a := fun v1528 k0_hw5 => k0_hw5.2.2.2

def k0_off17 (k0_t1 : Fin k0_t1_loop.trips) : Fin 2 → Nat :=
  let c5_979 : Index := 5#32
  let c0_i32_205 : BitVec 32 := 0#32
  let c1_i32 : BitVec 32 := 1#32
  let arg21 : BitVec 32 := Scf.iv c0_i32_205 c1_i32 k0_t1
  let v1571 : Index := Scalar.indexCast arg21
  ![5, v1571.toNat]
def k0_mult11 (v1572 : BitVec 32) : BitVec 32 :=
  let c360_i32_988 : BitVec 32 := 360#32
  let c127_i32_980 : BitVec 32 := 127#32
  let v1573 : BitVec 32 := Scalar.andi v1572 c127_i32_980
  let c2_i32_985 : BitVec 32 := 2#32
  let v1578 : BitVec 32 := Scalar.subi v1573 c2_i32_985
  let c3_i32_986 : BitVec 32 := 3#32
  let v1579 : BitVec 32 := Scalar.shrsi v1578 c3_i32_986
  let c3_i32_987 : BitVec 32 := 3#32
  let v1580 : BitVec 32 := Scalar.shli v1579 c3_i32_987
  let v1581 : BitVec 32 := Scalar.addi c360_i32_988 v1580
  v1581

def k0_off18 (v1572 : BitVec 32) : Fin 2 → Nat :=
  let c360_i32_988 : BitVec 32 := 360#32
  let c127_i32_980 : BitVec 32 := 127#32
  let v1573 : BitVec 32 := Scalar.andi v1572 c127_i32_980
  let c2_i32_985 : BitVec 32 := 2#32
  let v1578 : BitVec 32 := Scalar.subi v1573 c2_i32_985
  let c3_i32_986 : BitVec 32 := 3#32
  let v1579 : BitVec 32 := Scalar.shrsi v1578 c3_i32_986
  let c3_i32_987 : BitVec 32 := 3#32
  let v1580 : BitVec 32 := Scalar.shli v1579 c3_i32_987
  let v1581 : BitVec 32 := Scalar.addi c360_i32_988 v1580
  let v1582 : BitVec 32 := v1581
  let v1583 : Index := Scalar.indexCast v1582
  let c0_989 : Index := 0#32
  ![v1583.toNat, 0]
def k0_mult12 (v1572 : BitVec 32) : BitVec 32 :=
  let c320_i32 : BitVec 32 := 320#32
  let c7_i32_981 : BitVec 32 := 7#32
  let v1574 : BitVec 32 := Scalar.shrsi v1572 c7_i32_981
  let c127_i32_982 : BitVec 32 := 127#32
  let v1575 : BitVec 32 := Scalar.andi v1574 c127_i32_982
  let c3_i32_997 : BitVec 32 := 3#32
  let v1597 : BitVec 32 := Scalar.shrsi v1575 c3_i32_997
  let c3_i32_998 : BitVec 32 := 3#32
  let v1598 : BitVec 32 := Scalar.shli v1597 c3_i32_998
  let v1599 : BitVec 32 := Scalar.addi c320_i32 v1598
  v1599
def k0_off19 (v1572 : BitVec 32) : Fin 2 → Nat :=
  let c320_i32 : BitVec 32 := 320#32
  let c7_i32_981 : BitVec 32 := 7#32
  let v1574 : BitVec 32 := Scalar.shrsi v1572 c7_i32_981
  let c127_i32_982 : BitVec 32 := 127#32
  let v1575 : BitVec 32 := Scalar.andi v1574 c127_i32_982
  let c3_i32_997 : BitVec 32 := 3#32
  let v1597 : BitVec 32 := Scalar.shrsi v1575 c3_i32_997
  let c3_i32_998 : BitVec 32 := 3#32
  let v1598 : BitVec 32 := Scalar.shli v1597 c3_i32_998
  let v1599 : BitVec 32 := Scalar.addi c320_i32 v1598
  let v1600 : BitVec 32 := v1599
  let v1601 : Index := Scalar.indexCast v1600
  let c0_999 : Index := 0#32
  ![v1601.toNat, 0]

def k0_chk6 (v1572 : BitVec 32) : Prop :=
  (8 ∣ (k0_mult11 v1572).toNat) ∧
  (∀ a, (k0_off18 v1572) a + S16x1024.size a ≤ S4608x1024.size a) ∧
  (8 ∣ (k0_mult12 v1572).toNat) ∧
  (∀ a, (k0_off19 v1572) a + S8x1024.size a ≤ S4096x1024.size a)
theorem k0_mult11_dvd : ∀ (v1572 : BitVec 32) (k0_hw6 : k0_chk6 v1572), 8 ∣ (k0_mult11 v1572).toNat := fun v1572 k0_hw6 => k0_hw6.1
theorem k0_off18_inb : ∀ (v1572 : BitVec 32) (k0_hw6 : k0_chk6 v1572), ∀ a, (k0_off18 v1572) a + S16x1024.size a ≤ S4608x1024.size a := fun v1572 k0_hw6 => k0_hw6.2.1
theorem k0_mult12_dvd : ∀ (v1572 : BitVec 32) (k0_hw6 : k0_chk6 v1572), 8 ∣ (k0_mult12 v1572).toNat := fun v1572 k0_hw6 => k0_hw6.2.2.1
theorem k0_off19_inb : ∀ (v1572 : BitVec 32) (k0_hw6 : k0_chk6 v1572), ∀ a, (k0_off19 v1572) a + S8x1024.size a ≤ S4096x1024.size a := fun v1572 k0_hw6 => k0_hw6.2.2.2

def k0_off20 (k0_t1 : Fin k0_t1_loop.trips) : Fin 2 → Nat :=
  let c6_1006 : Index := 6#32
  let c0_i32_205 : BitVec 32 := 0#32
  let c1_i32 : BitVec 32 := 1#32
  let arg21 : BitVec 32 := Scf.iv c0_i32_205 c1_i32 k0_t1
  let v1615 : Index := Scalar.indexCast arg21
  ![6, v1615.toNat]
def k0_mult13 (v1616 : BitVec 32) : BitVec 32 :=
  let c432_i32_1015 : BitVec 32 := 432#32
  let c127_i32_1007 : BitVec 32 := 127#32
  let v1617 : BitVec 32 := Scalar.andi v1616 c127_i32_1007
  let c2_i32_1012 : BitVec 32 := 2#32
  let v1622 : BitVec 32 := Scalar.subi v1617 c2_i32_1012
  let c3_i32_1013 : BitVec 32 := 3#32
  let v1623 : BitVec 32 := Scalar.shrsi v1622 c3_i32_1013
  let c3_i32_1014 : BitVec 32 := 3#32
  let v1624 : BitVec 32 := Scalar.shli v1623 c3_i32_1014
  let v1625 : BitVec 32 := Scalar.addi c432_i32_1015 v1624
  v1625

def k0_off21 (v1616 : BitVec 32) : Fin 2 → Nat :=
  let c432_i32_1015 : BitVec 32 := 432#32
  let c127_i32_1007 : BitVec 32 := 127#32
  let v1617 : BitVec 32 := Scalar.andi v1616 c127_i32_1007
  let c2_i32_1012 : BitVec 32 := 2#32
  let v1622 : BitVec 32 := Scalar.subi v1617 c2_i32_1012
  let c3_i32_1013 : BitVec 32 := 3#32
  let v1623 : BitVec 32 := Scalar.shrsi v1622 c3_i32_1013
  let c3_i32_1014 : BitVec 32 := 3#32
  let v1624 : BitVec 32 := Scalar.shli v1623 c3_i32_1014
  let v1625 : BitVec 32 := Scalar.addi c432_i32_1015 v1624
  let v1626 : BitVec 32 := v1625
  let v1627 : Index := Scalar.indexCast v1626
  let c0_1016 : Index := 0#32
  ![v1627.toNat, 0]
def k0_mult14 (v1616 : BitVec 32) : BitVec 32 :=
  let c384_i32 : BitVec 32 := 384#32
  let c7_i32_1008 : BitVec 32 := 7#32
  let v1618 : BitVec 32 := Scalar.shrsi v1616 c7_i32_1008
  let c127_i32_1009 : BitVec 32 := 127#32
  let v1619 : BitVec 32 := Scalar.andi v1618 c127_i32_1009
  let c3_i32_1024 : BitVec 32 := 3#32
  let v1641 : BitVec 32 := Scalar.shrsi v1619 c3_i32_1024
  let c3_i32_1025 : BitVec 32 := 3#32
  let v1642 : BitVec 32 := Scalar.shli v1641 c3_i32_1025
  let v1643 : BitVec 32 := Scalar.addi c384_i32 v1642
  v1643
def k0_off22 (v1616 : BitVec 32) : Fin 2 → Nat :=
  let c384_i32 : BitVec 32 := 384#32
  let c7_i32_1008 : BitVec 32 := 7#32
  let v1618 : BitVec 32 := Scalar.shrsi v1616 c7_i32_1008
  let c127_i32_1009 : BitVec 32 := 127#32
  let v1619 : BitVec 32 := Scalar.andi v1618 c127_i32_1009
  let c3_i32_1024 : BitVec 32 := 3#32
  let v1641 : BitVec 32 := Scalar.shrsi v1619 c3_i32_1024
  let c3_i32_1025 : BitVec 32 := 3#32
  let v1642 : BitVec 32 := Scalar.shli v1641 c3_i32_1025
  let v1643 : BitVec 32 := Scalar.addi c384_i32 v1642
  let v1644 : BitVec 32 := v1643
  let v1645 : Index := Scalar.indexCast v1644
  let c0_1026 : Index := 0#32
  ![v1645.toNat, 0]

def k0_chk7 (v1616 : BitVec 32) : Prop :=
  (8 ∣ (k0_mult13 v1616).toNat) ∧
  (∀ a, (k0_off21 v1616) a + S16x1024.size a ≤ S4608x1024.size a) ∧
  (8 ∣ (k0_mult14 v1616).toNat) ∧
  (∀ a, (k0_off22 v1616) a + S8x1024.size a ≤ S4096x1024.size a)
theorem k0_mult13_dvd : ∀ (v1616 : BitVec 32) (k0_hw7 : k0_chk7 v1616), 8 ∣ (k0_mult13 v1616).toNat := fun v1616 k0_hw7 => k0_hw7.1
theorem k0_off21_inb : ∀ (v1616 : BitVec 32) (k0_hw7 : k0_chk7 v1616), ∀ a, (k0_off21 v1616) a + S16x1024.size a ≤ S4608x1024.size a := fun v1616 k0_hw7 => k0_hw7.2.1
theorem k0_mult14_dvd : ∀ (v1616 : BitVec 32) (k0_hw7 : k0_chk7 v1616), 8 ∣ (k0_mult14 v1616).toNat := fun v1616 k0_hw7 => k0_hw7.2.2.1
theorem k0_off22_inb : ∀ (v1616 : BitVec 32) (k0_hw7 : k0_chk7 v1616), ∀ a, (k0_off22 v1616) a + S8x1024.size a ≤ S4096x1024.size a := fun v1616 k0_hw7 => k0_hw7.2.2.2

def k0_off23 (k0_t1 : Fin k0_t1_loop.trips) : Fin 2 → Nat :=
  let c7_1033 : Index := 7#32
  let c0_i32_205 : BitVec 32 := 0#32
  let c1_i32 : BitVec 32 := 1#32
  let arg21 : BitVec 32 := Scf.iv c0_i32_205 c1_i32 k0_t1
  let v1659 : Index := Scalar.indexCast arg21
  ![7, v1659.toNat]
def k0_mult15 (v1660 : BitVec 32) : BitVec 32 :=
  let c504_i32_1042 : BitVec 32 := 504#32
  let c127_i32_1034 : BitVec 32 := 127#32
  let v1661 : BitVec 32 := Scalar.andi v1660 c127_i32_1034
  let c2_i32_1039 : BitVec 32 := 2#32
  let v1666 : BitVec 32 := Scalar.subi v1661 c2_i32_1039
  let c3_i32_1040 : BitVec 32 := 3#32
  let v1667 : BitVec 32 := Scalar.shrsi v1666 c3_i32_1040
  let c3_i32_1041 : BitVec 32 := 3#32
  let v1668 : BitVec 32 := Scalar.shli v1667 c3_i32_1041
  let v1669 : BitVec 32 := Scalar.addi c504_i32_1042 v1668
  v1669

def k0_off24 (v1660 : BitVec 32) : Fin 2 → Nat :=
  let c504_i32_1042 : BitVec 32 := 504#32
  let c127_i32_1034 : BitVec 32 := 127#32
  let v1661 : BitVec 32 := Scalar.andi v1660 c127_i32_1034
  let c2_i32_1039 : BitVec 32 := 2#32
  let v1666 : BitVec 32 := Scalar.subi v1661 c2_i32_1039
  let c3_i32_1040 : BitVec 32 := 3#32
  let v1667 : BitVec 32 := Scalar.shrsi v1666 c3_i32_1040
  let c3_i32_1041 : BitVec 32 := 3#32
  let v1668 : BitVec 32 := Scalar.shli v1667 c3_i32_1041
  let v1669 : BitVec 32 := Scalar.addi c504_i32_1042 v1668
  let v1670 : BitVec 32 := v1669
  let v1671 : Index := Scalar.indexCast v1670
  let c0_1043 : Index := 0#32
  ![v1671.toNat, 0]
def k0_mult16 (v1660 : BitVec 32) : BitVec 32 :=
  let c448_i32 : BitVec 32 := 448#32
  let c7_i32_1035 : BitVec 32 := 7#32
  let v1662 : BitVec 32 := Scalar.shrsi v1660 c7_i32_1035
  let c127_i32_1036 : BitVec 32 := 127#32
  let v1663 : BitVec 32 := Scalar.andi v1662 c127_i32_1036
  let c3_i32_1051 : BitVec 32 := 3#32
  let v1685 : BitVec 32 := Scalar.shrsi v1663 c3_i32_1051
  let c3_i32_1052 : BitVec 32 := 3#32
  let v1686 : BitVec 32 := Scalar.shli v1685 c3_i32_1052
  let v1687 : BitVec 32 := Scalar.addi c448_i32 v1686
  v1687
def k0_off25 (v1660 : BitVec 32) : Fin 2 → Nat :=
  let c448_i32 : BitVec 32 := 448#32
  let c7_i32_1035 : BitVec 32 := 7#32
  let v1662 : BitVec 32 := Scalar.shrsi v1660 c7_i32_1035
  let c127_i32_1036 : BitVec 32 := 127#32
  let v1663 : BitVec 32 := Scalar.andi v1662 c127_i32_1036
  let c3_i32_1051 : BitVec 32 := 3#32
  let v1685 : BitVec 32 := Scalar.shrsi v1663 c3_i32_1051
  let c3_i32_1052 : BitVec 32 := 3#32
  let v1686 : BitVec 32 := Scalar.shli v1685 c3_i32_1052
  let v1687 : BitVec 32 := Scalar.addi c448_i32 v1686
  let v1688 : BitVec 32 := v1687
  let v1689 : Index := Scalar.indexCast v1688
  let c0_1053 : Index := 0#32
  ![v1689.toNat, 0]

def k0_chk8 (v1660 : BitVec 32) : Prop :=
  (8 ∣ (k0_mult15 v1660).toNat) ∧
  (∀ a, (k0_off24 v1660) a + S16x1024.size a ≤ S4608x1024.size a) ∧
  (8 ∣ (k0_mult16 v1660).toNat) ∧
  (∀ a, (k0_off25 v1660) a + S8x1024.size a ≤ S4096x1024.size a)
theorem k0_mult15_dvd : ∀ (v1660 : BitVec 32) (k0_hw8 : k0_chk8 v1660), 8 ∣ (k0_mult15 v1660).toNat := fun v1660 k0_hw8 => k0_hw8.1
theorem k0_off24_inb : ∀ (v1660 : BitVec 32) (k0_hw8 : k0_chk8 v1660), ∀ a, (k0_off24 v1660) a + S16x1024.size a ≤ S4608x1024.size a := fun v1660 k0_hw8 => k0_hw8.2.1
theorem k0_mult16_dvd : ∀ (v1660 : BitVec 32) (k0_hw8 : k0_chk8 v1660), 8 ∣ (k0_mult16 v1660).toNat := fun v1660 k0_hw8 => k0_hw8.2.2.1
theorem k0_off25_inb : ∀ (v1660 : BitVec 32) (k0_hw8 : k0_chk8 v1660), ∀ a, (k0_off25 v1660) a + S8x1024.size a ≤ S4096x1024.size a := fun v1660 k0_hw8 => k0_hw8.2.2.2

def k0_off26 (k0_t1 : Fin k0_t1_loop.trips) : Fin 2 → Nat :=
  let c8_1060 : Index := 8#32
  let c0_i32_205 : BitVec 32 := 0#32
  let c1_i32 : BitVec 32 := 1#32
  let arg21 : BitVec 32 := Scf.iv c0_i32_205 c1_i32 k0_t1
  let v1703 : Index := Scalar.indexCast arg21
  ![8, v1703.toNat]
def k0_mult17 (v1704 : BitVec 32) : BitVec 32 :=
  let c576_i32_1069 : BitVec 32 := 576#32
  let c127_i32_1061 : BitVec 32 := 127#32
  let v1705 : BitVec 32 := Scalar.andi v1704 c127_i32_1061
  let c2_i32_1066 : BitVec 32 := 2#32
  let v1710 : BitVec 32 := Scalar.subi v1705 c2_i32_1066
  let c3_i32_1067 : BitVec 32 := 3#32
  let v1711 : BitVec 32 := Scalar.shrsi v1710 c3_i32_1067
  let c3_i32_1068 : BitVec 32 := 3#32
  let v1712 : BitVec 32 := Scalar.shli v1711 c3_i32_1068
  let v1713 : BitVec 32 := Scalar.addi c576_i32_1069 v1712
  v1713

def k0_off27 (v1704 : BitVec 32) : Fin 2 → Nat :=
  let c576_i32_1069 : BitVec 32 := 576#32
  let c127_i32_1061 : BitVec 32 := 127#32
  let v1705 : BitVec 32 := Scalar.andi v1704 c127_i32_1061
  let c2_i32_1066 : BitVec 32 := 2#32
  let v1710 : BitVec 32 := Scalar.subi v1705 c2_i32_1066
  let c3_i32_1067 : BitVec 32 := 3#32
  let v1711 : BitVec 32 := Scalar.shrsi v1710 c3_i32_1067
  let c3_i32_1068 : BitVec 32 := 3#32
  let v1712 : BitVec 32 := Scalar.shli v1711 c3_i32_1068
  let v1713 : BitVec 32 := Scalar.addi c576_i32_1069 v1712
  let v1714 : BitVec 32 := v1713
  let v1715 : Index := Scalar.indexCast v1714
  let c0_1070 : Index := 0#32
  ![v1715.toNat, 0]
def k0_mult18 (v1704 : BitVec 32) : BitVec 32 :=
  let c512_i32 : BitVec 32 := 512#32
  let c7_i32_1062 : BitVec 32 := 7#32
  let v1706 : BitVec 32 := Scalar.shrsi v1704 c7_i32_1062
  let c127_i32_1063 : BitVec 32 := 127#32
  let v1707 : BitVec 32 := Scalar.andi v1706 c127_i32_1063
  let c3_i32_1078 : BitVec 32 := 3#32
  let v1729 : BitVec 32 := Scalar.shrsi v1707 c3_i32_1078
  let c3_i32_1079 : BitVec 32 := 3#32
  let v1730 : BitVec 32 := Scalar.shli v1729 c3_i32_1079
  let v1731 : BitVec 32 := Scalar.addi c512_i32 v1730
  v1731
def k0_off28 (v1704 : BitVec 32) : Fin 2 → Nat :=
  let c512_i32 : BitVec 32 := 512#32
  let c7_i32_1062 : BitVec 32 := 7#32
  let v1706 : BitVec 32 := Scalar.shrsi v1704 c7_i32_1062
  let c127_i32_1063 : BitVec 32 := 127#32
  let v1707 : BitVec 32 := Scalar.andi v1706 c127_i32_1063
  let c3_i32_1078 : BitVec 32 := 3#32
  let v1729 : BitVec 32 := Scalar.shrsi v1707 c3_i32_1078
  let c3_i32_1079 : BitVec 32 := 3#32
  let v1730 : BitVec 32 := Scalar.shli v1729 c3_i32_1079
  let v1731 : BitVec 32 := Scalar.addi c512_i32 v1730
  let v1732 : BitVec 32 := v1731
  let v1733 : Index := Scalar.indexCast v1732
  let c0_1080 : Index := 0#32
  ![v1733.toNat, 0]

def k0_chk9 (v1704 : BitVec 32) : Prop :=
  (8 ∣ (k0_mult17 v1704).toNat) ∧
  (∀ a, (k0_off27 v1704) a + S16x1024.size a ≤ S4608x1024.size a) ∧
  (8 ∣ (k0_mult18 v1704).toNat) ∧
  (∀ a, (k0_off28 v1704) a + S8x1024.size a ≤ S4096x1024.size a)
theorem k0_mult17_dvd : ∀ (v1704 : BitVec 32) (k0_hw9 : k0_chk9 v1704), 8 ∣ (k0_mult17 v1704).toNat := fun v1704 k0_hw9 => k0_hw9.1
theorem k0_off27_inb : ∀ (v1704 : BitVec 32) (k0_hw9 : k0_chk9 v1704), ∀ a, (k0_off27 v1704) a + S16x1024.size a ≤ S4608x1024.size a := fun v1704 k0_hw9 => k0_hw9.2.1
theorem k0_mult18_dvd : ∀ (v1704 : BitVec 32) (k0_hw9 : k0_chk9 v1704), 8 ∣ (k0_mult18 v1704).toNat := fun v1704 k0_hw9 => k0_hw9.2.2.1
theorem k0_off28_inb : ∀ (v1704 : BitVec 32) (k0_hw9 : k0_chk9 v1704), ∀ a, (k0_off28 v1704) a + S8x1024.size a ≤ S4096x1024.size a := fun v1704 k0_hw9 => k0_hw9.2.2.2

def k0_off29 (k0_t1 : Fin k0_t1_loop.trips) : Fin 2 → Nat :=
  let c9_1087 : Index := 9#32
  let c0_i32_205 : BitVec 32 := 0#32
  let c1_i32 : BitVec 32 := 1#32
  let arg21 : BitVec 32 := Scf.iv c0_i32_205 c1_i32 k0_t1
  let v1747 : Index := Scalar.indexCast arg21
  ![9, v1747.toNat]
def k0_mult19 (v1748 : BitVec 32) : BitVec 32 :=
  let c648_i32_1096 : BitVec 32 := 648#32
  let c127_i32_1088 : BitVec 32 := 127#32
  let v1749 : BitVec 32 := Scalar.andi v1748 c127_i32_1088
  let c2_i32_1093 : BitVec 32 := 2#32
  let v1754 : BitVec 32 := Scalar.subi v1749 c2_i32_1093
  let c3_i32_1094 : BitVec 32 := 3#32
  let v1755 : BitVec 32 := Scalar.shrsi v1754 c3_i32_1094
  let c3_i32_1095 : BitVec 32 := 3#32
  let v1756 : BitVec 32 := Scalar.shli v1755 c3_i32_1095
  let v1757 : BitVec 32 := Scalar.addi c648_i32_1096 v1756
  v1757

def k0_off30 (v1748 : BitVec 32) : Fin 2 → Nat :=
  let c648_i32_1096 : BitVec 32 := 648#32
  let c127_i32_1088 : BitVec 32 := 127#32
  let v1749 : BitVec 32 := Scalar.andi v1748 c127_i32_1088
  let c2_i32_1093 : BitVec 32 := 2#32
  let v1754 : BitVec 32 := Scalar.subi v1749 c2_i32_1093
  let c3_i32_1094 : BitVec 32 := 3#32
  let v1755 : BitVec 32 := Scalar.shrsi v1754 c3_i32_1094
  let c3_i32_1095 : BitVec 32 := 3#32
  let v1756 : BitVec 32 := Scalar.shli v1755 c3_i32_1095
  let v1757 : BitVec 32 := Scalar.addi c648_i32_1096 v1756
  let v1758 : BitVec 32 := v1757
  let v1759 : Index := Scalar.indexCast v1758
  let c0_1097 : Index := 0#32
  ![v1759.toNat, 0]
def k0_mult20 (v1748 : BitVec 32) : BitVec 32 :=
  let c576_i32_1107 : BitVec 32 := 576#32
  let c7_i32_1089 : BitVec 32 := 7#32
  let v1750 : BitVec 32 := Scalar.shrsi v1748 c7_i32_1089
  let c127_i32_1090 : BitVec 32 := 127#32
  let v1751 : BitVec 32 := Scalar.andi v1750 c127_i32_1090
  let c3_i32_1105 : BitVec 32 := 3#32
  let v1773 : BitVec 32 := Scalar.shrsi v1751 c3_i32_1105
  let c3_i32_1106 : BitVec 32 := 3#32
  let v1774 : BitVec 32 := Scalar.shli v1773 c3_i32_1106
  let v1775 : BitVec 32 := Scalar.addi c576_i32_1107 v1774
  v1775
def k0_off31 (v1748 : BitVec 32) : Fin 2 → Nat :=
  let c576_i32_1107 : BitVec 32 := 576#32
  let c7_i32_1089 : BitVec 32 := 7#32
  let v1750 : BitVec 32 := Scalar.shrsi v1748 c7_i32_1089
  let c127_i32_1090 : BitVec 32 := 127#32
  let v1751 : BitVec 32 := Scalar.andi v1750 c127_i32_1090
  let c3_i32_1105 : BitVec 32 := 3#32
  let v1773 : BitVec 32 := Scalar.shrsi v1751 c3_i32_1105
  let c3_i32_1106 : BitVec 32 := 3#32
  let v1774 : BitVec 32 := Scalar.shli v1773 c3_i32_1106
  let v1775 : BitVec 32 := Scalar.addi c576_i32_1107 v1774
  let v1776 : BitVec 32 := v1775
  let v1777 : Index := Scalar.indexCast v1776
  let c0_1108 : Index := 0#32
  ![v1777.toNat, 0]

def k0_chk10 (v1748 : BitVec 32) : Prop :=
  (8 ∣ (k0_mult19 v1748).toNat) ∧
  (∀ a, (k0_off30 v1748) a + S16x1024.size a ≤ S4608x1024.size a) ∧
  (8 ∣ (k0_mult20 v1748).toNat) ∧
  (∀ a, (k0_off31 v1748) a + S8x1024.size a ≤ S4096x1024.size a)
theorem k0_mult19_dvd : ∀ (v1748 : BitVec 32) (k0_hw10 : k0_chk10 v1748), 8 ∣ (k0_mult19 v1748).toNat := fun v1748 k0_hw10 => k0_hw10.1
theorem k0_off30_inb : ∀ (v1748 : BitVec 32) (k0_hw10 : k0_chk10 v1748), ∀ a, (k0_off30 v1748) a + S16x1024.size a ≤ S4608x1024.size a := fun v1748 k0_hw10 => k0_hw10.2.1
theorem k0_mult20_dvd : ∀ (v1748 : BitVec 32) (k0_hw10 : k0_chk10 v1748), 8 ∣ (k0_mult20 v1748).toNat := fun v1748 k0_hw10 => k0_hw10.2.2.1
theorem k0_off31_inb : ∀ (v1748 : BitVec 32) (k0_hw10 : k0_chk10 v1748), ∀ a, (k0_off31 v1748) a + S8x1024.size a ≤ S4096x1024.size a := fun v1748 k0_hw10 => k0_hw10.2.2.2

def k0_off32 (k0_t1 : Fin k0_t1_loop.trips) : Fin 2 → Nat :=
  let c10_1115 : Index := 10#32
  let c0_i32_205 : BitVec 32 := 0#32
  let c1_i32 : BitVec 32 := 1#32
  let arg21 : BitVec 32 := Scf.iv c0_i32_205 c1_i32 k0_t1
  let v1791 : Index := Scalar.indexCast arg21
  ![10, v1791.toNat]
def k0_mult21 (v1792 : BitVec 32) : BitVec 32 :=
  let c720_i32_1124 : BitVec 32 := 720#32
  let c127_i32_1116 : BitVec 32 := 127#32
  let v1793 : BitVec 32 := Scalar.andi v1792 c127_i32_1116
  let c2_i32_1121 : BitVec 32 := 2#32
  let v1798 : BitVec 32 := Scalar.subi v1793 c2_i32_1121
  let c3_i32_1122 : BitVec 32 := 3#32
  let v1799 : BitVec 32 := Scalar.shrsi v1798 c3_i32_1122
  let c3_i32_1123 : BitVec 32 := 3#32
  let v1800 : BitVec 32 := Scalar.shli v1799 c3_i32_1123
  let v1801 : BitVec 32 := Scalar.addi c720_i32_1124 v1800
  v1801

def k0_off33 (v1792 : BitVec 32) : Fin 2 → Nat :=
  let c720_i32_1124 : BitVec 32 := 720#32
  let c127_i32_1116 : BitVec 32 := 127#32
  let v1793 : BitVec 32 := Scalar.andi v1792 c127_i32_1116
  let c2_i32_1121 : BitVec 32 := 2#32
  let v1798 : BitVec 32 := Scalar.subi v1793 c2_i32_1121
  let c3_i32_1122 : BitVec 32 := 3#32
  let v1799 : BitVec 32 := Scalar.shrsi v1798 c3_i32_1122
  let c3_i32_1123 : BitVec 32 := 3#32
  let v1800 : BitVec 32 := Scalar.shli v1799 c3_i32_1123
  let v1801 : BitVec 32 := Scalar.addi c720_i32_1124 v1800
  let v1802 : BitVec 32 := v1801
  let v1803 : Index := Scalar.indexCast v1802
  let c0_1125 : Index := 0#32
  ![v1803.toNat, 0]
def k0_mult22 (v1792 : BitVec 32) : BitVec 32 :=
  let c640_i32 : BitVec 32 := 640#32
  let c7_i32_1117 : BitVec 32 := 7#32
  let v1794 : BitVec 32 := Scalar.shrsi v1792 c7_i32_1117
  let c127_i32_1118 : BitVec 32 := 127#32
  let v1795 : BitVec 32 := Scalar.andi v1794 c127_i32_1118
  let c3_i32_1133 : BitVec 32 := 3#32
  let v1817 : BitVec 32 := Scalar.shrsi v1795 c3_i32_1133
  let c3_i32_1134 : BitVec 32 := 3#32
  let v1818 : BitVec 32 := Scalar.shli v1817 c3_i32_1134
  let v1819 : BitVec 32 := Scalar.addi c640_i32 v1818
  v1819
def k0_off34 (v1792 : BitVec 32) : Fin 2 → Nat :=
  let c640_i32 : BitVec 32 := 640#32
  let c7_i32_1117 : BitVec 32 := 7#32
  let v1794 : BitVec 32 := Scalar.shrsi v1792 c7_i32_1117
  let c127_i32_1118 : BitVec 32 := 127#32
  let v1795 : BitVec 32 := Scalar.andi v1794 c127_i32_1118
  let c3_i32_1133 : BitVec 32 := 3#32
  let v1817 : BitVec 32 := Scalar.shrsi v1795 c3_i32_1133
  let c3_i32_1134 : BitVec 32 := 3#32
  let v1818 : BitVec 32 := Scalar.shli v1817 c3_i32_1134
  let v1819 : BitVec 32 := Scalar.addi c640_i32 v1818
  let v1820 : BitVec 32 := v1819
  let v1821 : Index := Scalar.indexCast v1820
  let c0_1135 : Index := 0#32
  ![v1821.toNat, 0]

def k0_chk11 (v1792 : BitVec 32) : Prop :=
  (8 ∣ (k0_mult21 v1792).toNat) ∧
  (∀ a, (k0_off33 v1792) a + S16x1024.size a ≤ S4608x1024.size a) ∧
  (8 ∣ (k0_mult22 v1792).toNat) ∧
  (∀ a, (k0_off34 v1792) a + S8x1024.size a ≤ S4096x1024.size a)
theorem k0_mult21_dvd : ∀ (v1792 : BitVec 32) (k0_hw11 : k0_chk11 v1792), 8 ∣ (k0_mult21 v1792).toNat := fun v1792 k0_hw11 => k0_hw11.1
theorem k0_off33_inb : ∀ (v1792 : BitVec 32) (k0_hw11 : k0_chk11 v1792), ∀ a, (k0_off33 v1792) a + S16x1024.size a ≤ S4608x1024.size a := fun v1792 k0_hw11 => k0_hw11.2.1
theorem k0_mult22_dvd : ∀ (v1792 : BitVec 32) (k0_hw11 : k0_chk11 v1792), 8 ∣ (k0_mult22 v1792).toNat := fun v1792 k0_hw11 => k0_hw11.2.2.1
theorem k0_off34_inb : ∀ (v1792 : BitVec 32) (k0_hw11 : k0_chk11 v1792), ∀ a, (k0_off34 v1792) a + S8x1024.size a ≤ S4096x1024.size a := fun v1792 k0_hw11 => k0_hw11.2.2.2

def k0_off35 (k0_t1 : Fin k0_t1_loop.trips) : Fin 2 → Nat :=
  let c11_1142 : Index := 11#32
  let c0_i32_205 : BitVec 32 := 0#32
  let c1_i32 : BitVec 32 := 1#32
  let arg21 : BitVec 32 := Scf.iv c0_i32_205 c1_i32 k0_t1
  let v1835 : Index := Scalar.indexCast arg21
  ![11, v1835.toNat]
def k0_mult23 (v1836 : BitVec 32) : BitVec 32 :=
  let c792_i32_1151 : BitVec 32 := 792#32
  let c127_i32_1143 : BitVec 32 := 127#32
  let v1837 : BitVec 32 := Scalar.andi v1836 c127_i32_1143
  let c2_i32_1148 : BitVec 32 := 2#32
  let v1842 : BitVec 32 := Scalar.subi v1837 c2_i32_1148
  let c3_i32_1149 : BitVec 32 := 3#32
  let v1843 : BitVec 32 := Scalar.shrsi v1842 c3_i32_1149
  let c3_i32_1150 : BitVec 32 := 3#32
  let v1844 : BitVec 32 := Scalar.shli v1843 c3_i32_1150
  let v1845 : BitVec 32 := Scalar.addi c792_i32_1151 v1844
  v1845

def k0_off36 (v1836 : BitVec 32) : Fin 2 → Nat :=
  let c792_i32_1151 : BitVec 32 := 792#32
  let c127_i32_1143 : BitVec 32 := 127#32
  let v1837 : BitVec 32 := Scalar.andi v1836 c127_i32_1143
  let c2_i32_1148 : BitVec 32 := 2#32
  let v1842 : BitVec 32 := Scalar.subi v1837 c2_i32_1148
  let c3_i32_1149 : BitVec 32 := 3#32
  let v1843 : BitVec 32 := Scalar.shrsi v1842 c3_i32_1149
  let c3_i32_1150 : BitVec 32 := 3#32
  let v1844 : BitVec 32 := Scalar.shli v1843 c3_i32_1150
  let v1845 : BitVec 32 := Scalar.addi c792_i32_1151 v1844
  let v1846 : BitVec 32 := v1845
  let v1847 : Index := Scalar.indexCast v1846
  let c0_1152 : Index := 0#32
  ![v1847.toNat, 0]
def k0_mult24 (v1836 : BitVec 32) : BitVec 32 :=
  let c704_i32 : BitVec 32 := 704#32
  let c7_i32_1144 : BitVec 32 := 7#32
  let v1838 : BitVec 32 := Scalar.shrsi v1836 c7_i32_1144
  let c127_i32_1145 : BitVec 32 := 127#32
  let v1839 : BitVec 32 := Scalar.andi v1838 c127_i32_1145
  let c3_i32_1160 : BitVec 32 := 3#32
  let v1861 : BitVec 32 := Scalar.shrsi v1839 c3_i32_1160
  let c3_i32_1161 : BitVec 32 := 3#32
  let v1862 : BitVec 32 := Scalar.shli v1861 c3_i32_1161
  let v1863 : BitVec 32 := Scalar.addi c704_i32 v1862
  v1863
def k0_off37 (v1836 : BitVec 32) : Fin 2 → Nat :=
  let c704_i32 : BitVec 32 := 704#32
  let c7_i32_1144 : BitVec 32 := 7#32
  let v1838 : BitVec 32 := Scalar.shrsi v1836 c7_i32_1144
  let c127_i32_1145 : BitVec 32 := 127#32
  let v1839 : BitVec 32 := Scalar.andi v1838 c127_i32_1145
  let c3_i32_1160 : BitVec 32 := 3#32
  let v1861 : BitVec 32 := Scalar.shrsi v1839 c3_i32_1160
  let c3_i32_1161 : BitVec 32 := 3#32
  let v1862 : BitVec 32 := Scalar.shli v1861 c3_i32_1161
  let v1863 : BitVec 32 := Scalar.addi c704_i32 v1862
  let v1864 : BitVec 32 := v1863
  let v1865 : Index := Scalar.indexCast v1864
  let c0_1162 : Index := 0#32
  ![v1865.toNat, 0]

def k0_chk12 (v1836 : BitVec 32) : Prop :=
  (8 ∣ (k0_mult23 v1836).toNat) ∧
  (∀ a, (k0_off36 v1836) a + S16x1024.size a ≤ S4608x1024.size a) ∧
  (8 ∣ (k0_mult24 v1836).toNat) ∧
  (∀ a, (k0_off37 v1836) a + S8x1024.size a ≤ S4096x1024.size a)
theorem k0_mult23_dvd : ∀ (v1836 : BitVec 32) (k0_hw12 : k0_chk12 v1836), 8 ∣ (k0_mult23 v1836).toNat := fun v1836 k0_hw12 => k0_hw12.1
theorem k0_off36_inb : ∀ (v1836 : BitVec 32) (k0_hw12 : k0_chk12 v1836), ∀ a, (k0_off36 v1836) a + S16x1024.size a ≤ S4608x1024.size a := fun v1836 k0_hw12 => k0_hw12.2.1
theorem k0_mult24_dvd : ∀ (v1836 : BitVec 32) (k0_hw12 : k0_chk12 v1836), 8 ∣ (k0_mult24 v1836).toNat := fun v1836 k0_hw12 => k0_hw12.2.2.1
theorem k0_off37_inb : ∀ (v1836 : BitVec 32) (k0_hw12 : k0_chk12 v1836), ∀ a, (k0_off37 v1836) a + S8x1024.size a ≤ S4096x1024.size a := fun v1836 k0_hw12 => k0_hw12.2.2.2

def k0_off38 (k0_t1 : Fin k0_t1_loop.trips) : Fin 2 → Nat :=
  let c12_1169 : Index := 12#32
  let c0_i32_205 : BitVec 32 := 0#32
  let c1_i32 : BitVec 32 := 1#32
  let arg21 : BitVec 32 := Scf.iv c0_i32_205 c1_i32 k0_t1
  let v1879 : Index := Scalar.indexCast arg21
  ![12, v1879.toNat]
def k0_mult25 (v1880 : BitVec 32) : BitVec 32 :=
  let c864_i32_1178 : BitVec 32 := 864#32
  let c127_i32_1170 : BitVec 32 := 127#32
  let v1881 : BitVec 32 := Scalar.andi v1880 c127_i32_1170
  let c2_i32_1175 : BitVec 32 := 2#32
  let v1886 : BitVec 32 := Scalar.subi v1881 c2_i32_1175
  let c3_i32_1176 : BitVec 32 := 3#32
  let v1887 : BitVec 32 := Scalar.shrsi v1886 c3_i32_1176
  let c3_i32_1177 : BitVec 32 := 3#32
  let v1888 : BitVec 32 := Scalar.shli v1887 c3_i32_1177
  let v1889 : BitVec 32 := Scalar.addi c864_i32_1178 v1888
  v1889

def k0_off39 (v1880 : BitVec 32) : Fin 2 → Nat :=
  let c864_i32_1178 : BitVec 32 := 864#32
  let c127_i32_1170 : BitVec 32 := 127#32
  let v1881 : BitVec 32 := Scalar.andi v1880 c127_i32_1170
  let c2_i32_1175 : BitVec 32 := 2#32
  let v1886 : BitVec 32 := Scalar.subi v1881 c2_i32_1175
  let c3_i32_1176 : BitVec 32 := 3#32
  let v1887 : BitVec 32 := Scalar.shrsi v1886 c3_i32_1176
  let c3_i32_1177 : BitVec 32 := 3#32
  let v1888 : BitVec 32 := Scalar.shli v1887 c3_i32_1177
  let v1889 : BitVec 32 := Scalar.addi c864_i32_1178 v1888
  let v1890 : BitVec 32 := v1889
  let v1891 : Index := Scalar.indexCast v1890
  let c0_1179 : Index := 0#32
  ![v1891.toNat, 0]
def k0_mult26 (v1880 : BitVec 32) : BitVec 32 :=
  let c768_i32 : BitVec 32 := 768#32
  let c7_i32_1171 : BitVec 32 := 7#32
  let v1882 : BitVec 32 := Scalar.shrsi v1880 c7_i32_1171
  let c127_i32_1172 : BitVec 32 := 127#32
  let v1883 : BitVec 32 := Scalar.andi v1882 c127_i32_1172
  let c3_i32_1187 : BitVec 32 := 3#32
  let v1905 : BitVec 32 := Scalar.shrsi v1883 c3_i32_1187
  let c3_i32_1188 : BitVec 32 := 3#32
  let v1906 : BitVec 32 := Scalar.shli v1905 c3_i32_1188
  let v1907 : BitVec 32 := Scalar.addi c768_i32 v1906
  v1907
def k0_off40 (v1880 : BitVec 32) : Fin 2 → Nat :=
  let c768_i32 : BitVec 32 := 768#32
  let c7_i32_1171 : BitVec 32 := 7#32
  let v1882 : BitVec 32 := Scalar.shrsi v1880 c7_i32_1171
  let c127_i32_1172 : BitVec 32 := 127#32
  let v1883 : BitVec 32 := Scalar.andi v1882 c127_i32_1172
  let c3_i32_1187 : BitVec 32 := 3#32
  let v1905 : BitVec 32 := Scalar.shrsi v1883 c3_i32_1187
  let c3_i32_1188 : BitVec 32 := 3#32
  let v1906 : BitVec 32 := Scalar.shli v1905 c3_i32_1188
  let v1907 : BitVec 32 := Scalar.addi c768_i32 v1906
  let v1908 : BitVec 32 := v1907
  let v1909 : Index := Scalar.indexCast v1908
  let c0_1189 : Index := 0#32
  ![v1909.toNat, 0]

def k0_chk13 (v1880 : BitVec 32) : Prop :=
  (8 ∣ (k0_mult25 v1880).toNat) ∧
  (∀ a, (k0_off39 v1880) a + S16x1024.size a ≤ S4608x1024.size a) ∧
  (8 ∣ (k0_mult26 v1880).toNat) ∧
  (∀ a, (k0_off40 v1880) a + S8x1024.size a ≤ S4096x1024.size a)
theorem k0_mult25_dvd : ∀ (v1880 : BitVec 32) (k0_hw13 : k0_chk13 v1880), 8 ∣ (k0_mult25 v1880).toNat := fun v1880 k0_hw13 => k0_hw13.1
theorem k0_off39_inb : ∀ (v1880 : BitVec 32) (k0_hw13 : k0_chk13 v1880), ∀ a, (k0_off39 v1880) a + S16x1024.size a ≤ S4608x1024.size a := fun v1880 k0_hw13 => k0_hw13.2.1
theorem k0_mult26_dvd : ∀ (v1880 : BitVec 32) (k0_hw13 : k0_chk13 v1880), 8 ∣ (k0_mult26 v1880).toNat := fun v1880 k0_hw13 => k0_hw13.2.2.1
theorem k0_off40_inb : ∀ (v1880 : BitVec 32) (k0_hw13 : k0_chk13 v1880), ∀ a, (k0_off40 v1880) a + S8x1024.size a ≤ S4096x1024.size a := fun v1880 k0_hw13 => k0_hw13.2.2.2

def k0_off41 (k0_t1 : Fin k0_t1_loop.trips) : Fin 2 → Nat :=
  let c13_1196 : Index := 13#32
  let c0_i32_205 : BitVec 32 := 0#32
  let c1_i32 : BitVec 32 := 1#32
  let arg21 : BitVec 32 := Scf.iv c0_i32_205 c1_i32 k0_t1
  let v1923 : Index := Scalar.indexCast arg21
  ![13, v1923.toNat]
def k0_mult27 (v1924 : BitVec 32) : BitVec 32 :=
  let c936_i32_1205 : BitVec 32 := 936#32
  let c127_i32_1197 : BitVec 32 := 127#32
  let v1925 : BitVec 32 := Scalar.andi v1924 c127_i32_1197
  let c2_i32_1202 : BitVec 32 := 2#32
  let v1930 : BitVec 32 := Scalar.subi v1925 c2_i32_1202
  let c3_i32_1203 : BitVec 32 := 3#32
  let v1931 : BitVec 32 := Scalar.shrsi v1930 c3_i32_1203
  let c3_i32_1204 : BitVec 32 := 3#32
  let v1932 : BitVec 32 := Scalar.shli v1931 c3_i32_1204
  let v1933 : BitVec 32 := Scalar.addi c936_i32_1205 v1932
  v1933

def k0_off42 (v1924 : BitVec 32) : Fin 2 → Nat :=
  let c936_i32_1205 : BitVec 32 := 936#32
  let c127_i32_1197 : BitVec 32 := 127#32
  let v1925 : BitVec 32 := Scalar.andi v1924 c127_i32_1197
  let c2_i32_1202 : BitVec 32 := 2#32
  let v1930 : BitVec 32 := Scalar.subi v1925 c2_i32_1202
  let c3_i32_1203 : BitVec 32 := 3#32
  let v1931 : BitVec 32 := Scalar.shrsi v1930 c3_i32_1203
  let c3_i32_1204 : BitVec 32 := 3#32
  let v1932 : BitVec 32 := Scalar.shli v1931 c3_i32_1204
  let v1933 : BitVec 32 := Scalar.addi c936_i32_1205 v1932
  let v1934 : BitVec 32 := v1933
  let v1935 : Index := Scalar.indexCast v1934
  let c0_1206 : Index := 0#32
  ![v1935.toNat, 0]
def k0_mult28 (v1924 : BitVec 32) : BitVec 32 :=
  let c832_i32 : BitVec 32 := 832#32
  let c7_i32_1198 : BitVec 32 := 7#32
  let v1926 : BitVec 32 := Scalar.shrsi v1924 c7_i32_1198
  let c127_i32_1199 : BitVec 32 := 127#32
  let v1927 : BitVec 32 := Scalar.andi v1926 c127_i32_1199
  let c3_i32_1214 : BitVec 32 := 3#32
  let v1949 : BitVec 32 := Scalar.shrsi v1927 c3_i32_1214
  let c3_i32_1215 : BitVec 32 := 3#32
  let v1950 : BitVec 32 := Scalar.shli v1949 c3_i32_1215
  let v1951 : BitVec 32 := Scalar.addi c832_i32 v1950
  v1951
def k0_off43 (v1924 : BitVec 32) : Fin 2 → Nat :=
  let c832_i32 : BitVec 32 := 832#32
  let c7_i32_1198 : BitVec 32 := 7#32
  let v1926 : BitVec 32 := Scalar.shrsi v1924 c7_i32_1198
  let c127_i32_1199 : BitVec 32 := 127#32
  let v1927 : BitVec 32 := Scalar.andi v1926 c127_i32_1199
  let c3_i32_1214 : BitVec 32 := 3#32
  let v1949 : BitVec 32 := Scalar.shrsi v1927 c3_i32_1214
  let c3_i32_1215 : BitVec 32 := 3#32
  let v1950 : BitVec 32 := Scalar.shli v1949 c3_i32_1215
  let v1951 : BitVec 32 := Scalar.addi c832_i32 v1950
  let v1952 : BitVec 32 := v1951
  let v1953 : Index := Scalar.indexCast v1952
  let c0_1216 : Index := 0#32
  ![v1953.toNat, 0]

def k0_chk14 (v1924 : BitVec 32) : Prop :=
  (8 ∣ (k0_mult27 v1924).toNat) ∧
  (∀ a, (k0_off42 v1924) a + S16x1024.size a ≤ S4608x1024.size a) ∧
  (8 ∣ (k0_mult28 v1924).toNat) ∧
  (∀ a, (k0_off43 v1924) a + S8x1024.size a ≤ S4096x1024.size a)
theorem k0_mult27_dvd : ∀ (v1924 : BitVec 32) (k0_hw14 : k0_chk14 v1924), 8 ∣ (k0_mult27 v1924).toNat := fun v1924 k0_hw14 => k0_hw14.1
theorem k0_off42_inb : ∀ (v1924 : BitVec 32) (k0_hw14 : k0_chk14 v1924), ∀ a, (k0_off42 v1924) a + S16x1024.size a ≤ S4608x1024.size a := fun v1924 k0_hw14 => k0_hw14.2.1
theorem k0_mult28_dvd : ∀ (v1924 : BitVec 32) (k0_hw14 : k0_chk14 v1924), 8 ∣ (k0_mult28 v1924).toNat := fun v1924 k0_hw14 => k0_hw14.2.2.1
theorem k0_off43_inb : ∀ (v1924 : BitVec 32) (k0_hw14 : k0_chk14 v1924), ∀ a, (k0_off43 v1924) a + S8x1024.size a ≤ S4096x1024.size a := fun v1924 k0_hw14 => k0_hw14.2.2.2

def k0_off44 (k0_t1 : Fin k0_t1_loop.trips) : Fin 2 → Nat :=
  let c14_1223 : Index := 14#32
  let c0_i32_205 : BitVec 32 := 0#32
  let c1_i32 : BitVec 32 := 1#32
  let arg21 : BitVec 32 := Scf.iv c0_i32_205 c1_i32 k0_t1
  let v1967 : Index := Scalar.indexCast arg21
  ![14, v1967.toNat]
def k0_mult29 (v1968 : BitVec 32) : BitVec 32 :=
  let c1008_i32_1232 : BitVec 32 := 1008#32
  let c127_i32_1224 : BitVec 32 := 127#32
  let v1969 : BitVec 32 := Scalar.andi v1968 c127_i32_1224
  let c2_i32_1229 : BitVec 32 := 2#32
  let v1974 : BitVec 32 := Scalar.subi v1969 c2_i32_1229
  let c3_i32_1230 : BitVec 32 := 3#32
  let v1975 : BitVec 32 := Scalar.shrsi v1974 c3_i32_1230
  let c3_i32_1231 : BitVec 32 := 3#32
  let v1976 : BitVec 32 := Scalar.shli v1975 c3_i32_1231
  let v1977 : BitVec 32 := Scalar.addi c1008_i32_1232 v1976
  v1977

def k0_off45 (v1968 : BitVec 32) : Fin 2 → Nat :=
  let c1008_i32_1232 : BitVec 32 := 1008#32
  let c127_i32_1224 : BitVec 32 := 127#32
  let v1969 : BitVec 32 := Scalar.andi v1968 c127_i32_1224
  let c2_i32_1229 : BitVec 32 := 2#32
  let v1974 : BitVec 32 := Scalar.subi v1969 c2_i32_1229
  let c3_i32_1230 : BitVec 32 := 3#32
  let v1975 : BitVec 32 := Scalar.shrsi v1974 c3_i32_1230
  let c3_i32_1231 : BitVec 32 := 3#32
  let v1976 : BitVec 32 := Scalar.shli v1975 c3_i32_1231
  let v1977 : BitVec 32 := Scalar.addi c1008_i32_1232 v1976
  let v1978 : BitVec 32 := v1977
  let v1979 : Index := Scalar.indexCast v1978
  let c0_1233 : Index := 0#32
  ![v1979.toNat, 0]
def k0_mult30 (v1968 : BitVec 32) : BitVec 32 :=
  let c896_i32 : BitVec 32 := 896#32
  let c7_i32_1225 : BitVec 32 := 7#32
  let v1970 : BitVec 32 := Scalar.shrsi v1968 c7_i32_1225
  let c127_i32_1226 : BitVec 32 := 127#32
  let v1971 : BitVec 32 := Scalar.andi v1970 c127_i32_1226
  let c3_i32_1241 : BitVec 32 := 3#32
  let v1993 : BitVec 32 := Scalar.shrsi v1971 c3_i32_1241
  let c3_i32_1242 : BitVec 32 := 3#32
  let v1994 : BitVec 32 := Scalar.shli v1993 c3_i32_1242
  let v1995 : BitVec 32 := Scalar.addi c896_i32 v1994
  v1995
def k0_off46 (v1968 : BitVec 32) : Fin 2 → Nat :=
  let c896_i32 : BitVec 32 := 896#32
  let c7_i32_1225 : BitVec 32 := 7#32
  let v1970 : BitVec 32 := Scalar.shrsi v1968 c7_i32_1225
  let c127_i32_1226 : BitVec 32 := 127#32
  let v1971 : BitVec 32 := Scalar.andi v1970 c127_i32_1226
  let c3_i32_1241 : BitVec 32 := 3#32
  let v1993 : BitVec 32 := Scalar.shrsi v1971 c3_i32_1241
  let c3_i32_1242 : BitVec 32 := 3#32
  let v1994 : BitVec 32 := Scalar.shli v1993 c3_i32_1242
  let v1995 : BitVec 32 := Scalar.addi c896_i32 v1994
  let v1996 : BitVec 32 := v1995
  let v1997 : Index := Scalar.indexCast v1996
  let c0_1243 : Index := 0#32
  ![v1997.toNat, 0]

def k0_chk15 (v1968 : BitVec 32) : Prop :=
  (8 ∣ (k0_mult29 v1968).toNat) ∧
  (∀ a, (k0_off45 v1968) a + S16x1024.size a ≤ S4608x1024.size a) ∧
  (8 ∣ (k0_mult30 v1968).toNat) ∧
  (∀ a, (k0_off46 v1968) a + S8x1024.size a ≤ S4096x1024.size a)
theorem k0_mult29_dvd : ∀ (v1968 : BitVec 32) (k0_hw15 : k0_chk15 v1968), 8 ∣ (k0_mult29 v1968).toNat := fun v1968 k0_hw15 => k0_hw15.1
theorem k0_off45_inb : ∀ (v1968 : BitVec 32) (k0_hw15 : k0_chk15 v1968), ∀ a, (k0_off45 v1968) a + S16x1024.size a ≤ S4608x1024.size a := fun v1968 k0_hw15 => k0_hw15.2.1
theorem k0_mult30_dvd : ∀ (v1968 : BitVec 32) (k0_hw15 : k0_chk15 v1968), 8 ∣ (k0_mult30 v1968).toNat := fun v1968 k0_hw15 => k0_hw15.2.2.1
theorem k0_off46_inb : ∀ (v1968 : BitVec 32) (k0_hw15 : k0_chk15 v1968), ∀ a, (k0_off46 v1968) a + S8x1024.size a ≤ S4096x1024.size a := fun v1968 k0_hw15 => k0_hw15.2.2.2

def k0_off47 (k0_t1 : Fin k0_t1_loop.trips) : Fin 2 → Nat :=
  let c15_1250 : Index := 15#32
  let c0_i32_205 : BitVec 32 := 0#32
  let c1_i32 : BitVec 32 := 1#32
  let arg21 : BitVec 32 := Scf.iv c0_i32_205 c1_i32 k0_t1
  let v2011 : Index := Scalar.indexCast arg21
  ![15, v2011.toNat]
def k0_mult31 (v2012 : BitVec 32) : BitVec 32 :=
  let c1080_i32_1259 : BitVec 32 := 1080#32
  let c127_i32_1251 : BitVec 32 := 127#32
  let v2013 : BitVec 32 := Scalar.andi v2012 c127_i32_1251
  let c2_i32_1256 : BitVec 32 := 2#32
  let v2018 : BitVec 32 := Scalar.subi v2013 c2_i32_1256
  let c3_i32_1257 : BitVec 32 := 3#32
  let v2019 : BitVec 32 := Scalar.shrsi v2018 c3_i32_1257
  let c3_i32_1258 : BitVec 32 := 3#32
  let v2020 : BitVec 32 := Scalar.shli v2019 c3_i32_1258
  let v2021 : BitVec 32 := Scalar.addi c1080_i32_1259 v2020
  v2021

def k0_off48 (v2012 : BitVec 32) : Fin 2 → Nat :=
  let c1080_i32_1259 : BitVec 32 := 1080#32
  let c127_i32_1251 : BitVec 32 := 127#32
  let v2013 : BitVec 32 := Scalar.andi v2012 c127_i32_1251
  let c2_i32_1256 : BitVec 32 := 2#32
  let v2018 : BitVec 32 := Scalar.subi v2013 c2_i32_1256
  let c3_i32_1257 : BitVec 32 := 3#32
  let v2019 : BitVec 32 := Scalar.shrsi v2018 c3_i32_1257
  let c3_i32_1258 : BitVec 32 := 3#32
  let v2020 : BitVec 32 := Scalar.shli v2019 c3_i32_1258
  let v2021 : BitVec 32 := Scalar.addi c1080_i32_1259 v2020
  let v2022 : BitVec 32 := v2021
  let v2023 : Index := Scalar.indexCast v2022
  let c0_1260 : Index := 0#32
  ![v2023.toNat, 0]
def k0_mult32 (v2012 : BitVec 32) : BitVec 32 :=
  let c960_i32 : BitVec 32 := 960#32
  let c7_i32_1252 : BitVec 32 := 7#32
  let v2014 : BitVec 32 := Scalar.shrsi v2012 c7_i32_1252
  let c127_i32_1253 : BitVec 32 := 127#32
  let v2015 : BitVec 32 := Scalar.andi v2014 c127_i32_1253
  let c3_i32_1268 : BitVec 32 := 3#32
  let v2037 : BitVec 32 := Scalar.shrsi v2015 c3_i32_1268
  let c3_i32_1269 : BitVec 32 := 3#32
  let v2038 : BitVec 32 := Scalar.shli v2037 c3_i32_1269
  let v2039 : BitVec 32 := Scalar.addi c960_i32 v2038
  v2039
def k0_off49 (v2012 : BitVec 32) : Fin 2 → Nat :=
  let c960_i32 : BitVec 32 := 960#32
  let c7_i32_1252 : BitVec 32 := 7#32
  let v2014 : BitVec 32 := Scalar.shrsi v2012 c7_i32_1252
  let c127_i32_1253 : BitVec 32 := 127#32
  let v2015 : BitVec 32 := Scalar.andi v2014 c127_i32_1253
  let c3_i32_1268 : BitVec 32 := 3#32
  let v2037 : BitVec 32 := Scalar.shrsi v2015 c3_i32_1268
  let c3_i32_1269 : BitVec 32 := 3#32
  let v2038 : BitVec 32 := Scalar.shli v2037 c3_i32_1269
  let v2039 : BitVec 32 := Scalar.addi c960_i32 v2038
  let v2040 : BitVec 32 := v2039
  let v2041 : Index := Scalar.indexCast v2040
  let c0_1270 : Index := 0#32
  ![v2041.toNat, 0]

def k0_chk16 (v2012 : BitVec 32) : Prop :=
  (8 ∣ (k0_mult31 v2012).toNat) ∧
  (∀ a, (k0_off48 v2012) a + S16x1024.size a ≤ S4608x1024.size a) ∧
  (8 ∣ (k0_mult32 v2012).toNat) ∧
  (∀ a, (k0_off49 v2012) a + S8x1024.size a ≤ S4096x1024.size a)
theorem k0_mult31_dvd : ∀ (v2012 : BitVec 32) (k0_hw16 : k0_chk16 v2012), 8 ∣ (k0_mult31 v2012).toNat := fun v2012 k0_hw16 => k0_hw16.1
theorem k0_off48_inb : ∀ (v2012 : BitVec 32) (k0_hw16 : k0_chk16 v2012), ∀ a, (k0_off48 v2012) a + S16x1024.size a ≤ S4608x1024.size a := fun v2012 k0_hw16 => k0_hw16.2.1
theorem k0_mult32_dvd : ∀ (v2012 : BitVec 32) (k0_hw16 : k0_chk16 v2012), 8 ∣ (k0_mult32 v2012).toNat := fun v2012 k0_hw16 => k0_hw16.2.2.1
theorem k0_off49_inb : ∀ (v2012 : BitVec 32) (k0_hw16 : k0_chk16 v2012), ∀ a, (k0_off49 v2012) a + S8x1024.size a ≤ S4096x1024.size a := fun v2012 k0_hw16 => k0_hw16.2.2.2

def k0_off50 (k0_t1 : Fin k0_t1_loop.trips) : Fin 2 → Nat :=
  let c16_1277 : Index := 16#32
  let c0_i32_205 : BitVec 32 := 0#32
  let c1_i32 : BitVec 32 := 1#32
  let arg21 : BitVec 32 := Scf.iv c0_i32_205 c1_i32 k0_t1
  let v2055 : Index := Scalar.indexCast arg21
  ![16, v2055.toNat]
def k0_mult33 (v2056 : BitVec 32) : BitVec 32 :=
  let c1152_i32_1286 : BitVec 32 := 1152#32
  let c127_i32_1278 : BitVec 32 := 127#32
  let v2057 : BitVec 32 := Scalar.andi v2056 c127_i32_1278
  let c2_i32_1283 : BitVec 32 := 2#32
  let v2062 : BitVec 32 := Scalar.subi v2057 c2_i32_1283
  let c3_i32_1284 : BitVec 32 := 3#32
  let v2063 : BitVec 32 := Scalar.shrsi v2062 c3_i32_1284
  let c3_i32_1285 : BitVec 32 := 3#32
  let v2064 : BitVec 32 := Scalar.shli v2063 c3_i32_1285
  let v2065 : BitVec 32 := Scalar.addi c1152_i32_1286 v2064
  v2065

def k0_off51 (v2056 : BitVec 32) : Fin 2 → Nat :=
  let c1152_i32_1286 : BitVec 32 := 1152#32
  let c127_i32_1278 : BitVec 32 := 127#32
  let v2057 : BitVec 32 := Scalar.andi v2056 c127_i32_1278
  let c2_i32_1283 : BitVec 32 := 2#32
  let v2062 : BitVec 32 := Scalar.subi v2057 c2_i32_1283
  let c3_i32_1284 : BitVec 32 := 3#32
  let v2063 : BitVec 32 := Scalar.shrsi v2062 c3_i32_1284
  let c3_i32_1285 : BitVec 32 := 3#32
  let v2064 : BitVec 32 := Scalar.shli v2063 c3_i32_1285
  let v2065 : BitVec 32 := Scalar.addi c1152_i32_1286 v2064
  let v2066 : BitVec 32 := v2065
  let v2067 : Index := Scalar.indexCast v2066
  let c0_1287 : Index := 0#32
  ![v2067.toNat, 0]
def k0_mult34 (v2056 : BitVec 32) : BitVec 32 :=
  let c1024_i32 : BitVec 32 := 1024#32
  let c7_i32_1279 : BitVec 32 := 7#32
  let v2058 : BitVec 32 := Scalar.shrsi v2056 c7_i32_1279
  let c127_i32_1280 : BitVec 32 := 127#32
  let v2059 : BitVec 32 := Scalar.andi v2058 c127_i32_1280
  let c3_i32_1295 : BitVec 32 := 3#32
  let v2081 : BitVec 32 := Scalar.shrsi v2059 c3_i32_1295
  let c3_i32_1296 : BitVec 32 := 3#32
  let v2082 : BitVec 32 := Scalar.shli v2081 c3_i32_1296
  let v2083 : BitVec 32 := Scalar.addi c1024_i32 v2082
  v2083
def k0_off52 (v2056 : BitVec 32) : Fin 2 → Nat :=
  let c1024_i32 : BitVec 32 := 1024#32
  let c7_i32_1279 : BitVec 32 := 7#32
  let v2058 : BitVec 32 := Scalar.shrsi v2056 c7_i32_1279
  let c127_i32_1280 : BitVec 32 := 127#32
  let v2059 : BitVec 32 := Scalar.andi v2058 c127_i32_1280
  let c3_i32_1295 : BitVec 32 := 3#32
  let v2081 : BitVec 32 := Scalar.shrsi v2059 c3_i32_1295
  let c3_i32_1296 : BitVec 32 := 3#32
  let v2082 : BitVec 32 := Scalar.shli v2081 c3_i32_1296
  let v2083 : BitVec 32 := Scalar.addi c1024_i32 v2082
  let v2084 : BitVec 32 := v2083
  let v2085 : Index := Scalar.indexCast v2084
  let c0_1297 : Index := 0#32
  ![v2085.toNat, 0]

def k0_chk17 (v2056 : BitVec 32) : Prop :=
  (8 ∣ (k0_mult33 v2056).toNat) ∧
  (∀ a, (k0_off51 v2056) a + S16x1024.size a ≤ S4608x1024.size a) ∧
  (8 ∣ (k0_mult34 v2056).toNat) ∧
  (∀ a, (k0_off52 v2056) a + S8x1024.size a ≤ S4096x1024.size a)
theorem k0_mult33_dvd : ∀ (v2056 : BitVec 32) (k0_hw17 : k0_chk17 v2056), 8 ∣ (k0_mult33 v2056).toNat := fun v2056 k0_hw17 => k0_hw17.1
theorem k0_off51_inb : ∀ (v2056 : BitVec 32) (k0_hw17 : k0_chk17 v2056), ∀ a, (k0_off51 v2056) a + S16x1024.size a ≤ S4608x1024.size a := fun v2056 k0_hw17 => k0_hw17.2.1
theorem k0_mult34_dvd : ∀ (v2056 : BitVec 32) (k0_hw17 : k0_chk17 v2056), 8 ∣ (k0_mult34 v2056).toNat := fun v2056 k0_hw17 => k0_hw17.2.2.1
theorem k0_off52_inb : ∀ (v2056 : BitVec 32) (k0_hw17 : k0_chk17 v2056), ∀ a, (k0_off52 v2056) a + S8x1024.size a ≤ S4096x1024.size a := fun v2056 k0_hw17 => k0_hw17.2.2.2

def k0_off53 (k0_t1 : Fin k0_t1_loop.trips) : Fin 2 → Nat :=
  let c17_1304 : Index := 17#32
  let c0_i32_205 : BitVec 32 := 0#32
  let c1_i32 : BitVec 32 := 1#32
  let arg21 : BitVec 32 := Scf.iv c0_i32_205 c1_i32 k0_t1
  let v2099 : Index := Scalar.indexCast arg21
  ![17, v2099.toNat]
def k0_mult35 (v2100 : BitVec 32) : BitVec 32 :=
  let c1224_i32_1313 : BitVec 32 := 1224#32
  let c127_i32_1305 : BitVec 32 := 127#32
  let v2101 : BitVec 32 := Scalar.andi v2100 c127_i32_1305
  let c2_i32_1310 : BitVec 32 := 2#32
  let v2106 : BitVec 32 := Scalar.subi v2101 c2_i32_1310
  let c3_i32_1311 : BitVec 32 := 3#32
  let v2107 : BitVec 32 := Scalar.shrsi v2106 c3_i32_1311
  let c3_i32_1312 : BitVec 32 := 3#32
  let v2108 : BitVec 32 := Scalar.shli v2107 c3_i32_1312
  let v2109 : BitVec 32 := Scalar.addi c1224_i32_1313 v2108
  v2109

def k0_off54 (v2100 : BitVec 32) : Fin 2 → Nat :=
  let c1224_i32_1313 : BitVec 32 := 1224#32
  let c127_i32_1305 : BitVec 32 := 127#32
  let v2101 : BitVec 32 := Scalar.andi v2100 c127_i32_1305
  let c2_i32_1310 : BitVec 32 := 2#32
  let v2106 : BitVec 32 := Scalar.subi v2101 c2_i32_1310
  let c3_i32_1311 : BitVec 32 := 3#32
  let v2107 : BitVec 32 := Scalar.shrsi v2106 c3_i32_1311
  let c3_i32_1312 : BitVec 32 := 3#32
  let v2108 : BitVec 32 := Scalar.shli v2107 c3_i32_1312
  let v2109 : BitVec 32 := Scalar.addi c1224_i32_1313 v2108
  let v2110 : BitVec 32 := v2109
  let v2111 : Index := Scalar.indexCast v2110
  let c0_1314 : Index := 0#32
  ![v2111.toNat, 0]
def k0_mult36 (v2100 : BitVec 32) : BitVec 32 :=
  let c1088_i32 : BitVec 32 := 1088#32
  let c7_i32_1306 : BitVec 32 := 7#32
  let v2102 : BitVec 32 := Scalar.shrsi v2100 c7_i32_1306
  let c127_i32_1307 : BitVec 32 := 127#32
  let v2103 : BitVec 32 := Scalar.andi v2102 c127_i32_1307
  let c3_i32_1322 : BitVec 32 := 3#32
  let v2125 : BitVec 32 := Scalar.shrsi v2103 c3_i32_1322
  let c3_i32_1323 : BitVec 32 := 3#32
  let v2126 : BitVec 32 := Scalar.shli v2125 c3_i32_1323
  let v2127 : BitVec 32 := Scalar.addi c1088_i32 v2126
  v2127
def k0_off55 (v2100 : BitVec 32) : Fin 2 → Nat :=
  let c1088_i32 : BitVec 32 := 1088#32
  let c7_i32_1306 : BitVec 32 := 7#32
  let v2102 : BitVec 32 := Scalar.shrsi v2100 c7_i32_1306
  let c127_i32_1307 : BitVec 32 := 127#32
  let v2103 : BitVec 32 := Scalar.andi v2102 c127_i32_1307
  let c3_i32_1322 : BitVec 32 := 3#32
  let v2125 : BitVec 32 := Scalar.shrsi v2103 c3_i32_1322
  let c3_i32_1323 : BitVec 32 := 3#32
  let v2126 : BitVec 32 := Scalar.shli v2125 c3_i32_1323
  let v2127 : BitVec 32 := Scalar.addi c1088_i32 v2126
  let v2128 : BitVec 32 := v2127
  let v2129 : Index := Scalar.indexCast v2128
  let c0_1324 : Index := 0#32
  ![v2129.toNat, 0]

def k0_chk18 (v2100 : BitVec 32) : Prop :=
  (8 ∣ (k0_mult35 v2100).toNat) ∧
  (∀ a, (k0_off54 v2100) a + S16x1024.size a ≤ S4608x1024.size a) ∧
  (8 ∣ (k0_mult36 v2100).toNat) ∧
  (∀ a, (k0_off55 v2100) a + S8x1024.size a ≤ S4096x1024.size a)
theorem k0_mult35_dvd : ∀ (v2100 : BitVec 32) (k0_hw18 : k0_chk18 v2100), 8 ∣ (k0_mult35 v2100).toNat := fun v2100 k0_hw18 => k0_hw18.1
theorem k0_off54_inb : ∀ (v2100 : BitVec 32) (k0_hw18 : k0_chk18 v2100), ∀ a, (k0_off54 v2100) a + S16x1024.size a ≤ S4608x1024.size a := fun v2100 k0_hw18 => k0_hw18.2.1
theorem k0_mult36_dvd : ∀ (v2100 : BitVec 32) (k0_hw18 : k0_chk18 v2100), 8 ∣ (k0_mult36 v2100).toNat := fun v2100 k0_hw18 => k0_hw18.2.2.1
theorem k0_off55_inb : ∀ (v2100 : BitVec 32) (k0_hw18 : k0_chk18 v2100), ∀ a, (k0_off55 v2100) a + S8x1024.size a ≤ S4096x1024.size a := fun v2100 k0_hw18 => k0_hw18.2.2.2

def k0_off56 (k0_t1 : Fin k0_t1_loop.trips) : Fin 2 → Nat :=
  let c18_1331 : Index := 18#32
  let c0_i32_205 : BitVec 32 := 0#32
  let c1_i32 : BitVec 32 := 1#32
  let arg21 : BitVec 32 := Scf.iv c0_i32_205 c1_i32 k0_t1
  let v2143 : Index := Scalar.indexCast arg21
  ![18, v2143.toNat]
def k0_mult37 (v2144 : BitVec 32) : BitVec 32 :=
  let c1296_i32_1340 : BitVec 32 := 1296#32
  let c127_i32_1332 : BitVec 32 := 127#32
  let v2145 : BitVec 32 := Scalar.andi v2144 c127_i32_1332
  let c2_i32_1337 : BitVec 32 := 2#32
  let v2150 : BitVec 32 := Scalar.subi v2145 c2_i32_1337
  let c3_i32_1338 : BitVec 32 := 3#32
  let v2151 : BitVec 32 := Scalar.shrsi v2150 c3_i32_1338
  let c3_i32_1339 : BitVec 32 := 3#32
  let v2152 : BitVec 32 := Scalar.shli v2151 c3_i32_1339
  let v2153 : BitVec 32 := Scalar.addi c1296_i32_1340 v2152
  v2153

def k0_off57 (v2144 : BitVec 32) : Fin 2 → Nat :=
  let c1296_i32_1340 : BitVec 32 := 1296#32
  let c127_i32_1332 : BitVec 32 := 127#32
  let v2145 : BitVec 32 := Scalar.andi v2144 c127_i32_1332
  let c2_i32_1337 : BitVec 32 := 2#32
  let v2150 : BitVec 32 := Scalar.subi v2145 c2_i32_1337
  let c3_i32_1338 : BitVec 32 := 3#32
  let v2151 : BitVec 32 := Scalar.shrsi v2150 c3_i32_1338
  let c3_i32_1339 : BitVec 32 := 3#32
  let v2152 : BitVec 32 := Scalar.shli v2151 c3_i32_1339
  let v2153 : BitVec 32 := Scalar.addi c1296_i32_1340 v2152
  let v2154 : BitVec 32 := v2153
  let v2155 : Index := Scalar.indexCast v2154
  let c0_1341 : Index := 0#32
  ![v2155.toNat, 0]
def k0_mult38 (v2144 : BitVec 32) : BitVec 32 :=
  let c1152_i32_1351 : BitVec 32 := 1152#32
  let c7_i32_1333 : BitVec 32 := 7#32
  let v2146 : BitVec 32 := Scalar.shrsi v2144 c7_i32_1333
  let c127_i32_1334 : BitVec 32 := 127#32
  let v2147 : BitVec 32 := Scalar.andi v2146 c127_i32_1334
  let c3_i32_1349 : BitVec 32 := 3#32
  let v2169 : BitVec 32 := Scalar.shrsi v2147 c3_i32_1349
  let c3_i32_1350 : BitVec 32 := 3#32
  let v2170 : BitVec 32 := Scalar.shli v2169 c3_i32_1350
  let v2171 : BitVec 32 := Scalar.addi c1152_i32_1351 v2170
  v2171
def k0_off58 (v2144 : BitVec 32) : Fin 2 → Nat :=
  let c1152_i32_1351 : BitVec 32 := 1152#32
  let c7_i32_1333 : BitVec 32 := 7#32
  let v2146 : BitVec 32 := Scalar.shrsi v2144 c7_i32_1333
  let c127_i32_1334 : BitVec 32 := 127#32
  let v2147 : BitVec 32 := Scalar.andi v2146 c127_i32_1334
  let c3_i32_1349 : BitVec 32 := 3#32
  let v2169 : BitVec 32 := Scalar.shrsi v2147 c3_i32_1349
  let c3_i32_1350 : BitVec 32 := 3#32
  let v2170 : BitVec 32 := Scalar.shli v2169 c3_i32_1350
  let v2171 : BitVec 32 := Scalar.addi c1152_i32_1351 v2170
  let v2172 : BitVec 32 := v2171
  let v2173 : Index := Scalar.indexCast v2172
  let c0_1352 : Index := 0#32
  ![v2173.toNat, 0]

def k0_chk19 (v2144 : BitVec 32) : Prop :=
  (8 ∣ (k0_mult37 v2144).toNat) ∧
  (∀ a, (k0_off57 v2144) a + S16x1024.size a ≤ S4608x1024.size a) ∧
  (8 ∣ (k0_mult38 v2144).toNat) ∧
  (∀ a, (k0_off58 v2144) a + S8x1024.size a ≤ S4096x1024.size a)
theorem k0_mult37_dvd : ∀ (v2144 : BitVec 32) (k0_hw19 : k0_chk19 v2144), 8 ∣ (k0_mult37 v2144).toNat := fun v2144 k0_hw19 => k0_hw19.1
theorem k0_off57_inb : ∀ (v2144 : BitVec 32) (k0_hw19 : k0_chk19 v2144), ∀ a, (k0_off57 v2144) a + S16x1024.size a ≤ S4608x1024.size a := fun v2144 k0_hw19 => k0_hw19.2.1
theorem k0_mult38_dvd : ∀ (v2144 : BitVec 32) (k0_hw19 : k0_chk19 v2144), 8 ∣ (k0_mult38 v2144).toNat := fun v2144 k0_hw19 => k0_hw19.2.2.1
theorem k0_off58_inb : ∀ (v2144 : BitVec 32) (k0_hw19 : k0_chk19 v2144), ∀ a, (k0_off58 v2144) a + S8x1024.size a ≤ S4096x1024.size a := fun v2144 k0_hw19 => k0_hw19.2.2.2

def k0_off59 (k0_t1 : Fin k0_t1_loop.trips) : Fin 2 → Nat :=
  let c19_1359 : Index := 19#32
  let c0_i32_205 : BitVec 32 := 0#32
  let c1_i32 : BitVec 32 := 1#32
  let arg21 : BitVec 32 := Scf.iv c0_i32_205 c1_i32 k0_t1
  let v2187 : Index := Scalar.indexCast arg21
  ![19, v2187.toNat]
def k0_mult39 (v2188 : BitVec 32) : BitVec 32 :=
  let c1368_i32_1368 : BitVec 32 := 1368#32
  let c127_i32_1360 : BitVec 32 := 127#32
  let v2189 : BitVec 32 := Scalar.andi v2188 c127_i32_1360
  let c2_i32_1365 : BitVec 32 := 2#32
  let v2194 : BitVec 32 := Scalar.subi v2189 c2_i32_1365
  let c3_i32_1366 : BitVec 32 := 3#32
  let v2195 : BitVec 32 := Scalar.shrsi v2194 c3_i32_1366
  let c3_i32_1367 : BitVec 32 := 3#32
  let v2196 : BitVec 32 := Scalar.shli v2195 c3_i32_1367
  let v2197 : BitVec 32 := Scalar.addi c1368_i32_1368 v2196
  v2197

def k0_off60 (v2188 : BitVec 32) : Fin 2 → Nat :=
  let c1368_i32_1368 : BitVec 32 := 1368#32
  let c127_i32_1360 : BitVec 32 := 127#32
  let v2189 : BitVec 32 := Scalar.andi v2188 c127_i32_1360
  let c2_i32_1365 : BitVec 32 := 2#32
  let v2194 : BitVec 32 := Scalar.subi v2189 c2_i32_1365
  let c3_i32_1366 : BitVec 32 := 3#32
  let v2195 : BitVec 32 := Scalar.shrsi v2194 c3_i32_1366
  let c3_i32_1367 : BitVec 32 := 3#32
  let v2196 : BitVec 32 := Scalar.shli v2195 c3_i32_1367
  let v2197 : BitVec 32 := Scalar.addi c1368_i32_1368 v2196
  let v2198 : BitVec 32 := v2197
  let v2199 : Index := Scalar.indexCast v2198
  let c0_1369 : Index := 0#32
  ![v2199.toNat, 0]
def k0_mult40 (v2188 : BitVec 32) : BitVec 32 :=
  let c1216_i32 : BitVec 32 := 1216#32
  let c7_i32_1361 : BitVec 32 := 7#32
  let v2190 : BitVec 32 := Scalar.shrsi v2188 c7_i32_1361
  let c127_i32_1362 : BitVec 32 := 127#32
  let v2191 : BitVec 32 := Scalar.andi v2190 c127_i32_1362
  let c3_i32_1377 : BitVec 32 := 3#32
  let v2213 : BitVec 32 := Scalar.shrsi v2191 c3_i32_1377
  let c3_i32_1378 : BitVec 32 := 3#32
  let v2214 : BitVec 32 := Scalar.shli v2213 c3_i32_1378
  let v2215 : BitVec 32 := Scalar.addi c1216_i32 v2214
  v2215
def k0_off61 (v2188 : BitVec 32) : Fin 2 → Nat :=
  let c1216_i32 : BitVec 32 := 1216#32
  let c7_i32_1361 : BitVec 32 := 7#32
  let v2190 : BitVec 32 := Scalar.shrsi v2188 c7_i32_1361
  let c127_i32_1362 : BitVec 32 := 127#32
  let v2191 : BitVec 32 := Scalar.andi v2190 c127_i32_1362
  let c3_i32_1377 : BitVec 32 := 3#32
  let v2213 : BitVec 32 := Scalar.shrsi v2191 c3_i32_1377
  let c3_i32_1378 : BitVec 32 := 3#32
  let v2214 : BitVec 32 := Scalar.shli v2213 c3_i32_1378
  let v2215 : BitVec 32 := Scalar.addi c1216_i32 v2214
  let v2216 : BitVec 32 := v2215
  let v2217 : Index := Scalar.indexCast v2216
  let c0_1379 : Index := 0#32
  ![v2217.toNat, 0]

def k0_chk20 (v2188 : BitVec 32) : Prop :=
  (8 ∣ (k0_mult39 v2188).toNat) ∧
  (∀ a, (k0_off60 v2188) a + S16x1024.size a ≤ S4608x1024.size a) ∧
  (8 ∣ (k0_mult40 v2188).toNat) ∧
  (∀ a, (k0_off61 v2188) a + S8x1024.size a ≤ S4096x1024.size a)
theorem k0_mult39_dvd : ∀ (v2188 : BitVec 32) (k0_hw20 : k0_chk20 v2188), 8 ∣ (k0_mult39 v2188).toNat := fun v2188 k0_hw20 => k0_hw20.1
theorem k0_off60_inb : ∀ (v2188 : BitVec 32) (k0_hw20 : k0_chk20 v2188), ∀ a, (k0_off60 v2188) a + S16x1024.size a ≤ S4608x1024.size a := fun v2188 k0_hw20 => k0_hw20.2.1
theorem k0_mult40_dvd : ∀ (v2188 : BitVec 32) (k0_hw20 : k0_chk20 v2188), 8 ∣ (k0_mult40 v2188).toNat := fun v2188 k0_hw20 => k0_hw20.2.2.1
theorem k0_off61_inb : ∀ (v2188 : BitVec 32) (k0_hw20 : k0_chk20 v2188), ∀ a, (k0_off61 v2188) a + S8x1024.size a ≤ S4096x1024.size a := fun v2188 k0_hw20 => k0_hw20.2.2.2

def k0_off62 (k0_t1 : Fin k0_t1_loop.trips) : Fin 2 → Nat :=
  let c20_1386 : Index := 20#32
  let c0_i32_205 : BitVec 32 := 0#32
  let c1_i32 : BitVec 32 := 1#32
  let arg21 : BitVec 32 := Scf.iv c0_i32_205 c1_i32 k0_t1
  let v2231 : Index := Scalar.indexCast arg21
  ![20, v2231.toNat]
def k0_mult41 (v2232 : BitVec 32) : BitVec 32 :=
  let c1440_i32_1395 : BitVec 32 := 1440#32
  let c127_i32_1387 : BitVec 32 := 127#32
  let v2233 : BitVec 32 := Scalar.andi v2232 c127_i32_1387
  let c2_i32_1392 : BitVec 32 := 2#32
  let v2238 : BitVec 32 := Scalar.subi v2233 c2_i32_1392
  let c3_i32_1393 : BitVec 32 := 3#32
  let v2239 : BitVec 32 := Scalar.shrsi v2238 c3_i32_1393
  let c3_i32_1394 : BitVec 32 := 3#32
  let v2240 : BitVec 32 := Scalar.shli v2239 c3_i32_1394
  let v2241 : BitVec 32 := Scalar.addi c1440_i32_1395 v2240
  v2241

def k0_off63 (v2232 : BitVec 32) : Fin 2 → Nat :=
  let c1440_i32_1395 : BitVec 32 := 1440#32
  let c127_i32_1387 : BitVec 32 := 127#32
  let v2233 : BitVec 32 := Scalar.andi v2232 c127_i32_1387
  let c2_i32_1392 : BitVec 32 := 2#32
  let v2238 : BitVec 32 := Scalar.subi v2233 c2_i32_1392
  let c3_i32_1393 : BitVec 32 := 3#32
  let v2239 : BitVec 32 := Scalar.shrsi v2238 c3_i32_1393
  let c3_i32_1394 : BitVec 32 := 3#32
  let v2240 : BitVec 32 := Scalar.shli v2239 c3_i32_1394
  let v2241 : BitVec 32 := Scalar.addi c1440_i32_1395 v2240
  let v2242 : BitVec 32 := v2241
  let v2243 : Index := Scalar.indexCast v2242
  let c0_1396 : Index := 0#32
  ![v2243.toNat, 0]
def k0_mult42 (v2232 : BitVec 32) : BitVec 32 :=
  let c1280_i32 : BitVec 32 := 1280#32
  let c7_i32_1388 : BitVec 32 := 7#32
  let v2234 : BitVec 32 := Scalar.shrsi v2232 c7_i32_1388
  let c127_i32_1389 : BitVec 32 := 127#32
  let v2235 : BitVec 32 := Scalar.andi v2234 c127_i32_1389
  let c3_i32_1404 : BitVec 32 := 3#32
  let v2257 : BitVec 32 := Scalar.shrsi v2235 c3_i32_1404
  let c3_i32_1405 : BitVec 32 := 3#32
  let v2258 : BitVec 32 := Scalar.shli v2257 c3_i32_1405
  let v2259 : BitVec 32 := Scalar.addi c1280_i32 v2258
  v2259
def k0_off64 (v2232 : BitVec 32) : Fin 2 → Nat :=
  let c1280_i32 : BitVec 32 := 1280#32
  let c7_i32_1388 : BitVec 32 := 7#32
  let v2234 : BitVec 32 := Scalar.shrsi v2232 c7_i32_1388
  let c127_i32_1389 : BitVec 32 := 127#32
  let v2235 : BitVec 32 := Scalar.andi v2234 c127_i32_1389
  let c3_i32_1404 : BitVec 32 := 3#32
  let v2257 : BitVec 32 := Scalar.shrsi v2235 c3_i32_1404
  let c3_i32_1405 : BitVec 32 := 3#32
  let v2258 : BitVec 32 := Scalar.shli v2257 c3_i32_1405
  let v2259 : BitVec 32 := Scalar.addi c1280_i32 v2258
  let v2260 : BitVec 32 := v2259
  let v2261 : Index := Scalar.indexCast v2260
  let c0_1406 : Index := 0#32
  ![v2261.toNat, 0]

def k0_chk21 (v2232 : BitVec 32) : Prop :=
  (8 ∣ (k0_mult41 v2232).toNat) ∧
  (∀ a, (k0_off63 v2232) a + S16x1024.size a ≤ S4608x1024.size a) ∧
  (8 ∣ (k0_mult42 v2232).toNat) ∧
  (∀ a, (k0_off64 v2232) a + S8x1024.size a ≤ S4096x1024.size a)
theorem k0_mult41_dvd : ∀ (v2232 : BitVec 32) (k0_hw21 : k0_chk21 v2232), 8 ∣ (k0_mult41 v2232).toNat := fun v2232 k0_hw21 => k0_hw21.1
theorem k0_off63_inb : ∀ (v2232 : BitVec 32) (k0_hw21 : k0_chk21 v2232), ∀ a, (k0_off63 v2232) a + S16x1024.size a ≤ S4608x1024.size a := fun v2232 k0_hw21 => k0_hw21.2.1
theorem k0_mult42_dvd : ∀ (v2232 : BitVec 32) (k0_hw21 : k0_chk21 v2232), 8 ∣ (k0_mult42 v2232).toNat := fun v2232 k0_hw21 => k0_hw21.2.2.1
theorem k0_off64_inb : ∀ (v2232 : BitVec 32) (k0_hw21 : k0_chk21 v2232), ∀ a, (k0_off64 v2232) a + S8x1024.size a ≤ S4096x1024.size a := fun v2232 k0_hw21 => k0_hw21.2.2.2

def k0_off65 (k0_t1 : Fin k0_t1_loop.trips) : Fin 2 → Nat :=
  let c21_1413 : Index := 21#32
  let c0_i32_205 : BitVec 32 := 0#32
  let c1_i32 : BitVec 32 := 1#32
  let arg21 : BitVec 32 := Scf.iv c0_i32_205 c1_i32 k0_t1
  let v2275 : Index := Scalar.indexCast arg21
  ![21, v2275.toNat]
def k0_mult43 (v2276 : BitVec 32) : BitVec 32 :=
  let c1512_i32_1422 : BitVec 32 := 1512#32
  let c127_i32_1414 : BitVec 32 := 127#32
  let v2277 : BitVec 32 := Scalar.andi v2276 c127_i32_1414
  let c2_i32_1419 : BitVec 32 := 2#32
  let v2282 : BitVec 32 := Scalar.subi v2277 c2_i32_1419
  let c3_i32_1420 : BitVec 32 := 3#32
  let v2283 : BitVec 32 := Scalar.shrsi v2282 c3_i32_1420
  let c3_i32_1421 : BitVec 32 := 3#32
  let v2284 : BitVec 32 := Scalar.shli v2283 c3_i32_1421
  let v2285 : BitVec 32 := Scalar.addi c1512_i32_1422 v2284
  v2285

def k0_off66 (v2276 : BitVec 32) : Fin 2 → Nat :=
  let c1512_i32_1422 : BitVec 32 := 1512#32
  let c127_i32_1414 : BitVec 32 := 127#32
  let v2277 : BitVec 32 := Scalar.andi v2276 c127_i32_1414
  let c2_i32_1419 : BitVec 32 := 2#32
  let v2282 : BitVec 32 := Scalar.subi v2277 c2_i32_1419
  let c3_i32_1420 : BitVec 32 := 3#32
  let v2283 : BitVec 32 := Scalar.shrsi v2282 c3_i32_1420
  let c3_i32_1421 : BitVec 32 := 3#32
  let v2284 : BitVec 32 := Scalar.shli v2283 c3_i32_1421
  let v2285 : BitVec 32 := Scalar.addi c1512_i32_1422 v2284
  let v2286 : BitVec 32 := v2285
  let v2287 : Index := Scalar.indexCast v2286
  let c0_1423 : Index := 0#32
  ![v2287.toNat, 0]
def k0_mult44 (v2276 : BitVec 32) : BitVec 32 :=
  let c1344_i32 : BitVec 32 := 1344#32
  let c7_i32_1415 : BitVec 32 := 7#32
  let v2278 : BitVec 32 := Scalar.shrsi v2276 c7_i32_1415
  let c127_i32_1416 : BitVec 32 := 127#32
  let v2279 : BitVec 32 := Scalar.andi v2278 c127_i32_1416
  let c3_i32_1431 : BitVec 32 := 3#32
  let v2301 : BitVec 32 := Scalar.shrsi v2279 c3_i32_1431
  let c3_i32_1432 : BitVec 32 := 3#32
  let v2302 : BitVec 32 := Scalar.shli v2301 c3_i32_1432
  let v2303 : BitVec 32 := Scalar.addi c1344_i32 v2302
  v2303
def k0_off67 (v2276 : BitVec 32) : Fin 2 → Nat :=
  let c1344_i32 : BitVec 32 := 1344#32
  let c7_i32_1415 : BitVec 32 := 7#32
  let v2278 : BitVec 32 := Scalar.shrsi v2276 c7_i32_1415
  let c127_i32_1416 : BitVec 32 := 127#32
  let v2279 : BitVec 32 := Scalar.andi v2278 c127_i32_1416
  let c3_i32_1431 : BitVec 32 := 3#32
  let v2301 : BitVec 32 := Scalar.shrsi v2279 c3_i32_1431
  let c3_i32_1432 : BitVec 32 := 3#32
  let v2302 : BitVec 32 := Scalar.shli v2301 c3_i32_1432
  let v2303 : BitVec 32 := Scalar.addi c1344_i32 v2302
  let v2304 : BitVec 32 := v2303
  let v2305 : Index := Scalar.indexCast v2304
  let c0_1433 : Index := 0#32
  ![v2305.toNat, 0]

def k0_chk22 (v2276 : BitVec 32) : Prop :=
  (8 ∣ (k0_mult43 v2276).toNat) ∧
  (∀ a, (k0_off66 v2276) a + S16x1024.size a ≤ S4608x1024.size a) ∧
  (8 ∣ (k0_mult44 v2276).toNat) ∧
  (∀ a, (k0_off67 v2276) a + S8x1024.size a ≤ S4096x1024.size a)
theorem k0_mult43_dvd : ∀ (v2276 : BitVec 32) (k0_hw22 : k0_chk22 v2276), 8 ∣ (k0_mult43 v2276).toNat := fun v2276 k0_hw22 => k0_hw22.1
theorem k0_off66_inb : ∀ (v2276 : BitVec 32) (k0_hw22 : k0_chk22 v2276), ∀ a, (k0_off66 v2276) a + S16x1024.size a ≤ S4608x1024.size a := fun v2276 k0_hw22 => k0_hw22.2.1
theorem k0_mult44_dvd : ∀ (v2276 : BitVec 32) (k0_hw22 : k0_chk22 v2276), 8 ∣ (k0_mult44 v2276).toNat := fun v2276 k0_hw22 => k0_hw22.2.2.1
theorem k0_off67_inb : ∀ (v2276 : BitVec 32) (k0_hw22 : k0_chk22 v2276), ∀ a, (k0_off67 v2276) a + S8x1024.size a ≤ S4096x1024.size a := fun v2276 k0_hw22 => k0_hw22.2.2.2

def k0_off68 (k0_t1 : Fin k0_t1_loop.trips) : Fin 2 → Nat :=
  let c22_1440 : Index := 22#32
  let c0_i32_205 : BitVec 32 := 0#32
  let c1_i32 : BitVec 32 := 1#32
  let arg21 : BitVec 32 := Scf.iv c0_i32_205 c1_i32 k0_t1
  let v2319 : Index := Scalar.indexCast arg21
  ![22, v2319.toNat]
def k0_mult45 (v2320 : BitVec 32) : BitVec 32 :=
  let c1584_i32_1449 : BitVec 32 := 1584#32
  let c127_i32_1441 : BitVec 32 := 127#32
  let v2321 : BitVec 32 := Scalar.andi v2320 c127_i32_1441
  let c2_i32_1446 : BitVec 32 := 2#32
  let v2326 : BitVec 32 := Scalar.subi v2321 c2_i32_1446
  let c3_i32_1447 : BitVec 32 := 3#32
  let v2327 : BitVec 32 := Scalar.shrsi v2326 c3_i32_1447
  let c3_i32_1448 : BitVec 32 := 3#32
  let v2328 : BitVec 32 := Scalar.shli v2327 c3_i32_1448
  let v2329 : BitVec 32 := Scalar.addi c1584_i32_1449 v2328
  v2329

def k0_off69 (v2320 : BitVec 32) : Fin 2 → Nat :=
  let c1584_i32_1449 : BitVec 32 := 1584#32
  let c127_i32_1441 : BitVec 32 := 127#32
  let v2321 : BitVec 32 := Scalar.andi v2320 c127_i32_1441
  let c2_i32_1446 : BitVec 32 := 2#32
  let v2326 : BitVec 32 := Scalar.subi v2321 c2_i32_1446
  let c3_i32_1447 : BitVec 32 := 3#32
  let v2327 : BitVec 32 := Scalar.shrsi v2326 c3_i32_1447
  let c3_i32_1448 : BitVec 32 := 3#32
  let v2328 : BitVec 32 := Scalar.shli v2327 c3_i32_1448
  let v2329 : BitVec 32 := Scalar.addi c1584_i32_1449 v2328
  let v2330 : BitVec 32 := v2329
  let v2331 : Index := Scalar.indexCast v2330
  let c0_1450 : Index := 0#32
  ![v2331.toNat, 0]
def k0_mult46 (v2320 : BitVec 32) : BitVec 32 :=
  let c1408_i32 : BitVec 32 := 1408#32
  let c7_i32_1442 : BitVec 32 := 7#32
  let v2322 : BitVec 32 := Scalar.shrsi v2320 c7_i32_1442
  let c127_i32_1443 : BitVec 32 := 127#32
  let v2323 : BitVec 32 := Scalar.andi v2322 c127_i32_1443
  let c3_i32_1458 : BitVec 32 := 3#32
  let v2345 : BitVec 32 := Scalar.shrsi v2323 c3_i32_1458
  let c3_i32_1459 : BitVec 32 := 3#32
  let v2346 : BitVec 32 := Scalar.shli v2345 c3_i32_1459
  let v2347 : BitVec 32 := Scalar.addi c1408_i32 v2346
  v2347
def k0_off70 (v2320 : BitVec 32) : Fin 2 → Nat :=
  let c1408_i32 : BitVec 32 := 1408#32
  let c7_i32_1442 : BitVec 32 := 7#32
  let v2322 : BitVec 32 := Scalar.shrsi v2320 c7_i32_1442
  let c127_i32_1443 : BitVec 32 := 127#32
  let v2323 : BitVec 32 := Scalar.andi v2322 c127_i32_1443
  let c3_i32_1458 : BitVec 32 := 3#32
  let v2345 : BitVec 32 := Scalar.shrsi v2323 c3_i32_1458
  let c3_i32_1459 : BitVec 32 := 3#32
  let v2346 : BitVec 32 := Scalar.shli v2345 c3_i32_1459
  let v2347 : BitVec 32 := Scalar.addi c1408_i32 v2346
  let v2348 : BitVec 32 := v2347
  let v2349 : Index := Scalar.indexCast v2348
  let c0_1460 : Index := 0#32
  ![v2349.toNat, 0]

def k0_chk23 (v2320 : BitVec 32) : Prop :=
  (8 ∣ (k0_mult45 v2320).toNat) ∧
  (∀ a, (k0_off69 v2320) a + S16x1024.size a ≤ S4608x1024.size a) ∧
  (8 ∣ (k0_mult46 v2320).toNat) ∧
  (∀ a, (k0_off70 v2320) a + S8x1024.size a ≤ S4096x1024.size a)
theorem k0_mult45_dvd : ∀ (v2320 : BitVec 32) (k0_hw23 : k0_chk23 v2320), 8 ∣ (k0_mult45 v2320).toNat := fun v2320 k0_hw23 => k0_hw23.1
theorem k0_off69_inb : ∀ (v2320 : BitVec 32) (k0_hw23 : k0_chk23 v2320), ∀ a, (k0_off69 v2320) a + S16x1024.size a ≤ S4608x1024.size a := fun v2320 k0_hw23 => k0_hw23.2.1
theorem k0_mult46_dvd : ∀ (v2320 : BitVec 32) (k0_hw23 : k0_chk23 v2320), 8 ∣ (k0_mult46 v2320).toNat := fun v2320 k0_hw23 => k0_hw23.2.2.1
theorem k0_off70_inb : ∀ (v2320 : BitVec 32) (k0_hw23 : k0_chk23 v2320), ∀ a, (k0_off70 v2320) a + S8x1024.size a ≤ S4096x1024.size a := fun v2320 k0_hw23 => k0_hw23.2.2.2

def k0_off71 (k0_t1 : Fin k0_t1_loop.trips) : Fin 2 → Nat :=
  let c23_1467 : Index := 23#32
  let c0_i32_205 : BitVec 32 := 0#32
  let c1_i32 : BitVec 32 := 1#32
  let arg21 : BitVec 32 := Scf.iv c0_i32_205 c1_i32 k0_t1
  let v2363 : Index := Scalar.indexCast arg21
  ![23, v2363.toNat]
def k0_mult47 (v2364 : BitVec 32) : BitVec 32 :=
  let c1656_i32_1476 : BitVec 32 := 1656#32
  let c127_i32_1468 : BitVec 32 := 127#32
  let v2365 : BitVec 32 := Scalar.andi v2364 c127_i32_1468
  let c2_i32_1473 : BitVec 32 := 2#32
  let v2370 : BitVec 32 := Scalar.subi v2365 c2_i32_1473
  let c3_i32_1474 : BitVec 32 := 3#32
  let v2371 : BitVec 32 := Scalar.shrsi v2370 c3_i32_1474
  let c3_i32_1475 : BitVec 32 := 3#32
  let v2372 : BitVec 32 := Scalar.shli v2371 c3_i32_1475
  let v2373 : BitVec 32 := Scalar.addi c1656_i32_1476 v2372
  v2373

def k0_off72 (v2364 : BitVec 32) : Fin 2 → Nat :=
  let c1656_i32_1476 : BitVec 32 := 1656#32
  let c127_i32_1468 : BitVec 32 := 127#32
  let v2365 : BitVec 32 := Scalar.andi v2364 c127_i32_1468
  let c2_i32_1473 : BitVec 32 := 2#32
  let v2370 : BitVec 32 := Scalar.subi v2365 c2_i32_1473
  let c3_i32_1474 : BitVec 32 := 3#32
  let v2371 : BitVec 32 := Scalar.shrsi v2370 c3_i32_1474
  let c3_i32_1475 : BitVec 32 := 3#32
  let v2372 : BitVec 32 := Scalar.shli v2371 c3_i32_1475
  let v2373 : BitVec 32 := Scalar.addi c1656_i32_1476 v2372
  let v2374 : BitVec 32 := v2373
  let v2375 : Index := Scalar.indexCast v2374
  let c0_1477 : Index := 0#32
  ![v2375.toNat, 0]
def k0_mult48 (v2364 : BitVec 32) : BitVec 32 :=
  let c1472_i32 : BitVec 32 := 1472#32
  let c7_i32_1469 : BitVec 32 := 7#32
  let v2366 : BitVec 32 := Scalar.shrsi v2364 c7_i32_1469
  let c127_i32_1470 : BitVec 32 := 127#32
  let v2367 : BitVec 32 := Scalar.andi v2366 c127_i32_1470
  let c3_i32_1485 : BitVec 32 := 3#32
  let v2389 : BitVec 32 := Scalar.shrsi v2367 c3_i32_1485
  let c3_i32_1486 : BitVec 32 := 3#32
  let v2390 : BitVec 32 := Scalar.shli v2389 c3_i32_1486
  let v2391 : BitVec 32 := Scalar.addi c1472_i32 v2390
  v2391
def k0_off73 (v2364 : BitVec 32) : Fin 2 → Nat :=
  let c1472_i32 : BitVec 32 := 1472#32
  let c7_i32_1469 : BitVec 32 := 7#32
  let v2366 : BitVec 32 := Scalar.shrsi v2364 c7_i32_1469
  let c127_i32_1470 : BitVec 32 := 127#32
  let v2367 : BitVec 32 := Scalar.andi v2366 c127_i32_1470
  let c3_i32_1485 : BitVec 32 := 3#32
  let v2389 : BitVec 32 := Scalar.shrsi v2367 c3_i32_1485
  let c3_i32_1486 : BitVec 32 := 3#32
  let v2390 : BitVec 32 := Scalar.shli v2389 c3_i32_1486
  let v2391 : BitVec 32 := Scalar.addi c1472_i32 v2390
  let v2392 : BitVec 32 := v2391
  let v2393 : Index := Scalar.indexCast v2392
  let c0_1487 : Index := 0#32
  ![v2393.toNat, 0]

def k0_chk24 (v2364 : BitVec 32) : Prop :=
  (8 ∣ (k0_mult47 v2364).toNat) ∧
  (∀ a, (k0_off72 v2364) a + S16x1024.size a ≤ S4608x1024.size a) ∧
  (8 ∣ (k0_mult48 v2364).toNat) ∧
  (∀ a, (k0_off73 v2364) a + S8x1024.size a ≤ S4096x1024.size a)
theorem k0_mult47_dvd : ∀ (v2364 : BitVec 32) (k0_hw24 : k0_chk24 v2364), 8 ∣ (k0_mult47 v2364).toNat := fun v2364 k0_hw24 => k0_hw24.1
theorem k0_off72_inb : ∀ (v2364 : BitVec 32) (k0_hw24 : k0_chk24 v2364), ∀ a, (k0_off72 v2364) a + S16x1024.size a ≤ S4608x1024.size a := fun v2364 k0_hw24 => k0_hw24.2.1
theorem k0_mult48_dvd : ∀ (v2364 : BitVec 32) (k0_hw24 : k0_chk24 v2364), 8 ∣ (k0_mult48 v2364).toNat := fun v2364 k0_hw24 => k0_hw24.2.2.1
theorem k0_off73_inb : ∀ (v2364 : BitVec 32) (k0_hw24 : k0_chk24 v2364), ∀ a, (k0_off73 v2364) a + S8x1024.size a ≤ S4096x1024.size a := fun v2364 k0_hw24 => k0_hw24.2.2.2

def k0_off74 (k0_t1 : Fin k0_t1_loop.trips) : Fin 2 → Nat :=
  let c24_1494 : Index := 24#32
  let c0_i32_205 : BitVec 32 := 0#32
  let c1_i32 : BitVec 32 := 1#32
  let arg21 : BitVec 32 := Scf.iv c0_i32_205 c1_i32 k0_t1
  let v2407 : Index := Scalar.indexCast arg21
  ![24, v2407.toNat]
def k0_mult49 (v2408 : BitVec 32) : BitVec 32 :=
  let c1728_i32_1503 : BitVec 32 := 1728#32
  let c127_i32_1495 : BitVec 32 := 127#32
  let v2409 : BitVec 32 := Scalar.andi v2408 c127_i32_1495
  let c2_i32_1500 : BitVec 32 := 2#32
  let v2414 : BitVec 32 := Scalar.subi v2409 c2_i32_1500
  let c3_i32_1501 : BitVec 32 := 3#32
  let v2415 : BitVec 32 := Scalar.shrsi v2414 c3_i32_1501
  let c3_i32_1502 : BitVec 32 := 3#32
  let v2416 : BitVec 32 := Scalar.shli v2415 c3_i32_1502
  let v2417 : BitVec 32 := Scalar.addi c1728_i32_1503 v2416
  v2417

def k0_off75 (v2408 : BitVec 32) : Fin 2 → Nat :=
  let c1728_i32_1503 : BitVec 32 := 1728#32
  let c127_i32_1495 : BitVec 32 := 127#32
  let v2409 : BitVec 32 := Scalar.andi v2408 c127_i32_1495
  let c2_i32_1500 : BitVec 32 := 2#32
  let v2414 : BitVec 32 := Scalar.subi v2409 c2_i32_1500
  let c3_i32_1501 : BitVec 32 := 3#32
  let v2415 : BitVec 32 := Scalar.shrsi v2414 c3_i32_1501
  let c3_i32_1502 : BitVec 32 := 3#32
  let v2416 : BitVec 32 := Scalar.shli v2415 c3_i32_1502
  let v2417 : BitVec 32 := Scalar.addi c1728_i32_1503 v2416
  let v2418 : BitVec 32 := v2417
  let v2419 : Index := Scalar.indexCast v2418
  let c0_1504 : Index := 0#32
  ![v2419.toNat, 0]
def k0_mult50 (v2408 : BitVec 32) : BitVec 32 :=
  let c1536_i32 : BitVec 32 := 1536#32
  let c7_i32_1496 : BitVec 32 := 7#32
  let v2410 : BitVec 32 := Scalar.shrsi v2408 c7_i32_1496
  let c127_i32_1497 : BitVec 32 := 127#32
  let v2411 : BitVec 32 := Scalar.andi v2410 c127_i32_1497
  let c3_i32_1512 : BitVec 32 := 3#32
  let v2433 : BitVec 32 := Scalar.shrsi v2411 c3_i32_1512
  let c3_i32_1513 : BitVec 32 := 3#32
  let v2434 : BitVec 32 := Scalar.shli v2433 c3_i32_1513
  let v2435 : BitVec 32 := Scalar.addi c1536_i32 v2434
  v2435
def k0_off76 (v2408 : BitVec 32) : Fin 2 → Nat :=
  let c1536_i32 : BitVec 32 := 1536#32
  let c7_i32_1496 : BitVec 32 := 7#32
  let v2410 : BitVec 32 := Scalar.shrsi v2408 c7_i32_1496
  let c127_i32_1497 : BitVec 32 := 127#32
  let v2411 : BitVec 32 := Scalar.andi v2410 c127_i32_1497
  let c3_i32_1512 : BitVec 32 := 3#32
  let v2433 : BitVec 32 := Scalar.shrsi v2411 c3_i32_1512
  let c3_i32_1513 : BitVec 32 := 3#32
  let v2434 : BitVec 32 := Scalar.shli v2433 c3_i32_1513
  let v2435 : BitVec 32 := Scalar.addi c1536_i32 v2434
  let v2436 : BitVec 32 := v2435
  let v2437 : Index := Scalar.indexCast v2436
  let c0_1514 : Index := 0#32
  ![v2437.toNat, 0]

def k0_chk25 (v2408 : BitVec 32) : Prop :=
  (8 ∣ (k0_mult49 v2408).toNat) ∧
  (∀ a, (k0_off75 v2408) a + S16x1024.size a ≤ S4608x1024.size a) ∧
  (8 ∣ (k0_mult50 v2408).toNat) ∧
  (∀ a, (k0_off76 v2408) a + S8x1024.size a ≤ S4096x1024.size a)
theorem k0_mult49_dvd : ∀ (v2408 : BitVec 32) (k0_hw25 : k0_chk25 v2408), 8 ∣ (k0_mult49 v2408).toNat := fun v2408 k0_hw25 => k0_hw25.1
theorem k0_off75_inb : ∀ (v2408 : BitVec 32) (k0_hw25 : k0_chk25 v2408), ∀ a, (k0_off75 v2408) a + S16x1024.size a ≤ S4608x1024.size a := fun v2408 k0_hw25 => k0_hw25.2.1
theorem k0_mult50_dvd : ∀ (v2408 : BitVec 32) (k0_hw25 : k0_chk25 v2408), 8 ∣ (k0_mult50 v2408).toNat := fun v2408 k0_hw25 => k0_hw25.2.2.1
theorem k0_off76_inb : ∀ (v2408 : BitVec 32) (k0_hw25 : k0_chk25 v2408), ∀ a, (k0_off76 v2408) a + S8x1024.size a ≤ S4096x1024.size a := fun v2408 k0_hw25 => k0_hw25.2.2.2

def k0_off77 (k0_t1 : Fin k0_t1_loop.trips) : Fin 2 → Nat :=
  let c25_1521 : Index := 25#32
  let c0_i32_205 : BitVec 32 := 0#32
  let c1_i32 : BitVec 32 := 1#32
  let arg21 : BitVec 32 := Scf.iv c0_i32_205 c1_i32 k0_t1
  let v2451 : Index := Scalar.indexCast arg21
  ![25, v2451.toNat]
def k0_mult51 (v2452 : BitVec 32) : BitVec 32 :=
  let c1800_i32_1530 : BitVec 32 := 1800#32
  let c127_i32_1522 : BitVec 32 := 127#32
  let v2453 : BitVec 32 := Scalar.andi v2452 c127_i32_1522
  let c2_i32_1527 : BitVec 32 := 2#32
  let v2458 : BitVec 32 := Scalar.subi v2453 c2_i32_1527
  let c3_i32_1528 : BitVec 32 := 3#32
  let v2459 : BitVec 32 := Scalar.shrsi v2458 c3_i32_1528
  let c3_i32_1529 : BitVec 32 := 3#32
  let v2460 : BitVec 32 := Scalar.shli v2459 c3_i32_1529
  let v2461 : BitVec 32 := Scalar.addi c1800_i32_1530 v2460
  v2461

def k0_off78 (v2452 : BitVec 32) : Fin 2 → Nat :=
  let c1800_i32_1530 : BitVec 32 := 1800#32
  let c127_i32_1522 : BitVec 32 := 127#32
  let v2453 : BitVec 32 := Scalar.andi v2452 c127_i32_1522
  let c2_i32_1527 : BitVec 32 := 2#32
  let v2458 : BitVec 32 := Scalar.subi v2453 c2_i32_1527
  let c3_i32_1528 : BitVec 32 := 3#32
  let v2459 : BitVec 32 := Scalar.shrsi v2458 c3_i32_1528
  let c3_i32_1529 : BitVec 32 := 3#32
  let v2460 : BitVec 32 := Scalar.shli v2459 c3_i32_1529
  let v2461 : BitVec 32 := Scalar.addi c1800_i32_1530 v2460
  let v2462 : BitVec 32 := v2461
  let v2463 : Index := Scalar.indexCast v2462
  let c0_1531 : Index := 0#32
  ![v2463.toNat, 0]
def k0_mult52 (v2452 : BitVec 32) : BitVec 32 :=
  let c1600_i32 : BitVec 32 := 1600#32
  let c7_i32_1523 : BitVec 32 := 7#32
  let v2454 : BitVec 32 := Scalar.shrsi v2452 c7_i32_1523
  let c127_i32_1524 : BitVec 32 := 127#32
  let v2455 : BitVec 32 := Scalar.andi v2454 c127_i32_1524
  let c3_i32_1539 : BitVec 32 := 3#32
  let v2477 : BitVec 32 := Scalar.shrsi v2455 c3_i32_1539
  let c3_i32_1540 : BitVec 32 := 3#32
  let v2478 : BitVec 32 := Scalar.shli v2477 c3_i32_1540
  let v2479 : BitVec 32 := Scalar.addi c1600_i32 v2478
  v2479
def k0_off79 (v2452 : BitVec 32) : Fin 2 → Nat :=
  let c1600_i32 : BitVec 32 := 1600#32
  let c7_i32_1523 : BitVec 32 := 7#32
  let v2454 : BitVec 32 := Scalar.shrsi v2452 c7_i32_1523
  let c127_i32_1524 : BitVec 32 := 127#32
  let v2455 : BitVec 32 := Scalar.andi v2454 c127_i32_1524
  let c3_i32_1539 : BitVec 32 := 3#32
  let v2477 : BitVec 32 := Scalar.shrsi v2455 c3_i32_1539
  let c3_i32_1540 : BitVec 32 := 3#32
  let v2478 : BitVec 32 := Scalar.shli v2477 c3_i32_1540
  let v2479 : BitVec 32 := Scalar.addi c1600_i32 v2478
  let v2480 : BitVec 32 := v2479
  let v2481 : Index := Scalar.indexCast v2480
  let c0_1541 : Index := 0#32
  ![v2481.toNat, 0]

def k0_chk26 (v2452 : BitVec 32) : Prop :=
  (8 ∣ (k0_mult51 v2452).toNat) ∧
  (∀ a, (k0_off78 v2452) a + S16x1024.size a ≤ S4608x1024.size a) ∧
  (8 ∣ (k0_mult52 v2452).toNat) ∧
  (∀ a, (k0_off79 v2452) a + S8x1024.size a ≤ S4096x1024.size a)
theorem k0_mult51_dvd : ∀ (v2452 : BitVec 32) (k0_hw26 : k0_chk26 v2452), 8 ∣ (k0_mult51 v2452).toNat := fun v2452 k0_hw26 => k0_hw26.1
theorem k0_off78_inb : ∀ (v2452 : BitVec 32) (k0_hw26 : k0_chk26 v2452), ∀ a, (k0_off78 v2452) a + S16x1024.size a ≤ S4608x1024.size a := fun v2452 k0_hw26 => k0_hw26.2.1
theorem k0_mult52_dvd : ∀ (v2452 : BitVec 32) (k0_hw26 : k0_chk26 v2452), 8 ∣ (k0_mult52 v2452).toNat := fun v2452 k0_hw26 => k0_hw26.2.2.1
theorem k0_off79_inb : ∀ (v2452 : BitVec 32) (k0_hw26 : k0_chk26 v2452), ∀ a, (k0_off79 v2452) a + S8x1024.size a ≤ S4096x1024.size a := fun v2452 k0_hw26 => k0_hw26.2.2.2

def k0_off80 (k0_t1 : Fin k0_t1_loop.trips) : Fin 2 → Nat :=
  let c26_1548 : Index := 26#32
  let c0_i32_205 : BitVec 32 := 0#32
  let c1_i32 : BitVec 32 := 1#32
  let arg21 : BitVec 32 := Scf.iv c0_i32_205 c1_i32 k0_t1
  let v2495 : Index := Scalar.indexCast arg21
  ![26, v2495.toNat]
def k0_mult53 (v2496 : BitVec 32) : BitVec 32 :=
  let c1872_i32_1557 : BitVec 32 := 1872#32
  let c127_i32_1549 : BitVec 32 := 127#32
  let v2497 : BitVec 32 := Scalar.andi v2496 c127_i32_1549
  let c2_i32_1554 : BitVec 32 := 2#32
  let v2502 : BitVec 32 := Scalar.subi v2497 c2_i32_1554
  let c3_i32_1555 : BitVec 32 := 3#32
  let v2503 : BitVec 32 := Scalar.shrsi v2502 c3_i32_1555
  let c3_i32_1556 : BitVec 32 := 3#32
  let v2504 : BitVec 32 := Scalar.shli v2503 c3_i32_1556
  let v2505 : BitVec 32 := Scalar.addi c1872_i32_1557 v2504
  v2505

def k0_off81 (v2496 : BitVec 32) : Fin 2 → Nat :=
  let c1872_i32_1557 : BitVec 32 := 1872#32
  let c127_i32_1549 : BitVec 32 := 127#32
  let v2497 : BitVec 32 := Scalar.andi v2496 c127_i32_1549
  let c2_i32_1554 : BitVec 32 := 2#32
  let v2502 : BitVec 32 := Scalar.subi v2497 c2_i32_1554
  let c3_i32_1555 : BitVec 32 := 3#32
  let v2503 : BitVec 32 := Scalar.shrsi v2502 c3_i32_1555
  let c3_i32_1556 : BitVec 32 := 3#32
  let v2504 : BitVec 32 := Scalar.shli v2503 c3_i32_1556
  let v2505 : BitVec 32 := Scalar.addi c1872_i32_1557 v2504
  let v2506 : BitVec 32 := v2505
  let v2507 : Index := Scalar.indexCast v2506
  let c0_1558 : Index := 0#32
  ![v2507.toNat, 0]
def k0_mult54 (v2496 : BitVec 32) : BitVec 32 :=
  let c1664_i32 : BitVec 32 := 1664#32
  let c7_i32_1550 : BitVec 32 := 7#32
  let v2498 : BitVec 32 := Scalar.shrsi v2496 c7_i32_1550
  let c127_i32_1551 : BitVec 32 := 127#32
  let v2499 : BitVec 32 := Scalar.andi v2498 c127_i32_1551
  let c3_i32_1566 : BitVec 32 := 3#32
  let v2521 : BitVec 32 := Scalar.shrsi v2499 c3_i32_1566
  let c3_i32_1567 : BitVec 32 := 3#32
  let v2522 : BitVec 32 := Scalar.shli v2521 c3_i32_1567
  let v2523 : BitVec 32 := Scalar.addi c1664_i32 v2522
  v2523
def k0_off82 (v2496 : BitVec 32) : Fin 2 → Nat :=
  let c1664_i32 : BitVec 32 := 1664#32
  let c7_i32_1550 : BitVec 32 := 7#32
  let v2498 : BitVec 32 := Scalar.shrsi v2496 c7_i32_1550
  let c127_i32_1551 : BitVec 32 := 127#32
  let v2499 : BitVec 32 := Scalar.andi v2498 c127_i32_1551
  let c3_i32_1566 : BitVec 32 := 3#32
  let v2521 : BitVec 32 := Scalar.shrsi v2499 c3_i32_1566
  let c3_i32_1567 : BitVec 32 := 3#32
  let v2522 : BitVec 32 := Scalar.shli v2521 c3_i32_1567
  let v2523 : BitVec 32 := Scalar.addi c1664_i32 v2522
  let v2524 : BitVec 32 := v2523
  let v2525 : Index := Scalar.indexCast v2524
  let c0_1568 : Index := 0#32
  ![v2525.toNat, 0]

def k0_chk27 (v2496 : BitVec 32) : Prop :=
  (8 ∣ (k0_mult53 v2496).toNat) ∧
  (∀ a, (k0_off81 v2496) a + S16x1024.size a ≤ S4608x1024.size a) ∧
  (8 ∣ (k0_mult54 v2496).toNat) ∧
  (∀ a, (k0_off82 v2496) a + S8x1024.size a ≤ S4096x1024.size a)
theorem k0_mult53_dvd : ∀ (v2496 : BitVec 32) (k0_hw27 : k0_chk27 v2496), 8 ∣ (k0_mult53 v2496).toNat := fun v2496 k0_hw27 => k0_hw27.1
theorem k0_off81_inb : ∀ (v2496 : BitVec 32) (k0_hw27 : k0_chk27 v2496), ∀ a, (k0_off81 v2496) a + S16x1024.size a ≤ S4608x1024.size a := fun v2496 k0_hw27 => k0_hw27.2.1
theorem k0_mult54_dvd : ∀ (v2496 : BitVec 32) (k0_hw27 : k0_chk27 v2496), 8 ∣ (k0_mult54 v2496).toNat := fun v2496 k0_hw27 => k0_hw27.2.2.1
theorem k0_off82_inb : ∀ (v2496 : BitVec 32) (k0_hw27 : k0_chk27 v2496), ∀ a, (k0_off82 v2496) a + S8x1024.size a ≤ S4096x1024.size a := fun v2496 k0_hw27 => k0_hw27.2.2.2

def k0_off83 (k0_t1 : Fin k0_t1_loop.trips) : Fin 2 → Nat :=
  let c27_1575 : Index := 27#32
  let c0_i32_205 : BitVec 32 := 0#32
  let c1_i32 : BitVec 32 := 1#32
  let arg21 : BitVec 32 := Scf.iv c0_i32_205 c1_i32 k0_t1
  let v2539 : Index := Scalar.indexCast arg21
  ![27, v2539.toNat]
def k0_mult55 (v2540 : BitVec 32) : BitVec 32 :=
  let c1944_i32_1584 : BitVec 32 := 1944#32
  let c127_i32_1576 : BitVec 32 := 127#32
  let v2541 : BitVec 32 := Scalar.andi v2540 c127_i32_1576
  let c2_i32_1581 : BitVec 32 := 2#32
  let v2546 : BitVec 32 := Scalar.subi v2541 c2_i32_1581
  let c3_i32_1582 : BitVec 32 := 3#32
  let v2547 : BitVec 32 := Scalar.shrsi v2546 c3_i32_1582
  let c3_i32_1583 : BitVec 32 := 3#32
  let v2548 : BitVec 32 := Scalar.shli v2547 c3_i32_1583
  let v2549 : BitVec 32 := Scalar.addi c1944_i32_1584 v2548
  v2549

def k0_off84 (v2540 : BitVec 32) : Fin 2 → Nat :=
  let c1944_i32_1584 : BitVec 32 := 1944#32
  let c127_i32_1576 : BitVec 32 := 127#32
  let v2541 : BitVec 32 := Scalar.andi v2540 c127_i32_1576
  let c2_i32_1581 : BitVec 32 := 2#32
  let v2546 : BitVec 32 := Scalar.subi v2541 c2_i32_1581
  let c3_i32_1582 : BitVec 32 := 3#32
  let v2547 : BitVec 32 := Scalar.shrsi v2546 c3_i32_1582
  let c3_i32_1583 : BitVec 32 := 3#32
  let v2548 : BitVec 32 := Scalar.shli v2547 c3_i32_1583
  let v2549 : BitVec 32 := Scalar.addi c1944_i32_1584 v2548
  let v2550 : BitVec 32 := v2549
  let v2551 : Index := Scalar.indexCast v2550
  let c0_1585 : Index := 0#32
  ![v2551.toNat, 0]
def k0_mult56 (v2540 : BitVec 32) : BitVec 32 :=
  let c1728_i32_1595 : BitVec 32 := 1728#32
  let c7_i32_1577 : BitVec 32 := 7#32
  let v2542 : BitVec 32 := Scalar.shrsi v2540 c7_i32_1577
  let c127_i32_1578 : BitVec 32 := 127#32
  let v2543 : BitVec 32 := Scalar.andi v2542 c127_i32_1578
  let c3_i32_1593 : BitVec 32 := 3#32
  let v2565 : BitVec 32 := Scalar.shrsi v2543 c3_i32_1593
  let c3_i32_1594 : BitVec 32 := 3#32
  let v2566 : BitVec 32 := Scalar.shli v2565 c3_i32_1594
  let v2567 : BitVec 32 := Scalar.addi c1728_i32_1595 v2566
  v2567
def k0_off85 (v2540 : BitVec 32) : Fin 2 → Nat :=
  let c1728_i32_1595 : BitVec 32 := 1728#32
  let c7_i32_1577 : BitVec 32 := 7#32
  let v2542 : BitVec 32 := Scalar.shrsi v2540 c7_i32_1577
  let c127_i32_1578 : BitVec 32 := 127#32
  let v2543 : BitVec 32 := Scalar.andi v2542 c127_i32_1578
  let c3_i32_1593 : BitVec 32 := 3#32
  let v2565 : BitVec 32 := Scalar.shrsi v2543 c3_i32_1593
  let c3_i32_1594 : BitVec 32 := 3#32
  let v2566 : BitVec 32 := Scalar.shli v2565 c3_i32_1594
  let v2567 : BitVec 32 := Scalar.addi c1728_i32_1595 v2566
  let v2568 : BitVec 32 := v2567
  let v2569 : Index := Scalar.indexCast v2568
  let c0_1596 : Index := 0#32
  ![v2569.toNat, 0]

def k0_chk28 (v2540 : BitVec 32) : Prop :=
  (8 ∣ (k0_mult55 v2540).toNat) ∧
  (∀ a, (k0_off84 v2540) a + S16x1024.size a ≤ S4608x1024.size a) ∧
  (8 ∣ (k0_mult56 v2540).toNat) ∧
  (∀ a, (k0_off85 v2540) a + S8x1024.size a ≤ S4096x1024.size a)
theorem k0_mult55_dvd : ∀ (v2540 : BitVec 32) (k0_hw28 : k0_chk28 v2540), 8 ∣ (k0_mult55 v2540).toNat := fun v2540 k0_hw28 => k0_hw28.1
theorem k0_off84_inb : ∀ (v2540 : BitVec 32) (k0_hw28 : k0_chk28 v2540), ∀ a, (k0_off84 v2540) a + S16x1024.size a ≤ S4608x1024.size a := fun v2540 k0_hw28 => k0_hw28.2.1
theorem k0_mult56_dvd : ∀ (v2540 : BitVec 32) (k0_hw28 : k0_chk28 v2540), 8 ∣ (k0_mult56 v2540).toNat := fun v2540 k0_hw28 => k0_hw28.2.2.1
theorem k0_off85_inb : ∀ (v2540 : BitVec 32) (k0_hw28 : k0_chk28 v2540), ∀ a, (k0_off85 v2540) a + S8x1024.size a ≤ S4096x1024.size a := fun v2540 k0_hw28 => k0_hw28.2.2.2

def k0_off86 (k0_t1 : Fin k0_t1_loop.trips) : Fin 2 → Nat :=
  let c28_1603 : Index := 28#32
  let c0_i32_205 : BitVec 32 := 0#32
  let c1_i32 : BitVec 32 := 1#32
  let arg21 : BitVec 32 := Scf.iv c0_i32_205 c1_i32 k0_t1
  let v2583 : Index := Scalar.indexCast arg21
  ![28, v2583.toNat]
def k0_mult57 (v2584 : BitVec 32) : BitVec 32 :=
  let c2016_i32_1612 : BitVec 32 := 2016#32
  let c127_i32_1604 : BitVec 32 := 127#32
  let v2585 : BitVec 32 := Scalar.andi v2584 c127_i32_1604
  let c2_i32_1609 : BitVec 32 := 2#32
  let v2590 : BitVec 32 := Scalar.subi v2585 c2_i32_1609
  let c3_i32_1610 : BitVec 32 := 3#32
  let v2591 : BitVec 32 := Scalar.shrsi v2590 c3_i32_1610
  let c3_i32_1611 : BitVec 32 := 3#32
  let v2592 : BitVec 32 := Scalar.shli v2591 c3_i32_1611
  let v2593 : BitVec 32 := Scalar.addi c2016_i32_1612 v2592
  v2593

def k0_off87 (v2584 : BitVec 32) : Fin 2 → Nat :=
  let c2016_i32_1612 : BitVec 32 := 2016#32
  let c127_i32_1604 : BitVec 32 := 127#32
  let v2585 : BitVec 32 := Scalar.andi v2584 c127_i32_1604
  let c2_i32_1609 : BitVec 32 := 2#32
  let v2590 : BitVec 32 := Scalar.subi v2585 c2_i32_1609
  let c3_i32_1610 : BitVec 32 := 3#32
  let v2591 : BitVec 32 := Scalar.shrsi v2590 c3_i32_1610
  let c3_i32_1611 : BitVec 32 := 3#32
  let v2592 : BitVec 32 := Scalar.shli v2591 c3_i32_1611
  let v2593 : BitVec 32 := Scalar.addi c2016_i32_1612 v2592
  let v2594 : BitVec 32 := v2593
  let v2595 : Index := Scalar.indexCast v2594
  let c0_1613 : Index := 0#32
  ![v2595.toNat, 0]
def k0_mult58 (v2584 : BitVec 32) : BitVec 32 :=
  let c1792_i32 : BitVec 32 := 1792#32
  let c7_i32_1605 : BitVec 32 := 7#32
  let v2586 : BitVec 32 := Scalar.shrsi v2584 c7_i32_1605
  let c127_i32_1606 : BitVec 32 := 127#32
  let v2587 : BitVec 32 := Scalar.andi v2586 c127_i32_1606
  let c3_i32_1621 : BitVec 32 := 3#32
  let v2609 : BitVec 32 := Scalar.shrsi v2587 c3_i32_1621
  let c3_i32_1622 : BitVec 32 := 3#32
  let v2610 : BitVec 32 := Scalar.shli v2609 c3_i32_1622
  let v2611 : BitVec 32 := Scalar.addi c1792_i32 v2610
  v2611
def k0_off88 (v2584 : BitVec 32) : Fin 2 → Nat :=
  let c1792_i32 : BitVec 32 := 1792#32
  let c7_i32_1605 : BitVec 32 := 7#32
  let v2586 : BitVec 32 := Scalar.shrsi v2584 c7_i32_1605
  let c127_i32_1606 : BitVec 32 := 127#32
  let v2587 : BitVec 32 := Scalar.andi v2586 c127_i32_1606
  let c3_i32_1621 : BitVec 32 := 3#32
  let v2609 : BitVec 32 := Scalar.shrsi v2587 c3_i32_1621
  let c3_i32_1622 : BitVec 32 := 3#32
  let v2610 : BitVec 32 := Scalar.shli v2609 c3_i32_1622
  let v2611 : BitVec 32 := Scalar.addi c1792_i32 v2610
  let v2612 : BitVec 32 := v2611
  let v2613 : Index := Scalar.indexCast v2612
  let c0_1623 : Index := 0#32
  ![v2613.toNat, 0]

def k0_chk29 (v2584 : BitVec 32) : Prop :=
  (8 ∣ (k0_mult57 v2584).toNat) ∧
  (∀ a, (k0_off87 v2584) a + S16x1024.size a ≤ S4608x1024.size a) ∧
  (8 ∣ (k0_mult58 v2584).toNat) ∧
  (∀ a, (k0_off88 v2584) a + S8x1024.size a ≤ S4096x1024.size a)
theorem k0_mult57_dvd : ∀ (v2584 : BitVec 32) (k0_hw29 : k0_chk29 v2584), 8 ∣ (k0_mult57 v2584).toNat := fun v2584 k0_hw29 => k0_hw29.1
theorem k0_off87_inb : ∀ (v2584 : BitVec 32) (k0_hw29 : k0_chk29 v2584), ∀ a, (k0_off87 v2584) a + S16x1024.size a ≤ S4608x1024.size a := fun v2584 k0_hw29 => k0_hw29.2.1
theorem k0_mult58_dvd : ∀ (v2584 : BitVec 32) (k0_hw29 : k0_chk29 v2584), 8 ∣ (k0_mult58 v2584).toNat := fun v2584 k0_hw29 => k0_hw29.2.2.1
theorem k0_off88_inb : ∀ (v2584 : BitVec 32) (k0_hw29 : k0_chk29 v2584), ∀ a, (k0_off88 v2584) a + S8x1024.size a ≤ S4096x1024.size a := fun v2584 k0_hw29 => k0_hw29.2.2.2

def k0_off89 (k0_t1 : Fin k0_t1_loop.trips) : Fin 2 → Nat :=
  let c29_1630 : Index := 29#32
  let c0_i32_205 : BitVec 32 := 0#32
  let c1_i32 : BitVec 32 := 1#32
  let arg21 : BitVec 32 := Scf.iv c0_i32_205 c1_i32 k0_t1
  let v2627 : Index := Scalar.indexCast arg21
  ![29, v2627.toNat]
def k0_mult59 (v2628 : BitVec 32) : BitVec 32 :=
  let c2088_i32_1639 : BitVec 32 := 2088#32
  let c127_i32_1631 : BitVec 32 := 127#32
  let v2629 : BitVec 32 := Scalar.andi v2628 c127_i32_1631
  let c2_i32_1636 : BitVec 32 := 2#32
  let v2634 : BitVec 32 := Scalar.subi v2629 c2_i32_1636
  let c3_i32_1637 : BitVec 32 := 3#32
  let v2635 : BitVec 32 := Scalar.shrsi v2634 c3_i32_1637
  let c3_i32_1638 : BitVec 32 := 3#32
  let v2636 : BitVec 32 := Scalar.shli v2635 c3_i32_1638
  let v2637 : BitVec 32 := Scalar.addi c2088_i32_1639 v2636
  v2637

def k0_off90 (v2628 : BitVec 32) : Fin 2 → Nat :=
  let c2088_i32_1639 : BitVec 32 := 2088#32
  let c127_i32_1631 : BitVec 32 := 127#32
  let v2629 : BitVec 32 := Scalar.andi v2628 c127_i32_1631
  let c2_i32_1636 : BitVec 32 := 2#32
  let v2634 : BitVec 32 := Scalar.subi v2629 c2_i32_1636
  let c3_i32_1637 : BitVec 32 := 3#32
  let v2635 : BitVec 32 := Scalar.shrsi v2634 c3_i32_1637
  let c3_i32_1638 : BitVec 32 := 3#32
  let v2636 : BitVec 32 := Scalar.shli v2635 c3_i32_1638
  let v2637 : BitVec 32 := Scalar.addi c2088_i32_1639 v2636
  let v2638 : BitVec 32 := v2637
  let v2639 : Index := Scalar.indexCast v2638
  let c0_1640 : Index := 0#32
  ![v2639.toNat, 0]
def k0_mult60 (v2628 : BitVec 32) : BitVec 32 :=
  let c1856_i32 : BitVec 32 := 1856#32
  let c7_i32_1632 : BitVec 32 := 7#32
  let v2630 : BitVec 32 := Scalar.shrsi v2628 c7_i32_1632
  let c127_i32_1633 : BitVec 32 := 127#32
  let v2631 : BitVec 32 := Scalar.andi v2630 c127_i32_1633
  let c3_i32_1648 : BitVec 32 := 3#32
  let v2653 : BitVec 32 := Scalar.shrsi v2631 c3_i32_1648
  let c3_i32_1649 : BitVec 32 := 3#32
  let v2654 : BitVec 32 := Scalar.shli v2653 c3_i32_1649
  let v2655 : BitVec 32 := Scalar.addi c1856_i32 v2654
  v2655
def k0_off91 (v2628 : BitVec 32) : Fin 2 → Nat :=
  let c1856_i32 : BitVec 32 := 1856#32
  let c7_i32_1632 : BitVec 32 := 7#32
  let v2630 : BitVec 32 := Scalar.shrsi v2628 c7_i32_1632
  let c127_i32_1633 : BitVec 32 := 127#32
  let v2631 : BitVec 32 := Scalar.andi v2630 c127_i32_1633
  let c3_i32_1648 : BitVec 32 := 3#32
  let v2653 : BitVec 32 := Scalar.shrsi v2631 c3_i32_1648
  let c3_i32_1649 : BitVec 32 := 3#32
  let v2654 : BitVec 32 := Scalar.shli v2653 c3_i32_1649
  let v2655 : BitVec 32 := Scalar.addi c1856_i32 v2654
  let v2656 : BitVec 32 := v2655
  let v2657 : Index := Scalar.indexCast v2656
  let c0_1650 : Index := 0#32
  ![v2657.toNat, 0]

def k0_chk30 (v2628 : BitVec 32) : Prop :=
  (8 ∣ (k0_mult59 v2628).toNat) ∧
  (∀ a, (k0_off90 v2628) a + S16x1024.size a ≤ S4608x1024.size a) ∧
  (8 ∣ (k0_mult60 v2628).toNat) ∧
  (∀ a, (k0_off91 v2628) a + S8x1024.size a ≤ S4096x1024.size a)
theorem k0_mult59_dvd : ∀ (v2628 : BitVec 32) (k0_hw30 : k0_chk30 v2628), 8 ∣ (k0_mult59 v2628).toNat := fun v2628 k0_hw30 => k0_hw30.1
theorem k0_off90_inb : ∀ (v2628 : BitVec 32) (k0_hw30 : k0_chk30 v2628), ∀ a, (k0_off90 v2628) a + S16x1024.size a ≤ S4608x1024.size a := fun v2628 k0_hw30 => k0_hw30.2.1
theorem k0_mult60_dvd : ∀ (v2628 : BitVec 32) (k0_hw30 : k0_chk30 v2628), 8 ∣ (k0_mult60 v2628).toNat := fun v2628 k0_hw30 => k0_hw30.2.2.1
theorem k0_off91_inb : ∀ (v2628 : BitVec 32) (k0_hw30 : k0_chk30 v2628), ∀ a, (k0_off91 v2628) a + S8x1024.size a ≤ S4096x1024.size a := fun v2628 k0_hw30 => k0_hw30.2.2.2

def k0_off92 (k0_t1 : Fin k0_t1_loop.trips) : Fin 2 → Nat :=
  let c30_1657 : Index := 30#32
  let c0_i32_205 : BitVec 32 := 0#32
  let c1_i32 : BitVec 32 := 1#32
  let arg21 : BitVec 32 := Scf.iv c0_i32_205 c1_i32 k0_t1
  let v2671 : Index := Scalar.indexCast arg21
  ![30, v2671.toNat]
def k0_mult61 (v2672 : BitVec 32) : BitVec 32 :=
  let c2160_i32_1666 : BitVec 32 := 2160#32
  let c127_i32_1658 : BitVec 32 := 127#32
  let v2673 : BitVec 32 := Scalar.andi v2672 c127_i32_1658
  let c2_i32_1663 : BitVec 32 := 2#32
  let v2678 : BitVec 32 := Scalar.subi v2673 c2_i32_1663
  let c3_i32_1664 : BitVec 32 := 3#32
  let v2679 : BitVec 32 := Scalar.shrsi v2678 c3_i32_1664
  let c3_i32_1665 : BitVec 32 := 3#32
  let v2680 : BitVec 32 := Scalar.shli v2679 c3_i32_1665
  let v2681 : BitVec 32 := Scalar.addi c2160_i32_1666 v2680
  v2681

def k0_off93 (v2672 : BitVec 32) : Fin 2 → Nat :=
  let c2160_i32_1666 : BitVec 32 := 2160#32
  let c127_i32_1658 : BitVec 32 := 127#32
  let v2673 : BitVec 32 := Scalar.andi v2672 c127_i32_1658
  let c2_i32_1663 : BitVec 32 := 2#32
  let v2678 : BitVec 32 := Scalar.subi v2673 c2_i32_1663
  let c3_i32_1664 : BitVec 32 := 3#32
  let v2679 : BitVec 32 := Scalar.shrsi v2678 c3_i32_1664
  let c3_i32_1665 : BitVec 32 := 3#32
  let v2680 : BitVec 32 := Scalar.shli v2679 c3_i32_1665
  let v2681 : BitVec 32 := Scalar.addi c2160_i32_1666 v2680
  let v2682 : BitVec 32 := v2681
  let v2683 : Index := Scalar.indexCast v2682
  let c0_1667 : Index := 0#32
  ![v2683.toNat, 0]
def k0_mult62 (v2672 : BitVec 32) : BitVec 32 :=
  let c1920_i32 : BitVec 32 := 1920#32
  let c7_i32_1659 : BitVec 32 := 7#32
  let v2674 : BitVec 32 := Scalar.shrsi v2672 c7_i32_1659
  let c127_i32_1660 : BitVec 32 := 127#32
  let v2675 : BitVec 32 := Scalar.andi v2674 c127_i32_1660
  let c3_i32_1675 : BitVec 32 := 3#32
  let v2697 : BitVec 32 := Scalar.shrsi v2675 c3_i32_1675
  let c3_i32_1676 : BitVec 32 := 3#32
  let v2698 : BitVec 32 := Scalar.shli v2697 c3_i32_1676
  let v2699 : BitVec 32 := Scalar.addi c1920_i32 v2698
  v2699
def k0_off94 (v2672 : BitVec 32) : Fin 2 → Nat :=
  let c1920_i32 : BitVec 32 := 1920#32
  let c7_i32_1659 : BitVec 32 := 7#32
  let v2674 : BitVec 32 := Scalar.shrsi v2672 c7_i32_1659
  let c127_i32_1660 : BitVec 32 := 127#32
  let v2675 : BitVec 32 := Scalar.andi v2674 c127_i32_1660
  let c3_i32_1675 : BitVec 32 := 3#32
  let v2697 : BitVec 32 := Scalar.shrsi v2675 c3_i32_1675
  let c3_i32_1676 : BitVec 32 := 3#32
  let v2698 : BitVec 32 := Scalar.shli v2697 c3_i32_1676
  let v2699 : BitVec 32 := Scalar.addi c1920_i32 v2698
  let v2700 : BitVec 32 := v2699
  let v2701 : Index := Scalar.indexCast v2700
  let c0_1677 : Index := 0#32
  ![v2701.toNat, 0]

def k0_chk31 (v2672 : BitVec 32) : Prop :=
  (8 ∣ (k0_mult61 v2672).toNat) ∧
  (∀ a, (k0_off93 v2672) a + S16x1024.size a ≤ S4608x1024.size a) ∧
  (8 ∣ (k0_mult62 v2672).toNat) ∧
  (∀ a, (k0_off94 v2672) a + S8x1024.size a ≤ S4096x1024.size a)
theorem k0_mult61_dvd : ∀ (v2672 : BitVec 32) (k0_hw31 : k0_chk31 v2672), 8 ∣ (k0_mult61 v2672).toNat := fun v2672 k0_hw31 => k0_hw31.1
theorem k0_off93_inb : ∀ (v2672 : BitVec 32) (k0_hw31 : k0_chk31 v2672), ∀ a, (k0_off93 v2672) a + S16x1024.size a ≤ S4608x1024.size a := fun v2672 k0_hw31 => k0_hw31.2.1
theorem k0_mult62_dvd : ∀ (v2672 : BitVec 32) (k0_hw31 : k0_chk31 v2672), 8 ∣ (k0_mult62 v2672).toNat := fun v2672 k0_hw31 => k0_hw31.2.2.1
theorem k0_off94_inb : ∀ (v2672 : BitVec 32) (k0_hw31 : k0_chk31 v2672), ∀ a, (k0_off94 v2672) a + S8x1024.size a ≤ S4096x1024.size a := fun v2672 k0_hw31 => k0_hw31.2.2.2

def k0_off95 (k0_t1 : Fin k0_t1_loop.trips) : Fin 2 → Nat :=
  let c31_1684 : Index := 31#32
  let c0_i32_205 : BitVec 32 := 0#32
  let c1_i32 : BitVec 32 := 1#32
  let arg21 : BitVec 32 := Scf.iv c0_i32_205 c1_i32 k0_t1
  let v2715 : Index := Scalar.indexCast arg21
  ![31, v2715.toNat]
def k0_mult63 (v2716 : BitVec 32) : BitVec 32 :=
  let c2232_i32_1693 : BitVec 32 := 2232#32
  let c127_i32_1685 : BitVec 32 := 127#32
  let v2717 : BitVec 32 := Scalar.andi v2716 c127_i32_1685
  let c2_i32_1690 : BitVec 32 := 2#32
  let v2722 : BitVec 32 := Scalar.subi v2717 c2_i32_1690
  let c3_i32_1691 : BitVec 32 := 3#32
  let v2723 : BitVec 32 := Scalar.shrsi v2722 c3_i32_1691
  let c3_i32_1692 : BitVec 32 := 3#32
  let v2724 : BitVec 32 := Scalar.shli v2723 c3_i32_1692
  let v2725 : BitVec 32 := Scalar.addi c2232_i32_1693 v2724
  v2725

def k0_off96 (v2716 : BitVec 32) : Fin 2 → Nat :=
  let c2232_i32_1693 : BitVec 32 := 2232#32
  let c127_i32_1685 : BitVec 32 := 127#32
  let v2717 : BitVec 32 := Scalar.andi v2716 c127_i32_1685
  let c2_i32_1690 : BitVec 32 := 2#32
  let v2722 : BitVec 32 := Scalar.subi v2717 c2_i32_1690
  let c3_i32_1691 : BitVec 32 := 3#32
  let v2723 : BitVec 32 := Scalar.shrsi v2722 c3_i32_1691
  let c3_i32_1692 : BitVec 32 := 3#32
  let v2724 : BitVec 32 := Scalar.shli v2723 c3_i32_1692
  let v2725 : BitVec 32 := Scalar.addi c2232_i32_1693 v2724
  let v2726 : BitVec 32 := v2725
  let v2727 : Index := Scalar.indexCast v2726
  let c0_1694 : Index := 0#32
  ![v2727.toNat, 0]
def k0_mult64 (v2716 : BitVec 32) : BitVec 32 :=
  let c1984_i32 : BitVec 32 := 1984#32
  let c7_i32_1686 : BitVec 32 := 7#32
  let v2718 : BitVec 32 := Scalar.shrsi v2716 c7_i32_1686
  let c127_i32_1687 : BitVec 32 := 127#32
  let v2719 : BitVec 32 := Scalar.andi v2718 c127_i32_1687
  let c3_i32_1702 : BitVec 32 := 3#32
  let v2741 : BitVec 32 := Scalar.shrsi v2719 c3_i32_1702
  let c3_i32_1703 : BitVec 32 := 3#32
  let v2742 : BitVec 32 := Scalar.shli v2741 c3_i32_1703
  let v2743 : BitVec 32 := Scalar.addi c1984_i32 v2742
  v2743
def k0_off97 (v2716 : BitVec 32) : Fin 2 → Nat :=
  let c1984_i32 : BitVec 32 := 1984#32
  let c7_i32_1686 : BitVec 32 := 7#32
  let v2718 : BitVec 32 := Scalar.shrsi v2716 c7_i32_1686
  let c127_i32_1687 : BitVec 32 := 127#32
  let v2719 : BitVec 32 := Scalar.andi v2718 c127_i32_1687
  let c3_i32_1702 : BitVec 32 := 3#32
  let v2741 : BitVec 32 := Scalar.shrsi v2719 c3_i32_1702
  let c3_i32_1703 : BitVec 32 := 3#32
  let v2742 : BitVec 32 := Scalar.shli v2741 c3_i32_1703
  let v2743 : BitVec 32 := Scalar.addi c1984_i32 v2742
  let v2744 : BitVec 32 := v2743
  let v2745 : Index := Scalar.indexCast v2744
  let c0_1704 : Index := 0#32
  ![v2745.toNat, 0]

def k0_chk32 (v2716 : BitVec 32) : Prop :=
  (8 ∣ (k0_mult63 v2716).toNat) ∧
  (∀ a, (k0_off96 v2716) a + S16x1024.size a ≤ S4608x1024.size a) ∧
  (8 ∣ (k0_mult64 v2716).toNat) ∧
  (∀ a, (k0_off97 v2716) a + S8x1024.size a ≤ S4096x1024.size a)
theorem k0_mult63_dvd : ∀ (v2716 : BitVec 32) (k0_hw32 : k0_chk32 v2716), 8 ∣ (k0_mult63 v2716).toNat := fun v2716 k0_hw32 => k0_hw32.1
theorem k0_off96_inb : ∀ (v2716 : BitVec 32) (k0_hw32 : k0_chk32 v2716), ∀ a, (k0_off96 v2716) a + S16x1024.size a ≤ S4608x1024.size a := fun v2716 k0_hw32 => k0_hw32.2.1
theorem k0_mult64_dvd : ∀ (v2716 : BitVec 32) (k0_hw32 : k0_chk32 v2716), 8 ∣ (k0_mult64 v2716).toNat := fun v2716 k0_hw32 => k0_hw32.2.2.1
theorem k0_off97_inb : ∀ (v2716 : BitVec 32) (k0_hw32 : k0_chk32 v2716), ∀ a, (k0_off97 v2716) a + S8x1024.size a ≤ S4096x1024.size a := fun v2716 k0_hw32 => k0_hw32.2.2.2

def k0_off98 (k0_t1 : Fin k0_t1_loop.trips) : Fin 2 → Nat :=
  let c32_1711 : Index := 32#32
  let c0_i32_205 : BitVec 32 := 0#32
  let c1_i32 : BitVec 32 := 1#32
  let arg21 : BitVec 32 := Scf.iv c0_i32_205 c1_i32 k0_t1
  let v2759 : Index := Scalar.indexCast arg21
  ![32, v2759.toNat]
def k0_mult65 (v2760 : BitVec 32) : BitVec 32 :=
  let c2304_i32_1720 : BitVec 32 := 2304#32
  let c127_i32_1712 : BitVec 32 := 127#32
  let v2761 : BitVec 32 := Scalar.andi v2760 c127_i32_1712
  let c2_i32_1717 : BitVec 32 := 2#32
  let v2766 : BitVec 32 := Scalar.subi v2761 c2_i32_1717
  let c3_i32_1718 : BitVec 32 := 3#32
  let v2767 : BitVec 32 := Scalar.shrsi v2766 c3_i32_1718
  let c3_i32_1719 : BitVec 32 := 3#32
  let v2768 : BitVec 32 := Scalar.shli v2767 c3_i32_1719
  let v2769 : BitVec 32 := Scalar.addi c2304_i32_1720 v2768
  v2769

def k0_off99 (v2760 : BitVec 32) : Fin 2 → Nat :=
  let c2304_i32_1720 : BitVec 32 := 2304#32
  let c127_i32_1712 : BitVec 32 := 127#32
  let v2761 : BitVec 32 := Scalar.andi v2760 c127_i32_1712
  let c2_i32_1717 : BitVec 32 := 2#32
  let v2766 : BitVec 32 := Scalar.subi v2761 c2_i32_1717
  let c3_i32_1718 : BitVec 32 := 3#32
  let v2767 : BitVec 32 := Scalar.shrsi v2766 c3_i32_1718
  let c3_i32_1719 : BitVec 32 := 3#32
  let v2768 : BitVec 32 := Scalar.shli v2767 c3_i32_1719
  let v2769 : BitVec 32 := Scalar.addi c2304_i32_1720 v2768
  let v2770 : BitVec 32 := v2769
  let v2771 : Index := Scalar.indexCast v2770
  let c0_1721 : Index := 0#32
  ![v2771.toNat, 0]
def k0_mult66 (v2760 : BitVec 32) : BitVec 32 :=
  let c2048_i32 : BitVec 32 := 2048#32
  let c7_i32_1713 : BitVec 32 := 7#32
  let v2762 : BitVec 32 := Scalar.shrsi v2760 c7_i32_1713
  let c127_i32_1714 : BitVec 32 := 127#32
  let v2763 : BitVec 32 := Scalar.andi v2762 c127_i32_1714
  let c3_i32_1729 : BitVec 32 := 3#32
  let v2785 : BitVec 32 := Scalar.shrsi v2763 c3_i32_1729
  let c3_i32_1730 : BitVec 32 := 3#32
  let v2786 : BitVec 32 := Scalar.shli v2785 c3_i32_1730
  let v2787 : BitVec 32 := Scalar.addi c2048_i32 v2786
  v2787
def k0_off100 (v2760 : BitVec 32) : Fin 2 → Nat :=
  let c2048_i32 : BitVec 32 := 2048#32
  let c7_i32_1713 : BitVec 32 := 7#32
  let v2762 : BitVec 32 := Scalar.shrsi v2760 c7_i32_1713
  let c127_i32_1714 : BitVec 32 := 127#32
  let v2763 : BitVec 32 := Scalar.andi v2762 c127_i32_1714
  let c3_i32_1729 : BitVec 32 := 3#32
  let v2785 : BitVec 32 := Scalar.shrsi v2763 c3_i32_1729
  let c3_i32_1730 : BitVec 32 := 3#32
  let v2786 : BitVec 32 := Scalar.shli v2785 c3_i32_1730
  let v2787 : BitVec 32 := Scalar.addi c2048_i32 v2786
  let v2788 : BitVec 32 := v2787
  let v2789 : Index := Scalar.indexCast v2788
  let c0_1731 : Index := 0#32
  ![v2789.toNat, 0]

def k0_chk33 (v2760 : BitVec 32) : Prop :=
  (8 ∣ (k0_mult65 v2760).toNat) ∧
  (∀ a, (k0_off99 v2760) a + S16x1024.size a ≤ S4608x1024.size a) ∧
  (8 ∣ (k0_mult66 v2760).toNat) ∧
  (∀ a, (k0_off100 v2760) a + S8x1024.size a ≤ S4096x1024.size a)
theorem k0_mult65_dvd : ∀ (v2760 : BitVec 32) (k0_hw33 : k0_chk33 v2760), 8 ∣ (k0_mult65 v2760).toNat := fun v2760 k0_hw33 => k0_hw33.1
theorem k0_off99_inb : ∀ (v2760 : BitVec 32) (k0_hw33 : k0_chk33 v2760), ∀ a, (k0_off99 v2760) a + S16x1024.size a ≤ S4608x1024.size a := fun v2760 k0_hw33 => k0_hw33.2.1
theorem k0_mult66_dvd : ∀ (v2760 : BitVec 32) (k0_hw33 : k0_chk33 v2760), 8 ∣ (k0_mult66 v2760).toNat := fun v2760 k0_hw33 => k0_hw33.2.2.1
theorem k0_off100_inb : ∀ (v2760 : BitVec 32) (k0_hw33 : k0_chk33 v2760), ∀ a, (k0_off100 v2760) a + S8x1024.size a ≤ S4096x1024.size a := fun v2760 k0_hw33 => k0_hw33.2.2.2

def k0_off101 (k0_t1 : Fin k0_t1_loop.trips) : Fin 2 → Nat :=
  let c33_1738 : Index := 33#32
  let c0_i32_205 : BitVec 32 := 0#32
  let c1_i32 : BitVec 32 := 1#32
  let arg21 : BitVec 32 := Scf.iv c0_i32_205 c1_i32 k0_t1
  let v2803 : Index := Scalar.indexCast arg21
  ![33, v2803.toNat]
def k0_mult67 (v2804 : BitVec 32) : BitVec 32 :=
  let c2376_i32_1747 : BitVec 32 := 2376#32
  let c127_i32_1739 : BitVec 32 := 127#32
  let v2805 : BitVec 32 := Scalar.andi v2804 c127_i32_1739
  let c2_i32_1744 : BitVec 32 := 2#32
  let v2810 : BitVec 32 := Scalar.subi v2805 c2_i32_1744
  let c3_i32_1745 : BitVec 32 := 3#32
  let v2811 : BitVec 32 := Scalar.shrsi v2810 c3_i32_1745
  let c3_i32_1746 : BitVec 32 := 3#32
  let v2812 : BitVec 32 := Scalar.shli v2811 c3_i32_1746
  let v2813 : BitVec 32 := Scalar.addi c2376_i32_1747 v2812
  v2813

def k0_off102 (v2804 : BitVec 32) : Fin 2 → Nat :=
  let c2376_i32_1747 : BitVec 32 := 2376#32
  let c127_i32_1739 : BitVec 32 := 127#32
  let v2805 : BitVec 32 := Scalar.andi v2804 c127_i32_1739
  let c2_i32_1744 : BitVec 32 := 2#32
  let v2810 : BitVec 32 := Scalar.subi v2805 c2_i32_1744
  let c3_i32_1745 : BitVec 32 := 3#32
  let v2811 : BitVec 32 := Scalar.shrsi v2810 c3_i32_1745
  let c3_i32_1746 : BitVec 32 := 3#32
  let v2812 : BitVec 32 := Scalar.shli v2811 c3_i32_1746
  let v2813 : BitVec 32 := Scalar.addi c2376_i32_1747 v2812
  let v2814 : BitVec 32 := v2813
  let v2815 : Index := Scalar.indexCast v2814
  let c0_1748 : Index := 0#32
  ![v2815.toNat, 0]
def k0_mult68 (v2804 : BitVec 32) : BitVec 32 :=
  let c2112_i32 : BitVec 32 := 2112#32
  let c7_i32_1740 : BitVec 32 := 7#32
  let v2806 : BitVec 32 := Scalar.shrsi v2804 c7_i32_1740
  let c127_i32_1741 : BitVec 32 := 127#32
  let v2807 : BitVec 32 := Scalar.andi v2806 c127_i32_1741
  let c3_i32_1756 : BitVec 32 := 3#32
  let v2829 : BitVec 32 := Scalar.shrsi v2807 c3_i32_1756
  let c3_i32_1757 : BitVec 32 := 3#32
  let v2830 : BitVec 32 := Scalar.shli v2829 c3_i32_1757
  let v2831 : BitVec 32 := Scalar.addi c2112_i32 v2830
  v2831
def k0_off103 (v2804 : BitVec 32) : Fin 2 → Nat :=
  let c2112_i32 : BitVec 32 := 2112#32
  let c7_i32_1740 : BitVec 32 := 7#32
  let v2806 : BitVec 32 := Scalar.shrsi v2804 c7_i32_1740
  let c127_i32_1741 : BitVec 32 := 127#32
  let v2807 : BitVec 32 := Scalar.andi v2806 c127_i32_1741
  let c3_i32_1756 : BitVec 32 := 3#32
  let v2829 : BitVec 32 := Scalar.shrsi v2807 c3_i32_1756
  let c3_i32_1757 : BitVec 32 := 3#32
  let v2830 : BitVec 32 := Scalar.shli v2829 c3_i32_1757
  let v2831 : BitVec 32 := Scalar.addi c2112_i32 v2830
  let v2832 : BitVec 32 := v2831
  let v2833 : Index := Scalar.indexCast v2832
  let c0_1758 : Index := 0#32
  ![v2833.toNat, 0]

def k0_chk34 (v2804 : BitVec 32) : Prop :=
  (8 ∣ (k0_mult67 v2804).toNat) ∧
  (∀ a, (k0_off102 v2804) a + S16x1024.size a ≤ S4608x1024.size a) ∧
  (8 ∣ (k0_mult68 v2804).toNat) ∧
  (∀ a, (k0_off103 v2804) a + S8x1024.size a ≤ S4096x1024.size a)
theorem k0_mult67_dvd : ∀ (v2804 : BitVec 32) (k0_hw34 : k0_chk34 v2804), 8 ∣ (k0_mult67 v2804).toNat := fun v2804 k0_hw34 => k0_hw34.1
theorem k0_off102_inb : ∀ (v2804 : BitVec 32) (k0_hw34 : k0_chk34 v2804), ∀ a, (k0_off102 v2804) a + S16x1024.size a ≤ S4608x1024.size a := fun v2804 k0_hw34 => k0_hw34.2.1
theorem k0_mult68_dvd : ∀ (v2804 : BitVec 32) (k0_hw34 : k0_chk34 v2804), 8 ∣ (k0_mult68 v2804).toNat := fun v2804 k0_hw34 => k0_hw34.2.2.1
theorem k0_off103_inb : ∀ (v2804 : BitVec 32) (k0_hw34 : k0_chk34 v2804), ∀ a, (k0_off103 v2804) a + S8x1024.size a ≤ S4096x1024.size a := fun v2804 k0_hw34 => k0_hw34.2.2.2

def k0_off104 (k0_t1 : Fin k0_t1_loop.trips) : Fin 2 → Nat :=
  let c34_1765 : Index := 34#32
  let c0_i32_205 : BitVec 32 := 0#32
  let c1_i32 : BitVec 32 := 1#32
  let arg21 : BitVec 32 := Scf.iv c0_i32_205 c1_i32 k0_t1
  let v2847 : Index := Scalar.indexCast arg21
  ![34, v2847.toNat]
def k0_mult69 (v2848 : BitVec 32) : BitVec 32 :=
  let c2448_i32_1774 : BitVec 32 := 2448#32
  let c127_i32_1766 : BitVec 32 := 127#32
  let v2849 : BitVec 32 := Scalar.andi v2848 c127_i32_1766
  let c2_i32_1771 : BitVec 32 := 2#32
  let v2854 : BitVec 32 := Scalar.subi v2849 c2_i32_1771
  let c3_i32_1772 : BitVec 32 := 3#32
  let v2855 : BitVec 32 := Scalar.shrsi v2854 c3_i32_1772
  let c3_i32_1773 : BitVec 32 := 3#32
  let v2856 : BitVec 32 := Scalar.shli v2855 c3_i32_1773
  let v2857 : BitVec 32 := Scalar.addi c2448_i32_1774 v2856
  v2857

def k0_off105 (v2848 : BitVec 32) : Fin 2 → Nat :=
  let c2448_i32_1774 : BitVec 32 := 2448#32
  let c127_i32_1766 : BitVec 32 := 127#32
  let v2849 : BitVec 32 := Scalar.andi v2848 c127_i32_1766
  let c2_i32_1771 : BitVec 32 := 2#32
  let v2854 : BitVec 32 := Scalar.subi v2849 c2_i32_1771
  let c3_i32_1772 : BitVec 32 := 3#32
  let v2855 : BitVec 32 := Scalar.shrsi v2854 c3_i32_1772
  let c3_i32_1773 : BitVec 32 := 3#32
  let v2856 : BitVec 32 := Scalar.shli v2855 c3_i32_1773
  let v2857 : BitVec 32 := Scalar.addi c2448_i32_1774 v2856
  let v2858 : BitVec 32 := v2857
  let v2859 : Index := Scalar.indexCast v2858
  let c0_1775 : Index := 0#32
  ![v2859.toNat, 0]
def k0_mult70 (v2848 : BitVec 32) : BitVec 32 :=
  let c2176_i32 : BitVec 32 := 2176#32
  let c7_i32_1767 : BitVec 32 := 7#32
  let v2850 : BitVec 32 := Scalar.shrsi v2848 c7_i32_1767
  let c127_i32_1768 : BitVec 32 := 127#32
  let v2851 : BitVec 32 := Scalar.andi v2850 c127_i32_1768
  let c3_i32_1783 : BitVec 32 := 3#32
  let v2873 : BitVec 32 := Scalar.shrsi v2851 c3_i32_1783
  let c3_i32_1784 : BitVec 32 := 3#32
  let v2874 : BitVec 32 := Scalar.shli v2873 c3_i32_1784
  let v2875 : BitVec 32 := Scalar.addi c2176_i32 v2874
  v2875
def k0_off106 (v2848 : BitVec 32) : Fin 2 → Nat :=
  let c2176_i32 : BitVec 32 := 2176#32
  let c7_i32_1767 : BitVec 32 := 7#32
  let v2850 : BitVec 32 := Scalar.shrsi v2848 c7_i32_1767
  let c127_i32_1768 : BitVec 32 := 127#32
  let v2851 : BitVec 32 := Scalar.andi v2850 c127_i32_1768
  let c3_i32_1783 : BitVec 32 := 3#32
  let v2873 : BitVec 32 := Scalar.shrsi v2851 c3_i32_1783
  let c3_i32_1784 : BitVec 32 := 3#32
  let v2874 : BitVec 32 := Scalar.shli v2873 c3_i32_1784
  let v2875 : BitVec 32 := Scalar.addi c2176_i32 v2874
  let v2876 : BitVec 32 := v2875
  let v2877 : Index := Scalar.indexCast v2876
  let c0_1785 : Index := 0#32
  ![v2877.toNat, 0]

def k0_chk35 (v2848 : BitVec 32) : Prop :=
  (8 ∣ (k0_mult69 v2848).toNat) ∧
  (∀ a, (k0_off105 v2848) a + S16x1024.size a ≤ S4608x1024.size a) ∧
  (8 ∣ (k0_mult70 v2848).toNat) ∧
  (∀ a, (k0_off106 v2848) a + S8x1024.size a ≤ S4096x1024.size a)
theorem k0_mult69_dvd : ∀ (v2848 : BitVec 32) (k0_hw35 : k0_chk35 v2848), 8 ∣ (k0_mult69 v2848).toNat := fun v2848 k0_hw35 => k0_hw35.1
theorem k0_off105_inb : ∀ (v2848 : BitVec 32) (k0_hw35 : k0_chk35 v2848), ∀ a, (k0_off105 v2848) a + S16x1024.size a ≤ S4608x1024.size a := fun v2848 k0_hw35 => k0_hw35.2.1
theorem k0_mult70_dvd : ∀ (v2848 : BitVec 32) (k0_hw35 : k0_chk35 v2848), 8 ∣ (k0_mult70 v2848).toNat := fun v2848 k0_hw35 => k0_hw35.2.2.1
theorem k0_off106_inb : ∀ (v2848 : BitVec 32) (k0_hw35 : k0_chk35 v2848), ∀ a, (k0_off106 v2848) a + S8x1024.size a ≤ S4096x1024.size a := fun v2848 k0_hw35 => k0_hw35.2.2.2

def k0_off107 (k0_t1 : Fin k0_t1_loop.trips) : Fin 2 → Nat :=
  let c35_1792 : Index := 35#32
  let c0_i32_205 : BitVec 32 := 0#32
  let c1_i32 : BitVec 32 := 1#32
  let arg21 : BitVec 32 := Scf.iv c0_i32_205 c1_i32 k0_t1
  let v2891 : Index := Scalar.indexCast arg21
  ![35, v2891.toNat]
def k0_mult71 (v2892 : BitVec 32) : BitVec 32 :=
  let c2520_i32_1801 : BitVec 32 := 2520#32
  let c127_i32_1793 : BitVec 32 := 127#32
  let v2893 : BitVec 32 := Scalar.andi v2892 c127_i32_1793
  let c2_i32_1798 : BitVec 32 := 2#32
  let v2898 : BitVec 32 := Scalar.subi v2893 c2_i32_1798
  let c3_i32_1799 : BitVec 32 := 3#32
  let v2899 : BitVec 32 := Scalar.shrsi v2898 c3_i32_1799
  let c3_i32_1800 : BitVec 32 := 3#32
  let v2900 : BitVec 32 := Scalar.shli v2899 c3_i32_1800
  let v2901 : BitVec 32 := Scalar.addi c2520_i32_1801 v2900
  v2901

def k0_off108 (v2892 : BitVec 32) : Fin 2 → Nat :=
  let c2520_i32_1801 : BitVec 32 := 2520#32
  let c127_i32_1793 : BitVec 32 := 127#32
  let v2893 : BitVec 32 := Scalar.andi v2892 c127_i32_1793
  let c2_i32_1798 : BitVec 32 := 2#32
  let v2898 : BitVec 32 := Scalar.subi v2893 c2_i32_1798
  let c3_i32_1799 : BitVec 32 := 3#32
  let v2899 : BitVec 32 := Scalar.shrsi v2898 c3_i32_1799
  let c3_i32_1800 : BitVec 32 := 3#32
  let v2900 : BitVec 32 := Scalar.shli v2899 c3_i32_1800
  let v2901 : BitVec 32 := Scalar.addi c2520_i32_1801 v2900
  let v2902 : BitVec 32 := v2901
  let v2903 : Index := Scalar.indexCast v2902
  let c0_1802 : Index := 0#32
  ![v2903.toNat, 0]
def k0_mult72 (v2892 : BitVec 32) : BitVec 32 :=
  let c2240_i32 : BitVec 32 := 2240#32
  let c7_i32_1794 : BitVec 32 := 7#32
  let v2894 : BitVec 32 := Scalar.shrsi v2892 c7_i32_1794
  let c127_i32_1795 : BitVec 32 := 127#32
  let v2895 : BitVec 32 := Scalar.andi v2894 c127_i32_1795
  let c3_i32_1810 : BitVec 32 := 3#32
  let v2917 : BitVec 32 := Scalar.shrsi v2895 c3_i32_1810
  let c3_i32_1811 : BitVec 32 := 3#32
  let v2918 : BitVec 32 := Scalar.shli v2917 c3_i32_1811
  let v2919 : BitVec 32 := Scalar.addi c2240_i32 v2918
  v2919
def k0_off109 (v2892 : BitVec 32) : Fin 2 → Nat :=
  let c2240_i32 : BitVec 32 := 2240#32
  let c7_i32_1794 : BitVec 32 := 7#32
  let v2894 : BitVec 32 := Scalar.shrsi v2892 c7_i32_1794
  let c127_i32_1795 : BitVec 32 := 127#32
  let v2895 : BitVec 32 := Scalar.andi v2894 c127_i32_1795
  let c3_i32_1810 : BitVec 32 := 3#32
  let v2917 : BitVec 32 := Scalar.shrsi v2895 c3_i32_1810
  let c3_i32_1811 : BitVec 32 := 3#32
  let v2918 : BitVec 32 := Scalar.shli v2917 c3_i32_1811
  let v2919 : BitVec 32 := Scalar.addi c2240_i32 v2918
  let v2920 : BitVec 32 := v2919
  let v2921 : Index := Scalar.indexCast v2920
  let c0_1812 : Index := 0#32
  ![v2921.toNat, 0]

def k0_chk36 (v2892 : BitVec 32) : Prop :=
  (8 ∣ (k0_mult71 v2892).toNat) ∧
  (∀ a, (k0_off108 v2892) a + S16x1024.size a ≤ S4608x1024.size a) ∧
  (8 ∣ (k0_mult72 v2892).toNat) ∧
  (∀ a, (k0_off109 v2892) a + S8x1024.size a ≤ S4096x1024.size a)
theorem k0_mult71_dvd : ∀ (v2892 : BitVec 32) (k0_hw36 : k0_chk36 v2892), 8 ∣ (k0_mult71 v2892).toNat := fun v2892 k0_hw36 => k0_hw36.1
theorem k0_off108_inb : ∀ (v2892 : BitVec 32) (k0_hw36 : k0_chk36 v2892), ∀ a, (k0_off108 v2892) a + S16x1024.size a ≤ S4608x1024.size a := fun v2892 k0_hw36 => k0_hw36.2.1
theorem k0_mult72_dvd : ∀ (v2892 : BitVec 32) (k0_hw36 : k0_chk36 v2892), 8 ∣ (k0_mult72 v2892).toNat := fun v2892 k0_hw36 => k0_hw36.2.2.1
theorem k0_off109_inb : ∀ (v2892 : BitVec 32) (k0_hw36 : k0_chk36 v2892), ∀ a, (k0_off109 v2892) a + S8x1024.size a ≤ S4096x1024.size a := fun v2892 k0_hw36 => k0_hw36.2.2.2

def k0_off110 (k0_t1 : Fin k0_t1_loop.trips) : Fin 2 → Nat :=
  let c36_1819 : Index := 36#32
  let c0_i32_205 : BitVec 32 := 0#32
  let c1_i32 : BitVec 32 := 1#32
  let arg21 : BitVec 32 := Scf.iv c0_i32_205 c1_i32 k0_t1
  let v2935 : Index := Scalar.indexCast arg21
  ![36, v2935.toNat]
def k0_mult73 (v2936 : BitVec 32) : BitVec 32 :=
  let c2592_i32_1828 : BitVec 32 := 2592#32
  let c127_i32_1820 : BitVec 32 := 127#32
  let v2937 : BitVec 32 := Scalar.andi v2936 c127_i32_1820
  let c2_i32_1825 : BitVec 32 := 2#32
  let v2942 : BitVec 32 := Scalar.subi v2937 c2_i32_1825
  let c3_i32_1826 : BitVec 32 := 3#32
  let v2943 : BitVec 32 := Scalar.shrsi v2942 c3_i32_1826
  let c3_i32_1827 : BitVec 32 := 3#32
  let v2944 : BitVec 32 := Scalar.shli v2943 c3_i32_1827
  let v2945 : BitVec 32 := Scalar.addi c2592_i32_1828 v2944
  v2945

def k0_off111 (v2936 : BitVec 32) : Fin 2 → Nat :=
  let c2592_i32_1828 : BitVec 32 := 2592#32
  let c127_i32_1820 : BitVec 32 := 127#32
  let v2937 : BitVec 32 := Scalar.andi v2936 c127_i32_1820
  let c2_i32_1825 : BitVec 32 := 2#32
  let v2942 : BitVec 32 := Scalar.subi v2937 c2_i32_1825
  let c3_i32_1826 : BitVec 32 := 3#32
  let v2943 : BitVec 32 := Scalar.shrsi v2942 c3_i32_1826
  let c3_i32_1827 : BitVec 32 := 3#32
  let v2944 : BitVec 32 := Scalar.shli v2943 c3_i32_1827
  let v2945 : BitVec 32 := Scalar.addi c2592_i32_1828 v2944
  let v2946 : BitVec 32 := v2945
  let v2947 : Index := Scalar.indexCast v2946
  let c0_1829 : Index := 0#32
  ![v2947.toNat, 0]
def k0_mult74 (v2936 : BitVec 32) : BitVec 32 :=
  let c2304_i32_1839 : BitVec 32 := 2304#32
  let c7_i32_1821 : BitVec 32 := 7#32
  let v2938 : BitVec 32 := Scalar.shrsi v2936 c7_i32_1821
  let c127_i32_1822 : BitVec 32 := 127#32
  let v2939 : BitVec 32 := Scalar.andi v2938 c127_i32_1822
  let c3_i32_1837 : BitVec 32 := 3#32
  let v2961 : BitVec 32 := Scalar.shrsi v2939 c3_i32_1837
  let c3_i32_1838 : BitVec 32 := 3#32
  let v2962 : BitVec 32 := Scalar.shli v2961 c3_i32_1838
  let v2963 : BitVec 32 := Scalar.addi c2304_i32_1839 v2962
  v2963
def k0_off112 (v2936 : BitVec 32) : Fin 2 → Nat :=
  let c2304_i32_1839 : BitVec 32 := 2304#32
  let c7_i32_1821 : BitVec 32 := 7#32
  let v2938 : BitVec 32 := Scalar.shrsi v2936 c7_i32_1821
  let c127_i32_1822 : BitVec 32 := 127#32
  let v2939 : BitVec 32 := Scalar.andi v2938 c127_i32_1822
  let c3_i32_1837 : BitVec 32 := 3#32
  let v2961 : BitVec 32 := Scalar.shrsi v2939 c3_i32_1837
  let c3_i32_1838 : BitVec 32 := 3#32
  let v2962 : BitVec 32 := Scalar.shli v2961 c3_i32_1838
  let v2963 : BitVec 32 := Scalar.addi c2304_i32_1839 v2962
  let v2964 : BitVec 32 := v2963
  let v2965 : Index := Scalar.indexCast v2964
  let c0_1840 : Index := 0#32
  ![v2965.toNat, 0]

def k0_chk37 (v2936 : BitVec 32) : Prop :=
  (8 ∣ (k0_mult73 v2936).toNat) ∧
  (∀ a, (k0_off111 v2936) a + S16x1024.size a ≤ S4608x1024.size a) ∧
  (8 ∣ (k0_mult74 v2936).toNat) ∧
  (∀ a, (k0_off112 v2936) a + S8x1024.size a ≤ S4096x1024.size a)
theorem k0_mult73_dvd : ∀ (v2936 : BitVec 32) (k0_hw37 : k0_chk37 v2936), 8 ∣ (k0_mult73 v2936).toNat := fun v2936 k0_hw37 => k0_hw37.1
theorem k0_off111_inb : ∀ (v2936 : BitVec 32) (k0_hw37 : k0_chk37 v2936), ∀ a, (k0_off111 v2936) a + S16x1024.size a ≤ S4608x1024.size a := fun v2936 k0_hw37 => k0_hw37.2.1
theorem k0_mult74_dvd : ∀ (v2936 : BitVec 32) (k0_hw37 : k0_chk37 v2936), 8 ∣ (k0_mult74 v2936).toNat := fun v2936 k0_hw37 => k0_hw37.2.2.1
theorem k0_off112_inb : ∀ (v2936 : BitVec 32) (k0_hw37 : k0_chk37 v2936), ∀ a, (k0_off112 v2936) a + S8x1024.size a ≤ S4096x1024.size a := fun v2936 k0_hw37 => k0_hw37.2.2.2

def k0_off113 (k0_t1 : Fin k0_t1_loop.trips) : Fin 2 → Nat :=
  let c37_1847 : Index := 37#32
  let c0_i32_205 : BitVec 32 := 0#32
  let c1_i32 : BitVec 32 := 1#32
  let arg21 : BitVec 32 := Scf.iv c0_i32_205 c1_i32 k0_t1
  let v2979 : Index := Scalar.indexCast arg21
  ![37, v2979.toNat]
def k0_mult75 (v2980 : BitVec 32) : BitVec 32 :=
  let c2664_i32_1856 : BitVec 32 := 2664#32
  let c127_i32_1848 : BitVec 32 := 127#32
  let v2981 : BitVec 32 := Scalar.andi v2980 c127_i32_1848
  let c2_i32_1853 : BitVec 32 := 2#32
  let v2986 : BitVec 32 := Scalar.subi v2981 c2_i32_1853
  let c3_i32_1854 : BitVec 32 := 3#32
  let v2987 : BitVec 32 := Scalar.shrsi v2986 c3_i32_1854
  let c3_i32_1855 : BitVec 32 := 3#32
  let v2988 : BitVec 32 := Scalar.shli v2987 c3_i32_1855
  let v2989 : BitVec 32 := Scalar.addi c2664_i32_1856 v2988
  v2989

def k0_off114 (v2980 : BitVec 32) : Fin 2 → Nat :=
  let c2664_i32_1856 : BitVec 32 := 2664#32
  let c127_i32_1848 : BitVec 32 := 127#32
  let v2981 : BitVec 32 := Scalar.andi v2980 c127_i32_1848
  let c2_i32_1853 : BitVec 32 := 2#32
  let v2986 : BitVec 32 := Scalar.subi v2981 c2_i32_1853
  let c3_i32_1854 : BitVec 32 := 3#32
  let v2987 : BitVec 32 := Scalar.shrsi v2986 c3_i32_1854
  let c3_i32_1855 : BitVec 32 := 3#32
  let v2988 : BitVec 32 := Scalar.shli v2987 c3_i32_1855
  let v2989 : BitVec 32 := Scalar.addi c2664_i32_1856 v2988
  let v2990 : BitVec 32 := v2989
  let v2991 : Index := Scalar.indexCast v2990
  let c0_1857 : Index := 0#32
  ![v2991.toNat, 0]
def k0_mult76 (v2980 : BitVec 32) : BitVec 32 :=
  let c2368_i32 : BitVec 32 := 2368#32
  let c7_i32_1849 : BitVec 32 := 7#32
  let v2982 : BitVec 32 := Scalar.shrsi v2980 c7_i32_1849
  let c127_i32_1850 : BitVec 32 := 127#32
  let v2983 : BitVec 32 := Scalar.andi v2982 c127_i32_1850
  let c3_i32_1865 : BitVec 32 := 3#32
  let v3005 : BitVec 32 := Scalar.shrsi v2983 c3_i32_1865
  let c3_i32_1866 : BitVec 32 := 3#32
  let v3006 : BitVec 32 := Scalar.shli v3005 c3_i32_1866
  let v3007 : BitVec 32 := Scalar.addi c2368_i32 v3006
  v3007
def k0_off115 (v2980 : BitVec 32) : Fin 2 → Nat :=
  let c2368_i32 : BitVec 32 := 2368#32
  let c7_i32_1849 : BitVec 32 := 7#32
  let v2982 : BitVec 32 := Scalar.shrsi v2980 c7_i32_1849
  let c127_i32_1850 : BitVec 32 := 127#32
  let v2983 : BitVec 32 := Scalar.andi v2982 c127_i32_1850
  let c3_i32_1865 : BitVec 32 := 3#32
  let v3005 : BitVec 32 := Scalar.shrsi v2983 c3_i32_1865
  let c3_i32_1866 : BitVec 32 := 3#32
  let v3006 : BitVec 32 := Scalar.shli v3005 c3_i32_1866
  let v3007 : BitVec 32 := Scalar.addi c2368_i32 v3006
  let v3008 : BitVec 32 := v3007
  let v3009 : Index := Scalar.indexCast v3008
  let c0_1867 : Index := 0#32
  ![v3009.toNat, 0]

def k0_chk38 (v2980 : BitVec 32) : Prop :=
  (8 ∣ (k0_mult75 v2980).toNat) ∧
  (∀ a, (k0_off114 v2980) a + S16x1024.size a ≤ S4608x1024.size a) ∧
  (8 ∣ (k0_mult76 v2980).toNat) ∧
  (∀ a, (k0_off115 v2980) a + S8x1024.size a ≤ S4096x1024.size a)
theorem k0_mult75_dvd : ∀ (v2980 : BitVec 32) (k0_hw38 : k0_chk38 v2980), 8 ∣ (k0_mult75 v2980).toNat := fun v2980 k0_hw38 => k0_hw38.1
theorem k0_off114_inb : ∀ (v2980 : BitVec 32) (k0_hw38 : k0_chk38 v2980), ∀ a, (k0_off114 v2980) a + S16x1024.size a ≤ S4608x1024.size a := fun v2980 k0_hw38 => k0_hw38.2.1
theorem k0_mult76_dvd : ∀ (v2980 : BitVec 32) (k0_hw38 : k0_chk38 v2980), 8 ∣ (k0_mult76 v2980).toNat := fun v2980 k0_hw38 => k0_hw38.2.2.1
theorem k0_off115_inb : ∀ (v2980 : BitVec 32) (k0_hw38 : k0_chk38 v2980), ∀ a, (k0_off115 v2980) a + S8x1024.size a ≤ S4096x1024.size a := fun v2980 k0_hw38 => k0_hw38.2.2.2

def k0_off116 (k0_t1 : Fin k0_t1_loop.trips) : Fin 2 → Nat :=
  let c38_1874 : Index := 38#32
  let c0_i32_205 : BitVec 32 := 0#32
  let c1_i32 : BitVec 32 := 1#32
  let arg21 : BitVec 32 := Scf.iv c0_i32_205 c1_i32 k0_t1
  let v3023 : Index := Scalar.indexCast arg21
  ![38, v3023.toNat]
def k0_mult77 (v3024 : BitVec 32) : BitVec 32 :=
  let c2736_i32_1883 : BitVec 32 := 2736#32
  let c127_i32_1875 : BitVec 32 := 127#32
  let v3025 : BitVec 32 := Scalar.andi v3024 c127_i32_1875
  let c2_i32_1880 : BitVec 32 := 2#32
  let v3030 : BitVec 32 := Scalar.subi v3025 c2_i32_1880
  let c3_i32_1881 : BitVec 32 := 3#32
  let v3031 : BitVec 32 := Scalar.shrsi v3030 c3_i32_1881
  let c3_i32_1882 : BitVec 32 := 3#32
  let v3032 : BitVec 32 := Scalar.shli v3031 c3_i32_1882
  let v3033 : BitVec 32 := Scalar.addi c2736_i32_1883 v3032
  v3033

def k0_off117 (v3024 : BitVec 32) : Fin 2 → Nat :=
  let c2736_i32_1883 : BitVec 32 := 2736#32
  let c127_i32_1875 : BitVec 32 := 127#32
  let v3025 : BitVec 32 := Scalar.andi v3024 c127_i32_1875
  let c2_i32_1880 : BitVec 32 := 2#32
  let v3030 : BitVec 32 := Scalar.subi v3025 c2_i32_1880
  let c3_i32_1881 : BitVec 32 := 3#32
  let v3031 : BitVec 32 := Scalar.shrsi v3030 c3_i32_1881
  let c3_i32_1882 : BitVec 32 := 3#32
  let v3032 : BitVec 32 := Scalar.shli v3031 c3_i32_1882
  let v3033 : BitVec 32 := Scalar.addi c2736_i32_1883 v3032
  let v3034 : BitVec 32 := v3033
  let v3035 : Index := Scalar.indexCast v3034
  let c0_1884 : Index := 0#32
  ![v3035.toNat, 0]
def k0_mult78 (v3024 : BitVec 32) : BitVec 32 :=
  let c2432_i32 : BitVec 32 := 2432#32
  let c7_i32_1876 : BitVec 32 := 7#32
  let v3026 : BitVec 32 := Scalar.shrsi v3024 c7_i32_1876
  let c127_i32_1877 : BitVec 32 := 127#32
  let v3027 : BitVec 32 := Scalar.andi v3026 c127_i32_1877
  let c3_i32_1892 : BitVec 32 := 3#32
  let v3049 : BitVec 32 := Scalar.shrsi v3027 c3_i32_1892
  let c3_i32_1893 : BitVec 32 := 3#32
  let v3050 : BitVec 32 := Scalar.shli v3049 c3_i32_1893
  let v3051 : BitVec 32 := Scalar.addi c2432_i32 v3050
  v3051
def k0_off118 (v3024 : BitVec 32) : Fin 2 → Nat :=
  let c2432_i32 : BitVec 32 := 2432#32
  let c7_i32_1876 : BitVec 32 := 7#32
  let v3026 : BitVec 32 := Scalar.shrsi v3024 c7_i32_1876
  let c127_i32_1877 : BitVec 32 := 127#32
  let v3027 : BitVec 32 := Scalar.andi v3026 c127_i32_1877
  let c3_i32_1892 : BitVec 32 := 3#32
  let v3049 : BitVec 32 := Scalar.shrsi v3027 c3_i32_1892
  let c3_i32_1893 : BitVec 32 := 3#32
  let v3050 : BitVec 32 := Scalar.shli v3049 c3_i32_1893
  let v3051 : BitVec 32 := Scalar.addi c2432_i32 v3050
  let v3052 : BitVec 32 := v3051
  let v3053 : Index := Scalar.indexCast v3052
  let c0_1894 : Index := 0#32
  ![v3053.toNat, 0]

def k0_chk39 (v3024 : BitVec 32) : Prop :=
  (8 ∣ (k0_mult77 v3024).toNat) ∧
  (∀ a, (k0_off117 v3024) a + S16x1024.size a ≤ S4608x1024.size a) ∧
  (8 ∣ (k0_mult78 v3024).toNat) ∧
  (∀ a, (k0_off118 v3024) a + S8x1024.size a ≤ S4096x1024.size a)
theorem k0_mult77_dvd : ∀ (v3024 : BitVec 32) (k0_hw39 : k0_chk39 v3024), 8 ∣ (k0_mult77 v3024).toNat := fun v3024 k0_hw39 => k0_hw39.1
theorem k0_off117_inb : ∀ (v3024 : BitVec 32) (k0_hw39 : k0_chk39 v3024), ∀ a, (k0_off117 v3024) a + S16x1024.size a ≤ S4608x1024.size a := fun v3024 k0_hw39 => k0_hw39.2.1
theorem k0_mult78_dvd : ∀ (v3024 : BitVec 32) (k0_hw39 : k0_chk39 v3024), 8 ∣ (k0_mult78 v3024).toNat := fun v3024 k0_hw39 => k0_hw39.2.2.1
theorem k0_off118_inb : ∀ (v3024 : BitVec 32) (k0_hw39 : k0_chk39 v3024), ∀ a, (k0_off118 v3024) a + S8x1024.size a ≤ S4096x1024.size a := fun v3024 k0_hw39 => k0_hw39.2.2.2

def k0_off119 (k0_t1 : Fin k0_t1_loop.trips) : Fin 2 → Nat :=
  let c39_1901 : Index := 39#32
  let c0_i32_205 : BitVec 32 := 0#32
  let c1_i32 : BitVec 32 := 1#32
  let arg21 : BitVec 32 := Scf.iv c0_i32_205 c1_i32 k0_t1
  let v3067 : Index := Scalar.indexCast arg21
  ![39, v3067.toNat]
def k0_mult79 (v3068 : BitVec 32) : BitVec 32 :=
  let c2808_i32_1910 : BitVec 32 := 2808#32
  let c127_i32_1902 : BitVec 32 := 127#32
  let v3069 : BitVec 32 := Scalar.andi v3068 c127_i32_1902
  let c2_i32_1907 : BitVec 32 := 2#32
  let v3074 : BitVec 32 := Scalar.subi v3069 c2_i32_1907
  let c3_i32_1908 : BitVec 32 := 3#32
  let v3075 : BitVec 32 := Scalar.shrsi v3074 c3_i32_1908
  let c3_i32_1909 : BitVec 32 := 3#32
  let v3076 : BitVec 32 := Scalar.shli v3075 c3_i32_1909
  let v3077 : BitVec 32 := Scalar.addi c2808_i32_1910 v3076
  v3077

def k0_off120 (v3068 : BitVec 32) : Fin 2 → Nat :=
  let c2808_i32_1910 : BitVec 32 := 2808#32
  let c127_i32_1902 : BitVec 32 := 127#32
  let v3069 : BitVec 32 := Scalar.andi v3068 c127_i32_1902
  let c2_i32_1907 : BitVec 32 := 2#32
  let v3074 : BitVec 32 := Scalar.subi v3069 c2_i32_1907
  let c3_i32_1908 : BitVec 32 := 3#32
  let v3075 : BitVec 32 := Scalar.shrsi v3074 c3_i32_1908
  let c3_i32_1909 : BitVec 32 := 3#32
  let v3076 : BitVec 32 := Scalar.shli v3075 c3_i32_1909
  let v3077 : BitVec 32 := Scalar.addi c2808_i32_1910 v3076
  let v3078 : BitVec 32 := v3077
  let v3079 : Index := Scalar.indexCast v3078
  let c0_1911 : Index := 0#32
  ![v3079.toNat, 0]
def k0_mult80 (v3068 : BitVec 32) : BitVec 32 :=
  let c2496_i32 : BitVec 32 := 2496#32
  let c7_i32_1903 : BitVec 32 := 7#32
  let v3070 : BitVec 32 := Scalar.shrsi v3068 c7_i32_1903
  let c127_i32_1904 : BitVec 32 := 127#32
  let v3071 : BitVec 32 := Scalar.andi v3070 c127_i32_1904
  let c3_i32_1919 : BitVec 32 := 3#32
  let v3093 : BitVec 32 := Scalar.shrsi v3071 c3_i32_1919
  let c3_i32_1920 : BitVec 32 := 3#32
  let v3094 : BitVec 32 := Scalar.shli v3093 c3_i32_1920
  let v3095 : BitVec 32 := Scalar.addi c2496_i32 v3094
  v3095
def k0_off121 (v3068 : BitVec 32) : Fin 2 → Nat :=
  let c2496_i32 : BitVec 32 := 2496#32
  let c7_i32_1903 : BitVec 32 := 7#32
  let v3070 : BitVec 32 := Scalar.shrsi v3068 c7_i32_1903
  let c127_i32_1904 : BitVec 32 := 127#32
  let v3071 : BitVec 32 := Scalar.andi v3070 c127_i32_1904
  let c3_i32_1919 : BitVec 32 := 3#32
  let v3093 : BitVec 32 := Scalar.shrsi v3071 c3_i32_1919
  let c3_i32_1920 : BitVec 32 := 3#32
  let v3094 : BitVec 32 := Scalar.shli v3093 c3_i32_1920
  let v3095 : BitVec 32 := Scalar.addi c2496_i32 v3094
  let v3096 : BitVec 32 := v3095
  let v3097 : Index := Scalar.indexCast v3096
  let c0_1921 : Index := 0#32
  ![v3097.toNat, 0]

def k0_chk40 (v3068 : BitVec 32) : Prop :=
  (8 ∣ (k0_mult79 v3068).toNat) ∧
  (∀ a, (k0_off120 v3068) a + S16x1024.size a ≤ S4608x1024.size a) ∧
  (8 ∣ (k0_mult80 v3068).toNat) ∧
  (∀ a, (k0_off121 v3068) a + S8x1024.size a ≤ S4096x1024.size a)
theorem k0_mult79_dvd : ∀ (v3068 : BitVec 32) (k0_hw40 : k0_chk40 v3068), 8 ∣ (k0_mult79 v3068).toNat := fun v3068 k0_hw40 => k0_hw40.1
theorem k0_off120_inb : ∀ (v3068 : BitVec 32) (k0_hw40 : k0_chk40 v3068), ∀ a, (k0_off120 v3068) a + S16x1024.size a ≤ S4608x1024.size a := fun v3068 k0_hw40 => k0_hw40.2.1
theorem k0_mult80_dvd : ∀ (v3068 : BitVec 32) (k0_hw40 : k0_chk40 v3068), 8 ∣ (k0_mult80 v3068).toNat := fun v3068 k0_hw40 => k0_hw40.2.2.1
theorem k0_off121_inb : ∀ (v3068 : BitVec 32) (k0_hw40 : k0_chk40 v3068), ∀ a, (k0_off121 v3068) a + S8x1024.size a ≤ S4096x1024.size a := fun v3068 k0_hw40 => k0_hw40.2.2.2

def k0_off122 (k0_t1 : Fin k0_t1_loop.trips) : Fin 2 → Nat :=
  let c40_1928 : Index := 40#32
  let c0_i32_205 : BitVec 32 := 0#32
  let c1_i32 : BitVec 32 := 1#32
  let arg21 : BitVec 32 := Scf.iv c0_i32_205 c1_i32 k0_t1
  let v3111 : Index := Scalar.indexCast arg21
  ![40, v3111.toNat]
def k0_mult81 (v3112 : BitVec 32) : BitVec 32 :=
  let c2880_i32_1937 : BitVec 32 := 2880#32
  let c127_i32_1929 : BitVec 32 := 127#32
  let v3113 : BitVec 32 := Scalar.andi v3112 c127_i32_1929
  let c2_i32_1934 : BitVec 32 := 2#32
  let v3118 : BitVec 32 := Scalar.subi v3113 c2_i32_1934
  let c3_i32_1935 : BitVec 32 := 3#32
  let v3119 : BitVec 32 := Scalar.shrsi v3118 c3_i32_1935
  let c3_i32_1936 : BitVec 32 := 3#32
  let v3120 : BitVec 32 := Scalar.shli v3119 c3_i32_1936
  let v3121 : BitVec 32 := Scalar.addi c2880_i32_1937 v3120
  v3121

def k0_off123 (v3112 : BitVec 32) : Fin 2 → Nat :=
  let c2880_i32_1937 : BitVec 32 := 2880#32
  let c127_i32_1929 : BitVec 32 := 127#32
  let v3113 : BitVec 32 := Scalar.andi v3112 c127_i32_1929
  let c2_i32_1934 : BitVec 32 := 2#32
  let v3118 : BitVec 32 := Scalar.subi v3113 c2_i32_1934
  let c3_i32_1935 : BitVec 32 := 3#32
  let v3119 : BitVec 32 := Scalar.shrsi v3118 c3_i32_1935
  let c3_i32_1936 : BitVec 32 := 3#32
  let v3120 : BitVec 32 := Scalar.shli v3119 c3_i32_1936
  let v3121 : BitVec 32 := Scalar.addi c2880_i32_1937 v3120
  let v3122 : BitVec 32 := v3121
  let v3123 : Index := Scalar.indexCast v3122
  let c0_1938 : Index := 0#32
  ![v3123.toNat, 0]
def k0_mult82 (v3112 : BitVec 32) : BitVec 32 :=
  let c2560_i32 : BitVec 32 := 2560#32
  let c7_i32_1930 : BitVec 32 := 7#32
  let v3114 : BitVec 32 := Scalar.shrsi v3112 c7_i32_1930
  let c127_i32_1931 : BitVec 32 := 127#32
  let v3115 : BitVec 32 := Scalar.andi v3114 c127_i32_1931
  let c3_i32_1946 : BitVec 32 := 3#32
  let v3137 : BitVec 32 := Scalar.shrsi v3115 c3_i32_1946
  let c3_i32_1947 : BitVec 32 := 3#32
  let v3138 : BitVec 32 := Scalar.shli v3137 c3_i32_1947
  let v3139 : BitVec 32 := Scalar.addi c2560_i32 v3138
  v3139
def k0_off124 (v3112 : BitVec 32) : Fin 2 → Nat :=
  let c2560_i32 : BitVec 32 := 2560#32
  let c7_i32_1930 : BitVec 32 := 7#32
  let v3114 : BitVec 32 := Scalar.shrsi v3112 c7_i32_1930
  let c127_i32_1931 : BitVec 32 := 127#32
  let v3115 : BitVec 32 := Scalar.andi v3114 c127_i32_1931
  let c3_i32_1946 : BitVec 32 := 3#32
  let v3137 : BitVec 32 := Scalar.shrsi v3115 c3_i32_1946
  let c3_i32_1947 : BitVec 32 := 3#32
  let v3138 : BitVec 32 := Scalar.shli v3137 c3_i32_1947
  let v3139 : BitVec 32 := Scalar.addi c2560_i32 v3138
  let v3140 : BitVec 32 := v3139
  let v3141 : Index := Scalar.indexCast v3140
  let c0_1948 : Index := 0#32
  ![v3141.toNat, 0]

def k0_chk41 (v3112 : BitVec 32) : Prop :=
  (8 ∣ (k0_mult81 v3112).toNat) ∧
  (∀ a, (k0_off123 v3112) a + S16x1024.size a ≤ S4608x1024.size a) ∧
  (8 ∣ (k0_mult82 v3112).toNat) ∧
  (∀ a, (k0_off124 v3112) a + S8x1024.size a ≤ S4096x1024.size a)
theorem k0_mult81_dvd : ∀ (v3112 : BitVec 32) (k0_hw41 : k0_chk41 v3112), 8 ∣ (k0_mult81 v3112).toNat := fun v3112 k0_hw41 => k0_hw41.1
theorem k0_off123_inb : ∀ (v3112 : BitVec 32) (k0_hw41 : k0_chk41 v3112), ∀ a, (k0_off123 v3112) a + S16x1024.size a ≤ S4608x1024.size a := fun v3112 k0_hw41 => k0_hw41.2.1
theorem k0_mult82_dvd : ∀ (v3112 : BitVec 32) (k0_hw41 : k0_chk41 v3112), 8 ∣ (k0_mult82 v3112).toNat := fun v3112 k0_hw41 => k0_hw41.2.2.1
theorem k0_off124_inb : ∀ (v3112 : BitVec 32) (k0_hw41 : k0_chk41 v3112), ∀ a, (k0_off124 v3112) a + S8x1024.size a ≤ S4096x1024.size a := fun v3112 k0_hw41 => k0_hw41.2.2.2

def k0_off125 (k0_t1 : Fin k0_t1_loop.trips) : Fin 2 → Nat :=
  let c41_1955 : Index := 41#32
  let c0_i32_205 : BitVec 32 := 0#32
  let c1_i32 : BitVec 32 := 1#32
  let arg21 : BitVec 32 := Scf.iv c0_i32_205 c1_i32 k0_t1
  let v3155 : Index := Scalar.indexCast arg21
  ![41, v3155.toNat]
def k0_mult83 (v3156 : BitVec 32) : BitVec 32 :=
  let c2952_i32_1964 : BitVec 32 := 2952#32
  let c127_i32_1956 : BitVec 32 := 127#32
  let v3157 : BitVec 32 := Scalar.andi v3156 c127_i32_1956
  let c2_i32_1961 : BitVec 32 := 2#32
  let v3162 : BitVec 32 := Scalar.subi v3157 c2_i32_1961
  let c3_i32_1962 : BitVec 32 := 3#32
  let v3163 : BitVec 32 := Scalar.shrsi v3162 c3_i32_1962
  let c3_i32_1963 : BitVec 32 := 3#32
  let v3164 : BitVec 32 := Scalar.shli v3163 c3_i32_1963
  let v3165 : BitVec 32 := Scalar.addi c2952_i32_1964 v3164
  v3165

def k0_off126 (v3156 : BitVec 32) : Fin 2 → Nat :=
  let c2952_i32_1964 : BitVec 32 := 2952#32
  let c127_i32_1956 : BitVec 32 := 127#32
  let v3157 : BitVec 32 := Scalar.andi v3156 c127_i32_1956
  let c2_i32_1961 : BitVec 32 := 2#32
  let v3162 : BitVec 32 := Scalar.subi v3157 c2_i32_1961
  let c3_i32_1962 : BitVec 32 := 3#32
  let v3163 : BitVec 32 := Scalar.shrsi v3162 c3_i32_1962
  let c3_i32_1963 : BitVec 32 := 3#32
  let v3164 : BitVec 32 := Scalar.shli v3163 c3_i32_1963
  let v3165 : BitVec 32 := Scalar.addi c2952_i32_1964 v3164
  let v3166 : BitVec 32 := v3165
  let v3167 : Index := Scalar.indexCast v3166
  let c0_1965 : Index := 0#32
  ![v3167.toNat, 0]
def k0_mult84 (v3156 : BitVec 32) : BitVec 32 :=
  let c2624_i32 : BitVec 32 := 2624#32
  let c7_i32_1957 : BitVec 32 := 7#32
  let v3158 : BitVec 32 := Scalar.shrsi v3156 c7_i32_1957
  let c127_i32_1958 : BitVec 32 := 127#32
  let v3159 : BitVec 32 := Scalar.andi v3158 c127_i32_1958
  let c3_i32_1973 : BitVec 32 := 3#32
  let v3181 : BitVec 32 := Scalar.shrsi v3159 c3_i32_1973
  let c3_i32_1974 : BitVec 32 := 3#32
  let v3182 : BitVec 32 := Scalar.shli v3181 c3_i32_1974
  let v3183 : BitVec 32 := Scalar.addi c2624_i32 v3182
  v3183
def k0_off127 (v3156 : BitVec 32) : Fin 2 → Nat :=
  let c2624_i32 : BitVec 32 := 2624#32
  let c7_i32_1957 : BitVec 32 := 7#32
  let v3158 : BitVec 32 := Scalar.shrsi v3156 c7_i32_1957
  let c127_i32_1958 : BitVec 32 := 127#32
  let v3159 : BitVec 32 := Scalar.andi v3158 c127_i32_1958
  let c3_i32_1973 : BitVec 32 := 3#32
  let v3181 : BitVec 32 := Scalar.shrsi v3159 c3_i32_1973
  let c3_i32_1974 : BitVec 32 := 3#32
  let v3182 : BitVec 32 := Scalar.shli v3181 c3_i32_1974
  let v3183 : BitVec 32 := Scalar.addi c2624_i32 v3182
  let v3184 : BitVec 32 := v3183
  let v3185 : Index := Scalar.indexCast v3184
  let c0_1975 : Index := 0#32
  ![v3185.toNat, 0]

def k0_chk42 (v3156 : BitVec 32) : Prop :=
  (8 ∣ (k0_mult83 v3156).toNat) ∧
  (∀ a, (k0_off126 v3156) a + S16x1024.size a ≤ S4608x1024.size a) ∧
  (8 ∣ (k0_mult84 v3156).toNat) ∧
  (∀ a, (k0_off127 v3156) a + S8x1024.size a ≤ S4096x1024.size a)
theorem k0_mult83_dvd : ∀ (v3156 : BitVec 32) (k0_hw42 : k0_chk42 v3156), 8 ∣ (k0_mult83 v3156).toNat := fun v3156 k0_hw42 => k0_hw42.1
theorem k0_off126_inb : ∀ (v3156 : BitVec 32) (k0_hw42 : k0_chk42 v3156), ∀ a, (k0_off126 v3156) a + S16x1024.size a ≤ S4608x1024.size a := fun v3156 k0_hw42 => k0_hw42.2.1
theorem k0_mult84_dvd : ∀ (v3156 : BitVec 32) (k0_hw42 : k0_chk42 v3156), 8 ∣ (k0_mult84 v3156).toNat := fun v3156 k0_hw42 => k0_hw42.2.2.1
theorem k0_off127_inb : ∀ (v3156 : BitVec 32) (k0_hw42 : k0_chk42 v3156), ∀ a, (k0_off127 v3156) a + S8x1024.size a ≤ S4096x1024.size a := fun v3156 k0_hw42 => k0_hw42.2.2.2

def k0_off128 (k0_t1 : Fin k0_t1_loop.trips) : Fin 2 → Nat :=
  let c42_1982 : Index := 42#32
  let c0_i32_205 : BitVec 32 := 0#32
  let c1_i32 : BitVec 32 := 1#32
  let arg21 : BitVec 32 := Scf.iv c0_i32_205 c1_i32 k0_t1
  let v3199 : Index := Scalar.indexCast arg21
  ![42, v3199.toNat]
def k0_mult85 (v3200 : BitVec 32) : BitVec 32 :=
  let c3024_i32_1991 : BitVec 32 := 3024#32
  let c127_i32_1983 : BitVec 32 := 127#32
  let v3201 : BitVec 32 := Scalar.andi v3200 c127_i32_1983
  let c2_i32_1988 : BitVec 32 := 2#32
  let v3206 : BitVec 32 := Scalar.subi v3201 c2_i32_1988
  let c3_i32_1989 : BitVec 32 := 3#32
  let v3207 : BitVec 32 := Scalar.shrsi v3206 c3_i32_1989
  let c3_i32_1990 : BitVec 32 := 3#32
  let v3208 : BitVec 32 := Scalar.shli v3207 c3_i32_1990
  let v3209 : BitVec 32 := Scalar.addi c3024_i32_1991 v3208
  v3209

def k0_off129 (v3200 : BitVec 32) : Fin 2 → Nat :=
  let c3024_i32_1991 : BitVec 32 := 3024#32
  let c127_i32_1983 : BitVec 32 := 127#32
  let v3201 : BitVec 32 := Scalar.andi v3200 c127_i32_1983
  let c2_i32_1988 : BitVec 32 := 2#32
  let v3206 : BitVec 32 := Scalar.subi v3201 c2_i32_1988
  let c3_i32_1989 : BitVec 32 := 3#32
  let v3207 : BitVec 32 := Scalar.shrsi v3206 c3_i32_1989
  let c3_i32_1990 : BitVec 32 := 3#32
  let v3208 : BitVec 32 := Scalar.shli v3207 c3_i32_1990
  let v3209 : BitVec 32 := Scalar.addi c3024_i32_1991 v3208
  let v3210 : BitVec 32 := v3209
  let v3211 : Index := Scalar.indexCast v3210
  let c0_1992 : Index := 0#32
  ![v3211.toNat, 0]
def k0_mult86 (v3200 : BitVec 32) : BitVec 32 :=
  let c2688_i32 : BitVec 32 := 2688#32
  let c7_i32_1984 : BitVec 32 := 7#32
  let v3202 : BitVec 32 := Scalar.shrsi v3200 c7_i32_1984
  let c127_i32_1985 : BitVec 32 := 127#32
  let v3203 : BitVec 32 := Scalar.andi v3202 c127_i32_1985
  let c3_i32_2000 : BitVec 32 := 3#32
  let v3225 : BitVec 32 := Scalar.shrsi v3203 c3_i32_2000
  let c3_i32_2001 : BitVec 32 := 3#32
  let v3226 : BitVec 32 := Scalar.shli v3225 c3_i32_2001
  let v3227 : BitVec 32 := Scalar.addi c2688_i32 v3226
  v3227
def k0_off130 (v3200 : BitVec 32) : Fin 2 → Nat :=
  let c2688_i32 : BitVec 32 := 2688#32
  let c7_i32_1984 : BitVec 32 := 7#32
  let v3202 : BitVec 32 := Scalar.shrsi v3200 c7_i32_1984
  let c127_i32_1985 : BitVec 32 := 127#32
  let v3203 : BitVec 32 := Scalar.andi v3202 c127_i32_1985
  let c3_i32_2000 : BitVec 32 := 3#32
  let v3225 : BitVec 32 := Scalar.shrsi v3203 c3_i32_2000
  let c3_i32_2001 : BitVec 32 := 3#32
  let v3226 : BitVec 32 := Scalar.shli v3225 c3_i32_2001
  let v3227 : BitVec 32 := Scalar.addi c2688_i32 v3226
  let v3228 : BitVec 32 := v3227
  let v3229 : Index := Scalar.indexCast v3228
  let c0_2002 : Index := 0#32
  ![v3229.toNat, 0]

def k0_chk43 (v3200 : BitVec 32) : Prop :=
  (8 ∣ (k0_mult85 v3200).toNat) ∧
  (∀ a, (k0_off129 v3200) a + S16x1024.size a ≤ S4608x1024.size a) ∧
  (8 ∣ (k0_mult86 v3200).toNat) ∧
  (∀ a, (k0_off130 v3200) a + S8x1024.size a ≤ S4096x1024.size a)
theorem k0_mult85_dvd : ∀ (v3200 : BitVec 32) (k0_hw43 : k0_chk43 v3200), 8 ∣ (k0_mult85 v3200).toNat := fun v3200 k0_hw43 => k0_hw43.1
theorem k0_off129_inb : ∀ (v3200 : BitVec 32) (k0_hw43 : k0_chk43 v3200), ∀ a, (k0_off129 v3200) a + S16x1024.size a ≤ S4608x1024.size a := fun v3200 k0_hw43 => k0_hw43.2.1
theorem k0_mult86_dvd : ∀ (v3200 : BitVec 32) (k0_hw43 : k0_chk43 v3200), 8 ∣ (k0_mult86 v3200).toNat := fun v3200 k0_hw43 => k0_hw43.2.2.1
theorem k0_off130_inb : ∀ (v3200 : BitVec 32) (k0_hw43 : k0_chk43 v3200), ∀ a, (k0_off130 v3200) a + S8x1024.size a ≤ S4096x1024.size a := fun v3200 k0_hw43 => k0_hw43.2.2.2

def k0_off131 (k0_t1 : Fin k0_t1_loop.trips) : Fin 2 → Nat :=
  let c43_2009 : Index := 43#32
  let c0_i32_205 : BitVec 32 := 0#32
  let c1_i32 : BitVec 32 := 1#32
  let arg21 : BitVec 32 := Scf.iv c0_i32_205 c1_i32 k0_t1
  let v3243 : Index := Scalar.indexCast arg21
  ![43, v3243.toNat]
def k0_mult87 (v3244 : BitVec 32) : BitVec 32 :=
  let c3096_i32_2018 : BitVec 32 := 3096#32
  let c127_i32_2010 : BitVec 32 := 127#32
  let v3245 : BitVec 32 := Scalar.andi v3244 c127_i32_2010
  let c2_i32_2015 : BitVec 32 := 2#32
  let v3250 : BitVec 32 := Scalar.subi v3245 c2_i32_2015
  let c3_i32_2016 : BitVec 32 := 3#32
  let v3251 : BitVec 32 := Scalar.shrsi v3250 c3_i32_2016
  let c3_i32_2017 : BitVec 32 := 3#32
  let v3252 : BitVec 32 := Scalar.shli v3251 c3_i32_2017
  let v3253 : BitVec 32 := Scalar.addi c3096_i32_2018 v3252
  v3253

def k0_off132 (v3244 : BitVec 32) : Fin 2 → Nat :=
  let c3096_i32_2018 : BitVec 32 := 3096#32
  let c127_i32_2010 : BitVec 32 := 127#32
  let v3245 : BitVec 32 := Scalar.andi v3244 c127_i32_2010
  let c2_i32_2015 : BitVec 32 := 2#32
  let v3250 : BitVec 32 := Scalar.subi v3245 c2_i32_2015
  let c3_i32_2016 : BitVec 32 := 3#32
  let v3251 : BitVec 32 := Scalar.shrsi v3250 c3_i32_2016
  let c3_i32_2017 : BitVec 32 := 3#32
  let v3252 : BitVec 32 := Scalar.shli v3251 c3_i32_2017
  let v3253 : BitVec 32 := Scalar.addi c3096_i32_2018 v3252
  let v3254 : BitVec 32 := v3253
  let v3255 : Index := Scalar.indexCast v3254
  let c0_2019 : Index := 0#32
  ![v3255.toNat, 0]
def k0_mult88 (v3244 : BitVec 32) : BitVec 32 :=
  let c2752_i32 : BitVec 32 := 2752#32
  let c7_i32_2011 : BitVec 32 := 7#32
  let v3246 : BitVec 32 := Scalar.shrsi v3244 c7_i32_2011
  let c127_i32_2012 : BitVec 32 := 127#32
  let v3247 : BitVec 32 := Scalar.andi v3246 c127_i32_2012
  let c3_i32_2027 : BitVec 32 := 3#32
  let v3269 : BitVec 32 := Scalar.shrsi v3247 c3_i32_2027
  let c3_i32_2028 : BitVec 32 := 3#32
  let v3270 : BitVec 32 := Scalar.shli v3269 c3_i32_2028
  let v3271 : BitVec 32 := Scalar.addi c2752_i32 v3270
  v3271
def k0_off133 (v3244 : BitVec 32) : Fin 2 → Nat :=
  let c2752_i32 : BitVec 32 := 2752#32
  let c7_i32_2011 : BitVec 32 := 7#32
  let v3246 : BitVec 32 := Scalar.shrsi v3244 c7_i32_2011
  let c127_i32_2012 : BitVec 32 := 127#32
  let v3247 : BitVec 32 := Scalar.andi v3246 c127_i32_2012
  let c3_i32_2027 : BitVec 32 := 3#32
  let v3269 : BitVec 32 := Scalar.shrsi v3247 c3_i32_2027
  let c3_i32_2028 : BitVec 32 := 3#32
  let v3270 : BitVec 32 := Scalar.shli v3269 c3_i32_2028
  let v3271 : BitVec 32 := Scalar.addi c2752_i32 v3270
  let v3272 : BitVec 32 := v3271
  let v3273 : Index := Scalar.indexCast v3272
  let c0_2029 : Index := 0#32
  ![v3273.toNat, 0]

def k0_chk44 (v3244 : BitVec 32) : Prop :=
  (8 ∣ (k0_mult87 v3244).toNat) ∧
  (∀ a, (k0_off132 v3244) a + S16x1024.size a ≤ S4608x1024.size a) ∧
  (8 ∣ (k0_mult88 v3244).toNat) ∧
  (∀ a, (k0_off133 v3244) a + S8x1024.size a ≤ S4096x1024.size a)
theorem k0_mult87_dvd : ∀ (v3244 : BitVec 32) (k0_hw44 : k0_chk44 v3244), 8 ∣ (k0_mult87 v3244).toNat := fun v3244 k0_hw44 => k0_hw44.1
theorem k0_off132_inb : ∀ (v3244 : BitVec 32) (k0_hw44 : k0_chk44 v3244), ∀ a, (k0_off132 v3244) a + S16x1024.size a ≤ S4608x1024.size a := fun v3244 k0_hw44 => k0_hw44.2.1
theorem k0_mult88_dvd : ∀ (v3244 : BitVec 32) (k0_hw44 : k0_chk44 v3244), 8 ∣ (k0_mult88 v3244).toNat := fun v3244 k0_hw44 => k0_hw44.2.2.1
theorem k0_off133_inb : ∀ (v3244 : BitVec 32) (k0_hw44 : k0_chk44 v3244), ∀ a, (k0_off133 v3244) a + S8x1024.size a ≤ S4096x1024.size a := fun v3244 k0_hw44 => k0_hw44.2.2.2

def k0_off134 (k0_t1 : Fin k0_t1_loop.trips) : Fin 2 → Nat :=
  let c44_2036 : Index := 44#32
  let c0_i32_205 : BitVec 32 := 0#32
  let c1_i32 : BitVec 32 := 1#32
  let arg21 : BitVec 32 := Scf.iv c0_i32_205 c1_i32 k0_t1
  let v3287 : Index := Scalar.indexCast arg21
  ![44, v3287.toNat]
def k0_mult89 (v3288 : BitVec 32) : BitVec 32 :=
  let c3168_i32_2045 : BitVec 32 := 3168#32
  let c127_i32_2037 : BitVec 32 := 127#32
  let v3289 : BitVec 32 := Scalar.andi v3288 c127_i32_2037
  let c2_i32_2042 : BitVec 32 := 2#32
  let v3294 : BitVec 32 := Scalar.subi v3289 c2_i32_2042
  let c3_i32_2043 : BitVec 32 := 3#32
  let v3295 : BitVec 32 := Scalar.shrsi v3294 c3_i32_2043
  let c3_i32_2044 : BitVec 32 := 3#32
  let v3296 : BitVec 32 := Scalar.shli v3295 c3_i32_2044
  let v3297 : BitVec 32 := Scalar.addi c3168_i32_2045 v3296
  v3297

def k0_off135 (v3288 : BitVec 32) : Fin 2 → Nat :=
  let c3168_i32_2045 : BitVec 32 := 3168#32
  let c127_i32_2037 : BitVec 32 := 127#32
  let v3289 : BitVec 32 := Scalar.andi v3288 c127_i32_2037
  let c2_i32_2042 : BitVec 32 := 2#32
  let v3294 : BitVec 32 := Scalar.subi v3289 c2_i32_2042
  let c3_i32_2043 : BitVec 32 := 3#32
  let v3295 : BitVec 32 := Scalar.shrsi v3294 c3_i32_2043
  let c3_i32_2044 : BitVec 32 := 3#32
  let v3296 : BitVec 32 := Scalar.shli v3295 c3_i32_2044
  let v3297 : BitVec 32 := Scalar.addi c3168_i32_2045 v3296
  let v3298 : BitVec 32 := v3297
  let v3299 : Index := Scalar.indexCast v3298
  let c0_2046 : Index := 0#32
  ![v3299.toNat, 0]
def k0_mult90 (v3288 : BitVec 32) : BitVec 32 :=
  let c2816_i32 : BitVec 32 := 2816#32
  let c7_i32_2038 : BitVec 32 := 7#32
  let v3290 : BitVec 32 := Scalar.shrsi v3288 c7_i32_2038
  let c127_i32_2039 : BitVec 32 := 127#32
  let v3291 : BitVec 32 := Scalar.andi v3290 c127_i32_2039
  let c3_i32_2054 : BitVec 32 := 3#32
  let v3313 : BitVec 32 := Scalar.shrsi v3291 c3_i32_2054
  let c3_i32_2055 : BitVec 32 := 3#32
  let v3314 : BitVec 32 := Scalar.shli v3313 c3_i32_2055
  let v3315 : BitVec 32 := Scalar.addi c2816_i32 v3314
  v3315
def k0_off136 (v3288 : BitVec 32) : Fin 2 → Nat :=
  let c2816_i32 : BitVec 32 := 2816#32
  let c7_i32_2038 : BitVec 32 := 7#32
  let v3290 : BitVec 32 := Scalar.shrsi v3288 c7_i32_2038
  let c127_i32_2039 : BitVec 32 := 127#32
  let v3291 : BitVec 32 := Scalar.andi v3290 c127_i32_2039
  let c3_i32_2054 : BitVec 32 := 3#32
  let v3313 : BitVec 32 := Scalar.shrsi v3291 c3_i32_2054
  let c3_i32_2055 : BitVec 32 := 3#32
  let v3314 : BitVec 32 := Scalar.shli v3313 c3_i32_2055
  let v3315 : BitVec 32 := Scalar.addi c2816_i32 v3314
  let v3316 : BitVec 32 := v3315
  let v3317 : Index := Scalar.indexCast v3316
  let c0_2056 : Index := 0#32
  ![v3317.toNat, 0]

def k0_chk45 (v3288 : BitVec 32) : Prop :=
  (8 ∣ (k0_mult89 v3288).toNat) ∧
  (∀ a, (k0_off135 v3288) a + S16x1024.size a ≤ S4608x1024.size a) ∧
  (8 ∣ (k0_mult90 v3288).toNat) ∧
  (∀ a, (k0_off136 v3288) a + S8x1024.size a ≤ S4096x1024.size a)
theorem k0_mult89_dvd : ∀ (v3288 : BitVec 32) (k0_hw45 : k0_chk45 v3288), 8 ∣ (k0_mult89 v3288).toNat := fun v3288 k0_hw45 => k0_hw45.1
theorem k0_off135_inb : ∀ (v3288 : BitVec 32) (k0_hw45 : k0_chk45 v3288), ∀ a, (k0_off135 v3288) a + S16x1024.size a ≤ S4608x1024.size a := fun v3288 k0_hw45 => k0_hw45.2.1
theorem k0_mult90_dvd : ∀ (v3288 : BitVec 32) (k0_hw45 : k0_chk45 v3288), 8 ∣ (k0_mult90 v3288).toNat := fun v3288 k0_hw45 => k0_hw45.2.2.1
theorem k0_off136_inb : ∀ (v3288 : BitVec 32) (k0_hw45 : k0_chk45 v3288), ∀ a, (k0_off136 v3288) a + S8x1024.size a ≤ S4096x1024.size a := fun v3288 k0_hw45 => k0_hw45.2.2.2

def k0_off137 (k0_t1 : Fin k0_t1_loop.trips) : Fin 2 → Nat :=
  let c45_2063 : Index := 45#32
  let c0_i32_205 : BitVec 32 := 0#32
  let c1_i32 : BitVec 32 := 1#32
  let arg21 : BitVec 32 := Scf.iv c0_i32_205 c1_i32 k0_t1
  let v3331 : Index := Scalar.indexCast arg21
  ![45, v3331.toNat]
def k0_mult91 (v3332 : BitVec 32) : BitVec 32 :=
  let c3240_i32_2072 : BitVec 32 := 3240#32
  let c127_i32_2064 : BitVec 32 := 127#32
  let v3333 : BitVec 32 := Scalar.andi v3332 c127_i32_2064
  let c2_i32_2069 : BitVec 32 := 2#32
  let v3338 : BitVec 32 := Scalar.subi v3333 c2_i32_2069
  let c3_i32_2070 : BitVec 32 := 3#32
  let v3339 : BitVec 32 := Scalar.shrsi v3338 c3_i32_2070
  let c3_i32_2071 : BitVec 32 := 3#32
  let v3340 : BitVec 32 := Scalar.shli v3339 c3_i32_2071
  let v3341 : BitVec 32 := Scalar.addi c3240_i32_2072 v3340
  v3341

def k0_off138 (v3332 : BitVec 32) : Fin 2 → Nat :=
  let c3240_i32_2072 : BitVec 32 := 3240#32
  let c127_i32_2064 : BitVec 32 := 127#32
  let v3333 : BitVec 32 := Scalar.andi v3332 c127_i32_2064
  let c2_i32_2069 : BitVec 32 := 2#32
  let v3338 : BitVec 32 := Scalar.subi v3333 c2_i32_2069
  let c3_i32_2070 : BitVec 32 := 3#32
  let v3339 : BitVec 32 := Scalar.shrsi v3338 c3_i32_2070
  let c3_i32_2071 : BitVec 32 := 3#32
  let v3340 : BitVec 32 := Scalar.shli v3339 c3_i32_2071
  let v3341 : BitVec 32 := Scalar.addi c3240_i32_2072 v3340
  let v3342 : BitVec 32 := v3341
  let v3343 : Index := Scalar.indexCast v3342
  let c0_2073 : Index := 0#32
  ![v3343.toNat, 0]
def k0_mult92 (v3332 : BitVec 32) : BitVec 32 :=
  let c2880_i32_2083 : BitVec 32 := 2880#32
  let c7_i32_2065 : BitVec 32 := 7#32
  let v3334 : BitVec 32 := Scalar.shrsi v3332 c7_i32_2065
  let c127_i32_2066 : BitVec 32 := 127#32
  let v3335 : BitVec 32 := Scalar.andi v3334 c127_i32_2066
  let c3_i32_2081 : BitVec 32 := 3#32
  let v3357 : BitVec 32 := Scalar.shrsi v3335 c3_i32_2081
  let c3_i32_2082 : BitVec 32 := 3#32
  let v3358 : BitVec 32 := Scalar.shli v3357 c3_i32_2082
  let v3359 : BitVec 32 := Scalar.addi c2880_i32_2083 v3358
  v3359
def k0_off139 (v3332 : BitVec 32) : Fin 2 → Nat :=
  let c2880_i32_2083 : BitVec 32 := 2880#32
  let c7_i32_2065 : BitVec 32 := 7#32
  let v3334 : BitVec 32 := Scalar.shrsi v3332 c7_i32_2065
  let c127_i32_2066 : BitVec 32 := 127#32
  let v3335 : BitVec 32 := Scalar.andi v3334 c127_i32_2066
  let c3_i32_2081 : BitVec 32 := 3#32
  let v3357 : BitVec 32 := Scalar.shrsi v3335 c3_i32_2081
  let c3_i32_2082 : BitVec 32 := 3#32
  let v3358 : BitVec 32 := Scalar.shli v3357 c3_i32_2082
  let v3359 : BitVec 32 := Scalar.addi c2880_i32_2083 v3358
  let v3360 : BitVec 32 := v3359
  let v3361 : Index := Scalar.indexCast v3360
  let c0_2084 : Index := 0#32
  ![v3361.toNat, 0]

def k0_chk46 (v3332 : BitVec 32) : Prop :=
  (8 ∣ (k0_mult91 v3332).toNat) ∧
  (∀ a, (k0_off138 v3332) a + S16x1024.size a ≤ S4608x1024.size a) ∧
  (8 ∣ (k0_mult92 v3332).toNat) ∧
  (∀ a, (k0_off139 v3332) a + S8x1024.size a ≤ S4096x1024.size a)
theorem k0_mult91_dvd : ∀ (v3332 : BitVec 32) (k0_hw46 : k0_chk46 v3332), 8 ∣ (k0_mult91 v3332).toNat := fun v3332 k0_hw46 => k0_hw46.1
theorem k0_off138_inb : ∀ (v3332 : BitVec 32) (k0_hw46 : k0_chk46 v3332), ∀ a, (k0_off138 v3332) a + S16x1024.size a ≤ S4608x1024.size a := fun v3332 k0_hw46 => k0_hw46.2.1
theorem k0_mult92_dvd : ∀ (v3332 : BitVec 32) (k0_hw46 : k0_chk46 v3332), 8 ∣ (k0_mult92 v3332).toNat := fun v3332 k0_hw46 => k0_hw46.2.2.1
theorem k0_off139_inb : ∀ (v3332 : BitVec 32) (k0_hw46 : k0_chk46 v3332), ∀ a, (k0_off139 v3332) a + S8x1024.size a ≤ S4096x1024.size a := fun v3332 k0_hw46 => k0_hw46.2.2.2

def k0_off140 (k0_t1 : Fin k0_t1_loop.trips) : Fin 2 → Nat :=
  let c46_2091 : Index := 46#32
  let c0_i32_205 : BitVec 32 := 0#32
  let c1_i32 : BitVec 32 := 1#32
  let arg21 : BitVec 32 := Scf.iv c0_i32_205 c1_i32 k0_t1
  let v3375 : Index := Scalar.indexCast arg21
  ![46, v3375.toNat]
def k0_mult93 (v3376 : BitVec 32) : BitVec 32 :=
  let c3312_i32_2100 : BitVec 32 := 3312#32
  let c127_i32_2092 : BitVec 32 := 127#32
  let v3377 : BitVec 32 := Scalar.andi v3376 c127_i32_2092
  let c2_i32_2097 : BitVec 32 := 2#32
  let v3382 : BitVec 32 := Scalar.subi v3377 c2_i32_2097
  let c3_i32_2098 : BitVec 32 := 3#32
  let v3383 : BitVec 32 := Scalar.shrsi v3382 c3_i32_2098
  let c3_i32_2099 : BitVec 32 := 3#32
  let v3384 : BitVec 32 := Scalar.shli v3383 c3_i32_2099
  let v3385 : BitVec 32 := Scalar.addi c3312_i32_2100 v3384
  v3385

def k0_off141 (v3376 : BitVec 32) : Fin 2 → Nat :=
  let c3312_i32_2100 : BitVec 32 := 3312#32
  let c127_i32_2092 : BitVec 32 := 127#32
  let v3377 : BitVec 32 := Scalar.andi v3376 c127_i32_2092
  let c2_i32_2097 : BitVec 32 := 2#32
  let v3382 : BitVec 32 := Scalar.subi v3377 c2_i32_2097
  let c3_i32_2098 : BitVec 32 := 3#32
  let v3383 : BitVec 32 := Scalar.shrsi v3382 c3_i32_2098
  let c3_i32_2099 : BitVec 32 := 3#32
  let v3384 : BitVec 32 := Scalar.shli v3383 c3_i32_2099
  let v3385 : BitVec 32 := Scalar.addi c3312_i32_2100 v3384
  let v3386 : BitVec 32 := v3385
  let v3387 : Index := Scalar.indexCast v3386
  let c0_2101 : Index := 0#32
  ![v3387.toNat, 0]
def k0_mult94 (v3376 : BitVec 32) : BitVec 32 :=
  let c2944_i32 : BitVec 32 := 2944#32
  let c7_i32_2093 : BitVec 32 := 7#32
  let v3378 : BitVec 32 := Scalar.shrsi v3376 c7_i32_2093
  let c127_i32_2094 : BitVec 32 := 127#32
  let v3379 : BitVec 32 := Scalar.andi v3378 c127_i32_2094
  let c3_i32_2109 : BitVec 32 := 3#32
  let v3401 : BitVec 32 := Scalar.shrsi v3379 c3_i32_2109
  let c3_i32_2110 : BitVec 32 := 3#32
  let v3402 : BitVec 32 := Scalar.shli v3401 c3_i32_2110
  let v3403 : BitVec 32 := Scalar.addi c2944_i32 v3402
  v3403
def k0_off142 (v3376 : BitVec 32) : Fin 2 → Nat :=
  let c2944_i32 : BitVec 32 := 2944#32
  let c7_i32_2093 : BitVec 32 := 7#32
  let v3378 : BitVec 32 := Scalar.shrsi v3376 c7_i32_2093
  let c127_i32_2094 : BitVec 32 := 127#32
  let v3379 : BitVec 32 := Scalar.andi v3378 c127_i32_2094
  let c3_i32_2109 : BitVec 32 := 3#32
  let v3401 : BitVec 32 := Scalar.shrsi v3379 c3_i32_2109
  let c3_i32_2110 : BitVec 32 := 3#32
  let v3402 : BitVec 32 := Scalar.shli v3401 c3_i32_2110
  let v3403 : BitVec 32 := Scalar.addi c2944_i32 v3402
  let v3404 : BitVec 32 := v3403
  let v3405 : Index := Scalar.indexCast v3404
  let c0_2111 : Index := 0#32
  ![v3405.toNat, 0]

def k0_chk47 (v3376 : BitVec 32) : Prop :=
  (8 ∣ (k0_mult93 v3376).toNat) ∧
  (∀ a, (k0_off141 v3376) a + S16x1024.size a ≤ S4608x1024.size a) ∧
  (8 ∣ (k0_mult94 v3376).toNat) ∧
  (∀ a, (k0_off142 v3376) a + S8x1024.size a ≤ S4096x1024.size a)
theorem k0_mult93_dvd : ∀ (v3376 : BitVec 32) (k0_hw47 : k0_chk47 v3376), 8 ∣ (k0_mult93 v3376).toNat := fun v3376 k0_hw47 => k0_hw47.1
theorem k0_off141_inb : ∀ (v3376 : BitVec 32) (k0_hw47 : k0_chk47 v3376), ∀ a, (k0_off141 v3376) a + S16x1024.size a ≤ S4608x1024.size a := fun v3376 k0_hw47 => k0_hw47.2.1
theorem k0_mult94_dvd : ∀ (v3376 : BitVec 32) (k0_hw47 : k0_chk47 v3376), 8 ∣ (k0_mult94 v3376).toNat := fun v3376 k0_hw47 => k0_hw47.2.2.1
theorem k0_off142_inb : ∀ (v3376 : BitVec 32) (k0_hw47 : k0_chk47 v3376), ∀ a, (k0_off142 v3376) a + S8x1024.size a ≤ S4096x1024.size a := fun v3376 k0_hw47 => k0_hw47.2.2.2

def k0_off143 (k0_t1 : Fin k0_t1_loop.trips) : Fin 2 → Nat :=
  let c47_2118 : Index := 47#32
  let c0_i32_205 : BitVec 32 := 0#32
  let c1_i32 : BitVec 32 := 1#32
  let arg21 : BitVec 32 := Scf.iv c0_i32_205 c1_i32 k0_t1
  let v3419 : Index := Scalar.indexCast arg21
  ![47, v3419.toNat]
def k0_mult95 (v3420 : BitVec 32) : BitVec 32 :=
  let c3384_i32_2127 : BitVec 32 := 3384#32
  let c127_i32_2119 : BitVec 32 := 127#32
  let v3421 : BitVec 32 := Scalar.andi v3420 c127_i32_2119
  let c2_i32_2124 : BitVec 32 := 2#32
  let v3426 : BitVec 32 := Scalar.subi v3421 c2_i32_2124
  let c3_i32_2125 : BitVec 32 := 3#32
  let v3427 : BitVec 32 := Scalar.shrsi v3426 c3_i32_2125
  let c3_i32_2126 : BitVec 32 := 3#32
  let v3428 : BitVec 32 := Scalar.shli v3427 c3_i32_2126
  let v3429 : BitVec 32 := Scalar.addi c3384_i32_2127 v3428
  v3429

def k0_off144 (v3420 : BitVec 32) : Fin 2 → Nat :=
  let c3384_i32_2127 : BitVec 32 := 3384#32
  let c127_i32_2119 : BitVec 32 := 127#32
  let v3421 : BitVec 32 := Scalar.andi v3420 c127_i32_2119
  let c2_i32_2124 : BitVec 32 := 2#32
  let v3426 : BitVec 32 := Scalar.subi v3421 c2_i32_2124
  let c3_i32_2125 : BitVec 32 := 3#32
  let v3427 : BitVec 32 := Scalar.shrsi v3426 c3_i32_2125
  let c3_i32_2126 : BitVec 32 := 3#32
  let v3428 : BitVec 32 := Scalar.shli v3427 c3_i32_2126
  let v3429 : BitVec 32 := Scalar.addi c3384_i32_2127 v3428
  let v3430 : BitVec 32 := v3429
  let v3431 : Index := Scalar.indexCast v3430
  let c0_2128 : Index := 0#32
  ![v3431.toNat, 0]
def k0_mult96 (v3420 : BitVec 32) : BitVec 32 :=
  let c3008_i32 : BitVec 32 := 3008#32
  let c7_i32_2120 : BitVec 32 := 7#32
  let v3422 : BitVec 32 := Scalar.shrsi v3420 c7_i32_2120
  let c127_i32_2121 : BitVec 32 := 127#32
  let v3423 : BitVec 32 := Scalar.andi v3422 c127_i32_2121
  let c3_i32_2136 : BitVec 32 := 3#32
  let v3445 : BitVec 32 := Scalar.shrsi v3423 c3_i32_2136
  let c3_i32_2137 : BitVec 32 := 3#32
  let v3446 : BitVec 32 := Scalar.shli v3445 c3_i32_2137
  let v3447 : BitVec 32 := Scalar.addi c3008_i32 v3446
  v3447
def k0_off145 (v3420 : BitVec 32) : Fin 2 → Nat :=
  let c3008_i32 : BitVec 32 := 3008#32
  let c7_i32_2120 : BitVec 32 := 7#32
  let v3422 : BitVec 32 := Scalar.shrsi v3420 c7_i32_2120
  let c127_i32_2121 : BitVec 32 := 127#32
  let v3423 : BitVec 32 := Scalar.andi v3422 c127_i32_2121
  let c3_i32_2136 : BitVec 32 := 3#32
  let v3445 : BitVec 32 := Scalar.shrsi v3423 c3_i32_2136
  let c3_i32_2137 : BitVec 32 := 3#32
  let v3446 : BitVec 32 := Scalar.shli v3445 c3_i32_2137
  let v3447 : BitVec 32 := Scalar.addi c3008_i32 v3446
  let v3448 : BitVec 32 := v3447
  let v3449 : Index := Scalar.indexCast v3448
  let c0_2138 : Index := 0#32
  ![v3449.toNat, 0]

def k0_chk48 (v3420 : BitVec 32) : Prop :=
  (8 ∣ (k0_mult95 v3420).toNat) ∧
  (∀ a, (k0_off144 v3420) a + S16x1024.size a ≤ S4608x1024.size a) ∧
  (8 ∣ (k0_mult96 v3420).toNat) ∧
  (∀ a, (k0_off145 v3420) a + S8x1024.size a ≤ S4096x1024.size a)
theorem k0_mult95_dvd : ∀ (v3420 : BitVec 32) (k0_hw48 : k0_chk48 v3420), 8 ∣ (k0_mult95 v3420).toNat := fun v3420 k0_hw48 => k0_hw48.1
theorem k0_off144_inb : ∀ (v3420 : BitVec 32) (k0_hw48 : k0_chk48 v3420), ∀ a, (k0_off144 v3420) a + S16x1024.size a ≤ S4608x1024.size a := fun v3420 k0_hw48 => k0_hw48.2.1
theorem k0_mult96_dvd : ∀ (v3420 : BitVec 32) (k0_hw48 : k0_chk48 v3420), 8 ∣ (k0_mult96 v3420).toNat := fun v3420 k0_hw48 => k0_hw48.2.2.1
theorem k0_off145_inb : ∀ (v3420 : BitVec 32) (k0_hw48 : k0_chk48 v3420), ∀ a, (k0_off145 v3420) a + S8x1024.size a ≤ S4096x1024.size a := fun v3420 k0_hw48 => k0_hw48.2.2.2

def k0_off146 (k0_t1 : Fin k0_t1_loop.trips) : Fin 2 → Nat :=
  let c48_2145 : Index := 48#32
  let c0_i32_205 : BitVec 32 := 0#32
  let c1_i32 : BitVec 32 := 1#32
  let arg21 : BitVec 32 := Scf.iv c0_i32_205 c1_i32 k0_t1
  let v3463 : Index := Scalar.indexCast arg21
  ![48, v3463.toNat]
def k0_mult97 (v3464 : BitVec 32) : BitVec 32 :=
  let c3456_i32_2154 : BitVec 32 := 3456#32
  let c127_i32_2146 : BitVec 32 := 127#32
  let v3465 : BitVec 32 := Scalar.andi v3464 c127_i32_2146
  let c2_i32_2151 : BitVec 32 := 2#32
  let v3470 : BitVec 32 := Scalar.subi v3465 c2_i32_2151
  let c3_i32_2152 : BitVec 32 := 3#32
  let v3471 : BitVec 32 := Scalar.shrsi v3470 c3_i32_2152
  let c3_i32_2153 : BitVec 32 := 3#32
  let v3472 : BitVec 32 := Scalar.shli v3471 c3_i32_2153
  let v3473 : BitVec 32 := Scalar.addi c3456_i32_2154 v3472
  v3473

def k0_off147 (v3464 : BitVec 32) : Fin 2 → Nat :=
  let c3456_i32_2154 : BitVec 32 := 3456#32
  let c127_i32_2146 : BitVec 32 := 127#32
  let v3465 : BitVec 32 := Scalar.andi v3464 c127_i32_2146
  let c2_i32_2151 : BitVec 32 := 2#32
  let v3470 : BitVec 32 := Scalar.subi v3465 c2_i32_2151
  let c3_i32_2152 : BitVec 32 := 3#32
  let v3471 : BitVec 32 := Scalar.shrsi v3470 c3_i32_2152
  let c3_i32_2153 : BitVec 32 := 3#32
  let v3472 : BitVec 32 := Scalar.shli v3471 c3_i32_2153
  let v3473 : BitVec 32 := Scalar.addi c3456_i32_2154 v3472
  let v3474 : BitVec 32 := v3473
  let v3475 : Index := Scalar.indexCast v3474
  let c0_2155 : Index := 0#32
  ![v3475.toNat, 0]
def k0_mult98 (v3464 : BitVec 32) : BitVec 32 :=
  let c3072_i32 : BitVec 32 := 3072#32
  let c7_i32_2147 : BitVec 32 := 7#32
  let v3466 : BitVec 32 := Scalar.shrsi v3464 c7_i32_2147
  let c127_i32_2148 : BitVec 32 := 127#32
  let v3467 : BitVec 32 := Scalar.andi v3466 c127_i32_2148
  let c3_i32_2163 : BitVec 32 := 3#32
  let v3489 : BitVec 32 := Scalar.shrsi v3467 c3_i32_2163
  let c3_i32_2164 : BitVec 32 := 3#32
  let v3490 : BitVec 32 := Scalar.shli v3489 c3_i32_2164
  let v3491 : BitVec 32 := Scalar.addi c3072_i32 v3490
  v3491
def k0_off148 (v3464 : BitVec 32) : Fin 2 → Nat :=
  let c3072_i32 : BitVec 32 := 3072#32
  let c7_i32_2147 : BitVec 32 := 7#32
  let v3466 : BitVec 32 := Scalar.shrsi v3464 c7_i32_2147
  let c127_i32_2148 : BitVec 32 := 127#32
  let v3467 : BitVec 32 := Scalar.andi v3466 c127_i32_2148
  let c3_i32_2163 : BitVec 32 := 3#32
  let v3489 : BitVec 32 := Scalar.shrsi v3467 c3_i32_2163
  let c3_i32_2164 : BitVec 32 := 3#32
  let v3490 : BitVec 32 := Scalar.shli v3489 c3_i32_2164
  let v3491 : BitVec 32 := Scalar.addi c3072_i32 v3490
  let v3492 : BitVec 32 := v3491
  let v3493 : Index := Scalar.indexCast v3492
  let c0_2165 : Index := 0#32
  ![v3493.toNat, 0]

def k0_chk49 (v3464 : BitVec 32) : Prop :=
  (8 ∣ (k0_mult97 v3464).toNat) ∧
  (∀ a, (k0_off147 v3464) a + S16x1024.size a ≤ S4608x1024.size a) ∧
  (8 ∣ (k0_mult98 v3464).toNat) ∧
  (∀ a, (k0_off148 v3464) a + S8x1024.size a ≤ S4096x1024.size a)
theorem k0_mult97_dvd : ∀ (v3464 : BitVec 32) (k0_hw49 : k0_chk49 v3464), 8 ∣ (k0_mult97 v3464).toNat := fun v3464 k0_hw49 => k0_hw49.1
theorem k0_off147_inb : ∀ (v3464 : BitVec 32) (k0_hw49 : k0_chk49 v3464), ∀ a, (k0_off147 v3464) a + S16x1024.size a ≤ S4608x1024.size a := fun v3464 k0_hw49 => k0_hw49.2.1
theorem k0_mult98_dvd : ∀ (v3464 : BitVec 32) (k0_hw49 : k0_chk49 v3464), 8 ∣ (k0_mult98 v3464).toNat := fun v3464 k0_hw49 => k0_hw49.2.2.1
theorem k0_off148_inb : ∀ (v3464 : BitVec 32) (k0_hw49 : k0_chk49 v3464), ∀ a, (k0_off148 v3464) a + S8x1024.size a ≤ S4096x1024.size a := fun v3464 k0_hw49 => k0_hw49.2.2.2

def k0_off149 (k0_t1 : Fin k0_t1_loop.trips) : Fin 2 → Nat :=
  let c49_2172 : Index := 49#32
  let c0_i32_205 : BitVec 32 := 0#32
  let c1_i32 : BitVec 32 := 1#32
  let arg21 : BitVec 32 := Scf.iv c0_i32_205 c1_i32 k0_t1
  let v3507 : Index := Scalar.indexCast arg21
  ![49, v3507.toNat]
def k0_mult99 (v3508 : BitVec 32) : BitVec 32 :=
  let c3528_i32_2181 : BitVec 32 := 3528#32
  let c127_i32_2173 : BitVec 32 := 127#32
  let v3509 : BitVec 32 := Scalar.andi v3508 c127_i32_2173
  let c2_i32_2178 : BitVec 32 := 2#32
  let v3514 : BitVec 32 := Scalar.subi v3509 c2_i32_2178
  let c3_i32_2179 : BitVec 32 := 3#32
  let v3515 : BitVec 32 := Scalar.shrsi v3514 c3_i32_2179
  let c3_i32_2180 : BitVec 32 := 3#32
  let v3516 : BitVec 32 := Scalar.shli v3515 c3_i32_2180
  let v3517 : BitVec 32 := Scalar.addi c3528_i32_2181 v3516
  v3517

def k0_off150 (v3508 : BitVec 32) : Fin 2 → Nat :=
  let c3528_i32_2181 : BitVec 32 := 3528#32
  let c127_i32_2173 : BitVec 32 := 127#32
  let v3509 : BitVec 32 := Scalar.andi v3508 c127_i32_2173
  let c2_i32_2178 : BitVec 32 := 2#32
  let v3514 : BitVec 32 := Scalar.subi v3509 c2_i32_2178
  let c3_i32_2179 : BitVec 32 := 3#32
  let v3515 : BitVec 32 := Scalar.shrsi v3514 c3_i32_2179
  let c3_i32_2180 : BitVec 32 := 3#32
  let v3516 : BitVec 32 := Scalar.shli v3515 c3_i32_2180
  let v3517 : BitVec 32 := Scalar.addi c3528_i32_2181 v3516
  let v3518 : BitVec 32 := v3517
  let v3519 : Index := Scalar.indexCast v3518
  let c0_2182 : Index := 0#32
  ![v3519.toNat, 0]
def k0_mult100 (v3508 : BitVec 32) : BitVec 32 :=
  let c3136_i32 : BitVec 32 := 3136#32
  let c7_i32_2174 : BitVec 32 := 7#32
  let v3510 : BitVec 32 := Scalar.shrsi v3508 c7_i32_2174
  let c127_i32_2175 : BitVec 32 := 127#32
  let v3511 : BitVec 32 := Scalar.andi v3510 c127_i32_2175
  let c3_i32_2190 : BitVec 32 := 3#32
  let v3533 : BitVec 32 := Scalar.shrsi v3511 c3_i32_2190
  let c3_i32_2191 : BitVec 32 := 3#32
  let v3534 : BitVec 32 := Scalar.shli v3533 c3_i32_2191
  let v3535 : BitVec 32 := Scalar.addi c3136_i32 v3534
  v3535
def k0_off151 (v3508 : BitVec 32) : Fin 2 → Nat :=
  let c3136_i32 : BitVec 32 := 3136#32
  let c7_i32_2174 : BitVec 32 := 7#32
  let v3510 : BitVec 32 := Scalar.shrsi v3508 c7_i32_2174
  let c127_i32_2175 : BitVec 32 := 127#32
  let v3511 : BitVec 32 := Scalar.andi v3510 c127_i32_2175
  let c3_i32_2190 : BitVec 32 := 3#32
  let v3533 : BitVec 32 := Scalar.shrsi v3511 c3_i32_2190
  let c3_i32_2191 : BitVec 32 := 3#32
  let v3534 : BitVec 32 := Scalar.shli v3533 c3_i32_2191
  let v3535 : BitVec 32 := Scalar.addi c3136_i32 v3534
  let v3536 : BitVec 32 := v3535
  let v3537 : Index := Scalar.indexCast v3536
  let c0_2192 : Index := 0#32
  ![v3537.toNat, 0]

def k0_chk50 (v3508 : BitVec 32) : Prop :=
  (8 ∣ (k0_mult99 v3508).toNat) ∧
  (∀ a, (k0_off150 v3508) a + S16x1024.size a ≤ S4608x1024.size a) ∧
  (8 ∣ (k0_mult100 v3508).toNat) ∧
  (∀ a, (k0_off151 v3508) a + S8x1024.size a ≤ S4096x1024.size a)
theorem k0_mult99_dvd : ∀ (v3508 : BitVec 32) (k0_hw50 : k0_chk50 v3508), 8 ∣ (k0_mult99 v3508).toNat := fun v3508 k0_hw50 => k0_hw50.1
theorem k0_off150_inb : ∀ (v3508 : BitVec 32) (k0_hw50 : k0_chk50 v3508), ∀ a, (k0_off150 v3508) a + S16x1024.size a ≤ S4608x1024.size a := fun v3508 k0_hw50 => k0_hw50.2.1
theorem k0_mult100_dvd : ∀ (v3508 : BitVec 32) (k0_hw50 : k0_chk50 v3508), 8 ∣ (k0_mult100 v3508).toNat := fun v3508 k0_hw50 => k0_hw50.2.2.1
theorem k0_off151_inb : ∀ (v3508 : BitVec 32) (k0_hw50 : k0_chk50 v3508), ∀ a, (k0_off151 v3508) a + S8x1024.size a ≤ S4096x1024.size a := fun v3508 k0_hw50 => k0_hw50.2.2.2

def k0_off152 (k0_t1 : Fin k0_t1_loop.trips) : Fin 2 → Nat :=
  let c50_2199 : Index := 50#32
  let c0_i32_205 : BitVec 32 := 0#32
  let c1_i32 : BitVec 32 := 1#32
  let arg21 : BitVec 32 := Scf.iv c0_i32_205 c1_i32 k0_t1
  let v3551 : Index := Scalar.indexCast arg21
  ![50, v3551.toNat]
def k0_mult101 (v3552 : BitVec 32) : BitVec 32 :=
  let c3600_i32_2208 : BitVec 32 := 3600#32
  let c127_i32_2200 : BitVec 32 := 127#32
  let v3553 : BitVec 32 := Scalar.andi v3552 c127_i32_2200
  let c2_i32_2205 : BitVec 32 := 2#32
  let v3558 : BitVec 32 := Scalar.subi v3553 c2_i32_2205
  let c3_i32_2206 : BitVec 32 := 3#32
  let v3559 : BitVec 32 := Scalar.shrsi v3558 c3_i32_2206
  let c3_i32_2207 : BitVec 32 := 3#32
  let v3560 : BitVec 32 := Scalar.shli v3559 c3_i32_2207
  let v3561 : BitVec 32 := Scalar.addi c3600_i32_2208 v3560
  v3561

def k0_off153 (v3552 : BitVec 32) : Fin 2 → Nat :=
  let c3600_i32_2208 : BitVec 32 := 3600#32
  let c127_i32_2200 : BitVec 32 := 127#32
  let v3553 : BitVec 32 := Scalar.andi v3552 c127_i32_2200
  let c2_i32_2205 : BitVec 32 := 2#32
  let v3558 : BitVec 32 := Scalar.subi v3553 c2_i32_2205
  let c3_i32_2206 : BitVec 32 := 3#32
  let v3559 : BitVec 32 := Scalar.shrsi v3558 c3_i32_2206
  let c3_i32_2207 : BitVec 32 := 3#32
  let v3560 : BitVec 32 := Scalar.shli v3559 c3_i32_2207
  let v3561 : BitVec 32 := Scalar.addi c3600_i32_2208 v3560
  let v3562 : BitVec 32 := v3561
  let v3563 : Index := Scalar.indexCast v3562
  let c0_2209 : Index := 0#32
  ![v3563.toNat, 0]
def k0_mult102 (v3552 : BitVec 32) : BitVec 32 :=
  let c3200_i32 : BitVec 32 := 3200#32
  let c7_i32_2201 : BitVec 32 := 7#32
  let v3554 : BitVec 32 := Scalar.shrsi v3552 c7_i32_2201
  let c127_i32_2202 : BitVec 32 := 127#32
  let v3555 : BitVec 32 := Scalar.andi v3554 c127_i32_2202
  let c3_i32_2217 : BitVec 32 := 3#32
  let v3577 : BitVec 32 := Scalar.shrsi v3555 c3_i32_2217
  let c3_i32_2218 : BitVec 32 := 3#32
  let v3578 : BitVec 32 := Scalar.shli v3577 c3_i32_2218
  let v3579 : BitVec 32 := Scalar.addi c3200_i32 v3578
  v3579
def k0_off154 (v3552 : BitVec 32) : Fin 2 → Nat :=
  let c3200_i32 : BitVec 32 := 3200#32
  let c7_i32_2201 : BitVec 32 := 7#32
  let v3554 : BitVec 32 := Scalar.shrsi v3552 c7_i32_2201
  let c127_i32_2202 : BitVec 32 := 127#32
  let v3555 : BitVec 32 := Scalar.andi v3554 c127_i32_2202
  let c3_i32_2217 : BitVec 32 := 3#32
  let v3577 : BitVec 32 := Scalar.shrsi v3555 c3_i32_2217
  let c3_i32_2218 : BitVec 32 := 3#32
  let v3578 : BitVec 32 := Scalar.shli v3577 c3_i32_2218
  let v3579 : BitVec 32 := Scalar.addi c3200_i32 v3578
  let v3580 : BitVec 32 := v3579
  let v3581 : Index := Scalar.indexCast v3580
  let c0_2219 : Index := 0#32
  ![v3581.toNat, 0]

def k0_chk51 (v3552 : BitVec 32) : Prop :=
  (8 ∣ (k0_mult101 v3552).toNat) ∧
  (∀ a, (k0_off153 v3552) a + S16x1024.size a ≤ S4608x1024.size a) ∧
  (8 ∣ (k0_mult102 v3552).toNat) ∧
  (∀ a, (k0_off154 v3552) a + S8x1024.size a ≤ S4096x1024.size a)
theorem k0_mult101_dvd : ∀ (v3552 : BitVec 32) (k0_hw51 : k0_chk51 v3552), 8 ∣ (k0_mult101 v3552).toNat := fun v3552 k0_hw51 => k0_hw51.1
theorem k0_off153_inb : ∀ (v3552 : BitVec 32) (k0_hw51 : k0_chk51 v3552), ∀ a, (k0_off153 v3552) a + S16x1024.size a ≤ S4608x1024.size a := fun v3552 k0_hw51 => k0_hw51.2.1
theorem k0_mult102_dvd : ∀ (v3552 : BitVec 32) (k0_hw51 : k0_chk51 v3552), 8 ∣ (k0_mult102 v3552).toNat := fun v3552 k0_hw51 => k0_hw51.2.2.1
theorem k0_off154_inb : ∀ (v3552 : BitVec 32) (k0_hw51 : k0_chk51 v3552), ∀ a, (k0_off154 v3552) a + S8x1024.size a ≤ S4096x1024.size a := fun v3552 k0_hw51 => k0_hw51.2.2.2

def k0_off155 (k0_t1 : Fin k0_t1_loop.trips) : Fin 2 → Nat :=
  let c51_2226 : Index := 51#32
  let c0_i32_205 : BitVec 32 := 0#32
  let c1_i32 : BitVec 32 := 1#32
  let arg21 : BitVec 32 := Scf.iv c0_i32_205 c1_i32 k0_t1
  let v3595 : Index := Scalar.indexCast arg21
  ![51, v3595.toNat]
def k0_mult103 (v3596 : BitVec 32) : BitVec 32 :=
  let c3672_i32_2235 : BitVec 32 := 3672#32
  let c127_i32_2227 : BitVec 32 := 127#32
  let v3597 : BitVec 32 := Scalar.andi v3596 c127_i32_2227
  let c2_i32_2232 : BitVec 32 := 2#32
  let v3602 : BitVec 32 := Scalar.subi v3597 c2_i32_2232
  let c3_i32_2233 : BitVec 32 := 3#32
  let v3603 : BitVec 32 := Scalar.shrsi v3602 c3_i32_2233
  let c3_i32_2234 : BitVec 32 := 3#32
  let v3604 : BitVec 32 := Scalar.shli v3603 c3_i32_2234
  let v3605 : BitVec 32 := Scalar.addi c3672_i32_2235 v3604
  v3605

def k0_off156 (v3596 : BitVec 32) : Fin 2 → Nat :=
  let c3672_i32_2235 : BitVec 32 := 3672#32
  let c127_i32_2227 : BitVec 32 := 127#32
  let v3597 : BitVec 32 := Scalar.andi v3596 c127_i32_2227
  let c2_i32_2232 : BitVec 32 := 2#32
  let v3602 : BitVec 32 := Scalar.subi v3597 c2_i32_2232
  let c3_i32_2233 : BitVec 32 := 3#32
  let v3603 : BitVec 32 := Scalar.shrsi v3602 c3_i32_2233
  let c3_i32_2234 : BitVec 32 := 3#32
  let v3604 : BitVec 32 := Scalar.shli v3603 c3_i32_2234
  let v3605 : BitVec 32 := Scalar.addi c3672_i32_2235 v3604
  let v3606 : BitVec 32 := v3605
  let v3607 : Index := Scalar.indexCast v3606
  let c0_2236 : Index := 0#32
  ![v3607.toNat, 0]
def k0_mult104 (v3596 : BitVec 32) : BitVec 32 :=
  let c3264_i32 : BitVec 32 := 3264#32
  let c7_i32_2228 : BitVec 32 := 7#32
  let v3598 : BitVec 32 := Scalar.shrsi v3596 c7_i32_2228
  let c127_i32_2229 : BitVec 32 := 127#32
  let v3599 : BitVec 32 := Scalar.andi v3598 c127_i32_2229
  let c3_i32_2244 : BitVec 32 := 3#32
  let v3621 : BitVec 32 := Scalar.shrsi v3599 c3_i32_2244
  let c3_i32_2245 : BitVec 32 := 3#32
  let v3622 : BitVec 32 := Scalar.shli v3621 c3_i32_2245
  let v3623 : BitVec 32 := Scalar.addi c3264_i32 v3622
  v3623
def k0_off157 (v3596 : BitVec 32) : Fin 2 → Nat :=
  let c3264_i32 : BitVec 32 := 3264#32
  let c7_i32_2228 : BitVec 32 := 7#32
  let v3598 : BitVec 32 := Scalar.shrsi v3596 c7_i32_2228
  let c127_i32_2229 : BitVec 32 := 127#32
  let v3599 : BitVec 32 := Scalar.andi v3598 c127_i32_2229
  let c3_i32_2244 : BitVec 32 := 3#32
  let v3621 : BitVec 32 := Scalar.shrsi v3599 c3_i32_2244
  let c3_i32_2245 : BitVec 32 := 3#32
  let v3622 : BitVec 32 := Scalar.shli v3621 c3_i32_2245
  let v3623 : BitVec 32 := Scalar.addi c3264_i32 v3622
  let v3624 : BitVec 32 := v3623
  let v3625 : Index := Scalar.indexCast v3624
  let c0_2246 : Index := 0#32
  ![v3625.toNat, 0]

def k0_chk52 (v3596 : BitVec 32) : Prop :=
  (8 ∣ (k0_mult103 v3596).toNat) ∧
  (∀ a, (k0_off156 v3596) a + S16x1024.size a ≤ S4608x1024.size a) ∧
  (8 ∣ (k0_mult104 v3596).toNat) ∧
  (∀ a, (k0_off157 v3596) a + S8x1024.size a ≤ S4096x1024.size a)
theorem k0_mult103_dvd : ∀ (v3596 : BitVec 32) (k0_hw52 : k0_chk52 v3596), 8 ∣ (k0_mult103 v3596).toNat := fun v3596 k0_hw52 => k0_hw52.1
theorem k0_off156_inb : ∀ (v3596 : BitVec 32) (k0_hw52 : k0_chk52 v3596), ∀ a, (k0_off156 v3596) a + S16x1024.size a ≤ S4608x1024.size a := fun v3596 k0_hw52 => k0_hw52.2.1
theorem k0_mult104_dvd : ∀ (v3596 : BitVec 32) (k0_hw52 : k0_chk52 v3596), 8 ∣ (k0_mult104 v3596).toNat := fun v3596 k0_hw52 => k0_hw52.2.2.1
theorem k0_off157_inb : ∀ (v3596 : BitVec 32) (k0_hw52 : k0_chk52 v3596), ∀ a, (k0_off157 v3596) a + S8x1024.size a ≤ S4096x1024.size a := fun v3596 k0_hw52 => k0_hw52.2.2.2

def k0_off158 (k0_t1 : Fin k0_t1_loop.trips) : Fin 2 → Nat :=
  let c52_2253 : Index := 52#32
  let c0_i32_205 : BitVec 32 := 0#32
  let c1_i32 : BitVec 32 := 1#32
  let arg21 : BitVec 32 := Scf.iv c0_i32_205 c1_i32 k0_t1
  let v3639 : Index := Scalar.indexCast arg21
  ![52, v3639.toNat]
def k0_mult105 (v3640 : BitVec 32) : BitVec 32 :=
  let c3744_i32_2262 : BitVec 32 := 3744#32
  let c127_i32_2254 : BitVec 32 := 127#32
  let v3641 : BitVec 32 := Scalar.andi v3640 c127_i32_2254
  let c2_i32_2259 : BitVec 32 := 2#32
  let v3646 : BitVec 32 := Scalar.subi v3641 c2_i32_2259
  let c3_i32_2260 : BitVec 32 := 3#32
  let v3647 : BitVec 32 := Scalar.shrsi v3646 c3_i32_2260
  let c3_i32_2261 : BitVec 32 := 3#32
  let v3648 : BitVec 32 := Scalar.shli v3647 c3_i32_2261
  let v3649 : BitVec 32 := Scalar.addi c3744_i32_2262 v3648
  v3649

def k0_off159 (v3640 : BitVec 32) : Fin 2 → Nat :=
  let c3744_i32_2262 : BitVec 32 := 3744#32
  let c127_i32_2254 : BitVec 32 := 127#32
  let v3641 : BitVec 32 := Scalar.andi v3640 c127_i32_2254
  let c2_i32_2259 : BitVec 32 := 2#32
  let v3646 : BitVec 32 := Scalar.subi v3641 c2_i32_2259
  let c3_i32_2260 : BitVec 32 := 3#32
  let v3647 : BitVec 32 := Scalar.shrsi v3646 c3_i32_2260
  let c3_i32_2261 : BitVec 32 := 3#32
  let v3648 : BitVec 32 := Scalar.shli v3647 c3_i32_2261
  let v3649 : BitVec 32 := Scalar.addi c3744_i32_2262 v3648
  let v3650 : BitVec 32 := v3649
  let v3651 : Index := Scalar.indexCast v3650
  let c0_2263 : Index := 0#32
  ![v3651.toNat, 0]
def k0_mult106 (v3640 : BitVec 32) : BitVec 32 :=
  let c3328_i32 : BitVec 32 := 3328#32
  let c7_i32_2255 : BitVec 32 := 7#32
  let v3642 : BitVec 32 := Scalar.shrsi v3640 c7_i32_2255
  let c127_i32_2256 : BitVec 32 := 127#32
  let v3643 : BitVec 32 := Scalar.andi v3642 c127_i32_2256
  let c3_i32_2271 : BitVec 32 := 3#32
  let v3665 : BitVec 32 := Scalar.shrsi v3643 c3_i32_2271
  let c3_i32_2272 : BitVec 32 := 3#32
  let v3666 : BitVec 32 := Scalar.shli v3665 c3_i32_2272
  let v3667 : BitVec 32 := Scalar.addi c3328_i32 v3666
  v3667
def k0_off160 (v3640 : BitVec 32) : Fin 2 → Nat :=
  let c3328_i32 : BitVec 32 := 3328#32
  let c7_i32_2255 : BitVec 32 := 7#32
  let v3642 : BitVec 32 := Scalar.shrsi v3640 c7_i32_2255
  let c127_i32_2256 : BitVec 32 := 127#32
  let v3643 : BitVec 32 := Scalar.andi v3642 c127_i32_2256
  let c3_i32_2271 : BitVec 32 := 3#32
  let v3665 : BitVec 32 := Scalar.shrsi v3643 c3_i32_2271
  let c3_i32_2272 : BitVec 32 := 3#32
  let v3666 : BitVec 32 := Scalar.shli v3665 c3_i32_2272
  let v3667 : BitVec 32 := Scalar.addi c3328_i32 v3666
  let v3668 : BitVec 32 := v3667
  let v3669 : Index := Scalar.indexCast v3668
  let c0_2273 : Index := 0#32
  ![v3669.toNat, 0]

def k0_chk53 (v3640 : BitVec 32) : Prop :=
  (8 ∣ (k0_mult105 v3640).toNat) ∧
  (∀ a, (k0_off159 v3640) a + S16x1024.size a ≤ S4608x1024.size a) ∧
  (8 ∣ (k0_mult106 v3640).toNat) ∧
  (∀ a, (k0_off160 v3640) a + S8x1024.size a ≤ S4096x1024.size a)
theorem k0_mult105_dvd : ∀ (v3640 : BitVec 32) (k0_hw53 : k0_chk53 v3640), 8 ∣ (k0_mult105 v3640).toNat := fun v3640 k0_hw53 => k0_hw53.1
theorem k0_off159_inb : ∀ (v3640 : BitVec 32) (k0_hw53 : k0_chk53 v3640), ∀ a, (k0_off159 v3640) a + S16x1024.size a ≤ S4608x1024.size a := fun v3640 k0_hw53 => k0_hw53.2.1
theorem k0_mult106_dvd : ∀ (v3640 : BitVec 32) (k0_hw53 : k0_chk53 v3640), 8 ∣ (k0_mult106 v3640).toNat := fun v3640 k0_hw53 => k0_hw53.2.2.1
theorem k0_off160_inb : ∀ (v3640 : BitVec 32) (k0_hw53 : k0_chk53 v3640), ∀ a, (k0_off160 v3640) a + S8x1024.size a ≤ S4096x1024.size a := fun v3640 k0_hw53 => k0_hw53.2.2.2

def k0_off161 (k0_t1 : Fin k0_t1_loop.trips) : Fin 2 → Nat :=
  let c53_2280 : Index := 53#32
  let c0_i32_205 : BitVec 32 := 0#32
  let c1_i32 : BitVec 32 := 1#32
  let arg21 : BitVec 32 := Scf.iv c0_i32_205 c1_i32 k0_t1
  let v3683 : Index := Scalar.indexCast arg21
  ![53, v3683.toNat]
def k0_mult107 (v3684 : BitVec 32) : BitVec 32 :=
  let c3816_i32_2289 : BitVec 32 := 3816#32
  let c127_i32_2281 : BitVec 32 := 127#32
  let v3685 : BitVec 32 := Scalar.andi v3684 c127_i32_2281
  let c2_i32_2286 : BitVec 32 := 2#32
  let v3690 : BitVec 32 := Scalar.subi v3685 c2_i32_2286
  let c3_i32_2287 : BitVec 32 := 3#32
  let v3691 : BitVec 32 := Scalar.shrsi v3690 c3_i32_2287
  let c3_i32_2288 : BitVec 32 := 3#32
  let v3692 : BitVec 32 := Scalar.shli v3691 c3_i32_2288
  let v3693 : BitVec 32 := Scalar.addi c3816_i32_2289 v3692
  v3693

def k0_off162 (v3684 : BitVec 32) : Fin 2 → Nat :=
  let c3816_i32_2289 : BitVec 32 := 3816#32
  let c127_i32_2281 : BitVec 32 := 127#32
  let v3685 : BitVec 32 := Scalar.andi v3684 c127_i32_2281
  let c2_i32_2286 : BitVec 32 := 2#32
  let v3690 : BitVec 32 := Scalar.subi v3685 c2_i32_2286
  let c3_i32_2287 : BitVec 32 := 3#32
  let v3691 : BitVec 32 := Scalar.shrsi v3690 c3_i32_2287
  let c3_i32_2288 : BitVec 32 := 3#32
  let v3692 : BitVec 32 := Scalar.shli v3691 c3_i32_2288
  let v3693 : BitVec 32 := Scalar.addi c3816_i32_2289 v3692
  let v3694 : BitVec 32 := v3693
  let v3695 : Index := Scalar.indexCast v3694
  let c0_2290 : Index := 0#32
  ![v3695.toNat, 0]
def k0_mult108 (v3684 : BitVec 32) : BitVec 32 :=
  let c3392_i32 : BitVec 32 := 3392#32
  let c7_i32_2282 : BitVec 32 := 7#32
  let v3686 : BitVec 32 := Scalar.shrsi v3684 c7_i32_2282
  let c127_i32_2283 : BitVec 32 := 127#32
  let v3687 : BitVec 32 := Scalar.andi v3686 c127_i32_2283
  let c3_i32_2298 : BitVec 32 := 3#32
  let v3709 : BitVec 32 := Scalar.shrsi v3687 c3_i32_2298
  let c3_i32_2299 : BitVec 32 := 3#32
  let v3710 : BitVec 32 := Scalar.shli v3709 c3_i32_2299
  let v3711 : BitVec 32 := Scalar.addi c3392_i32 v3710
  v3711
def k0_off163 (v3684 : BitVec 32) : Fin 2 → Nat :=
  let c3392_i32 : BitVec 32 := 3392#32
  let c7_i32_2282 : BitVec 32 := 7#32
  let v3686 : BitVec 32 := Scalar.shrsi v3684 c7_i32_2282
  let c127_i32_2283 : BitVec 32 := 127#32
  let v3687 : BitVec 32 := Scalar.andi v3686 c127_i32_2283
  let c3_i32_2298 : BitVec 32 := 3#32
  let v3709 : BitVec 32 := Scalar.shrsi v3687 c3_i32_2298
  let c3_i32_2299 : BitVec 32 := 3#32
  let v3710 : BitVec 32 := Scalar.shli v3709 c3_i32_2299
  let v3711 : BitVec 32 := Scalar.addi c3392_i32 v3710
  let v3712 : BitVec 32 := v3711
  let v3713 : Index := Scalar.indexCast v3712
  let c0_2300 : Index := 0#32
  ![v3713.toNat, 0]

def k0_chk54 (v3684 : BitVec 32) : Prop :=
  (8 ∣ (k0_mult107 v3684).toNat) ∧
  (∀ a, (k0_off162 v3684) a + S16x1024.size a ≤ S4608x1024.size a) ∧
  (8 ∣ (k0_mult108 v3684).toNat) ∧
  (∀ a, (k0_off163 v3684) a + S8x1024.size a ≤ S4096x1024.size a)
theorem k0_mult107_dvd : ∀ (v3684 : BitVec 32) (k0_hw54 : k0_chk54 v3684), 8 ∣ (k0_mult107 v3684).toNat := fun v3684 k0_hw54 => k0_hw54.1
theorem k0_off162_inb : ∀ (v3684 : BitVec 32) (k0_hw54 : k0_chk54 v3684), ∀ a, (k0_off162 v3684) a + S16x1024.size a ≤ S4608x1024.size a := fun v3684 k0_hw54 => k0_hw54.2.1
theorem k0_mult108_dvd : ∀ (v3684 : BitVec 32) (k0_hw54 : k0_chk54 v3684), 8 ∣ (k0_mult108 v3684).toNat := fun v3684 k0_hw54 => k0_hw54.2.2.1
theorem k0_off163_inb : ∀ (v3684 : BitVec 32) (k0_hw54 : k0_chk54 v3684), ∀ a, (k0_off163 v3684) a + S8x1024.size a ≤ S4096x1024.size a := fun v3684 k0_hw54 => k0_hw54.2.2.2

def k0_off164 (k0_t1 : Fin k0_t1_loop.trips) : Fin 2 → Nat :=
  let c54_2307 : Index := 54#32
  let c0_i32_205 : BitVec 32 := 0#32
  let c1_i32 : BitVec 32 := 1#32
  let arg21 : BitVec 32 := Scf.iv c0_i32_205 c1_i32 k0_t1
  let v3727 : Index := Scalar.indexCast arg21
  ![54, v3727.toNat]
def k0_mult109 (v3728 : BitVec 32) : BitVec 32 :=
  let c3888_i32_2316 : BitVec 32 := 3888#32
  let c127_i32_2308 : BitVec 32 := 127#32
  let v3729 : BitVec 32 := Scalar.andi v3728 c127_i32_2308
  let c2_i32_2313 : BitVec 32 := 2#32
  let v3734 : BitVec 32 := Scalar.subi v3729 c2_i32_2313
  let c3_i32_2314 : BitVec 32 := 3#32
  let v3735 : BitVec 32 := Scalar.shrsi v3734 c3_i32_2314
  let c3_i32_2315 : BitVec 32 := 3#32
  let v3736 : BitVec 32 := Scalar.shli v3735 c3_i32_2315
  let v3737 : BitVec 32 := Scalar.addi c3888_i32_2316 v3736
  v3737

def k0_off165 (v3728 : BitVec 32) : Fin 2 → Nat :=
  let c3888_i32_2316 : BitVec 32 := 3888#32
  let c127_i32_2308 : BitVec 32 := 127#32
  let v3729 : BitVec 32 := Scalar.andi v3728 c127_i32_2308
  let c2_i32_2313 : BitVec 32 := 2#32
  let v3734 : BitVec 32 := Scalar.subi v3729 c2_i32_2313
  let c3_i32_2314 : BitVec 32 := 3#32
  let v3735 : BitVec 32 := Scalar.shrsi v3734 c3_i32_2314
  let c3_i32_2315 : BitVec 32 := 3#32
  let v3736 : BitVec 32 := Scalar.shli v3735 c3_i32_2315
  let v3737 : BitVec 32 := Scalar.addi c3888_i32_2316 v3736
  let v3738 : BitVec 32 := v3737
  let v3739 : Index := Scalar.indexCast v3738
  let c0_2317 : Index := 0#32
  ![v3739.toNat, 0]
def k0_mult110 (v3728 : BitVec 32) : BitVec 32 :=
  let c3456_i32_2327 : BitVec 32 := 3456#32
  let c7_i32_2309 : BitVec 32 := 7#32
  let v3730 : BitVec 32 := Scalar.shrsi v3728 c7_i32_2309
  let c127_i32_2310 : BitVec 32 := 127#32
  let v3731 : BitVec 32 := Scalar.andi v3730 c127_i32_2310
  let c3_i32_2325 : BitVec 32 := 3#32
  let v3753 : BitVec 32 := Scalar.shrsi v3731 c3_i32_2325
  let c3_i32_2326 : BitVec 32 := 3#32
  let v3754 : BitVec 32 := Scalar.shli v3753 c3_i32_2326
  let v3755 : BitVec 32 := Scalar.addi c3456_i32_2327 v3754
  v3755
def k0_off166 (v3728 : BitVec 32) : Fin 2 → Nat :=
  let c3456_i32_2327 : BitVec 32 := 3456#32
  let c7_i32_2309 : BitVec 32 := 7#32
  let v3730 : BitVec 32 := Scalar.shrsi v3728 c7_i32_2309
  let c127_i32_2310 : BitVec 32 := 127#32
  let v3731 : BitVec 32 := Scalar.andi v3730 c127_i32_2310
  let c3_i32_2325 : BitVec 32 := 3#32
  let v3753 : BitVec 32 := Scalar.shrsi v3731 c3_i32_2325
  let c3_i32_2326 : BitVec 32 := 3#32
  let v3754 : BitVec 32 := Scalar.shli v3753 c3_i32_2326
  let v3755 : BitVec 32 := Scalar.addi c3456_i32_2327 v3754
  let v3756 : BitVec 32 := v3755
  let v3757 : Index := Scalar.indexCast v3756
  let c0_2328 : Index := 0#32
  ![v3757.toNat, 0]

def k0_chk55 (v3728 : BitVec 32) : Prop :=
  (8 ∣ (k0_mult109 v3728).toNat) ∧
  (∀ a, (k0_off165 v3728) a + S16x1024.size a ≤ S4608x1024.size a) ∧
  (8 ∣ (k0_mult110 v3728).toNat) ∧
  (∀ a, (k0_off166 v3728) a + S8x1024.size a ≤ S4096x1024.size a)
theorem k0_mult109_dvd : ∀ (v3728 : BitVec 32) (k0_hw55 : k0_chk55 v3728), 8 ∣ (k0_mult109 v3728).toNat := fun v3728 k0_hw55 => k0_hw55.1
theorem k0_off165_inb : ∀ (v3728 : BitVec 32) (k0_hw55 : k0_chk55 v3728), ∀ a, (k0_off165 v3728) a + S16x1024.size a ≤ S4608x1024.size a := fun v3728 k0_hw55 => k0_hw55.2.1
theorem k0_mult110_dvd : ∀ (v3728 : BitVec 32) (k0_hw55 : k0_chk55 v3728), 8 ∣ (k0_mult110 v3728).toNat := fun v3728 k0_hw55 => k0_hw55.2.2.1
theorem k0_off166_inb : ∀ (v3728 : BitVec 32) (k0_hw55 : k0_chk55 v3728), ∀ a, (k0_off166 v3728) a + S8x1024.size a ≤ S4096x1024.size a := fun v3728 k0_hw55 => k0_hw55.2.2.2

def k0_off167 (k0_t1 : Fin k0_t1_loop.trips) : Fin 2 → Nat :=
  let c55_2335 : Index := 55#32
  let c0_i32_205 : BitVec 32 := 0#32
  let c1_i32 : BitVec 32 := 1#32
  let arg21 : BitVec 32 := Scf.iv c0_i32_205 c1_i32 k0_t1
  let v3771 : Index := Scalar.indexCast arg21
  ![55, v3771.toNat]
def k0_mult111 (v3772 : BitVec 32) : BitVec 32 :=
  let c3960_i32_2344 : BitVec 32 := 3960#32
  let c127_i32_2336 : BitVec 32 := 127#32
  let v3773 : BitVec 32 := Scalar.andi v3772 c127_i32_2336
  let c2_i32_2341 : BitVec 32 := 2#32
  let v3778 : BitVec 32 := Scalar.subi v3773 c2_i32_2341
  let c3_i32_2342 : BitVec 32 := 3#32
  let v3779 : BitVec 32 := Scalar.shrsi v3778 c3_i32_2342
  let c3_i32_2343 : BitVec 32 := 3#32
  let v3780 : BitVec 32 := Scalar.shli v3779 c3_i32_2343
  let v3781 : BitVec 32 := Scalar.addi c3960_i32_2344 v3780
  v3781

def k0_off168 (v3772 : BitVec 32) : Fin 2 → Nat :=
  let c3960_i32_2344 : BitVec 32 := 3960#32
  let c127_i32_2336 : BitVec 32 := 127#32
  let v3773 : BitVec 32 := Scalar.andi v3772 c127_i32_2336
  let c2_i32_2341 : BitVec 32 := 2#32
  let v3778 : BitVec 32 := Scalar.subi v3773 c2_i32_2341
  let c3_i32_2342 : BitVec 32 := 3#32
  let v3779 : BitVec 32 := Scalar.shrsi v3778 c3_i32_2342
  let c3_i32_2343 : BitVec 32 := 3#32
  let v3780 : BitVec 32 := Scalar.shli v3779 c3_i32_2343
  let v3781 : BitVec 32 := Scalar.addi c3960_i32_2344 v3780
  let v3782 : BitVec 32 := v3781
  let v3783 : Index := Scalar.indexCast v3782
  let c0_2345 : Index := 0#32
  ![v3783.toNat, 0]
def k0_mult112 (v3772 : BitVec 32) : BitVec 32 :=
  let c3520_i32 : BitVec 32 := 3520#32
  let c7_i32_2337 : BitVec 32 := 7#32
  let v3774 : BitVec 32 := Scalar.shrsi v3772 c7_i32_2337
  let c127_i32_2338 : BitVec 32 := 127#32
  let v3775 : BitVec 32 := Scalar.andi v3774 c127_i32_2338
  let c3_i32_2353 : BitVec 32 := 3#32
  let v3797 : BitVec 32 := Scalar.shrsi v3775 c3_i32_2353
  let c3_i32_2354 : BitVec 32 := 3#32
  let v3798 : BitVec 32 := Scalar.shli v3797 c3_i32_2354
  let v3799 : BitVec 32 := Scalar.addi c3520_i32 v3798
  v3799
def k0_off169 (v3772 : BitVec 32) : Fin 2 → Nat :=
  let c3520_i32 : BitVec 32 := 3520#32
  let c7_i32_2337 : BitVec 32 := 7#32
  let v3774 : BitVec 32 := Scalar.shrsi v3772 c7_i32_2337
  let c127_i32_2338 : BitVec 32 := 127#32
  let v3775 : BitVec 32 := Scalar.andi v3774 c127_i32_2338
  let c3_i32_2353 : BitVec 32 := 3#32
  let v3797 : BitVec 32 := Scalar.shrsi v3775 c3_i32_2353
  let c3_i32_2354 : BitVec 32 := 3#32
  let v3798 : BitVec 32 := Scalar.shli v3797 c3_i32_2354
  let v3799 : BitVec 32 := Scalar.addi c3520_i32 v3798
  let v3800 : BitVec 32 := v3799
  let v3801 : Index := Scalar.indexCast v3800
  let c0_2355 : Index := 0#32
  ![v3801.toNat, 0]

def k0_chk56 (v3772 : BitVec 32) : Prop :=
  (8 ∣ (k0_mult111 v3772).toNat) ∧
  (∀ a, (k0_off168 v3772) a + S16x1024.size a ≤ S4608x1024.size a) ∧
  (8 ∣ (k0_mult112 v3772).toNat) ∧
  (∀ a, (k0_off169 v3772) a + S8x1024.size a ≤ S4096x1024.size a)
theorem k0_mult111_dvd : ∀ (v3772 : BitVec 32) (k0_hw56 : k0_chk56 v3772), 8 ∣ (k0_mult111 v3772).toNat := fun v3772 k0_hw56 => k0_hw56.1
theorem k0_off168_inb : ∀ (v3772 : BitVec 32) (k0_hw56 : k0_chk56 v3772), ∀ a, (k0_off168 v3772) a + S16x1024.size a ≤ S4608x1024.size a := fun v3772 k0_hw56 => k0_hw56.2.1
theorem k0_mult112_dvd : ∀ (v3772 : BitVec 32) (k0_hw56 : k0_chk56 v3772), 8 ∣ (k0_mult112 v3772).toNat := fun v3772 k0_hw56 => k0_hw56.2.2.1
theorem k0_off169_inb : ∀ (v3772 : BitVec 32) (k0_hw56 : k0_chk56 v3772), ∀ a, (k0_off169 v3772) a + S8x1024.size a ≤ S4096x1024.size a := fun v3772 k0_hw56 => k0_hw56.2.2.2

def k0_off170 (k0_t1 : Fin k0_t1_loop.trips) : Fin 2 → Nat :=
  let c56_2362 : Index := 56#32
  let c0_i32_205 : BitVec 32 := 0#32
  let c1_i32 : BitVec 32 := 1#32
  let arg21 : BitVec 32 := Scf.iv c0_i32_205 c1_i32 k0_t1
  let v3815 : Index := Scalar.indexCast arg21
  ![56, v3815.toNat]
def k0_mult113 (v3816 : BitVec 32) : BitVec 32 :=
  let c4032_i32_2371 : BitVec 32 := 4032#32
  let c127_i32_2363 : BitVec 32 := 127#32
  let v3817 : BitVec 32 := Scalar.andi v3816 c127_i32_2363
  let c2_i32_2368 : BitVec 32 := 2#32
  let v3822 : BitVec 32 := Scalar.subi v3817 c2_i32_2368
  let c3_i32_2369 : BitVec 32 := 3#32
  let v3823 : BitVec 32 := Scalar.shrsi v3822 c3_i32_2369
  let c3_i32_2370 : BitVec 32 := 3#32
  let v3824 : BitVec 32 := Scalar.shli v3823 c3_i32_2370
  let v3825 : BitVec 32 := Scalar.addi c4032_i32_2371 v3824
  v3825

def k0_off171 (v3816 : BitVec 32) : Fin 2 → Nat :=
  let c4032_i32_2371 : BitVec 32 := 4032#32
  let c127_i32_2363 : BitVec 32 := 127#32
  let v3817 : BitVec 32 := Scalar.andi v3816 c127_i32_2363
  let c2_i32_2368 : BitVec 32 := 2#32
  let v3822 : BitVec 32 := Scalar.subi v3817 c2_i32_2368
  let c3_i32_2369 : BitVec 32 := 3#32
  let v3823 : BitVec 32 := Scalar.shrsi v3822 c3_i32_2369
  let c3_i32_2370 : BitVec 32 := 3#32
  let v3824 : BitVec 32 := Scalar.shli v3823 c3_i32_2370
  let v3825 : BitVec 32 := Scalar.addi c4032_i32_2371 v3824
  let v3826 : BitVec 32 := v3825
  let v3827 : Index := Scalar.indexCast v3826
  let c0_2372 : Index := 0#32
  ![v3827.toNat, 0]
def k0_mult114 (v3816 : BitVec 32) : BitVec 32 :=
  let c3584_i32 : BitVec 32 := 3584#32
  let c7_i32_2364 : BitVec 32 := 7#32
  let v3818 : BitVec 32 := Scalar.shrsi v3816 c7_i32_2364
  let c127_i32_2365 : BitVec 32 := 127#32
  let v3819 : BitVec 32 := Scalar.andi v3818 c127_i32_2365
  let c3_i32_2380 : BitVec 32 := 3#32
  let v3841 : BitVec 32 := Scalar.shrsi v3819 c3_i32_2380
  let c3_i32_2381 : BitVec 32 := 3#32
  let v3842 : BitVec 32 := Scalar.shli v3841 c3_i32_2381
  let v3843 : BitVec 32 := Scalar.addi c3584_i32 v3842
  v3843
def k0_off172 (v3816 : BitVec 32) : Fin 2 → Nat :=
  let c3584_i32 : BitVec 32 := 3584#32
  let c7_i32_2364 : BitVec 32 := 7#32
  let v3818 : BitVec 32 := Scalar.shrsi v3816 c7_i32_2364
  let c127_i32_2365 : BitVec 32 := 127#32
  let v3819 : BitVec 32 := Scalar.andi v3818 c127_i32_2365
  let c3_i32_2380 : BitVec 32 := 3#32
  let v3841 : BitVec 32 := Scalar.shrsi v3819 c3_i32_2380
  let c3_i32_2381 : BitVec 32 := 3#32
  let v3842 : BitVec 32 := Scalar.shli v3841 c3_i32_2381
  let v3843 : BitVec 32 := Scalar.addi c3584_i32 v3842
  let v3844 : BitVec 32 := v3843
  let v3845 : Index := Scalar.indexCast v3844
  let c0_2382 : Index := 0#32
  ![v3845.toNat, 0]

def k0_chk57 (v3816 : BitVec 32) : Prop :=
  (8 ∣ (k0_mult113 v3816).toNat) ∧
  (∀ a, (k0_off171 v3816) a + S16x1024.size a ≤ S4608x1024.size a) ∧
  (8 ∣ (k0_mult114 v3816).toNat) ∧
  (∀ a, (k0_off172 v3816) a + S8x1024.size a ≤ S4096x1024.size a)
theorem k0_mult113_dvd : ∀ (v3816 : BitVec 32) (k0_hw57 : k0_chk57 v3816), 8 ∣ (k0_mult113 v3816).toNat := fun v3816 k0_hw57 => k0_hw57.1
theorem k0_off171_inb : ∀ (v3816 : BitVec 32) (k0_hw57 : k0_chk57 v3816), ∀ a, (k0_off171 v3816) a + S16x1024.size a ≤ S4608x1024.size a := fun v3816 k0_hw57 => k0_hw57.2.1
theorem k0_mult114_dvd : ∀ (v3816 : BitVec 32) (k0_hw57 : k0_chk57 v3816), 8 ∣ (k0_mult114 v3816).toNat := fun v3816 k0_hw57 => k0_hw57.2.2.1
theorem k0_off172_inb : ∀ (v3816 : BitVec 32) (k0_hw57 : k0_chk57 v3816), ∀ a, (k0_off172 v3816) a + S8x1024.size a ≤ S4096x1024.size a := fun v3816 k0_hw57 => k0_hw57.2.2.2

def k0_off173 (k0_t1 : Fin k0_t1_loop.trips) : Fin 2 → Nat :=
  let c57_2389 : Index := 57#32
  let c0_i32_205 : BitVec 32 := 0#32
  let c1_i32 : BitVec 32 := 1#32
  let arg21 : BitVec 32 := Scf.iv c0_i32_205 c1_i32 k0_t1
  let v3859 : Index := Scalar.indexCast arg21
  ![57, v3859.toNat]
def k0_mult115 (v3860 : BitVec 32) : BitVec 32 :=
  let c4104_i32_2398 : BitVec 32 := 4104#32
  let c127_i32_2390 : BitVec 32 := 127#32
  let v3861 : BitVec 32 := Scalar.andi v3860 c127_i32_2390
  let c2_i32_2395 : BitVec 32 := 2#32
  let v3866 : BitVec 32 := Scalar.subi v3861 c2_i32_2395
  let c3_i32_2396 : BitVec 32 := 3#32
  let v3867 : BitVec 32 := Scalar.shrsi v3866 c3_i32_2396
  let c3_i32_2397 : BitVec 32 := 3#32
  let v3868 : BitVec 32 := Scalar.shli v3867 c3_i32_2397
  let v3869 : BitVec 32 := Scalar.addi c4104_i32_2398 v3868
  v3869

def k0_off174 (v3860 : BitVec 32) : Fin 2 → Nat :=
  let c4104_i32_2398 : BitVec 32 := 4104#32
  let c127_i32_2390 : BitVec 32 := 127#32
  let v3861 : BitVec 32 := Scalar.andi v3860 c127_i32_2390
  let c2_i32_2395 : BitVec 32 := 2#32
  let v3866 : BitVec 32 := Scalar.subi v3861 c2_i32_2395
  let c3_i32_2396 : BitVec 32 := 3#32
  let v3867 : BitVec 32 := Scalar.shrsi v3866 c3_i32_2396
  let c3_i32_2397 : BitVec 32 := 3#32
  let v3868 : BitVec 32 := Scalar.shli v3867 c3_i32_2397
  let v3869 : BitVec 32 := Scalar.addi c4104_i32_2398 v3868
  let v3870 : BitVec 32 := v3869
  let v3871 : Index := Scalar.indexCast v3870
  let c0_2399 : Index := 0#32
  ![v3871.toNat, 0]
def k0_mult116 (v3860 : BitVec 32) : BitVec 32 :=
  let c3648_i32 : BitVec 32 := 3648#32
  let c7_i32_2391 : BitVec 32 := 7#32
  let v3862 : BitVec 32 := Scalar.shrsi v3860 c7_i32_2391
  let c127_i32_2392 : BitVec 32 := 127#32
  let v3863 : BitVec 32 := Scalar.andi v3862 c127_i32_2392
  let c3_i32_2407 : BitVec 32 := 3#32
  let v3885 : BitVec 32 := Scalar.shrsi v3863 c3_i32_2407
  let c3_i32_2408 : BitVec 32 := 3#32
  let v3886 : BitVec 32 := Scalar.shli v3885 c3_i32_2408
  let v3887 : BitVec 32 := Scalar.addi c3648_i32 v3886
  v3887
def k0_off175 (v3860 : BitVec 32) : Fin 2 → Nat :=
  let c3648_i32 : BitVec 32 := 3648#32
  let c7_i32_2391 : BitVec 32 := 7#32
  let v3862 : BitVec 32 := Scalar.shrsi v3860 c7_i32_2391
  let c127_i32_2392 : BitVec 32 := 127#32
  let v3863 : BitVec 32 := Scalar.andi v3862 c127_i32_2392
  let c3_i32_2407 : BitVec 32 := 3#32
  let v3885 : BitVec 32 := Scalar.shrsi v3863 c3_i32_2407
  let c3_i32_2408 : BitVec 32 := 3#32
  let v3886 : BitVec 32 := Scalar.shli v3885 c3_i32_2408
  let v3887 : BitVec 32 := Scalar.addi c3648_i32 v3886
  let v3888 : BitVec 32 := v3887
  let v3889 : Index := Scalar.indexCast v3888
  let c0_2409 : Index := 0#32
  ![v3889.toNat, 0]

def k0_chk58 (v3860 : BitVec 32) : Prop :=
  (8 ∣ (k0_mult115 v3860).toNat) ∧
  (∀ a, (k0_off174 v3860) a + S16x1024.size a ≤ S4608x1024.size a) ∧
  (8 ∣ (k0_mult116 v3860).toNat) ∧
  (∀ a, (k0_off175 v3860) a + S8x1024.size a ≤ S4096x1024.size a)
theorem k0_mult115_dvd : ∀ (v3860 : BitVec 32) (k0_hw58 : k0_chk58 v3860), 8 ∣ (k0_mult115 v3860).toNat := fun v3860 k0_hw58 => k0_hw58.1
theorem k0_off174_inb : ∀ (v3860 : BitVec 32) (k0_hw58 : k0_chk58 v3860), ∀ a, (k0_off174 v3860) a + S16x1024.size a ≤ S4608x1024.size a := fun v3860 k0_hw58 => k0_hw58.2.1
theorem k0_mult116_dvd : ∀ (v3860 : BitVec 32) (k0_hw58 : k0_chk58 v3860), 8 ∣ (k0_mult116 v3860).toNat := fun v3860 k0_hw58 => k0_hw58.2.2.1
theorem k0_off175_inb : ∀ (v3860 : BitVec 32) (k0_hw58 : k0_chk58 v3860), ∀ a, (k0_off175 v3860) a + S8x1024.size a ≤ S4096x1024.size a := fun v3860 k0_hw58 => k0_hw58.2.2.2

def k0_off176 (k0_t1 : Fin k0_t1_loop.trips) : Fin 2 → Nat :=
  let c58_2416 : Index := 58#32
  let c0_i32_205 : BitVec 32 := 0#32
  let c1_i32 : BitVec 32 := 1#32
  let arg21 : BitVec 32 := Scf.iv c0_i32_205 c1_i32 k0_t1
  let v3903 : Index := Scalar.indexCast arg21
  ![58, v3903.toNat]
def k0_mult117 (v3904 : BitVec 32) : BitVec 32 :=
  let c4176_i32_2425 : BitVec 32 := 4176#32
  let c127_i32_2417 : BitVec 32 := 127#32
  let v3905 : BitVec 32 := Scalar.andi v3904 c127_i32_2417
  let c2_i32_2422 : BitVec 32 := 2#32
  let v3910 : BitVec 32 := Scalar.subi v3905 c2_i32_2422
  let c3_i32_2423 : BitVec 32 := 3#32
  let v3911 : BitVec 32 := Scalar.shrsi v3910 c3_i32_2423
  let c3_i32_2424 : BitVec 32 := 3#32
  let v3912 : BitVec 32 := Scalar.shli v3911 c3_i32_2424
  let v3913 : BitVec 32 := Scalar.addi c4176_i32_2425 v3912
  v3913

def k0_off177 (v3904 : BitVec 32) : Fin 2 → Nat :=
  let c4176_i32_2425 : BitVec 32 := 4176#32
  let c127_i32_2417 : BitVec 32 := 127#32
  let v3905 : BitVec 32 := Scalar.andi v3904 c127_i32_2417
  let c2_i32_2422 : BitVec 32 := 2#32
  let v3910 : BitVec 32 := Scalar.subi v3905 c2_i32_2422
  let c3_i32_2423 : BitVec 32 := 3#32
  let v3911 : BitVec 32 := Scalar.shrsi v3910 c3_i32_2423
  let c3_i32_2424 : BitVec 32 := 3#32
  let v3912 : BitVec 32 := Scalar.shli v3911 c3_i32_2424
  let v3913 : BitVec 32 := Scalar.addi c4176_i32_2425 v3912
  let v3914 : BitVec 32 := v3913
  let v3915 : Index := Scalar.indexCast v3914
  let c0_2426 : Index := 0#32
  ![v3915.toNat, 0]
def k0_mult118 (v3904 : BitVec 32) : BitVec 32 :=
  let c3712_i32 : BitVec 32 := 3712#32
  let c7_i32_2418 : BitVec 32 := 7#32
  let v3906 : BitVec 32 := Scalar.shrsi v3904 c7_i32_2418
  let c127_i32_2419 : BitVec 32 := 127#32
  let v3907 : BitVec 32 := Scalar.andi v3906 c127_i32_2419
  let c3_i32_2434 : BitVec 32 := 3#32
  let v3929 : BitVec 32 := Scalar.shrsi v3907 c3_i32_2434
  let c3_i32_2435 : BitVec 32 := 3#32
  let v3930 : BitVec 32 := Scalar.shli v3929 c3_i32_2435
  let v3931 : BitVec 32 := Scalar.addi c3712_i32 v3930
  v3931
def k0_off178 (v3904 : BitVec 32) : Fin 2 → Nat :=
  let c3712_i32 : BitVec 32 := 3712#32
  let c7_i32_2418 : BitVec 32 := 7#32
  let v3906 : BitVec 32 := Scalar.shrsi v3904 c7_i32_2418
  let c127_i32_2419 : BitVec 32 := 127#32
  let v3907 : BitVec 32 := Scalar.andi v3906 c127_i32_2419
  let c3_i32_2434 : BitVec 32 := 3#32
  let v3929 : BitVec 32 := Scalar.shrsi v3907 c3_i32_2434
  let c3_i32_2435 : BitVec 32 := 3#32
  let v3930 : BitVec 32 := Scalar.shli v3929 c3_i32_2435
  let v3931 : BitVec 32 := Scalar.addi c3712_i32 v3930
  let v3932 : BitVec 32 := v3931
  let v3933 : Index := Scalar.indexCast v3932
  let c0_2436 : Index := 0#32
  ![v3933.toNat, 0]

def k0_chk59 (v3904 : BitVec 32) : Prop :=
  (8 ∣ (k0_mult117 v3904).toNat) ∧
  (∀ a, (k0_off177 v3904) a + S16x1024.size a ≤ S4608x1024.size a) ∧
  (8 ∣ (k0_mult118 v3904).toNat) ∧
  (∀ a, (k0_off178 v3904) a + S8x1024.size a ≤ S4096x1024.size a)
theorem k0_mult117_dvd : ∀ (v3904 : BitVec 32) (k0_hw59 : k0_chk59 v3904), 8 ∣ (k0_mult117 v3904).toNat := fun v3904 k0_hw59 => k0_hw59.1
theorem k0_off177_inb : ∀ (v3904 : BitVec 32) (k0_hw59 : k0_chk59 v3904), ∀ a, (k0_off177 v3904) a + S16x1024.size a ≤ S4608x1024.size a := fun v3904 k0_hw59 => k0_hw59.2.1
theorem k0_mult118_dvd : ∀ (v3904 : BitVec 32) (k0_hw59 : k0_chk59 v3904), 8 ∣ (k0_mult118 v3904).toNat := fun v3904 k0_hw59 => k0_hw59.2.2.1
theorem k0_off178_inb : ∀ (v3904 : BitVec 32) (k0_hw59 : k0_chk59 v3904), ∀ a, (k0_off178 v3904) a + S8x1024.size a ≤ S4096x1024.size a := fun v3904 k0_hw59 => k0_hw59.2.2.2

def k0_off179 (k0_t1 : Fin k0_t1_loop.trips) : Fin 2 → Nat :=
  let c59_2443 : Index := 59#32
  let c0_i32_205 : BitVec 32 := 0#32
  let c1_i32 : BitVec 32 := 1#32
  let arg21 : BitVec 32 := Scf.iv c0_i32_205 c1_i32 k0_t1
  let v3947 : Index := Scalar.indexCast arg21
  ![59, v3947.toNat]
def k0_mult119 (v3948 : BitVec 32) : BitVec 32 :=
  let c4248_i32_2452 : BitVec 32 := 4248#32
  let c127_i32_2444 : BitVec 32 := 127#32
  let v3949 : BitVec 32 := Scalar.andi v3948 c127_i32_2444
  let c2_i32_2449 : BitVec 32 := 2#32
  let v3954 : BitVec 32 := Scalar.subi v3949 c2_i32_2449
  let c3_i32_2450 : BitVec 32 := 3#32
  let v3955 : BitVec 32 := Scalar.shrsi v3954 c3_i32_2450
  let c3_i32_2451 : BitVec 32 := 3#32
  let v3956 : BitVec 32 := Scalar.shli v3955 c3_i32_2451
  let v3957 : BitVec 32 := Scalar.addi c4248_i32_2452 v3956
  v3957

def k0_off180 (v3948 : BitVec 32) : Fin 2 → Nat :=
  let c4248_i32_2452 : BitVec 32 := 4248#32
  let c127_i32_2444 : BitVec 32 := 127#32
  let v3949 : BitVec 32 := Scalar.andi v3948 c127_i32_2444
  let c2_i32_2449 : BitVec 32 := 2#32
  let v3954 : BitVec 32 := Scalar.subi v3949 c2_i32_2449
  let c3_i32_2450 : BitVec 32 := 3#32
  let v3955 : BitVec 32 := Scalar.shrsi v3954 c3_i32_2450
  let c3_i32_2451 : BitVec 32 := 3#32
  let v3956 : BitVec 32 := Scalar.shli v3955 c3_i32_2451
  let v3957 : BitVec 32 := Scalar.addi c4248_i32_2452 v3956
  let v3958 : BitVec 32 := v3957
  let v3959 : Index := Scalar.indexCast v3958
  let c0_2453 : Index := 0#32
  ![v3959.toNat, 0]
def k0_mult120 (v3948 : BitVec 32) : BitVec 32 :=
  let c3776_i32 : BitVec 32 := 3776#32
  let c7_i32_2445 : BitVec 32 := 7#32
  let v3950 : BitVec 32 := Scalar.shrsi v3948 c7_i32_2445
  let c127_i32_2446 : BitVec 32 := 127#32
  let v3951 : BitVec 32 := Scalar.andi v3950 c127_i32_2446
  let c3_i32_2461 : BitVec 32 := 3#32
  let v3973 : BitVec 32 := Scalar.shrsi v3951 c3_i32_2461
  let c3_i32_2462 : BitVec 32 := 3#32
  let v3974 : BitVec 32 := Scalar.shli v3973 c3_i32_2462
  let v3975 : BitVec 32 := Scalar.addi c3776_i32 v3974
  v3975
def k0_off181 (v3948 : BitVec 32) : Fin 2 → Nat :=
  let c3776_i32 : BitVec 32 := 3776#32
  let c7_i32_2445 : BitVec 32 := 7#32
  let v3950 : BitVec 32 := Scalar.shrsi v3948 c7_i32_2445
  let c127_i32_2446 : BitVec 32 := 127#32
  let v3951 : BitVec 32 := Scalar.andi v3950 c127_i32_2446
  let c3_i32_2461 : BitVec 32 := 3#32
  let v3973 : BitVec 32 := Scalar.shrsi v3951 c3_i32_2461
  let c3_i32_2462 : BitVec 32 := 3#32
  let v3974 : BitVec 32 := Scalar.shli v3973 c3_i32_2462
  let v3975 : BitVec 32 := Scalar.addi c3776_i32 v3974
  let v3976 : BitVec 32 := v3975
  let v3977 : Index := Scalar.indexCast v3976
  let c0_2463 : Index := 0#32
  ![v3977.toNat, 0]

def k0_chk60 (v3948 : BitVec 32) : Prop :=
  (8 ∣ (k0_mult119 v3948).toNat) ∧
  (∀ a, (k0_off180 v3948) a + S16x1024.size a ≤ S4608x1024.size a) ∧
  (8 ∣ (k0_mult120 v3948).toNat) ∧
  (∀ a, (k0_off181 v3948) a + S8x1024.size a ≤ S4096x1024.size a)
theorem k0_mult119_dvd : ∀ (v3948 : BitVec 32) (k0_hw60 : k0_chk60 v3948), 8 ∣ (k0_mult119 v3948).toNat := fun v3948 k0_hw60 => k0_hw60.1
theorem k0_off180_inb : ∀ (v3948 : BitVec 32) (k0_hw60 : k0_chk60 v3948), ∀ a, (k0_off180 v3948) a + S16x1024.size a ≤ S4608x1024.size a := fun v3948 k0_hw60 => k0_hw60.2.1
theorem k0_mult120_dvd : ∀ (v3948 : BitVec 32) (k0_hw60 : k0_chk60 v3948), 8 ∣ (k0_mult120 v3948).toNat := fun v3948 k0_hw60 => k0_hw60.2.2.1
theorem k0_off181_inb : ∀ (v3948 : BitVec 32) (k0_hw60 : k0_chk60 v3948), ∀ a, (k0_off181 v3948) a + S8x1024.size a ≤ S4096x1024.size a := fun v3948 k0_hw60 => k0_hw60.2.2.2

def k0_off182 (k0_t1 : Fin k0_t1_loop.trips) : Fin 2 → Nat :=
  let c60_2470 : Index := 60#32
  let c0_i32_205 : BitVec 32 := 0#32
  let c1_i32 : BitVec 32 := 1#32
  let arg21 : BitVec 32 := Scf.iv c0_i32_205 c1_i32 k0_t1
  let v3991 : Index := Scalar.indexCast arg21
  ![60, v3991.toNat]
def k0_mult121 (v3992 : BitVec 32) : BitVec 32 :=
  let c4320_i32_2479 : BitVec 32 := 4320#32
  let c127_i32_2471 : BitVec 32 := 127#32
  let v3993 : BitVec 32 := Scalar.andi v3992 c127_i32_2471
  let c2_i32_2476 : BitVec 32 := 2#32
  let v3998 : BitVec 32 := Scalar.subi v3993 c2_i32_2476
  let c3_i32_2477 : BitVec 32 := 3#32
  let v3999 : BitVec 32 := Scalar.shrsi v3998 c3_i32_2477
  let c3_i32_2478 : BitVec 32 := 3#32
  let v4000 : BitVec 32 := Scalar.shli v3999 c3_i32_2478
  let v4001 : BitVec 32 := Scalar.addi c4320_i32_2479 v4000
  v4001

def k0_off183 (v3992 : BitVec 32) : Fin 2 → Nat :=
  let c4320_i32_2479 : BitVec 32 := 4320#32
  let c127_i32_2471 : BitVec 32 := 127#32
  let v3993 : BitVec 32 := Scalar.andi v3992 c127_i32_2471
  let c2_i32_2476 : BitVec 32 := 2#32
  let v3998 : BitVec 32 := Scalar.subi v3993 c2_i32_2476
  let c3_i32_2477 : BitVec 32 := 3#32
  let v3999 : BitVec 32 := Scalar.shrsi v3998 c3_i32_2477
  let c3_i32_2478 : BitVec 32 := 3#32
  let v4000 : BitVec 32 := Scalar.shli v3999 c3_i32_2478
  let v4001 : BitVec 32 := Scalar.addi c4320_i32_2479 v4000
  let v4002 : BitVec 32 := v4001
  let v4003 : Index := Scalar.indexCast v4002
  let c0_2480 : Index := 0#32
  ![v4003.toNat, 0]
def k0_mult122 (v3992 : BitVec 32) : BitVec 32 :=
  let c3840_i32 : BitVec 32 := 3840#32
  let c7_i32_2472 : BitVec 32 := 7#32
  let v3994 : BitVec 32 := Scalar.shrsi v3992 c7_i32_2472
  let c127_i32_2473 : BitVec 32 := 127#32
  let v3995 : BitVec 32 := Scalar.andi v3994 c127_i32_2473
  let c3_i32_2488 : BitVec 32 := 3#32
  let v4017 : BitVec 32 := Scalar.shrsi v3995 c3_i32_2488
  let c3_i32_2489 : BitVec 32 := 3#32
  let v4018 : BitVec 32 := Scalar.shli v4017 c3_i32_2489
  let v4019 : BitVec 32 := Scalar.addi c3840_i32 v4018
  v4019
def k0_off184 (v3992 : BitVec 32) : Fin 2 → Nat :=
  let c3840_i32 : BitVec 32 := 3840#32
  let c7_i32_2472 : BitVec 32 := 7#32
  let v3994 : BitVec 32 := Scalar.shrsi v3992 c7_i32_2472
  let c127_i32_2473 : BitVec 32 := 127#32
  let v3995 : BitVec 32 := Scalar.andi v3994 c127_i32_2473
  let c3_i32_2488 : BitVec 32 := 3#32
  let v4017 : BitVec 32 := Scalar.shrsi v3995 c3_i32_2488
  let c3_i32_2489 : BitVec 32 := 3#32
  let v4018 : BitVec 32 := Scalar.shli v4017 c3_i32_2489
  let v4019 : BitVec 32 := Scalar.addi c3840_i32 v4018
  let v4020 : BitVec 32 := v4019
  let v4021 : Index := Scalar.indexCast v4020
  let c0_2490 : Index := 0#32
  ![v4021.toNat, 0]

def k0_chk61 (v3992 : BitVec 32) : Prop :=
  (8 ∣ (k0_mult121 v3992).toNat) ∧
  (∀ a, (k0_off183 v3992) a + S16x1024.size a ≤ S4608x1024.size a) ∧
  (8 ∣ (k0_mult122 v3992).toNat) ∧
  (∀ a, (k0_off184 v3992) a + S8x1024.size a ≤ S4096x1024.size a)
theorem k0_mult121_dvd : ∀ (v3992 : BitVec 32) (k0_hw61 : k0_chk61 v3992), 8 ∣ (k0_mult121 v3992).toNat := fun v3992 k0_hw61 => k0_hw61.1
theorem k0_off183_inb : ∀ (v3992 : BitVec 32) (k0_hw61 : k0_chk61 v3992), ∀ a, (k0_off183 v3992) a + S16x1024.size a ≤ S4608x1024.size a := fun v3992 k0_hw61 => k0_hw61.2.1
theorem k0_mult122_dvd : ∀ (v3992 : BitVec 32) (k0_hw61 : k0_chk61 v3992), 8 ∣ (k0_mult122 v3992).toNat := fun v3992 k0_hw61 => k0_hw61.2.2.1
theorem k0_off184_inb : ∀ (v3992 : BitVec 32) (k0_hw61 : k0_chk61 v3992), ∀ a, (k0_off184 v3992) a + S8x1024.size a ≤ S4096x1024.size a := fun v3992 k0_hw61 => k0_hw61.2.2.2

def k0_off185 (k0_t1 : Fin k0_t1_loop.trips) : Fin 2 → Nat :=
  let c61_2497 : Index := 61#32
  let c0_i32_205 : BitVec 32 := 0#32
  let c1_i32 : BitVec 32 := 1#32
  let arg21 : BitVec 32 := Scf.iv c0_i32_205 c1_i32 k0_t1
  let v4035 : Index := Scalar.indexCast arg21
  ![61, v4035.toNat]
def k0_mult123 (v4036 : BitVec 32) : BitVec 32 :=
  let c4392_i32_2506 : BitVec 32 := 4392#32
  let c127_i32_2498 : BitVec 32 := 127#32
  let v4037 : BitVec 32 := Scalar.andi v4036 c127_i32_2498
  let c2_i32_2503 : BitVec 32 := 2#32
  let v4042 : BitVec 32 := Scalar.subi v4037 c2_i32_2503
  let c3_i32_2504 : BitVec 32 := 3#32
  let v4043 : BitVec 32 := Scalar.shrsi v4042 c3_i32_2504
  let c3_i32_2505 : BitVec 32 := 3#32
  let v4044 : BitVec 32 := Scalar.shli v4043 c3_i32_2505
  let v4045 : BitVec 32 := Scalar.addi c4392_i32_2506 v4044
  v4045

def k0_off186 (v4036 : BitVec 32) : Fin 2 → Nat :=
  let c4392_i32_2506 : BitVec 32 := 4392#32
  let c127_i32_2498 : BitVec 32 := 127#32
  let v4037 : BitVec 32 := Scalar.andi v4036 c127_i32_2498
  let c2_i32_2503 : BitVec 32 := 2#32
  let v4042 : BitVec 32 := Scalar.subi v4037 c2_i32_2503
  let c3_i32_2504 : BitVec 32 := 3#32
  let v4043 : BitVec 32 := Scalar.shrsi v4042 c3_i32_2504
  let c3_i32_2505 : BitVec 32 := 3#32
  let v4044 : BitVec 32 := Scalar.shli v4043 c3_i32_2505
  let v4045 : BitVec 32 := Scalar.addi c4392_i32_2506 v4044
  let v4046 : BitVec 32 := v4045
  let v4047 : Index := Scalar.indexCast v4046
  let c0_2507 : Index := 0#32
  ![v4047.toNat, 0]
def k0_mult124 (v4036 : BitVec 32) : BitVec 32 :=
  let c3904_i32 : BitVec 32 := 3904#32
  let c7_i32_2499 : BitVec 32 := 7#32
  let v4038 : BitVec 32 := Scalar.shrsi v4036 c7_i32_2499
  let c127_i32_2500 : BitVec 32 := 127#32
  let v4039 : BitVec 32 := Scalar.andi v4038 c127_i32_2500
  let c3_i32_2515 : BitVec 32 := 3#32
  let v4061 : BitVec 32 := Scalar.shrsi v4039 c3_i32_2515
  let c3_i32_2516 : BitVec 32 := 3#32
  let v4062 : BitVec 32 := Scalar.shli v4061 c3_i32_2516
  let v4063 : BitVec 32 := Scalar.addi c3904_i32 v4062
  v4063
def k0_off187 (v4036 : BitVec 32) : Fin 2 → Nat :=
  let c3904_i32 : BitVec 32 := 3904#32
  let c7_i32_2499 : BitVec 32 := 7#32
  let v4038 : BitVec 32 := Scalar.shrsi v4036 c7_i32_2499
  let c127_i32_2500 : BitVec 32 := 127#32
  let v4039 : BitVec 32 := Scalar.andi v4038 c127_i32_2500
  let c3_i32_2515 : BitVec 32 := 3#32
  let v4061 : BitVec 32 := Scalar.shrsi v4039 c3_i32_2515
  let c3_i32_2516 : BitVec 32 := 3#32
  let v4062 : BitVec 32 := Scalar.shli v4061 c3_i32_2516
  let v4063 : BitVec 32 := Scalar.addi c3904_i32 v4062
  let v4064 : BitVec 32 := v4063
  let v4065 : Index := Scalar.indexCast v4064
  let c0_2517 : Index := 0#32
  ![v4065.toNat, 0]

def k0_chk62 (v4036 : BitVec 32) : Prop :=
  (8 ∣ (k0_mult123 v4036).toNat) ∧
  (∀ a, (k0_off186 v4036) a + S16x1024.size a ≤ S4608x1024.size a) ∧
  (8 ∣ (k0_mult124 v4036).toNat) ∧
  (∀ a, (k0_off187 v4036) a + S8x1024.size a ≤ S4096x1024.size a)
theorem k0_mult123_dvd : ∀ (v4036 : BitVec 32) (k0_hw62 : k0_chk62 v4036), 8 ∣ (k0_mult123 v4036).toNat := fun v4036 k0_hw62 => k0_hw62.1
theorem k0_off186_inb : ∀ (v4036 : BitVec 32) (k0_hw62 : k0_chk62 v4036), ∀ a, (k0_off186 v4036) a + S16x1024.size a ≤ S4608x1024.size a := fun v4036 k0_hw62 => k0_hw62.2.1
theorem k0_mult124_dvd : ∀ (v4036 : BitVec 32) (k0_hw62 : k0_chk62 v4036), 8 ∣ (k0_mult124 v4036).toNat := fun v4036 k0_hw62 => k0_hw62.2.2.1
theorem k0_off187_inb : ∀ (v4036 : BitVec 32) (k0_hw62 : k0_chk62 v4036), ∀ a, (k0_off187 v4036) a + S8x1024.size a ≤ S4096x1024.size a := fun v4036 k0_hw62 => k0_hw62.2.2.2

def k0_off188 (k0_t1 : Fin k0_t1_loop.trips) : Fin 2 → Nat :=
  let c62_2524 : Index := 62#32
  let c0_i32_205 : BitVec 32 := 0#32
  let c1_i32 : BitVec 32 := 1#32
  let arg21 : BitVec 32 := Scf.iv c0_i32_205 c1_i32 k0_t1
  let v4079 : Index := Scalar.indexCast arg21
  ![62, v4079.toNat]
def k0_mult125 (v4080 : BitVec 32) : BitVec 32 :=
  let c4464_i32_2533 : BitVec 32 := 4464#32
  let c127_i32_2525 : BitVec 32 := 127#32
  let v4081 : BitVec 32 := Scalar.andi v4080 c127_i32_2525
  let c2_i32_2530 : BitVec 32 := 2#32
  let v4086 : BitVec 32 := Scalar.subi v4081 c2_i32_2530
  let c3_i32_2531 : BitVec 32 := 3#32
  let v4087 : BitVec 32 := Scalar.shrsi v4086 c3_i32_2531
  let c3_i32_2532 : BitVec 32 := 3#32
  let v4088 : BitVec 32 := Scalar.shli v4087 c3_i32_2532
  let v4089 : BitVec 32 := Scalar.addi c4464_i32_2533 v4088
  v4089

def k0_off189 (v4080 : BitVec 32) : Fin 2 → Nat :=
  let c4464_i32_2533 : BitVec 32 := 4464#32
  let c127_i32_2525 : BitVec 32 := 127#32
  let v4081 : BitVec 32 := Scalar.andi v4080 c127_i32_2525
  let c2_i32_2530 : BitVec 32 := 2#32
  let v4086 : BitVec 32 := Scalar.subi v4081 c2_i32_2530
  let c3_i32_2531 : BitVec 32 := 3#32
  let v4087 : BitVec 32 := Scalar.shrsi v4086 c3_i32_2531
  let c3_i32_2532 : BitVec 32 := 3#32
  let v4088 : BitVec 32 := Scalar.shli v4087 c3_i32_2532
  let v4089 : BitVec 32 := Scalar.addi c4464_i32_2533 v4088
  let v4090 : BitVec 32 := v4089
  let v4091 : Index := Scalar.indexCast v4090
  let c0_2534 : Index := 0#32
  ![v4091.toNat, 0]
def k0_mult126 (v4080 : BitVec 32) : BitVec 32 :=
  let c3968_i32 : BitVec 32 := 3968#32
  let c7_i32_2526 : BitVec 32 := 7#32
  let v4082 : BitVec 32 := Scalar.shrsi v4080 c7_i32_2526
  let c127_i32_2527 : BitVec 32 := 127#32
  let v4083 : BitVec 32 := Scalar.andi v4082 c127_i32_2527
  let c3_i32_2542 : BitVec 32 := 3#32
  let v4105 : BitVec 32 := Scalar.shrsi v4083 c3_i32_2542
  let c3_i32_2543 : BitVec 32 := 3#32
  let v4106 : BitVec 32 := Scalar.shli v4105 c3_i32_2543
  let v4107 : BitVec 32 := Scalar.addi c3968_i32 v4106
  v4107
def k0_off190 (v4080 : BitVec 32) : Fin 2 → Nat :=
  let c3968_i32 : BitVec 32 := 3968#32
  let c7_i32_2526 : BitVec 32 := 7#32
  let v4082 : BitVec 32 := Scalar.shrsi v4080 c7_i32_2526
  let c127_i32_2527 : BitVec 32 := 127#32
  let v4083 : BitVec 32 := Scalar.andi v4082 c127_i32_2527
  let c3_i32_2542 : BitVec 32 := 3#32
  let v4105 : BitVec 32 := Scalar.shrsi v4083 c3_i32_2542
  let c3_i32_2543 : BitVec 32 := 3#32
  let v4106 : BitVec 32 := Scalar.shli v4105 c3_i32_2543
  let v4107 : BitVec 32 := Scalar.addi c3968_i32 v4106
  let v4108 : BitVec 32 := v4107
  let v4109 : Index := Scalar.indexCast v4108
  let c0_2544 : Index := 0#32
  ![v4109.toNat, 0]

def k0_chk63 (v4080 : BitVec 32) : Prop :=
  (8 ∣ (k0_mult125 v4080).toNat) ∧
  (∀ a, (k0_off189 v4080) a + S16x1024.size a ≤ S4608x1024.size a) ∧
  (8 ∣ (k0_mult126 v4080).toNat) ∧
  (∀ a, (k0_off190 v4080) a + S8x1024.size a ≤ S4096x1024.size a)
theorem k0_mult125_dvd : ∀ (v4080 : BitVec 32) (k0_hw63 : k0_chk63 v4080), 8 ∣ (k0_mult125 v4080).toNat := fun v4080 k0_hw63 => k0_hw63.1
theorem k0_off189_inb : ∀ (v4080 : BitVec 32) (k0_hw63 : k0_chk63 v4080), ∀ a, (k0_off189 v4080) a + S16x1024.size a ≤ S4608x1024.size a := fun v4080 k0_hw63 => k0_hw63.2.1
theorem k0_mult126_dvd : ∀ (v4080 : BitVec 32) (k0_hw63 : k0_chk63 v4080), 8 ∣ (k0_mult126 v4080).toNat := fun v4080 k0_hw63 => k0_hw63.2.2.1
theorem k0_off190_inb : ∀ (v4080 : BitVec 32) (k0_hw63 : k0_chk63 v4080), ∀ a, (k0_off190 v4080) a + S8x1024.size a ≤ S4096x1024.size a := fun v4080 k0_hw63 => k0_hw63.2.2.2

def k0_off191 (k0_t1 : Fin k0_t1_loop.trips) : Fin 2 → Nat :=
  let c63_2551 : Index := 63#32
  let c0_i32_205 : BitVec 32 := 0#32
  let c1_i32 : BitVec 32 := 1#32
  let arg21 : BitVec 32 := Scf.iv c0_i32_205 c1_i32 k0_t1
  let v4123 : Index := Scalar.indexCast arg21
  ![63, v4123.toNat]
def k0_mult127 (v4124 : BitVec 32) : BitVec 32 :=
  let c4536_i32_2560 : BitVec 32 := 4536#32
  let c127_i32_2552 : BitVec 32 := 127#32
  let v4125 : BitVec 32 := Scalar.andi v4124 c127_i32_2552
  let c2_i32_2557 : BitVec 32 := 2#32
  let v4130 : BitVec 32 := Scalar.subi v4125 c2_i32_2557
  let c3_i32_2558 : BitVec 32 := 3#32
  let v4131 : BitVec 32 := Scalar.shrsi v4130 c3_i32_2558
  let c3_i32_2559 : BitVec 32 := 3#32
  let v4132 : BitVec 32 := Scalar.shli v4131 c3_i32_2559
  let v4133 : BitVec 32 := Scalar.addi c4536_i32_2560 v4132
  v4133

def k0_off192 (v4124 : BitVec 32) : Fin 2 → Nat :=
  let c4536_i32_2560 : BitVec 32 := 4536#32
  let c127_i32_2552 : BitVec 32 := 127#32
  let v4125 : BitVec 32 := Scalar.andi v4124 c127_i32_2552
  let c2_i32_2557 : BitVec 32 := 2#32
  let v4130 : BitVec 32 := Scalar.subi v4125 c2_i32_2557
  let c3_i32_2558 : BitVec 32 := 3#32
  let v4131 : BitVec 32 := Scalar.shrsi v4130 c3_i32_2558
  let c3_i32_2559 : BitVec 32 := 3#32
  let v4132 : BitVec 32 := Scalar.shli v4131 c3_i32_2559
  let v4133 : BitVec 32 := Scalar.addi c4536_i32_2560 v4132
  let v4134 : BitVec 32 := v4133
  let v4135 : Index := Scalar.indexCast v4134
  let c0_2561 : Index := 0#32
  ![v4135.toNat, 0]
def k0_mult128 (v4124 : BitVec 32) : BitVec 32 :=
  let c4032_i32_2571 : BitVec 32 := 4032#32
  let c7_i32_2553 : BitVec 32 := 7#32
  let v4126 : BitVec 32 := Scalar.shrsi v4124 c7_i32_2553
  let c127_i32_2554 : BitVec 32 := 127#32
  let v4127 : BitVec 32 := Scalar.andi v4126 c127_i32_2554
  let c3_i32_2569 : BitVec 32 := 3#32
  let v4149 : BitVec 32 := Scalar.shrsi v4127 c3_i32_2569
  let c3_i32_2570 : BitVec 32 := 3#32
  let v4150 : BitVec 32 := Scalar.shli v4149 c3_i32_2570
  let v4151 : BitVec 32 := Scalar.addi c4032_i32_2571 v4150
  v4151
def k0_off193 (v4124 : BitVec 32) : Fin 2 → Nat :=
  let c4032_i32_2571 : BitVec 32 := 4032#32
  let c7_i32_2553 : BitVec 32 := 7#32
  let v4126 : BitVec 32 := Scalar.shrsi v4124 c7_i32_2553
  let c127_i32_2554 : BitVec 32 := 127#32
  let v4127 : BitVec 32 := Scalar.andi v4126 c127_i32_2554
  let c3_i32_2569 : BitVec 32 := 3#32
  let v4149 : BitVec 32 := Scalar.shrsi v4127 c3_i32_2569
  let c3_i32_2570 : BitVec 32 := 3#32
  let v4150 : BitVec 32 := Scalar.shli v4149 c3_i32_2570
  let v4151 : BitVec 32 := Scalar.addi c4032_i32_2571 v4150
  let v4152 : BitVec 32 := v4151
  let v4153 : Index := Scalar.indexCast v4152
  let c0_2572 : Index := 0#32
  ![v4153.toNat, 0]

def k0_chk64 (v4124 : BitVec 32) : Prop :=
  (8 ∣ (k0_mult127 v4124).toNat) ∧
  (∀ a, (k0_off192 v4124) a + S16x1024.size a ≤ S4608x1024.size a) ∧
  (8 ∣ (k0_mult128 v4124).toNat) ∧
  (∀ a, (k0_off193 v4124) a + S8x1024.size a ≤ S4096x1024.size a)
theorem k0_mult127_dvd : ∀ (v4124 : BitVec 32) (k0_hw64 : k0_chk64 v4124), 8 ∣ (k0_mult127 v4124).toNat := fun v4124 k0_hw64 => k0_hw64.1
theorem k0_off192_inb : ∀ (v4124 : BitVec 32) (k0_hw64 : k0_chk64 v4124), ∀ a, (k0_off192 v4124) a + S16x1024.size a ≤ S4608x1024.size a := fun v4124 k0_hw64 => k0_hw64.2.1
theorem k0_mult128_dvd : ∀ (v4124 : BitVec 32) (k0_hw64 : k0_chk64 v4124), 8 ∣ (k0_mult128 v4124).toNat := fun v4124 k0_hw64 => k0_hw64.2.2.1
theorem k0_off193_inb : ∀ (v4124 : BitVec 32) (k0_hw64 : k0_chk64 v4124), ∀ a, (k0_off193 v4124) a + S8x1024.size a ≤ S4096x1024.size a := fun v4124 k0_hw64 => k0_hw64.2.2.2

def k0_off194 (k0_t1 : Fin k0_t1_loop.trips) : Fin 2 → Nat :=
  let c0_2618 : Index := 0#32
  let c0_i32_205 : BitVec 32 := 0#32
  let c1_i32 : BitVec 32 := 1#32
  let arg21 : BitVec 32 := Scf.iv c0_i32_205 c1_i32 k0_t1
  let v4270 : Index := Scalar.indexCast arg21
  ![0, v4270.toNat]
def k0_mult129 (v4271 : BitVec 32) : BitVec 32 :=
  let c0_i32_2623 : BitVec 32 := 0#32
  let c14_i32_2619 : BitVec 32 := 14#32
  let v4272 : BitVec 32 := Scalar.shrsi v4271 c14_i32_2619
  let c127_i32_2620 : BitVec 32 := 127#32
  let v4273 : BitVec 32 := Scalar.andi v4272 c127_i32_2620
  let c3_i32_2621 : BitVec 32 := 3#32
  let v4274 : BitVec 32 := Scalar.shrsi v4273 c3_i32_2621
  let c3_i32_2622 : BitVec 32 := 3#32
  let v4275 : BitVec 32 := Scalar.shli v4274 c3_i32_2622
  let v4276 : BitVec 32 := Scalar.addi c0_i32_2623 v4275
  v4276

def k0_off195 (v4271 : BitVec 32) : Fin 2 → Nat :=
  let c0_i32_2623 : BitVec 32 := 0#32
  let c14_i32_2619 : BitVec 32 := 14#32
  let v4272 : BitVec 32 := Scalar.shrsi v4271 c14_i32_2619
  let c127_i32_2620 : BitVec 32 := 127#32
  let v4273 : BitVec 32 := Scalar.andi v4272 c127_i32_2620
  let c3_i32_2621 : BitVec 32 := 3#32
  let v4274 : BitVec 32 := Scalar.shrsi v4273 c3_i32_2621
  let c3_i32_2622 : BitVec 32 := 3#32
  let v4275 : BitVec 32 := Scalar.shli v4274 c3_i32_2622
  let v4276 : BitVec 32 := Scalar.addi c0_i32_2623 v4275
  let v4277 : BitVec 32 := v4276
  let v4278 : Index := Scalar.indexCast v4277
  let c0_2624 : Index := 0#32
  ![v4278.toNat, 0]

def k0_chk65 (v4271 : BitVec 32) : Prop :=
  (8 ∣ (k0_mult129 v4271).toNat) ∧
  (∀ a, (k0_off195 v4271) a + S8x1024.size a ≤ S4608x1024.size a)
theorem k0_mult129_dvd : ∀ (v4271 : BitVec 32) (k0_hw65 : k0_chk65 v4271), 8 ∣ (k0_mult129 v4271).toNat := fun v4271 k0_hw65 => k0_hw65.1
theorem k0_off195_inb : ∀ (v4271 : BitVec 32) (k0_hw65 : k0_chk65 v4271), ∀ a, (k0_off195 v4271) a + S8x1024.size a ≤ S4608x1024.size a := fun v4271 k0_hw65 => k0_hw65.2

def k0_off196 (k0_t1 : Fin k0_t1_loop.trips) : Fin 2 → Nat :=
  let c1_2627 : Index := 1#32
  let c0_i32_205 : BitVec 32 := 0#32
  let c1_i32 : BitVec 32 := 1#32
  let arg21 : BitVec 32 := Scf.iv c0_i32_205 c1_i32 k0_t1
  let v4293 : Index := Scalar.indexCast arg21
  ![1, v4293.toNat]
def k0_mult130 (v4294 : BitVec 32) : BitVec 32 :=
  let c72_i32_2632 : BitVec 32 := 72#32
  let c14_i32_2628 : BitVec 32 := 14#32
  let v4295 : BitVec 32 := Scalar.shrsi v4294 c14_i32_2628
  let c127_i32_2629 : BitVec 32 := 127#32
  let v4296 : BitVec 32 := Scalar.andi v4295 c127_i32_2629
  let c3_i32_2630 : BitVec 32 := 3#32
  let v4297 : BitVec 32 := Scalar.shrsi v4296 c3_i32_2630
  let c3_i32_2631 : BitVec 32 := 3#32
  let v4298 : BitVec 32 := Scalar.shli v4297 c3_i32_2631
  let v4299 : BitVec 32 := Scalar.addi c72_i32_2632 v4298
  v4299

def k0_off197 (v4294 : BitVec 32) : Fin 2 → Nat :=
  let c72_i32_2632 : BitVec 32 := 72#32
  let c14_i32_2628 : BitVec 32 := 14#32
  let v4295 : BitVec 32 := Scalar.shrsi v4294 c14_i32_2628
  let c127_i32_2629 : BitVec 32 := 127#32
  let v4296 : BitVec 32 := Scalar.andi v4295 c127_i32_2629
  let c3_i32_2630 : BitVec 32 := 3#32
  let v4297 : BitVec 32 := Scalar.shrsi v4296 c3_i32_2630
  let c3_i32_2631 : BitVec 32 := 3#32
  let v4298 : BitVec 32 := Scalar.shli v4297 c3_i32_2631
  let v4299 : BitVec 32 := Scalar.addi c72_i32_2632 v4298
  let v4300 : BitVec 32 := v4299
  let v4301 : Index := Scalar.indexCast v4300
  let c0_2633 : Index := 0#32
  ![v4301.toNat, 0]

def k0_chk66 (v4294 : BitVec 32) : Prop :=
  (8 ∣ (k0_mult130 v4294).toNat) ∧
  (∀ a, (k0_off197 v4294) a + S8x1024.size a ≤ S4608x1024.size a)
theorem k0_mult130_dvd : ∀ (v4294 : BitVec 32) (k0_hw66 : k0_chk66 v4294), 8 ∣ (k0_mult130 v4294).toNat := fun v4294 k0_hw66 => k0_hw66.1
theorem k0_off197_inb : ∀ (v4294 : BitVec 32) (k0_hw66 : k0_chk66 v4294), ∀ a, (k0_off197 v4294) a + S8x1024.size a ≤ S4608x1024.size a := fun v4294 k0_hw66 => k0_hw66.2

def k0_off198 (k0_t1 : Fin k0_t1_loop.trips) : Fin 2 → Nat :=
  let c2_2636 : Index := 2#32
  let c0_i32_205 : BitVec 32 := 0#32
  let c1_i32 : BitVec 32 := 1#32
  let arg21 : BitVec 32 := Scf.iv c0_i32_205 c1_i32 k0_t1
  let v4316 : Index := Scalar.indexCast arg21
  ![2, v4316.toNat]
def k0_mult131 (v4317 : BitVec 32) : BitVec 32 :=
  let c144_i32_2641 : BitVec 32 := 144#32
  let c14_i32_2637 : BitVec 32 := 14#32
  let v4318 : BitVec 32 := Scalar.shrsi v4317 c14_i32_2637
  let c127_i32_2638 : BitVec 32 := 127#32
  let v4319 : BitVec 32 := Scalar.andi v4318 c127_i32_2638
  let c3_i32_2639 : BitVec 32 := 3#32
  let v4320 : BitVec 32 := Scalar.shrsi v4319 c3_i32_2639
  let c3_i32_2640 : BitVec 32 := 3#32
  let v4321 : BitVec 32 := Scalar.shli v4320 c3_i32_2640
  let v4322 : BitVec 32 := Scalar.addi c144_i32_2641 v4321
  v4322

def k0_off199 (v4317 : BitVec 32) : Fin 2 → Nat :=
  let c144_i32_2641 : BitVec 32 := 144#32
  let c14_i32_2637 : BitVec 32 := 14#32
  let v4318 : BitVec 32 := Scalar.shrsi v4317 c14_i32_2637
  let c127_i32_2638 : BitVec 32 := 127#32
  let v4319 : BitVec 32 := Scalar.andi v4318 c127_i32_2638
  let c3_i32_2639 : BitVec 32 := 3#32
  let v4320 : BitVec 32 := Scalar.shrsi v4319 c3_i32_2639
  let c3_i32_2640 : BitVec 32 := 3#32
  let v4321 : BitVec 32 := Scalar.shli v4320 c3_i32_2640
  let v4322 : BitVec 32 := Scalar.addi c144_i32_2641 v4321
  let v4323 : BitVec 32 := v4322
  let v4324 : Index := Scalar.indexCast v4323
  let c0_2642 : Index := 0#32
  ![v4324.toNat, 0]

def k0_chk67 (v4317 : BitVec 32) : Prop :=
  (8 ∣ (k0_mult131 v4317).toNat) ∧
  (∀ a, (k0_off199 v4317) a + S8x1024.size a ≤ S4608x1024.size a)
theorem k0_mult131_dvd : ∀ (v4317 : BitVec 32) (k0_hw67 : k0_chk67 v4317), 8 ∣ (k0_mult131 v4317).toNat := fun v4317 k0_hw67 => k0_hw67.1
theorem k0_off199_inb : ∀ (v4317 : BitVec 32) (k0_hw67 : k0_chk67 v4317), ∀ a, (k0_off199 v4317) a + S8x1024.size a ≤ S4608x1024.size a := fun v4317 k0_hw67 => k0_hw67.2

def k0_off200 (k0_t1 : Fin k0_t1_loop.trips) : Fin 2 → Nat :=
  let c3_2645 : Index := 3#32
  let c0_i32_205 : BitVec 32 := 0#32
  let c1_i32 : BitVec 32 := 1#32
  let arg21 : BitVec 32 := Scf.iv c0_i32_205 c1_i32 k0_t1
  let v4339 : Index := Scalar.indexCast arg21
  ![3, v4339.toNat]
def k0_mult132 (v4340 : BitVec 32) : BitVec 32 :=
  let c216_i32_2650 : BitVec 32 := 216#32
  let c14_i32_2646 : BitVec 32 := 14#32
  let v4341 : BitVec 32 := Scalar.shrsi v4340 c14_i32_2646
  let c127_i32_2647 : BitVec 32 := 127#32
  let v4342 : BitVec 32 := Scalar.andi v4341 c127_i32_2647
  let c3_i32_2648 : BitVec 32 := 3#32
  let v4343 : BitVec 32 := Scalar.shrsi v4342 c3_i32_2648
  let c3_i32_2649 : BitVec 32 := 3#32
  let v4344 : BitVec 32 := Scalar.shli v4343 c3_i32_2649
  let v4345 : BitVec 32 := Scalar.addi c216_i32_2650 v4344
  v4345

def k0_off201 (v4340 : BitVec 32) : Fin 2 → Nat :=
  let c216_i32_2650 : BitVec 32 := 216#32
  let c14_i32_2646 : BitVec 32 := 14#32
  let v4341 : BitVec 32 := Scalar.shrsi v4340 c14_i32_2646
  let c127_i32_2647 : BitVec 32 := 127#32
  let v4342 : BitVec 32 := Scalar.andi v4341 c127_i32_2647
  let c3_i32_2648 : BitVec 32 := 3#32
  let v4343 : BitVec 32 := Scalar.shrsi v4342 c3_i32_2648
  let c3_i32_2649 : BitVec 32 := 3#32
  let v4344 : BitVec 32 := Scalar.shli v4343 c3_i32_2649
  let v4345 : BitVec 32 := Scalar.addi c216_i32_2650 v4344
  let v4346 : BitVec 32 := v4345
  let v4347 : Index := Scalar.indexCast v4346
  let c0_2651 : Index := 0#32
  ![v4347.toNat, 0]

def k0_chk68 (v4340 : BitVec 32) : Prop :=
  (8 ∣ (k0_mult132 v4340).toNat) ∧
  (∀ a, (k0_off201 v4340) a + S8x1024.size a ≤ S4608x1024.size a)
theorem k0_mult132_dvd : ∀ (v4340 : BitVec 32) (k0_hw68 : k0_chk68 v4340), 8 ∣ (k0_mult132 v4340).toNat := fun v4340 k0_hw68 => k0_hw68.1
theorem k0_off201_inb : ∀ (v4340 : BitVec 32) (k0_hw68 : k0_chk68 v4340), ∀ a, (k0_off201 v4340) a + S8x1024.size a ≤ S4608x1024.size a := fun v4340 k0_hw68 => k0_hw68.2

def k0_off202 (k0_t1 : Fin k0_t1_loop.trips) : Fin 2 → Nat :=
  let c4_2654 : Index := 4#32
  let c0_i32_205 : BitVec 32 := 0#32
  let c1_i32 : BitVec 32 := 1#32
  let arg21 : BitVec 32 := Scf.iv c0_i32_205 c1_i32 k0_t1
  let v4362 : Index := Scalar.indexCast arg21
  ![4, v4362.toNat]
def k0_mult133 (v4363 : BitVec 32) : BitVec 32 :=
  let c288_i32_2659 : BitVec 32 := 288#32
  let c14_i32_2655 : BitVec 32 := 14#32
  let v4364 : BitVec 32 := Scalar.shrsi v4363 c14_i32_2655
  let c127_i32_2656 : BitVec 32 := 127#32
  let v4365 : BitVec 32 := Scalar.andi v4364 c127_i32_2656
  let c3_i32_2657 : BitVec 32 := 3#32
  let v4366 : BitVec 32 := Scalar.shrsi v4365 c3_i32_2657
  let c3_i32_2658 : BitVec 32 := 3#32
  let v4367 : BitVec 32 := Scalar.shli v4366 c3_i32_2658
  let v4368 : BitVec 32 := Scalar.addi c288_i32_2659 v4367
  v4368

def k0_off203 (v4363 : BitVec 32) : Fin 2 → Nat :=
  let c288_i32_2659 : BitVec 32 := 288#32
  let c14_i32_2655 : BitVec 32 := 14#32
  let v4364 : BitVec 32 := Scalar.shrsi v4363 c14_i32_2655
  let c127_i32_2656 : BitVec 32 := 127#32
  let v4365 : BitVec 32 := Scalar.andi v4364 c127_i32_2656
  let c3_i32_2657 : BitVec 32 := 3#32
  let v4366 : BitVec 32 := Scalar.shrsi v4365 c3_i32_2657
  let c3_i32_2658 : BitVec 32 := 3#32
  let v4367 : BitVec 32 := Scalar.shli v4366 c3_i32_2658
  let v4368 : BitVec 32 := Scalar.addi c288_i32_2659 v4367
  let v4369 : BitVec 32 := v4368
  let v4370 : Index := Scalar.indexCast v4369
  let c0_2660 : Index := 0#32
  ![v4370.toNat, 0]

def k0_chk69 (v4363 : BitVec 32) : Prop :=
  (8 ∣ (k0_mult133 v4363).toNat) ∧
  (∀ a, (k0_off203 v4363) a + S8x1024.size a ≤ S4608x1024.size a)
theorem k0_mult133_dvd : ∀ (v4363 : BitVec 32) (k0_hw69 : k0_chk69 v4363), 8 ∣ (k0_mult133 v4363).toNat := fun v4363 k0_hw69 => k0_hw69.1
theorem k0_off203_inb : ∀ (v4363 : BitVec 32) (k0_hw69 : k0_chk69 v4363), ∀ a, (k0_off203 v4363) a + S8x1024.size a ≤ S4608x1024.size a := fun v4363 k0_hw69 => k0_hw69.2

def k0_off204 (k0_t1 : Fin k0_t1_loop.trips) : Fin 2 → Nat :=
  let c5_2663 : Index := 5#32
  let c0_i32_205 : BitVec 32 := 0#32
  let c1_i32 : BitVec 32 := 1#32
  let arg21 : BitVec 32 := Scf.iv c0_i32_205 c1_i32 k0_t1
  let v4385 : Index := Scalar.indexCast arg21
  ![5, v4385.toNat]
def k0_mult134 (v4386 : BitVec 32) : BitVec 32 :=
  let c360_i32_2668 : BitVec 32 := 360#32
  let c14_i32_2664 : BitVec 32 := 14#32
  let v4387 : BitVec 32 := Scalar.shrsi v4386 c14_i32_2664
  let c127_i32_2665 : BitVec 32 := 127#32
  let v4388 : BitVec 32 := Scalar.andi v4387 c127_i32_2665
  let c3_i32_2666 : BitVec 32 := 3#32
  let v4389 : BitVec 32 := Scalar.shrsi v4388 c3_i32_2666
  let c3_i32_2667 : BitVec 32 := 3#32
  let v4390 : BitVec 32 := Scalar.shli v4389 c3_i32_2667
  let v4391 : BitVec 32 := Scalar.addi c360_i32_2668 v4390
  v4391

def k0_off205 (v4386 : BitVec 32) : Fin 2 → Nat :=
  let c360_i32_2668 : BitVec 32 := 360#32
  let c14_i32_2664 : BitVec 32 := 14#32
  let v4387 : BitVec 32 := Scalar.shrsi v4386 c14_i32_2664
  let c127_i32_2665 : BitVec 32 := 127#32
  let v4388 : BitVec 32 := Scalar.andi v4387 c127_i32_2665
  let c3_i32_2666 : BitVec 32 := 3#32
  let v4389 : BitVec 32 := Scalar.shrsi v4388 c3_i32_2666
  let c3_i32_2667 : BitVec 32 := 3#32
  let v4390 : BitVec 32 := Scalar.shli v4389 c3_i32_2667
  let v4391 : BitVec 32 := Scalar.addi c360_i32_2668 v4390
  let v4392 : BitVec 32 := v4391
  let v4393 : Index := Scalar.indexCast v4392
  let c0_2669 : Index := 0#32
  ![v4393.toNat, 0]

def k0_chk70 (v4386 : BitVec 32) : Prop :=
  (8 ∣ (k0_mult134 v4386).toNat) ∧
  (∀ a, (k0_off205 v4386) a + S8x1024.size a ≤ S4608x1024.size a)
theorem k0_mult134_dvd : ∀ (v4386 : BitVec 32) (k0_hw70 : k0_chk70 v4386), 8 ∣ (k0_mult134 v4386).toNat := fun v4386 k0_hw70 => k0_hw70.1
theorem k0_off205_inb : ∀ (v4386 : BitVec 32) (k0_hw70 : k0_chk70 v4386), ∀ a, (k0_off205 v4386) a + S8x1024.size a ≤ S4608x1024.size a := fun v4386 k0_hw70 => k0_hw70.2

def k0_off206 (k0_t1 : Fin k0_t1_loop.trips) : Fin 2 → Nat :=
  let c6_2672 : Index := 6#32
  let c0_i32_205 : BitVec 32 := 0#32
  let c1_i32 : BitVec 32 := 1#32
  let arg21 : BitVec 32 := Scf.iv c0_i32_205 c1_i32 k0_t1
  let v4408 : Index := Scalar.indexCast arg21
  ![6, v4408.toNat]
def k0_mult135 (v4409 : BitVec 32) : BitVec 32 :=
  let c432_i32_2677 : BitVec 32 := 432#32
  let c14_i32_2673 : BitVec 32 := 14#32
  let v4410 : BitVec 32 := Scalar.shrsi v4409 c14_i32_2673
  let c127_i32_2674 : BitVec 32 := 127#32
  let v4411 : BitVec 32 := Scalar.andi v4410 c127_i32_2674
  let c3_i32_2675 : BitVec 32 := 3#32
  let v4412 : BitVec 32 := Scalar.shrsi v4411 c3_i32_2675
  let c3_i32_2676 : BitVec 32 := 3#32
  let v4413 : BitVec 32 := Scalar.shli v4412 c3_i32_2676
  let v4414 : BitVec 32 := Scalar.addi c432_i32_2677 v4413
  v4414

def k0_off207 (v4409 : BitVec 32) : Fin 2 → Nat :=
  let c432_i32_2677 : BitVec 32 := 432#32
  let c14_i32_2673 : BitVec 32 := 14#32
  let v4410 : BitVec 32 := Scalar.shrsi v4409 c14_i32_2673
  let c127_i32_2674 : BitVec 32 := 127#32
  let v4411 : BitVec 32 := Scalar.andi v4410 c127_i32_2674
  let c3_i32_2675 : BitVec 32 := 3#32
  let v4412 : BitVec 32 := Scalar.shrsi v4411 c3_i32_2675
  let c3_i32_2676 : BitVec 32 := 3#32
  let v4413 : BitVec 32 := Scalar.shli v4412 c3_i32_2676
  let v4414 : BitVec 32 := Scalar.addi c432_i32_2677 v4413
  let v4415 : BitVec 32 := v4414
  let v4416 : Index := Scalar.indexCast v4415
  let c0_2678 : Index := 0#32
  ![v4416.toNat, 0]

def k0_chk71 (v4409 : BitVec 32) : Prop :=
  (8 ∣ (k0_mult135 v4409).toNat) ∧
  (∀ a, (k0_off207 v4409) a + S8x1024.size a ≤ S4608x1024.size a)
theorem k0_mult135_dvd : ∀ (v4409 : BitVec 32) (k0_hw71 : k0_chk71 v4409), 8 ∣ (k0_mult135 v4409).toNat := fun v4409 k0_hw71 => k0_hw71.1
theorem k0_off207_inb : ∀ (v4409 : BitVec 32) (k0_hw71 : k0_chk71 v4409), ∀ a, (k0_off207 v4409) a + S8x1024.size a ≤ S4608x1024.size a := fun v4409 k0_hw71 => k0_hw71.2

def k0_off208 (k0_t1 : Fin k0_t1_loop.trips) : Fin 2 → Nat :=
  let c7_2681 : Index := 7#32
  let c0_i32_205 : BitVec 32 := 0#32
  let c1_i32 : BitVec 32 := 1#32
  let arg21 : BitVec 32 := Scf.iv c0_i32_205 c1_i32 k0_t1
  let v4431 : Index := Scalar.indexCast arg21
  ![7, v4431.toNat]
def k0_mult136 (v4432 : BitVec 32) : BitVec 32 :=
  let c504_i32_2686 : BitVec 32 := 504#32
  let c14_i32_2682 : BitVec 32 := 14#32
  let v4433 : BitVec 32 := Scalar.shrsi v4432 c14_i32_2682
  let c127_i32_2683 : BitVec 32 := 127#32
  let v4434 : BitVec 32 := Scalar.andi v4433 c127_i32_2683
  let c3_i32_2684 : BitVec 32 := 3#32
  let v4435 : BitVec 32 := Scalar.shrsi v4434 c3_i32_2684
  let c3_i32_2685 : BitVec 32 := 3#32
  let v4436 : BitVec 32 := Scalar.shli v4435 c3_i32_2685
  let v4437 : BitVec 32 := Scalar.addi c504_i32_2686 v4436
  v4437

def k0_off209 (v4432 : BitVec 32) : Fin 2 → Nat :=
  let c504_i32_2686 : BitVec 32 := 504#32
  let c14_i32_2682 : BitVec 32 := 14#32
  let v4433 : BitVec 32 := Scalar.shrsi v4432 c14_i32_2682
  let c127_i32_2683 : BitVec 32 := 127#32
  let v4434 : BitVec 32 := Scalar.andi v4433 c127_i32_2683
  let c3_i32_2684 : BitVec 32 := 3#32
  let v4435 : BitVec 32 := Scalar.shrsi v4434 c3_i32_2684
  let c3_i32_2685 : BitVec 32 := 3#32
  let v4436 : BitVec 32 := Scalar.shli v4435 c3_i32_2685
  let v4437 : BitVec 32 := Scalar.addi c504_i32_2686 v4436
  let v4438 : BitVec 32 := v4437
  let v4439 : Index := Scalar.indexCast v4438
  let c0_2687 : Index := 0#32
  ![v4439.toNat, 0]

def k0_chk72 (v4432 : BitVec 32) : Prop :=
  (8 ∣ (k0_mult136 v4432).toNat) ∧
  (∀ a, (k0_off209 v4432) a + S8x1024.size a ≤ S4608x1024.size a)
theorem k0_mult136_dvd : ∀ (v4432 : BitVec 32) (k0_hw72 : k0_chk72 v4432), 8 ∣ (k0_mult136 v4432).toNat := fun v4432 k0_hw72 => k0_hw72.1
theorem k0_off209_inb : ∀ (v4432 : BitVec 32) (k0_hw72 : k0_chk72 v4432), ∀ a, (k0_off209 v4432) a + S8x1024.size a ≤ S4608x1024.size a := fun v4432 k0_hw72 => k0_hw72.2

def k0_off210 (k0_t1 : Fin k0_t1_loop.trips) : Fin 2 → Nat :=
  let c8_2690 : Index := 8#32
  let c0_i32_205 : BitVec 32 := 0#32
  let c1_i32 : BitVec 32 := 1#32
  let arg21 : BitVec 32 := Scf.iv c0_i32_205 c1_i32 k0_t1
  let v4454 : Index := Scalar.indexCast arg21
  ![8, v4454.toNat]
def k0_mult137 (v4455 : BitVec 32) : BitVec 32 :=
  let c576_i32_2695 : BitVec 32 := 576#32
  let c14_i32_2691 : BitVec 32 := 14#32
  let v4456 : BitVec 32 := Scalar.shrsi v4455 c14_i32_2691
  let c127_i32_2692 : BitVec 32 := 127#32
  let v4457 : BitVec 32 := Scalar.andi v4456 c127_i32_2692
  let c3_i32_2693 : BitVec 32 := 3#32
  let v4458 : BitVec 32 := Scalar.shrsi v4457 c3_i32_2693
  let c3_i32_2694 : BitVec 32 := 3#32
  let v4459 : BitVec 32 := Scalar.shli v4458 c3_i32_2694
  let v4460 : BitVec 32 := Scalar.addi c576_i32_2695 v4459
  v4460

def k0_off211 (v4455 : BitVec 32) : Fin 2 → Nat :=
  let c576_i32_2695 : BitVec 32 := 576#32
  let c14_i32_2691 : BitVec 32 := 14#32
  let v4456 : BitVec 32 := Scalar.shrsi v4455 c14_i32_2691
  let c127_i32_2692 : BitVec 32 := 127#32
  let v4457 : BitVec 32 := Scalar.andi v4456 c127_i32_2692
  let c3_i32_2693 : BitVec 32 := 3#32
  let v4458 : BitVec 32 := Scalar.shrsi v4457 c3_i32_2693
  let c3_i32_2694 : BitVec 32 := 3#32
  let v4459 : BitVec 32 := Scalar.shli v4458 c3_i32_2694
  let v4460 : BitVec 32 := Scalar.addi c576_i32_2695 v4459
  let v4461 : BitVec 32 := v4460
  let v4462 : Index := Scalar.indexCast v4461
  let c0_2696 : Index := 0#32
  ![v4462.toNat, 0]

def k0_chk73 (v4455 : BitVec 32) : Prop :=
  (8 ∣ (k0_mult137 v4455).toNat) ∧
  (∀ a, (k0_off211 v4455) a + S8x1024.size a ≤ S4608x1024.size a)
theorem k0_mult137_dvd : ∀ (v4455 : BitVec 32) (k0_hw73 : k0_chk73 v4455), 8 ∣ (k0_mult137 v4455).toNat := fun v4455 k0_hw73 => k0_hw73.1
theorem k0_off211_inb : ∀ (v4455 : BitVec 32) (k0_hw73 : k0_chk73 v4455), ∀ a, (k0_off211 v4455) a + S8x1024.size a ≤ S4608x1024.size a := fun v4455 k0_hw73 => k0_hw73.2

def k0_off212 (k0_t1 : Fin k0_t1_loop.trips) : Fin 2 → Nat :=
  let c9_2699 : Index := 9#32
  let c0_i32_205 : BitVec 32 := 0#32
  let c1_i32 : BitVec 32 := 1#32
  let arg21 : BitVec 32 := Scf.iv c0_i32_205 c1_i32 k0_t1
  let v4477 : Index := Scalar.indexCast arg21
  ![9, v4477.toNat]
def k0_mult138 (v4478 : BitVec 32) : BitVec 32 :=
  let c648_i32_2704 : BitVec 32 := 648#32
  let c14_i32_2700 : BitVec 32 := 14#32
  let v4479 : BitVec 32 := Scalar.shrsi v4478 c14_i32_2700
  let c127_i32_2701 : BitVec 32 := 127#32
  let v4480 : BitVec 32 := Scalar.andi v4479 c127_i32_2701
  let c3_i32_2702 : BitVec 32 := 3#32
  let v4481 : BitVec 32 := Scalar.shrsi v4480 c3_i32_2702
  let c3_i32_2703 : BitVec 32 := 3#32
  let v4482 : BitVec 32 := Scalar.shli v4481 c3_i32_2703
  let v4483 : BitVec 32 := Scalar.addi c648_i32_2704 v4482
  v4483

def k0_off213 (v4478 : BitVec 32) : Fin 2 → Nat :=
  let c648_i32_2704 : BitVec 32 := 648#32
  let c14_i32_2700 : BitVec 32 := 14#32
  let v4479 : BitVec 32 := Scalar.shrsi v4478 c14_i32_2700
  let c127_i32_2701 : BitVec 32 := 127#32
  let v4480 : BitVec 32 := Scalar.andi v4479 c127_i32_2701
  let c3_i32_2702 : BitVec 32 := 3#32
  let v4481 : BitVec 32 := Scalar.shrsi v4480 c3_i32_2702
  let c3_i32_2703 : BitVec 32 := 3#32
  let v4482 : BitVec 32 := Scalar.shli v4481 c3_i32_2703
  let v4483 : BitVec 32 := Scalar.addi c648_i32_2704 v4482
  let v4484 : BitVec 32 := v4483
  let v4485 : Index := Scalar.indexCast v4484
  let c0_2705 : Index := 0#32
  ![v4485.toNat, 0]

def k0_chk74 (v4478 : BitVec 32) : Prop :=
  (8 ∣ (k0_mult138 v4478).toNat) ∧
  (∀ a, (k0_off213 v4478) a + S8x1024.size a ≤ S4608x1024.size a)
theorem k0_mult138_dvd : ∀ (v4478 : BitVec 32) (k0_hw74 : k0_chk74 v4478), 8 ∣ (k0_mult138 v4478).toNat := fun v4478 k0_hw74 => k0_hw74.1
theorem k0_off213_inb : ∀ (v4478 : BitVec 32) (k0_hw74 : k0_chk74 v4478), ∀ a, (k0_off213 v4478) a + S8x1024.size a ≤ S4608x1024.size a := fun v4478 k0_hw74 => k0_hw74.2

def k0_off214 (k0_t1 : Fin k0_t1_loop.trips) : Fin 2 → Nat :=
  let c10_2708 : Index := 10#32
  let c0_i32_205 : BitVec 32 := 0#32
  let c1_i32 : BitVec 32 := 1#32
  let arg21 : BitVec 32 := Scf.iv c0_i32_205 c1_i32 k0_t1
  let v4500 : Index := Scalar.indexCast arg21
  ![10, v4500.toNat]
def k0_mult139 (v4501 : BitVec 32) : BitVec 32 :=
  let c720_i32_2713 : BitVec 32 := 720#32
  let c14_i32_2709 : BitVec 32 := 14#32
  let v4502 : BitVec 32 := Scalar.shrsi v4501 c14_i32_2709
  let c127_i32_2710 : BitVec 32 := 127#32
  let v4503 : BitVec 32 := Scalar.andi v4502 c127_i32_2710
  let c3_i32_2711 : BitVec 32 := 3#32
  let v4504 : BitVec 32 := Scalar.shrsi v4503 c3_i32_2711
  let c3_i32_2712 : BitVec 32 := 3#32
  let v4505 : BitVec 32 := Scalar.shli v4504 c3_i32_2712
  let v4506 : BitVec 32 := Scalar.addi c720_i32_2713 v4505
  v4506

def k0_off215 (v4501 : BitVec 32) : Fin 2 → Nat :=
  let c720_i32_2713 : BitVec 32 := 720#32
  let c14_i32_2709 : BitVec 32 := 14#32
  let v4502 : BitVec 32 := Scalar.shrsi v4501 c14_i32_2709
  let c127_i32_2710 : BitVec 32 := 127#32
  let v4503 : BitVec 32 := Scalar.andi v4502 c127_i32_2710
  let c3_i32_2711 : BitVec 32 := 3#32
  let v4504 : BitVec 32 := Scalar.shrsi v4503 c3_i32_2711
  let c3_i32_2712 : BitVec 32 := 3#32
  let v4505 : BitVec 32 := Scalar.shli v4504 c3_i32_2712
  let v4506 : BitVec 32 := Scalar.addi c720_i32_2713 v4505
  let v4507 : BitVec 32 := v4506
  let v4508 : Index := Scalar.indexCast v4507
  let c0_2714 : Index := 0#32
  ![v4508.toNat, 0]

def k0_chk75 (v4501 : BitVec 32) : Prop :=
  (8 ∣ (k0_mult139 v4501).toNat) ∧
  (∀ a, (k0_off215 v4501) a + S8x1024.size a ≤ S4608x1024.size a)
theorem k0_mult139_dvd : ∀ (v4501 : BitVec 32) (k0_hw75 : k0_chk75 v4501), 8 ∣ (k0_mult139 v4501).toNat := fun v4501 k0_hw75 => k0_hw75.1
theorem k0_off215_inb : ∀ (v4501 : BitVec 32) (k0_hw75 : k0_chk75 v4501), ∀ a, (k0_off215 v4501) a + S8x1024.size a ≤ S4608x1024.size a := fun v4501 k0_hw75 => k0_hw75.2

def k0_off216 (k0_t1 : Fin k0_t1_loop.trips) : Fin 2 → Nat :=
  let c11_2717 : Index := 11#32
  let c0_i32_205 : BitVec 32 := 0#32
  let c1_i32 : BitVec 32 := 1#32
  let arg21 : BitVec 32 := Scf.iv c0_i32_205 c1_i32 k0_t1
  let v4523 : Index := Scalar.indexCast arg21
  ![11, v4523.toNat]
def k0_mult140 (v4524 : BitVec 32) : BitVec 32 :=
  let c792_i32_2722 : BitVec 32 := 792#32
  let c14_i32_2718 : BitVec 32 := 14#32
  let v4525 : BitVec 32 := Scalar.shrsi v4524 c14_i32_2718
  let c127_i32_2719 : BitVec 32 := 127#32
  let v4526 : BitVec 32 := Scalar.andi v4525 c127_i32_2719
  let c3_i32_2720 : BitVec 32 := 3#32
  let v4527 : BitVec 32 := Scalar.shrsi v4526 c3_i32_2720
  let c3_i32_2721 : BitVec 32 := 3#32
  let v4528 : BitVec 32 := Scalar.shli v4527 c3_i32_2721
  let v4529 : BitVec 32 := Scalar.addi c792_i32_2722 v4528
  v4529

def k0_off217 (v4524 : BitVec 32) : Fin 2 → Nat :=
  let c792_i32_2722 : BitVec 32 := 792#32
  let c14_i32_2718 : BitVec 32 := 14#32
  let v4525 : BitVec 32 := Scalar.shrsi v4524 c14_i32_2718
  let c127_i32_2719 : BitVec 32 := 127#32
  let v4526 : BitVec 32 := Scalar.andi v4525 c127_i32_2719
  let c3_i32_2720 : BitVec 32 := 3#32
  let v4527 : BitVec 32 := Scalar.shrsi v4526 c3_i32_2720
  let c3_i32_2721 : BitVec 32 := 3#32
  let v4528 : BitVec 32 := Scalar.shli v4527 c3_i32_2721
  let v4529 : BitVec 32 := Scalar.addi c792_i32_2722 v4528
  let v4530 : BitVec 32 := v4529
  let v4531 : Index := Scalar.indexCast v4530
  let c0_2723 : Index := 0#32
  ![v4531.toNat, 0]

def k0_chk76 (v4524 : BitVec 32) : Prop :=
  (8 ∣ (k0_mult140 v4524).toNat) ∧
  (∀ a, (k0_off217 v4524) a + S8x1024.size a ≤ S4608x1024.size a)
theorem k0_mult140_dvd : ∀ (v4524 : BitVec 32) (k0_hw76 : k0_chk76 v4524), 8 ∣ (k0_mult140 v4524).toNat := fun v4524 k0_hw76 => k0_hw76.1
theorem k0_off217_inb : ∀ (v4524 : BitVec 32) (k0_hw76 : k0_chk76 v4524), ∀ a, (k0_off217 v4524) a + S8x1024.size a ≤ S4608x1024.size a := fun v4524 k0_hw76 => k0_hw76.2

def k0_off218 (k0_t1 : Fin k0_t1_loop.trips) : Fin 2 → Nat :=
  let c12_2726 : Index := 12#32
  let c0_i32_205 : BitVec 32 := 0#32
  let c1_i32 : BitVec 32 := 1#32
  let arg21 : BitVec 32 := Scf.iv c0_i32_205 c1_i32 k0_t1
  let v4546 : Index := Scalar.indexCast arg21
  ![12, v4546.toNat]
def k0_mult141 (v4547 : BitVec 32) : BitVec 32 :=
  let c864_i32_2731 : BitVec 32 := 864#32
  let c14_i32_2727 : BitVec 32 := 14#32
  let v4548 : BitVec 32 := Scalar.shrsi v4547 c14_i32_2727
  let c127_i32_2728 : BitVec 32 := 127#32
  let v4549 : BitVec 32 := Scalar.andi v4548 c127_i32_2728
  let c3_i32_2729 : BitVec 32 := 3#32
  let v4550 : BitVec 32 := Scalar.shrsi v4549 c3_i32_2729
  let c3_i32_2730 : BitVec 32 := 3#32
  let v4551 : BitVec 32 := Scalar.shli v4550 c3_i32_2730
  let v4552 : BitVec 32 := Scalar.addi c864_i32_2731 v4551
  v4552

def k0_off219 (v4547 : BitVec 32) : Fin 2 → Nat :=
  let c864_i32_2731 : BitVec 32 := 864#32
  let c14_i32_2727 : BitVec 32 := 14#32
  let v4548 : BitVec 32 := Scalar.shrsi v4547 c14_i32_2727
  let c127_i32_2728 : BitVec 32 := 127#32
  let v4549 : BitVec 32 := Scalar.andi v4548 c127_i32_2728
  let c3_i32_2729 : BitVec 32 := 3#32
  let v4550 : BitVec 32 := Scalar.shrsi v4549 c3_i32_2729
  let c3_i32_2730 : BitVec 32 := 3#32
  let v4551 : BitVec 32 := Scalar.shli v4550 c3_i32_2730
  let v4552 : BitVec 32 := Scalar.addi c864_i32_2731 v4551
  let v4553 : BitVec 32 := v4552
  let v4554 : Index := Scalar.indexCast v4553
  let c0_2732 : Index := 0#32
  ![v4554.toNat, 0]

def k0_chk77 (v4547 : BitVec 32) : Prop :=
  (8 ∣ (k0_mult141 v4547).toNat) ∧
  (∀ a, (k0_off219 v4547) a + S8x1024.size a ≤ S4608x1024.size a)
theorem k0_mult141_dvd : ∀ (v4547 : BitVec 32) (k0_hw77 : k0_chk77 v4547), 8 ∣ (k0_mult141 v4547).toNat := fun v4547 k0_hw77 => k0_hw77.1
theorem k0_off219_inb : ∀ (v4547 : BitVec 32) (k0_hw77 : k0_chk77 v4547), ∀ a, (k0_off219 v4547) a + S8x1024.size a ≤ S4608x1024.size a := fun v4547 k0_hw77 => k0_hw77.2

def k0_off220 (k0_t1 : Fin k0_t1_loop.trips) : Fin 2 → Nat :=
  let c13_2735 : Index := 13#32
  let c0_i32_205 : BitVec 32 := 0#32
  let c1_i32 : BitVec 32 := 1#32
  let arg21 : BitVec 32 := Scf.iv c0_i32_205 c1_i32 k0_t1
  let v4569 : Index := Scalar.indexCast arg21
  ![13, v4569.toNat]
def k0_mult142 (v4570 : BitVec 32) : BitVec 32 :=
  let c936_i32_2740 : BitVec 32 := 936#32
  let c14_i32_2736 : BitVec 32 := 14#32
  let v4571 : BitVec 32 := Scalar.shrsi v4570 c14_i32_2736
  let c127_i32_2737 : BitVec 32 := 127#32
  let v4572 : BitVec 32 := Scalar.andi v4571 c127_i32_2737
  let c3_i32_2738 : BitVec 32 := 3#32
  let v4573 : BitVec 32 := Scalar.shrsi v4572 c3_i32_2738
  let c3_i32_2739 : BitVec 32 := 3#32
  let v4574 : BitVec 32 := Scalar.shli v4573 c3_i32_2739
  let v4575 : BitVec 32 := Scalar.addi c936_i32_2740 v4574
  v4575

def k0_off221 (v4570 : BitVec 32) : Fin 2 → Nat :=
  let c936_i32_2740 : BitVec 32 := 936#32
  let c14_i32_2736 : BitVec 32 := 14#32
  let v4571 : BitVec 32 := Scalar.shrsi v4570 c14_i32_2736
  let c127_i32_2737 : BitVec 32 := 127#32
  let v4572 : BitVec 32 := Scalar.andi v4571 c127_i32_2737
  let c3_i32_2738 : BitVec 32 := 3#32
  let v4573 : BitVec 32 := Scalar.shrsi v4572 c3_i32_2738
  let c3_i32_2739 : BitVec 32 := 3#32
  let v4574 : BitVec 32 := Scalar.shli v4573 c3_i32_2739
  let v4575 : BitVec 32 := Scalar.addi c936_i32_2740 v4574
  let v4576 : BitVec 32 := v4575
  let v4577 : Index := Scalar.indexCast v4576
  let c0_2741 : Index := 0#32
  ![v4577.toNat, 0]

def k0_chk78 (v4570 : BitVec 32) : Prop :=
  (8 ∣ (k0_mult142 v4570).toNat) ∧
  (∀ a, (k0_off221 v4570) a + S8x1024.size a ≤ S4608x1024.size a)
theorem k0_mult142_dvd : ∀ (v4570 : BitVec 32) (k0_hw78 : k0_chk78 v4570), 8 ∣ (k0_mult142 v4570).toNat := fun v4570 k0_hw78 => k0_hw78.1
theorem k0_off221_inb : ∀ (v4570 : BitVec 32) (k0_hw78 : k0_chk78 v4570), ∀ a, (k0_off221 v4570) a + S8x1024.size a ≤ S4608x1024.size a := fun v4570 k0_hw78 => k0_hw78.2

def k0_off222 (k0_t1 : Fin k0_t1_loop.trips) : Fin 2 → Nat :=
  let c14_2744 : Index := 14#32
  let c0_i32_205 : BitVec 32 := 0#32
  let c1_i32 : BitVec 32 := 1#32
  let arg21 : BitVec 32 := Scf.iv c0_i32_205 c1_i32 k0_t1
  let v4592 : Index := Scalar.indexCast arg21
  ![14, v4592.toNat]
def k0_mult143 (v4593 : BitVec 32) : BitVec 32 :=
  let c1008_i32_2749 : BitVec 32 := 1008#32
  let c14_i32_2745 : BitVec 32 := 14#32
  let v4594 : BitVec 32 := Scalar.shrsi v4593 c14_i32_2745
  let c127_i32_2746 : BitVec 32 := 127#32
  let v4595 : BitVec 32 := Scalar.andi v4594 c127_i32_2746
  let c3_i32_2747 : BitVec 32 := 3#32
  let v4596 : BitVec 32 := Scalar.shrsi v4595 c3_i32_2747
  let c3_i32_2748 : BitVec 32 := 3#32
  let v4597 : BitVec 32 := Scalar.shli v4596 c3_i32_2748
  let v4598 : BitVec 32 := Scalar.addi c1008_i32_2749 v4597
  v4598

def k0_off223 (v4593 : BitVec 32) : Fin 2 → Nat :=
  let c1008_i32_2749 : BitVec 32 := 1008#32
  let c14_i32_2745 : BitVec 32 := 14#32
  let v4594 : BitVec 32 := Scalar.shrsi v4593 c14_i32_2745
  let c127_i32_2746 : BitVec 32 := 127#32
  let v4595 : BitVec 32 := Scalar.andi v4594 c127_i32_2746
  let c3_i32_2747 : BitVec 32 := 3#32
  let v4596 : BitVec 32 := Scalar.shrsi v4595 c3_i32_2747
  let c3_i32_2748 : BitVec 32 := 3#32
  let v4597 : BitVec 32 := Scalar.shli v4596 c3_i32_2748
  let v4598 : BitVec 32 := Scalar.addi c1008_i32_2749 v4597
  let v4599 : BitVec 32 := v4598
  let v4600 : Index := Scalar.indexCast v4599
  let c0_2750 : Index := 0#32
  ![v4600.toNat, 0]

def k0_chk79 (v4593 : BitVec 32) : Prop :=
  (8 ∣ (k0_mult143 v4593).toNat) ∧
  (∀ a, (k0_off223 v4593) a + S8x1024.size a ≤ S4608x1024.size a)
theorem k0_mult143_dvd : ∀ (v4593 : BitVec 32) (k0_hw79 : k0_chk79 v4593), 8 ∣ (k0_mult143 v4593).toNat := fun v4593 k0_hw79 => k0_hw79.1
theorem k0_off223_inb : ∀ (v4593 : BitVec 32) (k0_hw79 : k0_chk79 v4593), ∀ a, (k0_off223 v4593) a + S8x1024.size a ≤ S4608x1024.size a := fun v4593 k0_hw79 => k0_hw79.2

def k0_off224 (k0_t1 : Fin k0_t1_loop.trips) : Fin 2 → Nat :=
  let c15_2753 : Index := 15#32
  let c0_i32_205 : BitVec 32 := 0#32
  let c1_i32 : BitVec 32 := 1#32
  let arg21 : BitVec 32 := Scf.iv c0_i32_205 c1_i32 k0_t1
  let v4615 : Index := Scalar.indexCast arg21
  ![15, v4615.toNat]
def k0_mult144 (v4616 : BitVec 32) : BitVec 32 :=
  let c1080_i32_2758 : BitVec 32 := 1080#32
  let c14_i32_2754 : BitVec 32 := 14#32
  let v4617 : BitVec 32 := Scalar.shrsi v4616 c14_i32_2754
  let c127_i32_2755 : BitVec 32 := 127#32
  let v4618 : BitVec 32 := Scalar.andi v4617 c127_i32_2755
  let c3_i32_2756 : BitVec 32 := 3#32
  let v4619 : BitVec 32 := Scalar.shrsi v4618 c3_i32_2756
  let c3_i32_2757 : BitVec 32 := 3#32
  let v4620 : BitVec 32 := Scalar.shli v4619 c3_i32_2757
  let v4621 : BitVec 32 := Scalar.addi c1080_i32_2758 v4620
  v4621

def k0_off225 (v4616 : BitVec 32) : Fin 2 → Nat :=
  let c1080_i32_2758 : BitVec 32 := 1080#32
  let c14_i32_2754 : BitVec 32 := 14#32
  let v4617 : BitVec 32 := Scalar.shrsi v4616 c14_i32_2754
  let c127_i32_2755 : BitVec 32 := 127#32
  let v4618 : BitVec 32 := Scalar.andi v4617 c127_i32_2755
  let c3_i32_2756 : BitVec 32 := 3#32
  let v4619 : BitVec 32 := Scalar.shrsi v4618 c3_i32_2756
  let c3_i32_2757 : BitVec 32 := 3#32
  let v4620 : BitVec 32 := Scalar.shli v4619 c3_i32_2757
  let v4621 : BitVec 32 := Scalar.addi c1080_i32_2758 v4620
  let v4622 : BitVec 32 := v4621
  let v4623 : Index := Scalar.indexCast v4622
  let c0_2759 : Index := 0#32
  ![v4623.toNat, 0]

def k0_chk80 (v4616 : BitVec 32) : Prop :=
  (8 ∣ (k0_mult144 v4616).toNat) ∧
  (∀ a, (k0_off225 v4616) a + S8x1024.size a ≤ S4608x1024.size a)
theorem k0_mult144_dvd : ∀ (v4616 : BitVec 32) (k0_hw80 : k0_chk80 v4616), 8 ∣ (k0_mult144 v4616).toNat := fun v4616 k0_hw80 => k0_hw80.1
theorem k0_off225_inb : ∀ (v4616 : BitVec 32) (k0_hw80 : k0_chk80 v4616), ∀ a, (k0_off225 v4616) a + S8x1024.size a ≤ S4608x1024.size a := fun v4616 k0_hw80 => k0_hw80.2

def k0_off226 (k0_t1 : Fin k0_t1_loop.trips) : Fin 2 → Nat :=
  let c16_2762 : Index := 16#32
  let c0_i32_205 : BitVec 32 := 0#32
  let c1_i32 : BitVec 32 := 1#32
  let arg21 : BitVec 32 := Scf.iv c0_i32_205 c1_i32 k0_t1
  let v4638 : Index := Scalar.indexCast arg21
  ![16, v4638.toNat]
def k0_mult145 (v4639 : BitVec 32) : BitVec 32 :=
  let c1152_i32_2767 : BitVec 32 := 1152#32
  let c14_i32_2763 : BitVec 32 := 14#32
  let v4640 : BitVec 32 := Scalar.shrsi v4639 c14_i32_2763
  let c127_i32_2764 : BitVec 32 := 127#32
  let v4641 : BitVec 32 := Scalar.andi v4640 c127_i32_2764
  let c3_i32_2765 : BitVec 32 := 3#32
  let v4642 : BitVec 32 := Scalar.shrsi v4641 c3_i32_2765
  let c3_i32_2766 : BitVec 32 := 3#32
  let v4643 : BitVec 32 := Scalar.shli v4642 c3_i32_2766
  let v4644 : BitVec 32 := Scalar.addi c1152_i32_2767 v4643
  v4644

def k0_off227 (v4639 : BitVec 32) : Fin 2 → Nat :=
  let c1152_i32_2767 : BitVec 32 := 1152#32
  let c14_i32_2763 : BitVec 32 := 14#32
  let v4640 : BitVec 32 := Scalar.shrsi v4639 c14_i32_2763
  let c127_i32_2764 : BitVec 32 := 127#32
  let v4641 : BitVec 32 := Scalar.andi v4640 c127_i32_2764
  let c3_i32_2765 : BitVec 32 := 3#32
  let v4642 : BitVec 32 := Scalar.shrsi v4641 c3_i32_2765
  let c3_i32_2766 : BitVec 32 := 3#32
  let v4643 : BitVec 32 := Scalar.shli v4642 c3_i32_2766
  let v4644 : BitVec 32 := Scalar.addi c1152_i32_2767 v4643
  let v4645 : BitVec 32 := v4644
  let v4646 : Index := Scalar.indexCast v4645
  let c0_2768 : Index := 0#32
  ![v4646.toNat, 0]

def k0_chk81 (v4639 : BitVec 32) : Prop :=
  (8 ∣ (k0_mult145 v4639).toNat) ∧
  (∀ a, (k0_off227 v4639) a + S8x1024.size a ≤ S4608x1024.size a)
theorem k0_mult145_dvd : ∀ (v4639 : BitVec 32) (k0_hw81 : k0_chk81 v4639), 8 ∣ (k0_mult145 v4639).toNat := fun v4639 k0_hw81 => k0_hw81.1
theorem k0_off227_inb : ∀ (v4639 : BitVec 32) (k0_hw81 : k0_chk81 v4639), ∀ a, (k0_off227 v4639) a + S8x1024.size a ≤ S4608x1024.size a := fun v4639 k0_hw81 => k0_hw81.2

def k0_off228 (k0_t1 : Fin k0_t1_loop.trips) : Fin 2 → Nat :=
  let c17_2771 : Index := 17#32
  let c0_i32_205 : BitVec 32 := 0#32
  let c1_i32 : BitVec 32 := 1#32
  let arg21 : BitVec 32 := Scf.iv c0_i32_205 c1_i32 k0_t1
  let v4661 : Index := Scalar.indexCast arg21
  ![17, v4661.toNat]
def k0_mult146 (v4662 : BitVec 32) : BitVec 32 :=
  let c1224_i32_2776 : BitVec 32 := 1224#32
  let c14_i32_2772 : BitVec 32 := 14#32
  let v4663 : BitVec 32 := Scalar.shrsi v4662 c14_i32_2772
  let c127_i32_2773 : BitVec 32 := 127#32
  let v4664 : BitVec 32 := Scalar.andi v4663 c127_i32_2773
  let c3_i32_2774 : BitVec 32 := 3#32
  let v4665 : BitVec 32 := Scalar.shrsi v4664 c3_i32_2774
  let c3_i32_2775 : BitVec 32 := 3#32
  let v4666 : BitVec 32 := Scalar.shli v4665 c3_i32_2775
  let v4667 : BitVec 32 := Scalar.addi c1224_i32_2776 v4666
  v4667

def k0_off229 (v4662 : BitVec 32) : Fin 2 → Nat :=
  let c1224_i32_2776 : BitVec 32 := 1224#32
  let c14_i32_2772 : BitVec 32 := 14#32
  let v4663 : BitVec 32 := Scalar.shrsi v4662 c14_i32_2772
  let c127_i32_2773 : BitVec 32 := 127#32
  let v4664 : BitVec 32 := Scalar.andi v4663 c127_i32_2773
  let c3_i32_2774 : BitVec 32 := 3#32
  let v4665 : BitVec 32 := Scalar.shrsi v4664 c3_i32_2774
  let c3_i32_2775 : BitVec 32 := 3#32
  let v4666 : BitVec 32 := Scalar.shli v4665 c3_i32_2775
  let v4667 : BitVec 32 := Scalar.addi c1224_i32_2776 v4666
  let v4668 : BitVec 32 := v4667
  let v4669 : Index := Scalar.indexCast v4668
  let c0_2777 : Index := 0#32
  ![v4669.toNat, 0]

def k0_chk82 (v4662 : BitVec 32) : Prop :=
  (8 ∣ (k0_mult146 v4662).toNat) ∧
  (∀ a, (k0_off229 v4662) a + S8x1024.size a ≤ S4608x1024.size a)
theorem k0_mult146_dvd : ∀ (v4662 : BitVec 32) (k0_hw82 : k0_chk82 v4662), 8 ∣ (k0_mult146 v4662).toNat := fun v4662 k0_hw82 => k0_hw82.1
theorem k0_off229_inb : ∀ (v4662 : BitVec 32) (k0_hw82 : k0_chk82 v4662), ∀ a, (k0_off229 v4662) a + S8x1024.size a ≤ S4608x1024.size a := fun v4662 k0_hw82 => k0_hw82.2

def k0_off230 (k0_t1 : Fin k0_t1_loop.trips) : Fin 2 → Nat :=
  let c18_2780 : Index := 18#32
  let c0_i32_205 : BitVec 32 := 0#32
  let c1_i32 : BitVec 32 := 1#32
  let arg21 : BitVec 32 := Scf.iv c0_i32_205 c1_i32 k0_t1
  let v4684 : Index := Scalar.indexCast arg21
  ![18, v4684.toNat]
def k0_mult147 (v4685 : BitVec 32) : BitVec 32 :=
  let c1296_i32_2785 : BitVec 32 := 1296#32
  let c14_i32_2781 : BitVec 32 := 14#32
  let v4686 : BitVec 32 := Scalar.shrsi v4685 c14_i32_2781
  let c127_i32_2782 : BitVec 32 := 127#32
  let v4687 : BitVec 32 := Scalar.andi v4686 c127_i32_2782
  let c3_i32_2783 : BitVec 32 := 3#32
  let v4688 : BitVec 32 := Scalar.shrsi v4687 c3_i32_2783
  let c3_i32_2784 : BitVec 32 := 3#32
  let v4689 : BitVec 32 := Scalar.shli v4688 c3_i32_2784
  let v4690 : BitVec 32 := Scalar.addi c1296_i32_2785 v4689
  v4690

def k0_off231 (v4685 : BitVec 32) : Fin 2 → Nat :=
  let c1296_i32_2785 : BitVec 32 := 1296#32
  let c14_i32_2781 : BitVec 32 := 14#32
  let v4686 : BitVec 32 := Scalar.shrsi v4685 c14_i32_2781
  let c127_i32_2782 : BitVec 32 := 127#32
  let v4687 : BitVec 32 := Scalar.andi v4686 c127_i32_2782
  let c3_i32_2783 : BitVec 32 := 3#32
  let v4688 : BitVec 32 := Scalar.shrsi v4687 c3_i32_2783
  let c3_i32_2784 : BitVec 32 := 3#32
  let v4689 : BitVec 32 := Scalar.shli v4688 c3_i32_2784
  let v4690 : BitVec 32 := Scalar.addi c1296_i32_2785 v4689
  let v4691 : BitVec 32 := v4690
  let v4692 : Index := Scalar.indexCast v4691
  let c0_2786 : Index := 0#32
  ![v4692.toNat, 0]

def k0_chk83 (v4685 : BitVec 32) : Prop :=
  (8 ∣ (k0_mult147 v4685).toNat) ∧
  (∀ a, (k0_off231 v4685) a + S8x1024.size a ≤ S4608x1024.size a)
theorem k0_mult147_dvd : ∀ (v4685 : BitVec 32) (k0_hw83 : k0_chk83 v4685), 8 ∣ (k0_mult147 v4685).toNat := fun v4685 k0_hw83 => k0_hw83.1
theorem k0_off231_inb : ∀ (v4685 : BitVec 32) (k0_hw83 : k0_chk83 v4685), ∀ a, (k0_off231 v4685) a + S8x1024.size a ≤ S4608x1024.size a := fun v4685 k0_hw83 => k0_hw83.2

def k0_off232 (k0_t1 : Fin k0_t1_loop.trips) : Fin 2 → Nat :=
  let c19_2789 : Index := 19#32
  let c0_i32_205 : BitVec 32 := 0#32
  let c1_i32 : BitVec 32 := 1#32
  let arg21 : BitVec 32 := Scf.iv c0_i32_205 c1_i32 k0_t1
  let v4707 : Index := Scalar.indexCast arg21
  ![19, v4707.toNat]
def k0_mult148 (v4708 : BitVec 32) : BitVec 32 :=
  let c1368_i32_2794 : BitVec 32 := 1368#32
  let c14_i32_2790 : BitVec 32 := 14#32
  let v4709 : BitVec 32 := Scalar.shrsi v4708 c14_i32_2790
  let c127_i32_2791 : BitVec 32 := 127#32
  let v4710 : BitVec 32 := Scalar.andi v4709 c127_i32_2791
  let c3_i32_2792 : BitVec 32 := 3#32
  let v4711 : BitVec 32 := Scalar.shrsi v4710 c3_i32_2792
  let c3_i32_2793 : BitVec 32 := 3#32
  let v4712 : BitVec 32 := Scalar.shli v4711 c3_i32_2793
  let v4713 : BitVec 32 := Scalar.addi c1368_i32_2794 v4712
  v4713

def k0_off233 (v4708 : BitVec 32) : Fin 2 → Nat :=
  let c1368_i32_2794 : BitVec 32 := 1368#32
  let c14_i32_2790 : BitVec 32 := 14#32
  let v4709 : BitVec 32 := Scalar.shrsi v4708 c14_i32_2790
  let c127_i32_2791 : BitVec 32 := 127#32
  let v4710 : BitVec 32 := Scalar.andi v4709 c127_i32_2791
  let c3_i32_2792 : BitVec 32 := 3#32
  let v4711 : BitVec 32 := Scalar.shrsi v4710 c3_i32_2792
  let c3_i32_2793 : BitVec 32 := 3#32
  let v4712 : BitVec 32 := Scalar.shli v4711 c3_i32_2793
  let v4713 : BitVec 32 := Scalar.addi c1368_i32_2794 v4712
  let v4714 : BitVec 32 := v4713
  let v4715 : Index := Scalar.indexCast v4714
  let c0_2795 : Index := 0#32
  ![v4715.toNat, 0]

def k0_chk84 (v4708 : BitVec 32) : Prop :=
  (8 ∣ (k0_mult148 v4708).toNat) ∧
  (∀ a, (k0_off233 v4708) a + S8x1024.size a ≤ S4608x1024.size a)
theorem k0_mult148_dvd : ∀ (v4708 : BitVec 32) (k0_hw84 : k0_chk84 v4708), 8 ∣ (k0_mult148 v4708).toNat := fun v4708 k0_hw84 => k0_hw84.1
theorem k0_off233_inb : ∀ (v4708 : BitVec 32) (k0_hw84 : k0_chk84 v4708), ∀ a, (k0_off233 v4708) a + S8x1024.size a ≤ S4608x1024.size a := fun v4708 k0_hw84 => k0_hw84.2

def k0_off234 (k0_t1 : Fin k0_t1_loop.trips) : Fin 2 → Nat :=
  let c20_2798 : Index := 20#32
  let c0_i32_205 : BitVec 32 := 0#32
  let c1_i32 : BitVec 32 := 1#32
  let arg21 : BitVec 32 := Scf.iv c0_i32_205 c1_i32 k0_t1
  let v4730 : Index := Scalar.indexCast arg21
  ![20, v4730.toNat]
def k0_mult149 (v4731 : BitVec 32) : BitVec 32 :=
  let c1440_i32_2803 : BitVec 32 := 1440#32
  let c14_i32_2799 : BitVec 32 := 14#32
  let v4732 : BitVec 32 := Scalar.shrsi v4731 c14_i32_2799
  let c127_i32_2800 : BitVec 32 := 127#32
  let v4733 : BitVec 32 := Scalar.andi v4732 c127_i32_2800
  let c3_i32_2801 : BitVec 32 := 3#32
  let v4734 : BitVec 32 := Scalar.shrsi v4733 c3_i32_2801
  let c3_i32_2802 : BitVec 32 := 3#32
  let v4735 : BitVec 32 := Scalar.shli v4734 c3_i32_2802
  let v4736 : BitVec 32 := Scalar.addi c1440_i32_2803 v4735
  v4736

def k0_off235 (v4731 : BitVec 32) : Fin 2 → Nat :=
  let c1440_i32_2803 : BitVec 32 := 1440#32
  let c14_i32_2799 : BitVec 32 := 14#32
  let v4732 : BitVec 32 := Scalar.shrsi v4731 c14_i32_2799
  let c127_i32_2800 : BitVec 32 := 127#32
  let v4733 : BitVec 32 := Scalar.andi v4732 c127_i32_2800
  let c3_i32_2801 : BitVec 32 := 3#32
  let v4734 : BitVec 32 := Scalar.shrsi v4733 c3_i32_2801
  let c3_i32_2802 : BitVec 32 := 3#32
  let v4735 : BitVec 32 := Scalar.shli v4734 c3_i32_2802
  let v4736 : BitVec 32 := Scalar.addi c1440_i32_2803 v4735
  let v4737 : BitVec 32 := v4736
  let v4738 : Index := Scalar.indexCast v4737
  let c0_2804 : Index := 0#32
  ![v4738.toNat, 0]

def k0_chk85 (v4731 : BitVec 32) : Prop :=
  (8 ∣ (k0_mult149 v4731).toNat) ∧
  (∀ a, (k0_off235 v4731) a + S8x1024.size a ≤ S4608x1024.size a)
theorem k0_mult149_dvd : ∀ (v4731 : BitVec 32) (k0_hw85 : k0_chk85 v4731), 8 ∣ (k0_mult149 v4731).toNat := fun v4731 k0_hw85 => k0_hw85.1
theorem k0_off235_inb : ∀ (v4731 : BitVec 32) (k0_hw85 : k0_chk85 v4731), ∀ a, (k0_off235 v4731) a + S8x1024.size a ≤ S4608x1024.size a := fun v4731 k0_hw85 => k0_hw85.2

def k0_off236 (k0_t1 : Fin k0_t1_loop.trips) : Fin 2 → Nat :=
  let c21_2807 : Index := 21#32
  let c0_i32_205 : BitVec 32 := 0#32
  let c1_i32 : BitVec 32 := 1#32
  let arg21 : BitVec 32 := Scf.iv c0_i32_205 c1_i32 k0_t1
  let v4753 : Index := Scalar.indexCast arg21
  ![21, v4753.toNat]
def k0_mult150 (v4754 : BitVec 32) : BitVec 32 :=
  let c1512_i32_2812 : BitVec 32 := 1512#32
  let c14_i32_2808 : BitVec 32 := 14#32
  let v4755 : BitVec 32 := Scalar.shrsi v4754 c14_i32_2808
  let c127_i32_2809 : BitVec 32 := 127#32
  let v4756 : BitVec 32 := Scalar.andi v4755 c127_i32_2809
  let c3_i32_2810 : BitVec 32 := 3#32
  let v4757 : BitVec 32 := Scalar.shrsi v4756 c3_i32_2810
  let c3_i32_2811 : BitVec 32 := 3#32
  let v4758 : BitVec 32 := Scalar.shli v4757 c3_i32_2811
  let v4759 : BitVec 32 := Scalar.addi c1512_i32_2812 v4758
  v4759

def k0_off237 (v4754 : BitVec 32) : Fin 2 → Nat :=
  let c1512_i32_2812 : BitVec 32 := 1512#32
  let c14_i32_2808 : BitVec 32 := 14#32
  let v4755 : BitVec 32 := Scalar.shrsi v4754 c14_i32_2808
  let c127_i32_2809 : BitVec 32 := 127#32
  let v4756 : BitVec 32 := Scalar.andi v4755 c127_i32_2809
  let c3_i32_2810 : BitVec 32 := 3#32
  let v4757 : BitVec 32 := Scalar.shrsi v4756 c3_i32_2810
  let c3_i32_2811 : BitVec 32 := 3#32
  let v4758 : BitVec 32 := Scalar.shli v4757 c3_i32_2811
  let v4759 : BitVec 32 := Scalar.addi c1512_i32_2812 v4758
  let v4760 : BitVec 32 := v4759
  let v4761 : Index := Scalar.indexCast v4760
  let c0_2813 : Index := 0#32
  ![v4761.toNat, 0]

def k0_chk86 (v4754 : BitVec 32) : Prop :=
  (8 ∣ (k0_mult150 v4754).toNat) ∧
  (∀ a, (k0_off237 v4754) a + S8x1024.size a ≤ S4608x1024.size a)
theorem k0_mult150_dvd : ∀ (v4754 : BitVec 32) (k0_hw86 : k0_chk86 v4754), 8 ∣ (k0_mult150 v4754).toNat := fun v4754 k0_hw86 => k0_hw86.1
theorem k0_off237_inb : ∀ (v4754 : BitVec 32) (k0_hw86 : k0_chk86 v4754), ∀ a, (k0_off237 v4754) a + S8x1024.size a ≤ S4608x1024.size a := fun v4754 k0_hw86 => k0_hw86.2

def k0_off238 (k0_t1 : Fin k0_t1_loop.trips) : Fin 2 → Nat :=
  let c22_2816 : Index := 22#32
  let c0_i32_205 : BitVec 32 := 0#32
  let c1_i32 : BitVec 32 := 1#32
  let arg21 : BitVec 32 := Scf.iv c0_i32_205 c1_i32 k0_t1
  let v4776 : Index := Scalar.indexCast arg21
  ![22, v4776.toNat]
def k0_mult151 (v4777 : BitVec 32) : BitVec 32 :=
  let c1584_i32_2821 : BitVec 32 := 1584#32
  let c14_i32_2817 : BitVec 32 := 14#32
  let v4778 : BitVec 32 := Scalar.shrsi v4777 c14_i32_2817
  let c127_i32_2818 : BitVec 32 := 127#32
  let v4779 : BitVec 32 := Scalar.andi v4778 c127_i32_2818
  let c3_i32_2819 : BitVec 32 := 3#32
  let v4780 : BitVec 32 := Scalar.shrsi v4779 c3_i32_2819
  let c3_i32_2820 : BitVec 32 := 3#32
  let v4781 : BitVec 32 := Scalar.shli v4780 c3_i32_2820
  let v4782 : BitVec 32 := Scalar.addi c1584_i32_2821 v4781
  v4782

def k0_off239 (v4777 : BitVec 32) : Fin 2 → Nat :=
  let c1584_i32_2821 : BitVec 32 := 1584#32
  let c14_i32_2817 : BitVec 32 := 14#32
  let v4778 : BitVec 32 := Scalar.shrsi v4777 c14_i32_2817
  let c127_i32_2818 : BitVec 32 := 127#32
  let v4779 : BitVec 32 := Scalar.andi v4778 c127_i32_2818
  let c3_i32_2819 : BitVec 32 := 3#32
  let v4780 : BitVec 32 := Scalar.shrsi v4779 c3_i32_2819
  let c3_i32_2820 : BitVec 32 := 3#32
  let v4781 : BitVec 32 := Scalar.shli v4780 c3_i32_2820
  let v4782 : BitVec 32 := Scalar.addi c1584_i32_2821 v4781
  let v4783 : BitVec 32 := v4782
  let v4784 : Index := Scalar.indexCast v4783
  let c0_2822 : Index := 0#32
  ![v4784.toNat, 0]

def k0_chk87 (v4777 : BitVec 32) : Prop :=
  (8 ∣ (k0_mult151 v4777).toNat) ∧
  (∀ a, (k0_off239 v4777) a + S8x1024.size a ≤ S4608x1024.size a)
theorem k0_mult151_dvd : ∀ (v4777 : BitVec 32) (k0_hw87 : k0_chk87 v4777), 8 ∣ (k0_mult151 v4777).toNat := fun v4777 k0_hw87 => k0_hw87.1
theorem k0_off239_inb : ∀ (v4777 : BitVec 32) (k0_hw87 : k0_chk87 v4777), ∀ a, (k0_off239 v4777) a + S8x1024.size a ≤ S4608x1024.size a := fun v4777 k0_hw87 => k0_hw87.2

def k0_off240 (k0_t1 : Fin k0_t1_loop.trips) : Fin 2 → Nat :=
  let c23_2825 : Index := 23#32
  let c0_i32_205 : BitVec 32 := 0#32
  let c1_i32 : BitVec 32 := 1#32
  let arg21 : BitVec 32 := Scf.iv c0_i32_205 c1_i32 k0_t1
  let v4799 : Index := Scalar.indexCast arg21
  ![23, v4799.toNat]
def k0_mult152 (v4800 : BitVec 32) : BitVec 32 :=
  let c1656_i32_2830 : BitVec 32 := 1656#32
  let c14_i32_2826 : BitVec 32 := 14#32
  let v4801 : BitVec 32 := Scalar.shrsi v4800 c14_i32_2826
  let c127_i32_2827 : BitVec 32 := 127#32
  let v4802 : BitVec 32 := Scalar.andi v4801 c127_i32_2827
  let c3_i32_2828 : BitVec 32 := 3#32
  let v4803 : BitVec 32 := Scalar.shrsi v4802 c3_i32_2828
  let c3_i32_2829 : BitVec 32 := 3#32
  let v4804 : BitVec 32 := Scalar.shli v4803 c3_i32_2829
  let v4805 : BitVec 32 := Scalar.addi c1656_i32_2830 v4804
  v4805

def k0_off241 (v4800 : BitVec 32) : Fin 2 → Nat :=
  let c1656_i32_2830 : BitVec 32 := 1656#32
  let c14_i32_2826 : BitVec 32 := 14#32
  let v4801 : BitVec 32 := Scalar.shrsi v4800 c14_i32_2826
  let c127_i32_2827 : BitVec 32 := 127#32
  let v4802 : BitVec 32 := Scalar.andi v4801 c127_i32_2827
  let c3_i32_2828 : BitVec 32 := 3#32
  let v4803 : BitVec 32 := Scalar.shrsi v4802 c3_i32_2828
  let c3_i32_2829 : BitVec 32 := 3#32
  let v4804 : BitVec 32 := Scalar.shli v4803 c3_i32_2829
  let v4805 : BitVec 32 := Scalar.addi c1656_i32_2830 v4804
  let v4806 : BitVec 32 := v4805
  let v4807 : Index := Scalar.indexCast v4806
  let c0_2831 : Index := 0#32
  ![v4807.toNat, 0]

def k0_chk88 (v4800 : BitVec 32) : Prop :=
  (8 ∣ (k0_mult152 v4800).toNat) ∧
  (∀ a, (k0_off241 v4800) a + S8x1024.size a ≤ S4608x1024.size a)
theorem k0_mult152_dvd : ∀ (v4800 : BitVec 32) (k0_hw88 : k0_chk88 v4800), 8 ∣ (k0_mult152 v4800).toNat := fun v4800 k0_hw88 => k0_hw88.1
theorem k0_off241_inb : ∀ (v4800 : BitVec 32) (k0_hw88 : k0_chk88 v4800), ∀ a, (k0_off241 v4800) a + S8x1024.size a ≤ S4608x1024.size a := fun v4800 k0_hw88 => k0_hw88.2

def k0_off242 (k0_t1 : Fin k0_t1_loop.trips) : Fin 2 → Nat :=
  let c24_2834 : Index := 24#32
  let c0_i32_205 : BitVec 32 := 0#32
  let c1_i32 : BitVec 32 := 1#32
  let arg21 : BitVec 32 := Scf.iv c0_i32_205 c1_i32 k0_t1
  let v4822 : Index := Scalar.indexCast arg21
  ![24, v4822.toNat]
def k0_mult153 (v4823 : BitVec 32) : BitVec 32 :=
  let c1728_i32_2839 : BitVec 32 := 1728#32
  let c14_i32_2835 : BitVec 32 := 14#32
  let v4824 : BitVec 32 := Scalar.shrsi v4823 c14_i32_2835
  let c127_i32_2836 : BitVec 32 := 127#32
  let v4825 : BitVec 32 := Scalar.andi v4824 c127_i32_2836
  let c3_i32_2837 : BitVec 32 := 3#32
  let v4826 : BitVec 32 := Scalar.shrsi v4825 c3_i32_2837
  let c3_i32_2838 : BitVec 32 := 3#32
  let v4827 : BitVec 32 := Scalar.shli v4826 c3_i32_2838
  let v4828 : BitVec 32 := Scalar.addi c1728_i32_2839 v4827
  v4828

def k0_off243 (v4823 : BitVec 32) : Fin 2 → Nat :=
  let c1728_i32_2839 : BitVec 32 := 1728#32
  let c14_i32_2835 : BitVec 32 := 14#32
  let v4824 : BitVec 32 := Scalar.shrsi v4823 c14_i32_2835
  let c127_i32_2836 : BitVec 32 := 127#32
  let v4825 : BitVec 32 := Scalar.andi v4824 c127_i32_2836
  let c3_i32_2837 : BitVec 32 := 3#32
  let v4826 : BitVec 32 := Scalar.shrsi v4825 c3_i32_2837
  let c3_i32_2838 : BitVec 32 := 3#32
  let v4827 : BitVec 32 := Scalar.shli v4826 c3_i32_2838
  let v4828 : BitVec 32 := Scalar.addi c1728_i32_2839 v4827
  let v4829 : BitVec 32 := v4828
  let v4830 : Index := Scalar.indexCast v4829
  let c0_2840 : Index := 0#32
  ![v4830.toNat, 0]

def k0_chk89 (v4823 : BitVec 32) : Prop :=
  (8 ∣ (k0_mult153 v4823).toNat) ∧
  (∀ a, (k0_off243 v4823) a + S8x1024.size a ≤ S4608x1024.size a)
theorem k0_mult153_dvd : ∀ (v4823 : BitVec 32) (k0_hw89 : k0_chk89 v4823), 8 ∣ (k0_mult153 v4823).toNat := fun v4823 k0_hw89 => k0_hw89.1
theorem k0_off243_inb : ∀ (v4823 : BitVec 32) (k0_hw89 : k0_chk89 v4823), ∀ a, (k0_off243 v4823) a + S8x1024.size a ≤ S4608x1024.size a := fun v4823 k0_hw89 => k0_hw89.2

def k0_off244 (k0_t1 : Fin k0_t1_loop.trips) : Fin 2 → Nat :=
  let c25_2843 : Index := 25#32
  let c0_i32_205 : BitVec 32 := 0#32
  let c1_i32 : BitVec 32 := 1#32
  let arg21 : BitVec 32 := Scf.iv c0_i32_205 c1_i32 k0_t1
  let v4845 : Index := Scalar.indexCast arg21
  ![25, v4845.toNat]
def k0_mult154 (v4846 : BitVec 32) : BitVec 32 :=
  let c1800_i32_2848 : BitVec 32 := 1800#32
  let c14_i32_2844 : BitVec 32 := 14#32
  let v4847 : BitVec 32 := Scalar.shrsi v4846 c14_i32_2844
  let c127_i32_2845 : BitVec 32 := 127#32
  let v4848 : BitVec 32 := Scalar.andi v4847 c127_i32_2845
  let c3_i32_2846 : BitVec 32 := 3#32
  let v4849 : BitVec 32 := Scalar.shrsi v4848 c3_i32_2846
  let c3_i32_2847 : BitVec 32 := 3#32
  let v4850 : BitVec 32 := Scalar.shli v4849 c3_i32_2847
  let v4851 : BitVec 32 := Scalar.addi c1800_i32_2848 v4850
  v4851

def k0_off245 (v4846 : BitVec 32) : Fin 2 → Nat :=
  let c1800_i32_2848 : BitVec 32 := 1800#32
  let c14_i32_2844 : BitVec 32 := 14#32
  let v4847 : BitVec 32 := Scalar.shrsi v4846 c14_i32_2844
  let c127_i32_2845 : BitVec 32 := 127#32
  let v4848 : BitVec 32 := Scalar.andi v4847 c127_i32_2845
  let c3_i32_2846 : BitVec 32 := 3#32
  let v4849 : BitVec 32 := Scalar.shrsi v4848 c3_i32_2846
  let c3_i32_2847 : BitVec 32 := 3#32
  let v4850 : BitVec 32 := Scalar.shli v4849 c3_i32_2847
  let v4851 : BitVec 32 := Scalar.addi c1800_i32_2848 v4850
  let v4852 : BitVec 32 := v4851
  let v4853 : Index := Scalar.indexCast v4852
  let c0_2849 : Index := 0#32
  ![v4853.toNat, 0]

def k0_chk90 (v4846 : BitVec 32) : Prop :=
  (8 ∣ (k0_mult154 v4846).toNat) ∧
  (∀ a, (k0_off245 v4846) a + S8x1024.size a ≤ S4608x1024.size a)
theorem k0_mult154_dvd : ∀ (v4846 : BitVec 32) (k0_hw90 : k0_chk90 v4846), 8 ∣ (k0_mult154 v4846).toNat := fun v4846 k0_hw90 => k0_hw90.1
theorem k0_off245_inb : ∀ (v4846 : BitVec 32) (k0_hw90 : k0_chk90 v4846), ∀ a, (k0_off245 v4846) a + S8x1024.size a ≤ S4608x1024.size a := fun v4846 k0_hw90 => k0_hw90.2

def k0_off246 (k0_t1 : Fin k0_t1_loop.trips) : Fin 2 → Nat :=
  let c26_2852 : Index := 26#32
  let c0_i32_205 : BitVec 32 := 0#32
  let c1_i32 : BitVec 32 := 1#32
  let arg21 : BitVec 32 := Scf.iv c0_i32_205 c1_i32 k0_t1
  let v4868 : Index := Scalar.indexCast arg21
  ![26, v4868.toNat]
def k0_mult155 (v4869 : BitVec 32) : BitVec 32 :=
  let c1872_i32_2857 : BitVec 32 := 1872#32
  let c14_i32_2853 : BitVec 32 := 14#32
  let v4870 : BitVec 32 := Scalar.shrsi v4869 c14_i32_2853
  let c127_i32_2854 : BitVec 32 := 127#32
  let v4871 : BitVec 32 := Scalar.andi v4870 c127_i32_2854
  let c3_i32_2855 : BitVec 32 := 3#32
  let v4872 : BitVec 32 := Scalar.shrsi v4871 c3_i32_2855
  let c3_i32_2856 : BitVec 32 := 3#32
  let v4873 : BitVec 32 := Scalar.shli v4872 c3_i32_2856
  let v4874 : BitVec 32 := Scalar.addi c1872_i32_2857 v4873
  v4874

def k0_off247 (v4869 : BitVec 32) : Fin 2 → Nat :=
  let c1872_i32_2857 : BitVec 32 := 1872#32
  let c14_i32_2853 : BitVec 32 := 14#32
  let v4870 : BitVec 32 := Scalar.shrsi v4869 c14_i32_2853
  let c127_i32_2854 : BitVec 32 := 127#32
  let v4871 : BitVec 32 := Scalar.andi v4870 c127_i32_2854
  let c3_i32_2855 : BitVec 32 := 3#32
  let v4872 : BitVec 32 := Scalar.shrsi v4871 c3_i32_2855
  let c3_i32_2856 : BitVec 32 := 3#32
  let v4873 : BitVec 32 := Scalar.shli v4872 c3_i32_2856
  let v4874 : BitVec 32 := Scalar.addi c1872_i32_2857 v4873
  let v4875 : BitVec 32 := v4874
  let v4876 : Index := Scalar.indexCast v4875
  let c0_2858 : Index := 0#32
  ![v4876.toNat, 0]

def k0_chk91 (v4869 : BitVec 32) : Prop :=
  (8 ∣ (k0_mult155 v4869).toNat) ∧
  (∀ a, (k0_off247 v4869) a + S8x1024.size a ≤ S4608x1024.size a)
theorem k0_mult155_dvd : ∀ (v4869 : BitVec 32) (k0_hw91 : k0_chk91 v4869), 8 ∣ (k0_mult155 v4869).toNat := fun v4869 k0_hw91 => k0_hw91.1
theorem k0_off247_inb : ∀ (v4869 : BitVec 32) (k0_hw91 : k0_chk91 v4869), ∀ a, (k0_off247 v4869) a + S8x1024.size a ≤ S4608x1024.size a := fun v4869 k0_hw91 => k0_hw91.2

def k0_off248 (k0_t1 : Fin k0_t1_loop.trips) : Fin 2 → Nat :=
  let c27_2861 : Index := 27#32
  let c0_i32_205 : BitVec 32 := 0#32
  let c1_i32 : BitVec 32 := 1#32
  let arg21 : BitVec 32 := Scf.iv c0_i32_205 c1_i32 k0_t1
  let v4891 : Index := Scalar.indexCast arg21
  ![27, v4891.toNat]
def k0_mult156 (v4892 : BitVec 32) : BitVec 32 :=
  let c1944_i32_2866 : BitVec 32 := 1944#32
  let c14_i32_2862 : BitVec 32 := 14#32
  let v4893 : BitVec 32 := Scalar.shrsi v4892 c14_i32_2862
  let c127_i32_2863 : BitVec 32 := 127#32
  let v4894 : BitVec 32 := Scalar.andi v4893 c127_i32_2863
  let c3_i32_2864 : BitVec 32 := 3#32
  let v4895 : BitVec 32 := Scalar.shrsi v4894 c3_i32_2864
  let c3_i32_2865 : BitVec 32 := 3#32
  let v4896 : BitVec 32 := Scalar.shli v4895 c3_i32_2865
  let v4897 : BitVec 32 := Scalar.addi c1944_i32_2866 v4896
  v4897

def k0_off249 (v4892 : BitVec 32) : Fin 2 → Nat :=
  let c1944_i32_2866 : BitVec 32 := 1944#32
  let c14_i32_2862 : BitVec 32 := 14#32
  let v4893 : BitVec 32 := Scalar.shrsi v4892 c14_i32_2862
  let c127_i32_2863 : BitVec 32 := 127#32
  let v4894 : BitVec 32 := Scalar.andi v4893 c127_i32_2863
  let c3_i32_2864 : BitVec 32 := 3#32
  let v4895 : BitVec 32 := Scalar.shrsi v4894 c3_i32_2864
  let c3_i32_2865 : BitVec 32 := 3#32
  let v4896 : BitVec 32 := Scalar.shli v4895 c3_i32_2865
  let v4897 : BitVec 32 := Scalar.addi c1944_i32_2866 v4896
  let v4898 : BitVec 32 := v4897
  let v4899 : Index := Scalar.indexCast v4898
  let c0_2867 : Index := 0#32
  ![v4899.toNat, 0]

def k0_chk92 (v4892 : BitVec 32) : Prop :=
  (8 ∣ (k0_mult156 v4892).toNat) ∧
  (∀ a, (k0_off249 v4892) a + S8x1024.size a ≤ S4608x1024.size a)
theorem k0_mult156_dvd : ∀ (v4892 : BitVec 32) (k0_hw92 : k0_chk92 v4892), 8 ∣ (k0_mult156 v4892).toNat := fun v4892 k0_hw92 => k0_hw92.1
theorem k0_off249_inb : ∀ (v4892 : BitVec 32) (k0_hw92 : k0_chk92 v4892), ∀ a, (k0_off249 v4892) a + S8x1024.size a ≤ S4608x1024.size a := fun v4892 k0_hw92 => k0_hw92.2

def k0_off250 (k0_t1 : Fin k0_t1_loop.trips) : Fin 2 → Nat :=
  let c28_2870 : Index := 28#32
  let c0_i32_205 : BitVec 32 := 0#32
  let c1_i32 : BitVec 32 := 1#32
  let arg21 : BitVec 32 := Scf.iv c0_i32_205 c1_i32 k0_t1
  let v4914 : Index := Scalar.indexCast arg21
  ![28, v4914.toNat]
def k0_mult157 (v4915 : BitVec 32) : BitVec 32 :=
  let c2016_i32_2875 : BitVec 32 := 2016#32
  let c14_i32_2871 : BitVec 32 := 14#32
  let v4916 : BitVec 32 := Scalar.shrsi v4915 c14_i32_2871
  let c127_i32_2872 : BitVec 32 := 127#32
  let v4917 : BitVec 32 := Scalar.andi v4916 c127_i32_2872
  let c3_i32_2873 : BitVec 32 := 3#32
  let v4918 : BitVec 32 := Scalar.shrsi v4917 c3_i32_2873
  let c3_i32_2874 : BitVec 32 := 3#32
  let v4919 : BitVec 32 := Scalar.shli v4918 c3_i32_2874
  let v4920 : BitVec 32 := Scalar.addi c2016_i32_2875 v4919
  v4920

def k0_off251 (v4915 : BitVec 32) : Fin 2 → Nat :=
  let c2016_i32_2875 : BitVec 32 := 2016#32
  let c14_i32_2871 : BitVec 32 := 14#32
  let v4916 : BitVec 32 := Scalar.shrsi v4915 c14_i32_2871
  let c127_i32_2872 : BitVec 32 := 127#32
  let v4917 : BitVec 32 := Scalar.andi v4916 c127_i32_2872
  let c3_i32_2873 : BitVec 32 := 3#32
  let v4918 : BitVec 32 := Scalar.shrsi v4917 c3_i32_2873
  let c3_i32_2874 : BitVec 32 := 3#32
  let v4919 : BitVec 32 := Scalar.shli v4918 c3_i32_2874
  let v4920 : BitVec 32 := Scalar.addi c2016_i32_2875 v4919
  let v4921 : BitVec 32 := v4920
  let v4922 : Index := Scalar.indexCast v4921
  let c0_2876 : Index := 0#32
  ![v4922.toNat, 0]

def k0_chk93 (v4915 : BitVec 32) : Prop :=
  (8 ∣ (k0_mult157 v4915).toNat) ∧
  (∀ a, (k0_off251 v4915) a + S8x1024.size a ≤ S4608x1024.size a)
theorem k0_mult157_dvd : ∀ (v4915 : BitVec 32) (k0_hw93 : k0_chk93 v4915), 8 ∣ (k0_mult157 v4915).toNat := fun v4915 k0_hw93 => k0_hw93.1
theorem k0_off251_inb : ∀ (v4915 : BitVec 32) (k0_hw93 : k0_chk93 v4915), ∀ a, (k0_off251 v4915) a + S8x1024.size a ≤ S4608x1024.size a := fun v4915 k0_hw93 => k0_hw93.2

def k0_off252 (k0_t1 : Fin k0_t1_loop.trips) : Fin 2 → Nat :=
  let c29_2879 : Index := 29#32
  let c0_i32_205 : BitVec 32 := 0#32
  let c1_i32 : BitVec 32 := 1#32
  let arg21 : BitVec 32 := Scf.iv c0_i32_205 c1_i32 k0_t1
  let v4937 : Index := Scalar.indexCast arg21
  ![29, v4937.toNat]
def k0_mult158 (v4938 : BitVec 32) : BitVec 32 :=
  let c2088_i32_2884 : BitVec 32 := 2088#32
  let c14_i32_2880 : BitVec 32 := 14#32
  let v4939 : BitVec 32 := Scalar.shrsi v4938 c14_i32_2880
  let c127_i32_2881 : BitVec 32 := 127#32
  let v4940 : BitVec 32 := Scalar.andi v4939 c127_i32_2881
  let c3_i32_2882 : BitVec 32 := 3#32
  let v4941 : BitVec 32 := Scalar.shrsi v4940 c3_i32_2882
  let c3_i32_2883 : BitVec 32 := 3#32
  let v4942 : BitVec 32 := Scalar.shli v4941 c3_i32_2883
  let v4943 : BitVec 32 := Scalar.addi c2088_i32_2884 v4942
  v4943

def k0_off253 (v4938 : BitVec 32) : Fin 2 → Nat :=
  let c2088_i32_2884 : BitVec 32 := 2088#32
  let c14_i32_2880 : BitVec 32 := 14#32
  let v4939 : BitVec 32 := Scalar.shrsi v4938 c14_i32_2880
  let c127_i32_2881 : BitVec 32 := 127#32
  let v4940 : BitVec 32 := Scalar.andi v4939 c127_i32_2881
  let c3_i32_2882 : BitVec 32 := 3#32
  let v4941 : BitVec 32 := Scalar.shrsi v4940 c3_i32_2882
  let c3_i32_2883 : BitVec 32 := 3#32
  let v4942 : BitVec 32 := Scalar.shli v4941 c3_i32_2883
  let v4943 : BitVec 32 := Scalar.addi c2088_i32_2884 v4942
  let v4944 : BitVec 32 := v4943
  let v4945 : Index := Scalar.indexCast v4944
  let c0_2885 : Index := 0#32
  ![v4945.toNat, 0]

def k0_chk94 (v4938 : BitVec 32) : Prop :=
  (8 ∣ (k0_mult158 v4938).toNat) ∧
  (∀ a, (k0_off253 v4938) a + S8x1024.size a ≤ S4608x1024.size a)
theorem k0_mult158_dvd : ∀ (v4938 : BitVec 32) (k0_hw94 : k0_chk94 v4938), 8 ∣ (k0_mult158 v4938).toNat := fun v4938 k0_hw94 => k0_hw94.1
theorem k0_off253_inb : ∀ (v4938 : BitVec 32) (k0_hw94 : k0_chk94 v4938), ∀ a, (k0_off253 v4938) a + S8x1024.size a ≤ S4608x1024.size a := fun v4938 k0_hw94 => k0_hw94.2

def k0_off254 (k0_t1 : Fin k0_t1_loop.trips) : Fin 2 → Nat :=
  let c30_2888 : Index := 30#32
  let c0_i32_205 : BitVec 32 := 0#32
  let c1_i32 : BitVec 32 := 1#32
  let arg21 : BitVec 32 := Scf.iv c0_i32_205 c1_i32 k0_t1
  let v4960 : Index := Scalar.indexCast arg21
  ![30, v4960.toNat]
def k0_mult159 (v4961 : BitVec 32) : BitVec 32 :=
  let c2160_i32_2893 : BitVec 32 := 2160#32
  let c14_i32_2889 : BitVec 32 := 14#32
  let v4962 : BitVec 32 := Scalar.shrsi v4961 c14_i32_2889
  let c127_i32_2890 : BitVec 32 := 127#32
  let v4963 : BitVec 32 := Scalar.andi v4962 c127_i32_2890
  let c3_i32_2891 : BitVec 32 := 3#32
  let v4964 : BitVec 32 := Scalar.shrsi v4963 c3_i32_2891
  let c3_i32_2892 : BitVec 32 := 3#32
  let v4965 : BitVec 32 := Scalar.shli v4964 c3_i32_2892
  let v4966 : BitVec 32 := Scalar.addi c2160_i32_2893 v4965
  v4966

def k0_off255 (v4961 : BitVec 32) : Fin 2 → Nat :=
  let c2160_i32_2893 : BitVec 32 := 2160#32
  let c14_i32_2889 : BitVec 32 := 14#32
  let v4962 : BitVec 32 := Scalar.shrsi v4961 c14_i32_2889
  let c127_i32_2890 : BitVec 32 := 127#32
  let v4963 : BitVec 32 := Scalar.andi v4962 c127_i32_2890
  let c3_i32_2891 : BitVec 32 := 3#32
  let v4964 : BitVec 32 := Scalar.shrsi v4963 c3_i32_2891
  let c3_i32_2892 : BitVec 32 := 3#32
  let v4965 : BitVec 32 := Scalar.shli v4964 c3_i32_2892
  let v4966 : BitVec 32 := Scalar.addi c2160_i32_2893 v4965
  let v4967 : BitVec 32 := v4966
  let v4968 : Index := Scalar.indexCast v4967
  let c0_2894 : Index := 0#32
  ![v4968.toNat, 0]

def k0_chk95 (v4961 : BitVec 32) : Prop :=
  (8 ∣ (k0_mult159 v4961).toNat) ∧
  (∀ a, (k0_off255 v4961) a + S8x1024.size a ≤ S4608x1024.size a)
theorem k0_mult159_dvd : ∀ (v4961 : BitVec 32) (k0_hw95 : k0_chk95 v4961), 8 ∣ (k0_mult159 v4961).toNat := fun v4961 k0_hw95 => k0_hw95.1
theorem k0_off255_inb : ∀ (v4961 : BitVec 32) (k0_hw95 : k0_chk95 v4961), ∀ a, (k0_off255 v4961) a + S8x1024.size a ≤ S4608x1024.size a := fun v4961 k0_hw95 => k0_hw95.2

def k0_off256 (k0_t1 : Fin k0_t1_loop.trips) : Fin 2 → Nat :=
  let c31_2897 : Index := 31#32
  let c0_i32_205 : BitVec 32 := 0#32
  let c1_i32 : BitVec 32 := 1#32
  let arg21 : BitVec 32 := Scf.iv c0_i32_205 c1_i32 k0_t1
  let v4983 : Index := Scalar.indexCast arg21
  ![31, v4983.toNat]
def k0_mult160 (v4984 : BitVec 32) : BitVec 32 :=
  let c2232_i32_2902 : BitVec 32 := 2232#32
  let c14_i32_2898 : BitVec 32 := 14#32
  let v4985 : BitVec 32 := Scalar.shrsi v4984 c14_i32_2898
  let c127_i32_2899 : BitVec 32 := 127#32
  let v4986 : BitVec 32 := Scalar.andi v4985 c127_i32_2899
  let c3_i32_2900 : BitVec 32 := 3#32
  let v4987 : BitVec 32 := Scalar.shrsi v4986 c3_i32_2900
  let c3_i32_2901 : BitVec 32 := 3#32
  let v4988 : BitVec 32 := Scalar.shli v4987 c3_i32_2901
  let v4989 : BitVec 32 := Scalar.addi c2232_i32_2902 v4988
  v4989

def k0_off257 (v4984 : BitVec 32) : Fin 2 → Nat :=
  let c2232_i32_2902 : BitVec 32 := 2232#32
  let c14_i32_2898 : BitVec 32 := 14#32
  let v4985 : BitVec 32 := Scalar.shrsi v4984 c14_i32_2898
  let c127_i32_2899 : BitVec 32 := 127#32
  let v4986 : BitVec 32 := Scalar.andi v4985 c127_i32_2899
  let c3_i32_2900 : BitVec 32 := 3#32
  let v4987 : BitVec 32 := Scalar.shrsi v4986 c3_i32_2900
  let c3_i32_2901 : BitVec 32 := 3#32
  let v4988 : BitVec 32 := Scalar.shli v4987 c3_i32_2901
  let v4989 : BitVec 32 := Scalar.addi c2232_i32_2902 v4988
  let v4990 : BitVec 32 := v4989
  let v4991 : Index := Scalar.indexCast v4990
  let c0_2903 : Index := 0#32
  ![v4991.toNat, 0]

def k0_chk96 (v4984 : BitVec 32) : Prop :=
  (8 ∣ (k0_mult160 v4984).toNat) ∧
  (∀ a, (k0_off257 v4984) a + S8x1024.size a ≤ S4608x1024.size a)
theorem k0_mult160_dvd : ∀ (v4984 : BitVec 32) (k0_hw96 : k0_chk96 v4984), 8 ∣ (k0_mult160 v4984).toNat := fun v4984 k0_hw96 => k0_hw96.1
theorem k0_off257_inb : ∀ (v4984 : BitVec 32) (k0_hw96 : k0_chk96 v4984), ∀ a, (k0_off257 v4984) a + S8x1024.size a ≤ S4608x1024.size a := fun v4984 k0_hw96 => k0_hw96.2

def k0_off258 (k0_t1 : Fin k0_t1_loop.trips) : Fin 2 → Nat :=
  let c32_2906 : Index := 32#32
  let c0_i32_205 : BitVec 32 := 0#32
  let c1_i32 : BitVec 32 := 1#32
  let arg21 : BitVec 32 := Scf.iv c0_i32_205 c1_i32 k0_t1
  let v5006 : Index := Scalar.indexCast arg21
  ![32, v5006.toNat]
def k0_mult161 (v5007 : BitVec 32) : BitVec 32 :=
  let c2304_i32_2911 : BitVec 32 := 2304#32
  let c14_i32_2907 : BitVec 32 := 14#32
  let v5008 : BitVec 32 := Scalar.shrsi v5007 c14_i32_2907
  let c127_i32_2908 : BitVec 32 := 127#32
  let v5009 : BitVec 32 := Scalar.andi v5008 c127_i32_2908
  let c3_i32_2909 : BitVec 32 := 3#32
  let v5010 : BitVec 32 := Scalar.shrsi v5009 c3_i32_2909
  let c3_i32_2910 : BitVec 32 := 3#32
  let v5011 : BitVec 32 := Scalar.shli v5010 c3_i32_2910
  let v5012 : BitVec 32 := Scalar.addi c2304_i32_2911 v5011
  v5012

def k0_off259 (v5007 : BitVec 32) : Fin 2 → Nat :=
  let c2304_i32_2911 : BitVec 32 := 2304#32
  let c14_i32_2907 : BitVec 32 := 14#32
  let v5008 : BitVec 32 := Scalar.shrsi v5007 c14_i32_2907
  let c127_i32_2908 : BitVec 32 := 127#32
  let v5009 : BitVec 32 := Scalar.andi v5008 c127_i32_2908
  let c3_i32_2909 : BitVec 32 := 3#32
  let v5010 : BitVec 32 := Scalar.shrsi v5009 c3_i32_2909
  let c3_i32_2910 : BitVec 32 := 3#32
  let v5011 : BitVec 32 := Scalar.shli v5010 c3_i32_2910
  let v5012 : BitVec 32 := Scalar.addi c2304_i32_2911 v5011
  let v5013 : BitVec 32 := v5012
  let v5014 : Index := Scalar.indexCast v5013
  let c0_2912 : Index := 0#32
  ![v5014.toNat, 0]

def k0_chk97 (v5007 : BitVec 32) : Prop :=
  (8 ∣ (k0_mult161 v5007).toNat) ∧
  (∀ a, (k0_off259 v5007) a + S8x1024.size a ≤ S4608x1024.size a)
theorem k0_mult161_dvd : ∀ (v5007 : BitVec 32) (k0_hw97 : k0_chk97 v5007), 8 ∣ (k0_mult161 v5007).toNat := fun v5007 k0_hw97 => k0_hw97.1
theorem k0_off259_inb : ∀ (v5007 : BitVec 32) (k0_hw97 : k0_chk97 v5007), ∀ a, (k0_off259 v5007) a + S8x1024.size a ≤ S4608x1024.size a := fun v5007 k0_hw97 => k0_hw97.2

def k0_off260 (k0_t1 : Fin k0_t1_loop.trips) : Fin 2 → Nat :=
  let c33_2915 : Index := 33#32
  let c0_i32_205 : BitVec 32 := 0#32
  let c1_i32 : BitVec 32 := 1#32
  let arg21 : BitVec 32 := Scf.iv c0_i32_205 c1_i32 k0_t1
  let v5029 : Index := Scalar.indexCast arg21
  ![33, v5029.toNat]
def k0_mult162 (v5030 : BitVec 32) : BitVec 32 :=
  let c2376_i32_2920 : BitVec 32 := 2376#32
  let c14_i32_2916 : BitVec 32 := 14#32
  let v5031 : BitVec 32 := Scalar.shrsi v5030 c14_i32_2916
  let c127_i32_2917 : BitVec 32 := 127#32
  let v5032 : BitVec 32 := Scalar.andi v5031 c127_i32_2917
  let c3_i32_2918 : BitVec 32 := 3#32
  let v5033 : BitVec 32 := Scalar.shrsi v5032 c3_i32_2918
  let c3_i32_2919 : BitVec 32 := 3#32
  let v5034 : BitVec 32 := Scalar.shli v5033 c3_i32_2919
  let v5035 : BitVec 32 := Scalar.addi c2376_i32_2920 v5034
  v5035

def k0_off261 (v5030 : BitVec 32) : Fin 2 → Nat :=
  let c2376_i32_2920 : BitVec 32 := 2376#32
  let c14_i32_2916 : BitVec 32 := 14#32
  let v5031 : BitVec 32 := Scalar.shrsi v5030 c14_i32_2916
  let c127_i32_2917 : BitVec 32 := 127#32
  let v5032 : BitVec 32 := Scalar.andi v5031 c127_i32_2917
  let c3_i32_2918 : BitVec 32 := 3#32
  let v5033 : BitVec 32 := Scalar.shrsi v5032 c3_i32_2918
  let c3_i32_2919 : BitVec 32 := 3#32
  let v5034 : BitVec 32 := Scalar.shli v5033 c3_i32_2919
  let v5035 : BitVec 32 := Scalar.addi c2376_i32_2920 v5034
  let v5036 : BitVec 32 := v5035
  let v5037 : Index := Scalar.indexCast v5036
  let c0_2921 : Index := 0#32
  ![v5037.toNat, 0]

def k0_chk98 (v5030 : BitVec 32) : Prop :=
  (8 ∣ (k0_mult162 v5030).toNat) ∧
  (∀ a, (k0_off261 v5030) a + S8x1024.size a ≤ S4608x1024.size a)
theorem k0_mult162_dvd : ∀ (v5030 : BitVec 32) (k0_hw98 : k0_chk98 v5030), 8 ∣ (k0_mult162 v5030).toNat := fun v5030 k0_hw98 => k0_hw98.1
theorem k0_off261_inb : ∀ (v5030 : BitVec 32) (k0_hw98 : k0_chk98 v5030), ∀ a, (k0_off261 v5030) a + S8x1024.size a ≤ S4608x1024.size a := fun v5030 k0_hw98 => k0_hw98.2

def k0_off262 (k0_t1 : Fin k0_t1_loop.trips) : Fin 2 → Nat :=
  let c34_2924 : Index := 34#32
  let c0_i32_205 : BitVec 32 := 0#32
  let c1_i32 : BitVec 32 := 1#32
  let arg21 : BitVec 32 := Scf.iv c0_i32_205 c1_i32 k0_t1
  let v5052 : Index := Scalar.indexCast arg21
  ![34, v5052.toNat]
def k0_mult163 (v5053 : BitVec 32) : BitVec 32 :=
  let c2448_i32_2929 : BitVec 32 := 2448#32
  let c14_i32_2925 : BitVec 32 := 14#32
  let v5054 : BitVec 32 := Scalar.shrsi v5053 c14_i32_2925
  let c127_i32_2926 : BitVec 32 := 127#32
  let v5055 : BitVec 32 := Scalar.andi v5054 c127_i32_2926
  let c3_i32_2927 : BitVec 32 := 3#32
  let v5056 : BitVec 32 := Scalar.shrsi v5055 c3_i32_2927
  let c3_i32_2928 : BitVec 32 := 3#32
  let v5057 : BitVec 32 := Scalar.shli v5056 c3_i32_2928
  let v5058 : BitVec 32 := Scalar.addi c2448_i32_2929 v5057
  v5058

def k0_off263 (v5053 : BitVec 32) : Fin 2 → Nat :=
  let c2448_i32_2929 : BitVec 32 := 2448#32
  let c14_i32_2925 : BitVec 32 := 14#32
  let v5054 : BitVec 32 := Scalar.shrsi v5053 c14_i32_2925
  let c127_i32_2926 : BitVec 32 := 127#32
  let v5055 : BitVec 32 := Scalar.andi v5054 c127_i32_2926
  let c3_i32_2927 : BitVec 32 := 3#32
  let v5056 : BitVec 32 := Scalar.shrsi v5055 c3_i32_2927
  let c3_i32_2928 : BitVec 32 := 3#32
  let v5057 : BitVec 32 := Scalar.shli v5056 c3_i32_2928
  let v5058 : BitVec 32 := Scalar.addi c2448_i32_2929 v5057
  let v5059 : BitVec 32 := v5058
  let v5060 : Index := Scalar.indexCast v5059
  let c0_2930 : Index := 0#32
  ![v5060.toNat, 0]

def k0_chk99 (v5053 : BitVec 32) : Prop :=
  (8 ∣ (k0_mult163 v5053).toNat) ∧
  (∀ a, (k0_off263 v5053) a + S8x1024.size a ≤ S4608x1024.size a)
theorem k0_mult163_dvd : ∀ (v5053 : BitVec 32) (k0_hw99 : k0_chk99 v5053), 8 ∣ (k0_mult163 v5053).toNat := fun v5053 k0_hw99 => k0_hw99.1
theorem k0_off263_inb : ∀ (v5053 : BitVec 32) (k0_hw99 : k0_chk99 v5053), ∀ a, (k0_off263 v5053) a + S8x1024.size a ≤ S4608x1024.size a := fun v5053 k0_hw99 => k0_hw99.2

def k0_off264 (k0_t1 : Fin k0_t1_loop.trips) : Fin 2 → Nat :=
  let c35_2933 : Index := 35#32
  let c0_i32_205 : BitVec 32 := 0#32
  let c1_i32 : BitVec 32 := 1#32
  let arg21 : BitVec 32 := Scf.iv c0_i32_205 c1_i32 k0_t1
  let v5075 : Index := Scalar.indexCast arg21
  ![35, v5075.toNat]
def k0_mult164 (v5076 : BitVec 32) : BitVec 32 :=
  let c2520_i32_2938 : BitVec 32 := 2520#32
  let c14_i32_2934 : BitVec 32 := 14#32
  let v5077 : BitVec 32 := Scalar.shrsi v5076 c14_i32_2934
  let c127_i32_2935 : BitVec 32 := 127#32
  let v5078 : BitVec 32 := Scalar.andi v5077 c127_i32_2935
  let c3_i32_2936 : BitVec 32 := 3#32
  let v5079 : BitVec 32 := Scalar.shrsi v5078 c3_i32_2936
  let c3_i32_2937 : BitVec 32 := 3#32
  let v5080 : BitVec 32 := Scalar.shli v5079 c3_i32_2937
  let v5081 : BitVec 32 := Scalar.addi c2520_i32_2938 v5080
  v5081

def k0_off265 (v5076 : BitVec 32) : Fin 2 → Nat :=
  let c2520_i32_2938 : BitVec 32 := 2520#32
  let c14_i32_2934 : BitVec 32 := 14#32
  let v5077 : BitVec 32 := Scalar.shrsi v5076 c14_i32_2934
  let c127_i32_2935 : BitVec 32 := 127#32
  let v5078 : BitVec 32 := Scalar.andi v5077 c127_i32_2935
  let c3_i32_2936 : BitVec 32 := 3#32
  let v5079 : BitVec 32 := Scalar.shrsi v5078 c3_i32_2936
  let c3_i32_2937 : BitVec 32 := 3#32
  let v5080 : BitVec 32 := Scalar.shli v5079 c3_i32_2937
  let v5081 : BitVec 32 := Scalar.addi c2520_i32_2938 v5080
  let v5082 : BitVec 32 := v5081
  let v5083 : Index := Scalar.indexCast v5082
  let c0_2939 : Index := 0#32
  ![v5083.toNat, 0]

def k0_chk100 (v5076 : BitVec 32) : Prop :=
  (8 ∣ (k0_mult164 v5076).toNat) ∧
  (∀ a, (k0_off265 v5076) a + S8x1024.size a ≤ S4608x1024.size a)
theorem k0_mult164_dvd : ∀ (v5076 : BitVec 32) (k0_hw100 : k0_chk100 v5076), 8 ∣ (k0_mult164 v5076).toNat := fun v5076 k0_hw100 => k0_hw100.1
theorem k0_off265_inb : ∀ (v5076 : BitVec 32) (k0_hw100 : k0_chk100 v5076), ∀ a, (k0_off265 v5076) a + S8x1024.size a ≤ S4608x1024.size a := fun v5076 k0_hw100 => k0_hw100.2

def k0_off266 (k0_t1 : Fin k0_t1_loop.trips) : Fin 2 → Nat :=
  let c36_2942 : Index := 36#32
  let c0_i32_205 : BitVec 32 := 0#32
  let c1_i32 : BitVec 32 := 1#32
  let arg21 : BitVec 32 := Scf.iv c0_i32_205 c1_i32 k0_t1
  let v5098 : Index := Scalar.indexCast arg21
  ![36, v5098.toNat]
def k0_mult165 (v5099 : BitVec 32) : BitVec 32 :=
  let c2592_i32_2947 : BitVec 32 := 2592#32
  let c14_i32_2943 : BitVec 32 := 14#32
  let v5100 : BitVec 32 := Scalar.shrsi v5099 c14_i32_2943
  let c127_i32_2944 : BitVec 32 := 127#32
  let v5101 : BitVec 32 := Scalar.andi v5100 c127_i32_2944
  let c3_i32_2945 : BitVec 32 := 3#32
  let v5102 : BitVec 32 := Scalar.shrsi v5101 c3_i32_2945
  let c3_i32_2946 : BitVec 32 := 3#32
  let v5103 : BitVec 32 := Scalar.shli v5102 c3_i32_2946
  let v5104 : BitVec 32 := Scalar.addi c2592_i32_2947 v5103
  v5104

def k0_off267 (v5099 : BitVec 32) : Fin 2 → Nat :=
  let c2592_i32_2947 : BitVec 32 := 2592#32
  let c14_i32_2943 : BitVec 32 := 14#32
  let v5100 : BitVec 32 := Scalar.shrsi v5099 c14_i32_2943
  let c127_i32_2944 : BitVec 32 := 127#32
  let v5101 : BitVec 32 := Scalar.andi v5100 c127_i32_2944
  let c3_i32_2945 : BitVec 32 := 3#32
  let v5102 : BitVec 32 := Scalar.shrsi v5101 c3_i32_2945
  let c3_i32_2946 : BitVec 32 := 3#32
  let v5103 : BitVec 32 := Scalar.shli v5102 c3_i32_2946
  let v5104 : BitVec 32 := Scalar.addi c2592_i32_2947 v5103
  let v5105 : BitVec 32 := v5104
  let v5106 : Index := Scalar.indexCast v5105
  let c0_2948 : Index := 0#32
  ![v5106.toNat, 0]

def k0_chk101 (v5099 : BitVec 32) : Prop :=
  (8 ∣ (k0_mult165 v5099).toNat) ∧
  (∀ a, (k0_off267 v5099) a + S8x1024.size a ≤ S4608x1024.size a)
theorem k0_mult165_dvd : ∀ (v5099 : BitVec 32) (k0_hw101 : k0_chk101 v5099), 8 ∣ (k0_mult165 v5099).toNat := fun v5099 k0_hw101 => k0_hw101.1
theorem k0_off267_inb : ∀ (v5099 : BitVec 32) (k0_hw101 : k0_chk101 v5099), ∀ a, (k0_off267 v5099) a + S8x1024.size a ≤ S4608x1024.size a := fun v5099 k0_hw101 => k0_hw101.2

def k0_off268 (k0_t1 : Fin k0_t1_loop.trips) : Fin 2 → Nat :=
  let c37_2951 : Index := 37#32
  let c0_i32_205 : BitVec 32 := 0#32
  let c1_i32 : BitVec 32 := 1#32
  let arg21 : BitVec 32 := Scf.iv c0_i32_205 c1_i32 k0_t1
  let v5121 : Index := Scalar.indexCast arg21
  ![37, v5121.toNat]
def k0_mult166 (v5122 : BitVec 32) : BitVec 32 :=
  let c2664_i32_2956 : BitVec 32 := 2664#32
  let c14_i32_2952 : BitVec 32 := 14#32
  let v5123 : BitVec 32 := Scalar.shrsi v5122 c14_i32_2952
  let c127_i32_2953 : BitVec 32 := 127#32
  let v5124 : BitVec 32 := Scalar.andi v5123 c127_i32_2953
  let c3_i32_2954 : BitVec 32 := 3#32
  let v5125 : BitVec 32 := Scalar.shrsi v5124 c3_i32_2954
  let c3_i32_2955 : BitVec 32 := 3#32
  let v5126 : BitVec 32 := Scalar.shli v5125 c3_i32_2955
  let v5127 : BitVec 32 := Scalar.addi c2664_i32_2956 v5126
  v5127

def k0_off269 (v5122 : BitVec 32) : Fin 2 → Nat :=
  let c2664_i32_2956 : BitVec 32 := 2664#32
  let c14_i32_2952 : BitVec 32 := 14#32
  let v5123 : BitVec 32 := Scalar.shrsi v5122 c14_i32_2952
  let c127_i32_2953 : BitVec 32 := 127#32
  let v5124 : BitVec 32 := Scalar.andi v5123 c127_i32_2953
  let c3_i32_2954 : BitVec 32 := 3#32
  let v5125 : BitVec 32 := Scalar.shrsi v5124 c3_i32_2954
  let c3_i32_2955 : BitVec 32 := 3#32
  let v5126 : BitVec 32 := Scalar.shli v5125 c3_i32_2955
  let v5127 : BitVec 32 := Scalar.addi c2664_i32_2956 v5126
  let v5128 : BitVec 32 := v5127
  let v5129 : Index := Scalar.indexCast v5128
  let c0_2957 : Index := 0#32
  ![v5129.toNat, 0]

def k0_chk102 (v5122 : BitVec 32) : Prop :=
  (8 ∣ (k0_mult166 v5122).toNat) ∧
  (∀ a, (k0_off269 v5122) a + S8x1024.size a ≤ S4608x1024.size a)
theorem k0_mult166_dvd : ∀ (v5122 : BitVec 32) (k0_hw102 : k0_chk102 v5122), 8 ∣ (k0_mult166 v5122).toNat := fun v5122 k0_hw102 => k0_hw102.1
theorem k0_off269_inb : ∀ (v5122 : BitVec 32) (k0_hw102 : k0_chk102 v5122), ∀ a, (k0_off269 v5122) a + S8x1024.size a ≤ S4608x1024.size a := fun v5122 k0_hw102 => k0_hw102.2

def k0_off270 (k0_t1 : Fin k0_t1_loop.trips) : Fin 2 → Nat :=
  let c38_2960 : Index := 38#32
  let c0_i32_205 : BitVec 32 := 0#32
  let c1_i32 : BitVec 32 := 1#32
  let arg21 : BitVec 32 := Scf.iv c0_i32_205 c1_i32 k0_t1
  let v5144 : Index := Scalar.indexCast arg21
  ![38, v5144.toNat]
def k0_mult167 (v5145 : BitVec 32) : BitVec 32 :=
  let c2736_i32_2965 : BitVec 32 := 2736#32
  let c14_i32_2961 : BitVec 32 := 14#32
  let v5146 : BitVec 32 := Scalar.shrsi v5145 c14_i32_2961
  let c127_i32_2962 : BitVec 32 := 127#32
  let v5147 : BitVec 32 := Scalar.andi v5146 c127_i32_2962
  let c3_i32_2963 : BitVec 32 := 3#32
  let v5148 : BitVec 32 := Scalar.shrsi v5147 c3_i32_2963
  let c3_i32_2964 : BitVec 32 := 3#32
  let v5149 : BitVec 32 := Scalar.shli v5148 c3_i32_2964
  let v5150 : BitVec 32 := Scalar.addi c2736_i32_2965 v5149
  v5150

def k0_off271 (v5145 : BitVec 32) : Fin 2 → Nat :=
  let c2736_i32_2965 : BitVec 32 := 2736#32
  let c14_i32_2961 : BitVec 32 := 14#32
  let v5146 : BitVec 32 := Scalar.shrsi v5145 c14_i32_2961
  let c127_i32_2962 : BitVec 32 := 127#32
  let v5147 : BitVec 32 := Scalar.andi v5146 c127_i32_2962
  let c3_i32_2963 : BitVec 32 := 3#32
  let v5148 : BitVec 32 := Scalar.shrsi v5147 c3_i32_2963
  let c3_i32_2964 : BitVec 32 := 3#32
  let v5149 : BitVec 32 := Scalar.shli v5148 c3_i32_2964
  let v5150 : BitVec 32 := Scalar.addi c2736_i32_2965 v5149
  let v5151 : BitVec 32 := v5150
  let v5152 : Index := Scalar.indexCast v5151
  let c0_2966 : Index := 0#32
  ![v5152.toNat, 0]

def k0_chk103 (v5145 : BitVec 32) : Prop :=
  (8 ∣ (k0_mult167 v5145).toNat) ∧
  (∀ a, (k0_off271 v5145) a + S8x1024.size a ≤ S4608x1024.size a)
theorem k0_mult167_dvd : ∀ (v5145 : BitVec 32) (k0_hw103 : k0_chk103 v5145), 8 ∣ (k0_mult167 v5145).toNat := fun v5145 k0_hw103 => k0_hw103.1
theorem k0_off271_inb : ∀ (v5145 : BitVec 32) (k0_hw103 : k0_chk103 v5145), ∀ a, (k0_off271 v5145) a + S8x1024.size a ≤ S4608x1024.size a := fun v5145 k0_hw103 => k0_hw103.2

def k0_off272 (k0_t1 : Fin k0_t1_loop.trips) : Fin 2 → Nat :=
  let c39_2969 : Index := 39#32
  let c0_i32_205 : BitVec 32 := 0#32
  let c1_i32 : BitVec 32 := 1#32
  let arg21 : BitVec 32 := Scf.iv c0_i32_205 c1_i32 k0_t1
  let v5167 : Index := Scalar.indexCast arg21
  ![39, v5167.toNat]
def k0_mult168 (v5168 : BitVec 32) : BitVec 32 :=
  let c2808_i32_2974 : BitVec 32 := 2808#32
  let c14_i32_2970 : BitVec 32 := 14#32
  let v5169 : BitVec 32 := Scalar.shrsi v5168 c14_i32_2970
  let c127_i32_2971 : BitVec 32 := 127#32
  let v5170 : BitVec 32 := Scalar.andi v5169 c127_i32_2971
  let c3_i32_2972 : BitVec 32 := 3#32
  let v5171 : BitVec 32 := Scalar.shrsi v5170 c3_i32_2972
  let c3_i32_2973 : BitVec 32 := 3#32
  let v5172 : BitVec 32 := Scalar.shli v5171 c3_i32_2973
  let v5173 : BitVec 32 := Scalar.addi c2808_i32_2974 v5172
  v5173

def k0_off273 (v5168 : BitVec 32) : Fin 2 → Nat :=
  let c2808_i32_2974 : BitVec 32 := 2808#32
  let c14_i32_2970 : BitVec 32 := 14#32
  let v5169 : BitVec 32 := Scalar.shrsi v5168 c14_i32_2970
  let c127_i32_2971 : BitVec 32 := 127#32
  let v5170 : BitVec 32 := Scalar.andi v5169 c127_i32_2971
  let c3_i32_2972 : BitVec 32 := 3#32
  let v5171 : BitVec 32 := Scalar.shrsi v5170 c3_i32_2972
  let c3_i32_2973 : BitVec 32 := 3#32
  let v5172 : BitVec 32 := Scalar.shli v5171 c3_i32_2973
  let v5173 : BitVec 32 := Scalar.addi c2808_i32_2974 v5172
  let v5174 : BitVec 32 := v5173
  let v5175 : Index := Scalar.indexCast v5174
  let c0_2975 : Index := 0#32
  ![v5175.toNat, 0]

def k0_chk104 (v5168 : BitVec 32) : Prop :=
  (8 ∣ (k0_mult168 v5168).toNat) ∧
  (∀ a, (k0_off273 v5168) a + S8x1024.size a ≤ S4608x1024.size a)
theorem k0_mult168_dvd : ∀ (v5168 : BitVec 32) (k0_hw104 : k0_chk104 v5168), 8 ∣ (k0_mult168 v5168).toNat := fun v5168 k0_hw104 => k0_hw104.1
theorem k0_off273_inb : ∀ (v5168 : BitVec 32) (k0_hw104 : k0_chk104 v5168), ∀ a, (k0_off273 v5168) a + S8x1024.size a ≤ S4608x1024.size a := fun v5168 k0_hw104 => k0_hw104.2

def k0_off274 (k0_t1 : Fin k0_t1_loop.trips) : Fin 2 → Nat :=
  let c40_2978 : Index := 40#32
  let c0_i32_205 : BitVec 32 := 0#32
  let c1_i32 : BitVec 32 := 1#32
  let arg21 : BitVec 32 := Scf.iv c0_i32_205 c1_i32 k0_t1
  let v5190 : Index := Scalar.indexCast arg21
  ![40, v5190.toNat]
def k0_mult169 (v5191 : BitVec 32) : BitVec 32 :=
  let c2880_i32_2983 : BitVec 32 := 2880#32
  let c14_i32_2979 : BitVec 32 := 14#32
  let v5192 : BitVec 32 := Scalar.shrsi v5191 c14_i32_2979
  let c127_i32_2980 : BitVec 32 := 127#32
  let v5193 : BitVec 32 := Scalar.andi v5192 c127_i32_2980
  let c3_i32_2981 : BitVec 32 := 3#32
  let v5194 : BitVec 32 := Scalar.shrsi v5193 c3_i32_2981
  let c3_i32_2982 : BitVec 32 := 3#32
  let v5195 : BitVec 32 := Scalar.shli v5194 c3_i32_2982
  let v5196 : BitVec 32 := Scalar.addi c2880_i32_2983 v5195
  v5196

def k0_off275 (v5191 : BitVec 32) : Fin 2 → Nat :=
  let c2880_i32_2983 : BitVec 32 := 2880#32
  let c14_i32_2979 : BitVec 32 := 14#32
  let v5192 : BitVec 32 := Scalar.shrsi v5191 c14_i32_2979
  let c127_i32_2980 : BitVec 32 := 127#32
  let v5193 : BitVec 32 := Scalar.andi v5192 c127_i32_2980
  let c3_i32_2981 : BitVec 32 := 3#32
  let v5194 : BitVec 32 := Scalar.shrsi v5193 c3_i32_2981
  let c3_i32_2982 : BitVec 32 := 3#32
  let v5195 : BitVec 32 := Scalar.shli v5194 c3_i32_2982
  let v5196 : BitVec 32 := Scalar.addi c2880_i32_2983 v5195
  let v5197 : BitVec 32 := v5196
  let v5198 : Index := Scalar.indexCast v5197
  let c0_2984 : Index := 0#32
  ![v5198.toNat, 0]

def k0_chk105 (v5191 : BitVec 32) : Prop :=
  (8 ∣ (k0_mult169 v5191).toNat) ∧
  (∀ a, (k0_off275 v5191) a + S8x1024.size a ≤ S4608x1024.size a)
theorem k0_mult169_dvd : ∀ (v5191 : BitVec 32) (k0_hw105 : k0_chk105 v5191), 8 ∣ (k0_mult169 v5191).toNat := fun v5191 k0_hw105 => k0_hw105.1
theorem k0_off275_inb : ∀ (v5191 : BitVec 32) (k0_hw105 : k0_chk105 v5191), ∀ a, (k0_off275 v5191) a + S8x1024.size a ≤ S4608x1024.size a := fun v5191 k0_hw105 => k0_hw105.2

def k0_off276 (k0_t1 : Fin k0_t1_loop.trips) : Fin 2 → Nat :=
  let c41_2987 : Index := 41#32
  let c0_i32_205 : BitVec 32 := 0#32
  let c1_i32 : BitVec 32 := 1#32
  let arg21 : BitVec 32 := Scf.iv c0_i32_205 c1_i32 k0_t1
  let v5213 : Index := Scalar.indexCast arg21
  ![41, v5213.toNat]
def k0_mult170 (v5214 : BitVec 32) : BitVec 32 :=
  let c2952_i32_2992 : BitVec 32 := 2952#32
  let c14_i32_2988 : BitVec 32 := 14#32
  let v5215 : BitVec 32 := Scalar.shrsi v5214 c14_i32_2988
  let c127_i32_2989 : BitVec 32 := 127#32
  let v5216 : BitVec 32 := Scalar.andi v5215 c127_i32_2989
  let c3_i32_2990 : BitVec 32 := 3#32
  let v5217 : BitVec 32 := Scalar.shrsi v5216 c3_i32_2990
  let c3_i32_2991 : BitVec 32 := 3#32
  let v5218 : BitVec 32 := Scalar.shli v5217 c3_i32_2991
  let v5219 : BitVec 32 := Scalar.addi c2952_i32_2992 v5218
  v5219

def k0_off277 (v5214 : BitVec 32) : Fin 2 → Nat :=
  let c2952_i32_2992 : BitVec 32 := 2952#32
  let c14_i32_2988 : BitVec 32 := 14#32
  let v5215 : BitVec 32 := Scalar.shrsi v5214 c14_i32_2988
  let c127_i32_2989 : BitVec 32 := 127#32
  let v5216 : BitVec 32 := Scalar.andi v5215 c127_i32_2989
  let c3_i32_2990 : BitVec 32 := 3#32
  let v5217 : BitVec 32 := Scalar.shrsi v5216 c3_i32_2990
  let c3_i32_2991 : BitVec 32 := 3#32
  let v5218 : BitVec 32 := Scalar.shli v5217 c3_i32_2991
  let v5219 : BitVec 32 := Scalar.addi c2952_i32_2992 v5218
  let v5220 : BitVec 32 := v5219
  let v5221 : Index := Scalar.indexCast v5220
  let c0_2993 : Index := 0#32
  ![v5221.toNat, 0]

def k0_chk106 (v5214 : BitVec 32) : Prop :=
  (8 ∣ (k0_mult170 v5214).toNat) ∧
  (∀ a, (k0_off277 v5214) a + S8x1024.size a ≤ S4608x1024.size a)
theorem k0_mult170_dvd : ∀ (v5214 : BitVec 32) (k0_hw106 : k0_chk106 v5214), 8 ∣ (k0_mult170 v5214).toNat := fun v5214 k0_hw106 => k0_hw106.1
theorem k0_off277_inb : ∀ (v5214 : BitVec 32) (k0_hw106 : k0_chk106 v5214), ∀ a, (k0_off277 v5214) a + S8x1024.size a ≤ S4608x1024.size a := fun v5214 k0_hw106 => k0_hw106.2

def k0_off278 (k0_t1 : Fin k0_t1_loop.trips) : Fin 2 → Nat :=
  let c42_2996 : Index := 42#32
  let c0_i32_205 : BitVec 32 := 0#32
  let c1_i32 : BitVec 32 := 1#32
  let arg21 : BitVec 32 := Scf.iv c0_i32_205 c1_i32 k0_t1
  let v5236 : Index := Scalar.indexCast arg21
  ![42, v5236.toNat]
def k0_mult171 (v5237 : BitVec 32) : BitVec 32 :=
  let c3024_i32_3001 : BitVec 32 := 3024#32
  let c14_i32_2997 : BitVec 32 := 14#32
  let v5238 : BitVec 32 := Scalar.shrsi v5237 c14_i32_2997
  let c127_i32_2998 : BitVec 32 := 127#32
  let v5239 : BitVec 32 := Scalar.andi v5238 c127_i32_2998
  let c3_i32_2999 : BitVec 32 := 3#32
  let v5240 : BitVec 32 := Scalar.shrsi v5239 c3_i32_2999
  let c3_i32_3000 : BitVec 32 := 3#32
  let v5241 : BitVec 32 := Scalar.shli v5240 c3_i32_3000
  let v5242 : BitVec 32 := Scalar.addi c3024_i32_3001 v5241
  v5242

def k0_off279 (v5237 : BitVec 32) : Fin 2 → Nat :=
  let c3024_i32_3001 : BitVec 32 := 3024#32
  let c14_i32_2997 : BitVec 32 := 14#32
  let v5238 : BitVec 32 := Scalar.shrsi v5237 c14_i32_2997
  let c127_i32_2998 : BitVec 32 := 127#32
  let v5239 : BitVec 32 := Scalar.andi v5238 c127_i32_2998
  let c3_i32_2999 : BitVec 32 := 3#32
  let v5240 : BitVec 32 := Scalar.shrsi v5239 c3_i32_2999
  let c3_i32_3000 : BitVec 32 := 3#32
  let v5241 : BitVec 32 := Scalar.shli v5240 c3_i32_3000
  let v5242 : BitVec 32 := Scalar.addi c3024_i32_3001 v5241
  let v5243 : BitVec 32 := v5242
  let v5244 : Index := Scalar.indexCast v5243
  let c0_3002 : Index := 0#32
  ![v5244.toNat, 0]

def k0_chk107 (v5237 : BitVec 32) : Prop :=
  (8 ∣ (k0_mult171 v5237).toNat) ∧
  (∀ a, (k0_off279 v5237) a + S8x1024.size a ≤ S4608x1024.size a)
theorem k0_mult171_dvd : ∀ (v5237 : BitVec 32) (k0_hw107 : k0_chk107 v5237), 8 ∣ (k0_mult171 v5237).toNat := fun v5237 k0_hw107 => k0_hw107.1
theorem k0_off279_inb : ∀ (v5237 : BitVec 32) (k0_hw107 : k0_chk107 v5237), ∀ a, (k0_off279 v5237) a + S8x1024.size a ≤ S4608x1024.size a := fun v5237 k0_hw107 => k0_hw107.2

def k0_off280 (k0_t1 : Fin k0_t1_loop.trips) : Fin 2 → Nat :=
  let c43_3005 : Index := 43#32
  let c0_i32_205 : BitVec 32 := 0#32
  let c1_i32 : BitVec 32 := 1#32
  let arg21 : BitVec 32 := Scf.iv c0_i32_205 c1_i32 k0_t1
  let v5259 : Index := Scalar.indexCast arg21
  ![43, v5259.toNat]
def k0_mult172 (v5260 : BitVec 32) : BitVec 32 :=
  let c3096_i32_3010 : BitVec 32 := 3096#32
  let c14_i32_3006 : BitVec 32 := 14#32
  let v5261 : BitVec 32 := Scalar.shrsi v5260 c14_i32_3006
  let c127_i32_3007 : BitVec 32 := 127#32
  let v5262 : BitVec 32 := Scalar.andi v5261 c127_i32_3007
  let c3_i32_3008 : BitVec 32 := 3#32
  let v5263 : BitVec 32 := Scalar.shrsi v5262 c3_i32_3008
  let c3_i32_3009 : BitVec 32 := 3#32
  let v5264 : BitVec 32 := Scalar.shli v5263 c3_i32_3009
  let v5265 : BitVec 32 := Scalar.addi c3096_i32_3010 v5264
  v5265

def k0_off281 (v5260 : BitVec 32) : Fin 2 → Nat :=
  let c3096_i32_3010 : BitVec 32 := 3096#32
  let c14_i32_3006 : BitVec 32 := 14#32
  let v5261 : BitVec 32 := Scalar.shrsi v5260 c14_i32_3006
  let c127_i32_3007 : BitVec 32 := 127#32
  let v5262 : BitVec 32 := Scalar.andi v5261 c127_i32_3007
  let c3_i32_3008 : BitVec 32 := 3#32
  let v5263 : BitVec 32 := Scalar.shrsi v5262 c3_i32_3008
  let c3_i32_3009 : BitVec 32 := 3#32
  let v5264 : BitVec 32 := Scalar.shli v5263 c3_i32_3009
  let v5265 : BitVec 32 := Scalar.addi c3096_i32_3010 v5264
  let v5266 : BitVec 32 := v5265
  let v5267 : Index := Scalar.indexCast v5266
  let c0_3011 : Index := 0#32
  ![v5267.toNat, 0]

def k0_chk108 (v5260 : BitVec 32) : Prop :=
  (8 ∣ (k0_mult172 v5260).toNat) ∧
  (∀ a, (k0_off281 v5260) a + S8x1024.size a ≤ S4608x1024.size a)
theorem k0_mult172_dvd : ∀ (v5260 : BitVec 32) (k0_hw108 : k0_chk108 v5260), 8 ∣ (k0_mult172 v5260).toNat := fun v5260 k0_hw108 => k0_hw108.1
theorem k0_off281_inb : ∀ (v5260 : BitVec 32) (k0_hw108 : k0_chk108 v5260), ∀ a, (k0_off281 v5260) a + S8x1024.size a ≤ S4608x1024.size a := fun v5260 k0_hw108 => k0_hw108.2

def k0_off282 (k0_t1 : Fin k0_t1_loop.trips) : Fin 2 → Nat :=
  let c44_3014 : Index := 44#32
  let c0_i32_205 : BitVec 32 := 0#32
  let c1_i32 : BitVec 32 := 1#32
  let arg21 : BitVec 32 := Scf.iv c0_i32_205 c1_i32 k0_t1
  let v5282 : Index := Scalar.indexCast arg21
  ![44, v5282.toNat]
def k0_mult173 (v5283 : BitVec 32) : BitVec 32 :=
  let c3168_i32_3019 : BitVec 32 := 3168#32
  let c14_i32_3015 : BitVec 32 := 14#32
  let v5284 : BitVec 32 := Scalar.shrsi v5283 c14_i32_3015
  let c127_i32_3016 : BitVec 32 := 127#32
  let v5285 : BitVec 32 := Scalar.andi v5284 c127_i32_3016
  let c3_i32_3017 : BitVec 32 := 3#32
  let v5286 : BitVec 32 := Scalar.shrsi v5285 c3_i32_3017
  let c3_i32_3018 : BitVec 32 := 3#32
  let v5287 : BitVec 32 := Scalar.shli v5286 c3_i32_3018
  let v5288 : BitVec 32 := Scalar.addi c3168_i32_3019 v5287
  v5288

def k0_off283 (v5283 : BitVec 32) : Fin 2 → Nat :=
  let c3168_i32_3019 : BitVec 32 := 3168#32
  let c14_i32_3015 : BitVec 32 := 14#32
  let v5284 : BitVec 32 := Scalar.shrsi v5283 c14_i32_3015
  let c127_i32_3016 : BitVec 32 := 127#32
  let v5285 : BitVec 32 := Scalar.andi v5284 c127_i32_3016
  let c3_i32_3017 : BitVec 32 := 3#32
  let v5286 : BitVec 32 := Scalar.shrsi v5285 c3_i32_3017
  let c3_i32_3018 : BitVec 32 := 3#32
  let v5287 : BitVec 32 := Scalar.shli v5286 c3_i32_3018
  let v5288 : BitVec 32 := Scalar.addi c3168_i32_3019 v5287
  let v5289 : BitVec 32 := v5288
  let v5290 : Index := Scalar.indexCast v5289
  let c0_3020 : Index := 0#32
  ![v5290.toNat, 0]

def k0_chk109 (v5283 : BitVec 32) : Prop :=
  (8 ∣ (k0_mult173 v5283).toNat) ∧
  (∀ a, (k0_off283 v5283) a + S8x1024.size a ≤ S4608x1024.size a)
theorem k0_mult173_dvd : ∀ (v5283 : BitVec 32) (k0_hw109 : k0_chk109 v5283), 8 ∣ (k0_mult173 v5283).toNat := fun v5283 k0_hw109 => k0_hw109.1
theorem k0_off283_inb : ∀ (v5283 : BitVec 32) (k0_hw109 : k0_chk109 v5283), ∀ a, (k0_off283 v5283) a + S8x1024.size a ≤ S4608x1024.size a := fun v5283 k0_hw109 => k0_hw109.2

def k0_off284 (k0_t1 : Fin k0_t1_loop.trips) : Fin 2 → Nat :=
  let c45_3023 : Index := 45#32
  let c0_i32_205 : BitVec 32 := 0#32
  let c1_i32 : BitVec 32 := 1#32
  let arg21 : BitVec 32 := Scf.iv c0_i32_205 c1_i32 k0_t1
  let v5305 : Index := Scalar.indexCast arg21
  ![45, v5305.toNat]
def k0_mult174 (v5306 : BitVec 32) : BitVec 32 :=
  let c3240_i32_3028 : BitVec 32 := 3240#32
  let c14_i32_3024 : BitVec 32 := 14#32
  let v5307 : BitVec 32 := Scalar.shrsi v5306 c14_i32_3024
  let c127_i32_3025 : BitVec 32 := 127#32
  let v5308 : BitVec 32 := Scalar.andi v5307 c127_i32_3025
  let c3_i32_3026 : BitVec 32 := 3#32
  let v5309 : BitVec 32 := Scalar.shrsi v5308 c3_i32_3026
  let c3_i32_3027 : BitVec 32 := 3#32
  let v5310 : BitVec 32 := Scalar.shli v5309 c3_i32_3027
  let v5311 : BitVec 32 := Scalar.addi c3240_i32_3028 v5310
  v5311

def k0_off285 (v5306 : BitVec 32) : Fin 2 → Nat :=
  let c3240_i32_3028 : BitVec 32 := 3240#32
  let c14_i32_3024 : BitVec 32 := 14#32
  let v5307 : BitVec 32 := Scalar.shrsi v5306 c14_i32_3024
  let c127_i32_3025 : BitVec 32 := 127#32
  let v5308 : BitVec 32 := Scalar.andi v5307 c127_i32_3025
  let c3_i32_3026 : BitVec 32 := 3#32
  let v5309 : BitVec 32 := Scalar.shrsi v5308 c3_i32_3026
  let c3_i32_3027 : BitVec 32 := 3#32
  let v5310 : BitVec 32 := Scalar.shli v5309 c3_i32_3027
  let v5311 : BitVec 32 := Scalar.addi c3240_i32_3028 v5310
  let v5312 : BitVec 32 := v5311
  let v5313 : Index := Scalar.indexCast v5312
  let c0_3029 : Index := 0#32
  ![v5313.toNat, 0]

def k0_chk110 (v5306 : BitVec 32) : Prop :=
  (8 ∣ (k0_mult174 v5306).toNat) ∧
  (∀ a, (k0_off285 v5306) a + S8x1024.size a ≤ S4608x1024.size a)
theorem k0_mult174_dvd : ∀ (v5306 : BitVec 32) (k0_hw110 : k0_chk110 v5306), 8 ∣ (k0_mult174 v5306).toNat := fun v5306 k0_hw110 => k0_hw110.1
theorem k0_off285_inb : ∀ (v5306 : BitVec 32) (k0_hw110 : k0_chk110 v5306), ∀ a, (k0_off285 v5306) a + S8x1024.size a ≤ S4608x1024.size a := fun v5306 k0_hw110 => k0_hw110.2

def k0_off286 (k0_t1 : Fin k0_t1_loop.trips) : Fin 2 → Nat :=
  let c46_3032 : Index := 46#32
  let c0_i32_205 : BitVec 32 := 0#32
  let c1_i32 : BitVec 32 := 1#32
  let arg21 : BitVec 32 := Scf.iv c0_i32_205 c1_i32 k0_t1
  let v5328 : Index := Scalar.indexCast arg21
  ![46, v5328.toNat]
def k0_mult175 (v5329 : BitVec 32) : BitVec 32 :=
  let c3312_i32_3037 : BitVec 32 := 3312#32
  let c14_i32_3033 : BitVec 32 := 14#32
  let v5330 : BitVec 32 := Scalar.shrsi v5329 c14_i32_3033
  let c127_i32_3034 : BitVec 32 := 127#32
  let v5331 : BitVec 32 := Scalar.andi v5330 c127_i32_3034
  let c3_i32_3035 : BitVec 32 := 3#32
  let v5332 : BitVec 32 := Scalar.shrsi v5331 c3_i32_3035
  let c3_i32_3036 : BitVec 32 := 3#32
  let v5333 : BitVec 32 := Scalar.shli v5332 c3_i32_3036
  let v5334 : BitVec 32 := Scalar.addi c3312_i32_3037 v5333
  v5334

def k0_off287 (v5329 : BitVec 32) : Fin 2 → Nat :=
  let c3312_i32_3037 : BitVec 32 := 3312#32
  let c14_i32_3033 : BitVec 32 := 14#32
  let v5330 : BitVec 32 := Scalar.shrsi v5329 c14_i32_3033
  let c127_i32_3034 : BitVec 32 := 127#32
  let v5331 : BitVec 32 := Scalar.andi v5330 c127_i32_3034
  let c3_i32_3035 : BitVec 32 := 3#32
  let v5332 : BitVec 32 := Scalar.shrsi v5331 c3_i32_3035
  let c3_i32_3036 : BitVec 32 := 3#32
  let v5333 : BitVec 32 := Scalar.shli v5332 c3_i32_3036
  let v5334 : BitVec 32 := Scalar.addi c3312_i32_3037 v5333
  let v5335 : BitVec 32 := v5334
  let v5336 : Index := Scalar.indexCast v5335
  let c0_3038 : Index := 0#32
  ![v5336.toNat, 0]

def k0_chk111 (v5329 : BitVec 32) : Prop :=
  (8 ∣ (k0_mult175 v5329).toNat) ∧
  (∀ a, (k0_off287 v5329) a + S8x1024.size a ≤ S4608x1024.size a)
theorem k0_mult175_dvd : ∀ (v5329 : BitVec 32) (k0_hw111 : k0_chk111 v5329), 8 ∣ (k0_mult175 v5329).toNat := fun v5329 k0_hw111 => k0_hw111.1
theorem k0_off287_inb : ∀ (v5329 : BitVec 32) (k0_hw111 : k0_chk111 v5329), ∀ a, (k0_off287 v5329) a + S8x1024.size a ≤ S4608x1024.size a := fun v5329 k0_hw111 => k0_hw111.2

def k0_off288 (k0_t1 : Fin k0_t1_loop.trips) : Fin 2 → Nat :=
  let c47_3041 : Index := 47#32
  let c0_i32_205 : BitVec 32 := 0#32
  let c1_i32 : BitVec 32 := 1#32
  let arg21 : BitVec 32 := Scf.iv c0_i32_205 c1_i32 k0_t1
  let v5351 : Index := Scalar.indexCast arg21
  ![47, v5351.toNat]
def k0_mult176 (v5352 : BitVec 32) : BitVec 32 :=
  let c3384_i32_3046 : BitVec 32 := 3384#32
  let c14_i32_3042 : BitVec 32 := 14#32
  let v5353 : BitVec 32 := Scalar.shrsi v5352 c14_i32_3042
  let c127_i32_3043 : BitVec 32 := 127#32
  let v5354 : BitVec 32 := Scalar.andi v5353 c127_i32_3043
  let c3_i32_3044 : BitVec 32 := 3#32
  let v5355 : BitVec 32 := Scalar.shrsi v5354 c3_i32_3044
  let c3_i32_3045 : BitVec 32 := 3#32
  let v5356 : BitVec 32 := Scalar.shli v5355 c3_i32_3045
  let v5357 : BitVec 32 := Scalar.addi c3384_i32_3046 v5356
  v5357

def k0_off289 (v5352 : BitVec 32) : Fin 2 → Nat :=
  let c3384_i32_3046 : BitVec 32 := 3384#32
  let c14_i32_3042 : BitVec 32 := 14#32
  let v5353 : BitVec 32 := Scalar.shrsi v5352 c14_i32_3042
  let c127_i32_3043 : BitVec 32 := 127#32
  let v5354 : BitVec 32 := Scalar.andi v5353 c127_i32_3043
  let c3_i32_3044 : BitVec 32 := 3#32
  let v5355 : BitVec 32 := Scalar.shrsi v5354 c3_i32_3044
  let c3_i32_3045 : BitVec 32 := 3#32
  let v5356 : BitVec 32 := Scalar.shli v5355 c3_i32_3045
  let v5357 : BitVec 32 := Scalar.addi c3384_i32_3046 v5356
  let v5358 : BitVec 32 := v5357
  let v5359 : Index := Scalar.indexCast v5358
  let c0_3047 : Index := 0#32
  ![v5359.toNat, 0]

def k0_chk112 (v5352 : BitVec 32) : Prop :=
  (8 ∣ (k0_mult176 v5352).toNat) ∧
  (∀ a, (k0_off289 v5352) a + S8x1024.size a ≤ S4608x1024.size a)
theorem k0_mult176_dvd : ∀ (v5352 : BitVec 32) (k0_hw112 : k0_chk112 v5352), 8 ∣ (k0_mult176 v5352).toNat := fun v5352 k0_hw112 => k0_hw112.1
theorem k0_off289_inb : ∀ (v5352 : BitVec 32) (k0_hw112 : k0_chk112 v5352), ∀ a, (k0_off289 v5352) a + S8x1024.size a ≤ S4608x1024.size a := fun v5352 k0_hw112 => k0_hw112.2

def k0_off290 (k0_t1 : Fin k0_t1_loop.trips) : Fin 2 → Nat :=
  let c48_3050 : Index := 48#32
  let c0_i32_205 : BitVec 32 := 0#32
  let c1_i32 : BitVec 32 := 1#32
  let arg21 : BitVec 32 := Scf.iv c0_i32_205 c1_i32 k0_t1
  let v5374 : Index := Scalar.indexCast arg21
  ![48, v5374.toNat]
def k0_mult177 (v5375 : BitVec 32) : BitVec 32 :=
  let c3456_i32_3055 : BitVec 32 := 3456#32
  let c14_i32_3051 : BitVec 32 := 14#32
  let v5376 : BitVec 32 := Scalar.shrsi v5375 c14_i32_3051
  let c127_i32_3052 : BitVec 32 := 127#32
  let v5377 : BitVec 32 := Scalar.andi v5376 c127_i32_3052
  let c3_i32_3053 : BitVec 32 := 3#32
  let v5378 : BitVec 32 := Scalar.shrsi v5377 c3_i32_3053
  let c3_i32_3054 : BitVec 32 := 3#32
  let v5379 : BitVec 32 := Scalar.shli v5378 c3_i32_3054
  let v5380 : BitVec 32 := Scalar.addi c3456_i32_3055 v5379
  v5380

def k0_off291 (v5375 : BitVec 32) : Fin 2 → Nat :=
  let c3456_i32_3055 : BitVec 32 := 3456#32
  let c14_i32_3051 : BitVec 32 := 14#32
  let v5376 : BitVec 32 := Scalar.shrsi v5375 c14_i32_3051
  let c127_i32_3052 : BitVec 32 := 127#32
  let v5377 : BitVec 32 := Scalar.andi v5376 c127_i32_3052
  let c3_i32_3053 : BitVec 32 := 3#32
  let v5378 : BitVec 32 := Scalar.shrsi v5377 c3_i32_3053
  let c3_i32_3054 : BitVec 32 := 3#32
  let v5379 : BitVec 32 := Scalar.shli v5378 c3_i32_3054
  let v5380 : BitVec 32 := Scalar.addi c3456_i32_3055 v5379
  let v5381 : BitVec 32 := v5380
  let v5382 : Index := Scalar.indexCast v5381
  let c0_3056 : Index := 0#32
  ![v5382.toNat, 0]

def k0_chk113 (v5375 : BitVec 32) : Prop :=
  (8 ∣ (k0_mult177 v5375).toNat) ∧
  (∀ a, (k0_off291 v5375) a + S8x1024.size a ≤ S4608x1024.size a)
theorem k0_mult177_dvd : ∀ (v5375 : BitVec 32) (k0_hw113 : k0_chk113 v5375), 8 ∣ (k0_mult177 v5375).toNat := fun v5375 k0_hw113 => k0_hw113.1
theorem k0_off291_inb : ∀ (v5375 : BitVec 32) (k0_hw113 : k0_chk113 v5375), ∀ a, (k0_off291 v5375) a + S8x1024.size a ≤ S4608x1024.size a := fun v5375 k0_hw113 => k0_hw113.2

def k0_off292 (k0_t1 : Fin k0_t1_loop.trips) : Fin 2 → Nat :=
  let c49_3059 : Index := 49#32
  let c0_i32_205 : BitVec 32 := 0#32
  let c1_i32 : BitVec 32 := 1#32
  let arg21 : BitVec 32 := Scf.iv c0_i32_205 c1_i32 k0_t1
  let v5397 : Index := Scalar.indexCast arg21
  ![49, v5397.toNat]
def k0_mult178 (v5398 : BitVec 32) : BitVec 32 :=
  let c3528_i32_3064 : BitVec 32 := 3528#32
  let c14_i32_3060 : BitVec 32 := 14#32
  let v5399 : BitVec 32 := Scalar.shrsi v5398 c14_i32_3060
  let c127_i32_3061 : BitVec 32 := 127#32
  let v5400 : BitVec 32 := Scalar.andi v5399 c127_i32_3061
  let c3_i32_3062 : BitVec 32 := 3#32
  let v5401 : BitVec 32 := Scalar.shrsi v5400 c3_i32_3062
  let c3_i32_3063 : BitVec 32 := 3#32
  let v5402 : BitVec 32 := Scalar.shli v5401 c3_i32_3063
  let v5403 : BitVec 32 := Scalar.addi c3528_i32_3064 v5402
  v5403

def k0_off293 (v5398 : BitVec 32) : Fin 2 → Nat :=
  let c3528_i32_3064 : BitVec 32 := 3528#32
  let c14_i32_3060 : BitVec 32 := 14#32
  let v5399 : BitVec 32 := Scalar.shrsi v5398 c14_i32_3060
  let c127_i32_3061 : BitVec 32 := 127#32
  let v5400 : BitVec 32 := Scalar.andi v5399 c127_i32_3061
  let c3_i32_3062 : BitVec 32 := 3#32
  let v5401 : BitVec 32 := Scalar.shrsi v5400 c3_i32_3062
  let c3_i32_3063 : BitVec 32 := 3#32
  let v5402 : BitVec 32 := Scalar.shli v5401 c3_i32_3063
  let v5403 : BitVec 32 := Scalar.addi c3528_i32_3064 v5402
  let v5404 : BitVec 32 := v5403
  let v5405 : Index := Scalar.indexCast v5404
  let c0_3065 : Index := 0#32
  ![v5405.toNat, 0]

def k0_chk114 (v5398 : BitVec 32) : Prop :=
  (8 ∣ (k0_mult178 v5398).toNat) ∧
  (∀ a, (k0_off293 v5398) a + S8x1024.size a ≤ S4608x1024.size a)
theorem k0_mult178_dvd : ∀ (v5398 : BitVec 32) (k0_hw114 : k0_chk114 v5398), 8 ∣ (k0_mult178 v5398).toNat := fun v5398 k0_hw114 => k0_hw114.1
theorem k0_off293_inb : ∀ (v5398 : BitVec 32) (k0_hw114 : k0_chk114 v5398), ∀ a, (k0_off293 v5398) a + S8x1024.size a ≤ S4608x1024.size a := fun v5398 k0_hw114 => k0_hw114.2

def k0_off294 (k0_t1 : Fin k0_t1_loop.trips) : Fin 2 → Nat :=
  let c50_3068 : Index := 50#32
  let c0_i32_205 : BitVec 32 := 0#32
  let c1_i32 : BitVec 32 := 1#32
  let arg21 : BitVec 32 := Scf.iv c0_i32_205 c1_i32 k0_t1
  let v5420 : Index := Scalar.indexCast arg21
  ![50, v5420.toNat]
def k0_mult179 (v5421 : BitVec 32) : BitVec 32 :=
  let c3600_i32_3073 : BitVec 32 := 3600#32
  let c14_i32_3069 : BitVec 32 := 14#32
  let v5422 : BitVec 32 := Scalar.shrsi v5421 c14_i32_3069
  let c127_i32_3070 : BitVec 32 := 127#32
  let v5423 : BitVec 32 := Scalar.andi v5422 c127_i32_3070
  let c3_i32_3071 : BitVec 32 := 3#32
  let v5424 : BitVec 32 := Scalar.shrsi v5423 c3_i32_3071
  let c3_i32_3072 : BitVec 32 := 3#32
  let v5425 : BitVec 32 := Scalar.shli v5424 c3_i32_3072
  let v5426 : BitVec 32 := Scalar.addi c3600_i32_3073 v5425
  v5426

def k0_off295 (v5421 : BitVec 32) : Fin 2 → Nat :=
  let c3600_i32_3073 : BitVec 32 := 3600#32
  let c14_i32_3069 : BitVec 32 := 14#32
  let v5422 : BitVec 32 := Scalar.shrsi v5421 c14_i32_3069
  let c127_i32_3070 : BitVec 32 := 127#32
  let v5423 : BitVec 32 := Scalar.andi v5422 c127_i32_3070
  let c3_i32_3071 : BitVec 32 := 3#32
  let v5424 : BitVec 32 := Scalar.shrsi v5423 c3_i32_3071
  let c3_i32_3072 : BitVec 32 := 3#32
  let v5425 : BitVec 32 := Scalar.shli v5424 c3_i32_3072
  let v5426 : BitVec 32 := Scalar.addi c3600_i32_3073 v5425
  let v5427 : BitVec 32 := v5426
  let v5428 : Index := Scalar.indexCast v5427
  let c0_3074 : Index := 0#32
  ![v5428.toNat, 0]

def k0_chk115 (v5421 : BitVec 32) : Prop :=
  (8 ∣ (k0_mult179 v5421).toNat) ∧
  (∀ a, (k0_off295 v5421) a + S8x1024.size a ≤ S4608x1024.size a)
theorem k0_mult179_dvd : ∀ (v5421 : BitVec 32) (k0_hw115 : k0_chk115 v5421), 8 ∣ (k0_mult179 v5421).toNat := fun v5421 k0_hw115 => k0_hw115.1
theorem k0_off295_inb : ∀ (v5421 : BitVec 32) (k0_hw115 : k0_chk115 v5421), ∀ a, (k0_off295 v5421) a + S8x1024.size a ≤ S4608x1024.size a := fun v5421 k0_hw115 => k0_hw115.2

def k0_off296 (k0_t1 : Fin k0_t1_loop.trips) : Fin 2 → Nat :=
  let c51_3077 : Index := 51#32
  let c0_i32_205 : BitVec 32 := 0#32
  let c1_i32 : BitVec 32 := 1#32
  let arg21 : BitVec 32 := Scf.iv c0_i32_205 c1_i32 k0_t1
  let v5443 : Index := Scalar.indexCast arg21
  ![51, v5443.toNat]
def k0_mult180 (v5444 : BitVec 32) : BitVec 32 :=
  let c3672_i32_3082 : BitVec 32 := 3672#32
  let c14_i32_3078 : BitVec 32 := 14#32
  let v5445 : BitVec 32 := Scalar.shrsi v5444 c14_i32_3078
  let c127_i32_3079 : BitVec 32 := 127#32
  let v5446 : BitVec 32 := Scalar.andi v5445 c127_i32_3079
  let c3_i32_3080 : BitVec 32 := 3#32
  let v5447 : BitVec 32 := Scalar.shrsi v5446 c3_i32_3080
  let c3_i32_3081 : BitVec 32 := 3#32
  let v5448 : BitVec 32 := Scalar.shli v5447 c3_i32_3081
  let v5449 : BitVec 32 := Scalar.addi c3672_i32_3082 v5448
  v5449

def k0_off297 (v5444 : BitVec 32) : Fin 2 → Nat :=
  let c3672_i32_3082 : BitVec 32 := 3672#32
  let c14_i32_3078 : BitVec 32 := 14#32
  let v5445 : BitVec 32 := Scalar.shrsi v5444 c14_i32_3078
  let c127_i32_3079 : BitVec 32 := 127#32
  let v5446 : BitVec 32 := Scalar.andi v5445 c127_i32_3079
  let c3_i32_3080 : BitVec 32 := 3#32
  let v5447 : BitVec 32 := Scalar.shrsi v5446 c3_i32_3080
  let c3_i32_3081 : BitVec 32 := 3#32
  let v5448 : BitVec 32 := Scalar.shli v5447 c3_i32_3081
  let v5449 : BitVec 32 := Scalar.addi c3672_i32_3082 v5448
  let v5450 : BitVec 32 := v5449
  let v5451 : Index := Scalar.indexCast v5450
  let c0_3083 : Index := 0#32
  ![v5451.toNat, 0]

def k0_chk116 (v5444 : BitVec 32) : Prop :=
  (8 ∣ (k0_mult180 v5444).toNat) ∧
  (∀ a, (k0_off297 v5444) a + S8x1024.size a ≤ S4608x1024.size a)
theorem k0_mult180_dvd : ∀ (v5444 : BitVec 32) (k0_hw116 : k0_chk116 v5444), 8 ∣ (k0_mult180 v5444).toNat := fun v5444 k0_hw116 => k0_hw116.1
theorem k0_off297_inb : ∀ (v5444 : BitVec 32) (k0_hw116 : k0_chk116 v5444), ∀ a, (k0_off297 v5444) a + S8x1024.size a ≤ S4608x1024.size a := fun v5444 k0_hw116 => k0_hw116.2

def k0_off298 (k0_t1 : Fin k0_t1_loop.trips) : Fin 2 → Nat :=
  let c52_3086 : Index := 52#32
  let c0_i32_205 : BitVec 32 := 0#32
  let c1_i32 : BitVec 32 := 1#32
  let arg21 : BitVec 32 := Scf.iv c0_i32_205 c1_i32 k0_t1
  let v5466 : Index := Scalar.indexCast arg21
  ![52, v5466.toNat]
def k0_mult181 (v5467 : BitVec 32) : BitVec 32 :=
  let c3744_i32_3091 : BitVec 32 := 3744#32
  let c14_i32_3087 : BitVec 32 := 14#32
  let v5468 : BitVec 32 := Scalar.shrsi v5467 c14_i32_3087
  let c127_i32_3088 : BitVec 32 := 127#32
  let v5469 : BitVec 32 := Scalar.andi v5468 c127_i32_3088
  let c3_i32_3089 : BitVec 32 := 3#32
  let v5470 : BitVec 32 := Scalar.shrsi v5469 c3_i32_3089
  let c3_i32_3090 : BitVec 32 := 3#32
  let v5471 : BitVec 32 := Scalar.shli v5470 c3_i32_3090
  let v5472 : BitVec 32 := Scalar.addi c3744_i32_3091 v5471
  v5472

def k0_off299 (v5467 : BitVec 32) : Fin 2 → Nat :=
  let c3744_i32_3091 : BitVec 32 := 3744#32
  let c14_i32_3087 : BitVec 32 := 14#32
  let v5468 : BitVec 32 := Scalar.shrsi v5467 c14_i32_3087
  let c127_i32_3088 : BitVec 32 := 127#32
  let v5469 : BitVec 32 := Scalar.andi v5468 c127_i32_3088
  let c3_i32_3089 : BitVec 32 := 3#32
  let v5470 : BitVec 32 := Scalar.shrsi v5469 c3_i32_3089
  let c3_i32_3090 : BitVec 32 := 3#32
  let v5471 : BitVec 32 := Scalar.shli v5470 c3_i32_3090
  let v5472 : BitVec 32 := Scalar.addi c3744_i32_3091 v5471
  let v5473 : BitVec 32 := v5472
  let v5474 : Index := Scalar.indexCast v5473
  let c0_3092 : Index := 0#32
  ![v5474.toNat, 0]

def k0_chk117 (v5467 : BitVec 32) : Prop :=
  (8 ∣ (k0_mult181 v5467).toNat) ∧
  (∀ a, (k0_off299 v5467) a + S8x1024.size a ≤ S4608x1024.size a)
theorem k0_mult181_dvd : ∀ (v5467 : BitVec 32) (k0_hw117 : k0_chk117 v5467), 8 ∣ (k0_mult181 v5467).toNat := fun v5467 k0_hw117 => k0_hw117.1
theorem k0_off299_inb : ∀ (v5467 : BitVec 32) (k0_hw117 : k0_chk117 v5467), ∀ a, (k0_off299 v5467) a + S8x1024.size a ≤ S4608x1024.size a := fun v5467 k0_hw117 => k0_hw117.2

def k0_off300 (k0_t1 : Fin k0_t1_loop.trips) : Fin 2 → Nat :=
  let c53_3095 : Index := 53#32
  let c0_i32_205 : BitVec 32 := 0#32
  let c1_i32 : BitVec 32 := 1#32
  let arg21 : BitVec 32 := Scf.iv c0_i32_205 c1_i32 k0_t1
  let v5489 : Index := Scalar.indexCast arg21
  ![53, v5489.toNat]
def k0_mult182 (v5490 : BitVec 32) : BitVec 32 :=
  let c3816_i32_3100 : BitVec 32 := 3816#32
  let c14_i32_3096 : BitVec 32 := 14#32
  let v5491 : BitVec 32 := Scalar.shrsi v5490 c14_i32_3096
  let c127_i32_3097 : BitVec 32 := 127#32
  let v5492 : BitVec 32 := Scalar.andi v5491 c127_i32_3097
  let c3_i32_3098 : BitVec 32 := 3#32
  let v5493 : BitVec 32 := Scalar.shrsi v5492 c3_i32_3098
  let c3_i32_3099 : BitVec 32 := 3#32
  let v5494 : BitVec 32 := Scalar.shli v5493 c3_i32_3099
  let v5495 : BitVec 32 := Scalar.addi c3816_i32_3100 v5494
  v5495

def k0_off301 (v5490 : BitVec 32) : Fin 2 → Nat :=
  let c3816_i32_3100 : BitVec 32 := 3816#32
  let c14_i32_3096 : BitVec 32 := 14#32
  let v5491 : BitVec 32 := Scalar.shrsi v5490 c14_i32_3096
  let c127_i32_3097 : BitVec 32 := 127#32
  let v5492 : BitVec 32 := Scalar.andi v5491 c127_i32_3097
  let c3_i32_3098 : BitVec 32 := 3#32
  let v5493 : BitVec 32 := Scalar.shrsi v5492 c3_i32_3098
  let c3_i32_3099 : BitVec 32 := 3#32
  let v5494 : BitVec 32 := Scalar.shli v5493 c3_i32_3099
  let v5495 : BitVec 32 := Scalar.addi c3816_i32_3100 v5494
  let v5496 : BitVec 32 := v5495
  let v5497 : Index := Scalar.indexCast v5496
  let c0_3101 : Index := 0#32
  ![v5497.toNat, 0]

def k0_chk118 (v5490 : BitVec 32) : Prop :=
  (8 ∣ (k0_mult182 v5490).toNat) ∧
  (∀ a, (k0_off301 v5490) a + S8x1024.size a ≤ S4608x1024.size a)
theorem k0_mult182_dvd : ∀ (v5490 : BitVec 32) (k0_hw118 : k0_chk118 v5490), 8 ∣ (k0_mult182 v5490).toNat := fun v5490 k0_hw118 => k0_hw118.1
theorem k0_off301_inb : ∀ (v5490 : BitVec 32) (k0_hw118 : k0_chk118 v5490), ∀ a, (k0_off301 v5490) a + S8x1024.size a ≤ S4608x1024.size a := fun v5490 k0_hw118 => k0_hw118.2

def k0_off302 (k0_t1 : Fin k0_t1_loop.trips) : Fin 2 → Nat :=
  let c54_3104 : Index := 54#32
  let c0_i32_205 : BitVec 32 := 0#32
  let c1_i32 : BitVec 32 := 1#32
  let arg21 : BitVec 32 := Scf.iv c0_i32_205 c1_i32 k0_t1
  let v5512 : Index := Scalar.indexCast arg21
  ![54, v5512.toNat]
def k0_mult183 (v5513 : BitVec 32) : BitVec 32 :=
  let c3888_i32_3109 : BitVec 32 := 3888#32
  let c14_i32_3105 : BitVec 32 := 14#32
  let v5514 : BitVec 32 := Scalar.shrsi v5513 c14_i32_3105
  let c127_i32_3106 : BitVec 32 := 127#32
  let v5515 : BitVec 32 := Scalar.andi v5514 c127_i32_3106
  let c3_i32_3107 : BitVec 32 := 3#32
  let v5516 : BitVec 32 := Scalar.shrsi v5515 c3_i32_3107
  let c3_i32_3108 : BitVec 32 := 3#32
  let v5517 : BitVec 32 := Scalar.shli v5516 c3_i32_3108
  let v5518 : BitVec 32 := Scalar.addi c3888_i32_3109 v5517
  v5518

def k0_off303 (v5513 : BitVec 32) : Fin 2 → Nat :=
  let c3888_i32_3109 : BitVec 32 := 3888#32
  let c14_i32_3105 : BitVec 32 := 14#32
  let v5514 : BitVec 32 := Scalar.shrsi v5513 c14_i32_3105
  let c127_i32_3106 : BitVec 32 := 127#32
  let v5515 : BitVec 32 := Scalar.andi v5514 c127_i32_3106
  let c3_i32_3107 : BitVec 32 := 3#32
  let v5516 : BitVec 32 := Scalar.shrsi v5515 c3_i32_3107
  let c3_i32_3108 : BitVec 32 := 3#32
  let v5517 : BitVec 32 := Scalar.shli v5516 c3_i32_3108
  let v5518 : BitVec 32 := Scalar.addi c3888_i32_3109 v5517
  let v5519 : BitVec 32 := v5518
  let v5520 : Index := Scalar.indexCast v5519
  let c0_3110 : Index := 0#32
  ![v5520.toNat, 0]

def k0_chk119 (v5513 : BitVec 32) : Prop :=
  (8 ∣ (k0_mult183 v5513).toNat) ∧
  (∀ a, (k0_off303 v5513) a + S8x1024.size a ≤ S4608x1024.size a)
theorem k0_mult183_dvd : ∀ (v5513 : BitVec 32) (k0_hw119 : k0_chk119 v5513), 8 ∣ (k0_mult183 v5513).toNat := fun v5513 k0_hw119 => k0_hw119.1
theorem k0_off303_inb : ∀ (v5513 : BitVec 32) (k0_hw119 : k0_chk119 v5513), ∀ a, (k0_off303 v5513) a + S8x1024.size a ≤ S4608x1024.size a := fun v5513 k0_hw119 => k0_hw119.2

def k0_off304 (k0_t1 : Fin k0_t1_loop.trips) : Fin 2 → Nat :=
  let c55_3113 : Index := 55#32
  let c0_i32_205 : BitVec 32 := 0#32
  let c1_i32 : BitVec 32 := 1#32
  let arg21 : BitVec 32 := Scf.iv c0_i32_205 c1_i32 k0_t1
  let v5535 : Index := Scalar.indexCast arg21
  ![55, v5535.toNat]
def k0_mult184 (v5536 : BitVec 32) : BitVec 32 :=
  let c3960_i32_3118 : BitVec 32 := 3960#32
  let c14_i32_3114 : BitVec 32 := 14#32
  let v5537 : BitVec 32 := Scalar.shrsi v5536 c14_i32_3114
  let c127_i32_3115 : BitVec 32 := 127#32
  let v5538 : BitVec 32 := Scalar.andi v5537 c127_i32_3115
  let c3_i32_3116 : BitVec 32 := 3#32
  let v5539 : BitVec 32 := Scalar.shrsi v5538 c3_i32_3116
  let c3_i32_3117 : BitVec 32 := 3#32
  let v5540 : BitVec 32 := Scalar.shli v5539 c3_i32_3117
  let v5541 : BitVec 32 := Scalar.addi c3960_i32_3118 v5540
  v5541

def k0_off305 (v5536 : BitVec 32) : Fin 2 → Nat :=
  let c3960_i32_3118 : BitVec 32 := 3960#32
  let c14_i32_3114 : BitVec 32 := 14#32
  let v5537 : BitVec 32 := Scalar.shrsi v5536 c14_i32_3114
  let c127_i32_3115 : BitVec 32 := 127#32
  let v5538 : BitVec 32 := Scalar.andi v5537 c127_i32_3115
  let c3_i32_3116 : BitVec 32 := 3#32
  let v5539 : BitVec 32 := Scalar.shrsi v5538 c3_i32_3116
  let c3_i32_3117 : BitVec 32 := 3#32
  let v5540 : BitVec 32 := Scalar.shli v5539 c3_i32_3117
  let v5541 : BitVec 32 := Scalar.addi c3960_i32_3118 v5540
  let v5542 : BitVec 32 := v5541
  let v5543 : Index := Scalar.indexCast v5542
  let c0_3119 : Index := 0#32
  ![v5543.toNat, 0]

def k0_chk120 (v5536 : BitVec 32) : Prop :=
  (8 ∣ (k0_mult184 v5536).toNat) ∧
  (∀ a, (k0_off305 v5536) a + S8x1024.size a ≤ S4608x1024.size a)
theorem k0_mult184_dvd : ∀ (v5536 : BitVec 32) (k0_hw120 : k0_chk120 v5536), 8 ∣ (k0_mult184 v5536).toNat := fun v5536 k0_hw120 => k0_hw120.1
theorem k0_off305_inb : ∀ (v5536 : BitVec 32) (k0_hw120 : k0_chk120 v5536), ∀ a, (k0_off305 v5536) a + S8x1024.size a ≤ S4608x1024.size a := fun v5536 k0_hw120 => k0_hw120.2

def k0_off306 (k0_t1 : Fin k0_t1_loop.trips) : Fin 2 → Nat :=
  let c56_3122 : Index := 56#32
  let c0_i32_205 : BitVec 32 := 0#32
  let c1_i32 : BitVec 32 := 1#32
  let arg21 : BitVec 32 := Scf.iv c0_i32_205 c1_i32 k0_t1
  let v5558 : Index := Scalar.indexCast arg21
  ![56, v5558.toNat]
def k0_mult185 (v5559 : BitVec 32) : BitVec 32 :=
  let c4032_i32_3127 : BitVec 32 := 4032#32
  let c14_i32_3123 : BitVec 32 := 14#32
  let v5560 : BitVec 32 := Scalar.shrsi v5559 c14_i32_3123
  let c127_i32_3124 : BitVec 32 := 127#32
  let v5561 : BitVec 32 := Scalar.andi v5560 c127_i32_3124
  let c3_i32_3125 : BitVec 32 := 3#32
  let v5562 : BitVec 32 := Scalar.shrsi v5561 c3_i32_3125
  let c3_i32_3126 : BitVec 32 := 3#32
  let v5563 : BitVec 32 := Scalar.shli v5562 c3_i32_3126
  let v5564 : BitVec 32 := Scalar.addi c4032_i32_3127 v5563
  v5564

def k0_off307 (v5559 : BitVec 32) : Fin 2 → Nat :=
  let c4032_i32_3127 : BitVec 32 := 4032#32
  let c14_i32_3123 : BitVec 32 := 14#32
  let v5560 : BitVec 32 := Scalar.shrsi v5559 c14_i32_3123
  let c127_i32_3124 : BitVec 32 := 127#32
  let v5561 : BitVec 32 := Scalar.andi v5560 c127_i32_3124
  let c3_i32_3125 : BitVec 32 := 3#32
  let v5562 : BitVec 32 := Scalar.shrsi v5561 c3_i32_3125
  let c3_i32_3126 : BitVec 32 := 3#32
  let v5563 : BitVec 32 := Scalar.shli v5562 c3_i32_3126
  let v5564 : BitVec 32 := Scalar.addi c4032_i32_3127 v5563
  let v5565 : BitVec 32 := v5564
  let v5566 : Index := Scalar.indexCast v5565
  let c0_3128 : Index := 0#32
  ![v5566.toNat, 0]

def k0_chk121 (v5559 : BitVec 32) : Prop :=
  (8 ∣ (k0_mult185 v5559).toNat) ∧
  (∀ a, (k0_off307 v5559) a + S8x1024.size a ≤ S4608x1024.size a)
theorem k0_mult185_dvd : ∀ (v5559 : BitVec 32) (k0_hw121 : k0_chk121 v5559), 8 ∣ (k0_mult185 v5559).toNat := fun v5559 k0_hw121 => k0_hw121.1
theorem k0_off307_inb : ∀ (v5559 : BitVec 32) (k0_hw121 : k0_chk121 v5559), ∀ a, (k0_off307 v5559) a + S8x1024.size a ≤ S4608x1024.size a := fun v5559 k0_hw121 => k0_hw121.2

def k0_off308 (k0_t1 : Fin k0_t1_loop.trips) : Fin 2 → Nat :=
  let c57_3131 : Index := 57#32
  let c0_i32_205 : BitVec 32 := 0#32
  let c1_i32 : BitVec 32 := 1#32
  let arg21 : BitVec 32 := Scf.iv c0_i32_205 c1_i32 k0_t1
  let v5581 : Index := Scalar.indexCast arg21
  ![57, v5581.toNat]
def k0_mult186 (v5582 : BitVec 32) : BitVec 32 :=
  let c4104_i32_3136 : BitVec 32 := 4104#32
  let c14_i32_3132 : BitVec 32 := 14#32
  let v5583 : BitVec 32 := Scalar.shrsi v5582 c14_i32_3132
  let c127_i32_3133 : BitVec 32 := 127#32
  let v5584 : BitVec 32 := Scalar.andi v5583 c127_i32_3133
  let c3_i32_3134 : BitVec 32 := 3#32
  let v5585 : BitVec 32 := Scalar.shrsi v5584 c3_i32_3134
  let c3_i32_3135 : BitVec 32 := 3#32
  let v5586 : BitVec 32 := Scalar.shli v5585 c3_i32_3135
  let v5587 : BitVec 32 := Scalar.addi c4104_i32_3136 v5586
  v5587

def k0_off309 (v5582 : BitVec 32) : Fin 2 → Nat :=
  let c4104_i32_3136 : BitVec 32 := 4104#32
  let c14_i32_3132 : BitVec 32 := 14#32
  let v5583 : BitVec 32 := Scalar.shrsi v5582 c14_i32_3132
  let c127_i32_3133 : BitVec 32 := 127#32
  let v5584 : BitVec 32 := Scalar.andi v5583 c127_i32_3133
  let c3_i32_3134 : BitVec 32 := 3#32
  let v5585 : BitVec 32 := Scalar.shrsi v5584 c3_i32_3134
  let c3_i32_3135 : BitVec 32 := 3#32
  let v5586 : BitVec 32 := Scalar.shli v5585 c3_i32_3135
  let v5587 : BitVec 32 := Scalar.addi c4104_i32_3136 v5586
  let v5588 : BitVec 32 := v5587
  let v5589 : Index := Scalar.indexCast v5588
  let c0_3137 : Index := 0#32
  ![v5589.toNat, 0]

def k0_chk122 (v5582 : BitVec 32) : Prop :=
  (8 ∣ (k0_mult186 v5582).toNat) ∧
  (∀ a, (k0_off309 v5582) a + S8x1024.size a ≤ S4608x1024.size a)
theorem k0_mult186_dvd : ∀ (v5582 : BitVec 32) (k0_hw122 : k0_chk122 v5582), 8 ∣ (k0_mult186 v5582).toNat := fun v5582 k0_hw122 => k0_hw122.1
theorem k0_off309_inb : ∀ (v5582 : BitVec 32) (k0_hw122 : k0_chk122 v5582), ∀ a, (k0_off309 v5582) a + S8x1024.size a ≤ S4608x1024.size a := fun v5582 k0_hw122 => k0_hw122.2

def k0_off310 (k0_t1 : Fin k0_t1_loop.trips) : Fin 2 → Nat :=
  let c58_3140 : Index := 58#32
  let c0_i32_205 : BitVec 32 := 0#32
  let c1_i32 : BitVec 32 := 1#32
  let arg21 : BitVec 32 := Scf.iv c0_i32_205 c1_i32 k0_t1
  let v5604 : Index := Scalar.indexCast arg21
  ![58, v5604.toNat]
def k0_mult187 (v5605 : BitVec 32) : BitVec 32 :=
  let c4176_i32_3145 : BitVec 32 := 4176#32
  let c14_i32_3141 : BitVec 32 := 14#32
  let v5606 : BitVec 32 := Scalar.shrsi v5605 c14_i32_3141
  let c127_i32_3142 : BitVec 32 := 127#32
  let v5607 : BitVec 32 := Scalar.andi v5606 c127_i32_3142
  let c3_i32_3143 : BitVec 32 := 3#32
  let v5608 : BitVec 32 := Scalar.shrsi v5607 c3_i32_3143
  let c3_i32_3144 : BitVec 32 := 3#32
  let v5609 : BitVec 32 := Scalar.shli v5608 c3_i32_3144
  let v5610 : BitVec 32 := Scalar.addi c4176_i32_3145 v5609
  v5610

def k0_off311 (v5605 : BitVec 32) : Fin 2 → Nat :=
  let c4176_i32_3145 : BitVec 32 := 4176#32
  let c14_i32_3141 : BitVec 32 := 14#32
  let v5606 : BitVec 32 := Scalar.shrsi v5605 c14_i32_3141
  let c127_i32_3142 : BitVec 32 := 127#32
  let v5607 : BitVec 32 := Scalar.andi v5606 c127_i32_3142
  let c3_i32_3143 : BitVec 32 := 3#32
  let v5608 : BitVec 32 := Scalar.shrsi v5607 c3_i32_3143
  let c3_i32_3144 : BitVec 32 := 3#32
  let v5609 : BitVec 32 := Scalar.shli v5608 c3_i32_3144
  let v5610 : BitVec 32 := Scalar.addi c4176_i32_3145 v5609
  let v5611 : BitVec 32 := v5610
  let v5612 : Index := Scalar.indexCast v5611
  let c0_3146 : Index := 0#32
  ![v5612.toNat, 0]

def k0_chk123 (v5605 : BitVec 32) : Prop :=
  (8 ∣ (k0_mult187 v5605).toNat) ∧
  (∀ a, (k0_off311 v5605) a + S8x1024.size a ≤ S4608x1024.size a)
theorem k0_mult187_dvd : ∀ (v5605 : BitVec 32) (k0_hw123 : k0_chk123 v5605), 8 ∣ (k0_mult187 v5605).toNat := fun v5605 k0_hw123 => k0_hw123.1
theorem k0_off311_inb : ∀ (v5605 : BitVec 32) (k0_hw123 : k0_chk123 v5605), ∀ a, (k0_off311 v5605) a + S8x1024.size a ≤ S4608x1024.size a := fun v5605 k0_hw123 => k0_hw123.2

def k0_off312 (k0_t1 : Fin k0_t1_loop.trips) : Fin 2 → Nat :=
  let c59_3149 : Index := 59#32
  let c0_i32_205 : BitVec 32 := 0#32
  let c1_i32 : BitVec 32 := 1#32
  let arg21 : BitVec 32 := Scf.iv c0_i32_205 c1_i32 k0_t1
  let v5627 : Index := Scalar.indexCast arg21
  ![59, v5627.toNat]
def k0_mult188 (v5628 : BitVec 32) : BitVec 32 :=
  let c4248_i32_3154 : BitVec 32 := 4248#32
  let c14_i32_3150 : BitVec 32 := 14#32
  let v5629 : BitVec 32 := Scalar.shrsi v5628 c14_i32_3150
  let c127_i32_3151 : BitVec 32 := 127#32
  let v5630 : BitVec 32 := Scalar.andi v5629 c127_i32_3151
  let c3_i32_3152 : BitVec 32 := 3#32
  let v5631 : BitVec 32 := Scalar.shrsi v5630 c3_i32_3152
  let c3_i32_3153 : BitVec 32 := 3#32
  let v5632 : BitVec 32 := Scalar.shli v5631 c3_i32_3153
  let v5633 : BitVec 32 := Scalar.addi c4248_i32_3154 v5632
  v5633

def k0_off313 (v5628 : BitVec 32) : Fin 2 → Nat :=
  let c4248_i32_3154 : BitVec 32 := 4248#32
  let c14_i32_3150 : BitVec 32 := 14#32
  let v5629 : BitVec 32 := Scalar.shrsi v5628 c14_i32_3150
  let c127_i32_3151 : BitVec 32 := 127#32
  let v5630 : BitVec 32 := Scalar.andi v5629 c127_i32_3151
  let c3_i32_3152 : BitVec 32 := 3#32
  let v5631 : BitVec 32 := Scalar.shrsi v5630 c3_i32_3152
  let c3_i32_3153 : BitVec 32 := 3#32
  let v5632 : BitVec 32 := Scalar.shli v5631 c3_i32_3153
  let v5633 : BitVec 32 := Scalar.addi c4248_i32_3154 v5632
  let v5634 : BitVec 32 := v5633
  let v5635 : Index := Scalar.indexCast v5634
  let c0_3155 : Index := 0#32
  ![v5635.toNat, 0]

def k0_chk124 (v5628 : BitVec 32) : Prop :=
  (8 ∣ (k0_mult188 v5628).toNat) ∧
  (∀ a, (k0_off313 v5628) a + S8x1024.size a ≤ S4608x1024.size a)
theorem k0_mult188_dvd : ∀ (v5628 : BitVec 32) (k0_hw124 : k0_chk124 v5628), 8 ∣ (k0_mult188 v5628).toNat := fun v5628 k0_hw124 => k0_hw124.1
theorem k0_off313_inb : ∀ (v5628 : BitVec 32) (k0_hw124 : k0_chk124 v5628), ∀ a, (k0_off313 v5628) a + S8x1024.size a ≤ S4608x1024.size a := fun v5628 k0_hw124 => k0_hw124.2

def k0_off314 (k0_t1 : Fin k0_t1_loop.trips) : Fin 2 → Nat :=
  let c60_3158 : Index := 60#32
  let c0_i32_205 : BitVec 32 := 0#32
  let c1_i32 : BitVec 32 := 1#32
  let arg21 : BitVec 32 := Scf.iv c0_i32_205 c1_i32 k0_t1
  let v5650 : Index := Scalar.indexCast arg21
  ![60, v5650.toNat]
def k0_mult189 (v5651 : BitVec 32) : BitVec 32 :=
  let c4320_i32_3163 : BitVec 32 := 4320#32
  let c14_i32_3159 : BitVec 32 := 14#32
  let v5652 : BitVec 32 := Scalar.shrsi v5651 c14_i32_3159
  let c127_i32_3160 : BitVec 32 := 127#32
  let v5653 : BitVec 32 := Scalar.andi v5652 c127_i32_3160
  let c3_i32_3161 : BitVec 32 := 3#32
  let v5654 : BitVec 32 := Scalar.shrsi v5653 c3_i32_3161
  let c3_i32_3162 : BitVec 32 := 3#32
  let v5655 : BitVec 32 := Scalar.shli v5654 c3_i32_3162
  let v5656 : BitVec 32 := Scalar.addi c4320_i32_3163 v5655
  v5656

def k0_off315 (v5651 : BitVec 32) : Fin 2 → Nat :=
  let c4320_i32_3163 : BitVec 32 := 4320#32
  let c14_i32_3159 : BitVec 32 := 14#32
  let v5652 : BitVec 32 := Scalar.shrsi v5651 c14_i32_3159
  let c127_i32_3160 : BitVec 32 := 127#32
  let v5653 : BitVec 32 := Scalar.andi v5652 c127_i32_3160
  let c3_i32_3161 : BitVec 32 := 3#32
  let v5654 : BitVec 32 := Scalar.shrsi v5653 c3_i32_3161
  let c3_i32_3162 : BitVec 32 := 3#32
  let v5655 : BitVec 32 := Scalar.shli v5654 c3_i32_3162
  let v5656 : BitVec 32 := Scalar.addi c4320_i32_3163 v5655
  let v5657 : BitVec 32 := v5656
  let v5658 : Index := Scalar.indexCast v5657
  let c0_3164 : Index := 0#32
  ![v5658.toNat, 0]

def k0_chk125 (v5651 : BitVec 32) : Prop :=
  (8 ∣ (k0_mult189 v5651).toNat) ∧
  (∀ a, (k0_off315 v5651) a + S8x1024.size a ≤ S4608x1024.size a)
theorem k0_mult189_dvd : ∀ (v5651 : BitVec 32) (k0_hw125 : k0_chk125 v5651), 8 ∣ (k0_mult189 v5651).toNat := fun v5651 k0_hw125 => k0_hw125.1
theorem k0_off315_inb : ∀ (v5651 : BitVec 32) (k0_hw125 : k0_chk125 v5651), ∀ a, (k0_off315 v5651) a + S8x1024.size a ≤ S4608x1024.size a := fun v5651 k0_hw125 => k0_hw125.2

def k0_off316 (k0_t1 : Fin k0_t1_loop.trips) : Fin 2 → Nat :=
  let c61_3167 : Index := 61#32
  let c0_i32_205 : BitVec 32 := 0#32
  let c1_i32 : BitVec 32 := 1#32
  let arg21 : BitVec 32 := Scf.iv c0_i32_205 c1_i32 k0_t1
  let v5673 : Index := Scalar.indexCast arg21
  ![61, v5673.toNat]
def k0_mult190 (v5674 : BitVec 32) : BitVec 32 :=
  let c4392_i32_3172 : BitVec 32 := 4392#32
  let c14_i32_3168 : BitVec 32 := 14#32
  let v5675 : BitVec 32 := Scalar.shrsi v5674 c14_i32_3168
  let c127_i32_3169 : BitVec 32 := 127#32
  let v5676 : BitVec 32 := Scalar.andi v5675 c127_i32_3169
  let c3_i32_3170 : BitVec 32 := 3#32
  let v5677 : BitVec 32 := Scalar.shrsi v5676 c3_i32_3170
  let c3_i32_3171 : BitVec 32 := 3#32
  let v5678 : BitVec 32 := Scalar.shli v5677 c3_i32_3171
  let v5679 : BitVec 32 := Scalar.addi c4392_i32_3172 v5678
  v5679

def k0_off317 (v5674 : BitVec 32) : Fin 2 → Nat :=
  let c4392_i32_3172 : BitVec 32 := 4392#32
  let c14_i32_3168 : BitVec 32 := 14#32
  let v5675 : BitVec 32 := Scalar.shrsi v5674 c14_i32_3168
  let c127_i32_3169 : BitVec 32 := 127#32
  let v5676 : BitVec 32 := Scalar.andi v5675 c127_i32_3169
  let c3_i32_3170 : BitVec 32 := 3#32
  let v5677 : BitVec 32 := Scalar.shrsi v5676 c3_i32_3170
  let c3_i32_3171 : BitVec 32 := 3#32
  let v5678 : BitVec 32 := Scalar.shli v5677 c3_i32_3171
  let v5679 : BitVec 32 := Scalar.addi c4392_i32_3172 v5678
  let v5680 : BitVec 32 := v5679
  let v5681 : Index := Scalar.indexCast v5680
  let c0_3173 : Index := 0#32
  ![v5681.toNat, 0]

def k0_chk126 (v5674 : BitVec 32) : Prop :=
  (8 ∣ (k0_mult190 v5674).toNat) ∧
  (∀ a, (k0_off317 v5674) a + S8x1024.size a ≤ S4608x1024.size a)
theorem k0_mult190_dvd : ∀ (v5674 : BitVec 32) (k0_hw126 : k0_chk126 v5674), 8 ∣ (k0_mult190 v5674).toNat := fun v5674 k0_hw126 => k0_hw126.1
theorem k0_off317_inb : ∀ (v5674 : BitVec 32) (k0_hw126 : k0_chk126 v5674), ∀ a, (k0_off317 v5674) a + S8x1024.size a ≤ S4608x1024.size a := fun v5674 k0_hw126 => k0_hw126.2

def k0_off318 (k0_t1 : Fin k0_t1_loop.trips) : Fin 2 → Nat :=
  let c62_3176 : Index := 62#32
  let c0_i32_205 : BitVec 32 := 0#32
  let c1_i32 : BitVec 32 := 1#32
  let arg21 : BitVec 32 := Scf.iv c0_i32_205 c1_i32 k0_t1
  let v5696 : Index := Scalar.indexCast arg21
  ![62, v5696.toNat]
def k0_mult191 (v5697 : BitVec 32) : BitVec 32 :=
  let c4464_i32_3181 : BitVec 32 := 4464#32
  let c14_i32_3177 : BitVec 32 := 14#32
  let v5698 : BitVec 32 := Scalar.shrsi v5697 c14_i32_3177
  let c127_i32_3178 : BitVec 32 := 127#32
  let v5699 : BitVec 32 := Scalar.andi v5698 c127_i32_3178
  let c3_i32_3179 : BitVec 32 := 3#32
  let v5700 : BitVec 32 := Scalar.shrsi v5699 c3_i32_3179
  let c3_i32_3180 : BitVec 32 := 3#32
  let v5701 : BitVec 32 := Scalar.shli v5700 c3_i32_3180
  let v5702 : BitVec 32 := Scalar.addi c4464_i32_3181 v5701
  v5702

def k0_off319 (v5697 : BitVec 32) : Fin 2 → Nat :=
  let c4464_i32_3181 : BitVec 32 := 4464#32
  let c14_i32_3177 : BitVec 32 := 14#32
  let v5698 : BitVec 32 := Scalar.shrsi v5697 c14_i32_3177
  let c127_i32_3178 : BitVec 32 := 127#32
  let v5699 : BitVec 32 := Scalar.andi v5698 c127_i32_3178
  let c3_i32_3179 : BitVec 32 := 3#32
  let v5700 : BitVec 32 := Scalar.shrsi v5699 c3_i32_3179
  let c3_i32_3180 : BitVec 32 := 3#32
  let v5701 : BitVec 32 := Scalar.shli v5700 c3_i32_3180
  let v5702 : BitVec 32 := Scalar.addi c4464_i32_3181 v5701
  let v5703 : BitVec 32 := v5702
  let v5704 : Index := Scalar.indexCast v5703
  let c0_3182 : Index := 0#32
  ![v5704.toNat, 0]

def k0_chk127 (v5697 : BitVec 32) : Prop :=
  (8 ∣ (k0_mult191 v5697).toNat) ∧
  (∀ a, (k0_off319 v5697) a + S8x1024.size a ≤ S4608x1024.size a)
theorem k0_mult191_dvd : ∀ (v5697 : BitVec 32) (k0_hw127 : k0_chk127 v5697), 8 ∣ (k0_mult191 v5697).toNat := fun v5697 k0_hw127 => k0_hw127.1
theorem k0_off319_inb : ∀ (v5697 : BitVec 32) (k0_hw127 : k0_chk127 v5697), ∀ a, (k0_off319 v5697) a + S8x1024.size a ≤ S4608x1024.size a := fun v5697 k0_hw127 => k0_hw127.2

def k0_off320 (k0_t1 : Fin k0_t1_loop.trips) : Fin 2 → Nat :=
  let c63_3185 : Index := 63#32
  let c0_i32_205 : BitVec 32 := 0#32
  let c1_i32 : BitVec 32 := 1#32
  let arg21 : BitVec 32 := Scf.iv c0_i32_205 c1_i32 k0_t1
  let v5719 : Index := Scalar.indexCast arg21
  ![63, v5719.toNat]
def k0_mult192 (v5720 : BitVec 32) : BitVec 32 :=
  let c4536_i32_3190 : BitVec 32 := 4536#32
  let c14_i32_3186 : BitVec 32 := 14#32
  let v5721 : BitVec 32 := Scalar.shrsi v5720 c14_i32_3186
  let c127_i32_3187 : BitVec 32 := 127#32
  let v5722 : BitVec 32 := Scalar.andi v5721 c127_i32_3187
  let c3_i32_3188 : BitVec 32 := 3#32
  let v5723 : BitVec 32 := Scalar.shrsi v5722 c3_i32_3188
  let c3_i32_3189 : BitVec 32 := 3#32
  let v5724 : BitVec 32 := Scalar.shli v5723 c3_i32_3189
  let v5725 : BitVec 32 := Scalar.addi c4536_i32_3190 v5724
  v5725

def k0_off321 (v5720 : BitVec 32) : Fin 2 → Nat :=
  let c4536_i32_3190 : BitVec 32 := 4536#32
  let c14_i32_3186 : BitVec 32 := 14#32
  let v5721 : BitVec 32 := Scalar.shrsi v5720 c14_i32_3186
  let c127_i32_3187 : BitVec 32 := 127#32
  let v5722 : BitVec 32 := Scalar.andi v5721 c127_i32_3187
  let c3_i32_3188 : BitVec 32 := 3#32
  let v5723 : BitVec 32 := Scalar.shrsi v5722 c3_i32_3188
  let c3_i32_3189 : BitVec 32 := 3#32
  let v5724 : BitVec 32 := Scalar.shli v5723 c3_i32_3189
  let v5725 : BitVec 32 := Scalar.addi c4536_i32_3190 v5724
  let v5726 : BitVec 32 := v5725
  let v5727 : Index := Scalar.indexCast v5726
  let c0_3191 : Index := 0#32
  ![v5727.toNat, 0]

def k0_chk128 (v5720 : BitVec 32) : Prop :=
  (8 ∣ (k0_mult192 v5720).toNat) ∧
  (∀ a, (k0_off321 v5720) a + S8x1024.size a ≤ S4608x1024.size a)
theorem k0_mult192_dvd : ∀ (v5720 : BitVec 32) (k0_hw128 : k0_chk128 v5720), 8 ∣ (k0_mult192 v5720).toNat := fun v5720 k0_hw128 => k0_hw128.1
theorem k0_off321_inb : ∀ (v5720 : BitVec 32) (k0_hw128 : k0_chk128 v5720), ∀ a, (k0_off321 v5720) a + S8x1024.size a ≤ S4608x1024.size a := fun v5720 k0_hw128 => k0_hw128.2

def k0_mult193 (v455 : BitVec 32) : BitVec 32 :=
  let c0_i32_209 : BitVec 32 := 0#32
  let c14_i32 : BitVec 32 := 14#32
  let v456 : BitVec 32 := Scalar.shrsi v455 c14_i32
  let c127_i32 : BitVec 32 := 127#32
  let v457 : BitVec 32 := Scalar.andi v456 c127_i32
  let c3_i32 : BitVec 32 := 3#32
  let v458 : BitVec 32 := Scalar.shrsi v457 c3_i32
  let c3_i32_208 : BitVec 32 := 3#32
  let v459 : BitVec 32 := Scalar.shli v458 c3_i32_208
  let v460 : BitVec 32 := Scalar.addi c0_i32_209 v459
  v460

def k0_off322 (v455 : BitVec 32) : Fin 2 → Nat :=
  let c0_i32_209 : BitVec 32 := 0#32
  let c14_i32 : BitVec 32 := 14#32
  let v456 : BitVec 32 := Scalar.shrsi v455 c14_i32
  let c127_i32 : BitVec 32 := 127#32
  let v457 : BitVec 32 := Scalar.andi v456 c127_i32
  let c3_i32 : BitVec 32 := 3#32
  let v458 : BitVec 32 := Scalar.shrsi v457 c3_i32
  let c3_i32_208 : BitVec 32 := 3#32
  let v459 : BitVec 32 := Scalar.shli v458 c3_i32_208
  let v460 : BitVec 32 := Scalar.addi c0_i32_209 v459
  let v461 : BitVec 32 := v460
  let v462 : Index := Scalar.indexCast v461
  let c0_210 : Index := 0#32
  ![v462.toNat, 0]

def k0_chk129 (v455 : BitVec 32) : Prop :=
  (8 ∣ (k0_mult193 v455).toNat) ∧
  (∀ a, (k0_off322 v455) a + S8x1024.size a ≤ S4608x1024.size a)
theorem k0_mult193_dvd : ∀ (v455 : BitVec 32) (k0_hw129 : k0_chk129 v455), 8 ∣ (k0_mult193 v455).toNat := fun v455 k0_hw129 => k0_hw129.1
theorem k0_off322_inb : ∀ (v455 : BitVec 32) (k0_hw129 : k0_chk129 v455), ∀ a, (k0_off322 v455) a + S8x1024.size a ≤ S4608x1024.size a := fun v455 k0_hw129 => k0_hw129.2

def k0_mult194 (v469 : BitVec 32) : BitVec 32 :=
  let c72_i32 : BitVec 32 := 72#32
  let c14_i32_216 : BitVec 32 := 14#32
  let v470 : BitVec 32 := Scalar.shrsi v469 c14_i32_216
  let c127_i32_217 : BitVec 32 := 127#32
  let v471 : BitVec 32 := Scalar.andi v470 c127_i32_217
  let c3_i32_218 : BitVec 32 := 3#32
  let v472 : BitVec 32 := Scalar.shrsi v471 c3_i32_218
  let c3_i32_219 : BitVec 32 := 3#32
  let v473 : BitVec 32 := Scalar.shli v472 c3_i32_219
  let v474 : BitVec 32 := Scalar.addi c72_i32 v473
  v474

def k0_off323 (v469 : BitVec 32) : Fin 2 → Nat :=
  let c72_i32 : BitVec 32 := 72#32
  let c14_i32_216 : BitVec 32 := 14#32
  let v470 : BitVec 32 := Scalar.shrsi v469 c14_i32_216
  let c127_i32_217 : BitVec 32 := 127#32
  let v471 : BitVec 32 := Scalar.andi v470 c127_i32_217
  let c3_i32_218 : BitVec 32 := 3#32
  let v472 : BitVec 32 := Scalar.shrsi v471 c3_i32_218
  let c3_i32_219 : BitVec 32 := 3#32
  let v473 : BitVec 32 := Scalar.shli v472 c3_i32_219
  let v474 : BitVec 32 := Scalar.addi c72_i32 v473
  let v475 : BitVec 32 := v474
  let v476 : Index := Scalar.indexCast v475
  let c0_220 : Index := 0#32
  ![v476.toNat, 0]

def k0_chk130 (v469 : BitVec 32) : Prop :=
  (8 ∣ (k0_mult194 v469).toNat) ∧
  (∀ a, (k0_off323 v469) a + S8x1024.size a ≤ S4608x1024.size a)
theorem k0_mult194_dvd : ∀ (v469 : BitVec 32) (k0_hw130 : k0_chk130 v469), 8 ∣ (k0_mult194 v469).toNat := fun v469 k0_hw130 => k0_hw130.1
theorem k0_off323_inb : ∀ (v469 : BitVec 32) (k0_hw130 : k0_chk130 v469), ∀ a, (k0_off323 v469) a + S8x1024.size a ≤ S4608x1024.size a := fun v469 k0_hw130 => k0_hw130.2

def k0_mult195 (v483 : BitVec 32) : BitVec 32 :=
  let c144_i32 : BitVec 32 := 144#32
  let c14_i32_226 : BitVec 32 := 14#32
  let v484 : BitVec 32 := Scalar.shrsi v483 c14_i32_226
  let c127_i32_227 : BitVec 32 := 127#32
  let v485 : BitVec 32 := Scalar.andi v484 c127_i32_227
  let c3_i32_228 : BitVec 32 := 3#32
  let v486 : BitVec 32 := Scalar.shrsi v485 c3_i32_228
  let c3_i32_229 : BitVec 32 := 3#32
  let v487 : BitVec 32 := Scalar.shli v486 c3_i32_229
  let v488 : BitVec 32 := Scalar.addi c144_i32 v487
  v488

def k0_off324 (v483 : BitVec 32) : Fin 2 → Nat :=
  let c144_i32 : BitVec 32 := 144#32
  let c14_i32_226 : BitVec 32 := 14#32
  let v484 : BitVec 32 := Scalar.shrsi v483 c14_i32_226
  let c127_i32_227 : BitVec 32 := 127#32
  let v485 : BitVec 32 := Scalar.andi v484 c127_i32_227
  let c3_i32_228 : BitVec 32 := 3#32
  let v486 : BitVec 32 := Scalar.shrsi v485 c3_i32_228
  let c3_i32_229 : BitVec 32 := 3#32
  let v487 : BitVec 32 := Scalar.shli v486 c3_i32_229
  let v488 : BitVec 32 := Scalar.addi c144_i32 v487
  let v489 : BitVec 32 := v488
  let v490 : Index := Scalar.indexCast v489
  let c0_230 : Index := 0#32
  ![v490.toNat, 0]

def k0_chk131 (v483 : BitVec 32) : Prop :=
  (8 ∣ (k0_mult195 v483).toNat) ∧
  (∀ a, (k0_off324 v483) a + S8x1024.size a ≤ S4608x1024.size a)
theorem k0_mult195_dvd : ∀ (v483 : BitVec 32) (k0_hw131 : k0_chk131 v483), 8 ∣ (k0_mult195 v483).toNat := fun v483 k0_hw131 => k0_hw131.1
theorem k0_off324_inb : ∀ (v483 : BitVec 32) (k0_hw131 : k0_chk131 v483), ∀ a, (k0_off324 v483) a + S8x1024.size a ≤ S4608x1024.size a := fun v483 k0_hw131 => k0_hw131.2

def k0_mult196 (v497 : BitVec 32) : BitVec 32 :=
  let c216_i32 : BitVec 32 := 216#32
  let c14_i32_236 : BitVec 32 := 14#32
  let v498 : BitVec 32 := Scalar.shrsi v497 c14_i32_236
  let c127_i32_237 : BitVec 32 := 127#32
  let v499 : BitVec 32 := Scalar.andi v498 c127_i32_237
  let c3_i32_238 : BitVec 32 := 3#32
  let v500 : BitVec 32 := Scalar.shrsi v499 c3_i32_238
  let c3_i32_239 : BitVec 32 := 3#32
  let v501 : BitVec 32 := Scalar.shli v500 c3_i32_239
  let v502 : BitVec 32 := Scalar.addi c216_i32 v501
  v502

def k0_off325 (v497 : BitVec 32) : Fin 2 → Nat :=
  let c216_i32 : BitVec 32 := 216#32
  let c14_i32_236 : BitVec 32 := 14#32
  let v498 : BitVec 32 := Scalar.shrsi v497 c14_i32_236
  let c127_i32_237 : BitVec 32 := 127#32
  let v499 : BitVec 32 := Scalar.andi v498 c127_i32_237
  let c3_i32_238 : BitVec 32 := 3#32
  let v500 : BitVec 32 := Scalar.shrsi v499 c3_i32_238
  let c3_i32_239 : BitVec 32 := 3#32
  let v501 : BitVec 32 := Scalar.shli v500 c3_i32_239
  let v502 : BitVec 32 := Scalar.addi c216_i32 v501
  let v503 : BitVec 32 := v502
  let v504 : Index := Scalar.indexCast v503
  let c0_240 : Index := 0#32
  ![v504.toNat, 0]

def k0_chk132 (v497 : BitVec 32) : Prop :=
  (8 ∣ (k0_mult196 v497).toNat) ∧
  (∀ a, (k0_off325 v497) a + S8x1024.size a ≤ S4608x1024.size a)
theorem k0_mult196_dvd : ∀ (v497 : BitVec 32) (k0_hw132 : k0_chk132 v497), 8 ∣ (k0_mult196 v497).toNat := fun v497 k0_hw132 => k0_hw132.1
theorem k0_off325_inb : ∀ (v497 : BitVec 32) (k0_hw132 : k0_chk132 v497), ∀ a, (k0_off325 v497) a + S8x1024.size a ≤ S4608x1024.size a := fun v497 k0_hw132 => k0_hw132.2

def k0_mult197 (v511 : BitVec 32) : BitVec 32 :=
  let c288_i32 : BitVec 32 := 288#32
  let c14_i32_246 : BitVec 32 := 14#32
  let v512 : BitVec 32 := Scalar.shrsi v511 c14_i32_246
  let c127_i32_247 : BitVec 32 := 127#32
  let v513 : BitVec 32 := Scalar.andi v512 c127_i32_247
  let c3_i32_248 : BitVec 32 := 3#32
  let v514 : BitVec 32 := Scalar.shrsi v513 c3_i32_248
  let c3_i32_249 : BitVec 32 := 3#32
  let v515 : BitVec 32 := Scalar.shli v514 c3_i32_249
  let v516 : BitVec 32 := Scalar.addi c288_i32 v515
  v516

def k0_off326 (v511 : BitVec 32) : Fin 2 → Nat :=
  let c288_i32 : BitVec 32 := 288#32
  let c14_i32_246 : BitVec 32 := 14#32
  let v512 : BitVec 32 := Scalar.shrsi v511 c14_i32_246
  let c127_i32_247 : BitVec 32 := 127#32
  let v513 : BitVec 32 := Scalar.andi v512 c127_i32_247
  let c3_i32_248 : BitVec 32 := 3#32
  let v514 : BitVec 32 := Scalar.shrsi v513 c3_i32_248
  let c3_i32_249 : BitVec 32 := 3#32
  let v515 : BitVec 32 := Scalar.shli v514 c3_i32_249
  let v516 : BitVec 32 := Scalar.addi c288_i32 v515
  let v517 : BitVec 32 := v516
  let v518 : Index := Scalar.indexCast v517
  let c0_250 : Index := 0#32
  ![v518.toNat, 0]

def k0_chk133 (v511 : BitVec 32) : Prop :=
  (8 ∣ (k0_mult197 v511).toNat) ∧
  (∀ a, (k0_off326 v511) a + S8x1024.size a ≤ S4608x1024.size a)
theorem k0_mult197_dvd : ∀ (v511 : BitVec 32) (k0_hw133 : k0_chk133 v511), 8 ∣ (k0_mult197 v511).toNat := fun v511 k0_hw133 => k0_hw133.1
theorem k0_off326_inb : ∀ (v511 : BitVec 32) (k0_hw133 : k0_chk133 v511), ∀ a, (k0_off326 v511) a + S8x1024.size a ≤ S4608x1024.size a := fun v511 k0_hw133 => k0_hw133.2

def k0_mult198 (v525 : BitVec 32) : BitVec 32 :=
  let c360_i32 : BitVec 32 := 360#32
  let c14_i32_256 : BitVec 32 := 14#32
  let v526 : BitVec 32 := Scalar.shrsi v525 c14_i32_256
  let c127_i32_257 : BitVec 32 := 127#32
  let v527 : BitVec 32 := Scalar.andi v526 c127_i32_257
  let c3_i32_258 : BitVec 32 := 3#32
  let v528 : BitVec 32 := Scalar.shrsi v527 c3_i32_258
  let c3_i32_259 : BitVec 32 := 3#32
  let v529 : BitVec 32 := Scalar.shli v528 c3_i32_259
  let v530 : BitVec 32 := Scalar.addi c360_i32 v529
  v530

def k0_off327 (v525 : BitVec 32) : Fin 2 → Nat :=
  let c360_i32 : BitVec 32 := 360#32
  let c14_i32_256 : BitVec 32 := 14#32
  let v526 : BitVec 32 := Scalar.shrsi v525 c14_i32_256
  let c127_i32_257 : BitVec 32 := 127#32
  let v527 : BitVec 32 := Scalar.andi v526 c127_i32_257
  let c3_i32_258 : BitVec 32 := 3#32
  let v528 : BitVec 32 := Scalar.shrsi v527 c3_i32_258
  let c3_i32_259 : BitVec 32 := 3#32
  let v529 : BitVec 32 := Scalar.shli v528 c3_i32_259
  let v530 : BitVec 32 := Scalar.addi c360_i32 v529
  let v531 : BitVec 32 := v530
  let v532 : Index := Scalar.indexCast v531
  let c0_260 : Index := 0#32
  ![v532.toNat, 0]

def k0_chk134 (v525 : BitVec 32) : Prop :=
  (8 ∣ (k0_mult198 v525).toNat) ∧
  (∀ a, (k0_off327 v525) a + S8x1024.size a ≤ S4608x1024.size a)
theorem k0_mult198_dvd : ∀ (v525 : BitVec 32) (k0_hw134 : k0_chk134 v525), 8 ∣ (k0_mult198 v525).toNat := fun v525 k0_hw134 => k0_hw134.1
theorem k0_off327_inb : ∀ (v525 : BitVec 32) (k0_hw134 : k0_chk134 v525), ∀ a, (k0_off327 v525) a + S8x1024.size a ≤ S4608x1024.size a := fun v525 k0_hw134 => k0_hw134.2

def k0_mult199 (v539 : BitVec 32) : BitVec 32 :=
  let c432_i32 : BitVec 32 := 432#32
  let c14_i32_266 : BitVec 32 := 14#32
  let v540 : BitVec 32 := Scalar.shrsi v539 c14_i32_266
  let c127_i32_267 : BitVec 32 := 127#32
  let v541 : BitVec 32 := Scalar.andi v540 c127_i32_267
  let c3_i32_268 : BitVec 32 := 3#32
  let v542 : BitVec 32 := Scalar.shrsi v541 c3_i32_268
  let c3_i32_269 : BitVec 32 := 3#32
  let v543 : BitVec 32 := Scalar.shli v542 c3_i32_269
  let v544 : BitVec 32 := Scalar.addi c432_i32 v543
  v544

def k0_off328 (v539 : BitVec 32) : Fin 2 → Nat :=
  let c432_i32 : BitVec 32 := 432#32
  let c14_i32_266 : BitVec 32 := 14#32
  let v540 : BitVec 32 := Scalar.shrsi v539 c14_i32_266
  let c127_i32_267 : BitVec 32 := 127#32
  let v541 : BitVec 32 := Scalar.andi v540 c127_i32_267
  let c3_i32_268 : BitVec 32 := 3#32
  let v542 : BitVec 32 := Scalar.shrsi v541 c3_i32_268
  let c3_i32_269 : BitVec 32 := 3#32
  let v543 : BitVec 32 := Scalar.shli v542 c3_i32_269
  let v544 : BitVec 32 := Scalar.addi c432_i32 v543
  let v545 : BitVec 32 := v544
  let v546 : Index := Scalar.indexCast v545
  let c0_270 : Index := 0#32
  ![v546.toNat, 0]

def k0_chk135 (v539 : BitVec 32) : Prop :=
  (8 ∣ (k0_mult199 v539).toNat) ∧
  (∀ a, (k0_off328 v539) a + S8x1024.size a ≤ S4608x1024.size a)
theorem k0_mult199_dvd : ∀ (v539 : BitVec 32) (k0_hw135 : k0_chk135 v539), 8 ∣ (k0_mult199 v539).toNat := fun v539 k0_hw135 => k0_hw135.1
theorem k0_off328_inb : ∀ (v539 : BitVec 32) (k0_hw135 : k0_chk135 v539), ∀ a, (k0_off328 v539) a + S8x1024.size a ≤ S4608x1024.size a := fun v539 k0_hw135 => k0_hw135.2

def k0_mult200 (v553 : BitVec 32) : BitVec 32 :=
  let c504_i32 : BitVec 32 := 504#32
  let c14_i32_276 : BitVec 32 := 14#32
  let v554 : BitVec 32 := Scalar.shrsi v553 c14_i32_276
  let c127_i32_277 : BitVec 32 := 127#32
  let v555 : BitVec 32 := Scalar.andi v554 c127_i32_277
  let c3_i32_278 : BitVec 32 := 3#32
  let v556 : BitVec 32 := Scalar.shrsi v555 c3_i32_278
  let c3_i32_279 : BitVec 32 := 3#32
  let v557 : BitVec 32 := Scalar.shli v556 c3_i32_279
  let v558 : BitVec 32 := Scalar.addi c504_i32 v557
  v558

def k0_off329 (v553 : BitVec 32) : Fin 2 → Nat :=
  let c504_i32 : BitVec 32 := 504#32
  let c14_i32_276 : BitVec 32 := 14#32
  let v554 : BitVec 32 := Scalar.shrsi v553 c14_i32_276
  let c127_i32_277 : BitVec 32 := 127#32
  let v555 : BitVec 32 := Scalar.andi v554 c127_i32_277
  let c3_i32_278 : BitVec 32 := 3#32
  let v556 : BitVec 32 := Scalar.shrsi v555 c3_i32_278
  let c3_i32_279 : BitVec 32 := 3#32
  let v557 : BitVec 32 := Scalar.shli v556 c3_i32_279
  let v558 : BitVec 32 := Scalar.addi c504_i32 v557
  let v559 : BitVec 32 := v558
  let v560 : Index := Scalar.indexCast v559
  let c0_280 : Index := 0#32
  ![v560.toNat, 0]

def k0_chk136 (v553 : BitVec 32) : Prop :=
  (8 ∣ (k0_mult200 v553).toNat) ∧
  (∀ a, (k0_off329 v553) a + S8x1024.size a ≤ S4608x1024.size a)
theorem k0_mult200_dvd : ∀ (v553 : BitVec 32) (k0_hw136 : k0_chk136 v553), 8 ∣ (k0_mult200 v553).toNat := fun v553 k0_hw136 => k0_hw136.1
theorem k0_off329_inb : ∀ (v553 : BitVec 32) (k0_hw136 : k0_chk136 v553), ∀ a, (k0_off329 v553) a + S8x1024.size a ≤ S4608x1024.size a := fun v553 k0_hw136 => k0_hw136.2

def k0_mult201 (v567 : BitVec 32) : BitVec 32 :=
  let c576_i32 : BitVec 32 := 576#32
  let c14_i32_286 : BitVec 32 := 14#32
  let v568 : BitVec 32 := Scalar.shrsi v567 c14_i32_286
  let c127_i32_287 : BitVec 32 := 127#32
  let v569 : BitVec 32 := Scalar.andi v568 c127_i32_287
  let c3_i32_288 : BitVec 32 := 3#32
  let v570 : BitVec 32 := Scalar.shrsi v569 c3_i32_288
  let c3_i32_289 : BitVec 32 := 3#32
  let v571 : BitVec 32 := Scalar.shli v570 c3_i32_289
  let v572 : BitVec 32 := Scalar.addi c576_i32 v571
  v572

def k0_off330 (v567 : BitVec 32) : Fin 2 → Nat :=
  let c576_i32 : BitVec 32 := 576#32
  let c14_i32_286 : BitVec 32 := 14#32
  let v568 : BitVec 32 := Scalar.shrsi v567 c14_i32_286
  let c127_i32_287 : BitVec 32 := 127#32
  let v569 : BitVec 32 := Scalar.andi v568 c127_i32_287
  let c3_i32_288 : BitVec 32 := 3#32
  let v570 : BitVec 32 := Scalar.shrsi v569 c3_i32_288
  let c3_i32_289 : BitVec 32 := 3#32
  let v571 : BitVec 32 := Scalar.shli v570 c3_i32_289
  let v572 : BitVec 32 := Scalar.addi c576_i32 v571
  let v573 : BitVec 32 := v572
  let v574 : Index := Scalar.indexCast v573
  let c0_290 : Index := 0#32
  ![v574.toNat, 0]

def k0_chk137 (v567 : BitVec 32) : Prop :=
  (8 ∣ (k0_mult201 v567).toNat) ∧
  (∀ a, (k0_off330 v567) a + S8x1024.size a ≤ S4608x1024.size a)
theorem k0_mult201_dvd : ∀ (v567 : BitVec 32) (k0_hw137 : k0_chk137 v567), 8 ∣ (k0_mult201 v567).toNat := fun v567 k0_hw137 => k0_hw137.1
theorem k0_off330_inb : ∀ (v567 : BitVec 32) (k0_hw137 : k0_chk137 v567), ∀ a, (k0_off330 v567) a + S8x1024.size a ≤ S4608x1024.size a := fun v567 k0_hw137 => k0_hw137.2

def k0_mult202 (v581 : BitVec 32) : BitVec 32 :=
  let c648_i32 : BitVec 32 := 648#32
  let c14_i32_296 : BitVec 32 := 14#32
  let v582 : BitVec 32 := Scalar.shrsi v581 c14_i32_296
  let c127_i32_297 : BitVec 32 := 127#32
  let v583 : BitVec 32 := Scalar.andi v582 c127_i32_297
  let c3_i32_298 : BitVec 32 := 3#32
  let v584 : BitVec 32 := Scalar.shrsi v583 c3_i32_298
  let c3_i32_299 : BitVec 32 := 3#32
  let v585 : BitVec 32 := Scalar.shli v584 c3_i32_299
  let v586 : BitVec 32 := Scalar.addi c648_i32 v585
  v586

def k0_off331 (v581 : BitVec 32) : Fin 2 → Nat :=
  let c648_i32 : BitVec 32 := 648#32
  let c14_i32_296 : BitVec 32 := 14#32
  let v582 : BitVec 32 := Scalar.shrsi v581 c14_i32_296
  let c127_i32_297 : BitVec 32 := 127#32
  let v583 : BitVec 32 := Scalar.andi v582 c127_i32_297
  let c3_i32_298 : BitVec 32 := 3#32
  let v584 : BitVec 32 := Scalar.shrsi v583 c3_i32_298
  let c3_i32_299 : BitVec 32 := 3#32
  let v585 : BitVec 32 := Scalar.shli v584 c3_i32_299
  let v586 : BitVec 32 := Scalar.addi c648_i32 v585
  let v587 : BitVec 32 := v586
  let v588 : Index := Scalar.indexCast v587
  let c0_300 : Index := 0#32
  ![v588.toNat, 0]

def k0_chk138 (v581 : BitVec 32) : Prop :=
  (8 ∣ (k0_mult202 v581).toNat) ∧
  (∀ a, (k0_off331 v581) a + S8x1024.size a ≤ S4608x1024.size a)
theorem k0_mult202_dvd : ∀ (v581 : BitVec 32) (k0_hw138 : k0_chk138 v581), 8 ∣ (k0_mult202 v581).toNat := fun v581 k0_hw138 => k0_hw138.1
theorem k0_off331_inb : ∀ (v581 : BitVec 32) (k0_hw138 : k0_chk138 v581), ∀ a, (k0_off331 v581) a + S8x1024.size a ≤ S4608x1024.size a := fun v581 k0_hw138 => k0_hw138.2

def k0_mult203 (v595 : BitVec 32) : BitVec 32 :=
  let c720_i32 : BitVec 32 := 720#32
  let c14_i32_306 : BitVec 32 := 14#32
  let v596 : BitVec 32 := Scalar.shrsi v595 c14_i32_306
  let c127_i32_307 : BitVec 32 := 127#32
  let v597 : BitVec 32 := Scalar.andi v596 c127_i32_307
  let c3_i32_308 : BitVec 32 := 3#32
  let v598 : BitVec 32 := Scalar.shrsi v597 c3_i32_308
  let c3_i32_309 : BitVec 32 := 3#32
  let v599 : BitVec 32 := Scalar.shli v598 c3_i32_309
  let v600 : BitVec 32 := Scalar.addi c720_i32 v599
  v600

def k0_off332 (v595 : BitVec 32) : Fin 2 → Nat :=
  let c720_i32 : BitVec 32 := 720#32
  let c14_i32_306 : BitVec 32 := 14#32
  let v596 : BitVec 32 := Scalar.shrsi v595 c14_i32_306
  let c127_i32_307 : BitVec 32 := 127#32
  let v597 : BitVec 32 := Scalar.andi v596 c127_i32_307
  let c3_i32_308 : BitVec 32 := 3#32
  let v598 : BitVec 32 := Scalar.shrsi v597 c3_i32_308
  let c3_i32_309 : BitVec 32 := 3#32
  let v599 : BitVec 32 := Scalar.shli v598 c3_i32_309
  let v600 : BitVec 32 := Scalar.addi c720_i32 v599
  let v601 : BitVec 32 := v600
  let v602 : Index := Scalar.indexCast v601
  let c0_310 : Index := 0#32
  ![v602.toNat, 0]

def k0_chk139 (v595 : BitVec 32) : Prop :=
  (8 ∣ (k0_mult203 v595).toNat) ∧
  (∀ a, (k0_off332 v595) a + S8x1024.size a ≤ S4608x1024.size a)
theorem k0_mult203_dvd : ∀ (v595 : BitVec 32) (k0_hw139 : k0_chk139 v595), 8 ∣ (k0_mult203 v595).toNat := fun v595 k0_hw139 => k0_hw139.1
theorem k0_off332_inb : ∀ (v595 : BitVec 32) (k0_hw139 : k0_chk139 v595), ∀ a, (k0_off332 v595) a + S8x1024.size a ≤ S4608x1024.size a := fun v595 k0_hw139 => k0_hw139.2

def k0_mult204 (v609 : BitVec 32) : BitVec 32 :=
  let c792_i32 : BitVec 32 := 792#32
  let c14_i32_316 : BitVec 32 := 14#32
  let v610 : BitVec 32 := Scalar.shrsi v609 c14_i32_316
  let c127_i32_317 : BitVec 32 := 127#32
  let v611 : BitVec 32 := Scalar.andi v610 c127_i32_317
  let c3_i32_318 : BitVec 32 := 3#32
  let v612 : BitVec 32 := Scalar.shrsi v611 c3_i32_318
  let c3_i32_319 : BitVec 32 := 3#32
  let v613 : BitVec 32 := Scalar.shli v612 c3_i32_319
  let v614 : BitVec 32 := Scalar.addi c792_i32 v613
  v614

def k0_off333 (v609 : BitVec 32) : Fin 2 → Nat :=
  let c792_i32 : BitVec 32 := 792#32
  let c14_i32_316 : BitVec 32 := 14#32
  let v610 : BitVec 32 := Scalar.shrsi v609 c14_i32_316
  let c127_i32_317 : BitVec 32 := 127#32
  let v611 : BitVec 32 := Scalar.andi v610 c127_i32_317
  let c3_i32_318 : BitVec 32 := 3#32
  let v612 : BitVec 32 := Scalar.shrsi v611 c3_i32_318
  let c3_i32_319 : BitVec 32 := 3#32
  let v613 : BitVec 32 := Scalar.shli v612 c3_i32_319
  let v614 : BitVec 32 := Scalar.addi c792_i32 v613
  let v615 : BitVec 32 := v614
  let v616 : Index := Scalar.indexCast v615
  let c0_320 : Index := 0#32
  ![v616.toNat, 0]

def k0_chk140 (v609 : BitVec 32) : Prop :=
  (8 ∣ (k0_mult204 v609).toNat) ∧
  (∀ a, (k0_off333 v609) a + S8x1024.size a ≤ S4608x1024.size a)
theorem k0_mult204_dvd : ∀ (v609 : BitVec 32) (k0_hw140 : k0_chk140 v609), 8 ∣ (k0_mult204 v609).toNat := fun v609 k0_hw140 => k0_hw140.1
theorem k0_off333_inb : ∀ (v609 : BitVec 32) (k0_hw140 : k0_chk140 v609), ∀ a, (k0_off333 v609) a + S8x1024.size a ≤ S4608x1024.size a := fun v609 k0_hw140 => k0_hw140.2

def k0_mult205 (v623 : BitVec 32) : BitVec 32 :=
  let c864_i32 : BitVec 32 := 864#32
  let c14_i32_326 : BitVec 32 := 14#32
  let v624 : BitVec 32 := Scalar.shrsi v623 c14_i32_326
  let c127_i32_327 : BitVec 32 := 127#32
  let v625 : BitVec 32 := Scalar.andi v624 c127_i32_327
  let c3_i32_328 : BitVec 32 := 3#32
  let v626 : BitVec 32 := Scalar.shrsi v625 c3_i32_328
  let c3_i32_329 : BitVec 32 := 3#32
  let v627 : BitVec 32 := Scalar.shli v626 c3_i32_329
  let v628 : BitVec 32 := Scalar.addi c864_i32 v627
  v628

def k0_off334 (v623 : BitVec 32) : Fin 2 → Nat :=
  let c864_i32 : BitVec 32 := 864#32
  let c14_i32_326 : BitVec 32 := 14#32
  let v624 : BitVec 32 := Scalar.shrsi v623 c14_i32_326
  let c127_i32_327 : BitVec 32 := 127#32
  let v625 : BitVec 32 := Scalar.andi v624 c127_i32_327
  let c3_i32_328 : BitVec 32 := 3#32
  let v626 : BitVec 32 := Scalar.shrsi v625 c3_i32_328
  let c3_i32_329 : BitVec 32 := 3#32
  let v627 : BitVec 32 := Scalar.shli v626 c3_i32_329
  let v628 : BitVec 32 := Scalar.addi c864_i32 v627
  let v629 : BitVec 32 := v628
  let v630 : Index := Scalar.indexCast v629
  let c0_330 : Index := 0#32
  ![v630.toNat, 0]

def k0_chk141 (v623 : BitVec 32) : Prop :=
  (8 ∣ (k0_mult205 v623).toNat) ∧
  (∀ a, (k0_off334 v623) a + S8x1024.size a ≤ S4608x1024.size a)
theorem k0_mult205_dvd : ∀ (v623 : BitVec 32) (k0_hw141 : k0_chk141 v623), 8 ∣ (k0_mult205 v623).toNat := fun v623 k0_hw141 => k0_hw141.1
theorem k0_off334_inb : ∀ (v623 : BitVec 32) (k0_hw141 : k0_chk141 v623), ∀ a, (k0_off334 v623) a + S8x1024.size a ≤ S4608x1024.size a := fun v623 k0_hw141 => k0_hw141.2

def k0_mult206 (v637 : BitVec 32) : BitVec 32 :=
  let c936_i32 : BitVec 32 := 936#32
  let c14_i32_336 : BitVec 32 := 14#32
  let v638 : BitVec 32 := Scalar.shrsi v637 c14_i32_336
  let c127_i32_337 : BitVec 32 := 127#32
  let v639 : BitVec 32 := Scalar.andi v638 c127_i32_337
  let c3_i32_338 : BitVec 32 := 3#32
  let v640 : BitVec 32 := Scalar.shrsi v639 c3_i32_338
  let c3_i32_339 : BitVec 32 := 3#32
  let v641 : BitVec 32 := Scalar.shli v640 c3_i32_339
  let v642 : BitVec 32 := Scalar.addi c936_i32 v641
  v642

def k0_off335 (v637 : BitVec 32) : Fin 2 → Nat :=
  let c936_i32 : BitVec 32 := 936#32
  let c14_i32_336 : BitVec 32 := 14#32
  let v638 : BitVec 32 := Scalar.shrsi v637 c14_i32_336
  let c127_i32_337 : BitVec 32 := 127#32
  let v639 : BitVec 32 := Scalar.andi v638 c127_i32_337
  let c3_i32_338 : BitVec 32 := 3#32
  let v640 : BitVec 32 := Scalar.shrsi v639 c3_i32_338
  let c3_i32_339 : BitVec 32 := 3#32
  let v641 : BitVec 32 := Scalar.shli v640 c3_i32_339
  let v642 : BitVec 32 := Scalar.addi c936_i32 v641
  let v643 : BitVec 32 := v642
  let v644 : Index := Scalar.indexCast v643
  let c0_340 : Index := 0#32
  ![v644.toNat, 0]

def k0_chk142 (v637 : BitVec 32) : Prop :=
  (8 ∣ (k0_mult206 v637).toNat) ∧
  (∀ a, (k0_off335 v637) a + S8x1024.size a ≤ S4608x1024.size a)
theorem k0_mult206_dvd : ∀ (v637 : BitVec 32) (k0_hw142 : k0_chk142 v637), 8 ∣ (k0_mult206 v637).toNat := fun v637 k0_hw142 => k0_hw142.1
theorem k0_off335_inb : ∀ (v637 : BitVec 32) (k0_hw142 : k0_chk142 v637), ∀ a, (k0_off335 v637) a + S8x1024.size a ≤ S4608x1024.size a := fun v637 k0_hw142 => k0_hw142.2

def k0_mult207 (v651 : BitVec 32) : BitVec 32 :=
  let c1008_i32 : BitVec 32 := 1008#32
  let c14_i32_346 : BitVec 32 := 14#32
  let v652 : BitVec 32 := Scalar.shrsi v651 c14_i32_346
  let c127_i32_347 : BitVec 32 := 127#32
  let v653 : BitVec 32 := Scalar.andi v652 c127_i32_347
  let c3_i32_348 : BitVec 32 := 3#32
  let v654 : BitVec 32 := Scalar.shrsi v653 c3_i32_348
  let c3_i32_349 : BitVec 32 := 3#32
  let v655 : BitVec 32 := Scalar.shli v654 c3_i32_349
  let v656 : BitVec 32 := Scalar.addi c1008_i32 v655
  v656

def k0_off336 (v651 : BitVec 32) : Fin 2 → Nat :=
  let c1008_i32 : BitVec 32 := 1008#32
  let c14_i32_346 : BitVec 32 := 14#32
  let v652 : BitVec 32 := Scalar.shrsi v651 c14_i32_346
  let c127_i32_347 : BitVec 32 := 127#32
  let v653 : BitVec 32 := Scalar.andi v652 c127_i32_347
  let c3_i32_348 : BitVec 32 := 3#32
  let v654 : BitVec 32 := Scalar.shrsi v653 c3_i32_348
  let c3_i32_349 : BitVec 32 := 3#32
  let v655 : BitVec 32 := Scalar.shli v654 c3_i32_349
  let v656 : BitVec 32 := Scalar.addi c1008_i32 v655
  let v657 : BitVec 32 := v656
  let v658 : Index := Scalar.indexCast v657
  let c0_350 : Index := 0#32
  ![v658.toNat, 0]

def k0_chk143 (v651 : BitVec 32) : Prop :=
  (8 ∣ (k0_mult207 v651).toNat) ∧
  (∀ a, (k0_off336 v651) a + S8x1024.size a ≤ S4608x1024.size a)
theorem k0_mult207_dvd : ∀ (v651 : BitVec 32) (k0_hw143 : k0_chk143 v651), 8 ∣ (k0_mult207 v651).toNat := fun v651 k0_hw143 => k0_hw143.1
theorem k0_off336_inb : ∀ (v651 : BitVec 32) (k0_hw143 : k0_chk143 v651), ∀ a, (k0_off336 v651) a + S8x1024.size a ≤ S4608x1024.size a := fun v651 k0_hw143 => k0_hw143.2

def k0_mult208 (v665 : BitVec 32) : BitVec 32 :=
  let c1080_i32 : BitVec 32 := 1080#32
  let c14_i32_356 : BitVec 32 := 14#32
  let v666 : BitVec 32 := Scalar.shrsi v665 c14_i32_356
  let c127_i32_357 : BitVec 32 := 127#32
  let v667 : BitVec 32 := Scalar.andi v666 c127_i32_357
  let c3_i32_358 : BitVec 32 := 3#32
  let v668 : BitVec 32 := Scalar.shrsi v667 c3_i32_358
  let c3_i32_359 : BitVec 32 := 3#32
  let v669 : BitVec 32 := Scalar.shli v668 c3_i32_359
  let v670 : BitVec 32 := Scalar.addi c1080_i32 v669
  v670

def k0_off337 (v665 : BitVec 32) : Fin 2 → Nat :=
  let c1080_i32 : BitVec 32 := 1080#32
  let c14_i32_356 : BitVec 32 := 14#32
  let v666 : BitVec 32 := Scalar.shrsi v665 c14_i32_356
  let c127_i32_357 : BitVec 32 := 127#32
  let v667 : BitVec 32 := Scalar.andi v666 c127_i32_357
  let c3_i32_358 : BitVec 32 := 3#32
  let v668 : BitVec 32 := Scalar.shrsi v667 c3_i32_358
  let c3_i32_359 : BitVec 32 := 3#32
  let v669 : BitVec 32 := Scalar.shli v668 c3_i32_359
  let v670 : BitVec 32 := Scalar.addi c1080_i32 v669
  let v671 : BitVec 32 := v670
  let v672 : Index := Scalar.indexCast v671
  let c0_360 : Index := 0#32
  ![v672.toNat, 0]

def k0_chk144 (v665 : BitVec 32) : Prop :=
  (8 ∣ (k0_mult208 v665).toNat) ∧
  (∀ a, (k0_off337 v665) a + S8x1024.size a ≤ S4608x1024.size a)
theorem k0_mult208_dvd : ∀ (v665 : BitVec 32) (k0_hw144 : k0_chk144 v665), 8 ∣ (k0_mult208 v665).toNat := fun v665 k0_hw144 => k0_hw144.1
theorem k0_off337_inb : ∀ (v665 : BitVec 32) (k0_hw144 : k0_chk144 v665), ∀ a, (k0_off337 v665) a + S8x1024.size a ≤ S4608x1024.size a := fun v665 k0_hw144 => k0_hw144.2

def k0_mult209 (v679 : BitVec 32) : BitVec 32 :=
  let c1152_i32 : BitVec 32 := 1152#32
  let c14_i32_366 : BitVec 32 := 14#32
  let v680 : BitVec 32 := Scalar.shrsi v679 c14_i32_366
  let c127_i32_367 : BitVec 32 := 127#32
  let v681 : BitVec 32 := Scalar.andi v680 c127_i32_367
  let c3_i32_368 : BitVec 32 := 3#32
  let v682 : BitVec 32 := Scalar.shrsi v681 c3_i32_368
  let c3_i32_369 : BitVec 32 := 3#32
  let v683 : BitVec 32 := Scalar.shli v682 c3_i32_369
  let v684 : BitVec 32 := Scalar.addi c1152_i32 v683
  v684

def k0_off338 (v679 : BitVec 32) : Fin 2 → Nat :=
  let c1152_i32 : BitVec 32 := 1152#32
  let c14_i32_366 : BitVec 32 := 14#32
  let v680 : BitVec 32 := Scalar.shrsi v679 c14_i32_366
  let c127_i32_367 : BitVec 32 := 127#32
  let v681 : BitVec 32 := Scalar.andi v680 c127_i32_367
  let c3_i32_368 : BitVec 32 := 3#32
  let v682 : BitVec 32 := Scalar.shrsi v681 c3_i32_368
  let c3_i32_369 : BitVec 32 := 3#32
  let v683 : BitVec 32 := Scalar.shli v682 c3_i32_369
  let v684 : BitVec 32 := Scalar.addi c1152_i32 v683
  let v685 : BitVec 32 := v684
  let v686 : Index := Scalar.indexCast v685
  let c0_370 : Index := 0#32
  ![v686.toNat, 0]

def k0_chk145 (v679 : BitVec 32) : Prop :=
  (8 ∣ (k0_mult209 v679).toNat) ∧
  (∀ a, (k0_off338 v679) a + S8x1024.size a ≤ S4608x1024.size a)
theorem k0_mult209_dvd : ∀ (v679 : BitVec 32) (k0_hw145 : k0_chk145 v679), 8 ∣ (k0_mult209 v679).toNat := fun v679 k0_hw145 => k0_hw145.1
theorem k0_off338_inb : ∀ (v679 : BitVec 32) (k0_hw145 : k0_chk145 v679), ∀ a, (k0_off338 v679) a + S8x1024.size a ≤ S4608x1024.size a := fun v679 k0_hw145 => k0_hw145.2

def k0_mult210 (v693 : BitVec 32) : BitVec 32 :=
  let c1224_i32 : BitVec 32 := 1224#32
  let c14_i32_376 : BitVec 32 := 14#32
  let v694 : BitVec 32 := Scalar.shrsi v693 c14_i32_376
  let c127_i32_377 : BitVec 32 := 127#32
  let v695 : BitVec 32 := Scalar.andi v694 c127_i32_377
  let c3_i32_378 : BitVec 32 := 3#32
  let v696 : BitVec 32 := Scalar.shrsi v695 c3_i32_378
  let c3_i32_379 : BitVec 32 := 3#32
  let v697 : BitVec 32 := Scalar.shli v696 c3_i32_379
  let v698 : BitVec 32 := Scalar.addi c1224_i32 v697
  v698

def k0_off339 (v693 : BitVec 32) : Fin 2 → Nat :=
  let c1224_i32 : BitVec 32 := 1224#32
  let c14_i32_376 : BitVec 32 := 14#32
  let v694 : BitVec 32 := Scalar.shrsi v693 c14_i32_376
  let c127_i32_377 : BitVec 32 := 127#32
  let v695 : BitVec 32 := Scalar.andi v694 c127_i32_377
  let c3_i32_378 : BitVec 32 := 3#32
  let v696 : BitVec 32 := Scalar.shrsi v695 c3_i32_378
  let c3_i32_379 : BitVec 32 := 3#32
  let v697 : BitVec 32 := Scalar.shli v696 c3_i32_379
  let v698 : BitVec 32 := Scalar.addi c1224_i32 v697
  let v699 : BitVec 32 := v698
  let v700 : Index := Scalar.indexCast v699
  let c0_380 : Index := 0#32
  ![v700.toNat, 0]

def k0_chk146 (v693 : BitVec 32) : Prop :=
  (8 ∣ (k0_mult210 v693).toNat) ∧
  (∀ a, (k0_off339 v693) a + S8x1024.size a ≤ S4608x1024.size a)
theorem k0_mult210_dvd : ∀ (v693 : BitVec 32) (k0_hw146 : k0_chk146 v693), 8 ∣ (k0_mult210 v693).toNat := fun v693 k0_hw146 => k0_hw146.1
theorem k0_off339_inb : ∀ (v693 : BitVec 32) (k0_hw146 : k0_chk146 v693), ∀ a, (k0_off339 v693) a + S8x1024.size a ≤ S4608x1024.size a := fun v693 k0_hw146 => k0_hw146.2

def k0_mult211 (v707 : BitVec 32) : BitVec 32 :=
  let c1296_i32 : BitVec 32 := 1296#32
  let c14_i32_386 : BitVec 32 := 14#32
  let v708 : BitVec 32 := Scalar.shrsi v707 c14_i32_386
  let c127_i32_387 : BitVec 32 := 127#32
  let v709 : BitVec 32 := Scalar.andi v708 c127_i32_387
  let c3_i32_388 : BitVec 32 := 3#32
  let v710 : BitVec 32 := Scalar.shrsi v709 c3_i32_388
  let c3_i32_389 : BitVec 32 := 3#32
  let v711 : BitVec 32 := Scalar.shli v710 c3_i32_389
  let v712 : BitVec 32 := Scalar.addi c1296_i32 v711
  v712

def k0_off340 (v707 : BitVec 32) : Fin 2 → Nat :=
  let c1296_i32 : BitVec 32 := 1296#32
  let c14_i32_386 : BitVec 32 := 14#32
  let v708 : BitVec 32 := Scalar.shrsi v707 c14_i32_386
  let c127_i32_387 : BitVec 32 := 127#32
  let v709 : BitVec 32 := Scalar.andi v708 c127_i32_387
  let c3_i32_388 : BitVec 32 := 3#32
  let v710 : BitVec 32 := Scalar.shrsi v709 c3_i32_388
  let c3_i32_389 : BitVec 32 := 3#32
  let v711 : BitVec 32 := Scalar.shli v710 c3_i32_389
  let v712 : BitVec 32 := Scalar.addi c1296_i32 v711
  let v713 : BitVec 32 := v712
  let v714 : Index := Scalar.indexCast v713
  let c0_390 : Index := 0#32
  ![v714.toNat, 0]

def k0_chk147 (v707 : BitVec 32) : Prop :=
  (8 ∣ (k0_mult211 v707).toNat) ∧
  (∀ a, (k0_off340 v707) a + S8x1024.size a ≤ S4608x1024.size a)
theorem k0_mult211_dvd : ∀ (v707 : BitVec 32) (k0_hw147 : k0_chk147 v707), 8 ∣ (k0_mult211 v707).toNat := fun v707 k0_hw147 => k0_hw147.1
theorem k0_off340_inb : ∀ (v707 : BitVec 32) (k0_hw147 : k0_chk147 v707), ∀ a, (k0_off340 v707) a + S8x1024.size a ≤ S4608x1024.size a := fun v707 k0_hw147 => k0_hw147.2

def k0_mult212 (v721 : BitVec 32) : BitVec 32 :=
  let c1368_i32 : BitVec 32 := 1368#32
  let c14_i32_396 : BitVec 32 := 14#32
  let v722 : BitVec 32 := Scalar.shrsi v721 c14_i32_396
  let c127_i32_397 : BitVec 32 := 127#32
  let v723 : BitVec 32 := Scalar.andi v722 c127_i32_397
  let c3_i32_398 : BitVec 32 := 3#32
  let v724 : BitVec 32 := Scalar.shrsi v723 c3_i32_398
  let c3_i32_399 : BitVec 32 := 3#32
  let v725 : BitVec 32 := Scalar.shli v724 c3_i32_399
  let v726 : BitVec 32 := Scalar.addi c1368_i32 v725
  v726

def k0_off341 (v721 : BitVec 32) : Fin 2 → Nat :=
  let c1368_i32 : BitVec 32 := 1368#32
  let c14_i32_396 : BitVec 32 := 14#32
  let v722 : BitVec 32 := Scalar.shrsi v721 c14_i32_396
  let c127_i32_397 : BitVec 32 := 127#32
  let v723 : BitVec 32 := Scalar.andi v722 c127_i32_397
  let c3_i32_398 : BitVec 32 := 3#32
  let v724 : BitVec 32 := Scalar.shrsi v723 c3_i32_398
  let c3_i32_399 : BitVec 32 := 3#32
  let v725 : BitVec 32 := Scalar.shli v724 c3_i32_399
  let v726 : BitVec 32 := Scalar.addi c1368_i32 v725
  let v727 : BitVec 32 := v726
  let v728 : Index := Scalar.indexCast v727
  let c0_400 : Index := 0#32
  ![v728.toNat, 0]

def k0_chk148 (v721 : BitVec 32) : Prop :=
  (8 ∣ (k0_mult212 v721).toNat) ∧
  (∀ a, (k0_off341 v721) a + S8x1024.size a ≤ S4608x1024.size a)
theorem k0_mult212_dvd : ∀ (v721 : BitVec 32) (k0_hw148 : k0_chk148 v721), 8 ∣ (k0_mult212 v721).toNat := fun v721 k0_hw148 => k0_hw148.1
theorem k0_off341_inb : ∀ (v721 : BitVec 32) (k0_hw148 : k0_chk148 v721), ∀ a, (k0_off341 v721) a + S8x1024.size a ≤ S4608x1024.size a := fun v721 k0_hw148 => k0_hw148.2

def k0_mult213 (v735 : BitVec 32) : BitVec 32 :=
  let c1440_i32 : BitVec 32 := 1440#32
  let c14_i32_406 : BitVec 32 := 14#32
  let v736 : BitVec 32 := Scalar.shrsi v735 c14_i32_406
  let c127_i32_407 : BitVec 32 := 127#32
  let v737 : BitVec 32 := Scalar.andi v736 c127_i32_407
  let c3_i32_408 : BitVec 32 := 3#32
  let v738 : BitVec 32 := Scalar.shrsi v737 c3_i32_408
  let c3_i32_409 : BitVec 32 := 3#32
  let v739 : BitVec 32 := Scalar.shli v738 c3_i32_409
  let v740 : BitVec 32 := Scalar.addi c1440_i32 v739
  v740

def k0_off342 (v735 : BitVec 32) : Fin 2 → Nat :=
  let c1440_i32 : BitVec 32 := 1440#32
  let c14_i32_406 : BitVec 32 := 14#32
  let v736 : BitVec 32 := Scalar.shrsi v735 c14_i32_406
  let c127_i32_407 : BitVec 32 := 127#32
  let v737 : BitVec 32 := Scalar.andi v736 c127_i32_407
  let c3_i32_408 : BitVec 32 := 3#32
  let v738 : BitVec 32 := Scalar.shrsi v737 c3_i32_408
  let c3_i32_409 : BitVec 32 := 3#32
  let v739 : BitVec 32 := Scalar.shli v738 c3_i32_409
  let v740 : BitVec 32 := Scalar.addi c1440_i32 v739
  let v741 : BitVec 32 := v740
  let v742 : Index := Scalar.indexCast v741
  let c0_410 : Index := 0#32
  ![v742.toNat, 0]

def k0_chk149 (v735 : BitVec 32) : Prop :=
  (8 ∣ (k0_mult213 v735).toNat) ∧
  (∀ a, (k0_off342 v735) a + S8x1024.size a ≤ S4608x1024.size a)
theorem k0_mult213_dvd : ∀ (v735 : BitVec 32) (k0_hw149 : k0_chk149 v735), 8 ∣ (k0_mult213 v735).toNat := fun v735 k0_hw149 => k0_hw149.1
theorem k0_off342_inb : ∀ (v735 : BitVec 32) (k0_hw149 : k0_chk149 v735), ∀ a, (k0_off342 v735) a + S8x1024.size a ≤ S4608x1024.size a := fun v735 k0_hw149 => k0_hw149.2

def k0_mult214 (v749 : BitVec 32) : BitVec 32 :=
  let c1512_i32 : BitVec 32 := 1512#32
  let c14_i32_416 : BitVec 32 := 14#32
  let v750 : BitVec 32 := Scalar.shrsi v749 c14_i32_416
  let c127_i32_417 : BitVec 32 := 127#32
  let v751 : BitVec 32 := Scalar.andi v750 c127_i32_417
  let c3_i32_418 : BitVec 32 := 3#32
  let v752 : BitVec 32 := Scalar.shrsi v751 c3_i32_418
  let c3_i32_419 : BitVec 32 := 3#32
  let v753 : BitVec 32 := Scalar.shli v752 c3_i32_419
  let v754 : BitVec 32 := Scalar.addi c1512_i32 v753
  v754

def k0_off343 (v749 : BitVec 32) : Fin 2 → Nat :=
  let c1512_i32 : BitVec 32 := 1512#32
  let c14_i32_416 : BitVec 32 := 14#32
  let v750 : BitVec 32 := Scalar.shrsi v749 c14_i32_416
  let c127_i32_417 : BitVec 32 := 127#32
  let v751 : BitVec 32 := Scalar.andi v750 c127_i32_417
  let c3_i32_418 : BitVec 32 := 3#32
  let v752 : BitVec 32 := Scalar.shrsi v751 c3_i32_418
  let c3_i32_419 : BitVec 32 := 3#32
  let v753 : BitVec 32 := Scalar.shli v752 c3_i32_419
  let v754 : BitVec 32 := Scalar.addi c1512_i32 v753
  let v755 : BitVec 32 := v754
  let v756 : Index := Scalar.indexCast v755
  let c0_420 : Index := 0#32
  ![v756.toNat, 0]

def k0_chk150 (v749 : BitVec 32) : Prop :=
  (8 ∣ (k0_mult214 v749).toNat) ∧
  (∀ a, (k0_off343 v749) a + S8x1024.size a ≤ S4608x1024.size a)
theorem k0_mult214_dvd : ∀ (v749 : BitVec 32) (k0_hw150 : k0_chk150 v749), 8 ∣ (k0_mult214 v749).toNat := fun v749 k0_hw150 => k0_hw150.1
theorem k0_off343_inb : ∀ (v749 : BitVec 32) (k0_hw150 : k0_chk150 v749), ∀ a, (k0_off343 v749) a + S8x1024.size a ≤ S4608x1024.size a := fun v749 k0_hw150 => k0_hw150.2

def k0_mult215 (v763 : BitVec 32) : BitVec 32 :=
  let c1584_i32 : BitVec 32 := 1584#32
  let c14_i32_426 : BitVec 32 := 14#32
  let v764 : BitVec 32 := Scalar.shrsi v763 c14_i32_426
  let c127_i32_427 : BitVec 32 := 127#32
  let v765 : BitVec 32 := Scalar.andi v764 c127_i32_427
  let c3_i32_428 : BitVec 32 := 3#32
  let v766 : BitVec 32 := Scalar.shrsi v765 c3_i32_428
  let c3_i32_429 : BitVec 32 := 3#32
  let v767 : BitVec 32 := Scalar.shli v766 c3_i32_429
  let v768 : BitVec 32 := Scalar.addi c1584_i32 v767
  v768

def k0_off344 (v763 : BitVec 32) : Fin 2 → Nat :=
  let c1584_i32 : BitVec 32 := 1584#32
  let c14_i32_426 : BitVec 32 := 14#32
  let v764 : BitVec 32 := Scalar.shrsi v763 c14_i32_426
  let c127_i32_427 : BitVec 32 := 127#32
  let v765 : BitVec 32 := Scalar.andi v764 c127_i32_427
  let c3_i32_428 : BitVec 32 := 3#32
  let v766 : BitVec 32 := Scalar.shrsi v765 c3_i32_428
  let c3_i32_429 : BitVec 32 := 3#32
  let v767 : BitVec 32 := Scalar.shli v766 c3_i32_429
  let v768 : BitVec 32 := Scalar.addi c1584_i32 v767
  let v769 : BitVec 32 := v768
  let v770 : Index := Scalar.indexCast v769
  let c0_430 : Index := 0#32
  ![v770.toNat, 0]

def k0_chk151 (v763 : BitVec 32) : Prop :=
  (8 ∣ (k0_mult215 v763).toNat) ∧
  (∀ a, (k0_off344 v763) a + S8x1024.size a ≤ S4608x1024.size a)
theorem k0_mult215_dvd : ∀ (v763 : BitVec 32) (k0_hw151 : k0_chk151 v763), 8 ∣ (k0_mult215 v763).toNat := fun v763 k0_hw151 => k0_hw151.1
theorem k0_off344_inb : ∀ (v763 : BitVec 32) (k0_hw151 : k0_chk151 v763), ∀ a, (k0_off344 v763) a + S8x1024.size a ≤ S4608x1024.size a := fun v763 k0_hw151 => k0_hw151.2

def k0_mult216 (v777 : BitVec 32) : BitVec 32 :=
  let c1656_i32 : BitVec 32 := 1656#32
  let c14_i32_436 : BitVec 32 := 14#32
  let v778 : BitVec 32 := Scalar.shrsi v777 c14_i32_436
  let c127_i32_437 : BitVec 32 := 127#32
  let v779 : BitVec 32 := Scalar.andi v778 c127_i32_437
  let c3_i32_438 : BitVec 32 := 3#32
  let v780 : BitVec 32 := Scalar.shrsi v779 c3_i32_438
  let c3_i32_439 : BitVec 32 := 3#32
  let v781 : BitVec 32 := Scalar.shli v780 c3_i32_439
  let v782 : BitVec 32 := Scalar.addi c1656_i32 v781
  v782

def k0_off345 (v777 : BitVec 32) : Fin 2 → Nat :=
  let c1656_i32 : BitVec 32 := 1656#32
  let c14_i32_436 : BitVec 32 := 14#32
  let v778 : BitVec 32 := Scalar.shrsi v777 c14_i32_436
  let c127_i32_437 : BitVec 32 := 127#32
  let v779 : BitVec 32 := Scalar.andi v778 c127_i32_437
  let c3_i32_438 : BitVec 32 := 3#32
  let v780 : BitVec 32 := Scalar.shrsi v779 c3_i32_438
  let c3_i32_439 : BitVec 32 := 3#32
  let v781 : BitVec 32 := Scalar.shli v780 c3_i32_439
  let v782 : BitVec 32 := Scalar.addi c1656_i32 v781
  let v783 : BitVec 32 := v782
  let v784 : Index := Scalar.indexCast v783
  let c0_440 : Index := 0#32
  ![v784.toNat, 0]

def k0_chk152 (v777 : BitVec 32) : Prop :=
  (8 ∣ (k0_mult216 v777).toNat) ∧
  (∀ a, (k0_off345 v777) a + S8x1024.size a ≤ S4608x1024.size a)
theorem k0_mult216_dvd : ∀ (v777 : BitVec 32) (k0_hw152 : k0_chk152 v777), 8 ∣ (k0_mult216 v777).toNat := fun v777 k0_hw152 => k0_hw152.1
theorem k0_off345_inb : ∀ (v777 : BitVec 32) (k0_hw152 : k0_chk152 v777), ∀ a, (k0_off345 v777) a + S8x1024.size a ≤ S4608x1024.size a := fun v777 k0_hw152 => k0_hw152.2

def k0_mult217 (v791 : BitVec 32) : BitVec 32 :=
  let c1728_i32 : BitVec 32 := 1728#32
  let c14_i32_446 : BitVec 32 := 14#32
  let v792 : BitVec 32 := Scalar.shrsi v791 c14_i32_446
  let c127_i32_447 : BitVec 32 := 127#32
  let v793 : BitVec 32 := Scalar.andi v792 c127_i32_447
  let c3_i32_448 : BitVec 32 := 3#32
  let v794 : BitVec 32 := Scalar.shrsi v793 c3_i32_448
  let c3_i32_449 : BitVec 32 := 3#32
  let v795 : BitVec 32 := Scalar.shli v794 c3_i32_449
  let v796 : BitVec 32 := Scalar.addi c1728_i32 v795
  v796

def k0_off346 (v791 : BitVec 32) : Fin 2 → Nat :=
  let c1728_i32 : BitVec 32 := 1728#32
  let c14_i32_446 : BitVec 32 := 14#32
  let v792 : BitVec 32 := Scalar.shrsi v791 c14_i32_446
  let c127_i32_447 : BitVec 32 := 127#32
  let v793 : BitVec 32 := Scalar.andi v792 c127_i32_447
  let c3_i32_448 : BitVec 32 := 3#32
  let v794 : BitVec 32 := Scalar.shrsi v793 c3_i32_448
  let c3_i32_449 : BitVec 32 := 3#32
  let v795 : BitVec 32 := Scalar.shli v794 c3_i32_449
  let v796 : BitVec 32 := Scalar.addi c1728_i32 v795
  let v797 : BitVec 32 := v796
  let v798 : Index := Scalar.indexCast v797
  let c0_450 : Index := 0#32
  ![v798.toNat, 0]

def k0_chk153 (v791 : BitVec 32) : Prop :=
  (8 ∣ (k0_mult217 v791).toNat) ∧
  (∀ a, (k0_off346 v791) a + S8x1024.size a ≤ S4608x1024.size a)
theorem k0_mult217_dvd : ∀ (v791 : BitVec 32) (k0_hw153 : k0_chk153 v791), 8 ∣ (k0_mult217 v791).toNat := fun v791 k0_hw153 => k0_hw153.1
theorem k0_off346_inb : ∀ (v791 : BitVec 32) (k0_hw153 : k0_chk153 v791), ∀ a, (k0_off346 v791) a + S8x1024.size a ≤ S4608x1024.size a := fun v791 k0_hw153 => k0_hw153.2

def k0_mult218 (v805 : BitVec 32) : BitVec 32 :=
  let c1800_i32 : BitVec 32 := 1800#32
  let c14_i32_456 : BitVec 32 := 14#32
  let v806 : BitVec 32 := Scalar.shrsi v805 c14_i32_456
  let c127_i32_457 : BitVec 32 := 127#32
  let v807 : BitVec 32 := Scalar.andi v806 c127_i32_457
  let c3_i32_458 : BitVec 32 := 3#32
  let v808 : BitVec 32 := Scalar.shrsi v807 c3_i32_458
  let c3_i32_459 : BitVec 32 := 3#32
  let v809 : BitVec 32 := Scalar.shli v808 c3_i32_459
  let v810 : BitVec 32 := Scalar.addi c1800_i32 v809
  v810

def k0_off347 (v805 : BitVec 32) : Fin 2 → Nat :=
  let c1800_i32 : BitVec 32 := 1800#32
  let c14_i32_456 : BitVec 32 := 14#32
  let v806 : BitVec 32 := Scalar.shrsi v805 c14_i32_456
  let c127_i32_457 : BitVec 32 := 127#32
  let v807 : BitVec 32 := Scalar.andi v806 c127_i32_457
  let c3_i32_458 : BitVec 32 := 3#32
  let v808 : BitVec 32 := Scalar.shrsi v807 c3_i32_458
  let c3_i32_459 : BitVec 32 := 3#32
  let v809 : BitVec 32 := Scalar.shli v808 c3_i32_459
  let v810 : BitVec 32 := Scalar.addi c1800_i32 v809
  let v811 : BitVec 32 := v810
  let v812 : Index := Scalar.indexCast v811
  let c0_460 : Index := 0#32
  ![v812.toNat, 0]

def k0_chk154 (v805 : BitVec 32) : Prop :=
  (8 ∣ (k0_mult218 v805).toNat) ∧
  (∀ a, (k0_off347 v805) a + S8x1024.size a ≤ S4608x1024.size a)
theorem k0_mult218_dvd : ∀ (v805 : BitVec 32) (k0_hw154 : k0_chk154 v805), 8 ∣ (k0_mult218 v805).toNat := fun v805 k0_hw154 => k0_hw154.1
theorem k0_off347_inb : ∀ (v805 : BitVec 32) (k0_hw154 : k0_chk154 v805), ∀ a, (k0_off347 v805) a + S8x1024.size a ≤ S4608x1024.size a := fun v805 k0_hw154 => k0_hw154.2

def k0_mult219 (v819 : BitVec 32) : BitVec 32 :=
  let c1872_i32 : BitVec 32 := 1872#32
  let c14_i32_466 : BitVec 32 := 14#32
  let v820 : BitVec 32 := Scalar.shrsi v819 c14_i32_466
  let c127_i32_467 : BitVec 32 := 127#32
  let v821 : BitVec 32 := Scalar.andi v820 c127_i32_467
  let c3_i32_468 : BitVec 32 := 3#32
  let v822 : BitVec 32 := Scalar.shrsi v821 c3_i32_468
  let c3_i32_469 : BitVec 32 := 3#32
  let v823 : BitVec 32 := Scalar.shli v822 c3_i32_469
  let v824 : BitVec 32 := Scalar.addi c1872_i32 v823
  v824

def k0_off348 (v819 : BitVec 32) : Fin 2 → Nat :=
  let c1872_i32 : BitVec 32 := 1872#32
  let c14_i32_466 : BitVec 32 := 14#32
  let v820 : BitVec 32 := Scalar.shrsi v819 c14_i32_466
  let c127_i32_467 : BitVec 32 := 127#32
  let v821 : BitVec 32 := Scalar.andi v820 c127_i32_467
  let c3_i32_468 : BitVec 32 := 3#32
  let v822 : BitVec 32 := Scalar.shrsi v821 c3_i32_468
  let c3_i32_469 : BitVec 32 := 3#32
  let v823 : BitVec 32 := Scalar.shli v822 c3_i32_469
  let v824 : BitVec 32 := Scalar.addi c1872_i32 v823
  let v825 : BitVec 32 := v824
  let v826 : Index := Scalar.indexCast v825
  let c0_470 : Index := 0#32
  ![v826.toNat, 0]

def k0_chk155 (v819 : BitVec 32) : Prop :=
  (8 ∣ (k0_mult219 v819).toNat) ∧
  (∀ a, (k0_off348 v819) a + S8x1024.size a ≤ S4608x1024.size a)
theorem k0_mult219_dvd : ∀ (v819 : BitVec 32) (k0_hw155 : k0_chk155 v819), 8 ∣ (k0_mult219 v819).toNat := fun v819 k0_hw155 => k0_hw155.1
theorem k0_off348_inb : ∀ (v819 : BitVec 32) (k0_hw155 : k0_chk155 v819), ∀ a, (k0_off348 v819) a + S8x1024.size a ≤ S4608x1024.size a := fun v819 k0_hw155 => k0_hw155.2

def k0_mult220 (v833 : BitVec 32) : BitVec 32 :=
  let c1944_i32 : BitVec 32 := 1944#32
  let c14_i32_476 : BitVec 32 := 14#32
  let v834 : BitVec 32 := Scalar.shrsi v833 c14_i32_476
  let c127_i32_477 : BitVec 32 := 127#32
  let v835 : BitVec 32 := Scalar.andi v834 c127_i32_477
  let c3_i32_478 : BitVec 32 := 3#32
  let v836 : BitVec 32 := Scalar.shrsi v835 c3_i32_478
  let c3_i32_479 : BitVec 32 := 3#32
  let v837 : BitVec 32 := Scalar.shli v836 c3_i32_479
  let v838 : BitVec 32 := Scalar.addi c1944_i32 v837
  v838

def k0_off349 (v833 : BitVec 32) : Fin 2 → Nat :=
  let c1944_i32 : BitVec 32 := 1944#32
  let c14_i32_476 : BitVec 32 := 14#32
  let v834 : BitVec 32 := Scalar.shrsi v833 c14_i32_476
  let c127_i32_477 : BitVec 32 := 127#32
  let v835 : BitVec 32 := Scalar.andi v834 c127_i32_477
  let c3_i32_478 : BitVec 32 := 3#32
  let v836 : BitVec 32 := Scalar.shrsi v835 c3_i32_478
  let c3_i32_479 : BitVec 32 := 3#32
  let v837 : BitVec 32 := Scalar.shli v836 c3_i32_479
  let v838 : BitVec 32 := Scalar.addi c1944_i32 v837
  let v839 : BitVec 32 := v838
  let v840 : Index := Scalar.indexCast v839
  let c0_480 : Index := 0#32
  ![v840.toNat, 0]

def k0_chk156 (v833 : BitVec 32) : Prop :=
  (8 ∣ (k0_mult220 v833).toNat) ∧
  (∀ a, (k0_off349 v833) a + S8x1024.size a ≤ S4608x1024.size a)
theorem k0_mult220_dvd : ∀ (v833 : BitVec 32) (k0_hw156 : k0_chk156 v833), 8 ∣ (k0_mult220 v833).toNat := fun v833 k0_hw156 => k0_hw156.1
theorem k0_off349_inb : ∀ (v833 : BitVec 32) (k0_hw156 : k0_chk156 v833), ∀ a, (k0_off349 v833) a + S8x1024.size a ≤ S4608x1024.size a := fun v833 k0_hw156 => k0_hw156.2

def k0_mult221 (v847 : BitVec 32) : BitVec 32 :=
  let c2016_i32 : BitVec 32 := 2016#32
  let c14_i32_486 : BitVec 32 := 14#32
  let v848 : BitVec 32 := Scalar.shrsi v847 c14_i32_486
  let c127_i32_487 : BitVec 32 := 127#32
  let v849 : BitVec 32 := Scalar.andi v848 c127_i32_487
  let c3_i32_488 : BitVec 32 := 3#32
  let v850 : BitVec 32 := Scalar.shrsi v849 c3_i32_488
  let c3_i32_489 : BitVec 32 := 3#32
  let v851 : BitVec 32 := Scalar.shli v850 c3_i32_489
  let v852 : BitVec 32 := Scalar.addi c2016_i32 v851
  v852

def k0_off350 (v847 : BitVec 32) : Fin 2 → Nat :=
  let c2016_i32 : BitVec 32 := 2016#32
  let c14_i32_486 : BitVec 32 := 14#32
  let v848 : BitVec 32 := Scalar.shrsi v847 c14_i32_486
  let c127_i32_487 : BitVec 32 := 127#32
  let v849 : BitVec 32 := Scalar.andi v848 c127_i32_487
  let c3_i32_488 : BitVec 32 := 3#32
  let v850 : BitVec 32 := Scalar.shrsi v849 c3_i32_488
  let c3_i32_489 : BitVec 32 := 3#32
  let v851 : BitVec 32 := Scalar.shli v850 c3_i32_489
  let v852 : BitVec 32 := Scalar.addi c2016_i32 v851
  let v853 : BitVec 32 := v852
  let v854 : Index := Scalar.indexCast v853
  let c0_490 : Index := 0#32
  ![v854.toNat, 0]

def k0_chk157 (v847 : BitVec 32) : Prop :=
  (8 ∣ (k0_mult221 v847).toNat) ∧
  (∀ a, (k0_off350 v847) a + S8x1024.size a ≤ S4608x1024.size a)
theorem k0_mult221_dvd : ∀ (v847 : BitVec 32) (k0_hw157 : k0_chk157 v847), 8 ∣ (k0_mult221 v847).toNat := fun v847 k0_hw157 => k0_hw157.1
theorem k0_off350_inb : ∀ (v847 : BitVec 32) (k0_hw157 : k0_chk157 v847), ∀ a, (k0_off350 v847) a + S8x1024.size a ≤ S4608x1024.size a := fun v847 k0_hw157 => k0_hw157.2

def k0_mult222 (v861 : BitVec 32) : BitVec 32 :=
  let c2088_i32 : BitVec 32 := 2088#32
  let c14_i32_496 : BitVec 32 := 14#32
  let v862 : BitVec 32 := Scalar.shrsi v861 c14_i32_496
  let c127_i32_497 : BitVec 32 := 127#32
  let v863 : BitVec 32 := Scalar.andi v862 c127_i32_497
  let c3_i32_498 : BitVec 32 := 3#32
  let v864 : BitVec 32 := Scalar.shrsi v863 c3_i32_498
  let c3_i32_499 : BitVec 32 := 3#32
  let v865 : BitVec 32 := Scalar.shli v864 c3_i32_499
  let v866 : BitVec 32 := Scalar.addi c2088_i32 v865
  v866

def k0_off351 (v861 : BitVec 32) : Fin 2 → Nat :=
  let c2088_i32 : BitVec 32 := 2088#32
  let c14_i32_496 : BitVec 32 := 14#32
  let v862 : BitVec 32 := Scalar.shrsi v861 c14_i32_496
  let c127_i32_497 : BitVec 32 := 127#32
  let v863 : BitVec 32 := Scalar.andi v862 c127_i32_497
  let c3_i32_498 : BitVec 32 := 3#32
  let v864 : BitVec 32 := Scalar.shrsi v863 c3_i32_498
  let c3_i32_499 : BitVec 32 := 3#32
  let v865 : BitVec 32 := Scalar.shli v864 c3_i32_499
  let v866 : BitVec 32 := Scalar.addi c2088_i32 v865
  let v867 : BitVec 32 := v866
  let v868 : Index := Scalar.indexCast v867
  let c0_500 : Index := 0#32
  ![v868.toNat, 0]

def k0_chk158 (v861 : BitVec 32) : Prop :=
  (8 ∣ (k0_mult222 v861).toNat) ∧
  (∀ a, (k0_off351 v861) a + S8x1024.size a ≤ S4608x1024.size a)
theorem k0_mult222_dvd : ∀ (v861 : BitVec 32) (k0_hw158 : k0_chk158 v861), 8 ∣ (k0_mult222 v861).toNat := fun v861 k0_hw158 => k0_hw158.1
theorem k0_off351_inb : ∀ (v861 : BitVec 32) (k0_hw158 : k0_chk158 v861), ∀ a, (k0_off351 v861) a + S8x1024.size a ≤ S4608x1024.size a := fun v861 k0_hw158 => k0_hw158.2

def k0_mult223 (v875 : BitVec 32) : BitVec 32 :=
  let c2160_i32 : BitVec 32 := 2160#32
  let c14_i32_506 : BitVec 32 := 14#32
  let v876 : BitVec 32 := Scalar.shrsi v875 c14_i32_506
  let c127_i32_507 : BitVec 32 := 127#32
  let v877 : BitVec 32 := Scalar.andi v876 c127_i32_507
  let c3_i32_508 : BitVec 32 := 3#32
  let v878 : BitVec 32 := Scalar.shrsi v877 c3_i32_508
  let c3_i32_509 : BitVec 32 := 3#32
  let v879 : BitVec 32 := Scalar.shli v878 c3_i32_509
  let v880 : BitVec 32 := Scalar.addi c2160_i32 v879
  v880

def k0_off352 (v875 : BitVec 32) : Fin 2 → Nat :=
  let c2160_i32 : BitVec 32 := 2160#32
  let c14_i32_506 : BitVec 32 := 14#32
  let v876 : BitVec 32 := Scalar.shrsi v875 c14_i32_506
  let c127_i32_507 : BitVec 32 := 127#32
  let v877 : BitVec 32 := Scalar.andi v876 c127_i32_507
  let c3_i32_508 : BitVec 32 := 3#32
  let v878 : BitVec 32 := Scalar.shrsi v877 c3_i32_508
  let c3_i32_509 : BitVec 32 := 3#32
  let v879 : BitVec 32 := Scalar.shli v878 c3_i32_509
  let v880 : BitVec 32 := Scalar.addi c2160_i32 v879
  let v881 : BitVec 32 := v880
  let v882 : Index := Scalar.indexCast v881
  let c0_510 : Index := 0#32
  ![v882.toNat, 0]

def k0_chk159 (v875 : BitVec 32) : Prop :=
  (8 ∣ (k0_mult223 v875).toNat) ∧
  (∀ a, (k0_off352 v875) a + S8x1024.size a ≤ S4608x1024.size a)
theorem k0_mult223_dvd : ∀ (v875 : BitVec 32) (k0_hw159 : k0_chk159 v875), 8 ∣ (k0_mult223 v875).toNat := fun v875 k0_hw159 => k0_hw159.1
theorem k0_off352_inb : ∀ (v875 : BitVec 32) (k0_hw159 : k0_chk159 v875), ∀ a, (k0_off352 v875) a + S8x1024.size a ≤ S4608x1024.size a := fun v875 k0_hw159 => k0_hw159.2

def k0_mult224 (v889 : BitVec 32) : BitVec 32 :=
  let c2232_i32 : BitVec 32 := 2232#32
  let c14_i32_516 : BitVec 32 := 14#32
  let v890 : BitVec 32 := Scalar.shrsi v889 c14_i32_516
  let c127_i32_517 : BitVec 32 := 127#32
  let v891 : BitVec 32 := Scalar.andi v890 c127_i32_517
  let c3_i32_518 : BitVec 32 := 3#32
  let v892 : BitVec 32 := Scalar.shrsi v891 c3_i32_518
  let c3_i32_519 : BitVec 32 := 3#32
  let v893 : BitVec 32 := Scalar.shli v892 c3_i32_519
  let v894 : BitVec 32 := Scalar.addi c2232_i32 v893
  v894

def k0_off353 (v889 : BitVec 32) : Fin 2 → Nat :=
  let c2232_i32 : BitVec 32 := 2232#32
  let c14_i32_516 : BitVec 32 := 14#32
  let v890 : BitVec 32 := Scalar.shrsi v889 c14_i32_516
  let c127_i32_517 : BitVec 32 := 127#32
  let v891 : BitVec 32 := Scalar.andi v890 c127_i32_517
  let c3_i32_518 : BitVec 32 := 3#32
  let v892 : BitVec 32 := Scalar.shrsi v891 c3_i32_518
  let c3_i32_519 : BitVec 32 := 3#32
  let v893 : BitVec 32 := Scalar.shli v892 c3_i32_519
  let v894 : BitVec 32 := Scalar.addi c2232_i32 v893
  let v895 : BitVec 32 := v894
  let v896 : Index := Scalar.indexCast v895
  let c0_520 : Index := 0#32
  ![v896.toNat, 0]

def k0_chk160 (v889 : BitVec 32) : Prop :=
  (8 ∣ (k0_mult224 v889).toNat) ∧
  (∀ a, (k0_off353 v889) a + S8x1024.size a ≤ S4608x1024.size a)
theorem k0_mult224_dvd : ∀ (v889 : BitVec 32) (k0_hw160 : k0_chk160 v889), 8 ∣ (k0_mult224 v889).toNat := fun v889 k0_hw160 => k0_hw160.1
theorem k0_off353_inb : ∀ (v889 : BitVec 32) (k0_hw160 : k0_chk160 v889), ∀ a, (k0_off353 v889) a + S8x1024.size a ≤ S4608x1024.size a := fun v889 k0_hw160 => k0_hw160.2

def k0_mult225 (v903 : BitVec 32) : BitVec 32 :=
  let c2304_i32 : BitVec 32 := 2304#32
  let c14_i32_526 : BitVec 32 := 14#32
  let v904 : BitVec 32 := Scalar.shrsi v903 c14_i32_526
  let c127_i32_527 : BitVec 32 := 127#32
  let v905 : BitVec 32 := Scalar.andi v904 c127_i32_527
  let c3_i32_528 : BitVec 32 := 3#32
  let v906 : BitVec 32 := Scalar.shrsi v905 c3_i32_528
  let c3_i32_529 : BitVec 32 := 3#32
  let v907 : BitVec 32 := Scalar.shli v906 c3_i32_529
  let v908 : BitVec 32 := Scalar.addi c2304_i32 v907
  v908

def k0_off354 (v903 : BitVec 32) : Fin 2 → Nat :=
  let c2304_i32 : BitVec 32 := 2304#32
  let c14_i32_526 : BitVec 32 := 14#32
  let v904 : BitVec 32 := Scalar.shrsi v903 c14_i32_526
  let c127_i32_527 : BitVec 32 := 127#32
  let v905 : BitVec 32 := Scalar.andi v904 c127_i32_527
  let c3_i32_528 : BitVec 32 := 3#32
  let v906 : BitVec 32 := Scalar.shrsi v905 c3_i32_528
  let c3_i32_529 : BitVec 32 := 3#32
  let v907 : BitVec 32 := Scalar.shli v906 c3_i32_529
  let v908 : BitVec 32 := Scalar.addi c2304_i32 v907
  let v909 : BitVec 32 := v908
  let v910 : Index := Scalar.indexCast v909
  let c0_530 : Index := 0#32
  ![v910.toNat, 0]

def k0_chk161 (v903 : BitVec 32) : Prop :=
  (8 ∣ (k0_mult225 v903).toNat) ∧
  (∀ a, (k0_off354 v903) a + S8x1024.size a ≤ S4608x1024.size a)
theorem k0_mult225_dvd : ∀ (v903 : BitVec 32) (k0_hw161 : k0_chk161 v903), 8 ∣ (k0_mult225 v903).toNat := fun v903 k0_hw161 => k0_hw161.1
theorem k0_off354_inb : ∀ (v903 : BitVec 32) (k0_hw161 : k0_chk161 v903), ∀ a, (k0_off354 v903) a + S8x1024.size a ≤ S4608x1024.size a := fun v903 k0_hw161 => k0_hw161.2

def k0_mult226 (v917 : BitVec 32) : BitVec 32 :=
  let c2376_i32 : BitVec 32 := 2376#32
  let c14_i32_536 : BitVec 32 := 14#32
  let v918 : BitVec 32 := Scalar.shrsi v917 c14_i32_536
  let c127_i32_537 : BitVec 32 := 127#32
  let v919 : BitVec 32 := Scalar.andi v918 c127_i32_537
  let c3_i32_538 : BitVec 32 := 3#32
  let v920 : BitVec 32 := Scalar.shrsi v919 c3_i32_538
  let c3_i32_539 : BitVec 32 := 3#32
  let v921 : BitVec 32 := Scalar.shli v920 c3_i32_539
  let v922 : BitVec 32 := Scalar.addi c2376_i32 v921
  v922

def k0_off355 (v917 : BitVec 32) : Fin 2 → Nat :=
  let c2376_i32 : BitVec 32 := 2376#32
  let c14_i32_536 : BitVec 32 := 14#32
  let v918 : BitVec 32 := Scalar.shrsi v917 c14_i32_536
  let c127_i32_537 : BitVec 32 := 127#32
  let v919 : BitVec 32 := Scalar.andi v918 c127_i32_537
  let c3_i32_538 : BitVec 32 := 3#32
  let v920 : BitVec 32 := Scalar.shrsi v919 c3_i32_538
  let c3_i32_539 : BitVec 32 := 3#32
  let v921 : BitVec 32 := Scalar.shli v920 c3_i32_539
  let v922 : BitVec 32 := Scalar.addi c2376_i32 v921
  let v923 : BitVec 32 := v922
  let v924 : Index := Scalar.indexCast v923
  let c0_540 : Index := 0#32
  ![v924.toNat, 0]

def k0_chk162 (v917 : BitVec 32) : Prop :=
  (8 ∣ (k0_mult226 v917).toNat) ∧
  (∀ a, (k0_off355 v917) a + S8x1024.size a ≤ S4608x1024.size a)
theorem k0_mult226_dvd : ∀ (v917 : BitVec 32) (k0_hw162 : k0_chk162 v917), 8 ∣ (k0_mult226 v917).toNat := fun v917 k0_hw162 => k0_hw162.1
theorem k0_off355_inb : ∀ (v917 : BitVec 32) (k0_hw162 : k0_chk162 v917), ∀ a, (k0_off355 v917) a + S8x1024.size a ≤ S4608x1024.size a := fun v917 k0_hw162 => k0_hw162.2

def k0_mult227 (v931 : BitVec 32) : BitVec 32 :=
  let c2448_i32 : BitVec 32 := 2448#32
  let c14_i32_546 : BitVec 32 := 14#32
  let v932 : BitVec 32 := Scalar.shrsi v931 c14_i32_546
  let c127_i32_547 : BitVec 32 := 127#32
  let v933 : BitVec 32 := Scalar.andi v932 c127_i32_547
  let c3_i32_548 : BitVec 32 := 3#32
  let v934 : BitVec 32 := Scalar.shrsi v933 c3_i32_548
  let c3_i32_549 : BitVec 32 := 3#32
  let v935 : BitVec 32 := Scalar.shli v934 c3_i32_549
  let v936 : BitVec 32 := Scalar.addi c2448_i32 v935
  v936

def k0_off356 (v931 : BitVec 32) : Fin 2 → Nat :=
  let c2448_i32 : BitVec 32 := 2448#32
  let c14_i32_546 : BitVec 32 := 14#32
  let v932 : BitVec 32 := Scalar.shrsi v931 c14_i32_546
  let c127_i32_547 : BitVec 32 := 127#32
  let v933 : BitVec 32 := Scalar.andi v932 c127_i32_547
  let c3_i32_548 : BitVec 32 := 3#32
  let v934 : BitVec 32 := Scalar.shrsi v933 c3_i32_548
  let c3_i32_549 : BitVec 32 := 3#32
  let v935 : BitVec 32 := Scalar.shli v934 c3_i32_549
  let v936 : BitVec 32 := Scalar.addi c2448_i32 v935
  let v937 : BitVec 32 := v936
  let v938 : Index := Scalar.indexCast v937
  let c0_550 : Index := 0#32
  ![v938.toNat, 0]

def k0_chk163 (v931 : BitVec 32) : Prop :=
  (8 ∣ (k0_mult227 v931).toNat) ∧
  (∀ a, (k0_off356 v931) a + S8x1024.size a ≤ S4608x1024.size a)
theorem k0_mult227_dvd : ∀ (v931 : BitVec 32) (k0_hw163 : k0_chk163 v931), 8 ∣ (k0_mult227 v931).toNat := fun v931 k0_hw163 => k0_hw163.1
theorem k0_off356_inb : ∀ (v931 : BitVec 32) (k0_hw163 : k0_chk163 v931), ∀ a, (k0_off356 v931) a + S8x1024.size a ≤ S4608x1024.size a := fun v931 k0_hw163 => k0_hw163.2

def k0_mult228 (v945 : BitVec 32) : BitVec 32 :=
  let c2520_i32 : BitVec 32 := 2520#32
  let c14_i32_556 : BitVec 32 := 14#32
  let v946 : BitVec 32 := Scalar.shrsi v945 c14_i32_556
  let c127_i32_557 : BitVec 32 := 127#32
  let v947 : BitVec 32 := Scalar.andi v946 c127_i32_557
  let c3_i32_558 : BitVec 32 := 3#32
  let v948 : BitVec 32 := Scalar.shrsi v947 c3_i32_558
  let c3_i32_559 : BitVec 32 := 3#32
  let v949 : BitVec 32 := Scalar.shli v948 c3_i32_559
  let v950 : BitVec 32 := Scalar.addi c2520_i32 v949
  v950

def k0_off357 (v945 : BitVec 32) : Fin 2 → Nat :=
  let c2520_i32 : BitVec 32 := 2520#32
  let c14_i32_556 : BitVec 32 := 14#32
  let v946 : BitVec 32 := Scalar.shrsi v945 c14_i32_556
  let c127_i32_557 : BitVec 32 := 127#32
  let v947 : BitVec 32 := Scalar.andi v946 c127_i32_557
  let c3_i32_558 : BitVec 32 := 3#32
  let v948 : BitVec 32 := Scalar.shrsi v947 c3_i32_558
  let c3_i32_559 : BitVec 32 := 3#32
  let v949 : BitVec 32 := Scalar.shli v948 c3_i32_559
  let v950 : BitVec 32 := Scalar.addi c2520_i32 v949
  let v951 : BitVec 32 := v950
  let v952 : Index := Scalar.indexCast v951
  let c0_560 : Index := 0#32
  ![v952.toNat, 0]

def k0_chk164 (v945 : BitVec 32) : Prop :=
  (8 ∣ (k0_mult228 v945).toNat) ∧
  (∀ a, (k0_off357 v945) a + S8x1024.size a ≤ S4608x1024.size a)
theorem k0_mult228_dvd : ∀ (v945 : BitVec 32) (k0_hw164 : k0_chk164 v945), 8 ∣ (k0_mult228 v945).toNat := fun v945 k0_hw164 => k0_hw164.1
theorem k0_off357_inb : ∀ (v945 : BitVec 32) (k0_hw164 : k0_chk164 v945), ∀ a, (k0_off357 v945) a + S8x1024.size a ≤ S4608x1024.size a := fun v945 k0_hw164 => k0_hw164.2

def k0_mult229 (v959 : BitVec 32) : BitVec 32 :=
  let c2592_i32 : BitVec 32 := 2592#32
  let c14_i32_566 : BitVec 32 := 14#32
  let v960 : BitVec 32 := Scalar.shrsi v959 c14_i32_566
  let c127_i32_567 : BitVec 32 := 127#32
  let v961 : BitVec 32 := Scalar.andi v960 c127_i32_567
  let c3_i32_568 : BitVec 32 := 3#32
  let v962 : BitVec 32 := Scalar.shrsi v961 c3_i32_568
  let c3_i32_569 : BitVec 32 := 3#32
  let v963 : BitVec 32 := Scalar.shli v962 c3_i32_569
  let v964 : BitVec 32 := Scalar.addi c2592_i32 v963
  v964

def k0_off358 (v959 : BitVec 32) : Fin 2 → Nat :=
  let c2592_i32 : BitVec 32 := 2592#32
  let c14_i32_566 : BitVec 32 := 14#32
  let v960 : BitVec 32 := Scalar.shrsi v959 c14_i32_566
  let c127_i32_567 : BitVec 32 := 127#32
  let v961 : BitVec 32 := Scalar.andi v960 c127_i32_567
  let c3_i32_568 : BitVec 32 := 3#32
  let v962 : BitVec 32 := Scalar.shrsi v961 c3_i32_568
  let c3_i32_569 : BitVec 32 := 3#32
  let v963 : BitVec 32 := Scalar.shli v962 c3_i32_569
  let v964 : BitVec 32 := Scalar.addi c2592_i32 v963
  let v965 : BitVec 32 := v964
  let v966 : Index := Scalar.indexCast v965
  let c0_570 : Index := 0#32
  ![v966.toNat, 0]

def k0_chk165 (v959 : BitVec 32) : Prop :=
  (8 ∣ (k0_mult229 v959).toNat) ∧
  (∀ a, (k0_off358 v959) a + S8x1024.size a ≤ S4608x1024.size a)
theorem k0_mult229_dvd : ∀ (v959 : BitVec 32) (k0_hw165 : k0_chk165 v959), 8 ∣ (k0_mult229 v959).toNat := fun v959 k0_hw165 => k0_hw165.1
theorem k0_off358_inb : ∀ (v959 : BitVec 32) (k0_hw165 : k0_chk165 v959), ∀ a, (k0_off358 v959) a + S8x1024.size a ≤ S4608x1024.size a := fun v959 k0_hw165 => k0_hw165.2

def k0_mult230 (v973 : BitVec 32) : BitVec 32 :=
  let c2664_i32 : BitVec 32 := 2664#32
  let c14_i32_576 : BitVec 32 := 14#32
  let v974 : BitVec 32 := Scalar.shrsi v973 c14_i32_576
  let c127_i32_577 : BitVec 32 := 127#32
  let v975 : BitVec 32 := Scalar.andi v974 c127_i32_577
  let c3_i32_578 : BitVec 32 := 3#32
  let v976 : BitVec 32 := Scalar.shrsi v975 c3_i32_578
  let c3_i32_579 : BitVec 32 := 3#32
  let v977 : BitVec 32 := Scalar.shli v976 c3_i32_579
  let v978 : BitVec 32 := Scalar.addi c2664_i32 v977
  v978

def k0_off359 (v973 : BitVec 32) : Fin 2 → Nat :=
  let c2664_i32 : BitVec 32 := 2664#32
  let c14_i32_576 : BitVec 32 := 14#32
  let v974 : BitVec 32 := Scalar.shrsi v973 c14_i32_576
  let c127_i32_577 : BitVec 32 := 127#32
  let v975 : BitVec 32 := Scalar.andi v974 c127_i32_577
  let c3_i32_578 : BitVec 32 := 3#32
  let v976 : BitVec 32 := Scalar.shrsi v975 c3_i32_578
  let c3_i32_579 : BitVec 32 := 3#32
  let v977 : BitVec 32 := Scalar.shli v976 c3_i32_579
  let v978 : BitVec 32 := Scalar.addi c2664_i32 v977
  let v979 : BitVec 32 := v978
  let v980 : Index := Scalar.indexCast v979
  let c0_580 : Index := 0#32
  ![v980.toNat, 0]

def k0_chk166 (v973 : BitVec 32) : Prop :=
  (8 ∣ (k0_mult230 v973).toNat) ∧
  (∀ a, (k0_off359 v973) a + S8x1024.size a ≤ S4608x1024.size a)
theorem k0_mult230_dvd : ∀ (v973 : BitVec 32) (k0_hw166 : k0_chk166 v973), 8 ∣ (k0_mult230 v973).toNat := fun v973 k0_hw166 => k0_hw166.1
theorem k0_off359_inb : ∀ (v973 : BitVec 32) (k0_hw166 : k0_chk166 v973), ∀ a, (k0_off359 v973) a + S8x1024.size a ≤ S4608x1024.size a := fun v973 k0_hw166 => k0_hw166.2

def k0_mult231 (v987 : BitVec 32) : BitVec 32 :=
  let c2736_i32 : BitVec 32 := 2736#32
  let c14_i32_586 : BitVec 32 := 14#32
  let v988 : BitVec 32 := Scalar.shrsi v987 c14_i32_586
  let c127_i32_587 : BitVec 32 := 127#32
  let v989 : BitVec 32 := Scalar.andi v988 c127_i32_587
  let c3_i32_588 : BitVec 32 := 3#32
  let v990 : BitVec 32 := Scalar.shrsi v989 c3_i32_588
  let c3_i32_589 : BitVec 32 := 3#32
  let v991 : BitVec 32 := Scalar.shli v990 c3_i32_589
  let v992 : BitVec 32 := Scalar.addi c2736_i32 v991
  v992

def k0_off360 (v987 : BitVec 32) : Fin 2 → Nat :=
  let c2736_i32 : BitVec 32 := 2736#32
  let c14_i32_586 : BitVec 32 := 14#32
  let v988 : BitVec 32 := Scalar.shrsi v987 c14_i32_586
  let c127_i32_587 : BitVec 32 := 127#32
  let v989 : BitVec 32 := Scalar.andi v988 c127_i32_587
  let c3_i32_588 : BitVec 32 := 3#32
  let v990 : BitVec 32 := Scalar.shrsi v989 c3_i32_588
  let c3_i32_589 : BitVec 32 := 3#32
  let v991 : BitVec 32 := Scalar.shli v990 c3_i32_589
  let v992 : BitVec 32 := Scalar.addi c2736_i32 v991
  let v993 : BitVec 32 := v992
  let v994 : Index := Scalar.indexCast v993
  let c0_590 : Index := 0#32
  ![v994.toNat, 0]

def k0_chk167 (v987 : BitVec 32) : Prop :=
  (8 ∣ (k0_mult231 v987).toNat) ∧
  (∀ a, (k0_off360 v987) a + S8x1024.size a ≤ S4608x1024.size a)
theorem k0_mult231_dvd : ∀ (v987 : BitVec 32) (k0_hw167 : k0_chk167 v987), 8 ∣ (k0_mult231 v987).toNat := fun v987 k0_hw167 => k0_hw167.1
theorem k0_off360_inb : ∀ (v987 : BitVec 32) (k0_hw167 : k0_chk167 v987), ∀ a, (k0_off360 v987) a + S8x1024.size a ≤ S4608x1024.size a := fun v987 k0_hw167 => k0_hw167.2

def k0_mult232 (v1001 : BitVec 32) : BitVec 32 :=
  let c2808_i32 : BitVec 32 := 2808#32
  let c14_i32_596 : BitVec 32 := 14#32
  let v1002 : BitVec 32 := Scalar.shrsi v1001 c14_i32_596
  let c127_i32_597 : BitVec 32 := 127#32
  let v1003 : BitVec 32 := Scalar.andi v1002 c127_i32_597
  let c3_i32_598 : BitVec 32 := 3#32
  let v1004 : BitVec 32 := Scalar.shrsi v1003 c3_i32_598
  let c3_i32_599 : BitVec 32 := 3#32
  let v1005 : BitVec 32 := Scalar.shli v1004 c3_i32_599
  let v1006 : BitVec 32 := Scalar.addi c2808_i32 v1005
  v1006

def k0_off361 (v1001 : BitVec 32) : Fin 2 → Nat :=
  let c2808_i32 : BitVec 32 := 2808#32
  let c14_i32_596 : BitVec 32 := 14#32
  let v1002 : BitVec 32 := Scalar.shrsi v1001 c14_i32_596
  let c127_i32_597 : BitVec 32 := 127#32
  let v1003 : BitVec 32 := Scalar.andi v1002 c127_i32_597
  let c3_i32_598 : BitVec 32 := 3#32
  let v1004 : BitVec 32 := Scalar.shrsi v1003 c3_i32_598
  let c3_i32_599 : BitVec 32 := 3#32
  let v1005 : BitVec 32 := Scalar.shli v1004 c3_i32_599
  let v1006 : BitVec 32 := Scalar.addi c2808_i32 v1005
  let v1007 : BitVec 32 := v1006
  let v1008 : Index := Scalar.indexCast v1007
  let c0_600 : Index := 0#32
  ![v1008.toNat, 0]

def k0_chk168 (v1001 : BitVec 32) : Prop :=
  (8 ∣ (k0_mult232 v1001).toNat) ∧
  (∀ a, (k0_off361 v1001) a + S8x1024.size a ≤ S4608x1024.size a)
theorem k0_mult232_dvd : ∀ (v1001 : BitVec 32) (k0_hw168 : k0_chk168 v1001), 8 ∣ (k0_mult232 v1001).toNat := fun v1001 k0_hw168 => k0_hw168.1
theorem k0_off361_inb : ∀ (v1001 : BitVec 32) (k0_hw168 : k0_chk168 v1001), ∀ a, (k0_off361 v1001) a + S8x1024.size a ≤ S4608x1024.size a := fun v1001 k0_hw168 => k0_hw168.2

def k0_mult233 (v1015 : BitVec 32) : BitVec 32 :=
  let c2880_i32 : BitVec 32 := 2880#32
  let c14_i32_606 : BitVec 32 := 14#32
  let v1016 : BitVec 32 := Scalar.shrsi v1015 c14_i32_606
  let c127_i32_607 : BitVec 32 := 127#32
  let v1017 : BitVec 32 := Scalar.andi v1016 c127_i32_607
  let c3_i32_608 : BitVec 32 := 3#32
  let v1018 : BitVec 32 := Scalar.shrsi v1017 c3_i32_608
  let c3_i32_609 : BitVec 32 := 3#32
  let v1019 : BitVec 32 := Scalar.shli v1018 c3_i32_609
  let v1020 : BitVec 32 := Scalar.addi c2880_i32 v1019
  v1020

def k0_off362 (v1015 : BitVec 32) : Fin 2 → Nat :=
  let c2880_i32 : BitVec 32 := 2880#32
  let c14_i32_606 : BitVec 32 := 14#32
  let v1016 : BitVec 32 := Scalar.shrsi v1015 c14_i32_606
  let c127_i32_607 : BitVec 32 := 127#32
  let v1017 : BitVec 32 := Scalar.andi v1016 c127_i32_607
  let c3_i32_608 : BitVec 32 := 3#32
  let v1018 : BitVec 32 := Scalar.shrsi v1017 c3_i32_608
  let c3_i32_609 : BitVec 32 := 3#32
  let v1019 : BitVec 32 := Scalar.shli v1018 c3_i32_609
  let v1020 : BitVec 32 := Scalar.addi c2880_i32 v1019
  let v1021 : BitVec 32 := v1020
  let v1022 : Index := Scalar.indexCast v1021
  let c0_610 : Index := 0#32
  ![v1022.toNat, 0]

def k0_chk169 (v1015 : BitVec 32) : Prop :=
  (8 ∣ (k0_mult233 v1015).toNat) ∧
  (∀ a, (k0_off362 v1015) a + S8x1024.size a ≤ S4608x1024.size a)
theorem k0_mult233_dvd : ∀ (v1015 : BitVec 32) (k0_hw169 : k0_chk169 v1015), 8 ∣ (k0_mult233 v1015).toNat := fun v1015 k0_hw169 => k0_hw169.1
theorem k0_off362_inb : ∀ (v1015 : BitVec 32) (k0_hw169 : k0_chk169 v1015), ∀ a, (k0_off362 v1015) a + S8x1024.size a ≤ S4608x1024.size a := fun v1015 k0_hw169 => k0_hw169.2

def k0_mult234 (v1029 : BitVec 32) : BitVec 32 :=
  let c2952_i32 : BitVec 32 := 2952#32
  let c14_i32_616 : BitVec 32 := 14#32
  let v1030 : BitVec 32 := Scalar.shrsi v1029 c14_i32_616
  let c127_i32_617 : BitVec 32 := 127#32
  let v1031 : BitVec 32 := Scalar.andi v1030 c127_i32_617
  let c3_i32_618 : BitVec 32 := 3#32
  let v1032 : BitVec 32 := Scalar.shrsi v1031 c3_i32_618
  let c3_i32_619 : BitVec 32 := 3#32
  let v1033 : BitVec 32 := Scalar.shli v1032 c3_i32_619
  let v1034 : BitVec 32 := Scalar.addi c2952_i32 v1033
  v1034

def k0_off363 (v1029 : BitVec 32) : Fin 2 → Nat :=
  let c2952_i32 : BitVec 32 := 2952#32
  let c14_i32_616 : BitVec 32 := 14#32
  let v1030 : BitVec 32 := Scalar.shrsi v1029 c14_i32_616
  let c127_i32_617 : BitVec 32 := 127#32
  let v1031 : BitVec 32 := Scalar.andi v1030 c127_i32_617
  let c3_i32_618 : BitVec 32 := 3#32
  let v1032 : BitVec 32 := Scalar.shrsi v1031 c3_i32_618
  let c3_i32_619 : BitVec 32 := 3#32
  let v1033 : BitVec 32 := Scalar.shli v1032 c3_i32_619
  let v1034 : BitVec 32 := Scalar.addi c2952_i32 v1033
  let v1035 : BitVec 32 := v1034
  let v1036 : Index := Scalar.indexCast v1035
  let c0_620 : Index := 0#32
  ![v1036.toNat, 0]

def k0_chk170 (v1029 : BitVec 32) : Prop :=
  (8 ∣ (k0_mult234 v1029).toNat) ∧
  (∀ a, (k0_off363 v1029) a + S8x1024.size a ≤ S4608x1024.size a)
theorem k0_mult234_dvd : ∀ (v1029 : BitVec 32) (k0_hw170 : k0_chk170 v1029), 8 ∣ (k0_mult234 v1029).toNat := fun v1029 k0_hw170 => k0_hw170.1
theorem k0_off363_inb : ∀ (v1029 : BitVec 32) (k0_hw170 : k0_chk170 v1029), ∀ a, (k0_off363 v1029) a + S8x1024.size a ≤ S4608x1024.size a := fun v1029 k0_hw170 => k0_hw170.2

def k0_mult235 (v1043 : BitVec 32) : BitVec 32 :=
  let c3024_i32 : BitVec 32 := 3024#32
  let c14_i32_626 : BitVec 32 := 14#32
  let v1044 : BitVec 32 := Scalar.shrsi v1043 c14_i32_626
  let c127_i32_627 : BitVec 32 := 127#32
  let v1045 : BitVec 32 := Scalar.andi v1044 c127_i32_627
  let c3_i32_628 : BitVec 32 := 3#32
  let v1046 : BitVec 32 := Scalar.shrsi v1045 c3_i32_628
  let c3_i32_629 : BitVec 32 := 3#32
  let v1047 : BitVec 32 := Scalar.shli v1046 c3_i32_629
  let v1048 : BitVec 32 := Scalar.addi c3024_i32 v1047
  v1048

def k0_off364 (v1043 : BitVec 32) : Fin 2 → Nat :=
  let c3024_i32 : BitVec 32 := 3024#32
  let c14_i32_626 : BitVec 32 := 14#32
  let v1044 : BitVec 32 := Scalar.shrsi v1043 c14_i32_626
  let c127_i32_627 : BitVec 32 := 127#32
  let v1045 : BitVec 32 := Scalar.andi v1044 c127_i32_627
  let c3_i32_628 : BitVec 32 := 3#32
  let v1046 : BitVec 32 := Scalar.shrsi v1045 c3_i32_628
  let c3_i32_629 : BitVec 32 := 3#32
  let v1047 : BitVec 32 := Scalar.shli v1046 c3_i32_629
  let v1048 : BitVec 32 := Scalar.addi c3024_i32 v1047
  let v1049 : BitVec 32 := v1048
  let v1050 : Index := Scalar.indexCast v1049
  let c0_630 : Index := 0#32
  ![v1050.toNat, 0]

def k0_chk171 (v1043 : BitVec 32) : Prop :=
  (8 ∣ (k0_mult235 v1043).toNat) ∧
  (∀ a, (k0_off364 v1043) a + S8x1024.size a ≤ S4608x1024.size a)
theorem k0_mult235_dvd : ∀ (v1043 : BitVec 32) (k0_hw171 : k0_chk171 v1043), 8 ∣ (k0_mult235 v1043).toNat := fun v1043 k0_hw171 => k0_hw171.1
theorem k0_off364_inb : ∀ (v1043 : BitVec 32) (k0_hw171 : k0_chk171 v1043), ∀ a, (k0_off364 v1043) a + S8x1024.size a ≤ S4608x1024.size a := fun v1043 k0_hw171 => k0_hw171.2

def k0_mult236 (v1057 : BitVec 32) : BitVec 32 :=
  let c3096_i32 : BitVec 32 := 3096#32
  let c14_i32_636 : BitVec 32 := 14#32
  let v1058 : BitVec 32 := Scalar.shrsi v1057 c14_i32_636
  let c127_i32_637 : BitVec 32 := 127#32
  let v1059 : BitVec 32 := Scalar.andi v1058 c127_i32_637
  let c3_i32_638 : BitVec 32 := 3#32
  let v1060 : BitVec 32 := Scalar.shrsi v1059 c3_i32_638
  let c3_i32_639 : BitVec 32 := 3#32
  let v1061 : BitVec 32 := Scalar.shli v1060 c3_i32_639
  let v1062 : BitVec 32 := Scalar.addi c3096_i32 v1061
  v1062

def k0_off365 (v1057 : BitVec 32) : Fin 2 → Nat :=
  let c3096_i32 : BitVec 32 := 3096#32
  let c14_i32_636 : BitVec 32 := 14#32
  let v1058 : BitVec 32 := Scalar.shrsi v1057 c14_i32_636
  let c127_i32_637 : BitVec 32 := 127#32
  let v1059 : BitVec 32 := Scalar.andi v1058 c127_i32_637
  let c3_i32_638 : BitVec 32 := 3#32
  let v1060 : BitVec 32 := Scalar.shrsi v1059 c3_i32_638
  let c3_i32_639 : BitVec 32 := 3#32
  let v1061 : BitVec 32 := Scalar.shli v1060 c3_i32_639
  let v1062 : BitVec 32 := Scalar.addi c3096_i32 v1061
  let v1063 : BitVec 32 := v1062
  let v1064 : Index := Scalar.indexCast v1063
  let c0_640 : Index := 0#32
  ![v1064.toNat, 0]

def k0_chk172 (v1057 : BitVec 32) : Prop :=
  (8 ∣ (k0_mult236 v1057).toNat) ∧
  (∀ a, (k0_off365 v1057) a + S8x1024.size a ≤ S4608x1024.size a)
theorem k0_mult236_dvd : ∀ (v1057 : BitVec 32) (k0_hw172 : k0_chk172 v1057), 8 ∣ (k0_mult236 v1057).toNat := fun v1057 k0_hw172 => k0_hw172.1
theorem k0_off365_inb : ∀ (v1057 : BitVec 32) (k0_hw172 : k0_chk172 v1057), ∀ a, (k0_off365 v1057) a + S8x1024.size a ≤ S4608x1024.size a := fun v1057 k0_hw172 => k0_hw172.2

def k0_mult237 (v1071 : BitVec 32) : BitVec 32 :=
  let c3168_i32 : BitVec 32 := 3168#32
  let c14_i32_646 : BitVec 32 := 14#32
  let v1072 : BitVec 32 := Scalar.shrsi v1071 c14_i32_646
  let c127_i32_647 : BitVec 32 := 127#32
  let v1073 : BitVec 32 := Scalar.andi v1072 c127_i32_647
  let c3_i32_648 : BitVec 32 := 3#32
  let v1074 : BitVec 32 := Scalar.shrsi v1073 c3_i32_648
  let c3_i32_649 : BitVec 32 := 3#32
  let v1075 : BitVec 32 := Scalar.shli v1074 c3_i32_649
  let v1076 : BitVec 32 := Scalar.addi c3168_i32 v1075
  v1076

def k0_off366 (v1071 : BitVec 32) : Fin 2 → Nat :=
  let c3168_i32 : BitVec 32 := 3168#32
  let c14_i32_646 : BitVec 32 := 14#32
  let v1072 : BitVec 32 := Scalar.shrsi v1071 c14_i32_646
  let c127_i32_647 : BitVec 32 := 127#32
  let v1073 : BitVec 32 := Scalar.andi v1072 c127_i32_647
  let c3_i32_648 : BitVec 32 := 3#32
  let v1074 : BitVec 32 := Scalar.shrsi v1073 c3_i32_648
  let c3_i32_649 : BitVec 32 := 3#32
  let v1075 : BitVec 32 := Scalar.shli v1074 c3_i32_649
  let v1076 : BitVec 32 := Scalar.addi c3168_i32 v1075
  let v1077 : BitVec 32 := v1076
  let v1078 : Index := Scalar.indexCast v1077
  let c0_650 : Index := 0#32
  ![v1078.toNat, 0]

def k0_chk173 (v1071 : BitVec 32) : Prop :=
  (8 ∣ (k0_mult237 v1071).toNat) ∧
  (∀ a, (k0_off366 v1071) a + S8x1024.size a ≤ S4608x1024.size a)
theorem k0_mult237_dvd : ∀ (v1071 : BitVec 32) (k0_hw173 : k0_chk173 v1071), 8 ∣ (k0_mult237 v1071).toNat := fun v1071 k0_hw173 => k0_hw173.1
theorem k0_off366_inb : ∀ (v1071 : BitVec 32) (k0_hw173 : k0_chk173 v1071), ∀ a, (k0_off366 v1071) a + S8x1024.size a ≤ S4608x1024.size a := fun v1071 k0_hw173 => k0_hw173.2

def k0_mult238 (v1085 : BitVec 32) : BitVec 32 :=
  let c3240_i32 : BitVec 32 := 3240#32
  let c14_i32_656 : BitVec 32 := 14#32
  let v1086 : BitVec 32 := Scalar.shrsi v1085 c14_i32_656
  let c127_i32_657 : BitVec 32 := 127#32
  let v1087 : BitVec 32 := Scalar.andi v1086 c127_i32_657
  let c3_i32_658 : BitVec 32 := 3#32
  let v1088 : BitVec 32 := Scalar.shrsi v1087 c3_i32_658
  let c3_i32_659 : BitVec 32 := 3#32
  let v1089 : BitVec 32 := Scalar.shli v1088 c3_i32_659
  let v1090 : BitVec 32 := Scalar.addi c3240_i32 v1089
  v1090

def k0_off367 (v1085 : BitVec 32) : Fin 2 → Nat :=
  let c3240_i32 : BitVec 32 := 3240#32
  let c14_i32_656 : BitVec 32 := 14#32
  let v1086 : BitVec 32 := Scalar.shrsi v1085 c14_i32_656
  let c127_i32_657 : BitVec 32 := 127#32
  let v1087 : BitVec 32 := Scalar.andi v1086 c127_i32_657
  let c3_i32_658 : BitVec 32 := 3#32
  let v1088 : BitVec 32 := Scalar.shrsi v1087 c3_i32_658
  let c3_i32_659 : BitVec 32 := 3#32
  let v1089 : BitVec 32 := Scalar.shli v1088 c3_i32_659
  let v1090 : BitVec 32 := Scalar.addi c3240_i32 v1089
  let v1091 : BitVec 32 := v1090
  let v1092 : Index := Scalar.indexCast v1091
  let c0_660 : Index := 0#32
  ![v1092.toNat, 0]

def k0_chk174 (v1085 : BitVec 32) : Prop :=
  (8 ∣ (k0_mult238 v1085).toNat) ∧
  (∀ a, (k0_off367 v1085) a + S8x1024.size a ≤ S4608x1024.size a)
theorem k0_mult238_dvd : ∀ (v1085 : BitVec 32) (k0_hw174 : k0_chk174 v1085), 8 ∣ (k0_mult238 v1085).toNat := fun v1085 k0_hw174 => k0_hw174.1
theorem k0_off367_inb : ∀ (v1085 : BitVec 32) (k0_hw174 : k0_chk174 v1085), ∀ a, (k0_off367 v1085) a + S8x1024.size a ≤ S4608x1024.size a := fun v1085 k0_hw174 => k0_hw174.2

def k0_mult239 (v1099 : BitVec 32) : BitVec 32 :=
  let c3312_i32 : BitVec 32 := 3312#32
  let c14_i32_666 : BitVec 32 := 14#32
  let v1100 : BitVec 32 := Scalar.shrsi v1099 c14_i32_666
  let c127_i32_667 : BitVec 32 := 127#32
  let v1101 : BitVec 32 := Scalar.andi v1100 c127_i32_667
  let c3_i32_668 : BitVec 32 := 3#32
  let v1102 : BitVec 32 := Scalar.shrsi v1101 c3_i32_668
  let c3_i32_669 : BitVec 32 := 3#32
  let v1103 : BitVec 32 := Scalar.shli v1102 c3_i32_669
  let v1104 : BitVec 32 := Scalar.addi c3312_i32 v1103
  v1104

def k0_off368 (v1099 : BitVec 32) : Fin 2 → Nat :=
  let c3312_i32 : BitVec 32 := 3312#32
  let c14_i32_666 : BitVec 32 := 14#32
  let v1100 : BitVec 32 := Scalar.shrsi v1099 c14_i32_666
  let c127_i32_667 : BitVec 32 := 127#32
  let v1101 : BitVec 32 := Scalar.andi v1100 c127_i32_667
  let c3_i32_668 : BitVec 32 := 3#32
  let v1102 : BitVec 32 := Scalar.shrsi v1101 c3_i32_668
  let c3_i32_669 : BitVec 32 := 3#32
  let v1103 : BitVec 32 := Scalar.shli v1102 c3_i32_669
  let v1104 : BitVec 32 := Scalar.addi c3312_i32 v1103
  let v1105 : BitVec 32 := v1104
  let v1106 : Index := Scalar.indexCast v1105
  let c0_670 : Index := 0#32
  ![v1106.toNat, 0]

def k0_chk175 (v1099 : BitVec 32) : Prop :=
  (8 ∣ (k0_mult239 v1099).toNat) ∧
  (∀ a, (k0_off368 v1099) a + S8x1024.size a ≤ S4608x1024.size a)
theorem k0_mult239_dvd : ∀ (v1099 : BitVec 32) (k0_hw175 : k0_chk175 v1099), 8 ∣ (k0_mult239 v1099).toNat := fun v1099 k0_hw175 => k0_hw175.1
theorem k0_off368_inb : ∀ (v1099 : BitVec 32) (k0_hw175 : k0_chk175 v1099), ∀ a, (k0_off368 v1099) a + S8x1024.size a ≤ S4608x1024.size a := fun v1099 k0_hw175 => k0_hw175.2

def k0_mult240 (v1113 : BitVec 32) : BitVec 32 :=
  let c3384_i32 : BitVec 32 := 3384#32
  let c14_i32_676 : BitVec 32 := 14#32
  let v1114 : BitVec 32 := Scalar.shrsi v1113 c14_i32_676
  let c127_i32_677 : BitVec 32 := 127#32
  let v1115 : BitVec 32 := Scalar.andi v1114 c127_i32_677
  let c3_i32_678 : BitVec 32 := 3#32
  let v1116 : BitVec 32 := Scalar.shrsi v1115 c3_i32_678
  let c3_i32_679 : BitVec 32 := 3#32
  let v1117 : BitVec 32 := Scalar.shli v1116 c3_i32_679
  let v1118 : BitVec 32 := Scalar.addi c3384_i32 v1117
  v1118

def k0_off369 (v1113 : BitVec 32) : Fin 2 → Nat :=
  let c3384_i32 : BitVec 32 := 3384#32
  let c14_i32_676 : BitVec 32 := 14#32
  let v1114 : BitVec 32 := Scalar.shrsi v1113 c14_i32_676
  let c127_i32_677 : BitVec 32 := 127#32
  let v1115 : BitVec 32 := Scalar.andi v1114 c127_i32_677
  let c3_i32_678 : BitVec 32 := 3#32
  let v1116 : BitVec 32 := Scalar.shrsi v1115 c3_i32_678
  let c3_i32_679 : BitVec 32 := 3#32
  let v1117 : BitVec 32 := Scalar.shli v1116 c3_i32_679
  let v1118 : BitVec 32 := Scalar.addi c3384_i32 v1117
  let v1119 : BitVec 32 := v1118
  let v1120 : Index := Scalar.indexCast v1119
  let c0_680 : Index := 0#32
  ![v1120.toNat, 0]

def k0_chk176 (v1113 : BitVec 32) : Prop :=
  (8 ∣ (k0_mult240 v1113).toNat) ∧
  (∀ a, (k0_off369 v1113) a + S8x1024.size a ≤ S4608x1024.size a)
theorem k0_mult240_dvd : ∀ (v1113 : BitVec 32) (k0_hw176 : k0_chk176 v1113), 8 ∣ (k0_mult240 v1113).toNat := fun v1113 k0_hw176 => k0_hw176.1
theorem k0_off369_inb : ∀ (v1113 : BitVec 32) (k0_hw176 : k0_chk176 v1113), ∀ a, (k0_off369 v1113) a + S8x1024.size a ≤ S4608x1024.size a := fun v1113 k0_hw176 => k0_hw176.2

def k0_mult241 (v1127 : BitVec 32) : BitVec 32 :=
  let c3456_i32 : BitVec 32 := 3456#32
  let c14_i32_686 : BitVec 32 := 14#32
  let v1128 : BitVec 32 := Scalar.shrsi v1127 c14_i32_686
  let c127_i32_687 : BitVec 32 := 127#32
  let v1129 : BitVec 32 := Scalar.andi v1128 c127_i32_687
  let c3_i32_688 : BitVec 32 := 3#32
  let v1130 : BitVec 32 := Scalar.shrsi v1129 c3_i32_688
  let c3_i32_689 : BitVec 32 := 3#32
  let v1131 : BitVec 32 := Scalar.shli v1130 c3_i32_689
  let v1132 : BitVec 32 := Scalar.addi c3456_i32 v1131
  v1132

def k0_off370 (v1127 : BitVec 32) : Fin 2 → Nat :=
  let c3456_i32 : BitVec 32 := 3456#32
  let c14_i32_686 : BitVec 32 := 14#32
  let v1128 : BitVec 32 := Scalar.shrsi v1127 c14_i32_686
  let c127_i32_687 : BitVec 32 := 127#32
  let v1129 : BitVec 32 := Scalar.andi v1128 c127_i32_687
  let c3_i32_688 : BitVec 32 := 3#32
  let v1130 : BitVec 32 := Scalar.shrsi v1129 c3_i32_688
  let c3_i32_689 : BitVec 32 := 3#32
  let v1131 : BitVec 32 := Scalar.shli v1130 c3_i32_689
  let v1132 : BitVec 32 := Scalar.addi c3456_i32 v1131
  let v1133 : BitVec 32 := v1132
  let v1134 : Index := Scalar.indexCast v1133
  let c0_690 : Index := 0#32
  ![v1134.toNat, 0]

def k0_chk177 (v1127 : BitVec 32) : Prop :=
  (8 ∣ (k0_mult241 v1127).toNat) ∧
  (∀ a, (k0_off370 v1127) a + S8x1024.size a ≤ S4608x1024.size a)
theorem k0_mult241_dvd : ∀ (v1127 : BitVec 32) (k0_hw177 : k0_chk177 v1127), 8 ∣ (k0_mult241 v1127).toNat := fun v1127 k0_hw177 => k0_hw177.1
theorem k0_off370_inb : ∀ (v1127 : BitVec 32) (k0_hw177 : k0_chk177 v1127), ∀ a, (k0_off370 v1127) a + S8x1024.size a ≤ S4608x1024.size a := fun v1127 k0_hw177 => k0_hw177.2

def k0_mult242 (v1141 : BitVec 32) : BitVec 32 :=
  let c3528_i32 : BitVec 32 := 3528#32
  let c14_i32_696 : BitVec 32 := 14#32
  let v1142 : BitVec 32 := Scalar.shrsi v1141 c14_i32_696
  let c127_i32_697 : BitVec 32 := 127#32
  let v1143 : BitVec 32 := Scalar.andi v1142 c127_i32_697
  let c3_i32_698 : BitVec 32 := 3#32
  let v1144 : BitVec 32 := Scalar.shrsi v1143 c3_i32_698
  let c3_i32_699 : BitVec 32 := 3#32
  let v1145 : BitVec 32 := Scalar.shli v1144 c3_i32_699
  let v1146 : BitVec 32 := Scalar.addi c3528_i32 v1145
  v1146

def k0_off371 (v1141 : BitVec 32) : Fin 2 → Nat :=
  let c3528_i32 : BitVec 32 := 3528#32
  let c14_i32_696 : BitVec 32 := 14#32
  let v1142 : BitVec 32 := Scalar.shrsi v1141 c14_i32_696
  let c127_i32_697 : BitVec 32 := 127#32
  let v1143 : BitVec 32 := Scalar.andi v1142 c127_i32_697
  let c3_i32_698 : BitVec 32 := 3#32
  let v1144 : BitVec 32 := Scalar.shrsi v1143 c3_i32_698
  let c3_i32_699 : BitVec 32 := 3#32
  let v1145 : BitVec 32 := Scalar.shli v1144 c3_i32_699
  let v1146 : BitVec 32 := Scalar.addi c3528_i32 v1145
  let v1147 : BitVec 32 := v1146
  let v1148 : Index := Scalar.indexCast v1147
  let c0_700 : Index := 0#32
  ![v1148.toNat, 0]

def k0_chk178 (v1141 : BitVec 32) : Prop :=
  (8 ∣ (k0_mult242 v1141).toNat) ∧
  (∀ a, (k0_off371 v1141) a + S8x1024.size a ≤ S4608x1024.size a)
theorem k0_mult242_dvd : ∀ (v1141 : BitVec 32) (k0_hw178 : k0_chk178 v1141), 8 ∣ (k0_mult242 v1141).toNat := fun v1141 k0_hw178 => k0_hw178.1
theorem k0_off371_inb : ∀ (v1141 : BitVec 32) (k0_hw178 : k0_chk178 v1141), ∀ a, (k0_off371 v1141) a + S8x1024.size a ≤ S4608x1024.size a := fun v1141 k0_hw178 => k0_hw178.2

def k0_mult243 (v1155 : BitVec 32) : BitVec 32 :=
  let c3600_i32 : BitVec 32 := 3600#32
  let c14_i32_706 : BitVec 32 := 14#32
  let v1156 : BitVec 32 := Scalar.shrsi v1155 c14_i32_706
  let c127_i32_707 : BitVec 32 := 127#32
  let v1157 : BitVec 32 := Scalar.andi v1156 c127_i32_707
  let c3_i32_708 : BitVec 32 := 3#32
  let v1158 : BitVec 32 := Scalar.shrsi v1157 c3_i32_708
  let c3_i32_709 : BitVec 32 := 3#32
  let v1159 : BitVec 32 := Scalar.shli v1158 c3_i32_709
  let v1160 : BitVec 32 := Scalar.addi c3600_i32 v1159
  v1160

def k0_off372 (v1155 : BitVec 32) : Fin 2 → Nat :=
  let c3600_i32 : BitVec 32 := 3600#32
  let c14_i32_706 : BitVec 32 := 14#32
  let v1156 : BitVec 32 := Scalar.shrsi v1155 c14_i32_706
  let c127_i32_707 : BitVec 32 := 127#32
  let v1157 : BitVec 32 := Scalar.andi v1156 c127_i32_707
  let c3_i32_708 : BitVec 32 := 3#32
  let v1158 : BitVec 32 := Scalar.shrsi v1157 c3_i32_708
  let c3_i32_709 : BitVec 32 := 3#32
  let v1159 : BitVec 32 := Scalar.shli v1158 c3_i32_709
  let v1160 : BitVec 32 := Scalar.addi c3600_i32 v1159
  let v1161 : BitVec 32 := v1160
  let v1162 : Index := Scalar.indexCast v1161
  let c0_710 : Index := 0#32
  ![v1162.toNat, 0]

def k0_chk179 (v1155 : BitVec 32) : Prop :=
  (8 ∣ (k0_mult243 v1155).toNat) ∧
  (∀ a, (k0_off372 v1155) a + S8x1024.size a ≤ S4608x1024.size a)
theorem k0_mult243_dvd : ∀ (v1155 : BitVec 32) (k0_hw179 : k0_chk179 v1155), 8 ∣ (k0_mult243 v1155).toNat := fun v1155 k0_hw179 => k0_hw179.1
theorem k0_off372_inb : ∀ (v1155 : BitVec 32) (k0_hw179 : k0_chk179 v1155), ∀ a, (k0_off372 v1155) a + S8x1024.size a ≤ S4608x1024.size a := fun v1155 k0_hw179 => k0_hw179.2

def k0_mult244 (v1169 : BitVec 32) : BitVec 32 :=
  let c3672_i32 : BitVec 32 := 3672#32
  let c14_i32_716 : BitVec 32 := 14#32
  let v1170 : BitVec 32 := Scalar.shrsi v1169 c14_i32_716
  let c127_i32_717 : BitVec 32 := 127#32
  let v1171 : BitVec 32 := Scalar.andi v1170 c127_i32_717
  let c3_i32_718 : BitVec 32 := 3#32
  let v1172 : BitVec 32 := Scalar.shrsi v1171 c3_i32_718
  let c3_i32_719 : BitVec 32 := 3#32
  let v1173 : BitVec 32 := Scalar.shli v1172 c3_i32_719
  let v1174 : BitVec 32 := Scalar.addi c3672_i32 v1173
  v1174

def k0_off373 (v1169 : BitVec 32) : Fin 2 → Nat :=
  let c3672_i32 : BitVec 32 := 3672#32
  let c14_i32_716 : BitVec 32 := 14#32
  let v1170 : BitVec 32 := Scalar.shrsi v1169 c14_i32_716
  let c127_i32_717 : BitVec 32 := 127#32
  let v1171 : BitVec 32 := Scalar.andi v1170 c127_i32_717
  let c3_i32_718 : BitVec 32 := 3#32
  let v1172 : BitVec 32 := Scalar.shrsi v1171 c3_i32_718
  let c3_i32_719 : BitVec 32 := 3#32
  let v1173 : BitVec 32 := Scalar.shli v1172 c3_i32_719
  let v1174 : BitVec 32 := Scalar.addi c3672_i32 v1173
  let v1175 : BitVec 32 := v1174
  let v1176 : Index := Scalar.indexCast v1175
  let c0_720 : Index := 0#32
  ![v1176.toNat, 0]

def k0_chk180 (v1169 : BitVec 32) : Prop :=
  (8 ∣ (k0_mult244 v1169).toNat) ∧
  (∀ a, (k0_off373 v1169) a + S8x1024.size a ≤ S4608x1024.size a)
theorem k0_mult244_dvd : ∀ (v1169 : BitVec 32) (k0_hw180 : k0_chk180 v1169), 8 ∣ (k0_mult244 v1169).toNat := fun v1169 k0_hw180 => k0_hw180.1
theorem k0_off373_inb : ∀ (v1169 : BitVec 32) (k0_hw180 : k0_chk180 v1169), ∀ a, (k0_off373 v1169) a + S8x1024.size a ≤ S4608x1024.size a := fun v1169 k0_hw180 => k0_hw180.2

def k0_mult245 (v1183 : BitVec 32) : BitVec 32 :=
  let c3744_i32 : BitVec 32 := 3744#32
  let c14_i32_726 : BitVec 32 := 14#32
  let v1184 : BitVec 32 := Scalar.shrsi v1183 c14_i32_726
  let c127_i32_727 : BitVec 32 := 127#32
  let v1185 : BitVec 32 := Scalar.andi v1184 c127_i32_727
  let c3_i32_728 : BitVec 32 := 3#32
  let v1186 : BitVec 32 := Scalar.shrsi v1185 c3_i32_728
  let c3_i32_729 : BitVec 32 := 3#32
  let v1187 : BitVec 32 := Scalar.shli v1186 c3_i32_729
  let v1188 : BitVec 32 := Scalar.addi c3744_i32 v1187
  v1188

def k0_off374 (v1183 : BitVec 32) : Fin 2 → Nat :=
  let c3744_i32 : BitVec 32 := 3744#32
  let c14_i32_726 : BitVec 32 := 14#32
  let v1184 : BitVec 32 := Scalar.shrsi v1183 c14_i32_726
  let c127_i32_727 : BitVec 32 := 127#32
  let v1185 : BitVec 32 := Scalar.andi v1184 c127_i32_727
  let c3_i32_728 : BitVec 32 := 3#32
  let v1186 : BitVec 32 := Scalar.shrsi v1185 c3_i32_728
  let c3_i32_729 : BitVec 32 := 3#32
  let v1187 : BitVec 32 := Scalar.shli v1186 c3_i32_729
  let v1188 : BitVec 32 := Scalar.addi c3744_i32 v1187
  let v1189 : BitVec 32 := v1188
  let v1190 : Index := Scalar.indexCast v1189
  let c0_730 : Index := 0#32
  ![v1190.toNat, 0]

def k0_chk181 (v1183 : BitVec 32) : Prop :=
  (8 ∣ (k0_mult245 v1183).toNat) ∧
  (∀ a, (k0_off374 v1183) a + S8x1024.size a ≤ S4608x1024.size a)
theorem k0_mult245_dvd : ∀ (v1183 : BitVec 32) (k0_hw181 : k0_chk181 v1183), 8 ∣ (k0_mult245 v1183).toNat := fun v1183 k0_hw181 => k0_hw181.1
theorem k0_off374_inb : ∀ (v1183 : BitVec 32) (k0_hw181 : k0_chk181 v1183), ∀ a, (k0_off374 v1183) a + S8x1024.size a ≤ S4608x1024.size a := fun v1183 k0_hw181 => k0_hw181.2

def k0_mult246 (v1197 : BitVec 32) : BitVec 32 :=
  let c3816_i32 : BitVec 32 := 3816#32
  let c14_i32_736 : BitVec 32 := 14#32
  let v1198 : BitVec 32 := Scalar.shrsi v1197 c14_i32_736
  let c127_i32_737 : BitVec 32 := 127#32
  let v1199 : BitVec 32 := Scalar.andi v1198 c127_i32_737
  let c3_i32_738 : BitVec 32 := 3#32
  let v1200 : BitVec 32 := Scalar.shrsi v1199 c3_i32_738
  let c3_i32_739 : BitVec 32 := 3#32
  let v1201 : BitVec 32 := Scalar.shli v1200 c3_i32_739
  let v1202 : BitVec 32 := Scalar.addi c3816_i32 v1201
  v1202

def k0_off375 (v1197 : BitVec 32) : Fin 2 → Nat :=
  let c3816_i32 : BitVec 32 := 3816#32
  let c14_i32_736 : BitVec 32 := 14#32
  let v1198 : BitVec 32 := Scalar.shrsi v1197 c14_i32_736
  let c127_i32_737 : BitVec 32 := 127#32
  let v1199 : BitVec 32 := Scalar.andi v1198 c127_i32_737
  let c3_i32_738 : BitVec 32 := 3#32
  let v1200 : BitVec 32 := Scalar.shrsi v1199 c3_i32_738
  let c3_i32_739 : BitVec 32 := 3#32
  let v1201 : BitVec 32 := Scalar.shli v1200 c3_i32_739
  let v1202 : BitVec 32 := Scalar.addi c3816_i32 v1201
  let v1203 : BitVec 32 := v1202
  let v1204 : Index := Scalar.indexCast v1203
  let c0_740 : Index := 0#32
  ![v1204.toNat, 0]

def k0_chk182 (v1197 : BitVec 32) : Prop :=
  (8 ∣ (k0_mult246 v1197).toNat) ∧
  (∀ a, (k0_off375 v1197) a + S8x1024.size a ≤ S4608x1024.size a)
theorem k0_mult246_dvd : ∀ (v1197 : BitVec 32) (k0_hw182 : k0_chk182 v1197), 8 ∣ (k0_mult246 v1197).toNat := fun v1197 k0_hw182 => k0_hw182.1
theorem k0_off375_inb : ∀ (v1197 : BitVec 32) (k0_hw182 : k0_chk182 v1197), ∀ a, (k0_off375 v1197) a + S8x1024.size a ≤ S4608x1024.size a := fun v1197 k0_hw182 => k0_hw182.2

def k0_mult247 (v1211 : BitVec 32) : BitVec 32 :=
  let c3888_i32 : BitVec 32 := 3888#32
  let c14_i32_746 : BitVec 32 := 14#32
  let v1212 : BitVec 32 := Scalar.shrsi v1211 c14_i32_746
  let c127_i32_747 : BitVec 32 := 127#32
  let v1213 : BitVec 32 := Scalar.andi v1212 c127_i32_747
  let c3_i32_748 : BitVec 32 := 3#32
  let v1214 : BitVec 32 := Scalar.shrsi v1213 c3_i32_748
  let c3_i32_749 : BitVec 32 := 3#32
  let v1215 : BitVec 32 := Scalar.shli v1214 c3_i32_749
  let v1216 : BitVec 32 := Scalar.addi c3888_i32 v1215
  v1216

def k0_off376 (v1211 : BitVec 32) : Fin 2 → Nat :=
  let c3888_i32 : BitVec 32 := 3888#32
  let c14_i32_746 : BitVec 32 := 14#32
  let v1212 : BitVec 32 := Scalar.shrsi v1211 c14_i32_746
  let c127_i32_747 : BitVec 32 := 127#32
  let v1213 : BitVec 32 := Scalar.andi v1212 c127_i32_747
  let c3_i32_748 : BitVec 32 := 3#32
  let v1214 : BitVec 32 := Scalar.shrsi v1213 c3_i32_748
  let c3_i32_749 : BitVec 32 := 3#32
  let v1215 : BitVec 32 := Scalar.shli v1214 c3_i32_749
  let v1216 : BitVec 32 := Scalar.addi c3888_i32 v1215
  let v1217 : BitVec 32 := v1216
  let v1218 : Index := Scalar.indexCast v1217
  let c0_750 : Index := 0#32
  ![v1218.toNat, 0]

def k0_chk183 (v1211 : BitVec 32) : Prop :=
  (8 ∣ (k0_mult247 v1211).toNat) ∧
  (∀ a, (k0_off376 v1211) a + S8x1024.size a ≤ S4608x1024.size a)
theorem k0_mult247_dvd : ∀ (v1211 : BitVec 32) (k0_hw183 : k0_chk183 v1211), 8 ∣ (k0_mult247 v1211).toNat := fun v1211 k0_hw183 => k0_hw183.1
theorem k0_off376_inb : ∀ (v1211 : BitVec 32) (k0_hw183 : k0_chk183 v1211), ∀ a, (k0_off376 v1211) a + S8x1024.size a ≤ S4608x1024.size a := fun v1211 k0_hw183 => k0_hw183.2

def k0_mult248 (v1225 : BitVec 32) : BitVec 32 :=
  let c3960_i32 : BitVec 32 := 3960#32
  let c14_i32_756 : BitVec 32 := 14#32
  let v1226 : BitVec 32 := Scalar.shrsi v1225 c14_i32_756
  let c127_i32_757 : BitVec 32 := 127#32
  let v1227 : BitVec 32 := Scalar.andi v1226 c127_i32_757
  let c3_i32_758 : BitVec 32 := 3#32
  let v1228 : BitVec 32 := Scalar.shrsi v1227 c3_i32_758
  let c3_i32_759 : BitVec 32 := 3#32
  let v1229 : BitVec 32 := Scalar.shli v1228 c3_i32_759
  let v1230 : BitVec 32 := Scalar.addi c3960_i32 v1229
  v1230

def k0_off377 (v1225 : BitVec 32) : Fin 2 → Nat :=
  let c3960_i32 : BitVec 32 := 3960#32
  let c14_i32_756 : BitVec 32 := 14#32
  let v1226 : BitVec 32 := Scalar.shrsi v1225 c14_i32_756
  let c127_i32_757 : BitVec 32 := 127#32
  let v1227 : BitVec 32 := Scalar.andi v1226 c127_i32_757
  let c3_i32_758 : BitVec 32 := 3#32
  let v1228 : BitVec 32 := Scalar.shrsi v1227 c3_i32_758
  let c3_i32_759 : BitVec 32 := 3#32
  let v1229 : BitVec 32 := Scalar.shli v1228 c3_i32_759
  let v1230 : BitVec 32 := Scalar.addi c3960_i32 v1229
  let v1231 : BitVec 32 := v1230
  let v1232 : Index := Scalar.indexCast v1231
  let c0_760 : Index := 0#32
  ![v1232.toNat, 0]

def k0_chk184 (v1225 : BitVec 32) : Prop :=
  (8 ∣ (k0_mult248 v1225).toNat) ∧
  (∀ a, (k0_off377 v1225) a + S8x1024.size a ≤ S4608x1024.size a)
theorem k0_mult248_dvd : ∀ (v1225 : BitVec 32) (k0_hw184 : k0_chk184 v1225), 8 ∣ (k0_mult248 v1225).toNat := fun v1225 k0_hw184 => k0_hw184.1
theorem k0_off377_inb : ∀ (v1225 : BitVec 32) (k0_hw184 : k0_chk184 v1225), ∀ a, (k0_off377 v1225) a + S8x1024.size a ≤ S4608x1024.size a := fun v1225 k0_hw184 => k0_hw184.2

def k0_mult249 (v1239 : BitVec 32) : BitVec 32 :=
  let c4032_i32 : BitVec 32 := 4032#32
  let c14_i32_766 : BitVec 32 := 14#32
  let v1240 : BitVec 32 := Scalar.shrsi v1239 c14_i32_766
  let c127_i32_767 : BitVec 32 := 127#32
  let v1241 : BitVec 32 := Scalar.andi v1240 c127_i32_767
  let c3_i32_768 : BitVec 32 := 3#32
  let v1242 : BitVec 32 := Scalar.shrsi v1241 c3_i32_768
  let c3_i32_769 : BitVec 32 := 3#32
  let v1243 : BitVec 32 := Scalar.shli v1242 c3_i32_769
  let v1244 : BitVec 32 := Scalar.addi c4032_i32 v1243
  v1244

def k0_off378 (v1239 : BitVec 32) : Fin 2 → Nat :=
  let c4032_i32 : BitVec 32 := 4032#32
  let c14_i32_766 : BitVec 32 := 14#32
  let v1240 : BitVec 32 := Scalar.shrsi v1239 c14_i32_766
  let c127_i32_767 : BitVec 32 := 127#32
  let v1241 : BitVec 32 := Scalar.andi v1240 c127_i32_767
  let c3_i32_768 : BitVec 32 := 3#32
  let v1242 : BitVec 32 := Scalar.shrsi v1241 c3_i32_768
  let c3_i32_769 : BitVec 32 := 3#32
  let v1243 : BitVec 32 := Scalar.shli v1242 c3_i32_769
  let v1244 : BitVec 32 := Scalar.addi c4032_i32 v1243
  let v1245 : BitVec 32 := v1244
  let v1246 : Index := Scalar.indexCast v1245
  let c0_770 : Index := 0#32
  ![v1246.toNat, 0]

def k0_chk185 (v1239 : BitVec 32) : Prop :=
  (8 ∣ (k0_mult249 v1239).toNat) ∧
  (∀ a, (k0_off378 v1239) a + S8x1024.size a ≤ S4608x1024.size a)
theorem k0_mult249_dvd : ∀ (v1239 : BitVec 32) (k0_hw185 : k0_chk185 v1239), 8 ∣ (k0_mult249 v1239).toNat := fun v1239 k0_hw185 => k0_hw185.1
theorem k0_off378_inb : ∀ (v1239 : BitVec 32) (k0_hw185 : k0_chk185 v1239), ∀ a, (k0_off378 v1239) a + S8x1024.size a ≤ S4608x1024.size a := fun v1239 k0_hw185 => k0_hw185.2

def k0_mult250 (v1253 : BitVec 32) : BitVec 32 :=
  let c4104_i32 : BitVec 32 := 4104#32
  let c14_i32_776 : BitVec 32 := 14#32
  let v1254 : BitVec 32 := Scalar.shrsi v1253 c14_i32_776
  let c127_i32_777 : BitVec 32 := 127#32
  let v1255 : BitVec 32 := Scalar.andi v1254 c127_i32_777
  let c3_i32_778 : BitVec 32 := 3#32
  let v1256 : BitVec 32 := Scalar.shrsi v1255 c3_i32_778
  let c3_i32_779 : BitVec 32 := 3#32
  let v1257 : BitVec 32 := Scalar.shli v1256 c3_i32_779
  let v1258 : BitVec 32 := Scalar.addi c4104_i32 v1257
  v1258

def k0_off379 (v1253 : BitVec 32) : Fin 2 → Nat :=
  let c4104_i32 : BitVec 32 := 4104#32
  let c14_i32_776 : BitVec 32 := 14#32
  let v1254 : BitVec 32 := Scalar.shrsi v1253 c14_i32_776
  let c127_i32_777 : BitVec 32 := 127#32
  let v1255 : BitVec 32 := Scalar.andi v1254 c127_i32_777
  let c3_i32_778 : BitVec 32 := 3#32
  let v1256 : BitVec 32 := Scalar.shrsi v1255 c3_i32_778
  let c3_i32_779 : BitVec 32 := 3#32
  let v1257 : BitVec 32 := Scalar.shli v1256 c3_i32_779
  let v1258 : BitVec 32 := Scalar.addi c4104_i32 v1257
  let v1259 : BitVec 32 := v1258
  let v1260 : Index := Scalar.indexCast v1259
  let c0_780 : Index := 0#32
  ![v1260.toNat, 0]

def k0_chk186 (v1253 : BitVec 32) : Prop :=
  (8 ∣ (k0_mult250 v1253).toNat) ∧
  (∀ a, (k0_off379 v1253) a + S8x1024.size a ≤ S4608x1024.size a)
theorem k0_mult250_dvd : ∀ (v1253 : BitVec 32) (k0_hw186 : k0_chk186 v1253), 8 ∣ (k0_mult250 v1253).toNat := fun v1253 k0_hw186 => k0_hw186.1
theorem k0_off379_inb : ∀ (v1253 : BitVec 32) (k0_hw186 : k0_chk186 v1253), ∀ a, (k0_off379 v1253) a + S8x1024.size a ≤ S4608x1024.size a := fun v1253 k0_hw186 => k0_hw186.2

def k0_mult251 (v1267 : BitVec 32) : BitVec 32 :=
  let c4176_i32 : BitVec 32 := 4176#32
  let c14_i32_786 : BitVec 32 := 14#32
  let v1268 : BitVec 32 := Scalar.shrsi v1267 c14_i32_786
  let c127_i32_787 : BitVec 32 := 127#32
  let v1269 : BitVec 32 := Scalar.andi v1268 c127_i32_787
  let c3_i32_788 : BitVec 32 := 3#32
  let v1270 : BitVec 32 := Scalar.shrsi v1269 c3_i32_788
  let c3_i32_789 : BitVec 32 := 3#32
  let v1271 : BitVec 32 := Scalar.shli v1270 c3_i32_789
  let v1272 : BitVec 32 := Scalar.addi c4176_i32 v1271
  v1272

def k0_off380 (v1267 : BitVec 32) : Fin 2 → Nat :=
  let c4176_i32 : BitVec 32 := 4176#32
  let c14_i32_786 : BitVec 32 := 14#32
  let v1268 : BitVec 32 := Scalar.shrsi v1267 c14_i32_786
  let c127_i32_787 : BitVec 32 := 127#32
  let v1269 : BitVec 32 := Scalar.andi v1268 c127_i32_787
  let c3_i32_788 : BitVec 32 := 3#32
  let v1270 : BitVec 32 := Scalar.shrsi v1269 c3_i32_788
  let c3_i32_789 : BitVec 32 := 3#32
  let v1271 : BitVec 32 := Scalar.shli v1270 c3_i32_789
  let v1272 : BitVec 32 := Scalar.addi c4176_i32 v1271
  let v1273 : BitVec 32 := v1272
  let v1274 : Index := Scalar.indexCast v1273
  let c0_790 : Index := 0#32
  ![v1274.toNat, 0]

def k0_chk187 (v1267 : BitVec 32) : Prop :=
  (8 ∣ (k0_mult251 v1267).toNat) ∧
  (∀ a, (k0_off380 v1267) a + S8x1024.size a ≤ S4608x1024.size a)
theorem k0_mult251_dvd : ∀ (v1267 : BitVec 32) (k0_hw187 : k0_chk187 v1267), 8 ∣ (k0_mult251 v1267).toNat := fun v1267 k0_hw187 => k0_hw187.1
theorem k0_off380_inb : ∀ (v1267 : BitVec 32) (k0_hw187 : k0_chk187 v1267), ∀ a, (k0_off380 v1267) a + S8x1024.size a ≤ S4608x1024.size a := fun v1267 k0_hw187 => k0_hw187.2

def k0_mult252 (v1281 : BitVec 32) : BitVec 32 :=
  let c4248_i32 : BitVec 32 := 4248#32
  let c14_i32_796 : BitVec 32 := 14#32
  let v1282 : BitVec 32 := Scalar.shrsi v1281 c14_i32_796
  let c127_i32_797 : BitVec 32 := 127#32
  let v1283 : BitVec 32 := Scalar.andi v1282 c127_i32_797
  let c3_i32_798 : BitVec 32 := 3#32
  let v1284 : BitVec 32 := Scalar.shrsi v1283 c3_i32_798
  let c3_i32_799 : BitVec 32 := 3#32
  let v1285 : BitVec 32 := Scalar.shli v1284 c3_i32_799
  let v1286 : BitVec 32 := Scalar.addi c4248_i32 v1285
  v1286

def k0_off381 (v1281 : BitVec 32) : Fin 2 → Nat :=
  let c4248_i32 : BitVec 32 := 4248#32
  let c14_i32_796 : BitVec 32 := 14#32
  let v1282 : BitVec 32 := Scalar.shrsi v1281 c14_i32_796
  let c127_i32_797 : BitVec 32 := 127#32
  let v1283 : BitVec 32 := Scalar.andi v1282 c127_i32_797
  let c3_i32_798 : BitVec 32 := 3#32
  let v1284 : BitVec 32 := Scalar.shrsi v1283 c3_i32_798
  let c3_i32_799 : BitVec 32 := 3#32
  let v1285 : BitVec 32 := Scalar.shli v1284 c3_i32_799
  let v1286 : BitVec 32 := Scalar.addi c4248_i32 v1285
  let v1287 : BitVec 32 := v1286
  let v1288 : Index := Scalar.indexCast v1287
  let c0_800 : Index := 0#32
  ![v1288.toNat, 0]

def k0_chk188 (v1281 : BitVec 32) : Prop :=
  (8 ∣ (k0_mult252 v1281).toNat) ∧
  (∀ a, (k0_off381 v1281) a + S8x1024.size a ≤ S4608x1024.size a)
theorem k0_mult252_dvd : ∀ (v1281 : BitVec 32) (k0_hw188 : k0_chk188 v1281), 8 ∣ (k0_mult252 v1281).toNat := fun v1281 k0_hw188 => k0_hw188.1
theorem k0_off381_inb : ∀ (v1281 : BitVec 32) (k0_hw188 : k0_chk188 v1281), ∀ a, (k0_off381 v1281) a + S8x1024.size a ≤ S4608x1024.size a := fun v1281 k0_hw188 => k0_hw188.2

def k0_mult253 (v1295 : BitVec 32) : BitVec 32 :=
  let c4320_i32 : BitVec 32 := 4320#32
  let c14_i32_806 : BitVec 32 := 14#32
  let v1296 : BitVec 32 := Scalar.shrsi v1295 c14_i32_806
  let c127_i32_807 : BitVec 32 := 127#32
  let v1297 : BitVec 32 := Scalar.andi v1296 c127_i32_807
  let c3_i32_808 : BitVec 32 := 3#32
  let v1298 : BitVec 32 := Scalar.shrsi v1297 c3_i32_808
  let c3_i32_809 : BitVec 32 := 3#32
  let v1299 : BitVec 32 := Scalar.shli v1298 c3_i32_809
  let v1300 : BitVec 32 := Scalar.addi c4320_i32 v1299
  v1300

def k0_off382 (v1295 : BitVec 32) : Fin 2 → Nat :=
  let c4320_i32 : BitVec 32 := 4320#32
  let c14_i32_806 : BitVec 32 := 14#32
  let v1296 : BitVec 32 := Scalar.shrsi v1295 c14_i32_806
  let c127_i32_807 : BitVec 32 := 127#32
  let v1297 : BitVec 32 := Scalar.andi v1296 c127_i32_807
  let c3_i32_808 : BitVec 32 := 3#32
  let v1298 : BitVec 32 := Scalar.shrsi v1297 c3_i32_808
  let c3_i32_809 : BitVec 32 := 3#32
  let v1299 : BitVec 32 := Scalar.shli v1298 c3_i32_809
  let v1300 : BitVec 32 := Scalar.addi c4320_i32 v1299
  let v1301 : BitVec 32 := v1300
  let v1302 : Index := Scalar.indexCast v1301
  let c0_810 : Index := 0#32
  ![v1302.toNat, 0]

def k0_chk189 (v1295 : BitVec 32) : Prop :=
  (8 ∣ (k0_mult253 v1295).toNat) ∧
  (∀ a, (k0_off382 v1295) a + S8x1024.size a ≤ S4608x1024.size a)
theorem k0_mult253_dvd : ∀ (v1295 : BitVec 32) (k0_hw189 : k0_chk189 v1295), 8 ∣ (k0_mult253 v1295).toNat := fun v1295 k0_hw189 => k0_hw189.1
theorem k0_off382_inb : ∀ (v1295 : BitVec 32) (k0_hw189 : k0_chk189 v1295), ∀ a, (k0_off382 v1295) a + S8x1024.size a ≤ S4608x1024.size a := fun v1295 k0_hw189 => k0_hw189.2

def k0_mult254 (v1309 : BitVec 32) : BitVec 32 :=
  let c4392_i32 : BitVec 32 := 4392#32
  let c14_i32_816 : BitVec 32 := 14#32
  let v1310 : BitVec 32 := Scalar.shrsi v1309 c14_i32_816
  let c127_i32_817 : BitVec 32 := 127#32
  let v1311 : BitVec 32 := Scalar.andi v1310 c127_i32_817
  let c3_i32_818 : BitVec 32 := 3#32
  let v1312 : BitVec 32 := Scalar.shrsi v1311 c3_i32_818
  let c3_i32_819 : BitVec 32 := 3#32
  let v1313 : BitVec 32 := Scalar.shli v1312 c3_i32_819
  let v1314 : BitVec 32 := Scalar.addi c4392_i32 v1313
  v1314

def k0_off383 (v1309 : BitVec 32) : Fin 2 → Nat :=
  let c4392_i32 : BitVec 32 := 4392#32
  let c14_i32_816 : BitVec 32 := 14#32
  let v1310 : BitVec 32 := Scalar.shrsi v1309 c14_i32_816
  let c127_i32_817 : BitVec 32 := 127#32
  let v1311 : BitVec 32 := Scalar.andi v1310 c127_i32_817
  let c3_i32_818 : BitVec 32 := 3#32
  let v1312 : BitVec 32 := Scalar.shrsi v1311 c3_i32_818
  let c3_i32_819 : BitVec 32 := 3#32
  let v1313 : BitVec 32 := Scalar.shli v1312 c3_i32_819
  let v1314 : BitVec 32 := Scalar.addi c4392_i32 v1313
  let v1315 : BitVec 32 := v1314
  let v1316 : Index := Scalar.indexCast v1315
  let c0_820 : Index := 0#32
  ![v1316.toNat, 0]

def k0_chk190 (v1309 : BitVec 32) : Prop :=
  (8 ∣ (k0_mult254 v1309).toNat) ∧
  (∀ a, (k0_off383 v1309) a + S8x1024.size a ≤ S4608x1024.size a)
theorem k0_mult254_dvd : ∀ (v1309 : BitVec 32) (k0_hw190 : k0_chk190 v1309), 8 ∣ (k0_mult254 v1309).toNat := fun v1309 k0_hw190 => k0_hw190.1
theorem k0_off383_inb : ∀ (v1309 : BitVec 32) (k0_hw190 : k0_chk190 v1309), ∀ a, (k0_off383 v1309) a + S8x1024.size a ≤ S4608x1024.size a := fun v1309 k0_hw190 => k0_hw190.2

def k0_mult255 (v1323 : BitVec 32) : BitVec 32 :=
  let c4464_i32 : BitVec 32 := 4464#32
  let c14_i32_826 : BitVec 32 := 14#32
  let v1324 : BitVec 32 := Scalar.shrsi v1323 c14_i32_826
  let c127_i32_827 : BitVec 32 := 127#32
  let v1325 : BitVec 32 := Scalar.andi v1324 c127_i32_827
  let c3_i32_828 : BitVec 32 := 3#32
  let v1326 : BitVec 32 := Scalar.shrsi v1325 c3_i32_828
  let c3_i32_829 : BitVec 32 := 3#32
  let v1327 : BitVec 32 := Scalar.shli v1326 c3_i32_829
  let v1328 : BitVec 32 := Scalar.addi c4464_i32 v1327
  v1328

def k0_off384 (v1323 : BitVec 32) : Fin 2 → Nat :=
  let c4464_i32 : BitVec 32 := 4464#32
  let c14_i32_826 : BitVec 32 := 14#32
  let v1324 : BitVec 32 := Scalar.shrsi v1323 c14_i32_826
  let c127_i32_827 : BitVec 32 := 127#32
  let v1325 : BitVec 32 := Scalar.andi v1324 c127_i32_827
  let c3_i32_828 : BitVec 32 := 3#32
  let v1326 : BitVec 32 := Scalar.shrsi v1325 c3_i32_828
  let c3_i32_829 : BitVec 32 := 3#32
  let v1327 : BitVec 32 := Scalar.shli v1326 c3_i32_829
  let v1328 : BitVec 32 := Scalar.addi c4464_i32 v1327
  let v1329 : BitVec 32 := v1328
  let v1330 : Index := Scalar.indexCast v1329
  let c0_830 : Index := 0#32
  ![v1330.toNat, 0]

def k0_chk191 (v1323 : BitVec 32) : Prop :=
  (8 ∣ (k0_mult255 v1323).toNat) ∧
  (∀ a, (k0_off384 v1323) a + S8x1024.size a ≤ S4608x1024.size a)
theorem k0_mult255_dvd : ∀ (v1323 : BitVec 32) (k0_hw191 : k0_chk191 v1323), 8 ∣ (k0_mult255 v1323).toNat := fun v1323 k0_hw191 => k0_hw191.1
theorem k0_off384_inb : ∀ (v1323 : BitVec 32) (k0_hw191 : k0_chk191 v1323), ∀ a, (k0_off384 v1323) a + S8x1024.size a ≤ S4608x1024.size a := fun v1323 k0_hw191 => k0_hw191.2

def k0_mult256 (v1337 : BitVec 32) : BitVec 32 :=
  let c4536_i32 : BitVec 32 := 4536#32
  let c14_i32_836 : BitVec 32 := 14#32
  let v1338 : BitVec 32 := Scalar.shrsi v1337 c14_i32_836
  let c127_i32_837 : BitVec 32 := 127#32
  let v1339 : BitVec 32 := Scalar.andi v1338 c127_i32_837
  let c3_i32_838 : BitVec 32 := 3#32
  let v1340 : BitVec 32 := Scalar.shrsi v1339 c3_i32_838
  let c3_i32_839 : BitVec 32 := 3#32
  let v1341 : BitVec 32 := Scalar.shli v1340 c3_i32_839
  let v1342 : BitVec 32 := Scalar.addi c4536_i32 v1341
  v1342

def k0_off385 (v1337 : BitVec 32) : Fin 2 → Nat :=
  let c4536_i32 : BitVec 32 := 4536#32
  let c14_i32_836 : BitVec 32 := 14#32
  let v1338 : BitVec 32 := Scalar.shrsi v1337 c14_i32_836
  let c127_i32_837 : BitVec 32 := 127#32
  let v1339 : BitVec 32 := Scalar.andi v1338 c127_i32_837
  let c3_i32_838 : BitVec 32 := 3#32
  let v1340 : BitVec 32 := Scalar.shrsi v1339 c3_i32_838
  let c3_i32_839 : BitVec 32 := 3#32
  let v1341 : BitVec 32 := Scalar.shli v1340 c3_i32_839
  let v1342 : BitVec 32 := Scalar.addi c4536_i32 v1341
  let v1343 : BitVec 32 := v1342
  let v1344 : Index := Scalar.indexCast v1343
  let c0_840 : Index := 0#32
  ![v1344.toNat, 0]

def k0_chk192 (v1337 : BitVec 32) : Prop :=
  (8 ∣ (k0_mult256 v1337).toNat) ∧
  (∀ a, (k0_off385 v1337) a + S8x1024.size a ≤ S4608x1024.size a)
theorem k0_mult256_dvd : ∀ (v1337 : BitVec 32) (k0_hw192 : k0_chk192 v1337), 8 ∣ (k0_mult256 v1337).toNat := fun v1337 k0_hw192 => k0_hw192.1
theorem k0_off385_inb : ∀ (v1337 : BitVec 32) (k0_hw192 : k0_chk192 v1337), ∀ a, (k0_off385 v1337) a + S8x1024.size a ≤ S4608x1024.size a := fun v1337 k0_hw192 => k0_hw192.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S64x125 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S512x64x1024 : Shape := ⟨3, ![512, 64, 1024]⟩
abbrev S512x125 : Shape := ⟨2, ![512, 125]⟩
abbrev S64x2560 : Shape := ⟨2, ![64, 2560]⟩
abbrev S512x2560 : Shape := ⟨2, ![512, 2560]⟩
abbrev S2560 : Shape := ⟨1, ![2560]⟩
abbrev S1536x256 : Shape := ⟨2, ![1536, 256]⟩
abbrev S64x256 : Shape := ⟨2, ![64, 256]⟩
abbrev S256 : Shape := ⟨1, ![256]⟩
abbrev S512x64 : Shape := ⟨2, ![512, 64]⟩
abbrev S512x64x512 : Shape := ⟨3, ![512, 64, 512]⟩
abbrev S512 : Shape := ⟨1, ![512]⟩
abbrev S_ : Shape := ⟨0, ![]⟩
abbrev S512x66x512 : Shape := ⟨3, ![512, 66, 512]⟩
abbrev S512x1x512 : Shape := ⟨3, ![512, 1, 512]⟩
abbrev S512x512 : Shape := ⟨2, ![512, 512]⟩
abbrev S1 : Shape := ⟨1, ![1]⟩
abbrev S125x512 : Shape := ⟨2, ![125, 512]⟩
abbrev S1x512 : Shape := ⟨2, ![1, 512]⟩
abbrev S512x1 : Shape := ⟨2, ![512, 1]⟩
abbrev S512x2 : Shape := ⟨2, ![512, 2]⟩
abbrev S512x1536 : Shape := ⟨2, ![512, 1536]⟩
abbrev S512x256 : Shape := ⟨2, ![512, 256]⟩
abbrev S1x256 : Shape := ⟨2, ![1, 256]⟩
abbrev S1x2560 : Shape := ⟨2, ![1, 2560]⟩

abbrev nBuf : Space → Nat
  | .hbm => 429
  | .vmem => 0
  | .smem => 0
  | _ => 0

abbrev hbmTy0_0 (i : Nat) : BufTy := match i % 128 with
  | 0 => ⟨S512x64x1024, .f32⟩
  | 1 => ⟨S512x125, .i32⟩
  | 2 => ⟨S64x2560, .f32⟩
  | 3 => ⟨S512x2560, .f32⟩
  | 4 => ⟨S2560, .f32⟩
  | 5 => ⟨S512x2560, .f32⟩
  | 6 => ⟨S512x2560, .f32⟩
  | 7 => ⟨S1536x256, .f32⟩
  | 8 => ⟨S64x256, .f32⟩
  | 9 => ⟨S256, .f32⟩
  | 10 => ⟨S256, .f32⟩
  | 11 => ⟨S512x64, .f32⟩
  | 12 => ⟨S512x64, .f32⟩
  | 13 => ⟨S512x64x512, .f32⟩
  | 14 => ⟨S512x64x512, .f32⟩
  | 15 => ⟨S512, .i32⟩
  | 16 => ⟨S_, .f32⟩
  | 17 => ⟨S512x66x512, .f32⟩
  | 18 => ⟨S_, .f32⟩
  | 19 => ⟨S512x66x512, .f32⟩
  | 20 => ⟨S512x1x512, .f32⟩
  | 21 => ⟨S512x512, .f32⟩
  | 22 => ⟨S_, .i32⟩
  | 23 => ⟨S1, .i32⟩
  | 24 => ⟨S512x66x512, .f32⟩
  | 25 => ⟨S512x1x512, .f32⟩
  | 26 => ⟨S512x512, .f32⟩
  | 27 => ⟨S_, .i32⟩
  | 28 => ⟨S1, .i32⟩
  | 29 => ⟨S512x66x512, .f32⟩
  | 30 => ⟨S512x1x512, .f32⟩
  | 31 => ⟨S512x512, .f32⟩
  | 32 => ⟨S_, .i32⟩
  | 33 => ⟨S1, .i32⟩
  | 34 => ⟨S512x66x512, .f32⟩
  | 35 => ⟨S512x1x512, .f32⟩
  | 36 => ⟨S512x512, .f32⟩
  | 37 => ⟨S_, .i32⟩
  | 38 => ⟨S1, .i32⟩
  | 39 => ⟨S512x66x512, .f32⟩
  | 40 => ⟨S_, .i32⟩
  | 41 => ⟨S512, .i32⟩
  | 42 => ⟨S_, .i32⟩
  | 43 => ⟨S512, .i32⟩
  | 44 => ⟨S125x512, .i32⟩
  | 45 => ⟨S_, .i32⟩
  | 46 => ⟨S125x512, .i32⟩
  | 47 => ⟨S512, .i32⟩
  | 48 => ⟨S512x64x512, .f32⟩
  | 49 => ⟨S512x64x512, .f32⟩
  | 50 => ⟨S1536x256, .f32⟩
  | 51 => ⟨S256, .f32⟩
  | 52 => ⟨S64x256, .f32⟩
  | 53 => ⟨S256, .f32⟩
  | 54 => ⟨S512x2560, .f32⟩
  | 55 => ⟨S2560, .f32⟩
  | 56 => ⟨S512x2560, .f32⟩
  | 57 => ⟨S512x2560, .f32⟩
  | 58 => ⟨S64x2560, .f32⟩
  | 59 => ⟨S_, .i32⟩
  | 60 => ⟨S512x66x512, .f32⟩
  | 61 => ⟨S512x66x512, .f32⟩
  | 62 => ⟨S512, .i32⟩
  | 63 => ⟨S512, .i32⟩
  | 64 => ⟨S512x64, .f32⟩
  | 65 => ⟨S512x64, .f32⟩
  | 66 => ⟨S_, .i32⟩
  | 67 => ⟨S_, .i1⟩
  | 68 => ⟨S_, .i32⟩
  | 69 => ⟨S1x512, .i32⟩
  | 70 => ⟨S512, .i32⟩
  | 71 => ⟨S_, .i32⟩
  | 72 => ⟨S512, .i32⟩
  | 73 => ⟨S512, .i32⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S_, .i32⟩
  | 82 => ⟨S512, .i32⟩
  | 83 => ⟨S512, .i1⟩
  | 84 => ⟨S_, .i32⟩
  | 85 => ⟨S512, .i32⟩
  | 86 => ⟨S512, .i32⟩
  | 87 => ⟨S512, .i32⟩
  | 88 => ⟨S512x1, .i32⟩
  | 89 => ⟨S512x1, .i32⟩
  | 90 => ⟨S512x2, .i32⟩
  | 91 => ⟨S512x512, .f32⟩
  | 92 => ⟨S_, .i32⟩
  | 93 => ⟨S512, .i32⟩
  | 94 => ⟨S512, .i32⟩
  | 95 => ⟨S_, .i32⟩
  | 96 => ⟨S512, .i32⟩
  | 97 => ⟨S512, .i1⟩
  | 98 => ⟨S_, .i32⟩
  | 99 => ⟨S512, .i32⟩
  | 100 => ⟨S512, .i32⟩
  | 101 => ⟨S512, .i32⟩
  | 102 => ⟨S_, .i32⟩
  | 103 => ⟨S512, .i32⟩
  | 104 => ⟨S512, .i1⟩
  | 105 => ⟨S_, .i32⟩
  | 106 => ⟨S512, .i32⟩
  | 107 => ⟨S512, .i32⟩
  | 108 => ⟨S512, .i32⟩
  | 109 => ⟨S512x1, .i32⟩
  | 110 => ⟨S512x1, .i32⟩
  | 111 => ⟨S512x2, .i32⟩
  | 112 => ⟨S512x512, .f32⟩
  | 113 => ⟨S_, .i32⟩
  | 114 => ⟨S512, .i32⟩
  | 115 => ⟨S512, .i32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S_, .i32⟩
  | 124 => ⟨S512, .i32⟩
  | 125 => ⟨S512, .i1⟩
  | 126 => ⟨S_, .i32⟩
  | 127 => ⟨S512, .i32⟩
  | _ => ⟨S512x64x1024, .f32⟩

abbrev hbmTy0_1 (i : Nat) : BufTy := match i % 128 with
  | 0 => ⟨S512, .i32⟩
  | 1 => ⟨S512, .i32⟩
  | 2 => ⟨S512x1, .i32⟩
  | 3 => ⟨S512x1, .i32⟩
  | 4 => ⟨S512x2, .i32⟩
  | 5 => ⟨S512x512, .f32⟩
  | 6 => ⟨S_, .i32⟩
  | 7 => ⟨S512, .i32⟩
  | 8 => ⟨S512, .i32⟩
  | 9 => ⟨S_, .i32⟩
  | 10 => ⟨S512, .i32⟩
  | 11 => ⟨S512, .i1⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S512x1, .i32⟩
  | 25 => ⟨S512x2, .i32⟩
  | 26 => ⟨S512x512, .f32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S_, .i32⟩
  | 35 => ⟨S512, .i32⟩
  | 36 => ⟨S512, .i1⟩
  | 37 => ⟨S_, .i32⟩
  | 38 => ⟨S512, .i32⟩
  | 39 => ⟨S512, .i32⟩
  | 40 => ⟨S512, .i32⟩
  | 41 => ⟨S512x1, .i32⟩
  | 42 => ⟨S512x1, .i32⟩
  | 43 => ⟨S512x2, .i32⟩
  | 44 => ⟨S512x512, .f32⟩
  | 45 => ⟨S_, .i32⟩
  | 46 => ⟨S512, .i32⟩
  | 47 => ⟨S512, .i1⟩
  | 48 => ⟨S_, .i32⟩
  | 49 => ⟨S512, .i32⟩
  | 50 => ⟨S512, .i32⟩
  | 51 => ⟨S512, .i32⟩
  | 52 => ⟨S_, .i32⟩
  | 53 => ⟨S512, .i32⟩
  | 54 => ⟨S512, .i1⟩
  | 55 => ⟨S_, .i32⟩
  | 56 => ⟨S512, .i32⟩
  | 57 => ⟨S512, .i32⟩
  | 58 => ⟨S512, .i32⟩
  | 59 => ⟨S512x1, .i32⟩
  | 60 => ⟨S512x1, .i32⟩
  | 61 => ⟨S512x2, .i32⟩
  | 62 => ⟨S512x512, .f32⟩
  | 63 => ⟨S512x1536, .f32⟩
  | 64 => ⟨S512x256, .f32⟩
  | 65 => ⟨S1x256, .f32⟩
  | 66 => ⟨S512x256, .f32⟩
  | 67 => ⟨S512x256, .f32⟩
  | 68 => ⟨S512x256, .f32⟩
  | 69 => ⟨S512x256, .f32⟩
  | 70 => ⟨S1x256, .f32⟩
  | 71 => ⟨S512x256, .f32⟩
  | 72 => ⟨S512x256, .f32⟩
  | 73 => ⟨S512x64, .f32⟩
  | 74 => ⟨S512x64, .f32⟩
  | 75 => ⟨S512x64, .f32⟩
  | 76 => ⟨S512x64, .f32⟩
  | 77 => ⟨S512x64, .f32⟩
  | 78 => ⟨S512x64, .f32⟩
  | 79 => ⟨S_, .f32⟩
  | 80 => ⟨S512x64, .f32⟩
  | 81 => ⟨S512x64, .f32⟩
  | 82 => ⟨S_, .f32⟩
  | 83 => ⟨S512x64, .f32⟩
  | 84 => ⟨S512x64, .f32⟩
  | 85 => ⟨S512x64, .f32⟩
  | 86 => ⟨S512x64, .f32⟩
  | 87 => ⟨S512x64, .f32⟩
  | 88 => ⟨S_, .f32⟩
  | 89 => ⟨S512x64, .f32⟩
  | 90 => ⟨S512x64, .f32⟩
  | 91 => ⟨S_, .f32⟩
  | 92 => ⟨S512x64, .f32⟩
  | 93 => ⟨S512x64, .f32⟩
  | 94 => ⟨S512x64, .f32⟩
  | 95 => ⟨S512x64, .f32⟩
  | 96 => ⟨S512x64, .f32⟩
  | 97 => ⟨S512x64, .f32⟩
  | 98 => ⟨S512x64, .f32⟩
  | 99 => ⟨S_, .f32⟩
  | 100 => ⟨S512x64, .f32⟩
  | 101 => ⟨S512x64, .f32⟩
  | 102 => ⟨S_, .f32⟩
  | 103 => ⟨S512x64, .f32⟩
  | 104 => ⟨S512x64, .f32⟩
  | 105 => ⟨S512x64, .f32⟩
  | 106 => ⟨S512x64, .f32⟩
  | 107 => ⟨S_, .i32⟩
  | 108 => ⟨S512, .i32⟩
  | 109 => ⟨S512, .i1⟩
  | 110 => ⟨S_, .i32⟩
  | 111 => ⟨S512, .i32⟩
  | 112 => ⟨S512, .i1⟩
  | 113 => ⟨S_, .i32⟩
  | 114 => ⟨S512, .i32⟩
  | 115 => ⟨S512, .i1⟩
  | 116 => ⟨S512x1, .i1⟩
  | 117 => ⟨S512x512, .i1⟩
  | 118 => ⟨S512x512, .f32⟩
  | 119 => ⟨S512x512, .i1⟩
  | 120 => ⟨S512x512, .f32⟩
  | 121 => ⟨S512x512, .i1⟩
  | 122 => ⟨S512x512, .f32⟩
  | 123 => ⟨S512x512, .i1⟩
  | 124 => ⟨S512x512, .f32⟩
  | 125 => ⟨S512x2560, .f32⟩
  | 126 => ⟨S1x2560, .f32⟩
  | 127 => ⟨S512x2560, .f32⟩
  | _ => ⟨S512x64x1024, .f32⟩

abbrev hbmTy0_2 (i : Nat) : BufTy := match i % 128 with
  | 0 => ⟨S512x2560, .f32⟩
  | 1 => ⟨S512x2560, .f32⟩
  | 2 => ⟨S512x2560, .f32⟩
  | 3 => ⟨S512x2560, .i1⟩
  | 4 => ⟨S512x2560, .f32⟩
  | 5 => ⟨S512x2560, .f32⟩
  | 6 => ⟨S512x2560, .f32⟩
  | 7 => ⟨S512x2560, .f32⟩
  | 8 => ⟨S512x512, .f32⟩
  | 9 => ⟨S512x512, .f32⟩
  | 10 => ⟨S512x512, .f32⟩
  | 11 => ⟨S512x512, .f32⟩
  | 12 => ⟨S512x512, .f32⟩
  | 13 => ⟨S512x512, .f32⟩
  | 14 => ⟨S512x512, .f32⟩
  | 15 => ⟨S_, .f32⟩
  | 16 => ⟨S512x512, .f32⟩
  | 17 => ⟨S512x512, .f32⟩
  | 18 => ⟨S_, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S_, .f32⟩
  | 29 => ⟨S512x512, .f32⟩
  | 30 => ⟨S512x512, .f32⟩
  | 31 => ⟨S512x512, .f32⟩
  | 32 => ⟨S512x512, .f32⟩
  | 33 => ⟨S512x512, .f32⟩
  | 34 => ⟨S512x512, .f32⟩
  | 35 => ⟨S_, .f32⟩
  | 36 => ⟨S512x512, .f32⟩
  | 37 => ⟨S512x512, .f32⟩
  | 38 => ⟨S_, .f32⟩
  | 39 => ⟨S512x512, .f32⟩
  | 40 => ⟨S512x512, .f32⟩
  | 41 => ⟨S512x512, .f32⟩
  | 42 => ⟨S512x512, .f32⟩
  | 43 => ⟨S512x512, .f32⟩
  | 44 => ⟨S512x512, .f32⟩
  | 45 => ⟨S_, .f32⟩
  | 46 => ⟨S512x512, .f32⟩
  | 47 => ⟨S512x512, .f32⟩
  | 48 => ⟨S_, .f32⟩
  | 49 => ⟨S512x512, .f32⟩
  | 50 => ⟨S512x512, .f32⟩
  | 51 => ⟨S512x512, .f32⟩
  | 52 => ⟨S512x512, .f32⟩
  | 53 => ⟨S512, .i1⟩
  | 54 => ⟨S512x1, .i1⟩
  | 55 => ⟨S512x512, .i1⟩
  | 56 => ⟨S512x512, .f32⟩
  | 57 => ⟨S512x1, .i1⟩
  | 58 => ⟨S512x512, .i1⟩
  | 59 => ⟨S512x512, .f32⟩
  | 60 => ⟨S512, .i32⟩
  | 61 => ⟨S512, .i32⟩
  | 62 => ⟨S512, .i32⟩
  | 63 => ⟨S512, .i32⟩
  | 64 => ⟨S_, .i32⟩
  | 65 => ⟨S512, .i32⟩
  | 66 => ⟨S512, .i32⟩
  | 67 => ⟨S512, .i1⟩
  | 68 => ⟨S512x1, .i1⟩
  | 69 => ⟨S_, .i32⟩
  | 70 => ⟨S512, .i32⟩
  | 71 => ⟨S512, .i1⟩
  | 72 => ⟨S_, .i32⟩
  | 73 => ⟨S512, .i32⟩
  | 74 => ⟨S512, .i32⟩
  | 75 => ⟨S512, .i32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S512x1, .i32⟩
  | 85 => ⟨S512x2, .i32⟩
  | 86 => ⟨S512x512, .f32⟩
  | 87 => ⟨S512x512, .i1⟩
  | 88 => ⟨S512x512, .f32⟩
  | 89 => ⟨S_, .i32⟩
  | 90 => ⟨S512, .i32⟩
  | 91 => ⟨S512, .i1⟩
  | 92 => ⟨S_, .i32⟩
  | 93 => ⟨S512, .i32⟩
  | 94 => ⟨S512, .i32⟩
  | 95 => ⟨S512, .i32⟩
  | 96 => ⟨S_, .i32⟩
  | 97 => ⟨S512, .i32⟩
  | 98 => ⟨S512, .i1⟩
  | 99 => ⟨S_, .i32⟩
  | 100 => ⟨S512, .i32⟩
  | 101 => ⟨S512, .i32⟩
  | 102 => ⟨S512, .i32⟩
  | 103 => ⟨S512x1, .i32⟩
  | 104 => ⟨S512x1, .i32⟩
  | 105 => ⟨S512x2, .i32⟩
  | 106 => ⟨S512x512, .f32⟩
  | 107 => ⟨S512x512, .i1⟩
  | 108 => ⟨S512x512, .f32⟩
  | 109 => ⟨S_, .i32⟩
  | 110 => ⟨S512, .i32⟩
  | 111 => ⟨S512, .i1⟩
  | 112 => ⟨S_, .i32⟩
  | 113 => ⟨S512, .i32⟩
  | 114 => ⟨S512, .i32⟩
  | 115 => ⟨S512, .i32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512x1, .i32⟩
  | 125 => ⟨S512x2, .i32⟩
  | 126 => ⟨S512x66x512, .f32⟩
  | 127 => ⟨S_, .i32⟩
  | _ => ⟨S512x64x1024, .f32⟩

abbrev hbmTy0_3 (i : Nat) : BufTy := match i % 128 with
  | 0 => ⟨S512, .i32⟩
  | 1 => ⟨S512, .i1⟩
  | 2 => ⟨S_, .i32⟩
  | 3 => ⟨S512, .i32⟩
  | 4 => ⟨S512, .i32⟩
  | 5 => ⟨S512, .i32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S512x1, .i32⟩
  | 14 => ⟨S512x1, .i32⟩
  | 15 => ⟨S512x2, .i32⟩
  | 16 => ⟨S512x66x512, .f32⟩
  | 17 => ⟨S512, .i32⟩
  | 18 => ⟨S512, .i32⟩
  | 19 => ⟨S_, .i32⟩
  | 20 => ⟨S512, .i32⟩
  | 21 => ⟨S512, .i32⟩
  | 22 => ⟨S_, .i32⟩
  | 23 => ⟨S_, .i32⟩
  | 24 => ⟨S_, .i32⟩
  | 25 => ⟨S512, .i32⟩
  | 26 => ⟨S512, .i32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S_, .i32⟩
  | 35 => ⟨S512, .i32⟩
  | 36 => ⟨S512, .i1⟩
  | 37 => ⟨S_, .i32⟩
  | 38 => ⟨S512, .i32⟩
  | 39 => ⟨S512, .i32⟩
  | 40 => ⟨S512, .i32⟩
  | 41 => ⟨S512x1, .i32⟩
  | 42 => ⟨S512x1, .i32⟩
  | 43 => ⟨S512x2, .i32⟩
  | 44 => ⟨S512x512, .f32⟩
  | _ => ⟨S512x64x1024, .f32⟩

abbrev hbmTy (i : Nat) : BufTy := match i / 128 with
  | 0 => hbmTy0_0 i
  | 1 => hbmTy0_1 i
  | 2 => hbmTy0_2 i
  | 3 => hbmTy0_3 i
  | _ => ⟨S512x64x1024, .f32⟩

abbrev bufTy : (tb : Table) → Fin (tcTables nBuf tb) → BufTy
  | .hbm, ⟨i, _⟩ => hbmTy i
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_v24_3 : Ref sig .tc := ⟨.hbm, 49, rfl⟩
abbrev main_v24_4 : Ref sig .tc := ⟨.hbm, 50, rfl⟩
abbrev main_v24_5 : Ref sig .tc := ⟨.hbm, 51, rfl⟩
abbrev main_v24_6 : Ref sig .tc := ⟨.hbm, 52, rfl⟩
abbrev main_v24_7 : Ref sig .tc := ⟨.hbm, 53, rfl⟩
abbrev main_v24_8 : Ref sig .tc := ⟨.hbm, 54, rfl⟩
abbrev main_v24_9 : Ref sig .tc := ⟨.hbm, 55, rfl⟩
abbrev main_v24_10 : Ref sig .tc := ⟨.hbm, 56, rfl⟩
abbrev main_v24_11 : Ref sig .tc := ⟨.hbm, 57, rfl⟩
abbrev main_v24_12 : Ref sig .tc := ⟨.hbm, 58, rfl⟩
abbrev main_v24_13 : Ref sig .tc := ⟨.hbm, 59, rfl⟩
abbrev main_v24_14 : Ref sig .tc := ⟨.hbm, 60, rfl⟩
abbrev main_v24_15 : Ref sig .tc := ⟨.hbm, 61, rfl⟩
abbrev main_v24_16 : Ref sig .tc := ⟨.hbm, 62, rfl⟩
abbrev main_v24_17 : Ref sig .tc := ⟨.hbm, 63, rfl⟩
abbrev main_v24_18 : Ref sig .tc := ⟨.hbm, 64, rfl⟩
abbrev main_v24_19 : Ref sig .tc := ⟨.hbm, 65, rfl⟩
abbrev main_while0c_c_31 : Ref sig .tc := ⟨.hbm, 66, rfl⟩
abbrev main_while0c_v41 : Ref sig .tc := ⟨.hbm, 67, rfl⟩
abbrev main_while0b_call0_c : Ref sig .tc := ⟨.hbm, 68, rfl⟩
abbrev main_while0b_call0_v0 : Ref sig .tc := ⟨.hbm, 69, rfl⟩
abbrev main_while0b_v41 : Ref sig .tc := ⟨.hbm, 70, rfl⟩
abbrev main_while0b_c_31 : Ref sig .tc := ⟨.hbm, 71, rfl⟩
abbrev main_while0b_v42 : Ref sig .tc := ⟨.hbm, 72, rfl⟩
abbrev main_while0b_v43 : Ref sig .tc := ⟨.hbm, 73, rfl⟩
abbrev main_while0b_c_32 : Ref sig .tc := ⟨.hbm, 74, rfl⟩
abbrev main_while0b_v44 : Ref sig .tc := ⟨.hbm, 75, rfl⟩
abbrev main_while0b_v45 : Ref sig .tc := ⟨.hbm, 76, rfl⟩
abbrev main_while0b_c_33 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_c_34 : Ref sig .tc := ⟨.hbm, 81, rfl⟩
abbrev main_while0b_v49 : Ref sig .tc := ⟨.hbm, 82, rfl⟩
abbrev main_while0b_v50 : Ref sig .tc := ⟨.hbm, 83, rfl⟩
abbrev main_while0b_c_35 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_c_36 : Ref sig .tc := ⟨.hbm, 92, rfl⟩
abbrev main_while0b_v58 : Ref sig .tc := ⟨.hbm, 93, rfl⟩
abbrev main_while0b_v59 : Ref sig .tc := ⟨.hbm, 94, rfl⟩
abbrev main_while0b_c_37 : Ref sig .tc := ⟨.hbm, 95, rfl⟩
abbrev main_while0b_v60 : Ref sig .tc := ⟨.hbm, 96, rfl⟩
abbrev main_while0b_v61 : Ref sig .tc := ⟨.hbm, 97, rfl⟩
abbrev main_while0b_c_38 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_c_39 : Ref sig .tc := ⟨.hbm, 102, rfl⟩
abbrev main_while0b_v65 : Ref sig .tc := ⟨.hbm, 103, rfl⟩
abbrev main_while0b_v66 : Ref sig .tc := ⟨.hbm, 104, rfl⟩
abbrev main_while0b_c_40 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_c_41 : Ref sig .tc := ⟨.hbm, 113, rfl⟩
abbrev main_while0b_v74 : Ref sig .tc := ⟨.hbm, 114, rfl⟩
abbrev main_while0b_v75 : Ref sig .tc := ⟨.hbm, 115, rfl⟩
abbrev main_while0b_c_42 : Ref sig .tc := ⟨.hbm, 116, rfl⟩
abbrev main_while0b_v76 : Ref sig .tc := ⟨.hbm, 117, rfl⟩
abbrev main_while0b_v77 : Ref sig .tc := ⟨.hbm, 118, rfl⟩
abbrev main_while0b_c_43 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_c_44 : Ref sig .tc := ⟨.hbm, 123, rfl⟩
abbrev main_while0b_v81 : Ref sig .tc := ⟨.hbm, 124, rfl⟩
abbrev main_while0b_v82 : Ref sig .tc := ⟨.hbm, 125, rfl⟩
abbrev main_while0b_c_45 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_c_46 : Ref sig .tc := ⟨.hbm, 134, rfl⟩
abbrev main_while0b_v90 : Ref sig .tc := ⟨.hbm, 135, rfl⟩
abbrev main_while0b_v91 : Ref sig .tc := ⟨.hbm, 136, rfl⟩
abbrev main_while0b_c_47 : Ref sig .tc := ⟨.hbm, 137, rfl⟩
abbrev main_while0b_v92 : Ref sig .tc := ⟨.hbm, 138, rfl⟩
abbrev main_while0b_v93 : Ref sig .tc := ⟨.hbm, 139, rfl⟩
abbrev main_while0b_c_48 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_c_49 : Ref sig .tc := ⟨.hbm, 144, rfl⟩
abbrev main_while0b_v97 : Ref sig .tc := ⟨.hbm, 145, rfl⟩
abbrev main_while0b_v98 : Ref sig .tc := ⟨.hbm, 146, rfl⟩
abbrev main_while0b_c_50 : Ref sig .tc := ⟨.hbm, 147, rfl⟩
abbrev main_while0b_v99 : Ref sig .tc := ⟨.hbm, 148, rfl⟩
abbrev main_while0b_v100 : Ref sig .tc := ⟨.hbm, 149, rfl⟩
abbrev main_while0b_v101 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_c_51 : Ref sig .tc := ⟨.hbm, 155, rfl⟩
abbrev main_while0b_v106 : Ref sig .tc := ⟨.hbm, 156, rfl⟩
abbrev main_while0b_v107 : Ref sig .tc := ⟨.hbm, 157, rfl⟩
abbrev main_while0b_c_52 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_c_53 : Ref sig .tc := ⟨.hbm, 162, rfl⟩
abbrev main_while0b_v111 : Ref sig .tc := ⟨.hbm, 163, rfl⟩
abbrev main_while0b_v112 : Ref sig .tc := ⟨.hbm, 164, rfl⟩
abbrev main_while0b_c_54 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_c_55 : Ref sig .tc := ⟨.hbm, 173, rfl⟩
abbrev main_while0b_v120 : Ref sig .tc := ⟨.hbm, 174, rfl⟩
abbrev main_while0b_v121 : Ref sig .tc := ⟨.hbm, 175, rfl⟩
abbrev main_while0b_c_56 : Ref sig .tc := ⟨.hbm, 176, rfl⟩
abbrev main_while0b_v122 : Ref sig .tc := ⟨.hbm, 177, rfl⟩
abbrev main_while0b_v123 : Ref sig .tc := ⟨.hbm, 178, rfl⟩
abbrev main_while0b_v124 : Ref sig .tc := ⟨.hbm, 179, rfl⟩
abbrev main_while0b_c_57 : Ref sig .tc := ⟨.hbm, 180, rfl⟩
abbrev main_while0b_v125 : Ref sig .tc := ⟨.hbm, 181, rfl⟩
abbrev main_while0b_v126 : Ref sig .tc := ⟨.hbm, 182, rfl⟩
abbrev main_while0b_c_58 : Ref sig .tc := ⟨.hbm, 183, rfl⟩
abbrev main_while0b_v127 : Ref sig .tc := ⟨.hbm, 184, rfl⟩
abbrev main_while0b_v128 : Ref sig .tc := ⟨.hbm, 185, rfl⟩
abbrev main_while0b_v129 : Ref sig .tc := ⟨.hbm, 186, rfl⟩
abbrev main_while0b_v130 : Ref sig .tc := ⟨.hbm, 187, rfl⟩
abbrev main_while0b_v131 : Ref sig .tc := ⟨.hbm, 188, rfl⟩
abbrev main_while0b_v132 : Ref sig .tc := ⟨.hbm, 189, rfl⟩
abbrev main_while0b_v133 : Ref sig .tc := ⟨.hbm, 190, rfl⟩
abbrev main_while0b_v134 : Ref sig .tc := ⟨.hbm, 191, rfl⟩
abbrev main_while0b_v135 : Ref sig .tc := ⟨.hbm, 192, rfl⟩
abbrev main_while0b_v136 : Ref sig .tc := ⟨.hbm, 193, rfl⟩
abbrev main_while0b_v137 : Ref sig .tc := ⟨.hbm, 194, rfl⟩
abbrev main_while0b_v138 : Ref sig .tc := ⟨.hbm, 195, rfl⟩
abbrev main_while0b_v139 : Ref sig .tc := ⟨.hbm, 196, rfl⟩
abbrev main_while0b_v140 : Ref sig .tc := ⟨.hbm, 197, rfl⟩
abbrev main_while0b_v141 : Ref sig .tc := ⟨.hbm, 198, rfl⟩
abbrev main_while0b_v142 : Ref sig .tc := ⟨.hbm, 199, rfl⟩
abbrev main_while0b_v143 : Ref sig .tc := ⟨.hbm, 200, rfl⟩
abbrev main_while0b_v144 : Ref sig .tc := ⟨.hbm, 201, rfl⟩
abbrev main_while0b_v145 : Ref sig .tc := ⟨.hbm, 202, rfl⟩
abbrev main_while0b_v146 : Ref sig .tc := ⟨.hbm, 203, rfl⟩
abbrev main_while0b_v147 : Ref sig .tc := ⟨.hbm, 204, rfl⟩
abbrev main_while0b_v148 : Ref sig .tc := ⟨.hbm, 205, rfl⟩
abbrev main_while0b_v149 : Ref sig .tc := ⟨.hbm, 206, rfl⟩
abbrev main_while0b_cst_59 : Ref sig .tc := ⟨.hbm, 207, rfl⟩
abbrev main_while0b_v150 : Ref sig .tc := ⟨.hbm, 208, rfl⟩
abbrev main_while0b_v151 : Ref sig .tc := ⟨.hbm, 209, rfl⟩
abbrev main_while0b_cst_60 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_v155 : Ref sig .tc := ⟨.hbm, 214, rfl⟩
abbrev main_while0b_v156 : Ref sig .tc := ⟨.hbm, 215, rfl⟩
abbrev main_while0b_cst_61 : Ref sig .tc := ⟨.hbm, 216, rfl⟩
abbrev main_while0b_v157 : Ref sig .tc := ⟨.hbm, 217, rfl⟩
abbrev main_while0b_v158 : Ref sig .tc := ⟨.hbm, 218, rfl⟩
abbrev main_while0b_cst_62 : Ref sig .tc := ⟨.hbm, 219, rfl⟩
abbrev main_while0b_v159 : Ref sig .tc := ⟨.hbm, 220, rfl⟩
abbrev main_while0b_v160 : Ref sig .tc := ⟨.hbm, 221, rfl⟩
abbrev main_while0b_v161 : Ref sig .tc := ⟨.hbm, 222, rfl⟩
abbrev main_while0b_v162 : Ref sig .tc := ⟨.hbm, 223, rfl⟩
abbrev main_while0b_v163 : Ref sig .tc := ⟨.hbm, 224, rfl⟩
abbrev main_while0b_v164 : Ref sig .tc := ⟨.hbm, 225, rfl⟩
abbrev main_while0b_v165 : Ref sig .tc := ⟨.hbm, 226, rfl⟩
abbrev main_while0b_cst_63 : Ref sig .tc := ⟨.hbm, 227, rfl⟩
abbrev main_while0b_v166 : Ref sig .tc := ⟨.hbm, 228, rfl⟩
abbrev main_while0b_v167 : Ref sig .tc := ⟨.hbm, 229, rfl⟩
abbrev main_while0b_cst_64 : Ref sig .tc := ⟨.hbm, 230, rfl⟩
abbrev main_while0b_v168 : Ref sig .tc := ⟨.hbm, 231, rfl⟩
abbrev main_while0b_v169 : Ref sig .tc := ⟨.hbm, 232, rfl⟩
abbrev main_while0b_v170 : Ref sig .tc := ⟨.hbm, 233, rfl⟩
abbrev main_while0b_v171 : Ref sig .tc := ⟨.hbm, 234, rfl⟩
abbrev main_while0b_c_65 : Ref sig .tc := ⟨.hbm, 235, rfl⟩
abbrev main_while0b_v172 : Ref sig .tc := ⟨.hbm, 236, rfl⟩
abbrev main_while0b_v173 : Ref sig .tc := ⟨.hbm, 237, rfl⟩
abbrev main_while0b_c_66 : Ref sig .tc := ⟨.hbm, 238, rfl⟩
abbrev main_while0b_v174 : Ref sig .tc := ⟨.hbm, 239, rfl⟩
abbrev main_while0b_v175 : Ref sig .tc := ⟨.hbm, 240, rfl⟩
abbrev main_while0b_c_67 : Ref sig .tc := ⟨.hbm, 241, rfl⟩
abbrev main_while0b_v176 : Ref sig .tc := ⟨.hbm, 242, rfl⟩
abbrev main_while0b_v177 : Ref sig .tc := ⟨.hbm, 243, rfl⟩
abbrev main_while0b_v178 : Ref sig .tc := ⟨.hbm, 244, rfl⟩
abbrev main_while0b_call1_v0 : Ref sig .tc := ⟨.hbm, 245, rfl⟩
abbrev main_while0b_v179 : Ref sig .tc := ⟨.hbm, 246, rfl⟩
abbrev main_while0b_call2_v0 : Ref sig .tc := ⟨.hbm, 247, rfl⟩
abbrev main_while0b_v180 : Ref sig .tc := ⟨.hbm, 248, rfl⟩
abbrev main_while0b_call3_v0 : Ref sig .tc := ⟨.hbm, 249, rfl⟩
abbrev main_while0b_v181 : Ref sig .tc := ⟨.hbm, 250, rfl⟩
abbrev main_while0b_call4_v0 : Ref sig .tc := ⟨.hbm, 251, rfl⟩
abbrev main_while0b_v182 : Ref sig .tc := ⟨.hbm, 252, rfl⟩
abbrev main_while0b_v183 : Ref sig .tc := ⟨.hbm, 253, rfl⟩
abbrev main_while0b_v184 : Ref sig .tc := ⟨.hbm, 254, rfl⟩
abbrev main_while0b_v185 : Ref sig .tc := ⟨.hbm, 255, rfl⟩
abbrev main_while0b_v186 : Ref sig .tc := ⟨.hbm, 256, rfl⟩
abbrev main_while0b_v187 : Ref sig .tc := ⟨.hbm, 257, rfl⟩
abbrev main_while0b_v188 : Ref sig .tc := ⟨.hbm, 258, rfl⟩
abbrev main_while0b_call5_v0 : Ref sig .tc := ⟨.hbm, 259, rfl⟩
abbrev main_while0b_v189 : Ref sig .tc := ⟨.hbm, 260, rfl⟩
abbrev main_while0b_v190 : Ref sig .tc := ⟨.hbm, 261, rfl⟩
abbrev main_while0b_v191 : Ref sig .tc := ⟨.hbm, 262, rfl⟩
abbrev main_while0b_v192 : Ref sig .tc := ⟨.hbm, 263, rfl⟩
abbrev main_while0b_v193 : Ref sig .tc := ⟨.hbm, 264, rfl⟩
abbrev main_while0b_v194 : Ref sig .tc := ⟨.hbm, 265, rfl⟩
abbrev main_while0b_v195 : Ref sig .tc := ⟨.hbm, 266, rfl⟩
abbrev main_while0b_v196 : Ref sig .tc := ⟨.hbm, 267, rfl⟩
abbrev main_while0b_v197 : Ref sig .tc := ⟨.hbm, 268, rfl⟩
abbrev main_while0b_v198 : Ref sig .tc := ⟨.hbm, 269, rfl⟩
abbrev main_while0b_v199 : Ref sig .tc := ⟨.hbm, 270, rfl⟩
abbrev main_while0b_cst_68 : Ref sig .tc := ⟨.hbm, 271, rfl⟩
abbrev main_while0b_v200 : Ref sig .tc := ⟨.hbm, 272, rfl⟩
abbrev main_while0b_v201 : Ref sig .tc := ⟨.hbm, 273, rfl⟩
abbrev main_while0b_cst_69 : Ref sig .tc := ⟨.hbm, 274, rfl⟩
abbrev main_while0b_v202 : Ref sig .tc := ⟨.hbm, 275, rfl⟩
abbrev main_while0b_v203 : Ref sig .tc := ⟨.hbm, 276, rfl⟩
abbrev main_while0b_v204 : Ref sig .tc := ⟨.hbm, 277, rfl⟩
abbrev main_while0b_v205 : Ref sig .tc := ⟨.hbm, 278, rfl⟩
abbrev main_while0b_v206 : Ref sig .tc := ⟨.hbm, 279, rfl⟩
abbrev main_while0b_v207 : Ref sig .tc := ⟨.hbm, 280, rfl⟩
abbrev main_while0b_cst_70 : Ref sig .tc := ⟨.hbm, 281, rfl⟩
abbrev main_while0b_v208 : Ref sig .tc := ⟨.hbm, 282, rfl⟩
abbrev main_while0b_v209 : Ref sig .tc := ⟨.hbm, 283, rfl⟩
abbrev main_while0b_cst_71 : Ref sig .tc := ⟨.hbm, 284, rfl⟩
abbrev main_while0b_v210 : Ref sig .tc := ⟨.hbm, 285, rfl⟩
abbrev main_while0b_v211 : Ref sig .tc := ⟨.hbm, 286, rfl⟩
abbrev main_while0b_v212 : Ref sig .tc := ⟨.hbm, 287, rfl⟩
abbrev main_while0b_v213 : Ref sig .tc := ⟨.hbm, 288, rfl⟩
abbrev main_while0b_v214 : Ref sig .tc := ⟨.hbm, 289, rfl⟩
abbrev main_while0b_v215 : Ref sig .tc := ⟨.hbm, 290, rfl⟩
abbrev main_while0b_cst_72 : Ref sig .tc := ⟨.hbm, 291, rfl⟩
abbrev main_while0b_v216 : Ref sig .tc := ⟨.hbm, 292, rfl⟩
abbrev main_while0b_v217 : Ref sig .tc := ⟨.hbm, 293, rfl⟩
abbrev main_while0b_cst_73 : Ref sig .tc := ⟨.hbm, 294, rfl⟩
abbrev main_while0b_v218 : Ref sig .tc := ⟨.hbm, 295, rfl⟩
abbrev main_while0b_v219 : Ref sig .tc := ⟨.hbm, 296, rfl⟩
abbrev main_while0b_v220 : Ref sig .tc := ⟨.hbm, 297, rfl⟩
abbrev main_while0b_v221 : Ref sig .tc := ⟨.hbm, 298, rfl⟩
abbrev main_while0b_v222 : Ref sig .tc := ⟨.hbm, 299, rfl⟩
abbrev main_while0b_v223 : Ref sig .tc := ⟨.hbm, 300, rfl⟩
abbrev main_while0b_cst_74 : Ref sig .tc := ⟨.hbm, 301, rfl⟩
abbrev main_while0b_v224 : Ref sig .tc := ⟨.hbm, 302, rfl⟩
abbrev main_while0b_v225 : Ref sig .tc := ⟨.hbm, 303, rfl⟩
abbrev main_while0b_cst_75 : Ref sig .tc := ⟨.hbm, 304, rfl⟩
abbrev main_while0b_v226 : Ref sig .tc := ⟨.hbm, 305, rfl⟩
abbrev main_while0b_v227 : Ref sig .tc := ⟨.hbm, 306, rfl⟩
abbrev main_while0b_v228 : Ref sig .tc := ⟨.hbm, 307, rfl⟩
abbrev main_while0b_v229 : Ref sig .tc := ⟨.hbm, 308, rfl⟩
abbrev main_while0b_v230 : Ref sig .tc := ⟨.hbm, 309, rfl⟩
abbrev main_while0b_v231 : Ref sig .tc := ⟨.hbm, 310, rfl⟩
abbrev main_while0b_call6_v0 : Ref sig .tc := ⟨.hbm, 311, rfl⟩
abbrev main_while0b_v232 : Ref sig .tc := ⟨.hbm, 312, rfl⟩
abbrev main_while0b_v233 : Ref sig .tc := ⟨.hbm, 313, rfl⟩
abbrev main_while0b_call7_v0 : Ref sig .tc := ⟨.hbm, 314, rfl⟩
abbrev main_while0b_v234 : Ref sig .tc := ⟨.hbm, 315, rfl⟩
abbrev main_while0b_v235 : Ref sig .tc := ⟨.hbm, 316, rfl⟩
abbrev main_while0b_v236 : Ref sig .tc := ⟨.hbm, 317, rfl⟩
abbrev main_while0b_v237 : Ref sig .tc := ⟨.hbm, 318, rfl⟩
abbrev main_while0b_v238 : Ref sig .tc := ⟨.hbm, 319, rfl⟩
abbrev main_while0b_c_76 : Ref sig .tc := ⟨.hbm, 320, rfl⟩
abbrev main_while0b_v239 : Ref sig .tc := ⟨.hbm, 321, rfl⟩
abbrev main_while0b_v240 : Ref sig .tc := ⟨.hbm, 322, rfl⟩
abbrev main_while0b_v241 : Ref sig .tc := ⟨.hbm, 323, rfl⟩
abbrev main_while0b_v242 : Ref sig .tc := ⟨.hbm, 324, rfl⟩
abbrev main_while0b_c_77 : Ref sig .tc := ⟨.hbm, 325, rfl⟩
abbrev main_while0b_v243 : Ref sig .tc := ⟨.hbm, 326, rfl⟩
abbrev main_while0b_v244 : Ref sig .tc := ⟨.hbm, 327, rfl⟩
abbrev main_while0b_c_78 : Ref sig .tc := ⟨.hbm, 328, rfl⟩
abbrev main_while0b_v245 : Ref sig .tc := ⟨.hbm, 329, rfl⟩
abbrev main_while0b_v246 : Ref sig .tc := ⟨.hbm, 330, rfl⟩
abbrev main_while0b_v247 : Ref sig .tc := ⟨.hbm, 331, rfl⟩
abbrev main_while0b_c_79 : Ref sig .tc := ⟨.hbm, 332, rfl⟩
abbrev main_while0b_v248 : Ref sig .tc := ⟨.hbm, 333, rfl⟩
abbrev main_while0b_v249 : Ref sig .tc := ⟨.hbm, 334, rfl⟩
abbrev main_while0b_c_80 : Ref sig .tc := ⟨.hbm, 335, rfl⟩
abbrev main_while0b_v250 : Ref sig .tc := ⟨.hbm, 336, rfl⟩
abbrev main_while0b_v251 : Ref sig .tc := ⟨.hbm, 337, rfl⟩
abbrev main_while0b_v252 : Ref sig .tc := ⟨.hbm, 338, rfl⟩
abbrev main_while0b_v253 : Ref sig .tc := ⟨.hbm, 339, rfl⟩
abbrev main_while0b_v254 : Ref sig .tc := ⟨.hbm, 340, rfl⟩
abbrev main_while0b_v255 : Ref sig .tc := ⟨.hbm, 341, rfl⟩
abbrev main_while0b_v256 : Ref sig .tc := ⟨.hbm, 342, rfl⟩
abbrev main_while0b_call8_v0 : Ref sig .tc := ⟨.hbm, 343, rfl⟩
abbrev main_while0b_v257 : Ref sig .tc := ⟨.hbm, 344, rfl⟩
abbrev main_while0b_c_81 : Ref sig .tc := ⟨.hbm, 345, rfl⟩
abbrev main_while0b_v258 : Ref sig .tc := ⟨.hbm, 346, rfl⟩
abbrev main_while0b_v259 : Ref sig .tc := ⟨.hbm, 347, rfl⟩
abbrev main_while0b_c_82 : Ref sig .tc := ⟨.hbm, 348, rfl⟩
abbrev main_while0b_v260 : Ref sig .tc := ⟨.hbm, 349, rfl⟩
abbrev main_while0b_v261 : Ref sig .tc := ⟨.hbm, 350, rfl⟩
abbrev main_while0b_v262 : Ref sig .tc := ⟨.hbm, 351, rfl⟩
abbrev main_while0b_c_83 : Ref sig .tc := ⟨.hbm, 352, rfl⟩
abbrev main_while0b_v263 : Ref sig .tc := ⟨.hbm, 353, rfl⟩
abbrev main_while0b_v264 : Ref sig .tc := ⟨.hbm, 354, rfl⟩
abbrev main_while0b_c_84 : Ref sig .tc := ⟨.hbm, 355, rfl⟩
abbrev main_while0b_v265 : Ref sig .tc := ⟨.hbm, 356, rfl⟩
abbrev main_while0b_v266 : Ref sig .tc := ⟨.hbm, 357, rfl⟩
abbrev main_while0b_v267 : Ref sig .tc := ⟨.hbm, 358, rfl⟩
abbrev main_while0b_v268 : Ref sig .tc := ⟨.hbm, 359, rfl⟩
abbrev main_while0b_v269 : Ref sig .tc := ⟨.hbm, 360, rfl⟩
abbrev main_while0b_v270 : Ref sig .tc := ⟨.hbm, 361, rfl⟩
abbrev main_while0b_v271 : Ref sig .tc := ⟨.hbm, 362, rfl⟩
abbrev main_while0b_call9_v0 : Ref sig .tc := ⟨.hbm, 363, rfl⟩
abbrev main_while0b_v272 : Ref sig .tc := ⟨.hbm, 364, rfl⟩
abbrev main_while0b_c_85 : Ref sig .tc := ⟨.hbm, 365, rfl⟩
abbrev main_while0b_v273 : Ref sig .tc := ⟨.hbm, 366, rfl⟩
abbrev main_while0b_v274 : Ref sig .tc := ⟨.hbm, 367, rfl⟩
abbrev main_while0b_c_86 : Ref sig .tc := ⟨.hbm, 368, rfl⟩
abbrev main_while0b_v275 : Ref sig .tc := ⟨.hbm, 369, rfl⟩
abbrev main_while0b_v276 : Ref sig .tc := ⟨.hbm, 370, rfl⟩
abbrev main_while0b_v277 : Ref sig .tc := ⟨.hbm, 371, rfl⟩
abbrev main_while0b_c_87 : Ref sig .tc := ⟨.hbm, 372, rfl⟩
abbrev main_while0b_v278 : Ref sig .tc := ⟨.hbm, 373, rfl⟩
abbrev main_while0b_v279 : Ref sig .tc := ⟨.hbm, 374, rfl⟩
abbrev main_while0b_c_88 : Ref sig .tc := ⟨.hbm, 375, rfl⟩
abbrev main_while0b_v280 : Ref sig .tc := ⟨.hbm, 376, rfl⟩
abbrev main_while0b_v281 : Ref sig .tc := ⟨.hbm, 377, rfl⟩
abbrev main_while0b_v282 : Ref sig .tc := ⟨.hbm, 378, rfl⟩
abbrev main_while0b_v283 : Ref sig .tc := ⟨.hbm, 379, rfl⟩
abbrev main_while0b_v284 : Ref sig .tc := ⟨.hbm, 380, rfl⟩
abbrev main_while0b_v285 : Ref sig .tc := ⟨.hbm, 381, rfl⟩
abbrev main_while0b_v286 : Ref sig .tc := ⟨.hbm, 382, rfl⟩
abbrev main_while0b_c_89 : Ref sig .tc := ⟨.hbm, 383, rfl⟩
abbrev main_while0b_v287 : Ref sig .tc := ⟨.hbm, 384, rfl⟩
abbrev main_while0b_v288 : Ref sig .tc := ⟨.hbm, 385, rfl⟩
abbrev main_while0b_c_90 : Ref sig .tc := ⟨.hbm, 386, rfl⟩
abbrev main_while0b_v289 : Ref sig .tc := ⟨.hbm, 387, rfl⟩
abbrev main_while0b_v290 : Ref sig .tc := ⟨.hbm, 388, rfl⟩
abbrev main_while0b_v291 : Ref sig .tc := ⟨.hbm, 389, rfl⟩
abbrev main_while0b_c_91 : Ref sig .tc := ⟨.hbm, 390, rfl⟩
abbrev main_while0b_v292 : Ref sig .tc := ⟨.hbm, 391, rfl⟩
abbrev main_while0b_v293 : Ref sig .tc := ⟨.hbm, 392, rfl⟩
abbrev main_while0b_c_92 : Ref sig .tc := ⟨.hbm, 393, rfl⟩
abbrev main_while0b_v294 : Ref sig .tc := ⟨.hbm, 394, rfl⟩
abbrev main_while0b_v295 : Ref sig .tc := ⟨.hbm, 395, rfl⟩
abbrev main_while0b_v296 : Ref sig .tc := ⟨.hbm, 396, rfl⟩
abbrev main_while0b_v297 : Ref sig .tc := ⟨.hbm, 397, rfl⟩
abbrev main_while0b_v298 : Ref sig .tc := ⟨.hbm, 398, rfl⟩
abbrev main_while0b_v299 : Ref sig .tc := ⟨.hbm, 399, rfl⟩
abbrev main_while0b_v300 : Ref sig .tc := ⟨.hbm, 400, rfl⟩
abbrev main_while0b_v301 : Ref sig .tc := ⟨.hbm, 401, rfl⟩
abbrev main_while0b_v302 : Ref sig .tc := ⟨.hbm, 402, rfl⟩
abbrev main_while0b_c_93 : Ref sig .tc := ⟨.hbm, 403, rfl⟩
abbrev main_while0b_v303 : Ref sig .tc := ⟨.hbm, 404, rfl⟩
abbrev main_while0b_v304 : Ref sig .tc := ⟨.hbm, 405, rfl⟩
abbrev main_while0b_c_94 : Ref sig .tc := ⟨.hbm, 406, rfl⟩
abbrev main_while0b_v305 : Ref sig .tc := ⟨.hbm, 407, rfl⟩
abbrev main_c_7 : Ref sig .tc := ⟨.hbm, 408, rfl⟩
abbrev main_v25 : Ref sig .tc := ⟨.hbm, 409, rfl⟩
abbrev main_v26 : Ref sig .tc := ⟨.hbm, 410, rfl⟩
abbrev main_c_8 : Ref sig .tc := ⟨.hbm, 411, rfl⟩
abbrev main_v27 : Ref sig .tc := ⟨.hbm, 412, rfl⟩
abbrev main_v28 : Ref sig .tc := ⟨.hbm, 413, rfl⟩
abbrev main_c_9 : Ref sig .tc := ⟨.hbm, 414, rfl⟩
abbrev main_v29 : Ref sig .tc := ⟨.hbm, 415, rfl⟩
abbrev main_v30 : Ref sig .tc := ⟨.hbm, 416, rfl⟩
abbrev main_v31 : Ref sig .tc := ⟨.hbm, 417, rfl⟩
abbrev main_c_10 : Ref sig .tc := ⟨.hbm, 418, rfl⟩
abbrev main_v32 : Ref sig .tc := ⟨.hbm, 419, rfl⟩
abbrev main_v33 : Ref sig .tc := ⟨.hbm, 420, rfl⟩
abbrev main_c_11 : Ref sig .tc := ⟨.hbm, 421, rfl⟩
abbrev main_v34 : Ref sig .tc := ⟨.hbm, 422, rfl⟩
abbrev main_v35 : Ref sig .tc := ⟨.hbm, 423, rfl⟩
abbrev main_v36 : Ref sig .tc := ⟨.hbm, 424, rfl⟩
abbrev main_v37 : Ref sig .tc := ⟨.hbm, 425, rfl⟩
abbrev main_v38 : Ref sig .tc := ⟨.hbm, 426, rfl⟩
abbrev main_v39 : Ref sig .tc := ⟨.hbm, 427, rfl⟩
abbrev main_v40 : Ref sig .tc := ⟨.hbm, 428, rfl⟩

abbrev nD : Nat := 1
abbrev τ : Topo := Topo.v7x

variable {F : FTy → Type} [FloatOps F]

abbrev main_while0_count : Scf.Loop 32 := ⟨0#32, 125#32, 1#32⟩
-- ==== Proof.Words.lean ====
/- Facts about the numbers of the words that the kernel computes: the offset of a chunk, the fields of a
   code word, the count of a rotation. -/
module

public import Idealize.ShloMosaic.Lib.Tactic
public import Idealize.ShloMosaic.Lib.Updates.Values
public import Idealize.ShloMosaic.Lib.Updates.Own
public import Idealize.ShloMosaic.Lib.Updates.Memory

@[expose] public section

noncomputable section

namespace Cert.Words

open Idealize.ShloMosaic

/-- The first field of a code word. -/
def wD (v : BitVec 32) : ℕ := v.toNat % 128
/-- The second field of a code word. -/
def wB (v : BitVec 32) : ℕ := v.toNat / 128 % 128
/-- The third field of a code word. -/
def wW (v : BitVec 32) : ℕ := v.toNat / 16384 % 128
/-- The fourth field of a code word. -/
def wT (v : BitVec 32) : ℕ := v.toNat / 2097152 % 4

/-- A code word whose fields are in range and whose top bit is clear. -/
structure Ok (v : BitVec 32) : Prop where
  top : v.toNat < 2147483648
  two : 2 ≤ wD v
  depth : wD v ≤ 65
  buf : wB v < 64
  place : wW v ≤ 65
  wle : wW v ≤ wD v

/-- Code words of a valid run: every word is in range, every stack starts with two rows, and a step leaves one row more than the place it wrote. -/
structure Valid (C : ℕ × ℕ → BitVec 32) : Prop where
  ok : ∀ mi < 64, ∀ t < 125, Ok (C (mi, t))
  first : ∀ mi < 64, wD (C (mi, 0)) = 2
  next : ∀ mi < 64, ∀ t, t + 1 < 125 → wD (C (mi, t + 1)) = wW (C (mi, t)) + 1

theorem and_127 (x : BitVec 32) : (Scalar.andi x 127#32).toNat = x.toNat % 128 := by
  show (x &&& 127#32).toNat = _
  rw [BitVec.toNat_and]
  exact Nat.and_two_pow_sub_one_eq_mod x.toNat 7
theorem and_7 (x : BitVec 32) : (Scalar.andi x 7#32).toNat = x.toNat % 8 := by
  show (x &&& 7#32).toNat = _
  rw [BitVec.toNat_and]
  exact Nat.and_two_pow_sub_one_eq_mod x.toNat 3
theorem and_3 (x : BitVec 32) : (Scalar.andi x 3#32).toNat = x.toNat % 4 := by
  show (x &&& 3#32).toNat = _
  rw [BitVec.toNat_and]
  exact Nat.and_two_pow_sub_one_eq_mod x.toNat 2
/-- A right shift of a word with a clear top bit divides. -/
theorem shr_toNat (x : BitVec 32) (hx : x.toNat < 2147483648) (k : ℕ) (hk : k < 32) :
    (Scalar.shrsi x (BitVec.ofNat 32 k)).toNat = x.toNat / 2 ^ k := by
  have hk' : (BitVec.ofNat 32 k).toNat = k := by rw [BitVec.toNat_ofNat]; omega
  show (IntOp.shrsi .scalar x (BitVec.ofNat 32 k)).toNat = _
  unfold IntOp.shrsi
  rw [hk', if_pos hk]
  unfold BitVec.sshiftRight'
  rw [hk', BitVec.sshiftRight_eq_of_msb_false (by rw [BitVec.msb_eq_decide]; simp; omega), BitVec.toNat_ushiftRight, Nat.shiftRight_eq_div_pow]
theorem shl_toNat (x : BitVec 32) (k : ℕ) (hk : k < 32) (hx : x.toNat * 2 ^ k < 2 ^ 32) :
    (Scalar.shli x (BitVec.ofNat 32 k)).toNat = x.toNat * 2 ^ k := by
  have hk' : (BitVec.ofNat 32 k).toNat = k := by rw [BitVec.toNat_ofNat]; omega
  show (IntOp.shli .scalar x (BitVec.ofNat 32 k)).toNat = _
  unfold IntOp.shli
  rw [hk', if_pos hk]
  show (x <<< (BitVec.ofNat 32 k).toNat).toNat = _
  rw [hk', BitVec.toNat_shiftLeft, Nat.shiftLeft_eq, Nat.mod_eq_of_lt hx]
theorem sub_two (x : BitVec 32) (h : 2 ≤ x.toNat) : (Scalar.subi x 2#32).toNat = x.toNat - 2 := by
  show (x - 2#32).toNat = _
  rw [BitVec.toNat_sub]
  have := x.isLt
  show (2 ^ 32 - 2 + x.toNat) % 2 ^ 32 = _
  omega
/-- The offset of a chunk: the base plus the position rounded down to a multiple of eight. -/
theorem slot_toNat (b : ℕ) (hb : b < 65536) (x : BitVec 32) (hx : x.toNat < 65536) :
    (Scalar.addi (BitVec.ofNat 32 b) (Scalar.shli (Scalar.shrsi x 3#32) 3#32)).toNat = b + x.toNat / 8 * 8 := by
  have h1 : (Scalar.shrsi x 3#32).toNat = x.toNat / 8 := shr_toNat x (by omega) 3 (by omega)
  have h2 : (Scalar.shli (Scalar.shrsi x 3#32) 3#32).toNat = x.toNat / 8 * 8 := by
    have := shl_toNat (Scalar.shrsi x 3#32) 3 (by omega) (by rw [h1]; omega)
    rw [h1] at this; exact this
  show (BitVec.ofNat 32 b + Scalar.shli (Scalar.shrsi x 3#32) 3#32).toNat = _
  rw [BitVec.toNat_add, h2, BitVec.toNat_ofNat]
  omega
/-- The count of a rotation towards row zero by the position inside a chunk. -/
theorem rot_toNat (x : BitVec 32) : (Scalar.subi 0#32 (Scalar.andi x 7#32)).toNat = (4294967296 - x.toNat % 8) % 4294967296 := by
  show (0#32 - Scalar.andi x 7#32).toNat = _
  rw [BitVec.toNat_sub, and_7]
  show (2 ^ 32 - x.toNat % 8 + 0) % 2 ^ 32 = _
  omega

theorem fD_toNat (v : BitVec 32) : (Scalar.andi v 127#32).toNat = wD v := and_127 v
theorem fB_toNat (v : BitVec 32) (h : Ok v) : (Scalar.andi (Scalar.shrsi v 7#32) 127#32).toNat = wB v := by
  rw [and_127]; unfold wB
  rw [show (Scalar.shrsi v 7#32).toNat = v.toNat / 2 ^ 7 from shr_toNat v h.top 7 (by omega)]; rfl
theorem fW_toNat (v : BitVec 32) (h : Ok v) : (Scalar.andi (Scalar.shrsi v 14#32) 127#32).toNat = wW v := by
  rw [and_127]; unfold wW
  rw [show (Scalar.shrsi v 14#32).toNat = v.toNat / 2 ^ 14 from shr_toNat v h.top 14 (by omega)]; rfl
theorem fT_toNat (v : BitVec 32) (h : Ok v) : (Scalar.andi (Scalar.shrsi v 21#32) 3#32).toNat = wT v := by
  rw [and_3]; unfold wT
  rw [show (Scalar.shrsi v 21#32).toNat = v.toNat / 2 ^ 21 from shr_toNat v h.top 21 (by omega)]; rfl

open LaneScatter Updates

variable {β : Type} {R C : ℕ}

/-- A block whose rows are rotated holds each row's source row. -/
theorem isArr_rotate {x : (Blk R C).Idx → β} {A : Arr β} (hx : IsArr x A) (n : BitVec 32) (h : (Blk R C).Rotates 0 none) :
    IsArr (dynamicRotate (s := Blk R C) (α := β) 0 n none x h) (fun p => A ((p.1 + R - n.toNat % R) % R, p.2)) := by
  intro ι
  unfold dynamicRotate
  rw [hx]
  rfl
/-- A slice of a block reads the block at the shifted place. -/
theorem isArr_slice {x : (Blk R C).Idx → β} {A : Arr β} (hx : IsArr x A) {R' C' : ℕ} (off : Fin 2 → ℕ) (h : (Blk R C).Slices off (Blk R' C')) :
    IsArr (extractStridedSlice (Blk R' C') off x h) (fun p => A (off 0 + p.1, off 1 + p.2)) := by
  intro ι
  unfold extractStridedSlice
  rw [hx]
  rfl

/-- The array `G` on the rows below `n`, the array `X` from row `n` on. -/
def below (n : ℕ) (G X : Arr β) : Arr β := fun p => if p.1 < n then G p else X p

/-- Storing row `n` of `G` over the array that is `G` below row `n` gives the array that is `G` below row `n + 1`. -/
theorem store_row (n w : ℕ) (G X W : Arr β) (hW : ∀ b, b < w → W (0, b) = G (n, b)) (p : ℕ × ℕ) (hp : p.2 < w) :
    storeAt (n, 0) (1, w) (fun _ => True) W (below n G X) p = below (n + 1) G X p := by
  obtain ⟨a, b⟩ := p
  by_cases h : a = n
  · subst h
    have hp' : b < w := hp
    rw [storeAt_hit (o := (a, 0)) (s := (1, w)) (p := (a, b)) ⟨⟨⟨Nat.le_refl a, by show a < a + 1; omega⟩, Nat.zero_le _, by show b < 0 + w; omega⟩, trivial⟩]
    unfold below
    rw [if_pos (by show a < a + 1; omega), ← hW b hp]
    show W (a - a, b - 0) = _
    rw [Nat.sub_self, Nat.sub_zero]
  · rw [storeAt_miss (fun q => by have := q.1.1; have h1 : n ≤ a := this.1; have h2 : a < n + 1 := this.2; omega)]
    unfold below
    by_cases h' : a < n
    · rw [if_pos h', if_pos (by show a < n + 1; omega)]
    · rw [if_neg h', if_neg (by show ¬ a < n + 1; omega)]

/-- The rows of a block of `k` rows per slab: `G` on the slabs below `n`, `X` from slab `n` on. -/
def slabs (k n : ℕ) (G X : Arr β) : Arr β := fun p => if p.1 / k < n then G p else X p

end Cert.Words

end
-- ==== Proof.Codes.lean ====
/- The code words that the kernel's program computes from the transitions, entry by entry: running sums along a row, the depth
   of the stack before and after a step, the position in the sequence; and that the words of a valid run are in range. -/
module

public import Idealize.ShloMosaic.Lib.Routing.OpsOne
public import proofs.«01_k».proof.Proof.Words

@[expose] public section

noncomputable section

namespace Cert.Words

open Idealize.ShloMosaic Idealize.ShloMosaic.ValueIdx Idealize.ShloMosaic.Routing LaneScatter Updates

/-- The running sum of a row of words, entry 0 to entry `t`. -/
def csum (g : ℕ → BitVec 32) : ℕ → BitVec 32
  | 0 => g 0
  | t + 1 => csum g t + g (t + 1)

theorem csum_ofNat (g : ℕ → BitVec 32) (t : ℕ) :
    BitVec.ofNat 32 ((List.range (t + 1)).map fun i => (g i).toNat).sum = csum g t := by
  induction t with
  | zero => simp [csum]
  | succ t ih =>
    rw [List.range_succ, List.map_append, List.sum_append, BitVec.ofNat_add, ih]
    simp [csum]

/-- The printed running sum along the rows of a matrix: the window is one row high and the whole row wide, padded low by one less. -/
theorem cumsum_row {R N Nm1 : ℕ} (hN : Nm1 + 1 = N) (x : IVec (shape2 R N) 32) (A : ℕ × ℕ → BitVec 32)
    (hx : ∀ (i : Fin R) (j : Fin N), x (ix2 i j) = A (i.val, j.val)) (init : IVec shape0 32) (hinit : init ix0 = 0#32)
    (h : (shape2 R N).ReduceWindows (![1, N] : Fin 2 → ℕ) ![1, 1] ![0, Nm1] ![0, 0] (shape2 R N)) (hu : 0 < shape0.numel) (i : Fin R) (j : Fin N) :
    Host.reduceWindow IntOp.addi ![1, N] ![1, 1] ![0, Nm1] ![0, 0] x init h hu (ix2 i j) = csum (fun t => A (i.val, t)) j.val := by
  subst hN
  have hi := i.isLt
  have hj := j.isLt
  have hv : init (Shape.Idx.first hu) = BitVec.ofNat 32 0 := (congrArg init (eq_ix0 _)).trans hinit
  rw [← csum_ofNat]
  unfold Host.reduceWindow
  refine (foldl_addi_ofNat _ _ (fun n => if Nm1 ≤ j.val + n.val then (A (i.val, j.val + n.val - Nm1)).toNat else 0) (fun n _ => ?_) _ 0 hv).trans ?_
  · have w0 : ((shape2 1 (Nm1 + 1)).rowMajor.symm n 0).val = 0 := by rw [symm2]; rfl
    have w1 : ((shape2 1 (Nm1 + 1)).rowMajor.symm n 1).val = n.val := by rw [symm2]; rfl
    have hn : n.val < Nm1 + 1 := (n.cast (numel2 _)).isLt
    dsimp only
    by_cases hp : Nm1 ≤ j.val + n.val
    · have hin : ∀ a : Fin 2, (![0, Nm1] : Fin 2 → ℕ) a ≤ (ix2 i j a).val * (![1, 1] : Fin 2 → ℕ) a + ((shape2 1 (Nm1 + 1)).rowMajor.symm n a).val
          ∧ (ix2 i j a).val * (![1, 1] : Fin 2 → ℕ) a + ((shape2 1 (Nm1 + 1)).rowMajor.symm n a).val - (![0, Nm1] : Fin 2 → ℕ) a < (shape2 R (Nm1 + 1)).size a := fun a => by
        match a with
        | ⟨0, _⟩ =>
          show 0 ≤ i.val * 1 + ((shape2 1 (Nm1 + 1)).rowMajor.symm n 0).val ∧ i.val * 1 + ((shape2 1 (Nm1 + 1)).rowMajor.symm n 0).val - 0 < R
          rw [w0]; omega
        | ⟨1, _⟩ =>
          show Nm1 ≤ j.val * 1 + ((shape2 1 (Nm1 + 1)).rowMajor.symm n 1).val ∧ j.val * 1 + ((shape2 1 (Nm1 + 1)).rowMajor.symm n 1).val - Nm1 < Nm1 + 1
          rw [w1]; omega
      rw [if_pos hp]
      refine (dif_pos hin).trans ?_
      rw [BitVec.ofNat_toNat, BitVec.setWidth_eq]
      refine (congrArg x (funext fun a => Fin.ext ?_)).trans (hx i ⟨j.val + n.val - Nm1, by omega⟩)
      match a with
      | ⟨0, _⟩ =>
        show i.val * 1 + ((shape2 1 (Nm1 + 1)).rowMajor.symm n 0).val - 0 = i.val
        rw [w0]; omega
      | ⟨1, _⟩ =>
        show j.val * 1 + ((shape2 1 (Nm1 + 1)).rowMajor.symm n 1).val - Nm1 = j.val + n.val - Nm1
        rw [w1]; omega
    · rw [if_neg hp]
      refine (dif_neg fun hin => hp ?_).trans hv
      have h1 := (hin 1).1
      change Nm1 ≤ j.val * 1 + ((shape2 1 (Nm1 + 1)).rowMajor.symm n 1).val at h1
      rw [w1] at h1
      omega
  · rw [Nat.zero_add, map_finRange_val _ (fun w => if Nm1 ≤ j.val + w then (A (i.val, j.val + w - Nm1)).toNat else 0)]
    exact congrArg (BitVec.ofNat 32) ((congrArg (fun M => ((List.range M).map fun w => if Nm1 ≤ j.val + w then (A (i.val, j.val + w - Nm1)).toNat else 0).sum)
      (numel2 (Nm1 + 1))).trans (sum_window (fun t => (A (i.val, t)).toNat) Nm1 j.val (by omega)))

/-- One on a shift, zero elsewhere. -/
def shW (x : BitVec 32) : BitVec 32 := (IntOp.cmpi .eq x 1#32).setWidth 32
/-- The change of the depth at a step: one more on a shift, one less elsewhere. -/
def dW (x : BitVec 32) : BitVec 32 := IntOp.subi (IntOp.muli 2#32 (shW x)) 1#32
/-- The depth after step `t`. -/
def aftW (x : ℕ → BitVec 32) (t : ℕ) : BitVec 32 := IntOp.addi 2#32 (csum (fun i => dW (x i)) t)
/-- The depth before step `t`. -/
def befW (x : ℕ → BitVec 32) : ℕ → BitVec 32
  | 0 => 2#32
  | t + 1 => aftW x t
/-- The shifts before step `t`. -/
def posW (x : ℕ → BitVec 32) : ℕ → BitVec 32
  | 0 => 0#32
  | t + 1 => csum (fun i => shW (x i)) t
/-- The code word of step `t`. -/
def codeW (x : ℕ → BitVec 32) (t : ℕ) : BitVec 32 :=
  IntOp.ori (IntOp.ori (IntOp.ori (befW x t) (IntOp.shli .host (IntOp.minsi (posW x t) 63#32) 7#32))
    (IntOp.shli .host (IntOp.subi (aftW x t) 1#32) 14#32)) (IntOp.shli .host (x t) 21#32)

theorem shW_one : shW 1#32 = 1#32 := by decide
theorem shW_ne {x : BitVec 32} (h : x ≠ 1#32) : shW x = 0#32 := by
  unfold shW IntOp.cmpi
  rw [show (x == 1#32) = false from beq_false_of_ne h]
  rfl

theorem aft_eq (x : ℕ → BitVec 32) (t : ℕ) : aftW x t = befW x t + dW (x t) := by
  cases t with
  | zero => rfl
  | succ t =>
    show 2#32 + (csum (fun i => dW (x i)) t + dW (x (t + 1))) = (2#32 + csum (fun i => dW (x i)) t) + dW (x (t + 1))
    rw [BitVec.add_assoc]
theorem aft_shift (x : ℕ → BitVec 32) (t : ℕ) (h : x t = 1#32) : aftW x t = befW x t + 1#32 := by
  rw [aft_eq, h]; rfl
theorem aft_reduce (x : ℕ → BitVec 32) (t : ℕ) (h : x t ≠ 1#32) : aftW x t = befW x t - 1#32 := by
  rw [aft_eq]; unfold dW; rw [shW_ne h]
  show befW x t + (2#32 * 0#32 - 1#32) = _
  rw [BitVec.sub_eq_add_neg (befW x t)]; rfl
theorem pos_succ (x : ℕ → BitVec 32) (t : ℕ) : posW x (t + 1) = posW x t + shW (x t) := by
  cases t with
  | zero => show shW (x 0) = 0#32 + shW (x 0); rw [BitVec.zero_add]
  | succ t => rfl

/-- The transitions of a row are one to three, and the depth before each later step is two to sixty-five. -/
structure RowOk (x : ℕ → BitVec 32) : Prop where
  lo : ∀ t < 125, 1 ≤ (x t).toNat
  hi : ∀ t < 125, (x t).toNat ≤ 3
  dlo : ∀ t < 124, 2 ≤ (aftW x t).toNat
  dhi : ∀ t < 124, (aftW x t).toNat ≤ 65

/-- The shifts before step `t`, counted. -/
def posN (x : ℕ → BitVec 32) : ℕ → ℕ
  | 0 => 0
  | t + 1 => posN x t + if x t = 1#32 then 1 else 0

theorem posN_le (x : ℕ → BitVec 32) (t : ℕ) : posN x t ≤ t := by
  induction t with
  | zero => exact Nat.le_refl 0
  | succ t ih => show posN x t + (if x t = 1#32 then 1 else 0) ≤ t + 1; split <;> omega
theorem posW_toNat (x : ℕ → BitVec 32) (t : ℕ) (ht : t < 126) : (posW x t).toNat = posN x t := by
  induction t with
  | zero => rfl
  | succ t ih =>
    have h := posN_le x t
    have ih := ih (by omega)
    rw [pos_succ, BitVec.toNat_add, ih]
    show _ = posN x t + if x t = 1#32 then 1 else 0
    by_cases e : x t = 1#32
    · rw [if_pos e, e, shW_one]; show (posN x t + 1) % 4294967296 = _; omega
    · rw [if_neg e, shW_ne e]; show (posN x t + 0) % 4294967296 = _; omega

namespace RowOk

variable {x : ℕ → BitVec 32} (h : RowOk x)
include h

theorem bef_lo {t : ℕ} (ht : t < 125) : 2 ≤ (befW x t).toNat := by
  cases t with
  | zero => exact Nat.le_refl 2
  | succ t => exact h.dlo t (by omega)
theorem bef_hi {t : ℕ} (ht : t < 125) : (befW x t).toNat ≤ 65 := by
  cases t with
  | zero => exact Nat.le_of_ble_eq_true rfl
  | succ t => exact h.dhi t (by omega)
theorem aft_toNat {t : ℕ} (ht : t < 125) :
    (aftW x t).toNat = if x t = 1#32 then (befW x t).toNat + 1 else (befW x t).toNat - 1 := by
  have h1 := h.bef_lo ht
  have h2 := h.bef_hi ht
  by_cases e : x t = 1#32
  · rw [aft_shift x t e, if_pos e, BitVec.toNat_add]; show ((befW x t).toNat + 1) % 4294967296 = _; omega
  · rw [aft_reduce x t e, if_neg e, BitVec.toNat_sub]; show (4294967296 - 1 + (befW x t).toNat) % 4294967296 = _; omega
theorem place_toNat {t : ℕ} (ht : t < 125) :
    (IntOp.subi (aftW x t) 1#32).toNat = if x t = 1#32 then (befW x t).toNat else (befW x t).toNat - 2 := by
  have h1 := h.bef_lo ht
  have h2 := h.bef_hi ht
  have h3 := h.aft_toNat ht
  show (aftW x t - 1#32).toNat = _
  rw [BitVec.toNat_sub, h3]
  split <;> (show (4294967296 - 1 + _) % 4294967296 = _; omega)
theorem min_toNat {t : ℕ} (ht : t < 125) : (IntOp.minsi (posW x t) 63#32).toNat = min (posN x t) 63 := by
  have h1 := posW_toNat x t (by omega)
  have h2 := posN_le x t
  have e : (posW x t).slt 63#32 = decide (posN x t < 63) := by
    rw [BitVec.slt_eq_decide, BitVec.toInt_eq_toNat_of_lt (by omega), h1]
    show decide ((posN x t : ℤ) < 63) = _
    congr 1
    exact propext (by omega)
  unfold IntOp.minsi
  rw [e]
  by_cases hp : posN x t < 63
  · rw [decide_eq_true hp, if_pos rfl, h1]; omega
  · rw [decide_eq_false hp, if_neg (by decide)]; show 63 = _; omega

theorem code_toNat {t : ℕ} (ht : t < 125) :
    (codeW x t).toNat = (befW x t).toNat + 128 * min (posN x t) 63 + 16384 * (IntOp.subi (aftW x t) 1#32).toNat + 2097152 * (x t).toNat := by
  have hb := h.bef_hi ht
  have hl := h.bef_lo ht
  have hp := h.place_toNat ht
  have hm := h.min_toNat ht
  have hx := h.hi t ht
  have hple : (IntOp.subi (aftW x t) 1#32).toNat ≤ 65 := by rw [hp]; split <;> omega
  have s (y : BitVec 32) (k : ℕ) (hk : k < 32) (hy : y.toNat * 2 ^ k < 2 ^ 32) : (IntOp.shli .host y (BitVec.ofNat 32 k)).toNat = 2 ^ k * y.toNat := by
    have hk' : (BitVec.ofNat 32 k).toNat = k := by rw [BitVec.toNat_ofNat]; omega
    unfold IntOp.shli
    rw [hk', if_pos hk]
    show (y <<< (BitVec.ofNat 32 k).toNat).toNat = _
    rw [hk', BitVec.toNat_shiftLeft, Nat.shiftLeft_eq, Nat.mod_eq_of_lt hy, Nat.mul_comm]
  have s1 := s (IntOp.minsi (posW x t) 63#32) 7 (by omega) (by rw [hm]; omega)
  have s2 := s (IntOp.subi (aftW x t) 1#32) 14 (by omega) (by omega)
  have s3 := s (x t) 21 (by omega) (by omega)
  have o1 : ((befW x t) ||| IntOp.shli .host (IntOp.minsi (posW x t) 63#32) 7#32).toNat = (befW x t).toNat + 128 * min (posN x t) 63 := by
    rw [BitVec.toNat_or, s1, hm, Nat.or_comm, ← Nat.two_pow_add_eq_or_of_lt (i := 7) (by omega)]; omega
  have o2 : ((befW x t) ||| IntOp.shli .host (IntOp.minsi (posW x t) 63#32) 7#32 ||| IntOp.shli .host (IntOp.subi (aftW x t) 1#32) 14#32).toNat
      = (befW x t).toNat + 128 * min (posN x t) 63 + 16384 * (IntOp.subi (aftW x t) 1#32).toNat := by
    rw [BitVec.toNat_or, o1, s2, Nat.or_comm, ← Nat.two_pow_add_eq_or_of_lt (i := 14) (by omega)]; omega
  show ((befW x t) ||| IntOp.shli .host (IntOp.minsi (posW x t) 63#32) 7#32 ||| IntOp.shli .host (IntOp.subi (aftW x t) 1#32) 14#32
    ||| IntOp.shli .host (x t) 21#32).toNat = _
  rw [BitVec.toNat_or, o2, s3, Nat.or_comm, ← Nat.two_pow_add_eq_or_of_lt (i := 21) (by omega)]; omega

theorem wD_code {t : ℕ} (ht : t < 125) : wD (codeW x t) = (befW x t).toNat := by
  have hb := h.bef_hi ht
  unfold wD; rw [h.code_toNat ht]; omega
theorem wB_code {t : ℕ} (ht : t < 125) : wB (codeW x t) = min (posN x t) 63 := by
  have hb := h.bef_hi ht
  unfold wB; rw [h.code_toNat ht]; omega
theorem wW_code {t : ℕ} (ht : t < 125) : wW (codeW x t) = if x t = 1#32 then (befW x t).toNat else (befW x t).toNat - 2 := by
  have hb := h.bef_hi ht
  have hp := h.place_toNat ht
  have hple : (IntOp.subi (aftW x t) 1#32).toNat ≤ 65 := by rw [hp]; split <;> omega
  rw [← hp]
  unfold wW; rw [h.code_toNat ht]; omega
theorem wT_code {t : ℕ} (ht : t < 125) : wT (codeW x t) = (x t).toNat := by
  have hb := h.bef_hi ht
  have hx := h.hi t ht
  have hp := h.place_toNat ht
  have hple : (IntOp.subi (aftW x t) 1#32).toNat ≤ 65 := by rw [hp]; split <;> omega
  unfold wT; rw [h.code_toNat ht]; omega

theorem ok {t : ℕ} (ht : t < 125) : Ok (codeW x t) := by
  have hb := h.bef_hi ht
  have hl := h.bef_lo ht
  have hx := h.hi t ht
  have hp := h.place_toNat ht
  have hple : (IntOp.subi (aftW x t) 1#32).toNat ≤ 65 := by rw [hp]; split <;> omega
  refine ⟨?_, ?_, ?_, ?_, ?_, ?_⟩
  · rw [h.code_toNat ht]; omega
  · rw [h.wD_code ht]; exact hl
  · rw [h.wD_code ht]; exact hb
  · rw [h.wB_code ht]; omega
  · rw [h.wW_code ht]; split <;> omega
  · rw [h.wW_code ht, h.wD_code ht]; split <;> omega

theorem next {t : ℕ} (ht : t + 1 < 125) : wD (codeW x (t + 1)) = wW (codeW x t) + 1 := by
  have hl := h.bef_lo (t := t) (by omega)
  rw [h.wD_code ht, h.wW_code (by omega)]
  show (aftW x t).toNat = _
  rw [h.aft_toNat (by omega)]
  split <;> omega

end RowOk

/-- The code words as an array. -/
def codeA (A : ℕ × ℕ → BitVec 32) : ℕ × ℕ → BitVec 32 := fun p => codeW (fun t => A (p.1, t)) p.2

/-- A block of 64 rows of the code words of valid rows is valid. -/
theorem valid_block (A : ℕ × ℕ → BitVec 32) (o : ℕ) (h : ∀ mi < 64, RowOk fun t => A (o + mi, t)) : Valid (loadAt (o, 0) (codeA A)) := by
  have e (mi t : ℕ) : loadAt (o, 0) (codeA A) (mi, t) = codeW (fun t => A (o + mi, t)) t := by
    show codeW (fun t => A (o + mi, t)) (0 + t) = _
    rw [Nat.zero_add]
  refine ⟨fun mi hmi t ht => ?_, fun mi hmi => ?_, fun mi hmi t ht => ?_⟩
  · rw [e]; exact (h mi hmi).ok ht
  · rw [e, (h mi hmi).wD_code (by omega)]; rfl
  · rw [e, e]; exact (h mi hmi).next ht

/-- The code words, as the program computes them from the transitions. -/
def codes (hb : shape0.BroadcastsInDim (shape2 512 125) ![]) (h1 : 1 < 32) (hb0 : shape0.BroadcastsInDim shape0 ![])
    (hw : (shape2 512 125).ReduceWindows (![1, 125] : Fin 2 → ℕ) ![1, 1] ![0, 124] ![0, 0] (shape2 512 125)) (hu : 0 < shape0.numel)
    (hb1 : shape0.BroadcastsInDim (shape2 512 1) ![]) (hs : (shape2 512 125).Slices ![0, 0] (shape2 512 124))
    (hc : Shape.Concatenates [shape2 512 1, shape2 512 124] (shape2 512 125) 1) (x : IVec (shape2 512 125) 32) : IVec (shape2 512 125) 32 :=
  let k (v : BitVec 32) : IVec (shape2 512 125) 32 := broadcastInDim (shape2 512 125) ![] hb (constantI shape0 32 v)
  let k1 (v : BitVec 32) : IVec (shape2 512 1) 32 := broadcastInDim (shape2 512 1) ![] hb1 (constantI shape0 32 v)
  let z : IVec shape0 32 := broadcastInDim shape0 ![] hb0 (constantI shape0 32 0#32)
  let cs (y : IVec (shape2 512 125) 32) : IVec (shape2 512 125) 32 := Host.reduceWindow IntOp.addi ![1, 125] ![1, 1] ![0, 124] ![0, 0] y z hw hu
  let cut (y : IVec (shape2 512 125) 32) : IVec (shape2 512 124) 32 := extractStridedSlice (shape2 512 124) ![0, 0] y hs
  let cat (a : IVec (shape2 512 1) 32) (b : IVec (shape2 512 124) 32) : IVec (shape2 512 125) 32 :=
    concatenate (shape2 512 125) 1 [⟨shape2 512 1, a⟩, ⟨shape2 512 124, b⟩] hc
  let sh : IVec (shape2 512 125) 32 := extui 32 (cmpi .eq x (k 1#32)) h1
  let after : IVec (shape2 512 125) 32 := addi (k 2#32) (cs (subi (muli (k 2#32) sh) (k 1#32)))
  ori (ori (ori (cat (k1 2#32) (cut after)) (Host.shli (minsi (cat (k1 0#32) (cut (cs sh))) (k 63#32)) (k 7#32)))
    (Host.shli (subi after (k 1#32)) (k 14#32))) (Host.shli x (k 21#32))

/-- A row of one entry and 124 entries side by side. -/
theorem cat_row (hs : (shape2 512 125).Slices ![0, 0] (shape2 512 124))
    (hc : Shape.Concatenates [shape2 512 1, shape2 512 124] (shape2 512 125) 1) (a : IVec (shape2 512 1) 32) (v : BitVec 32) (ha : ∀ i, a i = v)
    (y : IVec (shape2 512 125) 32) (i : Fin 512) (j : Fin 125) :
    concatenate (shape2 512 125) 1 [⟨shape2 512 1, a⟩, ⟨shape2 512 124, extractStridedSlice (shape2 512 124) ![0, 0] y hs⟩] hc (ix2 i j)
      = if h : j.val = 0 then v else y (ix2 i ⟨j.val - 1, by omega⟩) := by
  have hj := j.isLt
  by_cases h : j.val = 0
  · rw [dif_pos h]
    refine (concatenate_pair_apply_left (t := shape2 512 125) (s₁ := shape2 512 1) (s₂ := shape2 512 124) 1 a _ hc (ix2 i j) rfl (ix2 i (0 : Fin 1)) fun b => ?_).trans (ha _)
    match b with
    | ⟨0, _⟩ => rfl
    | ⟨1, _⟩ => exact h.symm
  · rw [dif_neg h]
    refine (concatenate_pair_apply_right (t := shape2 512 125) (s₁ := shape2 512 1) (s₂ := shape2 512 124) 1 a _ hc (ix2 i j) rfl rfl (ix2 i (⟨j.val - 1, by omega⟩ : Fin 124)) (fun b hb => ?_) ?_).trans ?_
    · match b with
      | ⟨0, _⟩ => rfl
      | ⟨1, _⟩ => exact absurd rfl hb
    · show j.val - 1 + 1 = j.val
      omega
    · refine extractStridedSlice_apply _ _ _ _ _ fun b => ?_
      match b with
      | ⟨0, _⟩ => show i.val = 0 + i.val; omega
      | ⟨1, _⟩ => show j.val - 1 = 0 + (j.val - 1); omega

theorem isArr_codes (hb h1 hb0 hw hu hb1 hs hc) (x : IVec (shape2 512 125) 32) (A : ℕ × ℕ → BitVec 32)
    (hx : ∀ (i : Fin 512) (j : Fin 125), x (ix2 i j) = A (i.val, j.val)) (i : Fin 512) (j : Fin 125) :
    codes hb h1 hb0 hw hu hb1 hs hc x (ix2 i j) = codeA A (i.val, j.val) := by
  have hsh (i : Fin 512) (j : Fin 125) : extui 32 (cmpi .eq x (broadcastInDim (shape2 512 125) ![] hb (constantI shape0 32 1#32))) h1 (ix2 i j) = shW (A (i.val, j.val)) := by
    rw [← hx]; rfl
  have hcs := cumsum_row (hN := rfl) (Nm1 := 124) (init := broadcastInDim shape0 ![] hb0 (constantI shape0 32 0#32)) _ (fun p => shW (A p)) hsh rfl hw hu
  have haft (i : Fin 512) (j : Fin 125) : addi (broadcastInDim (shape2 512 125) ![] hb (constantI shape0 32 2#32)) (Host.reduceWindow IntOp.addi ![1, 125] ![1, 1] ![0, 124] ![0, 0]
      (subi (muli (broadcastInDim (shape2 512 125) ![] hb (constantI shape0 32 2#32)) (extui 32 (cmpi .eq x (broadcastInDim (shape2 512 125) ![] hb (constantI shape0 32 1#32))) h1))
        (broadcastInDim (shape2 512 125) ![] hb (constantI shape0 32 1#32))) (broadcastInDim shape0 ![] hb0 (constantI shape0 32 0#32)) hw hu) (ix2 i j)
      = aftW (fun t => A (i.val, t)) j.val :=
    congrArg (IntOp.addi 2#32) (cumsum_row (hN := rfl) (Nm1 := 124) _ (fun p => dW (A p)) (fun i j => by
      show IntOp.subi (IntOp.muli 2#32 (extui 32 (cmpi .eq x (broadcastInDim (shape2 512 125) ![] hb (constantI shape0 32 1#32))) h1 (ix2 i j))) 1#32 = _
      rw [hsh]; rfl) _ rfl hw hu i j)
  have hbef := cat_row hs hc (broadcastInDim (shape2 512 1) ![] hb1 (constantI shape0 32 2#32)) 2#32 (fun _ => rfl) (addi (broadcastInDim (shape2 512 125) ![] hb (constantI shape0 32 2#32)) (Host.reduceWindow IntOp.addi ![1, 125] ![1, 1] ![0, 124] ![0, 0]
      (subi (muli (broadcastInDim (shape2 512 125) ![] hb (constantI shape0 32 2#32)) (extui 32 (cmpi .eq x (broadcastInDim (shape2 512 125) ![] hb (constantI shape0 32 1#32))) h1))
        (broadcastInDim (shape2 512 125) ![] hb (constantI shape0 32 1#32))) (broadcastInDim shape0 ![] hb0 (constantI shape0 32 0#32)) hw hu)) i j
  have hpos := cat_row hs hc (broadcastInDim (shape2 512 1) ![] hb1 (constantI shape0 32 0#32)) 0#32 (fun _ => rfl) (Host.reduceWindow IntOp.addi ![1, 125] ![1, 1] ![0, 124] ![0, 0]
      (extui 32 (cmpi .eq x (broadcastInDim (shape2 512 125) ![] hb (constantI shape0 32 1#32))) h1) (broadcastInDim shape0 ![] hb0 (constantI shape0 32 0#32)) hw hu) i j
  have eb : (if h : j.val = 0 then 2#32 else aftW (fun t => A (i.val, t)) (j.val - 1)) = befW (fun t => A (i.val, t)) j.val := by
    obtain ⟨j, hj⟩ := j
    cases j <;> rfl
  have ep : (if h : j.val = 0 then 0#32 else csum (fun t => shW (A (i.val, t))) (j.val - 1)) = posW (fun t => A (i.val, t)) j.val := by
    obtain ⟨j, hj⟩ := j
    cases j <;> rfl
  simp only [haft] at hbef
  simp only [hcs] at hpos
  rw [eb] at hbef
  rw [ep] at hpos
  unfold codeA codeW
  refine congrArg₂ IntOp.ori (congrArg₂ IntOp.ori (congrArg₂ IntOp.ori hbef (congrArg (fun w => IntOp.shli .host (IntOp.minsi w 63#32) 7#32) hpos))
    (congrArg (fun w => IntOp.shli .host (IntOp.subi w 1#32) 14#32) (haft i j))) (congrArg (fun w => IntOp.shli .host w 21#32) (hx i j))

end Cert.Words

end
-- ==== Proof.Pre.lean ====
/- What the precondition says of the transitions, row by row. -/
module

public import proofs.«01_k».proof.Pre_valid
public import proofs.«01_k».proof.Proof.Codes

@[expose] public section

noncomputable section

namespace Cert.Words

open Idealize.ShloMosaic Idealize.ShloMosaic.ValueIdx Idealize.ShloMosaic.Routing LaneScatter Updates

theorem and_one {a b : BitVec 1} (h : IntOp.andi a b = 1#1) : a = 1#1 ∧ b = 1#1 := by
  revert h; unfold IntOp.andi; revert a b; decide
theorem ofBool_one {b : Bool} (h : BitVec.ofBool b = 1#1) : b = true := by
  cases b with
  | true => rfl
  | false => exact absurd h (by decide)

/-- A word between two small words, compared with signs, is between their numbers. -/
theorem between {x : BitVec 32} {l u : ℕ} (hl : l < 2147483648) (hu : u < 2147483648)
    (h : IntOp.andi (IntOp.cmpi .sge x (BitVec.ofNat 32 l)) (IntOp.cmpi .sle x (BitVec.ofNat 32 u)) = 1#1) : l ≤ x.toNat ∧ x.toNat ≤ u := by
  obtain ⟨h1, h2⟩ := and_one h
  have h1 : (BitVec.ofNat 32 l).sle x = true := ofBool_one h1
  have h2 : x.sle (BitVec.ofNat 32 u) = true := ofBool_one h2
  have e (n : ℕ) (hn : n < 2147483648) : (BitVec.ofNat 32 n).toInt = n := by
    rw [BitVec.toInt_eq_toNat_of_lt (by rw [BitVec.toNat_ofNat]; omega), BitVec.toNat_ofNat, Nat.mod_eq_of_lt (by omega)]
  rw [BitVec.sle_eq_decide] at h1 h2
  have h1 := of_decide_eq_true h1
  have h2 := of_decide_eq_true h2
  rw [e l hl] at h1
  rw [e u hu] at h2
  have hx := x.isLt
  rw [BitVec.toInt_eq_toNat_cond] at h1 h2
  split at h1 <;> (simp only [*, if_true, if_false] at h1 h2; omega)

/-- The transitions as an array of words. -/
def trA (x : IVec (shape2 512 125) 32) : ℕ × ℕ → BitVec 32 := ofBlk (R := 512) (C := 125) (Nat.succ_pos 511) (Nat.succ_pos 124) x

theorem trA_at (x : IVec (shape2 512 125) 32) (i : Fin 512) (j : Fin 125) : x (ix2 i j) = trA x (i.val, j.val) :=
  isArr_ofBlk (R := 512) (C := 125) (Nat.succ_pos 511) (Nat.succ_pos 124) x (ix2 i j)

variable [Cert.Pre_valid.Facts]
open Cert.Pre_valid.Facts

/-- The rows of transitions that meet the precondition are valid. -/
theorem rows_of_pre {F : FTy → Type} [FloatOps F] (a0 a1 a2 a3 a4 a5 a6 a7 a8 a9 a10 a11 a12)
    (h1 : (Cert.Pre_valid.fn (F := F) a0 a1 a2 a3 a4 a5 a6 a7 a8 a9 a10 a11 a12).1 = fun _ => 1#1)
    (h2 : (Cert.Pre_valid.fn (F := F) a0 a1 a2 a3 a4 a5 a6 a7 a8 a9 a10 a11 a12).2 = fun _ => 1#1) (i : ℕ) (hi : i < 512) :
    RowOk fun t => trA a1 (i, t) := by
  have b1 (t : ℕ) (ht : t < 125) : 1 ≤ (trA a1 (i, t)).toNat ∧ (trA a1 (i, t)).toNat ≤ 3 := by
    refine between (by omega) (by omega) (?_ : _ = 1#1)
    rw [← trA_at a1 ⟨i, hi⟩ ⟨t, ht⟩]
    exact congrFun h1 (ix2 (⟨i, hi⟩ : Fin 512) (⟨t, ht⟩ : Fin 125))
  have haft (i : Fin 512) (j : Fin 125) : addi (broadcastInDim (shape2 512 125) ![] bcast_S_S512x125 (constantI shape0 32 2#32)) (Host.reduceWindow IntOp.addi ![1, 125] ![1, 1] ![0, 124] ![0, 0]
      (subi (muli (broadcastInDim (shape2 512 125) ![] bcast_S_S512x125 (constantI shape0 32 2#32)) (extui 32 (cmpi .eq a1 (broadcastInDim (shape2 512 125) ![] bcast_S_S512x125 (constantI shape0 32 1#32))) natLt_1_32))
        (broadcastInDim (shape2 512 125) ![] bcast_S_S512x125 (constantI shape0 32 1#32))) (broadcastInDim shape0 ![] bcast_S_S_ (constantI shape0 32 0#32)) reduceWindows_S512x125_S512x125_w1s1p0_0_w125s1p124_0 h_S_) (ix2 i j)
      = aftW (fun t => trA a1 (i.val, t)) j.val :=
    congrArg (IntOp.addi 2#32) (cumsum_row (hN := rfl) (Nm1 := 124) _ (fun p => dW (trA a1 p)) (fun i j => by rw [← trA_at]; rfl) _ rfl _ _ i j)
  have b2 (t : ℕ) (ht : t < 124) : 2 ≤ (aftW (fun t => trA a1 (i, t)) t).toNat ∧ (aftW (fun t => trA a1 (i, t)) t).toNat ≤ 65 := by
    refine between (by omega) (by omega) (?_ : _ = 1#1)
    rw [← haft ⟨i, hi⟩ ⟨t, by omega⟩]
    have e := extractStridedSlice_apply (s := shape2 512 125) (t := shape2 512 124) ![0, 0] (addi (broadcastInDim (shape2 512 125) ![] bcast_S_S512x125 (constantI shape0 32 2#32)) (Host.reduceWindow IntOp.addi ![1, 125] ![1, 1] ![0, 124] ![0, 0]
      (subi (muli (broadcastInDim (shape2 512 125) ![] bcast_S_S512x125 (constantI shape0 32 2#32)) (extui 32 (cmpi .eq a1 (broadcastInDim (shape2 512 125) ![] bcast_S_S512x125 (constantI shape0 32 1#32))) natLt_1_32))
        (broadcastInDim (shape2 512 125) ![] bcast_S_S512x125 (constantI shape0 32 1#32))) (broadcastInDim shape0 ![] bcast_S_S_ (constantI shape0 32 0#32)) reduceWindows_S512x125_S512x125_w1s1p0_0_w125s1p124_0 h_S_))
      slices_S512x125_S512x124_0_0 (ix2 (⟨i, hi⟩ : Fin 512) (⟨t, ht⟩ : Fin 124)) (ix2 (⟨i, hi⟩ : Fin 512) (⟨t, by omega⟩ : Fin 125)) (fun b => by
        match b with
        | ⟨0, _⟩ => show i = 0 + i; omega
        | ⟨1, _⟩ => show t = 0 + t; omega)
    rw [← e]
    exact congrFun h2 (ix2 (⟨i, hi⟩ : Fin 512) (⟨t, ht⟩ : Fin 124))
  exact ⟨fun t ht => (b1 t ht).1, fun t ht => (b1 t ht).2, fun t ht => (b2 t ht).1, fun t ht => (b2 t ht).2⟩

end Cert.Words

end
-- ==== Proof.KernelBodyEq.lean ====
/- The printed body is the body written row by row. -/
module

public import proofs.«01_k».proof.Proof.KernelRows
public import Idealize.ShloMosaic.Lib.Tactic

@[expose] public section

noncomputable section

namespace Cert.Kernel.Row

open Idealize.ShloMosaic Idealize.ShloMosaic.TcCoe
open Idealize.SL Idealize.SL.Sem
open Cert.Kernel Facts₀ Facts

variable [Facts] {F : FTy → Type} [FloatOps F]

set_option maxHeartbeats 4000000 in
set_option maxRecDepth 100000 in
/-- The printed body is the body written row by row. -/
theorem body_eq (i : grid0.Coords) (arg1 : Memref sig .tc .smem S64x125 .i32) (harg1 : arg1.IsWhole) (arg2 : Memref sig .tc .vmem S1x256 .f32) (harg2 : arg2.IsWhole) (arg3 : Memref sig .tc .vmem S1x2560 .f32) (harg3 : arg3.IsWhole) (arg4 : Memref sig .tc .vmem S64x64 .f32) (harg4 : arg4.IsWhole) (arg5 : Memref sig .tc .vmem S64x64 .f32) (harg5 : arg5.IsWhole) (arg6 : Memref sig .tc .hbm S32768x1024 .f32) (harg6 : arg6.IsWhole) (arg7 : Memref sig .tc .hbm S1600x256 .f32) (harg7 : arg7.IsWhole) (arg8 : Memref sig .tc .hbm S1600x2560 .f32) (harg8 : arg8.IsWhole) (arg9 : Memref sig .tc .vmem S64x512 .f32) (harg9 : arg9.IsWhole) (arg10 : Memref sig .tc .vmem S4096x1024 .f32) (harg10 : arg10.IsWhole) (arg11 : Memref sig .tc .vmem S1600x256 .f32) (harg11 : arg11.IsWhole) (arg12 : Memref sig .tc .vmem S1600x2560 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x128 .f32) (harg16 : arg16.IsWhole) (arg17 : Memref sig .tc .vmem S4608x1024 .f32) (harg17 : arg17.IsWhole) (arg18 : DmaSems sig S_) (arg19 : DmaSems sig S_) (arg20 : DmaSems sig S_) :
    cc0_spinn_stack_treelstm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20
      = body arg1 arg9 arg10 arg13 arg14 arg15 arg16 arg17 arg2 arg3 arg4 arg5 arg6 arg7 arg8 arg11 arg12 harg7 harg8 harg10 harg11 harg12 arg18 arg19 arg20 i := by
  unfold cc0_spinn_stack_treelstm k0_part169 k0_part139
  simp only [bind_assoc]
  sl_kernel_rfl

end Cert.Kernel.Row

end
-- ==== Proof.KernelIdealHost.lean ====
/- What the host's line leaves in the buffers that the kernel's region reads. -/
module

public import proofs.«01_k».proof.Proof.Gen.KernelIdeal.Launch
public import proofs.«01_k».proof.Proof.Codes
public import Idealize.ShloMosaic.Lib.StableHlo.RunRead

@[expose] public section

noncomputable section

namespace Cert.KernelIdeal.Row

open Idealize.ShloMosaic Idealize.ShloMosaic.TcCoe LaneScatter Idealize.ShloMosaic.Tactic Idealize.ShloMosaic.Updates
open Idealize.SL Idealize.SL.Sem
open Cert.KernelIdeal Cert.KernelIdeal.Gen Cert.Words

variable {F : FTy → Type} [FloatOps F]
variable (m : (ℓ : Loc nD τ sig) → Buf (Elt F) ℓ)

/-- What a buffer holds once the host's line has run. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  show StableHlo.after hostOps0 _ (Proc.devRef .tc main_arg0) = _
  after_reads_simp
theorem V_arg1 (c : Dev nD) : V m c main_arg1 = m ((c : Thread nD τ).loc main_arg1) := by
  show StableHlo.after hostOps0 _ (Proc.devRef .tc main_arg1) = _
  after_reads_simp
theorem V_arg2 (c : Dev nD) : V m c main_arg2 = m ((c : Thread nD τ).loc main_arg2) := by
  show StableHlo.after hostOps0 _ (Proc.devRef .tc main_arg2) = _
  after_reads_simp
theorem V_arg3 (c : Dev nD) : V m c main_arg3 = m ((c : Thread nD τ).loc main_arg3) := by
  show StableHlo.after hostOps0 _ (Proc.devRef .tc main_arg3) = _
  after_reads_simp
theorem V_arg4 (c : Dev nD) : V m c main_arg4 = m ((c : Thread nD τ).loc main_arg4) := by
  show StableHlo.after hostOps0 _ (Proc.devRef .tc main_arg4) = _
  after_reads_simp
theorem V_arg5 (c : Dev nD) : V m c main_arg5 = m ((c : Thread nD τ).loc main_arg5) := by
  show StableHlo.after hostOps0 _ (Proc.devRef .tc main_arg5) = _
  after_reads_simp
theorem V_arg6 (c : Dev nD) : V m c main_arg6 = m ((c : Thread nD τ).loc main_arg6) := by
  show StableHlo.after hostOps0 _ (Proc.devRef .tc main_arg6) = _
  after_reads_simp
theorem V_arg7 (c : Dev nD) : V m c main_arg7 = m ((c : Thread nD τ).loc main_arg7) := by
  show StableHlo.after hostOps0 _ (Proc.devRef .tc main_arg7) = _
  after_reads_simp
theorem V_arg8 (c : Dev nD) : V m c main_arg8 = m ((c : Thread nD τ).loc main_arg8) := by
  show StableHlo.after hostOps0 _ (Proc.devRef .tc main_arg8) = _
  after_reads_simp
theorem V_arg9 (c : Dev nD) : V m c main_arg9 = m ((c : Thread nD τ).loc main_arg9) := by
  show StableHlo.after hostOps0 _ (Proc.devRef .tc main_arg9) = _
  after_reads_simp
theorem V_arg10 (c : Dev nD) : V m c main_arg10 = m ((c : Thread nD τ).loc main_arg10) := by
  show StableHlo.after hostOps0 _ (Proc.devRef .tc main_arg10) = _
  after_reads_simp
theorem V_arg11 (c : Dev nD) : V m c main_arg11 = m ((c : Thread nD τ).loc main_arg11) := by
  show StableHlo.after hostOps0 _ (Proc.devRef .tc main_arg11) = _
  after_reads_simp
theorem V_arg12 (c : Dev nD) : V m c main_arg12 = m ((c : Thread nD τ).loc main_arg12) := by
  show StableHlo.after hostOps0 _ (Proc.devRef .tc main_arg12) = _
  after_reads_simp

/-- The code words. -/
theorem V_codes (c : Dev nD) : V m c main_call0_v29
    = codes bcast_S_S512x125 natLt_1_32 bcast_S_S_ reduceWindows_S512x125_S512x125_w1s1p0_0_w125s1p124_0 h_S_ bcast_S_S512x1 slices_S512x125_S512x124_0_0
        concatenates_S512x1_S512x124_S512x125_d1 (m ((c : Thread nD τ).loc main_arg1)) := by
  show StableHlo.after hostOps0 _ (Proc.devRef .tc main_call0_v29) = _
  after_reads_simp
  have e1 : (StableHlo.TRef.of main_call0_v10 : StableHlo.TRef sig ⟨S512x1, .i32⟩).ofBuf (StableHlo.upto hostOps0 (fun b => m (c, b)) 19 (Proc.devRef .tc main_call0_v10))
      = broadcastInDim S512x1 ![] bcast_S_S512x1 (constantI S_ 32 2#32) := by
    after_reads_simp
    simp only [StableHlo.TRef.ofBuf_toBuf]
  have e2 : (StableHlo.TRef.of main_call0_v13 : StableHlo.TRef sig ⟨S512x1, .i32⟩).ofBuf (StableHlo.upto hostOps0 (fun b => m (c, b)) 26 (Proc.devRef .tc main_call0_v13))
      = broadcastInDim S512x1 ![] bcast_S_S512x1 (constantI S_ 32 0#32) := by
    after_reads_simp
    simp only [StableHlo.TRef.ofBuf_toBuf]
  have e3 : (StableHlo.TRef.of main_call0_v11 : StableHlo.TRef sig ⟨S512x124, .i32⟩).ofBuf (StableHlo.upto hostOps0 (fun b => m (c, b)) 19 (Proc.devRef .tc main_call0_v11))
      = extractStridedSlice S512x124 ![0, 0] (addi (broadcastInDim S512x125 ![] bcast_S_S512x125 (constantI S_ 32 2#32)) (Host.reduceWindow IntOp.addi ![1, 125] ![1, 1] ![0, 124] ![0, 0] (subi (muli (broadcastInDim S512x125 ![] bcast_S_S512x125 (constantI S_ 32 2#32)) (extui 32 (cmpi .eq (m ((c : Thread nD τ).loc main_arg1)) (broadcastInDim S512x125 ![] bcast_S_S512x125 (constantI S_ 32 1#32))) natLt_1_32)) (broadcastInDim S512x125 ![] bcast_S_S512x125 (constantI S_ 32 1#32))) (broadcastInDim S_ ![] bcast_S_S_ (constantI S_ 32 0#32)) reduceWindows_S512x125_S512x125_w1s1p0_0_w125s1p124_0 h_S_)) slices_S512x125_S512x124_0_0 := by
    after_reads_simp
    simp only [StableHlo.TRef.ofBuf_toBuf]
    rfl
  have e4 : (StableHlo.TRef.of main_call0_v15 : StableHlo.TRef sig ⟨S512x124, .i32⟩).ofBuf (StableHlo.upto hostOps0 (fun b => m (c, b)) 26 (Proc.devRef .tc main_call0_v15))
      = extractStridedSlice S512x124 ![0, 0] (Host.reduceWindow IntOp.addi ![1, 125] ![1, 1] ![0, 124] ![0, 0] (extui 32 (cmpi .eq (m ((c : Thread nD τ).loc main_arg1)) (broadcastInDim S512x125 ![] bcast_S_S512x125 (constantI S_ 32 1#32))) natLt_1_32) (broadcastInDim S_ ![] bcast_S_S_ (constantI S_ 32 0#32)) reduceWindows_S512x125_S512x125_w1s1p0_0_w125s1p124_0 h_S_) slices_S512x125_S512x124_0_0 := by
    after_reads_simp
    simp only [StableHlo.TRef.ofBuf_toBuf]
    rfl
  rw [e1, e2, e3, e4]
  simp only [StableHlo.TRef.ofBuf_toBuf]
  unfold codes
  rfl

end Cert.KernelIdeal.Row

end
-- ==== Proof.KernelIdealRows.lean ====
/- The body of the kernel's `pallas_call` written row by row: the unrolled loop body and the unrolled
   prologue and epilogue are the same few statements at row 0, 1, …, 63 of a block, so they are stated
   here once at a row `mi` and put in sequence. `body_eq` says that the printed body is this sequence. -/
module

public import proofs.«01_k».proof.Proof.Gen.KernelIdeal

@[expose] public section

noncomputable section

namespace Cert.KernelIdeal.Row

open Idealize.ShloMosaic Idealize.ShloMosaic.TcCoe
open Idealize.SL Idealize.SL.Sem
open Cert.KernelIdeal Facts₀ Facts

variable [Facts] {F : FTy → Type} [FloatOps F]

/-- The effects of the kernel's programs. -/
abbrev Eff (F : FTy → Type) [FloatOps F] : Type → Type := TpuEff nD τ sig (Elt F) Λ₀ .tc

/-- The three-bit-shifted, rounded-down offset of a position inside a slab that starts at `base`. -/
def slot (base w : BitVec 32) : BitVec 32 := Scalar.addi base (Scalar.shli (Scalar.shrsi w 3#32) 3#32)

/-- The depth field of a code word. -/
def fD (v : BitVec 32) : BitVec 32 := Scalar.andi v 127#32
/-- The buffer position field of a code word. -/
def fB (v : BitVec 32) : BitVec 32 := Scalar.andi (Scalar.shrsi v 7#32) 127#32
/-- The written position field of a code word. -/
def fW (v : BitVec 32) : BitVec 32 := Scalar.andi (Scalar.shrsi v 14#32) 127#32
/-- The transition field of a code word. -/
def fT (v : BitVec 32) : BitVec 32 := Scalar.andi (Scalar.shrsi v 21#32) 3#32

/-- Where row `mi`'s code word of step `t` lies. -/
def offCode (mi : ℕ) (t : Fin k0_t1_loop.trips) : Fin 2 → ℕ :=
  ![mi, (Scalar.indexCast (Scf.iv 0#32 1#32 t)).toNat]
/-- Where row `mi`'s sixteen-row chunk of the stack starts. -/
def offStk (mi : ℕ) (v : BitVec 32) : Fin 2 → ℕ :=
  ![(Scalar.indexCast (slot (BitVec.ofNat 32 (mi * 72)) (Scalar.subi (fD v) 2#32))).toNat, 0]
/-- Where row `mi`'s eight-row chunk of the sequence starts. -/
def offSeq (mi : ℕ) (v : BitVec 32) : Fin 2 → ℕ :=
  ![(Scalar.indexCast (slot (BitVec.ofNat 32 (mi * 64)) (fB v))).toNat, 0]
/-- Where row `mi`'s eight-row chunk of the stack that is written starts. -/
def offWr (mi : ℕ) (v : BitVec 32) : Fin 2 → ℕ :=
  ![(Scalar.indexCast (slot (BitVec.ofNat 32 (mi * 72)) (fW v))).toNat, 0]

/-- What the body assumes of a word it reads at the start of a step. -/
def chkRead (mi : ℕ) (v : BitVec 32) : Prop :=
  (8 ∣ (slot (BitVec.ofNat 32 (mi * 72)) (Scalar.subi (fD v) 2#32)).toNat) ∧
  (∀ a, (offStk mi v) a + S16x1024.size a ≤ S4608x1024.size a) ∧
  (8 ∣ (slot (BitVec.ofNat 32 (mi * 64)) (fB v)).toNat) ∧
  (∀ a, (offSeq mi v) a + S8x1024.size a ≤ S4096x1024.size a)
/-- What the body assumes of a word it reads to write the stack. -/
def chkWr (mi : ℕ) (v : BitVec 32) : Prop :=
  (8 ∣ (slot (BitVec.ofNat 32 (mi * 72)) (fW v)).toNat) ∧
  (∀ a, (offWr mi v) a + S8x1024.size a ≤ S4608x1024.size a)
instance chkRead.dec : ∀ (mi : ℕ) (v : BitVec 32), Decidable (chkRead mi v) := fun mi v => decidable_of_iff' _ (Iff.of_eq (chkRead.eq_1 mi v))
instance chkWr.dec : ∀ (mi : ℕ) (v : BitVec 32), Decidable (chkWr mi v) := fun mi v => decidable_of_iff' _ (Iff.of_eq (chkWr.eq_1 mi v))

/-- The loop runs 125 times. -/
theorem trips_eq : k0_t1_loop.trips = 125 := by decide
/-- The code word's place lies in the block of codes. -/
theorem offCode_eq (mi : ℕ) (t : Fin k0_t1_loop.trips) : offCode mi t = ![mi, t.val] := by
  have ht : t.val < 125 := lt_of_lt_of_eq t.isLt trips_eq
  unfold offCode
  have : (Scalar.indexCast (Scf.iv 0#32 1#32 t)).toNat = t.val := by
    show ((0#32 : BitVec 32) + BitVec.ofNat 32 t.val * 1#32).toNat = _
    simp only [BitVec.zero_add, BitVec.mul_one, BitVec.toNat_ofNat]
    omega
  rw [this]
theorem offCode_inb (mi : ℕ) (h : mi < 64) (t : Fin k0_t1_loop.trips) : ∀ a, (offCode mi t) a + S1x1.size a ≤ S64x125.size a := by
  have ht : t.val < 125 := lt_of_lt_of_eq t.isLt trips_eq
  rw [offCode_eq]
  intro a; match a with
  | ⟨0, _⟩ => show mi + 1 ≤ 64; omega
  | ⟨1, _⟩ => show t.val + 1 ≤ 125; omega
theorem rowOff_inb (mi : ℕ) (h : mi < 64) : ∀ a, (![mi, 0] : Fin 2 → ℕ) a + S1x1024.size a ≤ S64x1024.size a := by
  intro a; match a with
  | ⟨0, _⟩ => show mi + 1 ≤ 64; omega
  | ⟨1, _⟩ => show 0 + 1024 ≤ 1024; omega
theorem rowOff16_inb (mi : ℕ) (h : mi < 64) : ∀ a, (![mi, 0] : Fin 2 → ℕ) a + S1x128.size a ≤ S64x128.size a := by
  intro a; match a with
  | ⟨0, _⟩ => show mi + 1 ≤ 64; omega
  | ⟨1, _⟩ => show 0 + 128 ≤ 128; omega
theorem rowOff9_inb (mi : ℕ) (h : mi < 64) : ∀ a, (![mi, 0] : Fin 2 → ℕ) a + S1x512.size a ≤ S64x512.size a := by
  intro a; match a with
  | ⟨0, _⟩ => show mi + 1 ≤ 64; omega
  | ⟨1, _⟩ => show 0 + 512 ≤ 512; omega
theorem rowSlices (mi : ℕ) (h : mi < 64) : S64x1024.Slices ![mi, 0] S1x1024 := by
  refine ⟨rfl, ?_⟩
  intro a; match a with
  | ⟨0, _⟩ => show mi + 1 ≤ 64; omega
  | ⟨1, _⟩ => show 0 + 1024 ≤ 1024; omega
theorem offCodeL_inb (mi : ℕ) (h : mi < 64) : ∀ a, (![mi, 124] : Fin 2 → ℕ) a + S1x1.size a ≤ S64x125.size a := by
  intro a; match a with
  | ⟨0, _⟩ => show mi + 1 ≤ 64; omega
  | ⟨1, _⟩ => show 124 + 1 ≤ 125; omega
theorem seqRow_inb (mi : ℕ) (h : mi < 64) : ∀ a, (![mi * 64, 0] : Fin 2 → ℕ) a + S1x1024.size a ≤ S4096x1024.size a := by
  intro a; match a with
  | ⟨0, _⟩ => show mi * 64 + 1 ≤ 4096; omega
  | ⟨1, _⟩ => show 0 + 1024 ≤ 1024; omega
theorem stkRow_inb (mi j : ℕ) (h : mi < 64) (hj : j < 72) : ∀ a, (![mi * 72 + j, 0] : Fin 2 → ℕ) a + S1x1024.size a ≤ S4608x1024.size a := by
  intro a; match a with
  | ⟨0, _⟩ => show mi * 72 + j + 1 ≤ 4608; omega
  | ⟨1, _⟩ => show 0 + 1024 ≤ 1024; omega

/-- One effect, then the rest. -/
abbrev act {α : Type} {β : Type} (e : Eff F α) (k : α → Prog (Eff F) β) : Prog (Eff F) β := .op e k

variable (arg1 : Memref sig .tc .smem S64x125 .i32) (arg9 : Memref sig .tc .vmem S64x512 .f32) (arg10 : Memref sig .tc .vmem S4096x1024 .f32)
  (arg13 arg14 arg15 : Memref sig .tc .vmem S64x1024 .f32) (arg16 : Memref sig .tc .vmem S64x128 .f32) (arg17 : Memref sig .tc .vmem S4608x1024 .f32)

/-- Row `mi` of the start of step `t`: the two top rows of the stack, the front of the sequence and the transition are put in the row's place
    of the four small buffers. -/
def rowRead {α : Type} (t : Fin k0_t1_loop.trips) (mi : ℕ) (h : mi < 64) (K : Prog (Eff F) α) : Prog (Eff F) α :=
  act (α := S1x1.Idx → Elt F .i32) (TpuEff.load arg1 (Rect.unit (s := S64x125) (offCode mi t) S1x1.size (offCode_inb mi h t)).toLoadRect
    (View.loadsAt_rect (View.loads_smem_one rfl numel1_S1x1))) fun f =>
  let v : BitVec 32 := f (Shape.Idx.first ((numel1_S1x1).symm ▸ Nat.one_pos))
  act (TpuEff.assume (chkRead mi v) (chkRead.dec mi v)) fun p =>
  act (α := S16x1024.Idx → Elt F .f32) (TpuEff.load arg17 (Rect.unit (s := S4608x1024) (offStk mi v) S16x1024.size p.down.2.1).toLoadRect (View.loadsAt_vmem h_S16x1024)) fun s =>
  let s' : FVec F S16x1024 .f32 := dynamicRotate (s := S16x1024) (α := F .f32) 0 (Scalar.subi 0#32 (Scalar.andi (Scalar.subi (fD v) 2#32) 7#32)) none s rotates_S16x1024_d0
  act (α := S1x1024.Idx → Elt F .f32) (TpuEff.load arg14 (Rect.unit (s := S64x1024) ![mi, 0] S1x1024.size (rowOff_inb mi h)).toLoadRect (View.loadsAt_vmem h_S1x1024)) fun _ =>
  act (TpuEff.store arg14 (Rect.unit (s := S64x1024) ![mi, 0] S1x1024.size (rowOff_inb mi h))
    (shapeCast S1x1024 (extractStridedSlice S1x1024 ![0, 0] s' slices_S16x1024_o0_0_S1x1024) shapeCasts_S1x1024_S1x1024)
    Finset.univ (View.stores_vmem_bits_univ h_S1x1024 rfl) (.inl rfl)) fun _ =>
  act (α := S1x1024.Idx → Elt F .f32) (TpuEff.load arg13 (Rect.unit (s := S64x1024) ![mi, 0] S1x1024.size (rowOff_inb mi h)).toLoadRect (View.loadsAt_vmem h_S1x1024)) fun _ =>
  act (TpuEff.store arg13 (Rect.unit (s := S64x1024) ![mi, 0] S1x1024.size (rowOff_inb mi h))
    (shapeCast S1x1024 (extractStridedSlice S1x1024 ![1, 0] s' slices_S16x1024_o1_0_S1x1024) shapeCasts_S1x1024_S1x1024)
    Finset.univ (View.stores_vmem_bits_univ h_S1x1024 rfl) (.inl rfl)) fun _ =>
  act (α := S8x1024.Idx → Elt F .f32) (TpuEff.load arg10 (Rect.unit (s := S4096x1024) (offSeq mi v) S8x1024.size p.down.2.2.2).toLoadRect (View.loadsAt_vmem h_S8x1024)) fun q =>
  act (α := S1x1024.Idx → Elt F .f32) (TpuEff.load arg15 (Rect.unit (s := S64x1024) ![mi, 0] S1x1024.size (rowOff_inb mi h)).toLoadRect (View.loadsAt_vmem h_S1x1024)) fun _ =>
  act (TpuEff.store arg15 (Rect.unit (s := S64x1024) ![mi, 0] S1x1024.size (rowOff_inb mi h))
    (shapeCast S1x1024 (extractStridedSlice S1x1024 ![0, 0] (dynamicRotate (s := S8x1024) (α := F .f32) 0 (Scalar.subi 0#32 (Scalar.andi (fB v) 7#32)) none q rotates_S8x1024_d0)
      slices_S8x1024_o0_0_S1x1024) shapeCasts_S1x1024_S1x1024)
    Finset.univ (View.stores_vmem_bits_univ h_S1x1024 rfl) (.inl rfl)) fun _ =>
  act (α := S1x128.Idx → Elt F .f32) (TpuEff.load arg16 (Rect.unit (s := S64x128) ![mi, 0] S1x128.size (rowOff16_inb mi h)).toLoadRect (View.loadsAt_vmem h_S1x128)) fun _ =>
  act (TpuEff.store arg16 (Rect.unit (s := S64x128) ![mi, 0] S1x128.size (rowOff16_inb mi h))
    (shapeCast S1x128 (broadcast S1x128 (Scalar.sitofp (F := F) .f32 (fT v))) shapeCasts_S1x128_S1x128)
    Finset.univ (View.stores_vmem_bits_univ h_S1x128 rfl) (.inl rfl)) fun _ => K

/-- Row `mi` of the end of step `t`: the row's pushed value is written at its place of the stack. -/
def rowWrite {α : Type} (t : Fin k0_t1_loop.trips) (push : FVec F S64x1024 .f32) (mi : ℕ) (h : mi < 64) (K : Prog (Eff F) α) : Prog (Eff F) α :=
  act (α := S1x1.Idx → Elt F .i32) (TpuEff.load arg1 (Rect.unit (s := S64x125) (offCode mi t) S1x1.size (offCode_inb mi h t)).toLoadRect
    (View.loadsAt_rect (View.loads_smem_one rfl numel1_S1x1))) fun f =>
  let v : BitVec 32 := f (Shape.Idx.first ((numel1_S1x1).symm ▸ Nat.one_pos))
  act (TpuEff.assume (chkWr mi v) (chkWr.dec mi v)) fun p =>
  act (α := S8x1024.Idx → Elt F .f32) (TpuEff.load arg17 (Rect.unit (s := S4608x1024) (offWr mi v) S8x1024.size p.down.2).toLoadRect (View.loadsAt_vmem h_S8x1024)) fun s =>
  act (α := S8x1024.Idx → Elt F .f32) (TpuEff.load arg17 (Rect.unit (s := S4608x1024) (offWr mi v) S8x1024.size p.down.2).toLoadRect (View.loadsAt_vmem h_S8x1024)) fun _ =>
  act (TpuEff.store arg17 (Rect.unit (s := S4608x1024) (offWr mi v) S8x1024.size p.down.2)
    (shapeCast S8x1024 (select
      (broadcastTo S8x1024 (shapeCast S8x1 (cmpi .eq (iota .tc S8x1 32 [0] iota_S8x1_d0_w32) (broadcast S8x1 (Scalar.andi (fW v) 7#32)))
        shapeCasts_S8x1_S8x1) broadcasts_S8x1_S8x1024)
      (broadcastTo S8x1024 (shapeCast S1x1024 (extractStridedSlice S1x1024 ![mi, 0] push (rowSlices mi h)) shapeCasts_S1x1024_S1x1024)
        broadcasts_S1x1024_S8x1024) s) shapeCasts_S8x1024_S8x1024)
    Finset.univ (View.stores_vmem_bits_univ h_S8x1024 rfl) (.inl rfl)) fun _ => K

/-- Row `mi` before the loop: the first row of its sequence is put at the two bottom places of its stack. -/
def rowInit {α : Type} (mi : ℕ) (h : mi < 64) (K : Prog (Eff F) α) : Prog (Eff F) α :=
  act (α := S1x1024.Idx → Elt F .f32) (TpuEff.load arg10 (Rect.unit (s := S4096x1024) ![mi * 64, 0] S1x1024.size (seqRow_inb mi h)).toLoadRect (View.loadsAt_vmem h_S1x1024)) fun s =>
  act (α := S1x1024.Idx → Elt F .f32) (TpuEff.load arg17 (Rect.unit (s := S4608x1024) ![mi * 72 + 0, 0] S1x1024.size (stkRow_inb mi 0 h (by decide))).toLoadRect (View.loadsAt_vmem h_S1x1024)) fun _ =>
  act (TpuEff.store arg17 (Rect.unit (s := S4608x1024) ![mi * 72 + 0, 0] S1x1024.size (stkRow_inb mi 0 h (by decide)))
    (shapeCast S1x1024 s shapeCasts_S1x1024_S1x1024) Finset.univ (View.stores_vmem_bits_univ h_S1x1024 rfl) (.inl rfl)) fun _ =>
  act (α := S1x1024.Idx → Elt F .f32) (TpuEff.load arg17 (Rect.unit (s := S4608x1024) ![mi * 72 + 1, 0] S1x1024.size (stkRow_inb mi 1 h (by decide))).toLoadRect (View.loadsAt_vmem h_S1x1024)) fun _ =>
  act (TpuEff.store arg17 (Rect.unit (s := S4608x1024) ![mi * 72 + 1, 0] S1x1024.size (stkRow_inb mi 1 h (by decide)))
    (shapeCast S1x1024 s shapeCasts_S1x1024_S1x1024) Finset.univ (View.stores_vmem_bits_univ h_S1x1024 rfl) (.inl rfl)) fun _ => K

/-- Row `mi` after the loop: the hidden half of the last written row of its stack is its row of the result. -/
def rowOut {α : Type} (mi : ℕ) (h : mi < 64) (K : Prog (Eff F) α) : Prog (Eff F) α :=
  act (α := S1x1.Idx → Elt F .i32) (TpuEff.load arg1 (Rect.unit (s := S64x125) ![mi, 124] S1x1.size (offCodeL_inb mi h)).toLoadRect
    (View.loadsAt_rect (View.loads_smem_one rfl numel1_S1x1))) fun f =>
  let v : BitVec 32 := f (Shape.Idx.first ((numel1_S1x1).symm ▸ Nat.one_pos))
  act (TpuEff.assume (chkWr mi v) (chkWr.dec mi v)) fun p =>
  act (α := S8x1024.Idx → Elt F .f32) (TpuEff.load arg17 (Rect.unit (s := S4608x1024) (offWr mi v) S8x1024.size p.down.2).toLoadRect (View.loadsAt_vmem h_S8x1024)) fun s =>
  act (α := S1x512.Idx → Elt F .f32) (TpuEff.load arg9 (Rect.unit (s := S64x512) ![mi, 0] S1x512.size (rowOff9_inb mi h)).toLoadRect (View.loadsAt_vmem h_S1x512)) fun _ =>
  act (TpuEff.store arg9 (Rect.unit (s := S64x512) ![mi, 0] S1x512.size (rowOff9_inb mi h))
    (extractStridedSlice S1x512 ![0, 0] (dynamicRotate (s := S8x1024) (α := F .f32) 0 (Scalar.subi 0#32 (Scalar.andi (fW v) 7#32)) none s rotates_S8x1024_d0) slices_S8x1024_o0_0_S1x512)
    Finset.univ (View.stores_vmem_bits_univ h_S1x512 rfl) (.inl rfl)) fun _ => K

/-- Rows `mi`, `mi + 1`, …, `mi + n - 1` of a per-row program, in sequence, then `K`. -/
def rows {α : Type} (R : (mi : ℕ) → mi < 64 → Prog (Eff F) α → Prog (Eff F) α) : (n mi : ℕ) → mi + n ≤ 64 → Prog (Eff F) α → Prog (Eff F) α
  | 0, _, _, K => K
  | n + 1, mi, h, K => R mi (by omega) (rows R n (mi + 1) (by omega) K)

/-- The columns `[c, c + 512)` of a `64 × 1024` value. -/
abbrev colL (x : FVec F S64x1024 .f32) : FVec F S64x512 .f32 := extractStridedSlice S64x512 ![0, 0] x slices_S64x1024_o0_0_S64x512
abbrev colR (x : FVec F S64x1024 .f32) : FVec F S64x512 .f32 := extractStridedSlice S64x512 ![0, 512] x slices_S64x1024_o0_512_S64x512

/-- The tracker's pre-activations of a block, without the bias. -/
def gatesV (top sec buf : FVec F S64x1024 .f32) (th : FVec F S64x64 .f32) (w0 w1 w2 : FVec F S512x256 .f32) (w3 : FVec F S64x256 .f32)
    (b : FVec F S1x256 .f32) : FVec F S64x256 .f32 :=
  addf (addf (addf (addf
    (matmul dot_S64x512_S512x256_S64x256_1_0_0_1_n_n none (colL buf) w0 (constant S64x256 .f32 0x00000000#32))
    (matmul dot_S64x512_S512x256_S64x256_1_0_0_1_n_n none (colL top) w1 (constant S64x256 .f32 0x00000000#32)))
    (matmul dot_S64x512_S512x256_S64x256_1_0_0_1_n_n none (colL sec) w2 (constant S64x256 .f32 0x00000000#32)))
    (matmul dot_S64x64_S64x256_S64x256_1_0_0_1_n_n none th w3 (constant S64x256 .f32 0x00000000#32)))
    (broadcastTo S64x256 (shapeCast S1x256 b shapeCasts_S1x256_S1x256) broadcasts_S1x256_S64x256)

/-- The tracker's new cell. -/
def tcV (g : FVec F S64x256 .f32) (tc : FVec F S64x64 .f32) : FVec F S64x64 .f32 :=
  addf (mulf (logistic (extractStridedSlice S64x64 ![0, 64] g slices_S64x256_o0_64_S64x64)) tc)
    (mulf (logistic (extractStridedSlice S64x64 ![0, 0] g slices_S64x256_o0_0_S64x64))
      (tanh (extractStridedSlice S64x64 ![0, 128] g slices_S64x256_o0_128_S64x64)))
/-- The tracker's new hidden state. -/
def thV (g : FVec F S64x256 .f32) (tc : FVec F S64x64 .f32) : FVec F S64x64 .f32 :=
  mulf (logistic (extractStridedSlice S64x64 ![0, 192] g slices_S64x256_o0_192_S64x64)) (tanh (tcV g tc))

/-- The mask of the rows whose transition word is `w`, over 512 columns. -/
def maskV (mv : FVec F S64x1 .f32) (w : BitVec 32) : IVec S64x512 1 :=
  broadcastTo S64x512 (shapeCast S64x1 (cmpf .oeq mv (broadcast S64x1 (Scalar.ofBits .f32 w))) shapeCasts_S64x1_S64x1) broadcasts_S64x1_S64x512

/-- The composition cell's pre-activations of a block. -/
def cellV (mv : FVec F S64x1 .f32) (top sec : FVec F S64x1024 .f32) (th : FVec F S64x64 .f32) (u0 u1 u2 : FVec F S512x2560 .f32)
    (u3 : FVec F S64x2560 .f32) (b : FVec F S1x2560 .f32) : FVec F S64x2560 .f32 :=
  addf (addf (addf (addf
    (matmul dot_S64x512_S512x2560_S64x2560_1_0_0_1_n_n none (select (maskV mv 0x40000000#32) (colL top) (colL sec)) u0
      (constant S64x2560 .f32 0x00000000#32))
    (matmul dot_S64x512_S512x2560_S64x2560_1_0_0_1_n_n none
      (select (maskV mv 0x40000000#32) (select (maskV mv 0x40000000#32) (colL sec) (colL top))
        (broadcast S64x512 (Scalar.ofBits .f32 0x00000000#32))) u1 (constant S64x2560 .f32 0x00000000#32)))
    (matmul dot_S64x512_S512x2560_S64x2560_1_0_0_1_n_n none
      (select (maskV mv 0x40400000#32) (select (maskV mv 0x40000000#32) (colL sec) (colL top))
        (broadcast S64x512 (Scalar.ofBits .f32 0x00000000#32))) u2 (constant S64x2560 .f32 0x00000000#32)))
    (matmul dot_S64x64_S64x2560_S64x2560_1_0_0_1_n_n none th u3 (constant S64x2560 .f32 0x00000000#32)))
    (broadcastTo S64x2560 (shapeCast S1x2560 b shapeCasts_S1x2560_S1x2560) broadcasts_S1x2560_S64x2560)

/-- The composed cell of a block. -/
def newC (mv : FVec F S64x1 .f32) (top sec : FVec F S64x1024 .f32) (cg : FVec F S64x2560 .f32) : FVec F S64x512 .f32 :=
  addf (addf (mulf (logistic (extractStridedSlice S64x512 ![0, 0] cg slices_S64x2560_o0_0_S64x512))
      (tanh (extractStridedSlice S64x512 ![0, 2048] cg slices_S64x2560_o0_2048_S64x512)))
    (mulf (logistic (extractStridedSlice S64x512 ![0, 1024] cg slices_S64x2560_o0_1024_S64x512))
      (select (maskV mv 0x40000000#32) (colR top) (colR sec))))
    (mulf (logistic (extractStridedSlice S64x512 ![0, 1536] cg slices_S64x2560_o0_1536_S64x512))
      (select (maskV mv 0x40000000#32) (colR sec) (colR top)))
/-- The composed hidden state of a block. -/
def newH (mv : FVec F S64x1 .f32) (top sec : FVec F S64x1024 .f32) (cg : FVec F S64x2560 .f32) : FVec F S64x512 .f32 :=
  mulf (logistic (extractStridedSlice S64x512 ![0, 512] cg slices_S64x2560_o0_512_S64x512)) (tanh (newC mv top sec cg))
/-- What every row of a block pushes. -/
def pushV (mv : FVec F S64x1 .f32) (top sec buf : FVec F S64x1024 .f32) (cg : FVec F S64x2560 .f32) : FVec F S64x1024 .f32 :=
  concatenate S64x1024 1 [⟨S64x512, select (maskV mv 0x3F800000#32) (colL buf) (newH mv top sec cg)⟩,
    ⟨S64x512, select (maskV mv 0x3F800000#32) (colR buf) (newC mv top sec cg)⟩] concatenates_S64x512_S64x512_S64x1024_d1

variable (arg2 : Memref sig .tc .vmem S1x256 .f32) (arg3 : Memref sig .tc .vmem S1x2560 .f32) (arg4 arg5 : Memref sig .tc .vmem S64x64 .f32)
  (arg6 : Memref sig .tc .hbm S32768x1024 .f32) (arg7 : Memref sig .tc .hbm S1600x256 .f32) (arg8 : Memref sig .tc .hbm S1600x2560 .f32)
  (arg11 : Memref sig .tc .vmem S1600x256 .f32) (arg12 : Memref sig .tc .vmem S1600x2560 .f32)
  (harg7 : arg7.IsWhole) (harg8 : arg8.IsWhole) (harg10 : arg10.IsWhole) (harg11 : arg11.IsWhole) (harg12 : arg12.IsWhole)
  (arg18 arg19 arg20 : DmaSems sig S_)

/-- The block's computation between the reads and the writes of a step. -/
def mid {α : Type} (th tc : FVec F S64x64 .f32) (K : FVec F S64x64 .f32 → FVec F S64x64 .f32 → FVec F S64x1024 .f32 → Prog (Eff F) α) :
    Prog (Eff F) α :=
  act (α := S64x1.Idx → Elt F .f32) (TpuEff.load arg16 (Rect.unit (s := S64x128) ![0, 0] S64x1.size inb_S64x128_S64x1_0_0).toLoadRect (View.loadsAt_vmem h_S64x1)) fun mv =>
  act (α := S64x1024.Idx → Elt F .f32) (TpuEff.load arg13 (Rect.unit (s := S64x1024) ![0, 0] S64x1024.size inb_S64x1024_S64x1024_0_0).toLoadRect (View.loadsAt_vmem h_S64x1024)) fun top =>
  act (α := S64x1024.Idx → Elt F .f32) (TpuEff.load arg14 (Rect.unit (s := S64x1024) ![0, 0] S64x1024.size inb_S64x1024_S64x1024_0_0).toLoadRect (View.loadsAt_vmem h_S64x1024)) fun sec =>
  act (α := S64x1024.Idx → Elt F .f32) (TpuEff.load arg15 (Rect.unit (s := S64x1024) ![0, 0] S64x1024.size inb_S64x1024_S64x1024_0_0).toLoadRect (View.loadsAt_vmem h_S64x1024)) fun buf =>
  act (α := S512x256.Idx → Elt F .f32) (TpuEff.load arg11 (Rect.unit (s := S1600x256) ![0, 0] S512x256.size inb_S1600x256_S512x256_0_0).toLoadRect (View.loadsAt_vmem h_S512x256)) fun w0 =>
  act (α := S512x256.Idx → Elt F .f32) (TpuEff.load arg11 (Rect.unit (s := S1600x256) ![512, 0] S512x256.size inb_S1600x256_S512x256_512_0).toLoadRect (View.loadsAt_vmem h_S512x256)) fun w1 =>
  act (α := S512x256.Idx → Elt F .f32) (TpuEff.load arg11 (Rect.unit (s := S1600x256) ![1024, 0] S512x256.size inb_S1600x256_S512x256_1024_0).toLoadRect (View.loadsAt_vmem h_S512x256)) fun w2 =>
  act (α := S64x256.Idx → Elt F .f32) (TpuEff.load arg11 (Rect.unit (s := S1600x256) ![1536, 0] S64x256.size inb_S1600x256_S64x256_1536_0).toLoadRect (View.loadsAt_vmem h_S64x256)) fun w3 =>
  act (α := S1x256.Idx → Elt F .f32) (TpuEff.load arg2 (Rect.unit (s := S1x256) ![0, 0] S1x256.size inb_S1x256_S1x256_0_0).toLoadRect (View.loadsAt_vmem h_S1x256)) fun bg =>
  act (α := S512x2560.Idx → Elt F .f32) (TpuEff.load arg12 (Rect.unit (s := S1600x2560) ![0, 0] S512x2560.size inb_S1600x2560_S512x2560_0_0).toLoadRect (View.loadsAt_vmem h_S512x2560)) fun u0 =>
  act (α := S512x2560.Idx → Elt F .f32) (TpuEff.load arg12 (Rect.unit (s := S1600x2560) ![512, 0] S512x2560.size inb_S1600x2560_S512x2560_512_0).toLoadRect (View.loadsAt_vmem h_S512x2560)) fun u1 =>
  act (α := S512x2560.Idx → Elt F .f32) (TpuEff.load arg12 (Rect.unit (s := S1600x2560) ![1024, 0] S512x2560.size inb_S1600x2560_S512x2560_1024_0).toLoadRect (View.loadsAt_vmem h_S512x2560)) fun u2 =>
  act (α := S64x2560.Idx → Elt F .f32) (TpuEff.load arg12 (Rect.unit (s := S1600x2560) ![1536, 0] S64x2560.size inb_S1600x2560_S64x2560_1536_0).toLoadRect (View.loadsAt_vmem h_S64x2560)) fun u3 =>
  act (α := S1x2560.Idx → Elt F .f32) (TpuEff.load arg3 (Rect.unit (s := S1x2560) ![0, 0] S1x2560.size inb_S1x2560_S1x2560_0_0).toLoadRect (View.loadsAt_vmem h_S1x2560)) fun bc =>
  K (thV (gatesV top sec buf th w0 w1 w2 w3 bg) tc) (tcV (gatesV top sec buf th w0 w1 w2 w3 bg) tc)
    (pushV mv top sec buf (cellV mv top sec (thV (gatesV top sec buf th w0 w1 w2 w3 bg) tc) u0 u1 u2 u3 bc))

/-- One step of the loop. -/
def step (t : Fin k0_t1_loop.trips) (x : FVec F S64x64 .f32 × FVec F S64x64 .f32) : Prog (Eff F) (FVec F S64x64 .f32 × FVec F S64x64 .f32) :=
  rows (rowRead arg1 arg10 arg13 arg14 arg15 arg16 arg17 t) 64 0 (by decide)
    (mid arg13 arg14 arg15 arg16 arg2 arg3 arg11 arg12 x.1 x.2 fun th tc push =>
      rows (rowWrite arg1 arg17 t push) 64 0 (by decide) (.ret (th, tc)))

/-- Everything before the loop: the copies are started and waited for, the stacks get their bottom rows, the tracker's initial state is read. -/
def before {α : Type} (i : grid0.Coords) (K : FVec F S64x64 .f32 → FVec F S64x64 .f32 → Prog (Eff F) α) : Prog (Eff F) α :=
  act (TpuEff.enqueueDma (arg6.slice (Rect.unit (s := S32768x1024) (k0_off1 i) S4096x1024.size (k0_off1_inb i)) (fun _ => rfl)) (.here arg10) (.dma arg18.sem)
    (View.wordExact_bits rfl) harg10.wordExact ⟨Or.inl rfl, trivial⟩) fun _ =>
  act (TpuEff.enqueueDma arg7 (.here arg11) (.dma arg19.sem) harg7.wordExact harg11.wordExact ⟨Or.inl rfl, trivial⟩) fun _ =>
  act (TpuEff.enqueueDma arg8 (.here arg12) (.dma arg20.sem) harg8.wordExact harg12.wordExact ⟨Or.inl rfl, trivial⟩) fun _ =>
  act (TpuEff.waitDma2 arg18.sem (arg6.slice (Rect.unit (s := S32768x1024) (k0_off1 i) S4096x1024.size (k0_off1_inb i)) (fun _ => rfl)) arg10
    (View.wordExact_bits rfl) harg10.wordExact) fun _ =>
  rows (rowInit arg10 arg17) 64 0 (by decide) <|
  act (TpuEff.waitDma2 arg19.sem arg7 arg11 harg7.wordExact harg11.wordExact) fun _ =>
  act (TpuEff.waitDma2 arg20.sem arg8 arg12 harg8.wordExact harg12.wordExact) fun _ =>
  act (α := S64x64.Idx → Elt F .f32) (TpuEff.load arg4 (Rect.unit (s := S64x64) ![0, 0] S64x64.size inb_S64x64_S64x64_0_0).toLoadRect (View.loadsAt_vmem h_S64x64)) fun th =>
  act (α := S64x64.Idx → Elt F .f32) (TpuEff.load arg5 (Rect.unit (s := S64x64) ![0, 0] S64x64.size inb_S64x64_S64x64_0_0).toLoadRect (View.loadsAt_vmem h_S64x64)) fun tc =>
  K th tc

/-- The whole body. -/
def body (i : grid0.Coords) : Prog (Eff F) PUnit :=
  before arg10 arg17 arg4 arg5 arg6 arg7 arg8 arg11 arg12 harg7 harg8 harg10 harg11 harg12 arg18 arg19 arg20 i fun th tc =>
    Prog.bind (Prog.ret tc) fun tc =>
    Prog.bind (Scf.Loop.for k0_t1_loop k0_t1_ok (th, tc) (step arg1 arg10 arg13 arg14 arg15 arg16 arg17 arg2 arg3 arg11 arg12)) fun _ =>
    rows (rowOut arg1 arg9 arg17) 64 0 (by decide) (.ret PUnit.unit)

end Cert.KernelIdeal.Row

end
-- ==== Proof.KernelIdealBodyEq.lean ====
/- The printed body is the body written row by row. -/
module

public import proofs.«01_k».proof.Proof.KernelIdealRows
public import Idealize.ShloMosaic.Lib.Tactic

@[expose] public section

noncomputable section

namespace Cert.KernelIdeal.Row

open Idealize.ShloMosaic Idealize.ShloMosaic.TcCoe
open Idealize.SL Idealize.SL.Sem
open Cert.KernelIdeal Facts₀ Facts

variable [Facts] {F : FTy → Type} [FloatOps F]

set_option maxHeartbeats 4000000 in
set_option maxRecDepth 100000 in
/-- The printed body is the body written row by row. -/
theorem body_eq (i : grid0.Coords) (arg1 : Memref sig .tc .smem S64x125 .i32) (harg1 : arg1.IsWhole) (arg2 : Memref sig .tc .vmem S1x256 .f32) (harg2 : arg2.IsWhole) (arg3 : Memref sig .tc .vmem S1x2560 .f32) (harg3 : arg3.IsWhole) (arg4 : Memref sig .tc .vmem S64x64 .f32) (harg4 : arg4.IsWhole) (arg5 : Memref sig .tc .vmem S64x64 .f32) (harg5 : arg5.IsWhole) (arg6 : Memref sig .tc .hbm S32768x1024 .f32) (harg6 : arg6.IsWhole) (arg7 : Memref sig .tc .hbm S1600x256 .f32) (harg7 : arg7.IsWhole) (arg8 : Memref sig .tc .hbm S1600x2560 .f32) (harg8 : arg8.IsWhole) (arg9 : Memref sig .tc .vmem S64x512 .f32) (harg9 : arg9.IsWhole) (arg10 : Memref sig .tc .vmem S4096x1024 .f32) (harg10 : arg10.IsWhole) (arg11 : Memref sig .tc .vmem S1600x256 .f32) (harg11 : arg11.IsWhole) (arg12 : Memref sig .tc .vmem S1600x2560 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x128 .f32) (harg16 : arg16.IsWhole) (arg17 : Memref sig .tc .vmem S4608x1024 .f32) (harg17 : arg17.IsWhole) (arg18 : DmaSems sig S_) (arg19 : DmaSems sig S_) (arg20 : DmaSems sig S_) :
    cc0_spinn_stack_treelstm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20
      = body arg1 arg9 arg10 arg13 arg14 arg15 arg16 arg17 arg2 arg3 arg4 arg5 arg6 arg7 arg8 arg11 arg12 harg7 harg8 harg10 harg11 harg12 arg18 arg19 arg20 i := by
  unfold cc0_spinn_stack_treelstm k0_part169 k0_part139
  simp only [bind_assoc]
  sl_kernel_rfl

end Cert.KernelIdeal.Row

end
-- ==== Proof.KernelIdealTriples.lean ====
/- The row programs of the body run: what each leaves in the buffers it writes. -/
module

public import proofs.«01_k».proof.Proof.KernelIdealRows
public import proofs.«01_k».proof.Proof.Words
public import Idealize.ShloMosaic.Lib.Tactic
public import Idealize.ShloMosaic.Lib.LaneScatter.Fold
public import Idealize.ShloMosaic.Lib.Updates.Values
public import Idealize.ShloMosaic.Lib.Updates.Own
public import Idealize.ShloMosaic.Lib.WordCmp

@[expose] public section

noncomputable section

namespace Cert.KernelIdeal.Row

open Idealize.ShloMosaic Idealize.ShloMosaic.TcCoe LaneScatter Updates
open Idealize.SL
open Idealize.SL.BI (sProp)
open scoped Idealize.SL.BI
open Idealize.SL.BI.BIBase Idealize.SL.BI.Laws Idealize.SL.Sem Idealize.SL.ProofMode Idealize.SL.RA
open Idealize.ShloMosaic.Tactic
open Cert.KernelIdeal Facts₀ Facts Cert.Words

variable [Facts] {F : FTy → Type} [FloatOps F]

local notation "𝕄" => MT nD τ sig Unit (Elt F) ℕ (Pipeline.UD sig nD τ) ℕ

/-! ## The words of a row -/

theorem offStk_eq (mi : ℕ) (h : mi < 64) (v : BitVec 32) (hv : Ok v) : offStk mi v = ![mi * 72 + (wD v - 2) / 8 * 8, 0] := by
  have e : (Scalar.subi (fD v) 2#32).toNat = wD v - 2 := by
    rw [sub_two _ (by show 2 ≤ (Scalar.andi v 127#32).toNat; rw [fD_toNat]; exact hv.two)]
    show (Scalar.andi v 127#32).toNat - 2 = _
    rw [fD_toNat]
  have hd := hv.depth
  have := slot_toNat (mi * 72) (by omega) (Scalar.subi (fD v) 2#32) (by rw [e]; omega)
  rw [e] at this
  unfold offStk
  show ![(slot (BitVec.ofNat 32 (mi * 72)) (Scalar.subi (fD v) 2#32)).toNat, 0] = _
  unfold slot
  rw [this]
theorem offSeq_eq (mi : ℕ) (h : mi < 64) (v : BitVec 32) (hv : Ok v) : offSeq mi v = ![mi * 64 + wB v / 8 * 8, 0] := by
  have e : (fB v).toNat = wB v := fB_toNat v hv
  have hd := hv.buf
  have := slot_toNat (mi * 64) (by omega) (fB v) (by rw [e]; omega)
  rw [e] at this
  unfold offSeq
  show ![(slot (BitVec.ofNat 32 (mi * 64)) (fB v)).toNat, 0] = _
  unfold slot
  rw [this]
theorem offWr_eq (mi : ℕ) (h : mi < 64) (v : BitVec 32) (hv : Ok v) : offWr mi v = ![mi * 72 + wW v / 8 * 8, 0] := by
  have e : (fW v).toNat = wW v := fW_toNat v hv
  have hd := hv.place
  have := slot_toNat (mi * 72) (by omega) (fW v) (by rw [e]; omega)
  rw [e] at this
  unfold offWr
  show ![(slot (BitVec.ofNat 32 (mi * 72)) (fW v)).toNat, 0] = _
  unfold slot
  rw [this]

theorem slot_dvd (b : ℕ) (x : BitVec 32) (hb : b < 65536) (hx : x.toNat < 65536) (h8 : 8 ∣ b) : 8 ∣ (slot (BitVec.ofNat 32 b) x).toNat := by
  unfold slot
  rw [slot_toNat b hb x hx]
  exact Nat.dvd_add h8 (Nat.dvd_mul_left _ _)

/-- A word in range meets what the body assumes of it. -/
theorem chkRead_of (mi : ℕ) (h : mi < 64) (v : BitVec 32) (hv : Ok v) : chkRead mi v := by
  have hd := hv.depth
  have hb := hv.buf
  have e : (Scalar.subi (fD v) 2#32).toNat = wD v - 2 := by
    rw [sub_two _ (by show 2 ≤ (Scalar.andi v 127#32).toNat; rw [fD_toNat]; exact hv.two)]
    show (Scalar.andi v 127#32).toNat - 2 = _
    rw [fD_toNat]
  have e' : (fB v).toNat = wB v := fB_toNat v hv
  refine ⟨slot_dvd _ _ (by omega) (by rw [e]; omega) (by omega), ?_, slot_dvd _ _ (by omega) (by rw [e']; omega) (by omega), ?_⟩
  · rw [offStk_eq mi h v hv]
    intro a; match a with
    | ⟨0, _⟩ => show mi * 72 + (wD v - 2) / 8 * 8 + 16 ≤ 4608; omega
    | ⟨1, _⟩ => show 0 + 1024 ≤ 1024; omega
  · rw [offSeq_eq mi h v hv]
    intro a; match a with
    | ⟨0, _⟩ => show mi * 64 + wB v / 8 * 8 + 8 ≤ 4096; omega
    | ⟨1, _⟩ => show 0 + 1024 ≤ 1024; omega
theorem chkWr_of (mi : ℕ) (h : mi < 64) (v : BitVec 32) (hv : Ok v) : chkWr mi v := by
  have hd := hv.place
  have e' : (fW v).toNat = wW v := fW_toNat v hv
  refine ⟨slot_dvd _ _ (by omega) (by rw [e']; omega) (by omega), ?_⟩
  rw [offWr_eq mi h v hv]
  intro a; match a with
  | ⟨0, _⟩ => show mi * 72 + wW v / 8 * 8 + 8 ≤ 4608; omega
  | ⟨1, _⟩ => show 0 + 1024 ≤ 1024; omega

/-! ## Buffers held as arrays -/

/-- The buffer behind a block-shaped memref, whole, at contents that are the array `A`. -/
def arr {sp : Space} {R C : ℕ} {e : EltTy} (c : Dev nD) (M : Memref sig .tc sp (Blk R C) e) (A : Arr (Elt F e)) : sProp 𝕄 :=
  iprop(∃ f, raw (c : Thread nD τ) M f ∗ ⌜IsArr (M.view.read (Elt F) f) A⌝)

/-- Rows run one after the other: if each row takes the state `I mi` to `I (mi + 1)`, then `n` rows from `mi` on take `I mi` to `I (mi + n)`. -/
theorem wp_rows {α : Type} (c : Dev nD) (R : (mi : ℕ) → mi < 64 → Prog (Eff F) α → Prog (Eff F) α) (I : ℕ → sProp 𝕄) (Q : α → sProp 𝕄)
    (hR : ∀ mi h K, iprop(I mi ∗ (I (mi + 1) -∗ wp frame (wpE (defs₀ (F := F)) Variants.none (c : Thread nD τ) none) Set.univ K Q))
      ⊢ wp frame (wpE (defs₀ (F := F)) Variants.none (c : Thread nD τ) none) Set.univ (R mi h K) Q) (K : Prog (Eff F) α) :
    ∀ n mi h, iprop(I mi ∗ (I (mi + n) -∗ wp frame (wpE (defs₀ (F := F)) Variants.none (c : Thread nD τ) none) Set.univ K Q))
      ⊢ wp frame (wpE (defs₀ (F := F)) Variants.none (c : Thread nD τ) none) Set.univ (rows R n mi h K) Q
  | 0, mi, h => by
    unfold rows
    iintro ⟨HI, HK⟩
    iapply HK
    iexact HI
  | n + 1, mi, h => by
    unfold rows
    iintro ⟨HI, HK⟩
    iapply (hR mi _ _)
    isplitl [HI]
    · iexact HI
    iintro HI
    iapply (wp_rows c R I Q hR K n (mi + 1) _)
    isplitl [HI]
    · iexact HI
    rw [show mi + 1 + n = mi + (n + 1) by omega]
    iexact HK

variable {arg1 : Memref sig .tc .smem S64x125 .i32} {arg9 : Memref sig .tc .vmem S64x512 .f32} {arg10 : Memref sig .tc .vmem S4096x1024 .f32}
  {arg13 arg14 arg15 : Memref sig .tc .vmem S64x1024 .f32} {arg16 : Memref sig .tc .vmem S64x128 .f32} {arg17 : Memref sig .tc .vmem S4608x1024 .f32}

/-- The word a row's load reads is the array of words at the row's place. -/
theorem word_eq {f : arg1.view.ty.Contents (Elt F)} {C : Arr (BitVec 32)} (hC : IsArr (β := BitVec 32) (arg1.view.read (Elt F) f) C)
    {off : Fin 2 → ℕ} {a b : ℕ} (ho : off = ![a, b]) (inb : ∀ x, off x + S1x1.size x ≤ S64x125.size x) (y : S1x1.Idx) :
    (View.readAt (Elt F) arg1.view (Rect.unit (s := S64x125) off S1x1.size inb).toLoadRect f y : BitVec 32) = C (a, b) := by
  rw [isArr_load hC (o := (a, b)) ho inb y]
  have h0 : (y 0).val = 0 := by have : (y 0).val < 1 := (y 0).isLt; omega
  have h1 : (y 1).val = 0 := by have : (y 1).val < 1 := (y 1).isLt; omega
  show C (a + (y 0).val, b + (y 1).val) = _
  rw [h0, h1]; rfl

/-- The top rows of the stacks at step `t`. -/
def topA (C : Arr (BitVec 32)) (t : ℕ) (S : Arr (Elt F .f32)) : Arr (Elt F .f32) := fun p => S (p.1 * 72 + (wD (C (p.1, t)) - 1), p.2)
/-- The second rows of the stacks at step `t`. -/
def secA (C : Arr (BitVec 32)) (t : ℕ) (S : Arr (Elt F .f32)) : Arr (Elt F .f32) := fun p => S (p.1 * 72 + (wD (C (p.1, t)) - 2), p.2)
/-- The front rows of the sequences at step `t`. -/
def bufA (C : Arr (BitVec 32)) (t : ℕ) (Q : Arr (Elt F .f32)) : Arr (Elt F .f32) := fun p => Q (p.1 * 64 + wB (C (p.1, t)), p.2)
/-- The transitions of step `t`, as numbers. -/
def mvA (C : Arr (BitVec 32)) (t : ℕ) : Arr (Elt F .f32) := fun p => Scalar.sitofp (F := F) .f32 (fT (C (p.1, t)))

/-- A row of a sixteen-row chunk rotated by the position inside the chunk. -/
theorem rot16 (x r : ℕ) (hr : r < 2) : (r + 16 - (4294967296 - x % 8) % 4294967296 % 16) % 16 = r + x % 8 := by omega
/-- Row zero of an eight-row chunk rotated by the position inside the chunk. -/
theorem rot8 (x : ℕ) : (0 + 8 - (4294967296 - x % 8) % 4294967296 % 8) % 8 = x % 8 := by omega

/-- The row of a stack read at the start of a step: the second row for `r = 0`, the top row for `r = 1`. -/
theorem stk_pay {f : arg17.view.ty.Contents (Elt F)} {S : Arr (Elt F .f32)} (hS : IsArr (arg17.view.read (Elt F) f) S)
    (mi : ℕ) (h : mi < 64) (v : BitVec 32) (hv : Ok v) (inb : ∀ a, (offStk mi v) a + S16x1024.size a ≤ S4608x1024.size a) (r : ℕ) (hr : r < 2)
    (hs : S16x1024.Slices ![r, 0] S1x1024) (b : ℕ) (A : Arr (Elt F .f32))
    (hA : ∀ b, A (0, b) = S (mi * 72 + (wD v - 2 + r), b)) :
    IsArr (shapeCast S1x1024 (extractStridedSlice S1x1024 ![r, 0]
      (dynamicRotate (s := S16x1024) (α := F .f32) 0 (Scalar.subi 0#32 (Scalar.andi (Scalar.subi (fD v) 2#32) 7#32)) none
        (View.readAt (Elt F) arg17.view (Rect.unit (s := S4608x1024) (offStk mi v) S16x1024.size inb).toLoadRect f) rotates_S16x1024_d0) hs)
      shapeCasts_S1x1024_S1x1024) A := by
  refine (isArr_cast_self (isArr_slice (isArr_rotate (isArr_load hS (o := (mi * 72 + (wD v - 2) / 8 * 8, 0)) (offStk_eq mi h v hv) inb) _ _) _ _) _).congr ?_
  intro a b ha hb
  obtain rfl : a = 0 := by have : a < 1 := ha; omega
  have e : (Scalar.subi (fD v) 2#32).toNat = wD v - 2 := by
    rw [sub_two _ (by show 2 ≤ (Scalar.andi v 127#32).toNat; rw [fD_toNat]; exact hv.two)]
    show (Scalar.andi v 127#32).toNat - 2 = _
    rw [fD_toNat]
  rw [hA, rot_toNat, e]
  show S (mi * 72 + (wD v - 2) / 8 * 8 + (r + 0 + 16 - _ % 16) % 16, 0 + (0 + b)) = _
  rw [Nat.add_zero, rot16 _ _ hr]
  congr 2 <;> omega
theorem seq_pay {f : arg10.view.ty.Contents (Elt F)} {S : Arr (Elt F .f32)} (hS : IsArr (arg10.view.read (Elt F) f) S)
    (mi : ℕ) (h : mi < 64) (v : BitVec 32) (hv : Ok v) (inb : ∀ a, (offSeq mi v) a + S8x1024.size a ≤ S4096x1024.size a)
    (A : Arr (Elt F .f32)) (hA : ∀ b, A (0, b) = S (mi * 64 + wB v, b)) :
    IsArr (shapeCast S1x1024 (extractStridedSlice S1x1024 ![0, 0]
      (dynamicRotate (s := S8x1024) (α := F .f32) 0 (Scalar.subi 0#32 (Scalar.andi (fB v) 7#32)) none
        (View.readAt (Elt F) arg10.view (Rect.unit (s := S4096x1024) (offSeq mi v) S8x1024.size inb).toLoadRect f) rotates_S8x1024_d0)
      slices_S8x1024_o0_0_S1x1024) shapeCasts_S1x1024_S1x1024) A := by
  refine (isArr_cast_self (isArr_slice (isArr_rotate (isArr_load hS (o := (mi * 64 + wB v / 8 * 8, 0)) (offSeq_eq mi h v hv) inb) _ _) _ _) _).congr ?_
  intro a b ha hb
  obtain rfl : a = 0 := by have : a < 1 := ha; omega
  have e : (fB v).toNat = wB v := fB_toNat v hv
  rw [hA, rot_toNat, e]
  show S (mi * 64 + wB v / 8 * 8 + (0 + 0 + 8 - _ % 8) % 8, 0 + (0 + b)) = _
  rw [Nat.add_zero, rot8]
  congr 2 <;> omega
theorem out_pay {f : arg17.view.ty.Contents (Elt F)} {S : Arr (Elt F .f32)} (hS : IsArr (arg17.view.read (Elt F) f) S)
    (mi : ℕ) (h : mi < 64) (v : BitVec 32) (hv : Ok v) (inb : ∀ a, (offWr mi v) a + S8x1024.size a ≤ S4608x1024.size a)
    (A : Arr (Elt F .f32)) (hA : ∀ b, A (0, b) = S (mi * 72 + wW v, b)) :
    IsArr (extractStridedSlice S1x512 ![0, 0]
      (dynamicRotate (s := S8x1024) (α := F .f32) 0 (Scalar.subi 0#32 (Scalar.andi (fW v) 7#32)) none
        (View.readAt (Elt F) arg17.view (Rect.unit (s := S4608x1024) (offWr mi v) S8x1024.size inb).toLoadRect f) rotates_S8x1024_d0)
      slices_S8x1024_o0_0_S1x512) A := by
  refine (isArr_slice (isArr_rotate (isArr_load hS (o := (mi * 72 + wW v / 8 * 8, 0)) (offWr_eq mi h v hv) inb) _ _) _ _).congr ?_
  intro a b ha hb
  obtain rfl : a = 0 := by have : a < 1 := ha; omega
  have e : (fW v).toNat = wW v := fW_toNat v hv
  rw [hA, rot_toNat, e]
  show S (mi * 72 + wW v / 8 * 8 + (0 + 0 + 8 - _ % 8) % 8, 0 + (0 + b)) = _
  rw [Nat.add_zero, rot8]
  congr 2 <;> omega

/-- The buffer of rows after one row is stored. -/
theorem row_stored {R w : ℕ} {sp : Space} {e : EltTy} {M : Memref sig .tc sp (Blk R w) e} {f : M.view.ty.Contents (Elt F)} {G X : Arr (Elt F e)} {n : ℕ}
    (hX : IsArr (M.view.read (Elt F) f) (below n G X)) (inb : ∀ a, (![n, 0] : Fin 2 → ℕ) a + (Blk 1 w).size a ≤ (Blk R w).size a)
    {pay : (Blk 1 w).Idx → Elt F e} (hp : IsArr pay (fun p => G (n, p.2))) :
    IsArr (M.view.read (Elt F) (M.view.writes (Elt F) f [⟨Rect.unit (s := Blk R w) ![n, 0] (Blk 1 w).size inb, pay⟩])) (below (n + 1) G X) :=
  (isArr_writes_cons (L := []) (o := (n, 0)) hX rfl inb hp).congr fun a b _ hb => store_row n w G X _ (fun _ _ => rfl) (a, b) hb

set_option maxHeartbeats 2000000 in
theorem wp_rowRead {α : Type} (c : Dev nD) (C : Arr (BitVec 32)) (Q S X13 X14 X15 X16 : Arr (Elt F .f32)) (t : Fin k0_t1_loop.trips)
    (hC : ∀ mi < 64, Ok (C (mi, t.val))) (Qp : α → sProp 𝕄) (mi : ℕ) (h : mi < 64) (K : Prog (Eff F) α) :
    let I : ℕ → sProp 𝕄 := fun n => iprop(arr c arg1 C ∗ arr c arg10 Q ∗ arr c arg17 S ∗ arr c arg13 (below n (topA C t.val S) X13)
      ∗ arr c arg14 (below n (secA C t.val S) X14) ∗ arr c arg15 (below n (bufA C t.val Q) X15) ∗ arr c arg16 (below n (mvA C t.val) X16))
    iprop(I mi ∗ (I (mi + 1) -∗ wp frame (wpE (defs₀ (F := F)) Variants.none (c : Thread nD τ) none) Set.univ K Qp))
      ⊢ wp frame (wpE (defs₀ (F := F)) Variants.none (c : Thread nD τ) none) Set.univ
        (rowRead arg1 arg10 arg13 arg14 arg15 arg16 arg17 t mi h K) Qp := by
  intro I
  simp only [I]
  unfold arr rowRead
  iintro ⟨⟨⟨%f1, H1, %h1⟩, ⟨%f10, H10, %h10⟩, ⟨%f17, H17, %h17⟩, ⟨%f13, H13, %h13⟩, ⟨%f14, H14, %h14⟩, ⟨%f15, H15, %h15⟩, ⟨%f16, H16, %h16⟩⟩, HK⟩
  have hw := word_eq h1 (offCode_eq mi t) (offCode_inb mi h t) (Shape.Idx.first ((numel1_S1x1).symm ▸ Nat.one_pos))
  have hc : chkRead mi (View.readAt (Elt F) arg1.view (Rect.unit (s := S64x125) (offCode mi t) S1x1.size (offCode_inb mi h t)).toLoadRect f1
      (Shape.Idx.first ((numel1_S1x1).symm ▸ Nat.one_pos)) : BitVec 32) := by rw [hw]; exact chkRead_of mi h _ (hC mi h)
  sl_exec (disch := exact hc)
  have hv : Ok (View.readAt (Elt F) arg1.view (Rect.unit (s := S64x125) (offCode mi t) S1x1.size (offCode_inb mi h t)).toLoadRect f1
      (Shape.Idx.first ((numel1_S1x1).symm ▸ Nat.one_pos)) : BitVec 32) := by rw [hw]; exact hC mi h
  iapply HK
  isplitl [H1]
  · iexists _; isplitl [H1]
    · iexact H1
    ipureintro; exact h1
  isplitl [H10]
  · iexists _; isplitl [H10]
    · iexact H10
    ipureintro; exact h10
  isplitl [H17]
  · iexists _; isplitl [H17]
    · iexact H17
    ipureintro; exact h17
  isplitl [H13]
  · iexists _; isplitl [H13]
    · iexact H13
    ipureintro
    refine row_stored h13 _ (stk_pay h17 mi h _ hv hc.2.1 1 (by omega) _ 0 _ fun b => ?_)
    have := hv.two
    unfold topA
    rw [← hw]
    congr 3
    omega
  isplitl [H14]
  · iexists _; isplitl [H14]
    · iexact H14
    ipureintro
    refine row_stored h14 _ (stk_pay h17 mi h _ hv hc.2.1 0 (by omega) _ 0 _ fun b => ?_)
    unfold secA
    rw [← hw]
    rfl
  isplitl [H15]
  · iexists _; isplitl [H15]
    · iexact H15
    ipureintro
    refine row_stored h15 _ (seq_pay h10 mi h _ hv hc.2.2.2 _ fun b => ?_)
    unfold bufA
    rw [← hw]
  iexists _; isplitl [H16]
  · iexact H16
  ipureintro
  refine row_stored h16 _ ((isArr_cast_self (isArr_broadcast _) _).congr fun a b _ _ => ?_)
  unfold mvA
  rw [← hw]
  rfl

/-! ## The other rows -/

/-- The stacks once the slabs below `n` have taken their pushed row of step `t`. -/
def wrA (C : Arr (BitVec 32)) (t n : ℕ) (P S : Arr (Elt F .f32)) : Arr (Elt F .f32) :=
  fun p => if p.1 / 72 < n ∧ p.1 % 72 = wW (C (p.1 / 72, t)) then P (p.1 / 72, p.2) else S p
/-- The stacks once the slabs below `n` have their two bottom rows. -/
def initA (n : ℕ) (Q S : Arr (Elt F .f32)) : Arr (Elt F .f32) :=
  fun p => if p.1 / 72 < n ∧ p.1 % 72 < 2 then Q (p.1 / 72 * 64, p.2) else S p
/-- What the result takes from the stacks. -/
def outA (C : Arr (BitVec 32)) (S : Arr (Elt F .f32)) : Arr (Elt F .f32) := fun p => S (p.1 * 72 + wW (C (p.1, 124)), p.2)

/-- What a row's write puts in its chunk: the pushed row at its place, the chunk's own rows elsewhere. -/
theorem wr_pay {f : arg17.view.ty.Contents (Elt F)} {S : Arr (Elt F .f32)} (hS : IsArr (arg17.view.read (Elt F) f) S)
    (mi : ℕ) (h : mi < 64) (v : BitVec 32) (hv : Ok v) (inb : ∀ a, (offWr mi v) a + S8x1024.size a ≤ S4608x1024.size a)
    (push : FVec F S64x1024 .f32) {P : Arr (Elt F .f32)} (hP : IsArr push P) :
    IsArr (shapeCast S8x1024 (select
      (broadcastTo S8x1024 (shapeCast S8x1 (cmpi .eq (iota .tc S8x1 32 [0] iota_S8x1_d0_w32) (broadcast S8x1 (Scalar.andi (fW v) 7#32)))
        shapeCasts_S8x1_S8x1) broadcasts_S8x1_S8x1024)
      (broadcastTo S8x1024 (shapeCast S1x1024 (extractStridedSlice S1x1024 ![mi, 0] push (rowSlices mi h)) shapeCasts_S1x1024_S1x1024)
        broadcasts_S1x1024_S8x1024)
      (View.readAt (Elt F) arg17.view (Rect.unit (s := S4608x1024) (offWr mi v) S8x1024.size inb).toLoadRect f)) shapeCasts_S8x1024_S8x1024)
      (fun p => if p.1 = wW v % 8 then P (mi, p.2) else S (mi * 72 + wW v / 8 * 8 + p.1, p.2)) := by
  refine isArr_cast_self ?_ _
  intro ι
  have e : (fW v).toNat = wW v := fW_toNat v hv
  have hι : (ι 0).val < 8 := (ι 0).isLt
  have hc : (broadcastTo S8x1024 (shapeCast S8x1 (cmpi .eq (iota .tc S8x1 32 [0] iota_S8x1_d0_w32) (broadcast S8x1 (Scalar.andi (fW v) 7#32)))
      shapeCasts_S8x1_S8x1) broadcasts_S8x1_S8x1024) ι = 1#1 ↔ (ι 0).val = wW v % 8 := by
    rw [shapeCast_self]
    unfold broadcastTo cmpi
    rw [iota_single_apply]
    show IntOp.cmpi .eq (BitVec.ofNat 32 (ι 0).val) (Scalar.andi (fW v) 7#32) = 1#1 ↔ _
    have e2 : Scalar.andi (fW v) 7#32 = BitVec.ofNat 32 (wW v % 8) := by
      apply BitVec.eq_of_toNat_eq
      rw [and_7, e, BitVec.toNat_ofNat]; omega
    rw [e2]
    exact WordCmp.cmpi_eq_ofNat_eq_one_iff (by omega) (by omega)
  show (if _ = 1#1 then _ else _) = if (ι 0).val = wW v % 8 then P (mi, (ι 1).val) else S (mi * 72 + wW v / 8 * 8 + (ι 0).val, (ι 1).val)
  by_cases hh : (ι 0).val = wW v % 8
  · rw [if_pos (hc.mpr hh), if_pos hh, shapeCast_self]
    unfold broadcastTo extractStridedSlice
    rw [hP]
    show P (mi + 0, 0 + (ι 1).val) = P (mi, (ι 1).val)
    rw [Nat.add_zero, Nat.zero_add]
  · rw [if_neg (fun q => hh (hc.mp q)), if_neg hh, isArr_load hS (o := (mi * 72 + wW v / 8 * 8, 0)) (offWr_eq mi h v hv) inb]
    show S (_ + (ι 0).val, 0 + (ι 1).val) = _
    rw [Nat.zero_add]

theorem wr_stored (C : Arr (BitVec 32)) (t : ℕ) (P S : Arr (Elt F .f32)) (mi : ℕ) (hv : Ok (C (mi, t))) (a b : ℕ) (hb : b < 1024) :
    storeAt (mi * 72 + wW (C (mi, t)) / 8 * 8, 0) (8, 1024) (fun _ => True)
      (fun p => if p.1 = wW (C (mi, t)) % 8 then P (mi, p.2) else wrA C t mi P S (mi * 72 + wW (C (mi, t)) / 8 * 8 + p.1, p.2)) (wrA C t mi P S) (a, b)
      = wrA C t (mi + 1) P S (a, b) := by
  have hw := hv.place
  by_cases h : mi * 72 + wW (C (mi, t)) / 8 * 8 ≤ a ∧ a < mi * 72 + wW (C (mi, t)) / 8 * 8 + 8
  · rw [storeAt_hit (o := (mi * 72 + wW (C (mi, t)) / 8 * 8, 0)) (s := (8, 1024)) (p := (a, b))
      ⟨⟨h, Nat.zero_le _, by show b < 0 + 1024; omega⟩, trivial⟩]
    show (if a - (mi * 72 + wW (C (mi, t)) / 8 * 8) = wW (C (mi, t)) % 8 then P (mi, b - 0)
      else wrA C t mi P S (mi * 72 + wW (C (mi, t)) / 8 * 8 + (a - (mi * 72 + wW (C (mi, t)) / 8 * 8)), b - 0)) = _
    have ea : mi * 72 + wW (C (mi, t)) / 8 * 8 + (a - (mi * 72 + wW (C (mi, t)) / 8 * 8)) = a := by omega
    rw [ea, Nat.sub_zero]
    have hd : a / 72 = mi := by omega
    unfold wrA
    dsimp only
    rw [hd, if_neg (by omega : ¬(mi < mi ∧ _))]
    by_cases h' : a % 72 = wW (C (mi, t))
    · rw [if_pos (by omega), if_pos ⟨by omega, h'⟩]
    · rw [if_neg (by omega), if_neg (fun q => h' q.2)]
  · rw [storeAt_miss (fun q => h q.1.1)]
    unfold wrA
    dsimp only
    by_cases h' : a / 72 = mi ∧ a % 72 = wW (C (mi, t))
    · omega
    · by_cases h2 : a / 72 < mi
      · have : (a / 72 < mi + 1) := by omega
        simp only [h2, this, true_and]
      · by_cases h3 : a / 72 = mi
        · rw [if_neg (fun q => h2 q.1), if_neg (fun q => h' ⟨h3, by rw [h3] at q; exact q.2⟩)]
        · rw [if_neg (fun q => h2 q.1), if_neg (fun q => by have := q.1; omega)]

theorem wp_rowWrite {α : Type} (c : Dev nD) (C : Arr (BitVec 32)) (S P : Arr (Elt F .f32)) (push : FVec F S64x1024 .f32) (hP : IsArr push P)
    (t : Fin k0_t1_loop.trips) (hC : ∀ mi < 64, Ok (C (mi, t.val))) (Qp : α → sProp 𝕄) (mi : ℕ) (h : mi < 64) (K : Prog (Eff F) α) :
    let I : ℕ → sProp 𝕄 := fun n => iprop(arr c arg1 C ∗ arr c arg17 (wrA C t.val n P S))
    iprop(I mi ∗ (I (mi + 1) -∗ wp frame (wpE (defs₀ (F := F)) Variants.none (c : Thread nD τ) none) Set.univ K Qp))
      ⊢ wp frame (wpE (defs₀ (F := F)) Variants.none (c : Thread nD τ) none) Set.univ (rowWrite arg1 arg17 t push mi h K) Qp := by
  intro I
  simp only [I]
  unfold arr rowWrite
  iintro ⟨⟨⟨%f1, H1, %h1⟩, ⟨%f17, H17, %h17⟩⟩, HK⟩
  have hw := word_eq h1 (offCode_eq mi t) (offCode_inb mi h t) (Shape.Idx.first ((numel1_S1x1).symm ▸ Nat.one_pos))
  have hv : Ok (View.readAt (Elt F) arg1.view (Rect.unit (s := S64x125) (offCode mi t) S1x1.size (offCode_inb mi h t)).toLoadRect f1
      (Shape.Idx.first ((numel1_S1x1).symm ▸ Nat.one_pos)) : BitVec 32) := by rw [hw]; exact hC mi h
  have hc : chkWr mi (View.readAt (Elt F) arg1.view (Rect.unit (s := S64x125) (offCode mi t) S1x1.size (offCode_inb mi h t)).toLoadRect f1
      (Shape.Idx.first ((numel1_S1x1).symm ▸ Nat.one_pos)) : BitVec 32) := chkWr_of mi h _ hv
  sl_exec (disch := exact hc)
  iapply HK
  isplitl [H1]
  · iexists _; isplitl [H1]
    · iexact H1
    ipureintro; exact h1
  iexists _; isplitl [H17]
  · iexact H17
  ipureintro
  have key := isArr_writes_cons (L := []) (o := (mi * 72 + wW (C (mi, t.val)) / 8 * 8, 0)) h17 (by rw [← hw]; exact offWr_eq mi h _ hv) hc.2
    (wr_pay h17 mi h _ hv hc.2 push hP)
  refine IsArr.congr key ?_
  intro a b _ hb
  rw [← wr_stored C t.val P S mi (hC mi h) a b hb, ← hw]

theorem wp_rowOut {α : Type} (c : Dev nD) (C : Arr (BitVec 32)) (S X9 : Arr (Elt F .f32))
    (hC : ∀ mi < 64, Ok (C (mi, 124))) (Qp : α → sProp 𝕄) (mi : ℕ) (h : mi < 64) (K : Prog (Eff F) α) :
    let I : ℕ → sProp 𝕄 := fun n => iprop(arr c arg1 C ∗ arr c arg17 S ∗ arr c arg9 (below n (outA C S) X9))
    iprop(I mi ∗ (I (mi + 1) -∗ wp frame (wpE (defs₀ (F := F)) Variants.none (c : Thread nD τ) none) Set.univ K Qp))
      ⊢ wp frame (wpE (defs₀ (F := F)) Variants.none (c : Thread nD τ) none) Set.univ (rowOut arg1 arg9 arg17 mi h K) Qp := by
  intro I
  simp only [I]
  unfold arr rowOut
  iintro ⟨⟨⟨%f1, H1, %h1⟩, ⟨%f17, H17, %h17⟩, ⟨%f9, H9, %h9⟩⟩, HK⟩
  have hw := word_eq h1 (off := ![mi, 124]) rfl (offCodeL_inb mi h) (Shape.Idx.first ((numel1_S1x1).symm ▸ Nat.one_pos))
  have hv : Ok (View.readAt (Elt F) arg1.view (Rect.unit (s := S64x125) ![mi, 124] S1x1.size (offCodeL_inb mi h)).toLoadRect f1
      (Shape.Idx.first ((numel1_S1x1).symm ▸ Nat.one_pos)) : BitVec 32) := by rw [hw]; exact hC mi h
  have hc : chkWr mi (View.readAt (Elt F) arg1.view (Rect.unit (s := S64x125) ![mi, 124] S1x1.size (offCodeL_inb mi h)).toLoadRect f1
      (Shape.Idx.first ((numel1_S1x1).symm ▸ Nat.one_pos)) : BitVec 32) := chkWr_of mi h _ hv
  sl_exec (disch := exact hc)
  iapply HK
  isplitl [H1]
  · iexists _; isplitl [H1]
    · iexact H1
    ipureintro; exact h1
  isplitl [H17]
  · iexists _; isplitl [H17]
    · iexact H17
    ipureintro; exact h17
  iexists _; isplitl [H9]
  · iexact H9
  ipureintro
  refine row_stored h9 _ (out_pay h17 mi h _ hv hc.2 _ fun b => ?_)
  unfold outA
  rw [← hw]

theorem init_stored (Q S : Arr (Elt F .f32)) (mi a b : ℕ) (hb : b < 1024) :
    storeAt (mi * 72 + 1, 0) (1, 1024) (fun _ => True) (fun p => Q (mi * 64, p.2))
      (storeAt (mi * 72 + 0, 0) (1, 1024) (fun _ => True) (fun p => Q (mi * 64, p.2)) (initA mi Q S)) (a, b) = initA (mi + 1) Q S (a, b) := by
  by_cases h1 : a = mi * 72 + 1
  · rw [storeAt_hit (o := (mi * 72 + 1, 0)) (s := (1, 1024)) (p := (a, b))
      ⟨⟨⟨by show mi * 72 + 1 ≤ a; omega, by show a < mi * 72 + 1 + 1; omega⟩, Nat.zero_le _, by show b < 0 + 1024; omega⟩, trivial⟩]
    unfold initA
    dsimp only
    rw [if_pos (by omega), show a / 72 = mi by omega]
    rfl
  · rw [storeAt_miss (fun q => by have h2 : mi * 72 + 1 ≤ a ∧ a < mi * 72 + 1 + 1 := q.1.1; omega)]
    by_cases h0 : a = mi * 72
    · rw [storeAt_hit (o := (mi * 72 + 0, 0)) (s := (1, 1024)) (p := (a, b))
        ⟨⟨⟨by show mi * 72 + 0 ≤ a; omega, by show a < mi * 72 + 0 + 1; omega⟩, Nat.zero_le _, by show b < 0 + 1024; omega⟩, trivial⟩]
      unfold initA
      dsimp only
      rw [if_pos (by omega), show a / 72 = mi by omega]
      rfl
    · rw [storeAt_miss (fun q => by have h2 : mi * 72 + 0 ≤ a ∧ a < mi * 72 + 0 + 1 := q.1.1; omega)]
      unfold initA
      dsimp only
      by_cases h2 : a / 72 < mi ∧ a % 72 < 2
      · rw [if_pos h2, if_pos (by omega)]
      · rw [if_neg h2, if_neg (by omega)]

theorem wp_rowInit {α : Type} (c : Dev nD) (Q S : Arr (Elt F .f32)) (Qp : α → sProp 𝕄) (mi : ℕ) (h : mi < 64) (K : Prog (Eff F) α) :
    let I : ℕ → sProp 𝕄 := fun n => iprop(arr c arg10 Q ∗ arr c arg17 (initA n Q S))
    iprop(I mi ∗ (I (mi + 1) -∗ wp frame (wpE (defs₀ (F := F)) Variants.none (c : Thread nD τ) none) Set.univ K Qp))
      ⊢ wp frame (wpE (defs₀ (F := F)) Variants.none (c : Thread nD τ) none) Set.univ (rowInit arg10 arg17 mi h K) Qp := by
  intro I
  simp only [I]
  unfold arr rowInit
  iintro ⟨⟨⟨%f10, H10, %h10⟩, ⟨%f17, H17, %h17⟩⟩, HK⟩
  sl_exec
  iapply HK
  isplitl [H10]
  · iexists _; isplitl [H10]
    · iexact H10
    ipureintro; exact h10
  iexists _; isplitl [H17]
  · iexact H17
  ipureintro
  have hp : IsArr (shapeCast S1x1024 (View.readAt (Elt F) arg10.view (Rect.unit (s := S4096x1024) ![mi * 64, 0] S1x1024.size (seqRow_inb mi h)).toLoadRect f10)
      shapeCasts_S1x1024_S1x1024) (fun p => Q (mi * 64, p.2)) :=
    (isArr_cast_self (isArr_load h10 (o := (mi * 64, 0)) rfl (seqRow_inb mi h)) _).congr fun a b ha _ => by
      obtain rfl : a = 0 := by have : a < 1 := ha; omega
      show Q (mi * 64 + 0, 0 + b) = _
      rw [Nat.add_zero, Nat.zero_add]
  have k0 := isArr_writes_cons (L := []) (o := (mi * 72 + 0, 0)) h17 rfl (stkRow_inb mi 0 h (by decide)) hp
  have k1 := isArr_writes_cons (o := (mi * 72 + 1, 0)) k0 rfl (stkRow_inb mi 1 h (by decide)) hp
  exact IsArr.congr k1 fun a b _ hb => init_stored Q S mi a b hb

end Cert.KernelIdeal.Row

end
-- ==== Proof.KernelIdealStep.lean ====
/- One step of the kernel's loop, and the whole loop, as a function of arrays: from the tracker's state and the stacks
   the step reads the two top rows of every stack and the front of every sequence, computes, and writes one row of every
   stack. -/
module

public import proofs.«01_k».proof.Proof.KernelIdealTriples
public import Idealize.ShloMosaic.Lib.Scf

@[expose] public section

noncomputable section

namespace Cert.KernelIdeal.Row

open Idealize.ShloMosaic Idealize.ShloMosaic.TcCoe LaneScatter Idealize.ShloMosaic.Tactic Idealize.ShloMosaic.Updates
open Idealize.SL Idealize.SL.RA Idealize.SL.BI
open scoped Idealize.SL.BI
open Idealize.SL.BI.BIBase Idealize.SL.BI.Laws Idealize.SL.ProofMode Idealize.SL.Sem
open Cert.KernelIdeal Facts₀ Facts Cert.Words

variable [Facts] {F : FTy → Type} [FloatOps F]

/-- The proof's user algebra. -/
local notation "𝕄" => MT nD τ sig Unit (Elt F) ℕ (Pipeline.UD sig nD τ) ℕ

variable {arg1 : Memref sig .tc .smem S64x125 .i32} {arg9 : Memref sig .tc .vmem S64x512 .f32} {arg10 : Memref sig .tc .vmem S4096x1024 .f32}
  {arg13 arg14 arg15 : Memref sig .tc .vmem S64x1024 .f32} {arg16 : Memref sig .tc .vmem S64x128 .f32} {arg17 : Memref sig .tc .vmem S4608x1024 .f32}
  {arg2 : Memref sig .tc .vmem S1x256 .f32} {arg3 : Memref sig .tc .vmem S1x2560 .f32} {arg4 arg5 : Memref sig .tc .vmem S64x64 .f32}
  {arg11 : Memref sig .tc .vmem S1600x256 .f32} {arg12 : Memref sig .tc .vmem S1600x2560 .f32}

/-- The arrays that do not change in the loop: the code words, the sequences, the two tables of weights and the two biases. -/
structure Env (F : FTy → Type) [FloatOps F] where
  C : Arr (BitVec 32)
  Q : Arr (Elt F .f32)
  W : Arr (Elt F .f32)
  U : Arr (Elt F .f32)
  bg : Arr (Elt F .f32)
  bc : Arr (Elt F .f32)

/-- What the loop carries: the tracker's hidden state and cell, and the stacks. -/
structure St (F : FTy → Type) [FloatOps F] where
  th : FVec F S64x64 .f32
  tc : FVec F S64x64 .f32
  S : Arr (Elt F .f32)

/-- The blocks of a step: the pre-activations of the tracker, from the arrays of the two top rows and the front row. -/
def gatesA (E : Env F) (T Z B : Arr (Elt F .f32)) (th : FVec F S64x64 .f32) : FVec F S64x256 .f32 :=
  gatesV (toBlk (R := 64) (C := 1024) T) (toBlk (R := 64) (C := 1024) Z) (toBlk (R := 64) (C := 1024) B) th
    (toBlk (R := 512) (C := 256) (loadAt (0, 0) E.W)) (toBlk (R := 512) (C := 256) (loadAt (512, 0) E.W))
    (toBlk (R := 512) (C := 256) (loadAt (1024, 0) E.W)) (toBlk (R := 64) (C := 256) (loadAt (1536, 0) E.W)) (toBlk (R := 1) (C := 256) E.bg)
/-- The pre-activations of the composition cell. -/
def cellA (E : Env F) (T Z M : Arr (Elt F .f32)) (th : FVec F S64x64 .f32) : FVec F S64x2560 .f32 :=
  cellV (toBlk (R := 64) (C := 1) M) (toBlk (R := 64) (C := 1024) T) (toBlk (R := 64) (C := 1024) Z) th
    (toBlk (R := 512) (C := 2560) (loadAt (0, 0) E.U)) (toBlk (R := 512) (C := 2560) (loadAt (512, 0) E.U))
    (toBlk (R := 512) (C := 2560) (loadAt (1024, 0) E.U)) (toBlk (R := 64) (C := 2560) (loadAt (1536, 0) E.U)) (toBlk (R := 1) (C := 2560) E.bc)
/-- The rows pushed. -/
def pushA (E : Env F) (T Z B M : Arr (Elt F .f32)) (th : FVec F S64x64 .f32) : FVec F S64x1024 .f32 :=
  pushV (toBlk (R := 64) (C := 1) M) (toBlk (R := 64) (C := 1024) T) (toBlk (R := 64) (C := 1024) Z) (toBlk (R := 64) (C := 1024) B) (cellA E T Z M th)

/-- The tracker's state after step `t`. -/
def thS (E : Env F) (t : ℕ) (s : St F) : FVec F S64x64 .f32 := thV (gatesA E (topA E.C t s.S) (secA E.C t s.S) (bufA E.C t E.Q) s.th) s.tc
def tcS (E : Env F) (t : ℕ) (s : St F) : FVec F S64x64 .f32 := tcV (gatesA E (topA E.C t s.S) (secA E.C t s.S) (bufA E.C t E.Q) s.th) s.tc
/-- What step `t` pushes. -/
def pushS (E : Env F) (t : ℕ) (s : St F) : FVec F S64x1024 .f32 :=
  pushA E (topA E.C t s.S) (secA E.C t s.S) (bufA E.C t E.Q) (mvA E.C t) (thS E t s)
/-- One step. -/
def stepS (E : Env F) (t : ℕ) (s : St F) : St F :=
  ⟨thS E t s, tcS E t s, wrA E.C t 64 (ofBlk (R := 64) (C := 1024) (by decide) (by decide) (pushS E t s)) s.S⟩
/-- The state before step `n`. -/
def run (E : Env F) (s : St F) : ℕ → St F
  | 0 => s
  | n + 1 => stepS E n (run E s n)

/-- What a load of an array's rectangle reads, as a block. -/
theorem load_blk {sp : Space} {R C h w : ℕ} {e : EltTy} {v : View sig .tc sp (Blk R C) e} {f : v.ty.Contents (Elt F)} {A : Arr (Elt F e)}
    (hA : IsArr (v.read (Elt F) f) A) {off : Fin 2 → ℕ} (o : ℕ × ℕ) (ho : off = ![o.1, o.2]) (inb : ∀ a, off a + (Blk h w).size a ≤ (Blk R C).size a) :
    View.readAt (Elt F) v (Rect.unit (s := Blk R C) off (Blk h w).size inb).toLoadRect f = toBlk (loadAt o A) :=
  isArr_iff.mp (isArr_load hA ho inb)
theorem loadAt_zero {α : Type} (A : Arr α) : loadAt (0, 0) A = A := by
  funext p
  show A (0 + p.1, 0 + p.2) = A p
  rw [Nat.zero_add, Nat.zero_add]

/-- The middle of a step: nothing is written; the rest runs at the new state and the pushed rows. -/
theorem wp_mid {α : Type} (c : Dev nD) (E : Env F) (T Z B M : Arr (Elt F .f32)) (th tc : FVec F S64x64 .f32) (Qp : α → sProp 𝕄)
    (K : FVec F S64x64 .f32 → FVec F S64x64 .f32 → FVec F S64x1024 .f32 → Prog (Eff F) α) :
    iprop(arr c arg13 T ∗ arr c arg14 Z ∗ arr c arg15 B ∗ arr c arg16 M ∗ arr c arg2 E.bg ∗ arr c arg3 E.bc ∗ arr c arg11 E.W ∗ arr c arg12 E.U
      ∗ (iprop(arr c arg13 T ∗ arr c arg14 Z ∗ arr c arg15 B ∗ arr c arg16 M ∗ arr c arg2 E.bg ∗ arr c arg3 E.bc ∗ arr c arg11 E.W ∗ arr c arg12 E.U)
        -∗ wp frame (wpE (defs₀ (F := F)) Variants.none (c : Thread nD τ) none) Set.univ
          (K (thV (gatesA E T Z B th) tc) (tcV (gatesA E T Z B th) tc) (pushA E T Z B M (thV (gatesA E T Z B th) tc))) Qp))
      ⊢ wp frame (wpE (defs₀ (F := F)) Variants.none (c : Thread nD τ) none) Set.univ (mid arg13 arg14 arg15 arg16 arg2 arg3 arg11 arg12 th tc K) Qp := by
  unfold arr mid
  iintro ⟨⟨%f13, H13, %h13⟩, ⟨%f14, H14, %h14⟩, ⟨%f15, H15, %h15⟩, ⟨%f16, H16, %h16⟩, ⟨%f2, H2, %h2⟩, ⟨%f3, H3, %h3⟩, ⟨%f11, H11, %h11⟩,
    ⟨%f12, H12, %h12⟩, HK⟩
  sl_exec
  rw [load_blk h16 (0, 0) rfl inb_S64x128_S64x1_0_0, load_blk h13 (0, 0) rfl inb_S64x1024_S64x1024_0_0, load_blk h14 (0, 0) rfl inb_S64x1024_S64x1024_0_0,
    load_blk h15 (0, 0) rfl inb_S64x1024_S64x1024_0_0, load_blk h11 (0, 0) rfl inb_S1600x256_S512x256_0_0,
    load_blk h11 (512, 0) rfl inb_S1600x256_S512x256_512_0, load_blk h11 (1024, 0) rfl inb_S1600x256_S512x256_1024_0,
    load_blk h11 (1536, 0) rfl inb_S1600x256_S64x256_1536_0, load_blk h2 (0, 0) rfl inb_S1x256_S1x256_0_0,
    load_blk h12 (0, 0) rfl inb_S1600x2560_S512x2560_0_0,
    load_blk h12 (512, 0) rfl inb_S1600x2560_S512x2560_512_0, load_blk h12 (1024, 0) rfl inb_S1600x2560_S512x2560_1024_0,
    load_blk h12 (1536, 0) rfl inb_S1600x2560_S64x2560_1536_0, load_blk h3 (0, 0) rfl inb_S1x2560_S1x2560_0_0,
    loadAt_zero M, loadAt_zero T, loadAt_zero Z, loadAt_zero B, loadAt_zero E.bg, loadAt_zero E.bc]
  iapply HK
  isplitl [H13]; · iexists _; isplitl [H13]; · iexact H13
                   ipureintro; exact h13
  isplitl [H14]; · iexists _; isplitl [H14]; · iexact H14
                   ipureintro; exact h14
  isplitl [H15]; · iexists _; isplitl [H15]; · iexact H15
                   ipureintro; exact h15
  isplitl [H16]; · iexists _; isplitl [H16]; · iexact H16
                   ipureintro; exact h16
  isplitl [H2]; · iexists _; isplitl [H2]; · iexact H2
                  ipureintro; exact h2
  isplitl [H3]; · iexists _; isplitl [H3]; · iexact H3
                  ipureintro; exact h3
  isplitl [H11]; · iexists _; isplitl [H11]; · iexact H11
                   ipureintro; exact h11
  iexists _; isplitl [H12]; · iexact H12
  ipureintro; exact h12

/-- The array below no row is the array that was there; below every row, it is the new one. -/
theorem arr_below_zero {sp : Space} {R C : ℕ} {e : EltTy} (c : Dev nD) (M : Memref sig .tc sp (Blk R C) e) (G X : Arr (Elt F e)) :
    (arr c M X : sProp 𝕄) ⊢ arr c M (below 0 G X) := by
  unfold arr
  iintro ⟨%f, H, %h⟩
  iexists f; isplitl [H]
  · iexact H
  ipureintro
  refine h.congr fun a b _ _ => ?_
  unfold below
  exact (if_neg (Nat.not_lt_zero _)).symm
theorem arr_below_all {sp : Space} {C : ℕ} {e : EltTy} (c : Dev nD) (M : Memref sig .tc sp (Blk 64 C) e) (G X : Arr (Elt F e)) :
    (arr c M (below 64 G X) : sProp 𝕄) ⊢ arr c M G := by
  unfold arr
  iintro ⟨%f, H, %h⟩
  iexists f; isplitl [H]
  · iexact H
  ipureintro
  refine h.congr fun a b ha _ => ?_
  unfold below
  exact if_pos ha
theorem wrA_zero (C : Arr (BitVec 32)) (t : ℕ) (P S : Arr (Elt F .f32)) : wrA C t 0 P S = S := by
  funext p
  unfold wrA
  exact if_neg fun q => Nat.not_lt_zero _ q.1
theorem initA_zero (Q S : Arr (Elt F .f32)) : initA 0 Q S = S := by
  funext p
  unfold initA
  exact if_neg fun q => Nat.not_lt_zero _ q.1

/-- The memory of the loop: the unchanging arrays, the stacks at `S`, the four small buffers at anything. -/
def mem (arg1 : Memref sig .tc .smem S64x125 .i32) (arg10 : Memref sig .tc .vmem S4096x1024 .f32)
    (arg13 arg14 arg15 : Memref sig .tc .vmem S64x1024 .f32) (arg16 : Memref sig .tc .vmem S64x128 .f32) (arg17 : Memref sig .tc .vmem S4608x1024 .f32)
    (arg2 : Memref sig .tc .vmem S1x256 .f32) (arg3 : Memref sig .tc .vmem S1x2560 .f32)
    (arg11 : Memref sig .tc .vmem S1600x256 .f32) (arg12 : Memref sig .tc .vmem S1600x2560 .f32) (c : Dev nD) (E : Env F) (S : Arr (Elt F .f32)) : sProp 𝕄 :=
  iprop(arr c arg1 E.C ∗ arr c arg10 E.Q ∗ arr c arg17 S ∗ (∃ X, arr c arg13 X) ∗ (∃ X, arr c arg14 X) ∗ (∃ X, arr c arg15 X) ∗ (∃ X, arr c arg16 X)
    ∗ arr c arg2 E.bg ∗ arr c arg3 E.bc ∗ arr c arg11 E.W ∗ arr c arg12 E.U)

/-- One step of the loop with its result spelled out. -/
theorem wp_step_aux (c : Dev nD) (E : Env F) (t : Fin k0_t1_loop.trips) (hC : ∀ mi < 64, Ok (E.C (mi, t.val))) (s : St F)
    (Qp : FVec F S64x64 .f32 × FVec F S64x64 .f32 → sProp 𝕄) :
    iprop(mem arg1 arg10 arg13 arg14 arg15 arg16 arg17 arg2 arg3 arg11 arg12 c E s.S
      ∗ (mem arg1 arg10 arg13 arg14 arg15 arg16 arg17 arg2 arg3 arg11 arg12 c E (stepS E t.val s).S
        -∗ Qp (thV (gatesA E (topA E.C t.val s.S) (secA E.C t.val s.S) (bufA E.C t.val E.Q) s.th) s.tc,
          tcV (gatesA E (topA E.C t.val s.S) (secA E.C t.val s.S) (bufA E.C t.val E.Q) s.th) s.tc)))
      ⊢ wp frame (wpE (defs₀ (F := F)) Variants.none (c : Thread nD τ) none) Set.univ
        (step arg1 arg10 arg13 arg14 arg15 arg16 arg17 arg2 arg3 arg11 arg12 t (s.th, s.tc)) Qp := by
  unfold mem step
  iintro ⟨⟨H1, H10, H17, ⟨%X13, H13⟩, ⟨%X14, H14⟩, ⟨%X15, H15⟩, ⟨%X16, H16⟩, H2, H3, H11, H12⟩, HK⟩
  iapply (wp_rows c (rowRead arg1 arg10 arg13 arg14 arg15 arg16 arg17 t)
    (fun n => iprop(arr c arg1 E.C ∗ arr c arg10 E.Q ∗ arr c arg17 s.S ∗ arr c arg13 (below n (topA E.C t.val s.S) X13)
      ∗ arr c arg14 (below n (secA E.C t.val s.S) X14) ∗ arr c arg15 (below n (bufA E.C t.val E.Q) X15) ∗ arr c arg16 (below n (mvA E.C t.val) X16)))
    Qp (fun mi h K => wp_rowRead c E.C E.Q s.S X13 X14 X15 X16 t hC Qp mi h K) _ 64 0 _)
  isplitl [H1 H10 H17 H13 H14 H15 H16]
  · isplitl [H1]; · iexact H1
    isplitl [H10]; · iexact H10
    isplitl [H17]; · iexact H17
    isplitl [H13]; · iapply arr_below_zero; iexact H13
    isplitl [H14]; · iapply arr_below_zero; iexact H14
    isplitl [H15]; · iapply arr_below_zero; iexact H15
    iapply arr_below_zero; iexact H16
  iintro ⟨H1, H10, H17, H13, H14, H15, H16⟩
  iapply (wp_mid c E (topA E.C t.val s.S) (secA E.C t.val s.S) (bufA E.C t.val E.Q) (mvA E.C t.val) s.th s.tc Qp _)
  isplitl [H13]; · iapply arr_below_all; iexact H13
  isplitl [H14]; · iapply arr_below_all; iexact H14
  isplitl [H15]; · iapply arr_below_all; iexact H15
  isplitl [H16]; · iapply arr_below_all; iexact H16
  isplitl [H2]; · iexact H2
  isplitl [H3]; · iexact H3
  isplitl [H11]; · iexact H11
  isplitl [H12]; · iexact H12
  iintro ⟨H13, H14, H15, H16, H2, H3, H11, H12⟩
  iapply (wp_rows c (rowWrite arg1 arg17 t (pushS E t.val s))
    (fun n => iprop(arr c arg1 E.C ∗ arr c arg17 (wrA E.C t.val n (ofBlk (R := 64) (C := 1024) (by decide) (by decide) (pushS E t.val s)) s.S)))
    Qp (fun mi h K => wp_rowWrite c E.C s.S _ (pushS E t.val s) (isArr_ofBlk _ _ _) t hC Qp mi h K) _ 64 0 _)
  isplitl [H1 H17]
  · isplitl [H1]; · iexact H1
    rw [wrA_zero]
    iexact H17
  iintro ⟨H1, H17⟩
  rw [wp_ret]
  imodintro
  iapply HK
  isplitl [H1]; · iexact H1
  isplitl [H10]; · iexact H10
  isplitl [H17]; · iexact H17
  isplitl [H13]; · iexists _; iexact H13
  isplitl [H14]; · iexists _; iexact H14
  isplitl [H15]; · iexists _; iexact H15
  isplitl [H16]; · iexists _; iexact H16
  isplitl [H2]; · iexact H2
  isplitl [H3]; · iexact H3
  isplitl [H11]; · iexact H11
  iexact H12

/-- One step of the loop takes the state to `stepS` of it. -/
theorem wp_step (c : Dev nD) (E : Env F) (t : Fin k0_t1_loop.trips) (hC : ∀ mi < 64, Ok (E.C (mi, t.val))) (s : St F)
    (Qp : FVec F S64x64 .f32 × FVec F S64x64 .f32 → sProp 𝕄) :
    iprop(mem arg1 arg10 arg13 arg14 arg15 arg16 arg17 arg2 arg3 arg11 arg12 c E s.S
      ∗ (mem arg1 arg10 arg13 arg14 arg15 arg16 arg17 arg2 arg3 arg11 arg12 c E (stepS E t.val s).S
        -∗ Qp ((stepS E t.val s).th, (stepS E t.val s).tc)))
      ⊢ wp frame (wpE (defs₀ (F := F)) Variants.none (c : Thread nD τ) none) Set.univ
        (step arg1 arg10 arg13 arg14 arg15 arg16 arg17 arg2 arg3 arg11 arg12 t (s.th, s.tc)) Qp :=
  wp_step_aux c E t hC s Qp

/-- The loop takes the state to `run … 125`. -/
theorem wp_loop (c : Dev nD) (E : Env F) (hC : ∀ mi < 64, ∀ t < 125, Ok (E.C (mi, t))) (s : St F)
    (Qp : FVec F S64x64 .f32 × FVec F S64x64 .f32 → sProp 𝕄) :
    iprop(mem arg1 arg10 arg13 arg14 arg15 arg16 arg17 arg2 arg3 arg11 arg12 c E s.S
      ∗ (∀ acc, mem arg1 arg10 arg13 arg14 arg15 arg16 arg17 arg2 arg3 arg11 arg12 c E (run E s 125).S -∗ Qp acc))
      ⊢ wp frame (wpE (defs₀ (F := F)) Variants.none (c : Thread nD τ) none) Set.univ
        (Scf.Loop.for k0_t1_loop k0_t1_ok (s.th, s.tc) (step arg1 arg10 arg13 arg14 arg15 arg16 arg17 arg2 arg3 arg11 arg12)) Qp := by
  iintro ⟨HM, HK⟩
  iapply (Scf.wp_for frame (wpE (defs₀ (F := F)) Variants.none (c : Thread nD τ) none) Set.univ k0_t1_loop.lb k0_t1_loop.ub k0_t1_loop.st k0_t1_ok
    (s.th, s.tc) (step arg1 arg10 arg13 arg14 arg15 arg16 arg17 arg2 arg3 arg11 arg12)
    (fun n acc => iprop(⌜acc = ((run E s n).th, (run E s n).tc)⌝
      ∗ mem arg1 arg10 arg13 arg14 arg15 arg16 arg17 arg2 arg3 arg11 arg12 c E (run E s n).S)) ?_)
  · intro t acc
    iintro ⟨%h, HM⟩
    subst h
    iapply (wp_step c E t (fun mi hmi => hC mi hmi t.val (lt_of_lt_of_eq t.isLt trips_eq)) (run E s t.val) _)
    isplitl [HM]
    · iexact HM
    iintro HM
    isplitr
    · ipureintro; rfl
    iexact HM
  · isplitl [HM]
    · isplitr
      · ipureintro; rfl
      iexact HM
    iintro %acc ⟨-, HM⟩
    iapply HK
    rw [← trips_eq]
    iexact HM

end Cert.KernelIdeal.Row

end
-- ==== Proof.KernelIdealBody.lean ====
/- The whole body of the kernel's call at one point of the grid: it copies the point's sequences and the two tables of
   weights in, gives every stack its two bottom rows, runs the loop, and takes the result out of the stacks. -/
module

public import proofs.«01_k».proof.Proof.KernelIdealStep

@[expose] public section

noncomputable section

namespace Cert.KernelIdeal.Row

open Idealize.ShloMosaic Idealize.ShloMosaic.TcCoe LaneScatter Idealize.ShloMosaic.Tactic Idealize.ShloMosaic.Updates
open Idealize.SL Idealize.SL.RA Idealize.SL.BI
open scoped Idealize.SL.BI
open Idealize.SL.BI.BIBase Idealize.SL.BI.Laws Idealize.SL.ProofMode Idealize.SL.Sem
open Cert.KernelIdeal Facts₀ Facts Cert.Words

variable [Facts] {F : FTy → Type} [FloatOps F]

/-- The proof's user algebra. -/
local notation "𝕄" => MT nD τ sig Unit (Elt F) ℕ (Pipeline.UD sig nD τ) ℕ

abbrev mS0 : Memref sig .tc .vmem S4096x1024 .f32 := Memref.whole cc0_scratch0
abbrev mS1 : Memref sig .tc .vmem S1600x256 .f32 := Memref.whole cc0_scratch1
abbrev mS2 : Memref sig .tc .vmem S1600x2560 .f32 := Memref.whole cc0_scratch2
abbrev mS3 : Memref sig .tc .vmem S64x1024 .f32 := Memref.whole cc0_scratch3
abbrev mS4 : Memref sig .tc .vmem S64x1024 .f32 := Memref.whole cc0_scratch4
abbrev mS5 : Memref sig .tc .vmem S64x1024 .f32 := Memref.whole cc0_scratch5
abbrev mS6 : Memref sig .tc .vmem S64x128 .f32 := Memref.whole cc0_scratch6
abbrev mS7 : Memref sig .tc .vmem S4608x1024 .f32 := Memref.whole cc0_scratch7
abbrev mH0 : Memref sig .tc .hbm S32768x1024 .f32 := Memref.whole main_call0_v30
abbrev mH1 : Memref sig .tc .hbm S1600x256 .f32 := Memref.whole main_call0_v31
abbrev mH2 : Memref sig .tc .hbm S1600x2560 .f32 := Memref.whole main_call0_v32
abbrev HbBuf (F : FTy → Type) [FloatOps F] (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf F c M) : sProp 𝕄 :=
  M.view.loc (c : Thread nD τ) ↦{fullShare} f

variable {arg4 arg5 : Memref sig .tc .vmem S64x64 .f32}

/-- The sequences of the grid's point `i`. -/
abbrev seqA (i : ℕ) (Q : Arr (Elt F .f32)) : Arr (Elt F .f32) := loadAt (i * 4096, 0) Q

theorem off1_eq (i : grid0.Coords) : k0_off1 i = ![(i 0).val * 4096, 0] := by
  have hi : (i 0).val < 8 := (i 0).isLt
  unfold k0_off1
  have : (Scalar.muli (BitVec.ofNat 32 (i 0).val) 4096#32).toNat = (i 0).val * 4096 := by
    show ((BitVec.ofNat 32 (i 0).val) * 4096#32).toNat = _
    rw [BitVec.toNat_mul, BitVec.toNat_ofNat, BitVec.toNat_ofNat]
    omega
  show ![(Scalar.muli (BitVec.ofNat 32 (i 0).val) 4096#32).toNat, 0] = _
  rw [this]

/-- The rows of the point's sequences, read out of the whole array. -/
theorem slice_read (c : Dev nD) (i : grid0.Coords) {f0 : HbBuf F c mH0} {Q : Arr (Elt F .f32)} (h : IsArr (mH0.view.read (Elt F) f0) Q) :
    IsArr (R := 4096) (C := 1024) ((mH0.slice (Rect.unit (s := S32768x1024) (k0_off1 i) S4096x1024.size (k0_off1_inb i)) (fun _ => rfl)).view.read (Elt F) f0)
      (seqA (i 0).val Q) := by
  intro ι
  show mH0.view.read (Elt F) f0 ((Rect.unit (s := S32768x1024) (k0_off1 i) S4096x1024.size (k0_off1_inb i)).emb ι) = _
  rw [h]
  have e := emb_val (R := 32768) (C := 1024) (h := 4096) (w := 1024) (o := ((i 0).val * 4096, 0)) (off1_eq i) (k0_off1_inb i) ι
  rw [e.1, e.2]
  rfl

theorem arr_open {sp : Space} {R C : ℕ} {e : EltTy} (c : Dev nD) (M : Memref sig .tc sp (Blk R C) e) (A : Arr (Elt F e)) :
    (arr c M A : sProp 𝕄) ⊢ iprop(∃ f, raw (c : Thread nD τ) M f ∗ ⌜IsArr (M.view.read (Elt F) f) A⌝) := by
  unfold arr
  iintro H
  iexact H
theorem arr_close {sp : Space} {R C : ℕ} {e : EltTy} (c : Dev nD) (M : Memref sig .tc sp (Blk R C) e) {A : Arr (Elt F e)} {f : M.view.ty.Contents (Elt F)}
    (h : IsArr (M.view.read (Elt F) f) A) : (raw (c : Thread nD τ) M f : sProp 𝕄) ⊢ arr c M A := by
  unfold arr
  iintro H
  iexists f
  isplitl [H]
  · iexact H
  ipureintro; exact h
/-- A whole buffer at contents that are the array `A` is held as `A`. -/
theorem arr_of_pts {sp : Space} {R C : ℕ} {e : EltTy} (c : Dev nD) (M : Memref sig .tc sp (Blk R C) e) (hM : M.view.set = Finset.univ) {f : HbBuf F c M}
    {A : Arr (Elt F e)} (h : IsArr (M.view.read (Elt F) f) A) : (hbPt c M f : sProp 𝕄) ⊢ arr c M A := by
  unfold arr raw
  rw [hM]
  iintro H
  iexists f
  isplitl [H]
  · iexact H
  ipureintro; exact h
theorem pts_of_arr {sp : Space} {R C : ℕ} {e : EltTy} (c : Dev nD) (M : Memref sig .tc sp (Blk R C) e) (hM : M.view.set = Finset.univ)
    (A : Arr (Elt F e)) : (arr c M A : sProp 𝕄) ⊢ iprop(∃ f, hbPt c M f) := by
  unfold arr raw
  rw [hM]
  iintro ⟨%f, H, -⟩
  iexists f
  iexact H
/-- A buffer that was overwritten whole holds what was written. -/
theorem arr_of_landed {sp : Space} {R C : ℕ} {e : EltTy} (c : Dev nD) (M : Memref sig .tc sp (Blk R C) e) (hM : M.view.set = Finset.univ) {g : HbBuf F c M}
    {p : (Blk R C).Idx → Elt F e} {A : Arr (Elt F e)} (h : IsArr p A) :
    (hbPt c M (View.write (Elt F) M.view g p Finset.univ) : sProp 𝕄) ⊢ arr c M A :=
  arr_of_pts c M hM (by rw [View.read_write_univ]; exact h)

/-- Before the loop: the sequences and the tables are in, the stacks have their two bottom rows, the transfers' counters are at zero again. -/
theorem wp_before {α : Type} (c : Dev nD) (i : grid0.Coords) (TH TC S Q W U : Arr (Elt F .f32)) (f0 : HbBuf F c mH0) (f1 : HbBuf F c mH1) (f2 : HbBuf F c mH2)
    (h0 : IsArr (mH0.view.read (Elt F) f0) Q) (h1 : IsArr (mH1.view.read (Elt F) f1) W) (h2 : IsArr (mH2.view.read (Elt F) f2) U)
    (K : FVec F S64x64 .f32 → FVec F S64x64 .f32 → Prog (Eff F) α) (Wt : Waits sig Unit) (Qp : α → sProp 𝕄) :
    iprop((∃ f, hbPt c mS0 f) ∗ (∃ f, hbPt c mS1 f) ∗ (∃ f, hbPt c mS2 f) ∗ arr c mS7 S
      ∗ semVal ((c : Thread nD τ), SemLoc.dma 10) 0 ∗ semVal ((c : Thread nD τ), SemLoc.dma 11) 0 ∗ semVal ((c : Thread nD τ), SemLoc.dma 12) 0
      ∗ hbPt c mH0 f0 ∗ hbPt c mH1 f1 ∗ hbPt c mH2 f2 ∗ arr c arg4 TH ∗ arr c arg5 TC ∗ owes (c : Thread nD τ) 0 Wt
      ∗ (iprop(arr c mS0 (seqA (i 0).val Q) ∗ arr c mS1 W ∗ arr c mS2 U ∗ arr c mS7 (initA 64 (seqA (i 0).val Q) S)
        ∗ semVal ((c : Thread nD τ), SemLoc.dma 10) 0 ∗ semVal ((c : Thread nD τ), SemLoc.dma 11) 0 ∗ semVal ((c : Thread nD τ), SemLoc.dma 12) 0
        ∗ hbPt c mH0 f0 ∗ hbPt c mH1 f1 ∗ hbPt c mH2 f2 ∗ arr c arg4 TH ∗ arr c arg5 TC ∗ (∃ W', owes (c : Thread nD τ) 0 W'))
        -∗ wp frame (wpE (defs₀ (F := F)) Variants.none (c : Thread nD τ) none) Set.univ
          (K (toBlk (R := 64) (C := 64) TH) (toBlk (R := 64) (C := 64) TC)) Qp))
      ⊢ wp frame (wpE (defs₀ (F := F)) Variants.none (c : Thread nD τ) none) Set.univ
        (before mS0 mS7 arg4 arg5 mH0 mH1 mH2 mS1 mS2 (Memref.isWhole_whole _) (Memref.isWhole_whole _) (Memref.isWhole_whole _)
          (Memref.isWhole_whole _) (Memref.isWhole_whole _) cc0_scratch8 cc0_scratch9 cc0_scratch10 i K) Qp := by
  unfold before
  iintro ⟨⟨%g0, H10⟩, ⟨%g1, H11⟩, ⟨%g2, H12⟩, H17, Hq0, Hq1, Hq2, Hh0, Hh1, Hh2, H4, H5, HW, HK⟩
  generalize hR : rows (F := F) (α := α) (rowInit mS0 mS7) 64 0 _ _ = R
  sl_exec
  subst hR
  iapply (wp_rows c (rowInit mS0 mS7) (fun n => iprop(arr c mS0 (seqA (i 0).val Q) ∗ arr c mS7 (initA n (seqA (i 0).val Q) S)))
    Qp (fun mi h K => wp_rowInit c (seqA (i 0).val Q) S Qp mi h K) _ 64 0 _)
  isplitl [H10 H17]
  · isplitl [H10]
    · iapply (arr_of_landed c mS0 (View.set_whole _) (slice_read c i h0))
      iexact H10
    rw [initA_zero]
    iexact H17
  iintro ⟨H10, H17⟩
  icases (arr_open c arg4 TH) $$ H4 with ⟨%f4, H4, %h4⟩
  icases (arr_open c arg5 TC) $$ H5 with ⟨%f5, H5, %h5⟩
  sl_exec
  rw [load_blk h4 (0, 0) rfl inb_S64x64_S64x64_0_0, load_blk h5 (0, 0) rfl inb_S64x64_S64x64_0_0, loadAt_zero TH, loadAt_zero TC]
  iapply HK
  isplitl [H10]; · iexact H10
  isplitl [H11]
  · iapply (arr_of_landed c mS1 (View.set_whole _) h1)
    iexact H11
  isplitl [H12]
  · iapply (arr_of_landed c mS2 (View.set_whole _) h2)
    iexact H12
  isplitl [H17]; · iexact H17
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [H4]
  · iapply (arr_close c arg4 h4); iexact H4
  isplitl [H5]
  · iapply (arr_close c arg5 h5); iexact H5
  iexists _; iexact HW

theorem bind_def {α β : Type} (p : Prog (Eff F) α) (k : α → Prog (Eff F) β) : Prog.bind p k = p >>= k := rfl
theorem arr_any {sp : Space} {R C : ℕ} {e : EltTy} (hR : 0 < R) (hC : 0 < C) (c : Dev nD) (M : Memref sig .tc sp (Blk R C) e) (hM : M.view.set = Finset.univ) (f : HbBuf F c M) :
    (hbPt c M f : sProp 𝕄) ⊢ arr c M (ofBlk hR hC (M.view.read (Elt F) f)) := arr_of_pts c M hM (isArr_ofBlk hR hC _)

variable {arg1 : Memref sig .tc .smem S64x125 .i32} {arg9 : Memref sig .tc .vmem S64x512 .f32}
  {arg2 : Memref sig .tc .vmem S1x256 .f32} {arg3 : Memref sig .tc .vmem S1x2560 .f32}

/-- The state of a point before the loop, over stacks that hold `S` at the start. -/
def st0 (Q TH TC S : Arr (Elt F .f32)) : St F := ⟨toBlk (R := 64) (C := 64) TH, toBlk (R := 64) (C := 64) TC, initA 64 Q S⟩
/-- What a point's result holds, over stacks that hold `S` at the start. -/
def outOf (E : Env F) (TH TC S : Arr (Elt F .f32)) : Arr (Elt F .f32) := outA E.C (run E (st0 E.Q TH TC S) 125).S

/-- The body at the grid's point `i`: the result's buffer ends at `outOf`, over whatever the stacks held; all else is as it was, up to the
    buffers that the kernel uses for itself. -/
theorem wp_body (c : Dev nD) (i : grid0.Coords) (C : Arr (BitVec 32)) (TH TC Q W U bg bc X9 : Arr (Elt F .f32))
    (f0 : HbBuf F c mH0) (f1 : HbBuf F c mH1) (f2 : HbBuf F c mH2)
    (h0 : IsArr (mH0.view.read (Elt F) f0) Q) (h1 : IsArr (mH1.view.read (Elt F) f1) W) (h2 : IsArr (mH2.view.read (Elt F) f2) U)
    (hC : ∀ mi < 64, ∀ t < 125, Ok (C (mi, t))) (Wt : Waits sig Unit) (Qp : PUnit → sProp 𝕄) :
    iprop((∃ f, hbPt c mS0 f) ∗ (∃ f, hbPt c mS1 f) ∗ (∃ f, hbPt c mS2 f) ∗ (∃ f, hbPt c mS3 f) ∗ (∃ f, hbPt c mS4 f) ∗ (∃ f, hbPt c mS5 f)
      ∗ (∃ f, hbPt c mS6 f) ∗ (∃ f, hbPt c mS7 f)
      ∗ semVal ((c : Thread nD τ), SemLoc.dma 10) 0 ∗ semVal ((c : Thread nD τ), SemLoc.dma 11) 0 ∗ semVal ((c : Thread nD τ), SemLoc.dma 12) 0
      ∗ hbPt c mH0 f0 ∗ hbPt c mH1 f1 ∗ hbPt c mH2 f2
      ∗ arr c arg1 C ∗ arr c arg2 bg ∗ arr c arg3 bc ∗ arr c arg4 TH ∗ arr c arg5 TC ∗ arr c arg9 X9 ∗ owes (c : Thread nD τ) 0 Wt
      ∗ (∀ S, iprop((∃ f, hbPt c mS0 f) ∗ (∃ f, hbPt c mS1 f) ∗ (∃ f, hbPt c mS2 f) ∗ (∃ f, hbPt c mS3 f) ∗ (∃ f, hbPt c mS4 f) ∗ (∃ f, hbPt c mS5 f)
          ∗ (∃ f, hbPt c mS6 f) ∗ (∃ f, hbPt c mS7 f)
          ∗ semVal ((c : Thread nD τ), SemLoc.dma 10) 0 ∗ semVal ((c : Thread nD τ), SemLoc.dma 11) 0 ∗ semVal ((c : Thread nD τ), SemLoc.dma 12) 0
          ∗ hbPt c mH0 f0 ∗ hbPt c mH1 f1 ∗ hbPt c mH2 f2
          ∗ arr c arg1 C ∗ arr c arg2 bg ∗ arr c arg3 bc ∗ arr c arg4 TH ∗ arr c arg5 TC
          ∗ arr c arg9 (outOf ⟨C, seqA (i 0).val Q, W, U, bg, bc⟩ TH TC S) ∗ (∃ W', owes (c : Thread nD τ) 0 W')) -∗ Qp ⟨⟩))
      ⊢ wp frame (wpE (defs₀ (F := F)) Variants.none (c : Thread nD τ) none) Set.univ
        (body arg1 arg9 mS0 mS3 mS4 mS5 mS6 mS7 arg2 arg3 arg4 arg5 mH0 mH1 mH2 mS1 mS2 (Memref.isWhole_whole _) (Memref.isWhole_whole _)
          (Memref.isWhole_whole _) (Memref.isWhole_whole _) (Memref.isWhole_whole _) cc0_scratch8 cc0_scratch9 cc0_scratch10 i) Qp := by
  unfold body
  iintro ⟨H10, H11, H12, ⟨%g3, H13⟩, ⟨%g4, H14⟩, ⟨%g5, H15⟩, ⟨%g6, H16⟩, ⟨%g7, H17⟩, Hq0, Hq1, Hq2, Hh0, Hh1, Hh2, H1, H2, H3, H4, H5, H9, HW, HK⟩
  iapply (wp_before c i TH TC (ofBlk (R := 4608) (C := 1024) (by omega) (by omega) (mS7.view.read (Elt F) g7)) Q W U f0 f1 f2 h0 h1 h2 _ Wt Qp)
  isplitl [H10]; · iexact H10
  isplitl [H11]; · iexact H11
  isplitl [H12]; · iexact H12
  isplitl [H17]
  · iapply (arr_any (Nat.succ_pos 4607) (Nat.succ_pos 1023) c mS7 (View.set_whole _) g7)
    iexact H17
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [H4]; · iexact H4
  isplitl [H5]; · iexact H5
  isplitl [HW]; · iexact HW
  iintro ⟨H10, H11, H12, H17, Hq0, Hq1, Hq2, Hh0, Hh1, Hh2, H4, H5, HW⟩
  generalize (ofBlk (R := 4608) (C := 1024) _ _ (mS7.view.read (Elt F) g7)) = S
  simp only [Prog.bind]
  rw [bind_def, wp_bind]
  iapply (wp_loop (arg1 := arg1) (arg10 := mS0) (arg13 := mS3) (arg14 := mS4) (arg15 := mS5) (arg16 := mS6) (arg17 := mS7) (arg2 := arg2) (arg3 := arg3)
    (arg11 := mS1) (arg12 := mS2) c ⟨C, seqA (i 0).val Q, W, U, bg, bc⟩ hC (st0 (seqA (i 0).val Q) TH TC S) _)
  unfold mem
  isplitl [H1 H10 H17 H13 H14 H15 H16 H2 H3 H11 H12]
  · isplitl [H1]; · iexact H1
    isplitl [H10]; · iexact H10
    isplitl [H17]; · iexact H17
    isplitl [H13]; · iexists _; iapply (arr_any (Nat.succ_pos 63) (Nat.succ_pos 1023) c mS3 (View.set_whole _) g3); iexact H13
    isplitl [H14]; · iexists _; iapply (arr_any (Nat.succ_pos 63) (Nat.succ_pos 1023) c mS4 (View.set_whole _) g4); iexact H14
    isplitl [H15]; · iexists _; iapply (arr_any (Nat.succ_pos 63) (Nat.succ_pos 1023) c mS5 (View.set_whole _) g5); iexact H15
    isplitl [H16]; · iexists _; iapply (arr_any (Nat.succ_pos 63) (Nat.succ_pos 127) c mS6 (View.set_whole _) g6); iexact H16
    isplitl [H2]; · iexact H2
    isplitl [H3]; · iexact H3
    isplitl [H11]; · iexact H11
    iexact H12
  iintro %acc ⟨H1, H10, H17, ⟨%X13, H13⟩, ⟨%X14, H14⟩, ⟨%X15, H15⟩, ⟨%X16, H16⟩, H2, H3, H11, H12⟩
  iapply (wp_rows c (rowOut arg1 arg9 mS7) (fun n => iprop(arr c arg1 C ∗ arr c mS7 (run ⟨C, seqA (i 0).val Q, W, U, bg, bc⟩ (st0 (seqA (i 0).val Q) TH TC S) 125).S
      ∗ arr c arg9 (below n (outOf ⟨C, seqA (i 0).val Q, W, U, bg, bc⟩ TH TC S) X9)))
    Qp (fun mi h K => wp_rowOut c C _ X9 (fun mi hmi => hC mi hmi 124 (by decide)) Qp mi h K) _ 64 0 _)
  isplitl [H1 H17 H9]
  · isplitl [H1]; · iexact H1
    isplitl [H17]; · iexact H17
    iapply arr_below_zero; iexact H9
  iintro ⟨H1, H17, H9⟩
  rw [wp_ret]
  imodintro
  iapply HK $$ %S
  isplitl [H10]; · iapply (pts_of_arr c mS0 (View.set_whole _) _); iexact H10
  isplitl [H11]; · iapply (pts_of_arr c mS1 (View.set_whole _) _); iexact H11
  isplitl [H12]; · iapply (pts_of_arr c mS2 (View.set_whole _) _); iexact H12
  isplitl [H13]; · iapply (pts_of_arr c mS3 (View.set_whole _) _); iexact H13
  isplitl [H14]; · iapply (pts_of_arr c mS4 (View.set_whole _) _); iexact H14
  isplitl [H15]; · iapply (pts_of_arr c mS5 (View.set_whole _) _); iexact H15
  isplitl [H16]; · iapply (pts_of_arr c mS6 (View.set_whole _) _); iexact H16
  isplitl [H17]; · iapply (pts_of_arr c mS7 (View.set_whole _) _); iexact H17
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [H1]; · iexact H1
  isplitl [H2]; · iexact H2
  isplitl [H3]; · iexact H3
  isplitl [H4]; · iexact H4
  isplitl [H5]; · iexact H5
  isplitl [H9]; · iapply arr_below_all; iexact H9
  iexact HW

end Cert.KernelIdeal.Row

end
-- ==== Proof.KernelIdealIndep.lean ====
/- What the stacks hold before a row is written does not matter: with code words of a valid run, a step reads only rows
   that were written before. -/
module

public import proofs.«01_k».proof.Proof.KernelIdealBody
public import Idealize.ShloMosaic.Lib.Updates.Window

@[expose] public section

noncomputable section

namespace Cert.KernelIdeal.Row

open Idealize.ShloMosaic Idealize.ShloMosaic.TcCoe LaneScatter Idealize.ShloMosaic.Updates
open Cert.KernelIdeal Facts₀ Facts Cert.Words

variable [Facts] {F : FTy → Type} [FloatOps F]

/-- How many rows of stack `mi` are written before step `t`. -/
def dep (C : Arr (BitVec 32)) (mi : ℕ) : ℕ → ℕ
  | 0 => 2
  | t + 1 => wW (C (mi, t)) + 1

/-- Two stacks agree on the rows that are written before step `t`. -/
def Agree (C : Arr (BitVec 32)) (t : ℕ) (S S' : Arr (Elt F .f32)) : Prop :=
  ∀ mi < 64, ∀ j < dep C mi t, ∀ b, S (mi * 72 + j, b) = S' (mi * 72 + j, b)

theorem init_agree (C : Arr (BitVec 32)) (Q S S' : Arr (Elt F .f32)) : Agree C 0 (initA 64 Q S) (initA 64 Q S') := by
  intro mi hmi j hj b
  have hj : j < 2 := hj
  unfold initA
  dsimp only
  rw [if_pos (by omega), if_pos (by omega)]

theorem step_agree (E : Env F) (hC : Valid E.C) (t : ℕ) (ht : t < 125) (s s' : St F) (h1 : s.th = s'.th) (h2 : s.tc = s'.tc) (h : Agree E.C t s.S s'.S) :
    (stepS E t s).th = (stepS E t s').th ∧ (stepS E t s).tc = (stepS E t s').tc ∧ Agree E.C (t + 1) (stepS E t s).S (stepS E t s').S := by
  have hd : ∀ mi < 64, dep E.C mi t = wD (E.C (mi, t)) := by
    intro mi hmi
    match t with
    | 0 => exact (hC.first mi hmi).symm
    | t + 1 => exact (hC.next mi hmi t ht).symm
  have eT : (toBlk (topA E.C t s.S) : (Blk 64 1024).Idx → _) = toBlk (topA E.C t s'.S) := toBlk_congr fun a b ha _ => by
    have := (hC.ok a ha t ht).two
    exact h a ha (wD (E.C (a, t)) - 1) (by rw [hd a ha]; omega) b
  have eZ : (toBlk (secA E.C t s.S) : (Blk 64 1024).Idx → _) = toBlk (secA E.C t s'.S) := toBlk_congr fun a b ha _ => by
    have := (hC.ok a ha t ht).two
    exact h a ha (wD (E.C (a, t)) - 2) (by rw [hd a ha]; omega) b
  have eG : gatesA E (topA E.C t s.S) (secA E.C t s.S) (bufA E.C t E.Q) s.th = gatesA E (topA E.C t s'.S) (secA E.C t s'.S) (bufA E.C t E.Q) s'.th := by
    unfold gatesA
    rw [eT, eZ, h1]
  have eth : thS E t s = thS E t s' := by unfold thS; rw [eG, h2]
  have etc : tcS E t s = tcS E t s' := by unfold tcS; rw [eG, h2]
  have eP : pushS E t s = pushS E t s' := by
    unfold pushS pushA cellA
    rw [eT, eZ, eth]
  refine ⟨eth, etc, ?_⟩
  intro mi hmi j hj b
  have hj : j < wW (E.C (mi, t)) + 1 := hj
  have hp := (hC.ok mi hmi t ht).place
  have hl := (hC.ok mi hmi t ht).wle
  unfold stepS
  dsimp only
  rw [eP]
  unfold wrA
  dsimp only
  rw [show (mi * 72 + j) / 72 = mi by omega, show (mi * 72 + j) % 72 = j by omega]
  by_cases hw : j = wW (E.C (mi, t))
  · rw [if_pos ⟨hmi, hw⟩, if_pos ⟨hmi, hw⟩]
  · rw [if_neg (fun q => hw q.2), if_neg (fun q => hw q.2)]
    exact h mi hmi j (by rw [hd mi hmi]; omega) b

theorem run_agree (E : Env F) (hC : Valid E.C) (TH TC S S' : Arr (Elt F .f32)) : ∀ n ≤ 125,
    (run E (st0 E.Q TH TC S) n).th = (run E (st0 E.Q TH TC S') n).th ∧ (run E (st0 E.Q TH TC S) n).tc = (run E (st0 E.Q TH TC S') n).tc
      ∧ Agree E.C n (run E (st0 E.Q TH TC S) n).S (run E (st0 E.Q TH TC S') n).S
  | 0, _ => ⟨rfl, rfl, init_agree _ _ _ _⟩
  | n + 1, h => by
    obtain ⟨h1, h2, h3⟩ := run_agree E hC TH TC S S' n (by omega)
    exact step_agree E hC n (by omega) _ _ h1 h2 h3

/-- The result does not depend on what the stacks held. -/
theorem outOf_congr (E : Env F) (hC : Valid E.C) (TH TC S S' : Arr (Elt F .f32)) (a b : ℕ) (ha : a < 64) :
    outOf E TH TC S (a, b) = outOf E TH TC S' (a, b) :=
  (run_agree E hC TH TC S S' 125 le_rfl).2.2 a ha _ (Nat.lt_succ_self _) b

end Cert.KernelIdeal.Row

end
-- ==== Proof.KernelIdealData.lean ====
/- The launch of the kernel's one region: the proof data, and the blocks of the operands. -/
module

public import proofs.«01_k».proof.Proof.Gen.KernelIdeal.Launch
public import proofs.«01_k».proof.Proof.Gen.KernelIdeal.Points
public import Idealize.ShloMosaic.Lib.Pipeline.FrameBody
public import Idealize.ShloMosaic.Lib.Updates.Window
public import Idealize.ShloMosaic.Lib.Pipeline.ValueKit
public import proofs.«01_k».proof.Proof.Pre
public import proofs.«01_k».proof.Proof.KernelIdealHost
public import proofs.«01_k».proof.Proof.KernelIdealBodyEq
public import proofs.«01_k».proof.Proof.KernelIdealBody
public import proofs.«01_k».proof.Proof.KernelIdealIndep

@[expose] public section

noncomputable section

namespace Cert.KernelIdeal.Row

open Idealize.ShloMosaic Idealize.ShloMosaic.TcCoe LaneScatter Idealize.ShloMosaic.Tactic Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Words

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by repeat' constructor) fun c => main_chain c

/-! ## The region's operands as arrays -/

theorem p1 : 0 < 1 := Nat.one_pos
def cA (c : Dev nD) : Arr (BitVec 32) := codeA (trA (m ((c : Thread nD τ).loc main_arg1)))
def bgA (c : Dev nD) : Arr (Elt F .f32) := ofBlk (R := 1) (C := 256) p1 (Nat.succ_pos 255) (V m c main_call0_v34)
def bcA (c : Dev nD) : Arr (Elt F .f32) := ofBlk (R := 1) (C := 2560) p1 (Nat.succ_pos 2559) (V m c main_call0_v35)
def thA (c : Dev nD) : Arr (Elt F .f32) := ofBlk (R := 512) (C := 64) (Nat.succ_pos 511) (Nat.succ_pos 63) (V m c main_arg11)
def tcA (c : Dev nD) : Arr (Elt F .f32) := ofBlk (R := 512) (C := 64) (Nat.succ_pos 511) (Nat.succ_pos 63) (V m c main_arg12)
def qA (c : Dev nD) : Arr (Elt F .f32) := ofBlk (R := 32768) (C := 1024) (Nat.succ_pos 32767) (Nat.succ_pos 1023) (V m c main_call0_v30)
def wA (c : Dev nD) : Arr (Elt F .f32) := ofBlk (R := 1600) (C := 256) (Nat.succ_pos 1599) (Nat.succ_pos 255) (V m c main_call0_v31)
def uA (c : Dev nD) : Arr (Elt F .f32) := ofBlk (R := 1600) (C := 2560) (Nat.succ_pos 1599) (Nat.succ_pos 2559) (V m c main_call0_v32)

/-- The coordinate of a point. -/
def pt (t : Fin cfg0.N) : ℕ := (grid0.coords t 0).val
def envA (c : Dev nD) (t : Fin cfg0.N) : Env F := ⟨loadAt (64 * pt t, 0) (cA m c), seqA (pt t) (qA m c), wA m c, uA m c, bgA m c, bcA m c⟩
/-- What the result's block holds after the body at point `t`. -/
def resA (c : Dev nD) (t : Fin cfg0.N) : Arr (Elt F .f32) :=
  outOf (envA m c t) (loadAt (64 * pt t, 0) (thA m c)) (loadAt (64 * pt t, 0) (tcA m c)) (fun _ => Scalar.ofBits .f32 0)

/-! ## The proof data -/

abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0
          ∗ semVal ((c : Thread nD τ), SemLoc.dma 12) 0) := by
  rw [Pipeline.ownSems0_eq_of_list c osem0 [0, 1, 2] (by decide) (by decide)]; rfl
def H0 : Finset (Ref sig .tc) := {main_call0_v30, main_call0_v31, main_call0_v32}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c mH0 (V m c main_call0_v30) ∗ hbPt c mH1 (V m c main_call0_v31) ∗ hbPt c mH2 (V m c main_call0_v32)) :=
  BI.bigSep_eq_bigSepL_of_eq [main_call0_v30, main_call0_v31, main_call0_v32] (by decide) (by decide) _

/-- An operand's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => toBlk (R := 64) (C := 512) (resA m c t)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_5 (c : Dev nD) (t : Fin cfg0.N) : (dats m 0 c).after 5 t = toBlk (R := 64) (C := 512) (resA m c t) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl

/-! ## The operands' blocks as arrays -/

theorem ix0_0 : ∀ t : Fin cfg0.N, win0_0.index t = ![(grid0.coords t 0).val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![(grid0.coords t 0).val, 0] := (by decide +kernel : ∀ t : Fin grid0.N, _)
theorem ix0_4 : ∀ t : Fin cfg0.N, win0_4.index t = ![(grid0.coords t 0).val, 0] := (by decide +kernel : ∀ t : Fin grid0.N, _)
theorem isArr_codesV (c : Dev nD) : IsArr (R := 512) (C := 125) (V m c main_call0_v29) (cA m c) := fun ι => by
  rw [V_codes, ValueIdx.eq_ix2 ι]
  exact isArr_codes _ _ _ _ _ _ _ _ _ _ (trA_at _) (ι 0) (ι 1)
theorem isArr_i0 (c : Dev nD) (t : Fin cfg0.N) : IsArr (R := 64) (C := 125) (iblk m c 0 t) (loadAt (64 * pt t, 0) (cA m c)) :=
  isArr_window (isArr_codesV m c) _ (fun j => (win0_0.blk t).view.emb j) (64 * pt t, 0) (fun _ => rfl)
    (fun j => by blk_simp [ix0_0]; exact congrArg (· + (j 0).val) (Nat.mul_comm _ _))
    (fun j => by blk_simp [ix0_0]; exact (Nat.zero_add _).symm)
theorem isArr_j1 (c : Dev nD) (t : Fin cfg0.N) : IsArr (R := 1) (C := 256) (iblk m c 1 t) (loadAt (0, 0) (bgA m c)) :=
  isArr_window (isArr_ofBlk _ _ (V m c main_call0_v34)) _ (fun j => (win0_1.blk t).view.emb j) (0, 0) (fun _ => rfl)
    (fun j => by blk_simp [ix0_1])
    (fun j => by blk_simp [ix0_1]; exact (Nat.zero_add _).symm)
theorem isArr_j2 (c : Dev nD) (t : Fin cfg0.N) : IsArr (R := 1) (C := 2560) (iblk m c 2 t) (loadAt (0, 0) (bcA m c)) :=
  isArr_window (isArr_ofBlk _ _ (V m c main_call0_v35)) _ (fun j => (win0_2.blk t).view.emb j) (0, 0) (fun _ => rfl)
    (fun j => by blk_simp [ix0_2])
    (fun j => by blk_simp [ix0_2]; exact (Nat.zero_add _).symm)
theorem isArr_i3 (c : Dev nD) (t : Fin cfg0.N) : IsArr (R := 64) (C := 64) (iblk m c 3 t) (loadAt (64 * pt t, 0) (thA m c)) :=
  isArr_window (isArr_ofBlk _ _ (V m c main_arg11)) _ (fun j => (win0_3.blk t).view.emb j) (64 * pt t, 0) (fun _ => rfl)
    (fun j => by blk_simp [ix0_3]; exact congrArg (· + (j 0).val) (Nat.mul_comm _ _))
    (fun j => by blk_simp [ix0_3]; exact (Nat.zero_add _).symm)
theorem isArr_i4 (c : Dev nD) (t : Fin cfg0.N) : IsArr (R := 64) (C := 64) (iblk m c 4 t) (loadAt (64 * pt t, 0) (tcA m c)) :=
  isArr_window (isArr_ofBlk _ _ (V m c main_arg12)) _ (fun j => (win0_4.blk t).view.emb j) (64 * pt t, 0) (fun _ => rfl)
    (fun j => by blk_simp [ix0_4]; exact congrArg (· + (j 0).val) (Nat.mul_comm _ _))
    (fun j => by blk_simp [ix0_4]; exact (Nat.zero_add _).symm)
theorem isArr_i1 (c : Dev nD) (t : Fin cfg0.N) : IsArr (iblk m c 1 t) (bgA m c) :=
  (isArr_j1 m c t).congr fun a b _ _ => by unfold loadAt; rw [Nat.zero_add, Nat.zero_add]
theorem isArr_i2 (c : Dev nD) (t : Fin cfg0.N) : IsArr (iblk m c 2 t) (bcA m c) :=
  (isArr_j2 m c t).congr fun a b _ _ => by unfold loadAt; rw [Nat.zero_add, Nat.zero_add]

/-! ## The body at a point -/

theorem arr_of_owns {sp : Space} {R C : ℕ} {e : EltTy} (c : Dev nD) (M : Memref sig .tc sp (Blk R C) e) {X : (Blk R C).Idx → Elt F e} {A : Arr (Elt F e)}
    (h : IsArr X A) : (owns (c : Thread nD τ) M fullShare X : sProp 𝕄) ⊢ arr c M A := by
  unfold arr
  exact owns_isArr (c : Thread nD τ) M h
theorem owns_of_arr {sp : Space} {R C : ℕ} {e : EltTy} (c : Dev nD) (M : Memref sig .tc sp (Blk R C) e) {X : (Blk R C).Idx → Elt F e} {A : Arr (Elt F e)}
    (h : IsArr X A) : (arr c M A : sProp 𝕄) ⊢ owns (c : Thread nD τ) M fullShare X := by
  unfold arr
  rw [isArr_iff.mp h]
  iintro ⟨%f, H, %hf⟩
  iapply (isArr_owns (c : Thread nD τ) M hf)
  iexact H

theorem PhiD0_eq (c : Dev nD) :
    (Pipeline.ΦD osem0 spec0 H0 (V m) c : sProp 𝕄)
      = iprop(iprop((∃ f, hbPt c mS0 f) ∗ (∃ f, hbPt c mS1 f) ∗ (∃ f, hbPt c mS2 f) ∗ (∃ f, hbPt c mS3 f) ∗ (∃ f, hbPt c mS4 f) ∗ (∃ f, hbPt c mS5 f)
                ∗ (∃ f, hbPt c mS6 f) ∗ (∃ f, hbPt c mS7 f))
          ∗ (∃ r, prngReg c r)
          ∗ iprop(semVal ((c : Thread nD τ), SemLoc.dma 10) 0 ∗ semVal ((c : Thread nD τ), SemLoc.dma 11) 0
                  ∗ semVal ((c : Thread nD τ), SemLoc.dma 12) 0)
          ∗ iprop(hbPt c mH0 (V m c main_call0_v30) ∗ hbPt c mH1 (V m c main_call0_v31) ∗ hbPt c mH2 (V m c main_call0_v32))) := by
  rw [Pipeline.ΦD_eq, scopedRest0_eq, ownSems00_eq, hbmPts0_eq]

abbrev ms0_0 (t : Fin cfg0.N) : Memref sig .tc .smem S64x125 .i32 := win0_0.stage (cfg0.slots t 0)
abbrev ms0_1 (t : Fin cfg0.N) : Memref sig .tc .vmem S1x256 .f32 := win0_1.stage (cfg0.slots t 1)
abbrev ms0_2 (t : Fin cfg0.N) : Memref sig .tc .vmem S1x2560 .f32 := win0_2.stage (cfg0.slots t 2)
abbrev ms0_3 (t : Fin cfg0.N) : Memref sig .tc .vmem S64x64 .f32 := win0_3.stage (cfg0.slots t 3)
abbrev ms0_4 (t : Fin cfg0.N) : Memref sig .tc .vmem S64x64 .f32 := win0_4.stage (cfg0.slots t 4)
abbrev ms0_5 (t : Fin cfg0.N) : Memref sig .tc .vmem S64x512 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

end Cert.KernelIdeal.Row

end
-- ==== Proof.KernelIdealLaunch.lean ====
/- The launch of the kernel's one region: the body at each point of the grid, and the run. -/
module

public import proofs.«01_k».proof.Proof.KernelIdealData

@[expose] public section

noncomputable section

namespace Cert.KernelIdeal.Row

open Idealize.ShloMosaic Idealize.ShloMosaic.TcCoe LaneScatter Idealize.ShloMosaic.Tactic Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Words

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-- Every transition of the operand is in order: what the precondition says. -/
abbrev RowsOk : Prop := ∀ c : Dev nD, ∀ i < 512, RowOk fun t => trA (m ((c : Thread nD τ).loc main_arg1)) (i, t)

theorem pt_lt (t : Fin cfg0.N) : pt t < 8 := (grid0.coords t 0).isLt
theorem valid_C (hv : RowsOk m) (c : Dev nD) (t : Fin cfg0.N) : Valid (loadAt (64 * pt t, 0) (cA m c)) :=
  valid_block _ _ fun mi hmi => hv c _ (by have := pt_lt t; omega)

set_option maxHeartbeats 1000000 in
theorem sound_body (hv : RowsOk m) (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl, body_eq]
  iintro ⟨⟨⟨HS0, HS1, HS2, HS3, HS4, HS5, HS6, HS7⟩, Hg, ⟨Hq0, Hq1, Hq2⟩, ⟨Hh0, Hh1, Hh2⟩⟩, ⟨%W, -, HW⟩, ⟨%d0, B0⟩, ⟨%d1, B1⟩, ⟨%d2, B2⟩, ⟨%d3, B3⟩, ⟨%d4, B4⟩, ⟨%d5, B5⟩⟩
  iapply (wp_body c (grid0.coords t) (loadAt (64 * pt t, 0) (cA m c)) (loadAt (64 * pt t, 0) (thA m c)) (loadAt (64 * pt t, 0) (tcA m c))
    (qA m c) (wA m c) (uA m c) (bgA m c) (bcA m c) (ofBlk (R := 64) (C := 512) (Nat.succ_pos 63) (Nat.succ_pos 511) ((dats m 0 c).before 5 t d5))
    (V m c main_call0_v30) (V m c main_call0_v31) (V m c main_call0_v32)
    (isArr_ofBlk _ _ _) (isArr_ofBlk _ _ _) (isArr_ofBlk _ _ _) (valid_C m hv c t).ok W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [B0]; · iapply (arr_of_owns c (ms0_0 t) (isArr_i0 m c t)); iexact B0
  isplitl [B1]; · iapply (arr_of_owns c (ms0_1 t) (isArr_i1 m c t)); iexact B1
  isplitl [B2]; · iapply (arr_of_owns c (ms0_2 t) (isArr_i2 m c t)); iexact B2
  isplitl [B3]; · iapply (arr_of_owns c (ms0_3 t) (isArr_i3 m c t)); iexact B3
  isplitl [B4]; · iapply (arr_of_owns c (ms0_4 t) (isArr_i4 m c t)); iexact B4
  isplitl [B5]; · iapply (arr_of_owns c (ms0_5 t) (isArr_ofBlk _ _ _)); iexact B5
  isplitl [HW]; · iexact HW
  iintro %S ⟨HS0, HS1, HS2, HS3, HS4, HS5, HS6, HS7, Hq0, Hq1, Hq2, Hh0, Hh1, Hh2, B0, B1, B2, B3, B4, B5, ⟨%W', HW'⟩⟩
  isplitl [HS0 HS1 HS2 HS3 HS4 HS5 HS6 HS7 Hg Hq0 Hq1 Hq2 Hh0 Hh1 Hh2]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [B0]; · iapply (owns_of_arr c (ms0_0 t) (isArr_i0 m c t)); iexact B0
  isplitl [B1]; · iapply (owns_of_arr c (ms0_1 t) (isArr_i1 m c t)); iexact B1
  isplitl [B2]; · iapply (owns_of_arr c (ms0_2 t) (isArr_i2 m c t)); iexact B2
  isplitl [B3]; · iapply (owns_of_arr c (ms0_3 t) (isArr_i3 m c t)); iexact B3
  isplitl [B4]; · iapply (owns_of_arr c (ms0_4 t) (isArr_i4 m c t)); iexact B4
  iapply (owns_of_arr c (ms0_5 t) ((isArr_toBlk (resA m c t)).congr fun a b ha hb =>
    outOf_congr (envA m c t) (valid_C m hv c t) _ _ (fun _ => Scalar.ofBits .f32 0) S a b ha))
  iexact B5

theorem defs₀_row (t : Fin cfg0.N) :
    defs₀ (F := F) .tc cfg0.body (cfg0.bodyArgs t (cfg0.slots t)) = bodyAt0 t := by
  unfold defs₀; rw [Defs.onTc_tc]

theorem body_obligation (hv : RowsOk m) (c : Dev nD) : BodyObligation (dats (F := F) m 0 c) (defs₀ (F := F)) Variants.none () Set.univ := fun t => by
  rw [bigSep_W0, bigSep_W0, defs₀_row]
  exact triple_restated (sound_body m hv c t) rfl .rfl fun _ => .rfl

/-! ## The run and the frame -/

set_option backward.isDefEq.respectTransparency.types false in
theorem run_main (hv : RowsOk m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hv c).loose) (hshare := fun c => (dats m 0 c).share_full fun _ => rfl)
    (howed := fun _ _ => rfl) (V := V m) (hmain := hmain m Variants.none) (hA := A_eq m)
    (hin := fun _ => .rfl) (hout := fun _ => .rfl)

/-- What the run leaves: every operand as it was, every counter at zero, and the result's array as the proof data computes it. -/
theorem run_all (hv : RowsOk m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) ∧ ∀ c : Dev nD, r.2.mem ((c.tc : Thread nD τ).loc main_v0) = (dats m 0 c).arrAt 5 cfg0.N) :=
  (θ_run defs _ _).mono (fun r h => ⟨⟨fun c => ⟨((h.1 c).2 main_arg0 (Pipeline.mem_restRefs_of main_arg0 (by decide) (by decide))).trans (V_arg0 m c),
    ((h.1 c).2 main_arg1 (Pipeline.mem_restRefs_of main_arg1 (by decide) (by decide))).trans (V_arg1 m c),
    ((h.1 c).2 main_arg2 (Pipeline.mem_restRefs_of main_arg2 (by decide) (by decide))).trans (V_arg2 m c),
    ((h.1 c).2 main_arg3 (Pipeline.mem_restRefs_of main_arg3 (by decide) (by decide))).trans (V_arg3 m c),
    ((h.1 c).2 main_arg4 (Pipeline.mem_restRefs_of main_arg4 (by decide) (by decide))).trans (V_arg4 m c),
    ((h.1 c).2 main_arg5 (Pipeline.mem_restRefs_of main_arg5 (by decide) (by decide))).trans (V_arg5 m c),
    ((h.1 c).2 main_arg6 (Pipeline.mem_restRefs_of main_arg6 (by decide) (by decide))).trans (V_arg6 m c),
    ((h.1 c).2 main_arg7 (Pipeline.mem_restRefs_of main_arg7 (by decide) (by decide))).trans (V_arg7 m c),
    ((h.1 c).2 main_arg8 (Pipeline.mem_restRefs_of main_arg8 (by decide) (by decide))).trans (V_arg8 m c),
    ((h.1 c).2 main_arg9 (Pipeline.mem_restRefs_of main_arg9 (by decide) (by decide))).trans (V_arg9 m c),
    ((h.1 c).2 main_arg10 (Pipeline.mem_restRefs_of main_arg10 (by decide) (by decide))).trans (V_arg10 m c),
    ((h.1 c).1 3).trans (((dats m 0 c).arrAt_in 3 rfl _).trans ((A_eq m c 3).trans (V_arg11 m c))),
    ((h.1 c).1 4).trans (((dats m 0 c).arrAt_in 4 rfl _).trans ((A_eq m c 4).trans (V_arg12 m c)))⟩, h.2⟩, fun c => (h.1 c).1 5⟩) (run_main m ρ hv)

theorem frame0 (hv : RowsOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => h.1) (run_all m ρ hv)

end Cert.KernelIdeal.Row

end
-- ==== Proof.Spec.lean ====
/- One row of the network as plain arithmetic: a stack of rows of 1024 numbers, a tracker of 64 cells, and one step of both. -/
module

public import proofs.«01_k».proof.Proof.Codes
public import Idealize.ShloMosaic.Lib.Pointwise

@[expose] public section

noncomputable section

namespace Cert.Spec

open Idealize.ShloMosaic Cert.Words

/-- The weights: the tracker's two tables and bias, the composition's four tables and bias. -/
structure Wt where
  wih : ℕ → ℕ → EReal
  whh : ℕ → ℕ → EReal
  b : ℕ → EReal
  uw : ℕ → ℕ → EReal
  ul : ℕ → ℕ → EReal
  ur : ℕ → ℕ → EReal
  uc : ℕ → ℕ → EReal
  ub : ℕ → EReal

/-- A row's stack and tracker. -/
structure Rw where
  st : ℕ → ℕ → EReal
  th : ℕ → EReal
  tc : ℕ → EReal

/-- The logistic function and the hyperbolic tangent. -/
def sg (x : EReal) : EReal := Ideal.logistic x
def tn (x : EReal) : EReal := Ideal.tanh x

/-- The tracker's pre-activations from the front row, the top row, the second row and the hidden state. -/
def gate (w : Wt) (B T Z H : ℕ → EReal) (j : ℕ) : EReal :=
  (∑ k : Fin 512, B k.val * w.wih k.val j) + (∑ k : Fin 512, T k.val * w.wih (512 + k.val) j)
    + (∑ k : Fin 512, Z k.val * w.wih (1024 + k.val) j) + (∑ k : Fin 64, H k.val * w.whh k.val j) + w.b j
/-- The tracker's new cell and hidden state. -/
def tcell (g c : ℕ → EReal) (k : ℕ) : EReal := sg (g (64 + k)) * c k + sg (g k) * tn (g (128 + k))
def thid (g c : ℕ → EReal) (k : ℕ) : EReal := sg (g (192 + k)) * tn (tcell g c k)
/-- The head and the child of a reduce. -/
def head (tr : ℕ) (T Z : ℕ → EReal) : ℕ → EReal := if tr = 2 then T else Z
def child (tr : ℕ) (T Z : ℕ → EReal) : ℕ → EReal := if tr = 2 then Z else T
/-- The composition's pre-activations. -/
def comp (w : Wt) (tr : ℕ) (T Z H : ℕ → EReal) (j : ℕ) : EReal :=
  (∑ k : Fin 512, head tr T Z k.val * w.uw k.val j)
    + (∑ k : Fin 512, child tr T Z k.val * (if tr = 2 then w.ul k.val j else w.ur k.val j))
    + (∑ k : Fin 64, H k.val * w.uc k.val j) + w.ub j
/-- The composed cell and hidden state. -/
def cnew (tr : ℕ) (g T Z : ℕ → EReal) (k : ℕ) : EReal :=
  sg (g k) * tn (g (2048 + k)) + sg (g (1024 + k)) * head tr T Z (512 + k) + sg (g (1536 + k)) * child tr T Z (512 + k)
def hnew (tr : ℕ) (g T Z : ℕ → EReal) (k : ℕ) : EReal := sg (g (512 + k)) * tn (cnew tr g T Z k)
/-- The row pushed: the front row on a shift, the composed row elsewhere. -/
def push (w : Wt) (tr : ℕ) (B T Z H : ℕ → EReal) (k : ℕ) : EReal :=
  if tr = 1 then B k else if k < 512 then hnew tr (comp w tr T Z H) T Z k else cnew tr (comp w tr T Z H) T Z (k - 512)

/-- One step at depth `d` with the sequence's front at `b`. -/
def stepR (w : Wt) (q : ℕ → ℕ → EReal) (tr d b : ℕ) (s : Rw) : Rw :=
  let B := q b
  let T := s.st (d - 1)
  let Z := s.st (d - 2)
  let g := gate w B T Z s.th
  ⟨fun p c => if p = (if tr = 1 then d else d - 2) then push w tr B T Z (thid g s.tc) c else s.st p c, thid g s.tc, tcell g s.tc⟩

/-- The row before step `t`. -/
def rowRun (w : Wt) (q : ℕ → ℕ → EReal) (x : ℕ → BitVec 32) (h0 c0 : ℕ → EReal) : ℕ → Rw
  | 0 => ⟨fun p c => if p < 2 then q 0 c else 0, h0, c0⟩
  | t + 1 => stepR w q (x t).toNat (befW x t).toNat (min (posN x t) 63) (rowRun w q x h0 c0 t)

/-- The row of the result. -/
def rowOut (w : Wt) (q : ℕ → ℕ → EReal) (x : ℕ → BitVec 32) (h0 c0 : ℕ → EReal) (k : ℕ) : EReal :=
  (rowRun w q x h0 c0 125).st (if x 124 = 1#32 then (befW x 124).toNat else (befW x 124).toNat - 2) k

end Cert.Spec

end
-- ==== Proof.KernelIdealSpec.lean ====
/- The kernel's loop at the extended reals, one row at a time: each row of a block is the plain row. -/
module

public import proofs.«01_k».proof.Proof.KernelIdealStep
public import proofs.«01_k».proof.Proof.KernelIdealBody
public import proofs.«01_k».proof.Proof.Spec

@[expose] public section

set_option maxRecDepth 16384

noncomputable section

namespace Cert.KernelIdeal.Row

open Idealize.ShloMosaic Idealize.ShloMosaic.TcCoe LaneScatter Updates
open Cert.KernelIdeal Facts₀ Facts Cert.Words Cert.Spec

variable [Facts]

/-- The words of the constants two and three are these numbers. -/
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

/-- The tracker's pre-activations of a row. -/
theorem gatesV_at (w : Wt) (B T Z H : ℕ → EReal) (top sec buf : FVec Ideal S64x1024 .f32) (th : FVec Ideal S64x64 .f32) (w0 w1 w2 : FVec Ideal S512x256 .f32)
    (w3 : FVec Ideal S64x256 .f32) (b : FVec Ideal S1x256 .f32) (i : Fin 64)
    (hB : ∀ k : Fin 1024, buf (ix2 i k) = B k.val) (hT : ∀ k : Fin 1024, top (ix2 i k) = T k.val) (hZ : ∀ k : Fin 1024, sec (ix2 i k) = Z k.val)
    (hH : ∀ k : Fin 64, th (ix2 i k) = H k.val)
    (h0 : ∀ (k : Fin 512) (j : Fin 256), w0 (ix2 k j) = w.wih k.val j.val) (h1 : ∀ (k : Fin 512) (j : Fin 256), w1 (ix2 k j) = w.wih (512 + k.val) j.val)
    (h2 : ∀ (k : Fin 512) (j : Fin 256), w2 (ix2 k j) = w.wih (1024 + k.val) j.val) (h3 : ∀ (k : Fin 64) (j : Fin 256), w3 (ix2 k j) = w.whh k.val j.val)
    (hb : ∀ j : Fin 256, b (ix2 0 j) = w.b j.val) (j : Fin 256) :
    gatesV top sec buf th w0 w1 w2 w3 b (ix2 i j) = gate w B T Z H j.val := by
  pointwise [gatesV]
  simp only [hB, hT, hZ, hH, h0, h1, h2, h3, hb]
  rfl

/-- The tracker's new cell and hidden state of a row. -/
theorem tcV_at (g : FVec Ideal S64x256 .f32) (tc : FVec Ideal S64x64 .f32) (G C : ℕ → EReal) (i : Fin 64) (hg : ∀ j : Fin 256, g (ix2 i j) = G j.val)
    (hc : ∀ j : Fin 64, tc (ix2 i j) = C j.val) (j : Fin 64) : tcV g tc (ix2 i j) = tcell G C j.val := by
  pointwise [tcV]
  simp only [hg, hc]
  rfl
theorem thV_at (g : FVec Ideal S64x256 .f32) (tc : FVec Ideal S64x64 .f32) (G C : ℕ → EReal) (i : Fin 64) (hg : ∀ j : Fin 256, g (ix2 i j) = G j.val)
    (hc : ∀ j : Fin 64, tc (ix2 i j) = C j.val) (j : Fin 64) : thV g tc (ix2 i j) = thid G C j.val := by
  pointwise [tcV, thV]
  simp only [hg, hc]
  rfl

/-- Comparing the transition's number with one, two and three. -/
theorem num_one (tr : ℕ) : (((tr : ℝ) : EReal) = 1) ↔ tr = 1 := by
  rw [← EReal.coe_one, EReal.coe_eq_coe_iff]; exact_mod_cast Iff.rfl
theorem num_two (tr : ℕ) : (((tr : ℝ) : EReal) = Ideal.ofBits .f32 0x40000000#32) ↔ tr = 2 := by
  rw [ofBits_two, EReal.coe_eq_coe_iff]; exact_mod_cast Iff.rfl
theorem num_three (tr : ℕ) : (((tr : ℝ) : EReal) = Ideal.ofBits .f32 0x40400000#32) ↔ tr = 3 := by
  rw [ofBits_three, EReal.coe_eq_coe_iff]; exact_mod_cast Iff.rfl

/-- The composition's pre-activations of a row that reduces. -/
theorem cellV_at (w : Wt) (tr : ℕ) (htr : tr = 2 ∨ tr = 3) (T Z H : ℕ → EReal) (mv : FVec Ideal S64x1 .f32) (top sec : FVec Ideal S64x1024 .f32)
    (th : FVec Ideal S64x64 .f32) (u0 u1 u2 : FVec Ideal S512x2560 .f32) (u3 : FVec Ideal S64x2560 .f32) (b : FVec Ideal S1x2560 .f32) (i : Fin 64)
    (hm : mv (ix2 i 0) = ((tr : ℝ) : EReal)) (hT : ∀ k : Fin 1024, top (ix2 i k) = T k.val) (hZ : ∀ k : Fin 1024, sec (ix2 i k) = Z k.val)
    (hH : ∀ k : Fin 64, th (ix2 i k) = H k.val)
    (h0 : ∀ (k : Fin 512) (j : Fin 2560), u0 (ix2 k j) = w.uw k.val j.val) (h1 : ∀ (k : Fin 512) (j : Fin 2560), u1 (ix2 k j) = w.ul k.val j.val)
    (h2 : ∀ (k : Fin 512) (j : Fin 2560), u2 (ix2 k j) = w.ur k.val j.val) (h3 : ∀ (k : Fin 64) (j : Fin 2560), u3 (ix2 k j) = w.uc k.val j.val)
    (hb : ∀ j : Fin 2560, b (ix2 0 j) = w.ub j.val) (j : Fin 2560) :
    cellV mv top sec th u0 u1 u2 u3 b (ix2 i j) = comp w tr T Z H j.val := by
  pointwise [cellV, maskV]
  simp only [hm, num_two, num_three, hT, hZ, hH, h0, h1, h2, h3, hb]
  unfold comp head child
  rcases htr with rfl | rfl <;> simp

/-- The pushed row. -/
theorem pushV_at (w : Wt) (tr : ℕ) (htr : tr = 1 ∨ tr = 2 ∨ tr = 3) (B T Z H : ℕ → EReal) (mv : FVec Ideal S64x1 .f32) (top sec buf : FVec Ideal S64x1024 .f32)
    (cg : FVec Ideal S64x2560 .f32) (i : Fin 64) (hm : mv (ix2 i 0) = ((tr : ℝ) : EReal)) (hB : ∀ k : Fin 1024, buf (ix2 i k) = B k.val)
    (hT : ∀ k : Fin 1024, top (ix2 i k) = T k.val) (hZ : ∀ k : Fin 1024, sec (ix2 i k) = Z k.val)
    (hg : tr = 2 ∨ tr = 3 → ∀ j : Fin 2560, cg (ix2 i j) = comp w tr T Z H j.val) (j : Fin 1024) :
    pushV mv top sec buf cg (ix2 i j) = push w tr B T Z H j.val := by
  pointwise [pushV, newC, newH, maskV]
  simp only [hm, num_one, num_two, num_three, hT, hZ, hB]
  unfold push
  by_cases h1 : tr = 1
  · simp only [if_pos h1]
    split
    · rfl
    · congr 1; omega
  · simp only [if_neg h1]
    have hg := hg (by omega)
    simp only [hg]
    unfold hnew cnew head child
    split
    · split <;> rfl
    · split <;> rfl

/-- A row of the kernel's state is a plain row. -/
structure Ag (s : St Ideal) (i : Fin 64) (r : Rw) : Prop where
  th : ∀ k : Fin 64, s.th (ix2 i k) = r.th k.val
  tc : ∀ k : Fin 64, s.tc (ix2 i k) = r.tc k.val
  st : ∀ p < 72, ∀ c < 1024, s.S (i.val * 72 + p, c) = r.st p c

/-- The unchanging arrays hold the weights, and row `i`'s codes and sequence. -/
structure EnvOk (E : Env Ideal) (i : Fin 64) (w : Wt) (q : ℕ → ℕ → EReal) (x : ℕ → BitVec 32) : Prop where
  code : ∀ t < 125, E.C (i.val, t) = codeW x t
  seq : ∀ b < 64, ∀ c < 1024, E.Q (i.val * 64 + b, c) = q b c
  wih : ∀ k < 1536, ∀ j < 256, E.W (k, j) = w.wih k j
  whh : ∀ k < 64, ∀ j < 256, E.W (1536 + k, j) = w.whh k j
  b : ∀ j < 256, E.bg (0, j) = w.b j
  uw : ∀ k < 512, ∀ j < 2560, E.U (k, j) = w.uw k j
  ul : ∀ k < 512, ∀ j < 2560, E.U (512 + k, j) = w.ul k j
  ur : ∀ k < 512, ∀ j < 2560, E.U (1024 + k, j) = w.ur k j
  uc : ∀ k < 64, ∀ j < 2560, E.U (1536 + k, j) = w.uc k j
  ub : ∀ j < 2560, E.bc (0, j) = w.ub j

/-- The transition of a code word as a number. -/
theorem mvA_at (C : Arr (BitVec 32)) (t : ℕ) (i : ℕ) (h : Ok (C (i, t))) : mvA (F := Ideal) C t (i, 0) = (((wT (C (i, t)) : ℕ) : ℝ) : EReal) := by
  unfold mvA
  rw [Ideal.scalar_sitofp_def]
  have h1 : (fT (C (i, t))).toNat = wT (C (i, t)) := fT_toNat _ h
  have h2 : wT (C (i, t)) < 4 := Nat.mod_lt _ (by omega)
  have h3 : (fT (C (i, t))).toInt = ((wT (C (i, t)) : ℕ) : ℤ) := by
    rw [BitVec.toInt_eq_toNat_of_lt (by omega), h1]
  rw [h3, Int.cast_natCast]

theorem ofBlk_at {R C : ℕ} (hR : 0 < R) (hC : 0 < C) (X : (Blk R C).Idx → EReal) (i : Fin R) (j : Fin C) : ofBlk hR hC X (i.val, j.val) = X (ix2 i j) :=
  ((isArr_ofBlk hR hC X) (ix2 i j)).symm

variable {E : Env Ideal} {i : Fin 64} {w : Wt} {q : ℕ → ℕ → EReal} {x : ℕ → BitVec 32}

theorem word_one (v : BitVec 32) : v = 1#32 ↔ v.toNat = 1 := by
  constructor
  · rintro rfl; rfl
  · intro h; exact BitVec.eq_of_toNat_eq h

theorem ag_step (hE : EnvOk E i w q x) (hx : RowOk x) {t : ℕ} (ht : t < 125) {s : St Ideal} {r : Rw} (h : Ag s i r) :
    Ag (stepS E t s) i (stepR w q (x t).toNat (befW x t).toNat (min (posN x t) 63) r) := by
  have hok : Ok (E.C (i.val, t)) := by rw [hE.code t ht]; exact hx.ok ht
  have hlo := hx.bef_lo ht
  have hhi := hx.bef_hi ht
  have htr : (x t).toNat = 1 ∨ (x t).toNat = 2 ∨ (x t).toNat = 3 := by have := hx.lo t ht; have := hx.hi t ht; omega
  have hT (k : Fin 1024) : topA E.C t s.S (i.val, k.val) = r.st ((befW x t).toNat - 1) k.val := by
    unfold topA
    rw [hE.code t ht, hx.wD_code ht]
    exact h.st _ (by omega) _ k.isLt
  have hZ (k : Fin 1024) : secA E.C t s.S (i.val, k.val) = r.st ((befW x t).toNat - 2) k.val := by
    unfold secA
    rw [hE.code t ht, hx.wD_code ht]
    exact h.st _ (by omega) _ k.isLt
  have hB (k : Fin 1024) : bufA E.C t E.Q (i.val, k.val) = q (min (posN x t) 63) k.val := by
    unfold bufA
    rw [hE.code t ht, hx.wB_code ht]
    exact hE.seq _ (by omega) _ k.isLt
  have hM : mvA (F := Ideal) E.C t (i.val, 0) = (((x t).toNat : ℝ) : EReal) := by
    rw [mvA_at _ _ _ hok, hE.code t ht, hx.wT_code ht]
  have hG (j : Fin 256) : gatesA E (topA E.C t s.S) (secA E.C t s.S) (bufA E.C t E.Q) s.th (ix2 i j)
      = gate w (q (min (posN x t) 63)) (r.st ((befW x t).toNat - 1)) (r.st ((befW x t).toNat - 2)) r.th j.val := by
    unfold gatesA
    refine gatesV_at w _ _ _ _ _ _ _ _ _ _ _ _ _ i hB hT hZ h.th (fun k j => ?_) (fun k j => ?_) (fun k j => ?_) (fun k j => ?_) (fun j => ?_) j
    · show E.W (0 + k.val, 0 + j.val) = _
      rw [Nat.zero_add, Nat.zero_add]; exact hE.wih _ (by omega) _ j.isLt
    · show E.W (512 + k.val, 0 + j.val) = _
      rw [Nat.zero_add]; exact hE.wih _ (by omega) _ j.isLt
    · show E.W (1024 + k.val, 0 + j.val) = _
      rw [Nat.zero_add]; exact hE.wih _ (by omega) _ j.isLt
    · show E.W (1536 + k.val, 0 + j.val) = _
      rw [Nat.zero_add]; exact hE.whh _ k.isLt _ j.isLt
    · exact hE.b _ j.isLt
  have hth (k : Fin 64) : (stepS E t s).th (ix2 i k) = (stepR w q (x t).toNat (befW x t).toNat (min (posN x t) 63) r).th k.val :=
    thV_at _ _ _ _ i hG h.tc k
  refine ⟨hth, fun k => tcV_at _ _ _ _ i hG h.tc k, fun p hp c hc => ?_⟩
  show wrA E.C t 64 _ s.S (i.val * 72 + p, c) = _
  unfold wrA
  have e1 : (i.val * 72 + p) / 72 = i.val := by omega
  have e2 : (i.val * 72 + p) % 72 = p := by omega
  have e3 : wW (E.C (i.val, t)) = if (x t).toNat = 1 then (befW x t).toNat else (befW x t).toNat - 2 := by
    rw [hE.code t ht, hx.wW_code ht]
    by_cases e : x t = 1#32
    · rw [if_pos e, if_pos ((word_one _).mp e)]
    · rw [if_neg e, if_neg fun q => e ((word_one _).mpr q)]
  simp only [e1, e2, e3]
  show _ = if p = _ then _ else _
  by_cases hpw : p = if (x t).toNat = 1 then (befW x t).toNat else (befW x t).toNat - 2
  · rw [if_pos ⟨i.isLt, hpw⟩, if_pos hpw]
    refine (ofBlk_at (R := 64) (C := 1024) _ _ (pushS E t s) i ⟨c, hc⟩).trans ?_
    unfold pushS pushA
    refine pushV_at w _ htr _ _ _ _ _ _ _ _ _ i hM hB hT hZ (fun h23 j => ?_) ⟨c, hc⟩
    unfold cellA
    refine cellV_at w _ h23 _ _ _ _ _ _ _ _ _ _ _ _ i hM hT hZ hth (fun k j => ?_) (fun k j => ?_) (fun k j => ?_) (fun k j => ?_) (fun j => ?_) j
    · show E.U (0 + k.val, 0 + j.val) = _
      rw [Nat.zero_add, Nat.zero_add]; exact hE.uw _ k.isLt _ j.isLt
    · show E.U (512 + k.val, 0 + j.val) = _
      rw [Nat.zero_add]; exact hE.ul _ k.isLt _ j.isLt
    · show E.U (1024 + k.val, 0 + j.val) = _
      rw [Nat.zero_add]; exact hE.ur _ k.isLt _ j.isLt
    · show E.U (1536 + k.val, 0 + j.val) = _
      rw [Nat.zero_add]; exact hE.uc _ k.isLt _ j.isLt
    · exact hE.ub _ j.isLt
  · rw [if_neg fun q => hpw q.2, if_neg hpw]
    exact h.st p hp c hc

/-- Every row of the loop is the plain row. -/
theorem ag_run (hE : EnvOk E i w q x) (hx : RowOk x) {s : St Ideal} {h0 c0 : ℕ → EReal} (h : Ag s i (rowRun w q x h0 c0 0)) :
    ∀ t ≤ 125, Ag (run E s t) i (rowRun w q x h0 c0 t)
  | 0, _ => h
  | t + 1, ht => ag_step hE hx (by omega) (ag_run hE hx h t (by omega))

/-- The loop starts as the plain row does. -/
theorem ag_init (hE : EnvOk E i w q x) {TH TC : Arr EReal} {h0 c0 : ℕ → EReal} (hh : ∀ k < 64, TH (i.val, k) = h0 k) (hc : ∀ k < 64, TC (i.val, k) = c0 k) :
    Ag (st0 (F := Ideal) E.Q TH TC (fun _ => Scalar.ofBits (F := Ideal) .f32 0)) i (rowRun w q x h0 c0 0) := by
  refine ⟨fun k => hh k.val k.isLt, fun k => hc k.val k.isLt, fun p hp c hcc => ?_⟩
  have r0 : (rowRun w q x h0 c0 0).st p c = if p < 2 then q 0 c else 0 := rfl
  rw [r0]
  show initA (F := Ideal) 64 E.Q (fun _ => Scalar.ofBits (F := Ideal) .f32 0) (i.val * 72 + p, c) = _
  unfold initA
  have e1 : (i.val * 72 + p) / 72 = i.val := by omega
  have e2 : (i.val * 72 + p) % 72 = p := by omega
  simp only [e1, e2]
  by_cases hp2 : p < 2
  · rw [if_pos ⟨i.isLt, hp2⟩, if_pos hp2]
    exact hE.seq 0 (by omega) c hcc
  · rw [if_neg fun q => hp2 q.2, if_neg hp2]
    exact Ideal.ofBits_zero_f32

/-- What a block's row of the result holds. -/
theorem outOf_at (hE : EnvOk E i w q x) (hx : RowOk x) {TH TC : Arr EReal} {h0 c0 : ℕ → EReal} (hh : ∀ k < 64, TH (i.val, k) = h0 k)
    (hc : ∀ k < 64, TC (i.val, k) = c0 k) (k : ℕ) (hk : k < 512) :
    outOf (F := Ideal) E TH TC (fun _ => Scalar.ofBits (F := Ideal) .f32 0) (i.val, k) = Cert.Spec.rowOut w q x h0 c0 k := by
  unfold outOf outA Cert.Spec.rowOut
  have hlo := hx.bef_lo (t := 124) (by omega)
  have hhi := hx.bef_hi (t := 124) (by omega)
  show (run E _ 125).S (i.val * 72 + wW (E.C (i.val, 124)), k) = _
  rw [hE.code 124 (by omega), hx.wW_code (by omega)]
  exact (ag_run hE hx (ag_init hE hh hc) 125 (le_refl _)).st _ (by split <;> omega) k (by omega)

end Cert.KernelIdeal.Row

end
-- ==== Proof.Out.lean ====
/- The result as a function of the thirteen arguments: every row is the plain row of its own words and sequence. -/
module

public import proofs.«01_k».proof.Proof.Spec
public import proofs.«01_k».proof.Proof.Pre

@[expose] public section

noncomputable section

namespace Cert.Spec

open Idealize.ShloMosaic Idealize.ShloMosaic.Routing Cert.Words

/-- An array of one, two or three axes read at numbers, zero outside. -/
def at1 {N : ℕ} (A : (shape1 N).Idx → EReal) (j : ℕ) : EReal := if h : j < N then A (ix1 ⟨j, h⟩) else 0
def at2 {R C : ℕ} (A : (shape2 R C).Idx → EReal) (i j : ℕ) : EReal := if h : i < R ∧ j < C then A (ix2 ⟨i, h.1⟩ ⟨j, h.2⟩) else 0
def at3 {P R C : ℕ} (A : (shape3 P R C).Idx → EReal) (n i j : ℕ) : EReal :=
  if h : n < P ∧ i < R ∧ j < C then A (ix3 ⟨n, h.1⟩ ⟨i, h.2.1⟩ ⟨j, h.2.2⟩) else 0
theorem at1_eq {N : ℕ} (A : (shape1 N).Idx → EReal) (j : Fin N) : at1 A j.val = A (ix1 j) := dif_pos j.isLt
theorem at2_eq {R C : ℕ} (A : (shape2 R C).Idx → EReal) (i : Fin R) (j : Fin C) : at2 A i.val j.val = A (ix2 i j) := dif_pos ⟨i.isLt, j.isLt⟩
theorem at3_eq {P R C : ℕ} (A : (shape3 P R C).Idx → EReal) (n : Fin P) (i : Fin R) (j : Fin C) : at3 A n.val i.val j.val = A (ix3 n i j) :=
  dif_pos ⟨n.isLt, i.isLt, j.isLt⟩

/-- The weights of the arguments. -/
def wtOf (a2 : (shape2 64 2560).Idx → EReal) (a3 : (shape2 512 2560).Idx → EReal) (a4 : (shape1 2560).Idx → EReal)
    (a5 a6 : (shape2 512 2560).Idx → EReal) (a7 : (shape2 1536 256).Idx → EReal) (a8 : (shape2 64 256).Idx → EReal) (a9 a10 : (shape1 256).Idx → EReal) : Wt :=
  ⟨at2 a7, at2 a8, fun j => at1 a9 j + at1 a10 j, at2 a3, at2 a5, at2 a6, at2 a2, at1 a4⟩

/-- The result at a row and a column. -/
def outOf' (a0 : (shape3 512 64 1024).Idx → EReal) (a1 : (shape2 512 125).Idx → BitVec 32)
    (a2 : (shape2 64 2560).Idx → EReal) (a3 : (shape2 512 2560).Idx → EReal) (a4 : (shape1 2560).Idx → EReal)
    (a5 a6 : (shape2 512 2560).Idx → EReal) (a7 : (shape2 1536 256).Idx → EReal) (a8 : (shape2 64 256).Idx → EReal) (a9 a10 : (shape1 256).Idx → EReal)
    (a11 a12 : (shape2 512 64).Idx → EReal) (n k : ℕ) : EReal :=
  rowOut (wtOf a2 a3 a4 a5 a6 a7 a8 a9 a10) (at3 a0 n) (fun t => trA a1 (n, t)) (at2 a11 n) (at2 a12 n) k

end Cert.Spec

end
-- ==== Proof.KernelIdealOut.lean ====
/- The kernel's result: the tables the host's line builds, and the row each block of the result holds. -/
module

public import proofs.«01_k».proof.Proof.KernelIdealLaunch
public import proofs.«01_k».proof.Proof.KernelIdealSpec
public import proofs.«01_k».proof.Proof.Out
public import Idealize.ShloMosaic.Lib.StableHlo.RunRead
public import Idealize.ShloMosaic.Lib.Tactic.CleanTypes

@[expose] public section

set_option maxRecDepth 16384

noncomputable section

namespace Cert.KernelIdeal.Row

open Idealize.ShloMosaic Idealize.ShloMosaic.TcCoe LaneScatter Updates
open Cert.KernelIdeal Cert.KernelIdeal.Gen Cert.Words Cert.Spec

variable (m : (ℓ : Loc nD τ sig) → Buf (Elt Ideal) ℓ) (c : Dev nD)

/-- The sequence's table. -/
theorem V30_at (r : Fin 32768) (k : Fin 1024) : V m c main_call0_v30 (ix2 r k) = at3 (m ((c : Thread nD τ).loc main_arg0)) (r.val / 64) (r.val % 64) k.val := by
  show StableHlo.after hostOps0 _ (Proc.devRef .tc main_call0_v30) (ix2 r k) = _
  after_reads_simp
  clean_types
  pointwise
  exact (at3_eq (m ((c : Thread nD τ).loc main_arg0)) ⟨r.val / 64, by omega⟩ ⟨r.val % 64, by omega⟩ k).symm

/-- The tracker's table: the input weights over the hidden weights. -/
theorem V31_at (r : Fin 1600) (k : Fin 256) : V m c main_call0_v31 (ix2 r k)
    = if r.val < 1536 then at2 (m ((c : Thread nD τ).loc main_arg7)) r.val k.val else at2 (m ((c : Thread nD τ).loc main_arg8)) (r.val - 1536) k.val := by
  show StableHlo.after hostOps0 _ (Proc.devRef .tc main_call0_v31) (ix2 r k) = _
  after_reads_simp
  have h7 : StableHlo.upto hostOps0 (fun b => m (c, b)) 46 (Proc.devRef .tc main_arg7) = m (c, Proc.devRef .tc main_arg7) := by after_reads_simp
  have h8 : StableHlo.upto hostOps0 (fun b => m (c, b)) 46 (Proc.devRef .tc main_arg8) = m (c, Proc.devRef .tc main_arg8) := by after_reads_simp
  generalize StableHlo.upto hostOps0 (fun b => m (c, b)) 46 = X at h7 h8 ⊢
  show concatenate S1600x256 0 [⟨S1536x256, X (Proc.devRef .tc main_arg7)⟩, ⟨S64x256, X (Proc.devRef .tc main_arg8)⟩]
    concatenates_S1536x256_S64x256_S1600x256_d0 (ix2 r k) = _
  rw [h7, h8]
  clean_types
  pointwise
  split
  · rename_i h
    exact (at2_eq (m ((c : Thread nD τ).loc main_arg7)) ⟨r.val, h⟩ k).symm
  · exact (at2_eq (m ((c : Thread nD τ).loc main_arg8)) ⟨r.val - 1536, by omega⟩ k).symm

/-- The composition's table: the head's weights, the left child's, the right child's, the tracker's. -/
theorem V32_at (r : Fin 1600) (k : Fin 2560) : V m c main_call0_v32 (ix2 r k)
    = if r.val < 512 then at2 (m ((c : Thread nD τ).loc main_arg3)) r.val k.val
      else if r.val - 512 < 512 then at2 (m ((c : Thread nD τ).loc main_arg5)) (r.val - 512) k.val
      else if r.val - 512 - 512 < 512 then at2 (m ((c : Thread nD τ).loc main_arg6)) (r.val - 512 - 512) k.val
      else at2 (m ((c : Thread nD τ).loc main_arg2)) (r.val - 512 - 512 - 512) k.val := by
  show StableHlo.after hostOps0 _ (Proc.devRef .tc main_call0_v32) (ix2 r k) = _
  after_reads_simp
  have h3 : StableHlo.upto hostOps0 (fun b => m (c, b)) 47 (Proc.devRef .tc main_arg3) = m (c, Proc.devRef .tc main_arg3) := by after_reads_simp
  have h5 : StableHlo.upto hostOps0 (fun b => m (c, b)) 47 (Proc.devRef .tc main_arg5) = m (c, Proc.devRef .tc main_arg5) := by after_reads_simp
  have h6 : StableHlo.upto hostOps0 (fun b => m (c, b)) 47 (Proc.devRef .tc main_arg6) = m (c, Proc.devRef .tc main_arg6) := by after_reads_simp
  have h2 : StableHlo.upto hostOps0 (fun b => m (c, b)) 47 (Proc.devRef .tc main_arg2) = m (c, Proc.devRef .tc main_arg2) := by after_reads_simp
  generalize StableHlo.upto hostOps0 (fun b => m (c, b)) 47 = X at h2 h3 h5 h6 ⊢
  show concatenate S1600x2560 0 [⟨S512x2560, X (Proc.devRef .tc main_arg3)⟩, ⟨S512x2560, X (Proc.devRef .tc main_arg5)⟩, ⟨S512x2560, X (Proc.devRef .tc main_arg6)⟩,
    ⟨S64x2560, X (Proc.devRef .tc main_arg2)⟩] concatenates_S512x2560_S512x2560_S512x2560_S64x2560_S1600x2560_d0 (ix2 r k) = _
  rw [h3, h5, h6, h2]
  clean_types
  pointwise
  split
  · rename_i h
    exact (at2_eq (m ((c : Thread nD τ).loc main_arg3)) ⟨r.val, h⟩ k).symm
  · split
    · rename_i h
      exact (at2_eq (m ((c : Thread nD τ).loc main_arg5)) ⟨r.val - 512, h⟩ k).symm
    · split
      · rename_i h
        exact (at2_eq (m ((c : Thread nD τ).loc main_arg6)) ⟨r.val - 512 - 512, h⟩ k).symm
      · exact (at2_eq (m ((c : Thread nD τ).loc main_arg2)) ⟨r.val - 512 - 512 - 512, by omega⟩ k).symm

/-- The two biases. -/
theorem V34_at (k : Fin 256) : V m c main_call0_v34 (ix2 0 k) = at1 (m ((c : Thread nD τ).loc main_arg9)) k.val + at1 (m ((c : Thread nD τ).loc main_arg10)) k.val := by
  show StableHlo.after hostOps0 _ (Proc.devRef .tc main_call0_v34) (ix2 0 k) = _
  after_reads_simp
  clean_types
  pointwise
  exact congrArg₂ (fun a b : EReal => a + b) (at1_eq (m ((c : Thread nD τ).loc main_arg9)) k).symm (at1_eq (m ((c : Thread nD τ).loc main_arg10)) k).symm
theorem V35_at (k : Fin 2560) : V m c main_call0_v35 (ix2 0 k) = at1 (m ((c : Thread nD τ).loc main_arg4)) k.val := by
  show StableHlo.after hostOps0 _ (Proc.devRef .tc main_call0_v35) (ix2 0 k) = _
  after_reads_simp
  clean_types
  pointwise
  exact (at1_eq (m ((c : Thread nD τ).loc main_arg4)) k).symm

/-- The weights of the arguments. -/
def wtM : Wt := wtOf (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10))

theorem qA_at (r k : ℕ) (hr : r < 32768) (hk : k < 1024) : qA m c (r, k) = at3 (m ((c : Thread nD τ).loc main_arg0)) (r / 64) (r % 64) k :=
  (ofBlk_at _ _ (V m c main_call0_v30) (⟨r, hr⟩ : Fin 32768) (⟨k, hk⟩ : Fin 1024)).trans (V30_at m c ⟨r, hr⟩ ⟨k, hk⟩)
theorem wA_at (r k : ℕ) (hr : r < 1600) (hk : k < 256) : wA m c (r, k) = if r < 1536 then (wtM m c).wih r k else (wtM m c).whh (r - 1536) k :=
  (ofBlk_at _ _ (V m c main_call0_v31) (⟨r, hr⟩ : Fin 1600) (⟨k, hk⟩ : Fin 256)).trans (V31_at m c ⟨r, hr⟩ ⟨k, hk⟩)
theorem uA_at (r k : ℕ) (hr : r < 1600) (hk : k < 2560) : uA m c (r, k) = if r < 512 then (wtM m c).uw r k
    else if r - 512 < 512 then (wtM m c).ul (r - 512) k else if r - 512 - 512 < 512 then (wtM m c).ur (r - 512 - 512) k
    else (wtM m c).uc (r - 512 - 512 - 512) k :=
  (ofBlk_at _ _ (V m c main_call0_v32) (⟨r, hr⟩ : Fin 1600) (⟨k, hk⟩ : Fin 2560)).trans (V32_at m c ⟨r, hr⟩ ⟨k, hk⟩)
theorem bgA_at (k : ℕ) (hk : k < 256) : bgA m c (0, k) = (wtM m c).b k :=
  (ofBlk_at _ _ (V m c main_call0_v34) (0 : Fin 1) (⟨k, hk⟩ : Fin 256)).trans (V34_at m c ⟨k, hk⟩)
theorem bcA_at (k : ℕ) (hk : k < 2560) : bcA m c (0, k) = (wtM m c).ub k :=
  (ofBlk_at _ _ (V m c main_call0_v35) (0 : Fin 1) (⟨k, hk⟩ : Fin 2560)).trans (V35_at m c ⟨k, hk⟩)
theorem thA_at (r k : ℕ) (hr : r < 512) (hk : k < 64) : thA m c (r, k) = at2 (m ((c : Thread nD τ).loc main_arg11)) r k :=
  (ofBlk_at _ _ (V m c main_arg11) (⟨r, hr⟩ : Fin 512) (⟨k, hk⟩ : Fin 64)).trans
    ((congrFun (V_arg11 m c) _).trans (at2_eq (m ((c : Thread nD τ).loc main_arg11)) ⟨r, hr⟩ ⟨k, hk⟩).symm)
theorem tcA_at (r k : ℕ) (hr : r < 512) (hk : k < 64) : tcA m c (r, k) = at2 (m ((c : Thread nD τ).loc main_arg12)) r k :=
  (ofBlk_at _ _ (V m c main_arg12) (⟨r, hr⟩ : Fin 512) (⟨k, hk⟩ : Fin 64)).trans
    ((congrFun (V_arg12 m c) _).trans (at2_eq (m ((c : Thread nD τ).loc main_arg12)) ⟨r, hr⟩ ⟨k, hk⟩).symm)

/-- The tables' bands. -/
theorem uw_at (k : ℕ) (hk : k < 512) (j : ℕ) (hj : j < 2560) : uA m c (k, j) = (wtM m c).uw k j :=
  (uA_at m c k j (by omega) hj).trans (if_pos hk)
theorem ul_at (k : ℕ) (hk : k < 512) (j : ℕ) (hj : j < 2560) : uA m c (512 + k, j) = (wtM m c).ul k j :=
  (uA_at m c _ j (by omega) hj).trans ((if_neg (by omega)).trans ((if_pos (by omega)).trans (congrArg (fun r => (wtM m c).ul r j) (by omega))))
theorem ur_at (k : ℕ) (hk : k < 512) (j : ℕ) (hj : j < 2560) : uA m c (1024 + k, j) = (wtM m c).ur k j :=
  (uA_at m c _ j (by omega) hj).trans ((if_neg (by omega)).trans ((if_neg (by omega)).trans ((if_pos (by omega)).trans
    (congrArg (fun r => (wtM m c).ur r j) (by omega)))))
theorem uc_at (k : ℕ) (hk : k < 64) (j : ℕ) (hj : j < 2560) : uA m c (1536 + k, j) = (wtM m c).uc k j :=
  (uA_at m c _ j (by omega) hj).trans ((if_neg (by omega)).trans ((if_neg (by omega)).trans ((if_neg (by omega)).trans
    (congrArg (fun r => (wtM m c).uc r j) (by omega)))))
theorem wih_at (k : ℕ) (hk : k < 1536) (j : ℕ) (hj : j < 256) : wA m c (k, j) = (wtM m c).wih k j :=
  (wA_at m c k j (by omega) hj).trans (if_pos hk)
theorem whh_at (k : ℕ) (hk : k < 64) (j : ℕ) (hj : j < 256) : wA m c (1536 + k, j) = (wtM m c).whh k j :=
  (wA_at m c _ j (by omega) hj).trans ((if_neg (by omega)).trans (congrArg (fun r => (wtM m c).whh r j) (by omega)))
theorem seq_at (t : Fin cfg0.N) (i : Fin 64) (b : ℕ) (hb : b < 64) (k : ℕ) (hk : k < 1024) : qA m c (pt t * 4096 + (i.val * 64 + b), 0 + k)
    = at3 (m ((c : Thread nD τ).loc main_arg0)) (64 * pt t + i.val) b k := by
  have hp : pt t < 8 := pt_lt t
  have hi : i.val < 64 := i.isLt
  rw [Nat.zero_add, qA_at m c _ _ (by omega) hk, show (pt t * 4096 + (i.val * 64 + b)) / 64 = 64 * pt t + i.val by omega,
    show (pt t * 4096 + (i.val * 64 + b)) % 64 = b by omega]
theorem code_at (t : Fin cfg0.N) (i : Fin 64) (s : ℕ) (hs : s < 125) : cA m c (64 * pt t + i.val, 0 + s) = codeW (fun s => trA (m ((c : Thread nD τ).loc main_arg1)) (64 * pt t + i.val, s)) s := by
  have hp : pt t < 8 := pt_lt t
  have hi : i.val < 64 := i.isLt
  rw [Nat.zero_add]; rfl

/-- The block's arrays hold the weights and the words and sequence of each of its rows. -/
theorem envOk_of (C : Arr (BitVec 32)) (Q W U bg bc : Arr EReal) (i : Fin 64) (w : Wt) (q : ℕ → ℕ → EReal) (x : ℕ → BitVec 32)
    (h1 : ∀ t < 125, C (i.val, t) = codeW x t) (h2 : ∀ b < 64, ∀ c < 1024, Q (i.val * 64 + b, c) = q b c)
    (h3 : ∀ k < 1536, ∀ j < 256, W (k, j) = w.wih k j) (h4 : ∀ k < 64, ∀ j < 256, W (1536 + k, j) = w.whh k j) (h5 : ∀ j < 256, bg (0, j) = w.b j)
    (h6 : ∀ k < 512, ∀ j < 2560, U (k, j) = w.uw k j) (h7 : ∀ k < 512, ∀ j < 2560, U (512 + k, j) = w.ul k j)
    (h8 : ∀ k < 512, ∀ j < 2560, U (1024 + k, j) = w.ur k j) (h9 : ∀ k < 64, ∀ j < 2560, U (1536 + k, j) = w.uc k j) (h10 : ∀ j < 2560, bc (0, j) = w.ub j) :
    EnvOk (⟨C, Q, W, U, bg, bc⟩ : Env Ideal) i w q x := ⟨h1, h2, h3, h4, h5, h6, h7, h8, h9, h10⟩
theorem envOk (t : Fin cfg0.N) (i : Fin 64) : EnvOk (envA m c t) i (wtM m c) (at3 (m ((c : Thread nD τ).loc main_arg0)) (64 * pt t + i.val))
    (fun s => trA (m ((c : Thread nD τ).loc main_arg1)) (64 * pt t + i.val, s)) := by
  have h1 := code_at m c t i
  have h2 := seq_at m c t i
  have h3 := wih_at m c
  have h4 := whh_at m c
  have h5 := bgA_at m c
  have h6 := uw_at m c
  have h7 := ul_at m c
  have h8 := ur_at m c
  have h9 := uc_at m c
  have h10 := bcA_at m c
  unfold envA
  generalize wtM m c = w at h3 h4 h5 h6 h7 h8 h9 h10 ⊢
  generalize cA m c = C at h1 ⊢
  generalize qA m c = Q at h2 ⊢
  generalize wA m c = W at h3 h4 ⊢
  generalize uA m c = U at h6 h7 h8 h9 ⊢
  generalize bgA m c = bg at h5 ⊢
  generalize bcA m c = bc at h10 ⊢
  exact envOk_of _ _ W U bg bc i w _ _ h1 h2 h3 h4 h5 h6 h7 h8 h9 h10

/-- The result of the arguments. -/
def outM : (Routing.shape2 512 512).Idx → EReal := fun ι => outOf' (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11)) (m ((c : Thread nD τ).loc main_arg12))
  (ι 0).val (ι 1).val

/-- A block's row of the result. -/
theorem res_at (hx : RowsOk m) (t : Fin cfg0.N) (i : Fin 64) (k : ℕ) (hk : k < 512) (ι : (Routing.shape2 512 512).Idx) (h0 : (ι 0).val = 64 * pt t + i.val) (h1 : (ι 1).val = k) :
    resA m c t (i.val, k) = outM m c ι := by
  have hp : pt t < 8 := pt_lt t
  have hi : i.val < 64 := i.isLt
  unfold resA outM
  rw [h0, h1]
  refine outOf_at (envOk m c t i) (hx c (64 * pt t + i.val) (by omega)) (fun k hk => ?_) (fun k hk => ?_) k hk
  · show thA m c (64 * pt t + i.val, 0 + k) = _
    rw [Nat.zero_add]; exact thA_at m c _ _ (by omega) hk
  · show tcA m c (64 * pt t + i.val, 0 + k) = _
    rw [Nat.zero_add]; exact tcA_at m c _ _ (by omega) hk

theorem ix0_5 : ∀ t : Fin cfg0.N, win0_5.index t = ![(grid0.coords t 0).val, 0] := (by decide +kernel : ∀ t : Fin grid0.N, _)

/-- The result's array after the last point. -/
theorem final_o (hx : RowsOk m) : (dats m 0 c).arrAt 5 cfg0.N = outM m c := by
  refine (dats m 0 c).arrAt_eq_of_covers 5 _ (by decide +kernel) fun t hf y => ?_
  blk_simp
  rw [after0_5]
  refine res_at m c hx t (y 0) (y 1).val (y 1).isLt ((win0_5.blk t).view.emb y) ?_ ?_
  · blk_simp [ix0_5]; exact congrArg (· + (y 0).val) (Nat.mul_comm _ _)
  · blk_simp [ix0_5]

end Cert.KernelIdeal.Row

end
-- ==== Proof.ReferenceFrame.lean ====
/- The reference's run: the arguments end as they began, and there is no counter. -/
module

public import proofs.«01_k».proof.Proof.Gen.ReferenceIdeal.Run
public import Idealize.ShloMosaic.Lib.Quiescent

@[expose] public section

noncomputable section

namespace Cert.ReferenceIdeal.Row

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The references one trip of the loop writes. -/
abbrev tripW : List (Ref sig .tc) := condOps_W ++ (while0Ops0_W ++ (while0Ops0_1_W ++ (while0Ops0_2_W ++ (while0Ops0_3_W ++ (while0Ops0_4_W ++ (while0Ops0_5_W
  ++ (while0Ops0_6_W ++ (while0Ops0_7_W ++ (while0Ops0_8_W ++ (while0Ops0_9_W ++ (while0Ops0_10_W ++ (while0Ops0_11_W ++ (while0Ops0_12_W ++ (while0Ops0_13_W
  ++ (while0Ops0_14_W ++ (while0Ops0_15_W ++ while0Ops0_16_W))))))))))))))))

/-- The reference each operation after the loop writes, in order. -/
abbrev hostOps0_1_W : List (Ref sig .tc) := [main_c_7, main_v25, main_v26, main_c_8, main_v27, main_v28, main_c_9, main_v29, main_v30, main_v31, main_c_10, main_v32, main_v33, main_c_11,
  main_v34, main_v35, main_v36, main_v37, main_v38, main_v39, main_v40]
theorem hostOps0_1_writes : (hostOps0_1 : List (HloOp τ sig (Elt F))).Forall fun op => op.writes ⊆ (hostOps0_1_W.map (Proc.devRef (τ := τ) .tc)).toFinset :=
  StableHlo.forall_writes_sub_of_map rfl

theorem trip_keeps {r : Ref sig .tc} (h : r ∉ tripW) (V : Valuation τ sig (Elt F)) :
    afterL bodyI (after condOps V) (Proc.devRef .tc r) = V (Proc.devRef .tc r) := by
  simp only [tripW, List.mem_append, not_or] at h
  obtain ⟨hc, h0, h1, h2, h3, h4, h5, h6, h7, h8, h9, h10, h11, h12, h13, h14, h15, h16⟩ := h
  simp only [bodyI, afterL_cons, afterL_nil]
  rw [after_of_writes_sub while0Ops0_16 _ while0Ops0_16_writes h16, after_of_writes_sub while0Ops0_15 _ while0Ops0_15_writes h15,
    after_of_writes_sub while0Ops0_14 _ while0Ops0_14_writes h14, after_of_writes_sub while0Ops0_13 _ while0Ops0_13_writes h13,
    after_of_writes_sub while0Ops0_12 _ while0Ops0_12_writes h12, after_of_writes_sub while0Ops0_11 _ while0Ops0_11_writes h11,
    after_of_writes_sub while0Ops0_10 _ while0Ops0_10_writes h10, after_of_writes_sub while0Ops0_9 _ while0Ops0_9_writes h9,
    after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

theorem atK_keeps {r : Ref sig .tc} (h : r ∉ tripW) (c : Dev nD) : ∀ k, atK m k c (Proc.devRef .tc r) = entryContents preI m c (Proc.devRef .tc r)
  | 0 => rfl
  | k + 1 => (trip_keeps h (atK m k c)).trans (atK_keeps h c k)

theorem entry_keeps {r : Ref sig .tc} (h0 : r ∉ hostOps0_W) (c : Dev nD) : entryContents preI m c (Proc.devRef .tc r) = m ((c.tc : Thread nD τ).loc r) :=
  after_of_writes_sub hostOps0 _ hostOps0_writes h0

theorem final_keeps {r : Ref sig .tc} (h : r ∉ tripW) (h0 : r ∉ hostOps0_W) (h1 : r ∉ hostOps0_1_W) (c : Dev nD) :
    finalContents condOps preI bodyI postI 125 m c (Proc.devRef .tc r) = m ((c.tc : Thread nD τ).loc r) := by
  have hc : r ∉ condOps_W := fun hh => h (List.mem_append_left _ hh)
  show after hostOps0_1 (after condOps (atK m 125 c)) (Proc.devRef .tc r) = _
  rw [after_of_writes_sub hostOps0_1 _ hostOps0_1_writes h1, after_of_writes_sub condOps _ condOps_writes hc, atK_keeps m h c, entry_keeps m h0 c]

/-- Every execution of the reference leaves its arguments, its result at the fold's value, and no counter. -/
theorem run_all : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) ∧ ∀ c : Dev nD, r.2.mem ((c.tc : Thread nD τ).loc main_v40) = finalContents condOps preI bodyI postI 125 m c (Proc.devRef .tc main_v40)) :=
  (θ_run defs _ _).mono (fun r h => ⟨⟨fun c => ⟨
    (h c main_arg0 (by decide)).trans (final_keeps m (by decide +kernel) (by decide +kernel) (by decide +kernel) c),
    (h c main_arg1 (by decide)).trans (final_keeps m (by decide +kernel) (by decide +kernel) (by decide +kernel) c),
    (h c main_arg2 (by decide)).trans (final_keeps m (by decide +kernel) (by decide +kernel) (by decide +kernel) c),
    (h c main_arg3 (by decide)).trans (final_keeps m (by decide +kernel) (by decide +kernel) (by decide +kernel) c),
    (h c main_arg4 (by decide)).trans (final_keeps m (by decide +kernel) (by decide +kernel) (by decide +kernel) c),
    (h c main_arg5 (by decide)).trans (final_keeps m (by decide +kernel) (by decide +kernel) (by decide +kernel) c),
    (h c main_arg6 (by decide)).trans (final_keeps m (by decide +kernel) (by decide +kernel) (by decide +kernel) c),
    (h c main_arg7 (by decide)).trans (final_keeps m (by decide +kernel) (by decide +kernel) (by decide +kernel) c),
    (h c main_arg8 (by decide)).trans (final_keeps m (by decide +kernel) (by decide +kernel) (by decide +kernel) c),
    (h c main_arg9 (by decide)).trans (final_keeps m (by decide +kernel) (by decide +kernel) (by decide +kernel) c),
    (h c main_arg10 (by decide)).trans (final_keeps m (by decide +kernel) (by decide +kernel) (by decide +kernel) c),
    (h c main_arg11 (by decide)).trans (final_keeps m (by decide +kernel) (by decide +kernel) (by decide +kernel) c),
    (h c main_arg12 (by decide)).trans (final_keeps m (by decide +kernel) (by decide +kernel) (by decide +kernel) c)⟩,
    sem_eq_zero_of_no_sems rfl r.2⟩, fun c => h c main_v40 (by decide)⟩) (run_fold m ρ)

end Cert.ReferenceIdeal.Row

end
-- ==== Proof.RefIdx.lean ====
/- The reference's gathers and scatters read at one element: a row number and a position number pick a row of 512 numbers. -/
module

public import proofs.«01_k».proof.Proof.Gen.ReferenceIdeal
public import Idealize.ShloMosaic.Lib.Pointwise
public import Idealize.ShloMosaic.Lib.Routing.OpsPair
public import Idealize.ShloMosaic.Lib.Routing.OpsSet

@[expose] public section

set_option maxRecDepth 16384

noncomputable section

namespace Cert.ReferenceIdeal.Row

open Idealize.ShloMosaic Idealize.ShloMosaic.TcCoe
open Cert.ReferenceIdeal Cert.ReferenceIdeal.Gen

variable {α : Type}

/-- A gather by a row number and a position number, both in range, from stacks of 66 rows. -/
theorem gather66 (x : S512x66x512.Idx → α) (idx : IVec S512x2 32) (n c : Fin 512) (p : Fin 66)
    (h0 : idx (ix2 n 0) = BitVec.ofNat 32 n.val) (h1 : idx (ix2 n 1) = BitVec.ofNat 32 p.val) :
    Host.gather gather_S512x66x512_S512x2_S512x512_1_01_n_n_01_1_11512 x idx (ix2 n c) = x (ix3 n p c) := by
  unfold Host.gather
  congr 1
  funext a
  refine Fin.ext ?_
  have hn := n.isLt
  have hp := p.isLt
  match a with
  | ⟨0, _⟩ =>
    show min (idx _).toInt.toNat 511 + 0 + 0 = n.val
    have e : ∀ k, k = ix2 n 0 → min (idx k).toInt.toNat 511 + 0 + 0 = n.val := by
      rintro _ rfl
      rw [h0, BitVec.toInt_eq_toNat_of_lt (by rw [BitVec.toNat_ofNat]; omega), BitVec.toNat_ofNat]
      omega
    refine e _ ?_
    funext b
    match b with
    | ⟨0, _⟩ => rfl
    | ⟨1, _⟩ => rfl
  | ⟨1, _⟩ =>
    show min (idx _).toInt.toNat 65 + 0 + 0 = p.val
    have e : ∀ k, k = ix2 n 1 → min (idx k).toInt.toNat 65 + 0 + 0 = p.val := by
      rintro _ rfl
      rw [h1, BitVec.toInt_eq_toNat_of_lt (by rw [BitVec.toNat_ofNat]; omega), BitVec.toNat_ofNat]
      omega
    refine e _ ?_
    funext b
    match b with
    | ⟨0, _⟩ => rfl
    | ⟨1, _⟩ => rfl
  | ⟨2, _⟩ =>
    show 0 + 0 + c.val = c.val
    omega

/-- A gather by a row number and a position number, both in range, from sequences of 64 rows. -/
theorem gather64 (x : S512x64x512.Idx → α) (idx : IVec S512x2 32) (n c : Fin 512) (p : Fin 64)
    (h0 : idx (ix2 n 0) = BitVec.ofNat 32 n.val) (h1 : idx (ix2 n 1) = BitVec.ofNat 32 p.val) :
    Host.gather gather_S512x64x512_S512x2_S512x512_1_01_n_n_01_1_11512 x idx (ix2 n c) = x (ix3 n p c) := by
  unfold Host.gather
  congr 1
  funext a
  refine Fin.ext ?_
  have hn := n.isLt
  have hp := p.isLt
  match a with
  | ⟨0, _⟩ =>
    show min (idx _).toInt.toNat 511 + 0 + 0 = n.val
    have e : ∀ k, k = ix2 n 0 → min (idx k).toInt.toNat 511 + 0 + 0 = n.val := by
      rintro _ rfl
      rw [h0, BitVec.toInt_eq_toNat_of_lt (by rw [BitVec.toNat_ofNat]; omega), BitVec.toNat_ofNat]
      omega
    refine e _ ?_
    funext b
    match b with
    | ⟨0, _⟩ => rfl
    | ⟨1, _⟩ => rfl
  | ⟨1, _⟩ =>
    show min (idx _).toInt.toNat 63 + 0 + 0 = p.val
    have e : ∀ k, k = ix2 n 1 → min (idx k).toInt.toNat 63 + 0 + 0 = p.val := by
      rintro _ rfl
      rw [h1, BitVec.toInt_eq_toNat_of_lt (by rw [BitVec.toNat_ofNat]; omega), BitVec.toNat_ofNat]
      omega
    refine e _ ?_
    funext b
    match b with
    | ⟨0, _⟩ => rfl
    | ⟨1, _⟩ => rfl
  | ⟨2, _⟩ =>
    show 0 + 0 + c.val = c.val
    omega

/-- Where an update of the loop's scatter lands: at the row and the position of its two words, at its own column. -/
theorem lands2 (idx : IVec S512x2 32) (k e n c : Fin 512) (p : Fin 66) :
    scatter_S512x66x512_S512x2_S512x512_1_01_01_1.resultIdx? (ix2 k e) idx = some (ix3 n p c)
      ↔ (idx (ix2 k 0)).toInt = n.val ∧ (idx (ix2 k 1)).toInt = p.val ∧ e = c := by
  rw [Routing.resultIdx?_eq_some]
  have s0 : scatter_S512x66x512_S512x2_S512x512_1_01_01_1.start (ix2 k e) idx 0 = (idx (ix2 k 0)).toInt := by
    show (idx _).toInt = _
    congr 2
    funext b
    match b with
    | ⟨0, _⟩ => rfl
    | ⟨1, _⟩ => rfl
  have s1 : scatter_S512x66x512_S512x2_S512x512_1_01_01_1.start (ix2 k e) idx 1 = (idx (ix2 k 1)).toInt := by
    show (idx _).toInt = _
    congr 2
    funext b
    match b with
    | ⟨0, _⟩ => rfl
    | ⟨1, _⟩ => rfl
  constructor
  · intro h
    have a0 := h 0
    have a1 := h 1
    have a2 := h 2
    rw [s0] at a0
    rw [s1] at a1
    refine ⟨?_, ?_, ?_⟩
    · exact (Int.add_zero _).symm.trans a0
    · exact (Int.add_zero _).symm.trans a1
    · have : (0 : ℤ) + (e.val : ℤ) = (c.val : ℤ) := a2
      exact Fin.ext (by omega)
  · rintro ⟨h0, h1, rfl⟩ a
    match a with
    | ⟨0, _⟩ => show scatter_S512x66x512_S512x2_S512x512_1_01_01_1.start (ix2 k e) idx 0 + (0 : ℤ) = _; rw [s0, h0]; exact Int.add_zero _
    | ⟨1, _⟩ => show scatter_S512x66x512_S512x2_S512x512_1_01_01_1.start (ix2 k e) idx 1 + (0 : ℤ) = _; rw [s1, h1]; exact Int.add_zero _
    | ⟨2, _⟩ => show (0 : ℤ) + (e.val : ℤ) = (e.val : ℤ); omega

/-- Row `n` of the loop's scatter: the update's row at its position, the operand's elsewhere. -/
theorem scatter66 (x : S512x66x512.Idx → α) (idx : IVec S512x2 32) (u : S512x512.Idx → α) (n c : Fin 512) (p : Fin 66) (d : ℕ) (hd : d < 66)
    (h0 : ∀ k : Fin 512, idx (ix2 k 0) = BitVec.ofNat 32 k.val) (h1 : idx (ix2 n 1) = BitVec.ofNat 32 d) :
    Host.scatter scatter_S512x66x512_S512x2_S512x512_1_01_01_1 (fun _ b => b) x idx u (ix3 n p c) = if p.val = d then u (ix2 n c) else x (ix3 n p c) := by
  have hi (v : ℕ) (hv : v < 512) : (BitVec.ofNat 32 v).toInt = v := by
    rw [BitVec.toInt_eq_toNat_of_lt (by rw [BitVec.toNat_ofNat]; omega), BitVec.toNat_ofNat, Nat.mod_eq_of_lt (by omega)]
  have key (k : S512x512.Idx) (hk : scatter_S512x66x512_S512x2_S512x512_1_01_01_1.resultIdx? k idx = some (ix3 n p c)) : k = ix2 n c ∧ p.val = d := by
    obtain ⟨a, b, rfl⟩ : ∃ (a b : Fin 512), k = ix2 a b := ⟨k 0, k 1, eq_ix2 k⟩
    rw [lands2, h0, hi _ a.isLt] at hk
    obtain ⟨q0, q1, q2⟩ := hk
    have : a = n := Fin.ext (by omega)
    subst this; subst q2
    rw [h1, hi _ (by omega)] at q1
    exact ⟨rfl, by omega⟩
  by_cases hp : p.val = d
  · rw [if_pos hp]
    refine Routing.scatter_set_hit _ _ _ _ _ _ (fun k hk => by rw [(key k hk).1]) (ix2 n c) ?_
    rw [lands2, h0, hi _ n.isLt, h1, hi _ (by omega)]
    exact ⟨rfl, by omega, rfl⟩
  · rw [if_neg hp]
    exact Routing.scatter_set_miss _ _ _ _ _ fun k hk => hp (key k hk).2

/-- Where an update of the first scatters lands: at its own row and column, at the position of the one word. -/
theorem lands1 (idx : IVec S1 32) (k e n c : Fin 512) (p : Fin 66) :
    scatter_S512x66x512_S1_S512x512_01_1_1_0.resultIdx? (ix2 k e) idx = some (ix3 n p c) ↔ k = n ∧ (idx (ix1 0)).toInt = p.val ∧ e = c := by
  rw [Routing.resultIdx?_eq_some]
  have s1 : scatter_S512x66x512_S1_S512x512_01_1_1_0.start (ix2 k e) idx 1 = (idx (ix1 0)).toInt := by
    show (idx _).toInt = _
    congr 2
    funext b
    match b with
    | ⟨0, _⟩ => rfl
  constructor
  · intro h
    have a0 : (0 : ℤ) + (k.val : ℤ) = (n.val : ℤ) := h 0
    have a1 := h 1
    have a2 : (0 : ℤ) + (e.val : ℤ) = (c.val : ℤ) := h 2
    rw [s1] at a1
    exact ⟨Fin.ext (by omega), (Int.add_zero _).symm.trans a1, Fin.ext (by omega)⟩
  · rintro ⟨rfl, h1, rfl⟩ a
    match a with
    | ⟨0, _⟩ => show (0 : ℤ) + (k.val : ℤ) = (k.val : ℤ); omega
    | ⟨1, _⟩ => show scatter_S512x66x512_S1_S512x512_01_1_1_0.start (ix2 k e) idx 1 + (0 : ℤ) = _; rw [s1, h1]; exact Int.add_zero _
    | ⟨2, _⟩ => show (0 : ℤ) + (e.val : ℤ) = (e.val : ℤ); omega

/-- The first scatters: the update at one position, the operand elsewhere. -/
theorem scatter1 (x : S512x66x512.Idx → α) (idx : IVec S1 32) (u : S512x512.Idx → α) (n c : Fin 512) (p : Fin 66) (d : ℕ) (hd : d < 66)
    (h : idx (ix1 0) = BitVec.ofNat 32 d) :
    Host.scatter scatter_S512x66x512_S1_S512x512_01_1_1_0 (fun _ b => b) x idx u (ix3 n p c) = if p.val = d then u (ix2 n c) else x (ix3 n p c) := by
  have hi : (BitVec.ofNat 32 d).toInt = d := by
    rw [BitVec.toInt_eq_toNat_of_lt (by rw [BitVec.toNat_ofNat]; omega), BitVec.toNat_ofNat, Nat.mod_eq_of_lt (by omega)]
  have key (k : S512x512.Idx) (hk : scatter_S512x66x512_S1_S512x512_01_1_1_0.resultIdx? k idx = some (ix3 n p c)) : k = ix2 n c ∧ p.val = d := by
    obtain ⟨a, b, rfl⟩ : ∃ (a b : Fin 512), k = ix2 a b := ⟨k 0, k 1, eq_ix2 k⟩
    rw [lands1, h, hi] at hk
    obtain ⟨rfl, q1, rfl⟩ := hk
    exact ⟨rfl, by omega⟩
  by_cases hp : p.val = d
  · rw [if_pos hp]
    refine Routing.scatter_set_hit _ _ _ _ _ _ (fun k hk => by rw [(key k hk).1]) (ix2 n c) ?_
    rw [lands1, h, hi]
    exact ⟨rfl, by omega, rfl⟩
  · rw [if_neg hp]
    exact Routing.scatter_set_miss _ _ _ _ _ fun k hk => hp (key k hk).2

end Cert.ReferenceIdeal.Row

end
-- ==== Proof.RefRow.lean ====
/- The reference's loop body at the extended reals, one row at a time. -/
module

public import proofs.«01_k».proof.Proof.Gen.ReferenceIdeal.Run
public import proofs.«01_k».proof.Proof.Spec
public import proofs.«01_k».proof.Proof.RefIdx
public import Idealize.ShloMosaic.Lib.Tactic.CleanTypes

@[expose] public section

set_option maxRecDepth 16384

noncomputable section

namespace Cert.ReferenceIdeal.Row

open Idealize.ShloMosaic Idealize.ShloMosaic.TcCoe Idealize.ShloMosaic.StableHlo
open Cert.ReferenceIdeal Cert.ReferenceIdeal.Gen Cert.ReferenceIdeal.Value Cert.Words Cert.Spec

/-- The carried buffers before trip `t`: each row's words, its sequence, the weights, and each row's stack and tracker. -/
structure Inv (w : Wt) (bi bh : ℕ → EReal) (q : ℕ → ℕ → ℕ → EReal) (x : ℕ → ℕ → BitVec 32) (t : ℕ) (R : ℕ → Rw) (V0 : Valuation τ sig (Elt Ideal)) : Prop where
  tr : ∀ (s : Fin 125) (n : Fin 512), V0 (Proc.devRef .tc main_v24_0) (ix2 s n) = x n.val s.val
  io : ∀ n : Fin 512, V0 (Proc.devRef .tc main_v24_1) (ix1 n) = BitVec.ofNat 32 n.val
  qh : ∀ (n : Fin 512) (b : Fin 64) (k : Fin 512), V0 (Proc.devRef .tc main_v24_2) (ix3 n b k) = q n.val b.val k.val
  qc : ∀ (n : Fin 512) (b : Fin 64) (k : Fin 512), V0 (Proc.devRef .tc main_v24_3) (ix3 n b k) = q n.val b.val (512 + k.val)
  wih : ∀ (k : Fin 1536) (j : Fin 256), V0 (Proc.devRef .tc main_v24_4) (ix2 k j) = w.wih k.val j.val
  b : ∀ j, w.b j = bi j + bh j
  b1 : ∀ j : Fin 256, V0 (Proc.devRef .tc main_v24_5) (ix1 j) = bi j.val
  b2 : ∀ j : Fin 256, V0 (Proc.devRef .tc main_v24_7) (ix1 j) = bh j.val
  whh : ∀ (k : Fin 64) (j : Fin 256), V0 (Proc.devRef .tc main_v24_6) (ix2 k j) = w.whh k.val j.val
  uw : ∀ (k : Fin 512) (j : Fin 2560), V0 (Proc.devRef .tc main_v24_8) (ix2 k j) = w.uw k.val j.val
  ub : ∀ j : Fin 2560, V0 (Proc.devRef .tc main_v24_9) (ix1 j) = w.ub j.val
  ul : ∀ (k : Fin 512) (j : Fin 2560), V0 (Proc.devRef .tc main_v24_10) (ix2 k j) = w.ul k.val j.val
  ur : ∀ (k : Fin 512) (j : Fin 2560), V0 (Proc.devRef .tc main_v24_11) (ix2 k j) = w.ur k.val j.val
  uc : ∀ (k : Fin 64) (j : Fin 2560), V0 (Proc.devRef .tc main_v24_12) (ix2 k j) = w.uc k.val j.val
  ctr : ∀ i, V0 (Proc.devRef .tc main_v24_13) i = BitVec.ofNat 32 t
  sh : ∀ (n : Fin 512) (p : Fin 66) (k : Fin 512), V0 (Proc.devRef .tc main_v24_14) (ix3 n p k) = (R n.val).st p.val k.val
  sc : ∀ (n : Fin 512) (p : Fin 66) (k : Fin 512), V0 (Proc.devRef .tc main_v24_15) (ix3 n p k) = (R n.val).st p.val (512 + k.val)
  sp : ∀ n : Fin 512, V0 (Proc.devRef .tc main_v24_16) (ix1 n) = befW (x n.val) t
  bp : ∀ n : Fin 512, V0 (Proc.devRef .tc main_v24_17) (ix1 n) = IntOp.minsi (posW (x n.val) t) 63#32
  th : ∀ (n : Fin 512) (k : Fin 64), V0 (Proc.devRef .tc main_v24_18) (ix2 n k) = (R n.val).th k.val
  tc : ∀ (n : Fin 512) (k : Fin 64), V0 (Proc.devRef .tc main_v24_19) (ix2 n k) = (R n.val).tc k.val

/-- A word in range is its number. -/
theorem eq_ofNat {v : BitVec 32} {k : ℕ} (h : v.toNat = k) : v = BitVec.ofNat 32 k := by
  rw [← h, BitVec.ofNat_toNat, BitVec.setWidth_eq]

/-- Two columns of positions as the words of a gather or a scatter, each wrapped once from below. -/
abbrev widx (a b : IVec S512 32) (K : BitVec 32) : IVec S512x2 32 :=
  concatenate S512x2 1 [⟨S512x1, (broadcastInDim S512x1 ![0] bcast_S512_S512x1_0 (select (cmpi .slt a (broadcastInDim S512 ![] bcast_S_S512 (constantI S_ 32 0#32))) (addi a (broadcastInDim S512 ![] bcast_S_S512 (constantI S_ 32 512#32))) a))⟩, ⟨S512x1, (broadcastInDim S512x1 ![0] bcast_S512_S512x1_0 (select (cmpi .slt b (broadcastInDim S512 ![] bcast_S_S512 (constantI S_ 32 0#32))) (addi b (broadcastInDim S512 ![] bcast_S_S512 (constantI S_ 32 K))) b))⟩] concatenates_S512x1_S512x1_S512x2_d1
/-- A small word is not negative, so its wrap is itself. -/
theorem wrap_small (p : ℕ) (hp : p < 512) (K : BitVec 32) :
    Scalar.select (IntOp.cmpi CmpIPredicate.slt (BitVec.ofNat 32 p) 0#32) (IntOp.addi (BitVec.ofNat 32 p) K) (BitVec.ofNat 32 p) = BitVec.ofNat 32 p := by
  have e : (BitVec.ofNat 32 p).slt 0#32 = false := by
    rw [BitVec.slt_eq_decide, BitVec.toInt_eq_toNat_of_lt (by rw [BitVec.toNat_ofNat]; omega)]
    exact decide_eq_false (by show ¬ (((BitVec.ofNat 32 p).toNat : ℤ) < 0); omega)
  unfold IntOp.cmpi
  rw [e]
  rfl
theorem widx0 (a b : IVec S512 32) (K : BitVec 32) (n : Fin 512) (h : a (ix1 n) = BitVec.ofNat 32 n.val) :
    widx a b K (ix2 n 0) = BitVec.ofNat 32 n.val := by
  unfold widx
  pointwise
  rw [h]
  exact wrap_small _ n.isLt _
theorem widx1 (a b : IVec S512 32) (K : BitVec 32) (n : Fin 512) (p : ℕ) (hp : p < 66) (h : b (ix1 n) = BitVec.ofNat 32 p) :
    widx a b K (ix2 n 1) = BitVec.ofNat 32 p := by
  unfold widx
  pointwise
  rw [h]
  exact wrap_small _ (by omega) _

/-- A choice by the equality of two words. -/
theorem sel_eq {α : Type} (a b : BitVec 32) (u v : α) : Scalar.select (IntOp.cmpi CmpIPredicate.eq a b) u v = if a = b then u else v := by
  unfold Scalar.select IntOp.cmpi
  by_cases h : a = b
  · subst h; simp
  · rw [if_neg h, show (a == b) = false from beq_false_of_ne h]; rfl

/-- A sum of 1536 terms in three parts. -/
theorem sum1536 (f : ℕ → EReal) : (∑ k : Fin 1536, f k.val) = (∑ k : Fin 512, f k.val) + (∑ k : Fin 512, f (512 + k.val)) + (∑ k : Fin 512, f (1024 + k.val)) := by
  have h1 := Fin.sum_univ_add (M := EReal) (a := 1024) (b := 512) (fun k : Fin (1024 + 512) => f k.val)
  have h2 := Fin.sum_univ_add (M := EReal) (a := 512) (b := 512) (fun k : Fin (512 + 512) => f k.val)
  refine h1.trans ?_
  refine (congrArg (· + _) h2).trans ?_
  rfl

/-- The smaller of a small word and 63. -/
theorem min63 (v : BitVec 32) (h : v.toNat < 1000) : (IntOp.minsi v 63#32).toNat = min v.toNat 63 := by
  have e : v.slt 63#32 = decide (v.toNat < 63) := by
    rw [BitVec.slt_eq_decide, BitVec.toInt_eq_toNat_of_lt (by omega)]
    show decide ((v.toNat : ℤ) < 63) = _
    congr 1
    exact propext (by omega)
  unfold IntOp.minsi
  rw [e]
  by_cases hp : v.toNat < 63
  · rw [decide_eq_true hp, if_pos rfl]; omega
  · rw [decide_eq_false hp, if_neg (by decide)]; show 63 = _; omega

variable {w : Wt} {bi bh : ℕ → EReal} {q : ℕ → ℕ → ℕ → EReal} {x : ℕ → ℕ → BitVec 32} {t : ℕ} {R : ℕ → Rw} {V0 : Valuation τ sig (Elt Ideal)}
variable (I : Inv w bi bh q x t R V0) (ht : t < 125) (hx : ∀ n < 512, RowOk (x n))
include I ht hx

theorem v41_at (n : Fin 512) : res_main_while0b_v41 V0 (ix1 n) = x n.val t := by
  unfold res_main_while0b_v41
  clean_types
  pointwise
  refine (congrArg (V0 (Proc.devRef .tc main_v24_0)) (congrArg₂ ix2 (Fin.ext ?_) (Fin.ext ?_))).trans (I.tr ⟨t, ht⟩ n)
  · simp only [Host.clampedStart, Matrix.cons_val_zero, I.ctr]
    show (min (max (BitVec.ofNat 32 t).toInt 0) ((124 : ℕ) : ℤ)).toNat = t
    rw [BitVec.toInt_eq_toNat_of_lt (by rw [BitVec.toNat_ofNat]; omega), BitVec.toNat_ofNat]
    omega
  · simp only [Host.clampedStart]
    show (min (max (BitVec.toInt 0#32) 0) ((0 : ℕ) : ℤ)).toNat + n.val = n.val
    exact Nat.zero_add _

/-- The transition is one, two or three. -/
theorem three (n : Fin 512) : x n.val t = 1#32 ∨ x n.val t = 2#32 ∨ x n.val t = 3#32 := by
  have h1 := (hx n.val n.isLt).lo t ht
  have h2 := (hx n.val n.isLt).hi t ht
  have h3 : (x n.val t).toNat = 1 ∨ (x n.val t).toNat = 2 ∨ (x n.val t).toNat = 3 := by omega
  exact h3.imp eq_ofNat (fun h => h.imp eq_ofNat eq_ofNat)

/-- The positions of the top row, of the second row, and of the front. -/
theorem top_word (n : Fin 512) : IntOp.subi (befW (x n.val) t) 1#32 = BitVec.ofNat 32 ((befW (x n.val) t).toNat - 1) := by
  have h := (hx n.val n.isLt).bef_lo ht
  refine eq_ofNat ?_
  show (befW (x n.val) t - 1#32).toNat = _
  bv_omega
theorem sec_word (n : Fin 512) : IntOp.subi (befW (x n.val) t) 2#32 = BitVec.ofNat 32 ((befW (x n.val) t).toNat - 2) := by
  have h := (hx n.val n.isLt).bef_lo ht
  refine eq_ofNat ?_
  show (befW (x n.val) t - 2#32).toNat = _
  bv_omega
theorem buf_word (n : Fin 512) : IntOp.minsi (posW (x n.val) t) 63#32 = BitVec.ofNat 32 (min (posN (x n.val) t) 63) :=
  eq_ofNat ((hx n.val n.isLt).min_toNat ht)

theorem v57_at (n k : Fin 512) : res_main_while0b_v57 V0 (ix2 n k) = (R n.val).st ((befW (x n.val) t).toNat - 1) k.val := by
  have h := (hx n.val n.isLt).bef_hi ht
  unfold res_main_while0b_v57
  refine (gather66 _ _ n k ⟨_, by omega⟩ (widx0 _ _ _ n (I.io n)) (widx1 _ _ _ n ((befW (x n.val) t).toNat - 1) (by omega) ?_)).trans (I.sh n ⟨_, by omega⟩ k)
  unfold res_main_while0b_v43
  pointwise
  rw [I.sp]
  exact top_word I ht hx n
theorem v73_at (n k : Fin 512) : res_main_while0b_v73 V0 (ix2 n k) = (R n.val).st ((befW (x n.val) t).toNat - 1) (512 + k.val) := by
  have h := (hx n.val n.isLt).bef_hi ht
  unfold res_main_while0b_v73
  refine (gather66 _ _ n k ⟨_, by omega⟩ (widx0 _ _ _ n (I.io n)) (widx1 _ _ _ n ((befW (x n.val) t).toNat - 1) (by omega) ?_)).trans (I.sc n ⟨_, by omega⟩ k)
  unfold res_main_while0b_v59
  pointwise
  rw [I.sp]
  exact top_word I ht hx n
theorem v89_at (n k : Fin 512) : res_main_while0b_v89 V0 (ix2 n k) = (R n.val).st ((befW (x n.val) t).toNat - 2) k.val := by
  have h := (hx n.val n.isLt).bef_hi ht
  unfold res_main_while0b_v89
  refine (gather66 _ _ n k ⟨_, by omega⟩ (widx0 _ _ _ n (I.io n)) (widx1 _ _ _ n ((befW (x n.val) t).toNat - 2) (by omega) ?_)).trans (I.sh n ⟨_, by omega⟩ k)
  unfold res_main_while0b_v75
  pointwise
  rw [I.sp]
  exact sec_word I ht hx n
theorem v105_at (n k : Fin 512) : res_main_while0b_v105 V0 (ix2 n k) = (R n.val).st ((befW (x n.val) t).toNat - 2) (512 + k.val) := by
  have h := (hx n.val n.isLt).bef_hi ht
  unfold res_main_while0b_v105
  refine (gather66 _ _ n k ⟨_, by omega⟩ (widx0 _ _ _ n (I.io n)) (widx1 _ _ _ n ((befW (x n.val) t).toNat - 2) (by omega) ?_)).trans (I.sc n ⟨_, by omega⟩ k)
  unfold res_main_while0b_v91
  pointwise
  rw [I.sp]
  exact sec_word I ht hx n
theorem front_idx (n : Fin 512) : V0 (Proc.devRef .tc main_v24_17) (ix1 n) = BitVec.ofNat 32 (min (posN (x n.val) t) 63) := by
  rw [I.bp]
  exact buf_word I ht hx n
theorem v119_at (n k : Fin 512) : res_main_while0b_v119 V0 (ix2 n k) = q n.val (min (posN (x n.val) t) 63) k.val := by
  unfold res_main_while0b_v119
  exact (gather64 _ _ n k ⟨_, by omega⟩ (widx0 _ _ _ n (I.io n)) (widx1 _ _ _ n (min (posN (x n.val) t) 63) (by omega) (front_idx I ht hx n))).trans (I.qh n ⟨_, by omega⟩ k)

/-- The tracker's pre-activations. -/
theorem v143_at (n : Fin 512) (j : Fin 256) : res_main_while0b_v143 V0 (ix2 n j)
    = gate w (q n.val (min (posN (x n.val) t) 63)) ((R n.val).st ((befW (x n.val) t).toNat - 1)) ((R n.val).st ((befW (x n.val) t).toNat - 2)) (R n.val).th j.val := by
  unfold res_main_while0b_v143
  clean_types
  pointwise
  simp only [v57_at I ht hx, v89_at I ht hx, v119_at I ht hx, I.wih, I.b1, I.b2, I.th, I.whh, dite_eq_ite]
  rw [sum1536 (fun y => (if y < 512 then q n.val (min (posN (x n.val) t) 63) y else if y - 512 < 512 then (R n.val).st ((befW (x n.val) t).toNat - 1) (y - 512)
    else (R n.val).st ((befW (x n.val) t).toNat - 2) (y - 512 - 512)) * w.wih y j.val)]
  have e1 (k : Fin 512) : ¬ 512 + k.val < 512 := by omega
  have e2 (k : Fin 512) : 512 + k.val - 512 = k.val := by omega
  have e3 (k : Fin 512) : ¬ 1024 + k.val < 512 := by omega
  have e4 (k : Fin 512) : ¬ 1024 + k.val - 512 < 512 := by omega
  have e5 (k : Fin 512) : 1024 + k.val - 512 - 512 = k.val := by omega
  simp only [Fin.is_lt, if_true, e1, e2, e3, e4, e5, if_false]
  unfold gate
  rw [I.b, add_right_comm _ (bi j.val), add_assoc _ (bi j.val)]

/-- The tracker's new cell and hidden state. -/
theorem v163_at (n : Fin 512) (j : Fin 64) : res_main_while0b_v163 V0 (ix2 n j)
    = tcell (gate w (q n.val (min (posN (x n.val) t) 63)) ((R n.val).st ((befW (x n.val) t).toNat - 1)) ((R n.val).st ((befW (x n.val) t).toNat - 2)) (R n.val).th) (R n.val).tc j.val := by
  unfold res_main_while0b_v163
  clean_types
  pointwise
  simp only [v143_at I ht hx, I.tc]
  rfl
theorem v171_at (n : Fin 512) (j : Fin 64) : res_main_while0b_v171 V0 (ix2 n j)
    = thid (gate w (q n.val (min (posN (x n.val) t) 63)) ((R n.val).st ((befW (x n.val) t).toNat - 1)) ((R n.val).st ((befW (x n.val) t).toNat - 2)) (R n.val).th) (R n.val).tc j.val := by
  unfold res_main_while0b_v171
  clean_types
  pointwise
  simp only [v143_at I ht hx, v163_at I ht hx]
  rfl

theorem two_iff (n : Fin 512) : (x n.val t = 2#32) = ((x n.val t).toNat = 2) :=
  propext ⟨fun h => by rw [h]; rfl, fun h => eq_ofNat h⟩

/-- The composition's pre-activations. -/
theorem v192_at (n : Fin 512) (j : Fin 2560) (H : ℕ → EReal) (hH : ∀ k : Fin 64, res_main_while0b_v171 V0 (ix2 n k) = H k.val) : res_main_while0b_v192 V0 (ix2 n j)
    = comp w (x n.val t).toNat ((R n.val).st ((befW (x n.val) t).toNat - 1)) ((R n.val).st ((befW (x n.val) t).toNat - 2)) H j.val := by
  unfold res_main_while0b_v192 res_main_while0b_v181 res_main_while0b_v178 res_main_while0b_v175
  clean_types
  pointwise
  simp only [v41_at I ht hx, v57_at I ht hx, v89_at I ht hx, sel_eq, hH, I.uw, I.ub, I.ul, I.ur, I.uc, two_iff I ht hx]
  unfold comp head child
  by_cases h : (x n.val t).toNat = 2
  · simp only [h, if_true]
    rw [add_right_comm (∑ k : Fin 512, _ : EReal), add_right_comm]
  · simp only [h, if_false]
    rw [add_right_comm (∑ k : Fin 512, _ : EReal), add_right_comm]

/-- The composed cell. -/
theorem v221_at (n : Fin 512) (k : Fin 512) (G : ℕ → EReal) (hG : ∀ j : Fin 2560, res_main_while0b_v192 V0 (ix2 n j) = G j.val) : res_main_while0b_v221 V0 (ix2 n k)
    = cnew (x n.val t).toNat G ((R n.val).st ((befW (x n.val) t).toNat - 1)) ((R n.val).st ((befW (x n.val) t).toNat - 2)) k.val := by
  unfold res_main_while0b_v221 res_main_while0b_v178 res_main_while0b_v175
  clean_types
  pointwise
  simp only [v41_at I ht hx, v73_at I ht hx, v105_at I ht hx, sel_eq, hG, two_iff I ht hx]
  unfold cnew head child
  by_cases h : (x n.val t).toNat = 2
  · simp only [h, if_true]
    rfl
  · simp only [h, if_false]
    rfl

/-- The depth after the step. -/
theorem v238_at (n : Fin 512) : res_main_while0b_v238 V0 (ix1 n) = aftW (x n.val) t := by
  unfold res_main_while0b_v238 res_main_while0b_v230 res_main_while0b_v173 res_main_while0b_v175
  clean_types
  pointwise
  simp only [v41_at I ht hx, I.sp]
  rcases three I ht hx n with h | h | h
  · rw [aft_shift _ _ h, h]
    show befW (x n.val) t + 1#32 - 0#32 = _
    exact BitVec.sub_zero _
  · rw [aft_reduce _ _ (by rw [h]; decide), h]
    show befW (x n.val) t + 0#32 - 1#32 = _
    rw [BitVec.add_zero]
  · rw [aft_reduce _ _ (by rw [h]; decide), h]
    show befW (x n.val) t + 0#32 - 1#32 = _
    rw [BitVec.add_zero]
theorem v240_at (n : Fin 512) : res_main_while0b_v240 V0 (ix1 n)
    = BitVec.ofNat 32 (if (x n.val t).toNat = 1 then (befW (x n.val) t).toNat else (befW (x n.val) t).toNat - 2) := by
  have e : (x n.val t = 1#32) = ((x n.val t).toNat = 1) := propext ⟨fun h => by rw [h]; rfl, fun h => eq_ofNat h⟩
  unfold res_main_while0b_v240
  pointwise
  rw [v238_at I ht hx]
  refine eq_ofNat (((hx n.val n.isLt).place_toNat ht).trans ?_)
  simp only [e]
/-- The place written is in range. -/
theorem place_lt (n : Fin 512) : (if (x n.val t).toNat = 1 then (befW (x n.val) t).toNat else (befW (x n.val) t).toNat - 2) < 66 := by
  have h := (hx n.val n.isLt).bef_hi ht
  split <;> omega

/-- What is written: the pushed row's element. -/
theorem pushed (n : Fin 512) (y b e g : EReal)
    (he : (x n.val t).toNat ≠ 1 → e = y) (hy : (x n.val t).toNat = 1 → b = y) :
    Scalar.select (IntOp.ori (IntOp.cmpi .eq (x n.val t) 1#32) (IntOp.ori (IntOp.cmpi .eq (x n.val t) 2#32) (IntOp.cmpi .eq (x n.val t) 3#32)))
      (Scalar.select (IntOp.cmpi .eq (x n.val t) 1#32) b e) g = y := by
  rcases three I ht hx n with h | h | h
  · rw [h] at hy ⊢
    exact hy rfl
  · rw [h] at he ⊢
    exact he (by decide)
  · rw [h] at he ⊢
    exact he (by decide)

/-- The front's position after the step. -/
theorem step17_at (n : Fin 512) : step_main_v24_17 V0 (ix1 n) = IntOp.minsi (posW (x n.val) (t + 1)) 63#32 := by
  have h1 := posW_toNat (x n.val) t (by omega)
  have h2 := posW_toNat (x n.val) (t + 1) (by omega)
  have h3 := posN_le (x n.val) t
  have h4 := min63 (posW (x n.val) t) (by omega)
  have h5 : posN (x n.val) (t + 1) = posN (x n.val) t + if x n.val t = 1#32 then 1 else 0 := rfl
  unfold step_main_v24_17 res_main_while0b_v173
  dsimp only [id]
  clean_types
  pointwise
  simp only [v41_at I ht hx, I.bp]
  refine BitVec.eq_of_toNat_eq ?_
  rcases three I ht hx n with h | h
  · rw [if_pos h] at h5
    rw [h, min63 (posW (x n.val) (t + 1)) (by omega), h2, h5]
    have e : (IntOp.minsi (posW (x n.val) t) 63#32 + 1#32).toNat = min (posN (x n.val) t) 63 + 1 := by
      rw [BitVec.toNat_add, h4, h1]; show (_ + 1) % 4294967296 = _; omega
    refine (min63 (IntOp.minsi (posW (x n.val) t) 63#32 + 1#32) (by omega)).trans ?_
    rw [e]; omega
  · have hn : x n.val t ≠ 1#32 := by rcases h with h | h <;> rw [h] <;> decide
    have hs : IntOp.cmpi CmpIPredicate.eq (x n.val t) 1#32 = 0#1 := by rcases h with h | h <;> rw [h] <;> rfl
    rw [if_neg hn] at h5
    rw [hs, min63 (posW (x n.val) (t + 1)) (by omega), h2, h5]
    have e : (IntOp.minsi (posW (x n.val) t) 63#32 + 0#32).toNat = min (posN (x n.val) t) 63 := by
      rw [BitVec.add_zero, h4, h1]
    refine (min63 (IntOp.minsi (posW (x n.val) t) 63#32 + 0#32) (by omega)).trans ?_
    rw [e]; omega

end Cert.ReferenceIdeal.Row

end
-- ==== Proof.RefStep.lean ====
/- The reference's stacks after one trip, and every trip. -/
module

public import proofs.«01_k».proof.Proof.Gen.ReferenceIdeal.Run
public import proofs.«01_k».proof.Proof.Spec
public import proofs.«01_k».proof.Proof.RefRow
public import Idealize.ShloMosaic.Lib.Tactic.CleanTypes

@[expose] public section

set_option maxRecDepth 16384

noncomputable section

namespace Cert.ReferenceIdeal.Row

open Idealize.ShloMosaic Idealize.ShloMosaic.TcCoe Idealize.ShloMosaic.StableHlo
open Cert.ReferenceIdeal Cert.ReferenceIdeal.Gen Cert.ReferenceIdeal.Value Cert.Words Cert.Spec

variable {w : Wt} {bi bh : ℕ → EReal} {q : ℕ → ℕ → ℕ → EReal} {x : ℕ → ℕ → BitVec 32} {t : ℕ} {R : ℕ → Rw} {V0 : Valuation τ sig (Elt Ideal)}
variable (I : Inv w bi bh q x t R V0) (ht : t < 125) (hx : ∀ n < 512, RowOk (x n))
include I ht hx

omit I ht hx in
/-- A step's stack. -/
theorem stepR_st (w : Wt) (q : ℕ → ℕ → EReal) (tr d b : ℕ) (s : Rw) (p c : ℕ) : (stepR w q tr d b s).st p c
    = if p = (if tr = 1 then d else d - 2) then push w tr (q b) (s.st (d - 1)) (s.st (d - 2))
        (thid (gate w (q b) (s.st (d - 1)) (s.st (d - 2)) s.th) s.tc) c else s.st p c := rfl

/-- The stack's hidden half after the step. -/
theorem step14_at (n : Fin 512) (p : Fin 66) (k : Fin 512) : step_main_v24_14 V0 (ix3 n p k)
    = (stepR w (q n.val) (x n.val t).toNat (befW (x n.val) t).toNat (min (posN (x n.val) t) 63) (R n.val)).st p.val k.val := by
  unfold step_main_v24_14
  rw [id_eq, stepR_st]
  clean_types
  have h1 := widx1 (V0 (Proc.devRef .tc main_v24_1)) _ 66#32 n _ (place_lt I ht hx n) (v240_at I ht hx n)
  have h0 := fun i => widx0 (V0 (Proc.devRef .tc main_v24_1)) (res_main_while0b_v240 V0) 66#32 i (I.io i)
  have key := scatter66 (α := EReal) (V0 (Proc.devRef .tc main_v24_14)) (widx (V0 (Proc.devRef .tc main_v24_1)) (res_main_while0b_v240 V0) 66#32)
  have key2 := fun u => key u n k p _ (place_lt I ht hx n) h0 h1
  refine (key2 _).trans ?_
  clear key key2 h0 h1
  rw [I.sh]
  by_cases hp : p.val = if (x n.val t).toNat = 1 then (befW (x n.val) t).toNat else (befW (x n.val) t).toNat - 2
  swap
  · rw [if_neg hp, if_neg hp]
  rw [if_pos hp, if_pos hp]
  clear hp
  unfold res_main_while0b_v242 res_main_while0b_v173 res_main_while0b_v230 res_main_while0b_v175
  clean_types
  have hG (j : Fin 2560) := v192_at I ht hx n j _ (v171_at I ht hx n)
  have hC := v221_at I ht hx n k _ hG
  have hB := v119_at I ht hx n k
  generalize (thid (gate w (q n.val (min (posN (x n.val) t) 63)) ((R n.val).st ((befW (x n.val) t).toNat - 1)) ((R n.val).st ((befW (x n.val) t).toNat - 2)) (R n.val).th) (R n.val).tc) = H at hG hC ⊢
  pointwise
  simp only [v41_at I ht hx]
  rw [hB, hG, hC]
  refine pushed I ht hx n _ _ _ _ (fun h => ?_) (fun h => ?_)
  · unfold push
    rw [if_neg h, if_pos k.isLt]
    rfl
  · unfold push
    rw [if_pos h]

/-- The stack's cell half after the step. -/
theorem step15_at (n : Fin 512) (p : Fin 66) (k : Fin 512) : step_main_v24_15 V0 (ix3 n p k)
    = (stepR w (q n.val) (x n.val t).toNat (befW (x n.val) t).toNat (min (posN (x n.val) t) 63) (R n.val)).st p.val (512 + k.val) := by
  unfold step_main_v24_15
  rw [id_eq, stepR_st]
  clean_types
  have h1 := widx1 (V0 (Proc.devRef .tc main_v24_1)) _ 66#32 n _ (place_lt I ht hx n) (v240_at I ht hx n)
  have h0 := fun i => widx0 (V0 (Proc.devRef .tc main_v24_1)) (res_main_while0b_v240 V0) 66#32 i (I.io i)
  have key := scatter66 (α := EReal) (V0 (Proc.devRef .tc main_v24_15)) (widx (V0 (Proc.devRef .tc main_v24_1)) (res_main_while0b_v240 V0) 66#32)
  have key2 := fun u => key u n k p _ (place_lt I ht hx n) h0 h1
  refine (key2 _).trans ?_
  clear key key2 h0 h1
  rw [I.sc]
  by_cases hp : p.val = if (x n.val t).toNat = 1 then (befW (x n.val) t).toNat else (befW (x n.val) t).toNat - 2
  swap
  · rw [if_neg hp, if_neg hp]
  rw [if_pos hp, if_pos hp]
  clear hp
  unfold res_main_while0b_v242 res_main_while0b_v173 res_main_while0b_v230 res_main_while0b_v175
  clean_types
  have hG (j : Fin 2560) := v192_at I ht hx n j _ (v171_at I ht hx n)
  have hC := v221_at I ht hx n k _ hG
  have hB := v119_at I ht hx n k
  generalize (thid (gate w (q n.val (min (posN (x n.val) t) 63)) ((R n.val).st ((befW (x n.val) t).toNat - 1)) ((R n.val).st ((befW (x n.val) t).toNat - 2)) (R n.val).th) (R n.val).tc) = H at hG hC ⊢
  have hq : Host.gather gather_S512x64x512_S512x2_S512x512_1_01_n_n_01_1_11512 (V0 (Proc.devRef .tc main_v24_3))
      (widx (V0 (Proc.devRef .tc main_v24_1)) (V0 (Proc.devRef .tc main_v24_17)) 64#32) (ix2 n k) = q n.val (min (posN (x n.val) t) 63) (512 + k.val) :=
    (gather64 _ _ n k ⟨_, by omega⟩ (widx0 _ _ _ n (I.io n)) (widx1 _ _ _ n (min (posN (x n.val) t) 63) (by omega) (front_idx I ht hx n))).trans (I.qc n ⟨_, by omega⟩ k)
  unfold widx at hq
  generalize hg : Host.gather gather_S512x64x512_S512x2_S512x512_1_01_n_n_01_1_11512 (V0 (Proc.devRef .tc main_v24_3)) _ = g64
  rw [hg] at hq
  clear hg
  pointwise
  simp only [v41_at I ht hx]
  rw [hC]
  refine pushed I ht hx n _ _ _ _ (fun h => ?_) (fun h => ?_)
  · unfold push
    rw [if_neg h, if_neg (by omega), Nat.add_sub_cancel_left]
  · unfold push
    rw [if_pos h]
    exact hq

/-- One trip keeps the invariant, each row stepped. -/
theorem inv_step : Inv w bi bh q x (t + 1) (fun n => stepR w (q n) (x n t).toNat (befW (x n) t).toNat (min (posN (x n) t) 63) (R n)) (STEP V0) where
  tr s n := by rw [STEP_main_v24_0]; exact I.tr s n
  io n := by rw [STEP_main_v24_1]; exact I.io n
  qh n b k := by rw [STEP_main_v24_2]; exact I.qh n b k
  qc n b k := by rw [STEP_main_v24_3]; exact I.qc n b k
  wih k j := by rw [STEP_main_v24_4]; exact I.wih k j
  b := I.b
  b1 j := by rw [STEP_main_v24_5]; exact I.b1 j
  b2 j := by rw [STEP_main_v24_7]; exact I.b2 j
  whh k j := by rw [STEP_main_v24_6]; exact I.whh k j
  uw k j := by rw [STEP_main_v24_8]; exact I.uw k j
  ub j := by rw [STEP_main_v24_9]; exact I.ub j
  ul k j := by rw [STEP_main_v24_10]; exact I.ul k j
  ur k j := by rw [STEP_main_v24_11]; exact I.ur k j
  uc k j := by rw [STEP_main_v24_12]; exact I.uc k j
  ctr i := by
    rw [STEP_main_v24_13]
    show IntOp.addi (V0 (Proc.devRef .tc main_v24_13) i) 1#32 = _
    rw [I.ctr]
    exact (BitVec.ofNat_add t 1).symm
  sh n p k := by rw [STEP_main_v24_14]; exact step14_at I ht hx n p k
  sc n p k := by rw [STEP_main_v24_15]; exact step15_at I ht hx n p k
  sp n := by rw [STEP_main_v24_16]; exact v238_at I ht hx n
  bp n := by rw [STEP_main_v24_17]; exact step17_at I ht hx n
  th n k := by rw [STEP_main_v24_18]; exact v171_at I ht hx n k
  tc n k := by rw [STEP_main_v24_19]; exact v163_at I ht hx n k

omit I ht in
/-- Every trip. -/
theorem inv_iter {h0 c0 : ℕ → ℕ → EReal} (I : Inv w bi bh q x 0 (fun n => rowRun w (q n) (x n) (h0 n) (c0 n) 0) V0) :
    ∀ k ≤ 125, Inv w bi bh q x k (fun n => rowRun w (q n) (x n) (h0 n) (c0 n) k) (STEP^[k] V0)
  | 0, _ => I
  | k + 1, hk => by
    rw [Function.iterate_succ_apply']
    exact inv_step (inv_iter I k (by omega)) (by omega) hx

end Cert.ReferenceIdeal.Row

end
-- ==== Proof.RefEnd.lean ====
/- The reference's result: the carried buffers before the loop, after its 125 trips, and the row read at the end. -/
module

public import proofs.«01_k».proof.Proof.RefStep
public import proofs.«01_k».proof.Proof.Out
public import proofs.«01_k».proof.Proof.ReferenceFrame
public import Idealize.ShloMosaic.Lib.StableHlo.RunRead

@[expose] public section

set_option maxRecDepth 16384

noncomputable section

namespace Cert.ReferenceIdeal.Row

open Idealize.ShloMosaic Idealize.ShloMosaic.TcCoe Idealize.ShloMosaic.StableHlo
open Cert.ReferenceIdeal Cert.ReferenceIdeal.Gen Cert.ReferenceIdeal.Value Cert.Words Cert.Spec

variable (m : (ℓ : Loc nD τ sig) → Buf (Elt Ideal) ℓ) (c : Dev nD)

theorem e0_at (s : Fin 125) (n : Fin 512) : entryContents preI m c (Proc.devRef .tc main_v24_0) (ix2 s n) = trA (m ((c.tc : Thread nD τ).loc main_arg1)) (n.val, s.val) := by
  show after hostOps0 _ (Proc.devRef .tc main_v24_0) (ix2 s n) = _
  after_reads_simp
  rw [id_eq]
  clean_types
  pointwise
  exact trA_at _ n s
theorem e1_at (n : Fin 512) : entryContents preI m c (Proc.devRef .tc main_v24_1) (ix1 n) = BitVec.ofNat 32 n.val := by
  show after hostOps0 _ (Proc.devRef .tc main_v24_1) (ix1 n) = _
  after_reads_simp
  rw [id_eq]
  clean_types
  rfl
theorem e2_at (n : Fin 512) (b : Fin 64) (k : Fin 512) : entryContents preI m c (Proc.devRef .tc main_v24_2) (ix3 n b k) = at3 (m ((c.tc : Thread nD τ).loc main_arg0)) n.val b.val k.val := by
  show after hostOps0 _ (Proc.devRef .tc main_v24_2) (ix3 n b k) = _
  after_reads_simp
  rw [id_eq]
  clean_types
  pointwise
  exact (at3_eq _ n b ⟨k.val, by omega⟩).symm
theorem e3_at (n : Fin 512) (b : Fin 64) (k : Fin 512) : entryContents preI m c (Proc.devRef .tc main_v24_3) (ix3 n b k) = at3 (m ((c.tc : Thread nD τ).loc main_arg0)) n.val b.val (512 + k.val) := by
  show after hostOps0 _ (Proc.devRef .tc main_v24_3) (ix3 n b k) = _
  after_reads_simp
  rw [id_eq]
  clean_types
  pointwise
  exact (at3_eq _ n b ⟨512 + k.val, by omega⟩).symm
theorem e4_at (k : Fin 1536) (j : Fin 256) : entryContents preI m c (Proc.devRef .tc main_v24_4) (ix2 k j) = at2 (m ((c.tc : Thread nD τ).loc main_arg7)) k.val j.val := by
  show after hostOps0 _ (Proc.devRef .tc main_v24_4) (ix2 k j) = _
  after_reads_simp
  rw [id_eq]
  clean_types
  exact (at2_eq _ k j).symm
theorem e6_at (k : Fin 64) (j : Fin 256) : entryContents preI m c (Proc.devRef .tc main_v24_6) (ix2 k j) = at2 (m ((c.tc : Thread nD τ).loc main_arg8)) k.val j.val := by
  show after hostOps0 _ (Proc.devRef .tc main_v24_6) (ix2 k j) = _
  after_reads_simp
  rw [id_eq]
  clean_types
  exact (at2_eq _ k j).symm
theorem e8_at (k : Fin 512) (j : Fin 2560) : entryContents preI m c (Proc.devRef .tc main_v24_8) (ix2 k j) = at2 (m ((c.tc : Thread nD τ).loc main_arg3)) k.val j.val := by
  show after hostOps0 _ (Proc.devRef .tc main_v24_8) (ix2 k j) = _
  after_reads_simp
  rw [id_eq]
  clean_types
  exact (at2_eq _ k j).symm
theorem e10_at (k : Fin 512) (j : Fin 2560) : entryContents preI m c (Proc.devRef .tc main_v24_10) (ix2 k j) = at2 (m ((c.tc : Thread nD τ).loc main_arg5)) k.val j.val := by
  show after hostOps0 _ (Proc.devRef .tc main_v24_10) (ix2 k j) = _
  after_reads_simp
  rw [id_eq]
  clean_types
  exact (at2_eq _ k j).symm
theorem e11_at (k : Fin 512) (j : Fin 2560) : entryContents preI m c (Proc.devRef .tc main_v24_11) (ix2 k j) = at2 (m ((c.tc : Thread nD τ).loc main_arg6)) k.val j.val := by
  show after hostOps0 _ (Proc.devRef .tc main_v24_11) (ix2 k j) = _
  after_reads_simp
  rw [id_eq]
  clean_types
  exact (at2_eq _ k j).symm
theorem e12_at (k : Fin 64) (j : Fin 2560) : entryContents preI m c (Proc.devRef .tc main_v24_12) (ix2 k j) = at2 (m ((c.tc : Thread nD τ).loc main_arg2)) k.val j.val := by
  show after hostOps0 _ (Proc.devRef .tc main_v24_12) (ix2 k j) = _
  after_reads_simp
  rw [id_eq]
  clean_types
  exact (at2_eq _ k j).symm
theorem e18_at (k : Fin 512) (j : Fin 64) : entryContents preI m c (Proc.devRef .tc main_v24_18) (ix2 k j) = at2 (m ((c.tc : Thread nD τ).loc main_arg11)) k.val j.val := by
  show after hostOps0 _ (Proc.devRef .tc main_v24_18) (ix2 k j) = _
  after_reads_simp
  rw [id_eq]
  clean_types
  exact (at2_eq _ k j).symm
theorem e19_at (k : Fin 512) (j : Fin 64) : entryContents preI m c (Proc.devRef .tc main_v24_19) (ix2 k j) = at2 (m ((c.tc : Thread nD τ).loc main_arg12)) k.val j.val := by
  show after hostOps0 _ (Proc.devRef .tc main_v24_19) (ix2 k j) = _
  after_reads_simp
  rw [id_eq]
  clean_types
  exact (at2_eq _ k j).symm
theorem e5_at (j : Fin 256) : entryContents preI m c (Proc.devRef .tc main_v24_5) (ix1 j) = at1 (m ((c.tc : Thread nD τ).loc main_arg9)) j.val := by
  show after hostOps0 _ (Proc.devRef .tc main_v24_5) (ix1 j) = _
  after_reads_simp
  rw [id_eq]
  clean_types
  exact (at1_eq _ j).symm
theorem e7_at (j : Fin 256) : entryContents preI m c (Proc.devRef .tc main_v24_7) (ix1 j) = at1 (m ((c.tc : Thread nD τ).loc main_arg10)) j.val := by
  show after hostOps0 _ (Proc.devRef .tc main_v24_7) (ix1 j) = _
  after_reads_simp
  rw [id_eq]
  clean_types
  exact (at1_eq _ j).symm
theorem e9_at (j : Fin 2560) : entryContents preI m c (Proc.devRef .tc main_v24_9) (ix1 j) = at1 (m ((c.tc : Thread nD τ).loc main_arg4)) j.val := by
  show after hostOps0 _ (Proc.devRef .tc main_v24_9) (ix1 j) = _
  after_reads_simp
  rw [id_eq]
  clean_types
  exact (at1_eq _ j).symm
theorem e14_at (n : Fin 512) (p : Fin 66) (k : Fin 512) : entryContents preI m c (Proc.devRef .tc main_v24_14) (ix3 n p k) = if p.val < 2 then at3 (m ((c.tc : Thread nD τ).loc main_arg0)) n.val 0 k.val else 0 := by
  show after hostOps0 _ (Proc.devRef .tc main_v24_14) (ix3 n p k) = _
  after_reads_simp
  rw [id_eq]
  clean_types
  refine (scatter1 (α := EReal) _ _ _ n k p 1 (by omega) rfl).trans ?_
  rw [scatter1 (α := EReal) _ _ _ n k p 0 (by omega) rfl]
  pointwise
  have e := (at3_eq (m ((c.tc : Thread nD τ).loc main_arg0)) n 0 ⟨k.val, by omega⟩).symm
  by_cases h1 : p.val = 1
  · rw [if_pos h1, if_pos (by omega)]; exact e
  · rw [if_neg h1]
    by_cases h0 : p.val = 0
    · rw [if_pos h0, if_pos (by omega)]; exact e
    · rw [if_neg h0, if_neg (by omega)]
theorem e15_at (n : Fin 512) (p : Fin 66) (k : Fin 512) : entryContents preI m c (Proc.devRef .tc main_v24_15) (ix3 n p k) = if p.val < 2 then at3 (m ((c.tc : Thread nD τ).loc main_arg0)) n.val 0 (512 + k.val) else 0 := by
  show after hostOps0 _ (Proc.devRef .tc main_v24_15) (ix3 n p k) = _
  after_reads_simp
  rw [id_eq]
  clean_types
  refine (scatter1 (α := EReal) _ _ _ n k p 1 (by omega) rfl).trans ?_
  rw [scatter1 (α := EReal) _ _ _ n k p 0 (by omega) rfl]
  pointwise
  have e := (at3_eq (m ((c.tc : Thread nD τ).loc main_arg0)) n 0 ⟨(512 + k.val), by omega⟩).symm
  by_cases h1 : p.val = 1
  · rw [if_pos h1, if_pos (by omega)]; exact e
  · rw [if_neg h1]
    by_cases h0 : p.val = 0
    · rw [if_pos h0, if_pos (by omega)]; exact e
    · rw [if_neg h0, if_neg (by omega)]
theorem e16_at (n : Fin 512) : entryContents preI m c (Proc.devRef .tc main_v24_16) (ix1 n) = 2#32 := by
  show after hostOps0 _ (Proc.devRef .tc main_v24_16) (ix1 n) = _
  after_reads_simp
  rw [id_eq]
  clean_types
  rfl
theorem e17_at (n : Fin 512) : entryContents preI m c (Proc.devRef .tc main_v24_17) (ix1 n) = 0#32 := by
  show after hostOps0 _ (Proc.devRef .tc main_v24_17) (ix1 n) = _
  after_reads_simp
  rw [id_eq]
  clean_types
  rfl

/-- The carried buffers before the first trip. -/
theorem entry_inv : Inv (wtOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (at1 (m ((c.tc : Thread nD τ).loc main_arg9))) (at1 (m ((c.tc : Thread nD τ).loc main_arg10))) (at3 (m ((c.tc : Thread nD τ).loc main_arg0))) (fun n t => trA (m ((c.tc : Thread nD τ).loc main_arg1)) (n, t)) 0
    (fun n => rowRun (wtOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ((at3 (m ((c.tc : Thread nD τ).loc main_arg0))) n) ((fun n t => trA (m ((c.tc : Thread nD τ).loc main_arg1)) (n, t)) n) (at2 (m ((c.tc : Thread nD τ).loc main_arg11)) n) (at2 (m ((c.tc : Thread nD τ).loc main_arg12)) n) 0) (entryContents preI m c) where
  tr := e0_at m c
  io := e1_at m c
  qh := e2_at m c
  qc := e3_at m c
  wih := e4_at m c
  b _ := rfl
  b1 := e5_at m c
  b2 := e7_at m c
  whh := e6_at m c
  uw := e8_at m c
  ub := e9_at m c
  ul := e10_at m c
  ur := e11_at m c
  uc := e12_at m c
  ctr i := by
    show after hostOps0 _ (Proc.devRef .tc main_v24_13) i = _
    after_reads_simp
    rfl
  sh := e14_at m c
  sc := e15_at m c
  sp := e16_at m c
  bp n := (e17_at m c n).trans rfl
  th := e18_at m c
  tc := e19_at m c

/-- The row numbers are still there after the loop. -/
theorem v2_entry (n : Fin 512) : entryContents preI m c (Proc.devRef .tc main_v2) (ix1 n) = BitVec.ofNat 32 n.val := by
  show after hostOps0 _ (Proc.devRef .tc main_v2) (ix1 n) = _
  after_reads_simp
  rfl
theorem v2_at (n : Fin 512) : after condOps (atK m 125 c) (Proc.devRef .tc main_v2) (ix1 n) = BitVec.ofNat 32 n.val := by
  rw [after_of_writes_sub condOps _ condOps_writes (by decide +kernel), atK_keeps m (by decide +kernel) c 125]
  exact v2_entry m c n

/-- The row read at the end, from any contents after the loop. -/
theorem read_end (X : Valuation τ sig (Elt Ideal)) (n k : Fin 512) (p : ℕ) (hp : p < 66) (h2 : X (Proc.devRef .tc main_v2) (ix1 n) = BitVec.ofNat 32 n.val)
    (h16 : IntOp.subi (X (Proc.devRef .tc main_v24_16) (ix1 n)) 1#32 = BitVec.ofNat 32 p) :
    after hostOps0_1 X (Proc.devRef .tc main_v40) (ix2 n k) = X (Proc.devRef .tc main_v24_14) (ix3 n ⟨p, hp⟩ k) := by
  after_reads_simp
  clean_types
  have h1 := widx1 (X (Proc.devRef .tc main_v2)) (subi (X (Proc.devRef .tc main_v24_16)) (broadcastInDim S512 ![] bcast_S_S512 (constantI S_ 32 1#32))) 66#32 n p hp (by
    pointwise
    exact h16)
  have h0 := widx0 (X (Proc.devRef .tc main_v2)) (subi (X (Proc.devRef .tc main_v24_16)) (broadcastInDim S512 ![] bcast_S_S512 (constantI S_ 32 1#32))) 66#32 n h2
  exact gather66 (α := EReal) (X (Proc.devRef .tc main_v24_14)) _ n k ⟨p, hp⟩ h0 h1

/-- The reference's result. -/
theorem result_at (hx : ∀ n < 512, RowOk fun t => trA (m ((c.tc : Thread nD τ).loc main_arg1)) (n, t)) (n k : Fin 512) :
    finalContents condOps preI bodyI postI 125 m c (Proc.devRef .tc main_v40) (ix2 n k)
      = outOf' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) n.val k.val := by
  have I := inv_iter hx (entry_inv m c) 125 (Nat.le_refl 125)
  have hA := atK_agree m c 125
  have r := hx n.val n.isLt
  have hb := r.bef_hi (t := 124) (by omega)
  have hp := r.place_toNat (t := 124) (by omega)
  have h14 : after condOps (atK m 125 c) (Proc.devRef .tc main_v24_14) = STEP^[125] (entryContents preI m c) (Proc.devRef .tc main_v24_14) :=
    (cond_keeps (atK m 125 c) main_v24_14 (by decide)).trans (hA main_v24_14 (by decide))
  have h16 : after condOps (atK m 125 c) (Proc.devRef .tc main_v24_16) = STEP^[125] (entryContents preI m c) (Proc.devRef .tc main_v24_16) :=
    (cond_keeps (atK m 125 c) main_v24_16 (by decide)).trans (hA main_v24_16 (by decide))
  show after hostOps0_1 (after condOps (atK m 125 c)) (Proc.devRef .tc main_v40) (ix2 n k) = _
  have hlt : (if trA (m ((c.tc : Thread nD τ).loc main_arg1)) (n.val, 124) = 1#32 then (befW (fun t => trA (m ((c.tc : Thread nD τ).loc main_arg1)) (n.val, t)) 124).toNat
      else (befW (fun t => trA (m ((c.tc : Thread nD τ).loc main_arg1)) (n.val, t)) 124).toNat - 2) < 66 := by split <;> omega
  rw [read_end _ n k _ hlt (v2_at m c n) (by rw [h16, I.sp]; exact eq_ofNat hp), h14, I.sh]
  rfl

end Cert.ReferenceIdeal.Row

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealOut
public import proofs.«01_k».proof.Proof.ReferenceFrame
public import proofs.«01_k».proof.Proof.RefEnd
public import proofs.«01_k».proof.Proof.Pre
public import Idealize.ShloMosaic.Adequacy
public import Idealize.ShloMosaic.Init

@[expose] public section

noncomputable section

namespace Cert.Proof

open Idealize.ShloMosaic Idealize.SL.Sem Cert.Kernel

instance facts_pre : Cert.Pre_valid.Facts where
  bcast_S_S512x125 := by decide
  natLt_1_32 := by decide
  bcast_S_S_ := by decide
  reduceWindows_S512x125_S512x125_w1s1p0_0_w125s1p124_0 := by decide
  h_S_ := by decide
  slices_S512x125_S512x124_0_0 := by decide
  bcast_S_S512x124 := by decide

theorem frame_Kernel : Cert.quiescent_Kernel := fun m ρ hp =>
  Cert.Kernel.Row.frame0 m ρ fun c i hi => Cert.Words.rows_of_pre _ _ _ _ _ _ _ _ _ _ _ _ _ (hp c).1 (hp c).2 i hi

theorem frame_KernelIdeal : Cert.quiescent_KernelIdeal := fun m ρ hp =>
  Cert.KernelIdeal.Row.frame0 m ρ fun c i hi => Cert.Words.rows_of_pre _ _ _ _ _ _ _ _ _ _ _ _ _ (hp c).1 (hp c).2 i hi

theorem frame_ReferenceIdeal : Cert.quiescent_ReferenceIdeal := fun m ρ _ =>
  (θ_run _ _ _).mono (fun _ h => h.1) (Cert.ReferenceIdeal.Row.run_all m ρ)

theorem frame_ReferenceIdeal_valid : Cert.quiescent_ReferenceIdeal_pre_valid := fun m ρ _ =>
  (θ_run _ _ _).mono (fun _ h => h.1) (Cert.ReferenceIdeal.Row.run_all m ρ)

/-- The two results are one function of the arguments. -/
theorem algebraic_KernelIdeal : Cert.algebraic_KernelIdeal_ReferenceIdeal := fun m ρ m' ρ' hp hargs => by
  have hx : Cert.KernelIdeal.Row.RowsOk m := fun c i hi => Cert.Words.rows_of_pre _ _ _ _ _ _ _ _ _ _ _ _ _ (hp c).1 (hp c).2 i hi
  refine ⟨fun c => Cert.KernelIdeal.Row.outM m c, ?_, ?_⟩
  · exact (θ_run _ _ _).mono (fun r h c => ⟨(h.2 c).trans (Cert.KernelIdeal.Row.final_o m c hx), h.1.1 c⟩) (Cert.KernelIdeal.Row.run_all m ρ hx)
  · refine (θ_run _ _ _).mono (fun r h c => ⟨(h.2 c).trans (funext fun ι => ?_), h.1.1 c⟩) (Cert.ReferenceIdeal.Row.run_all m' ρ')
    obtain ⟨e0, e1, e2, e3, e4, e5, e6, e7, e8, e9, e10, e11, e12⟩ := hargs c
    have hx' : ∀ n < 512, Cert.Words.RowOk fun t => Cert.Words.trA (m' ((c.tc : Thread Cert.ReferenceIdeal.nD Cert.ReferenceIdeal.τ).loc Cert.ReferenceIdeal.main_arg1)) (n, t) := by
      rw [e1]; exact fun n hn => hx c n hn
    have hr := Cert.ReferenceIdeal.Row.result_at m' c hx' (ι 0) (ι 1)
    rw [e0, e1, e2, e3, e4, e5, e6, e7, e8, e9, e10, e11, e12] at hr
    exact (congrArg _ (ValueIdx.eq_ix2 ι)).trans hr

theorem claim : Cert.Claim := ⟨Cert.Kernel.Gen.facts, Cert.KernelIdeal.Gen.facts, Cert.ReferenceIdeal.Gen.facts, facts_pre,
  frame_Kernel, frame_KernelIdeal, frame_ReferenceIdeal, frame_ReferenceIdeal_valid, trivial, algebraic_KernelIdeal⟩

end Cert.Proof

end
